-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S64x1x2816 : Shape := ⟨3, ![64, 1, 2816]⟩
abbrev S64x1x8 : Shape := ⟨3, ![64, 1, 8]⟩
abbrev S32x1408x1536 : Shape := ⟨3, ![32, 1408, 1536]⟩
abbrev S32x22x1536 : Shape := ⟨3, ![32, 22, 1536]⟩
abbrev S32x384x2816 : Shape := ⟨3, ![32, 384, 2816]⟩
abbrev S32x6x2816 : Shape := ⟨3, ![32, 6, 2816]⟩
abbrev S_ : Shape := ⟨0, ![]⟩

class Facts : Prop where
  bcast_S_S64x1x8 : S_.BroadcastsInDim S64x1x8 (![] : Fin 0 → Fin S64x1x8.rank)

variable [Facts]

def fn {F : FTy → Type} [FloatOps F] (main_arg0 : FVec F S64x1x2816 .bf16) (main_arg1 : IVec S64x1x8 32) (main_arg2 : FVec F S64x1x8 .f32) (main_arg3 : IVec S32x1408x1536 8) (main_arg4 : FVec F S32x22x1536 .bf16) (main_arg5 : IVec S32x384x2816 8) (main_arg6 : FVec F S32x6x2816 .bf16) : IVec S64x1x8 1 :=
  let main_c : IVec S_ 32 := constantI S_ 32 0#32
  let main_v0 : IVec S64x1x8 32 := broadcastInDim S64x1x8 ![] bcast_S_S64x1x8 main_c
  let main_v1 : IVec S64x1x8 1 := cmpi .sge main_arg1 main_v0
  let main_c_0 : IVec S_ 32 := constantI S_ 32 32#32
  let main_v2 : IVec S64x1x8 32 := broadcastInDim S64x1x8 ![] bcast_S_S64x1x8 main_c_0
  let main_v3 : IVec S64x1x8 1 := cmpi .slt main_arg1 main_v2
  let main_v4 : IVec S64x1x8 1 := andi main_v1 main_v3
  main_v4
-- ==== Kernel.lean ====
abbrev S64x1x2816 : Shape := ⟨3, ![64, 1, 2816]⟩
abbrev S64x1x8 : Shape := ⟨3, ![64, 1, 8]⟩
abbrev S32x1408x1536 : Shape := ⟨3, ![32, 1408, 1536]⟩
abbrev S32x22x1536 : Shape := ⟨3, ![32, 22, 1536]⟩
abbrev S32x384x2816 : Shape := ⟨3, ![32, 384, 2816]⟩
abbrev S32x6x2816 : Shape := ⟨3, ![32, 6, 2816]⟩
abbrev S64x8 : Shape := ⟨2, ![64, 8]⟩
abbrev S64x2816 : Shape := ⟨2, ![64, 2816]⟩
abbrev S3x1408x1536 : Shape := ⟨3, ![3, 1408, 1536]⟩
abbrev S3x22x1536 : Shape := ⟨3, ![3, 22, 1536]⟩
abbrev S3x384x2816 : Shape := ⟨3, ![3, 384, 2816]⟩
abbrev S3x6x2816 : Shape := ⟨3, ![3, 6, 2816]⟩
abbrev S65 : Shape := ⟨1, ![65]⟩
abbrev S4x3 : Shape := ⟨2, ![4, 3]⟩
abbrev S1 : Shape := ⟨1, ![1]⟩
abbrev S1x1 : Shape := ⟨2, ![1, 1]⟩
abbrev S_ : Shape := ⟨0, ![]⟩
abbrev S1x1408x1536 : Shape := ⟨3, ![1, 1408, 1536]⟩
abbrev S1408x1536 : Shape := ⟨2, ![1408, 1536]⟩
abbrev S1x22x1536 : Shape := ⟨3, ![1, 22, 1536]⟩
abbrev S22x1536 : Shape := ⟨2, ![22, 1536]⟩
abbrev S1x384x2816 : Shape := ⟨3, ![1, 384, 2816]⟩
abbrev S384x2816 : Shape := ⟨2, ![384, 2816]⟩
abbrev S1x6x2816 : Shape := ⟨3, ![1, 6, 2816]⟩
abbrev S6x2816 : Shape := ⟨2, ![6, 2816]⟩
abbrev S64 : Shape := ⟨1, ![64]⟩
abbrev S64x1 : Shape := ⟨2, ![64, 1]⟩
abbrev S64x256 : Shape := ⟨2, ![64, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩

abbrev nBuf : Space → Nat
  | .hbm => 12
  | .vmem => 9
  | .smem => 2
  | _ => 0

abbrev bufTy : (tb : Table) → Fin (tcTables nBuf tb) → BufTy
  | .hbm, ⟨0, _⟩ => ⟨S64x1x2816, .bf16⟩
  | .hbm, ⟨1, _⟩ => ⟨S64x1x8, .i32⟩
  | .hbm, ⟨2, _⟩ => ⟨S64x1x8, .f32⟩
  | .hbm, ⟨3, _⟩ => ⟨S32x1408x1536, .i8⟩
  | .hbm, ⟨4, _⟩ => ⟨S32x22x1536, .bf16⟩
  | .hbm, ⟨5, _⟩ => ⟨S32x384x2816, .i8⟩
  | .hbm, ⟨6, _⟩ => ⟨S32x6x2816, .bf16⟩
  | .hbm, ⟨7, _⟩ => ⟨S64x8, .i32⟩
  | .hbm, ⟨8, _⟩ => ⟨S64x8, .f32⟩
  | .hbm, ⟨9, _⟩ => ⟨S64x2816, .bf16⟩
  | .hbm, ⟨10, _⟩ => ⟨S64x2816, .bf16⟩
  | .hbm, ⟨11, _⟩ => ⟨S64x1x2816, .bf16⟩
  | .local _ .vmem, ⟨0, _⟩ => ⟨S64x8, .i32⟩
  | .local _ .vmem, ⟨1, _⟩ => ⟨S64x8, .f32⟩
  | .local _ .vmem, ⟨2, _⟩ => ⟨S64x2816, .bf16⟩
  | .local _ .vmem, ⟨3, _⟩ => ⟨S64x2816, .bf16⟩
  | .local _ .vmem, ⟨4, _⟩ => ⟨S3x1408x1536, .i8⟩
  | .local _ .vmem, ⟨5, _⟩ => ⟨S3x22x1536, .bf16⟩
  | .local _ .vmem, ⟨6, _⟩ => ⟨S3x384x2816, .i8⟩
  | .local _ .vmem, ⟨7, _⟩ => ⟨S3x6x2816, .bf16⟩
  | .local _ .vmem, ⟨8, _⟩ => ⟨S64x2816, .f32⟩
  | .local _ .smem, ⟨0, _⟩ => ⟨S64x8, .i32⟩
  | .local _ .smem, ⟨1, _⟩ => ⟨S65, .i32⟩
  | _, _ => ⟨S64x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_stg0_0 : Ref sig .tc := ⟨.smem, 0, rfl⟩
abbrev cc0_scratch5 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_63 : BitVec 32 := 0#32
  let c64_i32 : BitVec 32 := 64#32
  let v64 : BitVec 32 := Scalar.addi c0_i32_63 c64_i32
  let c1_i32 : BitVec 32 := 1#32
  ⟨c0_i32_63, v64, c1_i32⟩
def k0_off1 (k0_t1 : Fin k0_t1_loop.trips) : Fin 2 → Nat :=
  let c0_i32_63 : BitVec 32 := 0#32
  let c1_i32 : BitVec 32 := 1#32
  let arg16 : BitVec 32 := Scf.iv c0_i32_63 c1_i32 k0_t1
  let v213 : Index := Scalar.indexCast arg16
  let c0_118 : Index := 0#32
  ![v213.toNat, 0]
def k0_off2 (v214 : BitVec 32) : Fin 1 → Nat :=
  let c32_i32 : BitVec 32 := 32#32
  let v215 : BitVec 32 := Scalar.addi c32_i32 v214
  let v216 : Index := Scalar.indexCast v215
  ![v216.toNat]

def k0_chk1 (v214 : BitVec 32) : Prop :=
  (∀ a, (k0_off2 v214) a + S1.size a ≤ S65.size a)
theorem k0_off2_inb : ∀ (v214 : BitVec 32) (k0_hw1 : k0_chk1 v214), ∀ a, (k0_off2 v214) a + S1.size a ≤ S65.size a := fun v214 k0_hw1 => k0_hw1

def k0_off3 (k0_t1 : Fin k0_t1_loop.trips) : Fin 2 → Nat :=
  let c0_i32_63 : BitVec 32 := 0#32
  let c1_i32 : BitVec 32 := 1#32
  let arg16 : BitVec 32 := Scf.iv c0_i32_63 c1_i32 k0_t1
  let v218 : Index := Scalar.indexCast arg16
  let c1_120 : Index := 1#32
  ![v218.toNat, 1]
def k0_off4 (v219 : BitVec 32) : Fin 1 → Nat :=
  let c32_i32_121 : BitVec 32 := 32#32
  let v220 : BitVec 32 := Scalar.addi c32_i32_121 v219
  let v221 : Index := Scalar.indexCast v220
  ![v221.toNat]

def k0_chk2 (v219 : BitVec 32) : Prop :=
  (∀ a, (k0_off4 v219) a + S1.size a ≤ S65.size a)
theorem k0_off4_inb : ∀ (v219 : BitVec 32) (k0_hw2 : k0_chk2 v219), ∀ a, (k0_off4 v219) a + S1.size a ≤ S65.size a := fun v219 k0_hw2 => k0_hw2

def k0_off5 (k0_t1 : Fin k0_t1_loop.trips) : Fin 2 → Nat :=
  let c0_i32_63 : BitVec 32 := 0#32
  let c1_i32 : BitVec 32 := 1#32
  let arg16 : BitVec 32 := Scf.iv c0_i32_63 c1_i32 k0_t1
  let v223 : Index := Scalar.indexCast arg16
  let c2_123 : Index := 2#32
  ![v223.toNat, 2]
def k0_off6 (v224 : BitVec 32) : Fin 1 → Nat :=
  let c32_i32_124 : BitVec 32 := 32#32
  let v225 : BitVec 32 := Scalar.addi c32_i32_124 v224
  let v226 : Index := Scalar.indexCast v225
  ![v226.toNat]

def k0_chk3 (v224 : BitVec 32) : Prop :=
  (∀ a, (k0_off6 v224) a + S1.size a ≤ S65.size a)
theorem k0_off6_inb : ∀ (v224 : BitVec 32) (k0_hw3 : k0_chk3 v224), ∀ a, (k0_off6 v224) a + S1.size a ≤ S65.size a := fun v224 k0_hw3 => k0_hw3

def k0_off7 (k0_t1 : Fin k0_t1_loop.trips) : Fin 2 → Nat :=
  let c0_i32_63 : BitVec 32 := 0#32
  let c1_i32 : BitVec 32 := 1#32
  let arg16 : BitVec 32 := Scf.iv c0_i32_63 c1_i32 k0_t1
  let v228 : Index := Scalar.indexCast arg16
  let c3_126 : Index := 3#32
  ![v228.toNat, 3]
def k0_off8 (v229 : BitVec 32) : Fin 1 → Nat :=
  let c32_i32_127 : BitVec 32 := 32#32
  let v230 : BitVec 32 := Scalar.addi c32_i32_127 v229
  let v231 : Index := Scalar.indexCast v230
  ![v231.toNat]

def k0_chk4 (v229 : BitVec 32) : Prop :=
  (∀ a, (k0_off8 v229) a + S1.size a ≤ S65.size a)
theorem k0_off8_inb : ∀ (v229 : BitVec 32) (k0_hw4 : k0_chk4 v229), ∀ a, (k0_off8 v229) a + S1.size a ≤ S65.size a := fun v229 k0_hw4 => k0_hw4

def k0_off9 (k0_t1 : Fin k0_t1_loop.trips) : Fin 2 → Nat :=
  let c0_i32_63 : BitVec 32 := 0#32
  let c1_i32 : BitVec 32 := 1#32
  let arg16 : BitVec 32 := Scf.iv c0_i32_63 c1_i32 k0_t1
  let v233 : Index := Scalar.indexCast arg16
  let c4_129 : Index := 4#32
  ![v233.toNat, 4]
def k0_off10 (v234 : BitVec 32) : Fin 1 → Nat :=
  let c32_i32_130 : BitVec 32 := 32#32
  let v235 : BitVec 32 := Scalar.addi c32_i32_130 v234
  let v236 : Index := Scalar.indexCast v235
  ![v236.toNat]

def k0_chk5 (v234 : BitVec 32) : Prop :=
  (∀ a, (k0_off10 v234) a + S1.size a ≤ S65.size a)
theorem k0_off10_inb : ∀ (v234 : BitVec 32) (k0_hw5 : k0_chk5 v234), ∀ a, (k0_off10 v234) a + S1.size a ≤ S65.size a := fun v234 k0_hw5 => k0_hw5

def k0_off11 (k0_t1 : Fin k0_t1_loop.trips) : Fin 2 → Nat :=
  let c0_i32_63 : BitVec 32 := 0#32
  let c1_i32 : BitVec 32 := 1#32
  let arg16 : BitVec 32 := Scf.iv c0_i32_63 c1_i32 k0_t1
  let v238 : Index := Scalar.indexCast arg16
  let c5_132 : Index := 5#32
  ![v238.toNat, 5]
def k0_off12 (v239 : BitVec 32) : Fin 1 → Nat :=
  let c32_i32_133 : BitVec 32 := 32#32
  let v240 : BitVec 32 := Scalar.addi c32_i32_133 v239
  let v241 : Index := Scalar.indexCast v240
  ![v241.toNat]

def k0_chk6 (v239 : BitVec 32) : Prop :=
  (∀ a, (k0_off12 v239) a + S1.size a ≤ S65.size a)
theorem k0_off12_inb : ∀ (v239 : BitVec 32) (k0_hw6 : k0_chk6 v239), ∀ a, (k0_off12 v239) a + S1.size a ≤ S65.size a := fun v239 k0_hw6 => k0_hw6

def k0_off13 (k0_t1 : Fin k0_t1_loop.trips) : Fin 2 → Nat :=
  let c0_i32_63 : BitVec 32 := 0#32
  let c1_i32 : BitVec 32 := 1#32
  let arg16 : BitVec 32 := Scf.iv c0_i32_63 c1_i32 k0_t1
  let v243 : Index := Scalar.indexCast arg16
  let c6_135 : Index := 6#32
  ![v243.toNat, 6]
def k0_off14 (v244 : BitVec 32) : Fin 1 → Nat :=
  let c32_i32_136 : BitVec 32 := 32#32
  let v245 : BitVec 32 := Scalar.addi c32_i32_136 v244
  let v246 : Index := Scalar.indexCast v245
  ![v246.toNat]

def k0_chk7 (v244 : BitVec 32) : Prop :=
  (∀ a, (k0_off14 v244) a + S1.size a ≤ S65.size a)
theorem k0_off14_inb : ∀ (v244 : BitVec 32) (k0_hw7 : k0_chk7 v244), ∀ a, (k0_off14 v244) a + S1.size a ≤ S65.size a := fun v244 k0_hw7 => k0_hw7

def k0_off15 (k0_t1 : Fin k0_t1_loop.trips) : Fin 2 → Nat :=
  let c0_i32_63 : BitVec 32 := 0#32
  let c1_i32 : BitVec 32 := 1#32
  let arg16 : BitVec 32 := Scf.iv c0_i32_63 c1_i32 k0_t1
  let v248 : Index := Scalar.indexCast arg16
  let c7_138 : Index := 7#32
  ![v248.toNat, 7]
def k0_off16 (v249 : BitVec 32) : Fin 1 → Nat :=
  let c32_i32_139 : BitVec 32 := 32#32
  let v250 : BitVec 32 := Scalar.addi c32_i32_139 v249
  let v251 : Index := Scalar.indexCast v250
  ![v251.toNat]

def k0_chk8 (v249 : BitVec 32) : Prop :=
  (∀ a, (k0_off16 v249) a + S1.size a ≤ S65.size a)
theorem k0_off16_inb : ∀ (v249 : BitVec 32) (k0_hw8 : k0_chk8 v249), ∀ a, (k0_off16 v249) a + S1.size a ≤ S65.size a := fun v249 k0_hw8 => k0_hw8

def k0_off17 (v66 : BitVec 32) : Fin 1 → Nat :=
  let c0_i32_68 : BitVec 32 := 0#32
  let v67 : BitVec 32 := Scalar.addi c0_i32_68 v66
  let v68 : Index := Scalar.indexCast v67
  ![v68.toNat]

def k0_chk9 (v66 : BitVec 32) : Prop :=
  (∀ a, (k0_off17 v66) a + S1.size a ≤ S65.size a)
theorem k0_off17_inb : ∀ (v66 : BitVec 32) (k0_hw9 : k0_chk9 v66), ∀ a, (k0_off17 v66) a + S1.size a ≤ S65.size a := fun v66 k0_hw9 => k0_hw9

def k0_off18 (v66 : BitVec 32) (v70 : BitVec 32) : Fin 1 → Nat :=
  let c0_i32_68 : BitVec 32 := 0#32
  let v67 : BitVec 32 := Scalar.addi c0_i32_68 v66
  let v71 : BitVec 32 := Scalar.addi v67 v70
  let v72 : Index := Scalar.indexCast v71
  ![v72.toNat]

def k0_chk10 (v66 : BitVec 32) (v70 : BitVec 32) : Prop :=
  (∀ a, (k0_off18 v66 v70) a + S1.size a ≤ S65.size a)
theorem k0_off18_inb : ∀ (v66 : BitVec 32) (v70 : BitVec 32) (k0_hw10 : k0_chk10 v66 v70), ∀ a, (k0_off18 v66 v70) a + S1.size a ≤ S65.size a := fun v66 v70 k0_hw10 => k0_hw10

def k0_off19 (v66 : BitVec 32) (v70 : BitVec 32) (v74 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v76 : Index := Scalar.indexCast v75
  ![v76.toNat]

def k0_chk11 (v66 : BitVec 32) (v70 : BitVec 32) (v74 : BitVec 32) : Prop :=
  (∀ a, (k0_off19 v66 v70 v74) a + S1.size a ≤ S65.size a)
theorem k0_off19_inb : ∀ (v66 : BitVec 32) (v70 : BitVec 32) (v74 : BitVec 32) (k0_hw11 : k0_chk11 v66 v70 v74), ∀ a, (k0_off19 v66 v70 v74) a + S1.size a ≤ S65.size a := fun v66 v70 v74 k0_hw11 => k0_hw11

def k0_off20 (v66 : BitVec 32) (v70 : BitVec 32) (v74 : BitVec 32) (v78 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v80 : Index := Scalar.indexCast v79
  ![v80.toNat]

def k0_chk12 (v66 : BitVec 32) (v70 : BitVec 32) (v74 : BitVec 32) (v78 : BitVec 32) : Prop :=
  (∀ a, (k0_off20 v66 v70 v74 v78) a + S1.size a ≤ S65.size a)
theorem k0_off20_inb : ∀ (v66 : BitVec 32) (v70 : BitVec 32) (v74 : BitVec 32) (v78 : BitVec 32) (k0_hw12 : k0_chk12 v66 v70 v74 v78), ∀ a, (k0_off20 v66 v70 v74 v78) a + S1.size a ≤ S65.size a := fun v66 v70 v74 v78 k0_hw12 => k0_hw12

def k0_off21 (v66 : BitVec 32) (v70 : BitVec 32) (v74 : BitVec 32) (v78 : BitVec 32) (v82 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v84 : Index := Scalar.indexCast v83
  ![v84.toNat]

def k0_chk13 (v66 : BitVec 32) (v70 : BitVec 32) (v74 : BitVec 32) (v78 : BitVec 32) (v82 : BitVec 32) : Prop :=
  (∀ a, (k0_off21 v66 v70 v74 v78 v82) a + S1.size a ≤ S65.size a)
theorem k0_off21_inb : ∀ (v66 : BitVec 32) (v70 : BitVec 32) (v74 : BitVec 32) (v78 : BitVec 32) (v82 : BitVec 32) (k0_hw13 : k0_chk13 v66 v70 v74 v78 v82), ∀ a, (k0_off21 v66 v70 v74 v78 v82) a + S1.size a ≤ S65.size a := fun v66 v70 v74 v78 v82 k0_hw13 => k0_hw13

def k0_off22 (v66 : BitVec 32) (v70 : BitVec 32) (v74 : BitVec 32) (v78 : BitVec 32) (v82 : BitVec 32) (v86 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v88 : Index := Scalar.indexCast v87
  ![v88.toNat]

def k0_chk14 (v66 : BitVec 32) (v70 : BitVec 32) (v74 : BitVec 32) (v78 : BitVec 32) (v82 : BitVec 32) (v86 : BitVec 32) : Prop :=
  (∀ a, (k0_off22 v66 v70 v74 v78 v82 v86) a + S1.size a ≤ S65.size a)
theorem k0_off22_inb : ∀ (v66 : BitVec 32) (v70 : BitVec 32) (v74 : BitVec 32) (v78 : BitVec 32) (v82 : BitVec 32) (v86 : BitVec 32) (k0_hw14 : k0_chk14 v66 v70 v74 v78 v82 v86), ∀ a, (k0_off22 v66 v70 v74 v78 v82 v86) a + S1.size a ≤ S65.size a := fun v66 v70 v74 v78 v82 v86 k0_hw14 => k0_hw14

def k0_off23 (v66 : BitVec 32) (v70 : BitVec 32) (v74 : BitVec 32) (v78 : BitVec 32) (v82 : BitVec 32) (v86 : BitVec 32) (v90 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v92 : Index := Scalar.indexCast v91
  ![v92.toNat]

def k0_chk15 (v66 : BitVec 32) (v70 : BitVec 32) (v74 : BitVec 32) (v78 : BitVec 32) (v82 : BitVec 32) (v86 : BitVec 32) (v90 : BitVec 32) : Prop :=
  (∀ a, (k0_off23 v66 v70 v74 v78 v82 v86 v90) a + S1.size a ≤ S65.size a)
theorem k0_off23_inb : ∀ (v66 : BitVec 32) (v70 : BitVec 32) (v74 : BitVec 32) (v78 : BitVec 32) (v82 : BitVec 32) (v86 : BitVec 32) (v90 : BitVec 32) (k0_hw15 : k0_chk15 v66 v70 v74 v78 v82 v86 v90), ∀ a, (k0_off23 v66 v70 v74 v78 v82 v86 v90) a + S1.size a ≤ S65.size a := fun v66 v70 v74 v78 v82 v86 v90 k0_hw15 => k0_hw15

def k0_off24 (v66 : BitVec 32) (v70 : BitVec 32) (v74 : BitVec 32) (v78 : BitVec 32) (v82 : BitVec 32) (v86 : BitVec 32) (v90 : BitVec 32) (v94 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v96 : Index := Scalar.indexCast v95
  ![v96.toNat]

def k0_chk16 (v66 : BitVec 32) (v70 : BitVec 32) (v74 : BitVec 32) (v78 : BitVec 32) (v82 : BitVec 32) (v86 : BitVec 32) (v90 : BitVec 32) (v94 : BitVec 32) : Prop :=
  (∀ a, (k0_off24 v66 v70 v74 v78 v82 v86 v90 v94) a + S1.size a ≤ S65.size a)
theorem k0_off24_inb : ∀ (v66 : BitVec 32) (v70 : BitVec 32) (v74 : BitVec 32) (v78 : BitVec 32) (v82 : BitVec 32) (v86 : BitVec 32) (v90 : BitVec 32) (v94 : BitVec 32) (k0_hw16 : k0_chk16 v66 v70 v74 v78 v82 v86 v90 v94), ∀ a, (k0_off24 v66 v70 v74 v78 v82 v86 v90 v94) a + S1.size a ≤ S65.size a := fun v66 v70 v74 v78 v82 v86 v90 v94 k0_hw16 => k0_hw16

def k0_off25 (v66 : BitVec 32) (v70 : BitVec 32) (v74 : BitVec 32) (v78 : BitVec 32) (v82 : BitVec 32) (v86 : BitVec 32) (v90 : BitVec 32) (v94 : BitVec 32) (v98 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v100 : Index := Scalar.indexCast v99
  ![v100.toNat]

def k0_chk17 (v66 : BitVec 32) (v70 : BitVec 32) (v74 : BitVec 32) (v78 : BitVec 32) (v82 : BitVec 32) (v86 : BitVec 32) (v90 : BitVec 32) (v94 : BitVec 32) (v98 : BitVec 32) : Prop :=
  (∀ a, (k0_off25 v66 v70 v74 v78 v82 v86 v90 v94 v98) a + S1.size a ≤ S65.size a)
theorem k0_off25_inb : ∀ (v66 : BitVec 32) (v70 : BitVec 32) (v74 : BitVec 32) (v78 : BitVec 32) (v82 : BitVec 32) (v86 : BitVec 32) (v90 : BitVec 32) (v94 : BitVec 32) (v98 : BitVec 32) (k0_hw17 : k0_chk17 v66 v70 v74 v78 v82 v86 v90 v94 v98), ∀ a, (k0_off25 v66 v70 v74 v78 v82 v86 v90 v94 v98) a + S1.size a ≤ S65.size a := fun v66 v70 v74 v78 v82 v86 v90 v94 v98 k0_hw17 => k0_hw17

def k0_off26 (v66 : BitVec 32) (v70 : BitVec 32) (v74 : BitVec 32) (v78 : BitVec 32) (v82 : BitVec 32) (v86 : BitVec 32) (v90 : BitVec 32) (v94 : BitVec 32) (v98 : BitVec 32) (v102 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v104 : Index := Scalar.indexCast v103
  ![v104.toNat]

def k0_chk18 (v66 : BitVec 32) (v70 : BitVec 32) (v74 : BitVec 32) (v78 : BitVec 32) (v82 : BitVec 32) (v86 : BitVec 32) (v90 : BitVec 32) (v94 : BitVec 32) (v98 : BitVec 32) (v102 : BitVec 32) : Prop :=
  (∀ a, (k0_off26 v66 v70 v74 v78 v82 v86 v90 v94 v98 v102) a + S1.size a ≤ S65.size a)
theorem k0_off26_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (k0_hw18 : k0_chk18 v66 v70 v74 v78 v82 v86 v90 v94 v98 v102), ∀ a, (k0_off26 v66 v70 v74 v78 v82 v86 v90 v94 v98 v102) a + S1.size a ≤ S65.size a := fun v66 v70 v74 v78 v82 v86 v90 v94 v98 v102 k0_hw18 => k0_hw18

def k0_off27 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v108 : Index := Scalar.indexCast v107
  ![v108.toNat]

def k0_chk19 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) : Prop :=
  (∀ a, (k0_off27 v66 v70 v74 v78 v82 v86 v90 v94 v98 v102 v106) a + S1.size a ≤ S65.size a)
theorem k0_off27_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (k0_hw19 : k0_chk19 v66 v70 v74 v78 v82 v86 v90 v94 v98 v102 v106), ∀ a, (k0_off27 v66 v70 v74 v78 v82 v86 v90 v94 v98 v102 v106) a + S1.size a ≤ S65.size a := fun v66 v70 v74 v78 v82 v86 v90 v94 v98 v102 v106 k0_hw19 => k0_hw19

def k0_off28 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v112 : Index := Scalar.indexCast v111
  ![v112.toNat]

def k0_chk20 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) : Prop :=
  (∀ a, (k0_off28 v66 v70 v74 v78 v82 v86 v90 v94 v98 v102 v106 v110) a + S1.size a ≤ S65.size a)
theorem k0_off28_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (k0_hw20 : k0_chk20 v66 v70 v74 v78 v82 v86 v90 v94 v98 v102 v106 v110), ∀ a, (k0_off28 v66 v70 v74 v78 v82 v86 v90 v94 v98 v102 v106 v110) a + S1.size a ≤ S65.size a := fun v66 v70 v74 v78 v82 v86 v90 v94 v98 v102 v106 v110 k0_hw20 => k0_hw20

def k0_off29 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v116 : Index := Scalar.indexCast v115
  ![v116.toNat]

def k0_chk21 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) : Prop :=
  (∀ a, (k0_off29 v66 v70 v74 v78 v82 v86 v90 v94 v98 v102 v106 v110 v114) a + S1.size a ≤ S65.size a)
theorem k0_off29_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (k0_hw21 : k0_chk21 v66 v70 v74 v78 v82 v86 v90 v94 v98 v102 v106 v110 v114), ∀ a, (k0_off29 v66 v70 v74 v78 v82 v86 v90 v94 v98 v102 v106 v110 v114) a + S1.size a ≤ S65.size a := fun v66 v70 v74 v78 v82 v86 v90 v94 v98 v102 v106 v110 v114 k0_hw21 => k0_hw21

def k0_off30 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v120 : Index := Scalar.indexCast v119
  ![v120.toNat]

def k0_chk22 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) : Prop :=
  (∀ a, (k0_off30 v66 v70 v74 v78 v82 v86 v90 v94 v98 v102 v106 v110 v114 v118) a + S1.size a ≤ S65.size a)
theorem k0_off30_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (k0_hw22 : k0_chk22 v66 v70 v74 v78 v82 v86 v90 v94 v98 v102 v106 v110 v114 v118), ∀ a, (k0_off30 v66 v70 v74 v78 v82 v86 v90 v94 v98 v102 v106 v110 v114 v118) a + S1.size a ≤ S65.size a := fun v66 v70 v74 v78 v82 v86 v90 v94 v98 v102 v106 v110 v114 v118 k0_hw22 => k0_hw22

def k0_off31 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v124 : Index := Scalar.indexCast v123
  ![v124.toNat]

def k0_chk23 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) : Prop :=
  (∀ a, (k0_off31 v66 v70 v74 v78 v82 v86 v90 v94 v98 v102 v106 v110 v114 v118 v122) a + S1.size a ≤ S65.size a)
theorem k0_off31_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (k0_hw23 : k0_chk23 v66 v70 v74 v78 v82 v86 v90 v94 v98 v102 v106 v110 v114 v118 v122), ∀ a, (k0_off31 v66 v70 v74 v78 v82 v86 v90 v94 v98 v102 v106 v110 v114 v118 v122) a + S1.size a ≤ S65.size a := fun v66 v70 v74 v78 v82 v86 v90 v94 v98 v102 v106 v110 v114 v118 v122 k0_hw23 => k0_hw23

def k0_off32 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v128 : Index := Scalar.indexCast v127
  ![v128.toNat]

def k0_chk24 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) : Prop :=
  (∀ a, (k0_off32 v66 v70 v74 v78 v82 v86 v90 v94 v98 v102 v106 v110 v114 v118 v122 v126) a + S1.size a ≤ S65.size a)
theorem k0_off32_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (k0_hw24 : k0_chk24 v66 v70 v74 v78 v82 v86 v90 v94 v98 v102 v106 v110 v114 v118 v122 v126), ∀ a, (k0_off32 v66 v70 v74 v78 v82 v86 v90 v94 v98 v102 v106 v110 v114 v118 v122 v126) a + S1.size a ≤ S65.size a := fun v66 v70 v74 v78 v82 v86 v90 v94 v98 v102 v106 v110 v114 v118 v122 v126 k0_hw24 => k0_hw24

def k0_off33 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v132 : Index := Scalar.indexCast v131
  ![v132.toNat]

def k0_chk25 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) : Prop :=
  (∀ a, (k0_off33 v66 v70 v74 v78 v82 v86 v90 v94 v98 v102 v106 v110 v114 v118 v122 v126 v130) a + S1.size a ≤ S65.size a)
theorem k0_off33_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (k0_hw25 : k0_chk25 v66 v70 v74 v78 v82 v86 v90 v94 v98 v102 v106 v110 v114 v118 v122 v126 v130), ∀ a, (k0_off33 v66 v70 v74 v78 v82 v86 v90 v94 v98 v102 v106 v110 v114 v118 v122 v126 v130) a + S1.size a ≤ S65.size a := fun v66 v70 v74 v78 v82 v86 v90 v94 v98 v102 v106 v110 v114 v118 v122 v126 v130 k0_hw25 => k0_hw25

def k0_off34 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v136 : Index := Scalar.indexCast v135
  ![v136.toNat]

def k0_chk26 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) : Prop :=
  (∀ a, (k0_off34 v66 v70 v74 v78 v82 v86 v90 v94 v98 v102 v106 v110 v114 v118 v122 v126 v130 v134) a + S1.size a ≤ S65.size a)
theorem k0_off34_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (k0_hw26 : k0_chk26 v66 v70 v74 v78 v82 v86 v90 v94 v98 v102 v106 v110 v114 v118 v122 v126 v130 v134), ∀ a, (k0_off34 v66 v70 v74 v78 v82 v86 v90 v94 v98 v102 v106 v110 v114 v118 v122 v126 v130 v134) a + S1.size a ≤ S65.size a := fun v66 v70 v74 v78 v82 v86 v90 v94 v98 v102 v106 v110 v114 v118 v122 v126 v130 v134 k0_hw26 => k0_hw26

def k0_off35 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v140 : Index := Scalar.indexCast v139
  ![v140.toNat]

def k0_chk27 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) : Prop :=
  (∀ a, (k0_off35 v66 v70 v74 v78 v82 v86 v90 v94 v98 v102 v106 v110 v114 v118 v122 v126 v130 v134 v138) a + S1.size a ≤ S65.size a)
theorem k0_off35_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (k0_hw27 : k0_chk27 v66 v70 v74 v78 v82 v86 v90 v94 v98 v102 v106 v110 v114 v118 v122 v126 v130 v134 v138), ∀ a, (k0_off35 v66 v70 v74 v78 v82 v86 v90 v94 v98 v102 v106 v110 v114 v118 v122 v126 v130 v134 v138) a + S1.size a ≤ S65.size a := fun v66 v70 v74 v78 v82 v86 v90 v94 v98 v102 v106 v110 v114 v118 v122 v126 v130 v134 v138 k0_hw27 => k0_hw27

def k0_off36 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v144 : Index := Scalar.indexCast v143
  ![v144.toNat]

def k0_chk28 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) : Prop :=
  (∀ a, (k0_off36 v66 v70 v74 v78 v82 v86 v90 v94 v98 v102 v106 v110 v114 v118 v122 v126 v130 v134 v138 v142) a + S1.size a ≤ S65.size a)
theorem k0_off36_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (k0_hw28 : k0_chk28 v66 v70 v74 v78 v82 v86 v90 v94 v98 v102 v106 v110 v114 v118 v122 v126 v130 v134 v138 v142), ∀ a, (k0_off36 v66 v70 v74 v78 v82 v86 v90 v94 v98 v102 v106 v110 v114 v118 v122 v126 v130 v134 v138 v142) a + S1.size a ≤ S65.size a := fun v66 v70 v74 v78 v82 v86 v90 v94 v98 v102 v106 v110 v114 v118 v122 v126 v130 v134 v138 v142 k0_hw28 => k0_hw28

def k0_off37 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v148 : Index := Scalar.indexCast v147
  ![v148.toNat]

def k0_chk29 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) : Prop :=
  (∀ a, (k0_off37 v66 v70 v74 v78 v82 v86 v90 v94 v98 v102 v106 v110 v114 v118 v122 v126 v130 v134 v138 v142 v146) a + S1.size a ≤ S65.size a)
theorem k0_off37_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (k0_hw29 : k0_chk29 v66 v70 v74 v78 v82 v86 v90 v94 v98 v102 v106 v110 v114 v118 v122 v126 v130 v134 v138 v142 v146), ∀ a, (k0_off37 v66 v70 v74 v78 v82 v86 v90 v94 v98 v102 v106 v110 v114 v118 v122 v126 v130 v134 v138 v142 v146) a + S1.size a ≤ S65.size a := fun v66 v70 v74 v78 v82 v86 v90 v94 v98 v102 v106 v110 v114 v118 v122 v126 v130 v134 v138 v142 v146 k0_hw29 => k0_hw29

def k0_off38 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v152 : Index := Scalar.indexCast v151
  ![v152.toNat]

def k0_chk30 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) : Prop :=
  (∀ a, (k0_off38 v66 v70 v74 v78 v82 v86 v90 v94 v98 v102 v106 v110 v114 v118 v122 v126 v130 v134 v138 v142 v146 v150) a + S1.size a ≤ S65.size a)
theorem k0_off38_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (k0_hw30 : k0_chk30 v66 v70 v74 v78 v82 v86 v90 v94 v98 v102 v106 v110 v114 v118 v122 v126 v130 v134 v138 v142 v146 v150), ∀ a, (k0_off38 v66 v70 v74 v78 v82 v86 v90 v94 v98 v102 v106 v110 v114 v118 v122 v126 v130 v134 v138 v142 v146 v150) a + S1.size a ≤ S65.size a := fun v66 v70 v74 v78 v82 v86 v90 v94 v98 v102 v106 v110 v114 v118 v122 v126 v130 v134 v138 v142 v146 v150 k0_hw30 => k0_hw30

def k0_off39 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v156 : Index := Scalar.indexCast v155
  ![v156.toNat]

def k0_chk31 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) : Prop :=
  (∀ a, (k0_off39 v66 v70 v74 v78 v82 v86 v90 v94 v98 v102 v106 v110 v114 v118 v122 v126 v130 v134 v138 v142 v146 v150 v154) a + S1.size a ≤ S65.size a)
theorem k0_off39_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (k0_hw31 : k0_chk31 v66 v70 v74 v78 v82 v86 v90 v94 v98 v102 v106 v110 v114 v118 v122 v126 v130 v134 v138 v142 v146 v150 v154), ∀ a, (k0_off39 v66 v70 v74 v78 v82 v86 v90 v94 v98 v102 v106 v110 v114 v118 v122 v126 v130 v134 v138 v142 v146 v150 v154) a + S1.size a ≤ S65.size a := fun v66 v70 v74 v78 v82 v86 v90 v94 v98 v102 v106 v110 v114 v118 v122 v126 v130 v134 v138 v142 v146 v150 v154 k0_hw31 => k0_hw31

def k0_off40 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v160 : Index := Scalar.indexCast v159
  ![v160.toNat]

def k0_chk32 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) : Prop :=
  (∀ a, (k0_off40 v66 v70 v74 v78 v82 v86 v90 v94 v98 v102 v106 v110 v114 v118 v122 v126 v130 v134 v138 v142 v146 v150 v154 v158) a + S1.size a ≤ S65.size a)
theorem k0_off40_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (k0_hw32 : k0_chk32 v66 v70 v74 v78 v82 v86 v90 v94 v98 v102 v106 v110 v114 v118 v122 v126 v130 v134 v138 v142 v146 v150 v154 v158), ∀ a, (k0_off40 v66 v70 v74 v78 v82 v86 v90 v94 v98 v102 v106 v110 v114 v118 v122 v126 v130 v134 v138 v142 v146 v150 v154 v158) a + S1.size a ≤ S65.size a := fun v66 v70 v74 v78 v82 v86 v90 v94 v98 v102 v106 v110 v114 v118 v122 v126 v130 v134 v138 v142 v146 v150 v154 v158 k0_hw32 => k0_hw32

def k0_off41 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v164 : Index := Scalar.indexCast v163
  ![v164.toNat]

def k0_chk33 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) : Prop :=
  (∀ a, (k0_off41 v66 v70 v74 v78 v82 v86 v90 v94 v98 v102 v106 v110 v114 v118 v122 v126 v130 v134 v138 v142 v146 v150 v154 v158 v162) a + S1.size a ≤ S65.size a)
theorem k0_off41_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (k0_hw33 : k0_chk33 v66 v70 v74 v78 v82 v86 v90 v94 v98 v102 v106 v110 v114 v118 v122 v126 v130 v134 v138 v142 v146 v150 v154 v158 v162), ∀ a, (k0_off41 v66 v70 v74 v78 v82 v86 v90 v94 v98 v102 v106 v110 v114 v118 v122 v126 v130 v134 v138 v142 v146 v150 v154 v158 v162) a + S1.size a ≤ S65.size a := fun v66 v70 v74 v78 v82 v86 v90 v94 v98 v102 v106 v110 v114 v118 v122 v126 v130 v134 v138 v142 v146 v150 v154 v158 v162 k0_hw33 => k0_hw33

def k0_off42 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v168 : Index := Scalar.indexCast v167
  ![v168.toNat]

def k0_chk34 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) : Prop :=
  (∀ a, (k0_off42 v66 v70 v74 v78 v82 v86 v90 v94 v98 v102 v106 v110 v114 v118 v122 v126 v130 v134 v138 v142 v146 v150 v154 v158 v162 v166) a + S1.size a ≤ S65.size a)
theorem k0_off42_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (k0_hw34 : k0_chk34 v66 v70 v74 v78 v82 v86 v90 v94 v98 v102 v106 v110 v114 v118 v122 v126 v130 v134 v138 v142 v146 v150 v154 v158 v162 v166), ∀ a, (k0_off42 v66 v70 v74 v78 v82 v86 v90 v94 v98 v102 v106 v110 v114 v118 v122 v126 v130 v134 v138 v142 v146 v150 v154 v158 v162 v166) a + S1.size a ≤ S65.size a := fun v66 v70 v74 v78 v82 v86 v90 v94 v98 v102 v106 v110 v114 v118 v122 v126 v130 v134 v138 v142 v146 v150 v154 v158 v162 v166 k0_hw34 => k0_hw34

def k0_off43 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v172 : Index := Scalar.indexCast v171
  ![v172.toNat]

def k0_chk35 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) : Prop :=
  (∀ a, (k0_off43 v66 v70 v74 v78 v82 v86 v90 v94 v98 v102 v106 v110 v114 v118 v122 v126 v130 v134 v138 v142 v146 v150 v154 v158 v162 v166 v170) a + S1.size a ≤ S65.size a)
theorem k0_off43_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (k0_hw35 : k0_chk35 v66 v70 v74 v78 v82 v86 v90 v94 v98 v102 v106 v110 v114 v118 v122 v126 v130 v134 v138 v142 v146 v150 v154 v158 v162 v166 v170), ∀ a, (k0_off43 v66 v70 v74 v78 v82 v86 v90 v94 v98 v102 v106 v110 v114 v118 v122 v126 v130 v134 v138 v142 v146 v150 v154 v158 v162 v166 v170) a + S1.size a ≤ S65.size a := fun v66 v70 v74 v78 v82 v86 v90 v94 v98 v102 v106 v110 v114 v118 v122 v126 v130 v134 v138 v142 v146 v150 v154 v158 v162 v166 v170 k0_hw35 => k0_hw35

def k0_off44 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v176 : Index := Scalar.indexCast v175
  ![v176.toNat]

def k0_chk36 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) : Prop :=
  (∀ a, (k0_off44 v66 v70 v74 v78 v82 v86 v90 v94 v98 v102 v106 v110 v114 v118 v122 v126 v130 v134 v138 v142 v146 v150 v154 v158 v162 v166 v170 v174) a + S1.size a ≤ S65.size a)
theorem k0_off44_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (k0_hw36 : k0_chk36 v66 v70 v74 v78 v82 v86 v90 v94 v98 v102 v106 v110 v114 v118 v122 v126 v130 v134 v138 v142 v146 v150 v154 v158 v162 v166 v170 v174), ∀ a, (k0_off44 v66 v70 v74 v78 v82 v86 v90 v94 v98 v102 v106 v110 v114 v118 v122 v126 v130 v134 v138 v142 v146 v150 v154 v158 v162 v166 v170 v174) a + S1.size a ≤ S65.size a := fun v66 v70 v74 v78 v82 v86 v90 v94 v98 v102 v106 v110 v114 v118 v122 v126 v130 v134 v138 v142 v146 v150 v154 v158 v162 v166 v170 v174 k0_hw36 => k0_hw36

def k0_off45 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v180 : Index := Scalar.indexCast v179
  ![v180.toNat]

def k0_chk37 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) : Prop :=
  (∀ a, (k0_off45 v66 v70 v74 v78 v82 v86 v90 v94 v98 v102 v106 v110 v114 v118 v122 v126 v130 v134 v138 v142 v146 v150 v154 v158 v162 v166 v170 v174 v178) a + S1.size a ≤ S65.size a)
theorem k0_off45_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (k0_hw37 : k0_chk37 v66 v70 v74 v78 v82 v86 v90 v94 v98 v102 v106 v110 v114 v118 v122 v126 v130 v134 v138 v142 v146 v150 v154 v158 v162 v166 v170 v174 v178), ∀ a, (k0_off45 v66 v70 v74 v78 v82 v86 v90 v94 v98 v102 v106 v110 v114 v118 v122 v126 v130 v134 v138 v142 v146 v150 v154 v158 v162 v166 v170 v174 v178) a + S1.size a ≤ S65.size a := fun v66 v70 v74 v78 v82 v86 v90 v94 v98 v102 v106 v110 v114 v118 v122 v126 v130 v134 v138 v142 v146 v150 v154 v158 v162 v166 v170 v174 v178 k0_hw37 => k0_hw37

def k0_off46 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v184 : Index := Scalar.indexCast v183
  ![v184.toNat]

def k0_chk38 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) : Prop :=
  (∀ a, (k0_off46 v66 v70 v74 v78 v82 v86 v90 v94 v98 v102 v106 v110 v114 v118 v122 v126 v130 v134 v138 v142 v146 v150 v154 v158 v162 v166 v170 v174 v178 v182) a + S1.size a ≤ S65.size a)
theorem k0_off46_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (k0_hw38 : k0_chk38 v66 v70 v74 v78 v82 v86 v90 v94 v98 v102 v106 v110 v114 v118 v122 v126 v130 v134 v138 v142 v146 v150 v154 v158 v162 v166 v170 v174 v178 v182), ∀ a, (k0_off46 v66 v70 v74 v78 v82 v86 v90 v94 v98 v102 v106 v110 v114 v118 v122 v126 v130 v134 v138 v142 v146 v150 v154 v158 v162 v166 v170 v174 v178 v182) a + S1.size a ≤ S65.size a := fun v66 v70 v74 v78 v82 v86 v90 v94 v98 v102 v106 v110 v114 v118 v122 v126 v130 v134 v138 v142 v146 v150 v154 v158 v162 v166 v170 v174 v178 v182 k0_hw38 => k0_hw38

def k0_off47 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) : Fin 1 → Nat :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v188 : Index := Scalar.indexCast v187
  ![v188.toNat]

def k0_chk39 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) : Prop :=
  (∀ a, (k0_off47 v66 v70 v74 v78 v82 v86 v90 v94 v98 v102 v106 v110 v114 v118 v122 v126 v130 v134 v138 v142 v146 v150 v154 v158 v162 v166 v170 v174 v178 v182 v186) a + S1.size a ≤ S65.size a)
theorem k0_off47_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (k0_hw39 : k0_chk39 v66 v70 v74 v78 v82 v86 v90 v94 v98 v102 v106 v110 v114 v118 v122 v126 v130 v134 v138 v142 v146 v150 v154 v158 v162 v166 v170 v174 v178 v182 v186), ∀ a, (k0_off47 v66 v70 v74 v78 v82 v86 v90 v94 v98 v102 v106 v110 v114 v118 v122 v126 v130 v134 v138 v142 v146 v150 v154 v158 v162 v166 v170 v174 v178 v182 v186) a + S1.size a ≤ S65.size a := fun v66 v70 v74 v78 v82 v86 v90 v94 v98 v102 v106 v110 v114 v118 v122 v126 v130 v134 v138 v142 v146 v150 v154 v158 v162 v166 v170 v174 v178 v182 v186 k0_hw39 => k0_hw39

def k0_off48 (v213 : BitVec 32) : Fin 3 → Nat :=
  let c0_i32_124 : BitVec 32 := 0#32
  let c0_i32_125 : BitVec 32 := 0#32
  ![v213.toNat, 0, 0]
def k0_cond1 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) : BitVec 1 :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let c0_i32_101 : BitVec 32 := 0#32
  let v192 : BitVec 1 := Scalar.cmpi .sgt v191 c0_i32_101
  let v193 : BitVec 32 := Scalar.extui v192
  let c0_i32_102 : BitVec 32 := 0#32
  let v194 : BitVec 1 := Scalar.cmpi .ne v193 c0_i32_102
  v194

def k0_off49 (v213 : BitVec 32) : Fin 3 → Nat :=
  let c0_i32_131 : BitVec 32 := 0#32
  let c0_i32_132 : BitVec 32 := 0#32
  ![v213.toNat, 0, 0]
def k0_off50 (v213 : BitVec 32) : Fin 3 → Nat :=
  let c0_i32_138 : BitVec 32 := 0#32
  let c0_i32_139 : BitVec 32 := 0#32
  ![v213.toNat, 0, 0]
def k0_off51 (v213 : BitVec 32) : Fin 3 → Nat :=
  let c0_i32_145 : BitVec 32 := 0#32
  let c0_i32_146 : BitVec 32 := 0#32
  ![v213.toNat, 0, 0]

def k0_chk40 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) : Prop :=
  (∀ (k0_h1 : k0_cond1 v66 v70 v74 v78 v82 v86 v90 v94 v98 v102 v106 v110 v114 v118 v122 v126 v130 v134 v138 v142 v146 v150 v154 v158 v162 v166 v170 v174 v178 v182 v186 v190 = 1#1), ∀ a, (k0_off48 v213) a + S1x1408x1536.size a ≤ S32x1408x1536.size a) ∧
  (∀ (k0_h1 : k0_cond1 v66 v70 v74 v78 v82 v86 v90 v94 v98 v102 v106 v110 v114 v118 v122 v126 v130 v134 v138 v142 v146 v150 v154 v158 v162 v166 v170 v174 v178 v182 v186 v190 = 1#1), ∀ (hinb : ∀ a, (k0_off48 v213) a + S1x1408x1536.size a ≤ S32x1408x1536.size a), (Rect.unit (s := S32x1408x1536) (k0_off48 v213) S1x1408x1536.size hinb).WholeWords (EltTy.packing .i8)) ∧
  (∀ (k0_h1 : k0_cond1 v66 v70 v74 v78 v82 v86 v90 v94 v98 v102 v106 v110 v114 v118 v122 v126 v130 v134 v138 v142 v146 v150 v154 v158 v162 v166 v170 v174 v178 v182 v186 v190 = 1#1), ∀ a, (k0_off49 v213) a + S1x22x1536.size a ≤ S32x22x1536.size a) ∧
  (∀ (k0_h1 : k0_cond1 v66 v70 v74 v78 v82 v86 v90 v94 v98 v102 v106 v110 v114 v118 v122 v126 v130 v134 v138 v142 v146 v150 v154 v158 v162 v166 v170 v174 v178 v182 v186 v190 = 1#1), ∀ (hinb : ∀ a, (k0_off49 v213) a + S1x22x1536.size a ≤ S32x22x1536.size a), (Rect.unit (s := S32x22x1536) (k0_off49 v213) S1x22x1536.size hinb).WholeWords (EltTy.packing .bf16)) ∧
  (∀ (k0_h1 : k0_cond1 v66 v70 v74 v78 v82 v86 v90 v94 v98 v102 v106 v110 v114 v118 v122 v126 v130 v134 v138 v142 v146 v150 v154 v158 v162 v166 v170 v174 v178 v182 v186 v190 = 1#1), ∀ a, (k0_off50 v213) a + S1x384x2816.size a ≤ S32x384x2816.size a) ∧
  (∀ (k0_h1 : k0_cond1 v66 v70 v74 v78 v82 v86 v90 v94 v98 v102 v106 v110 v114 v118 v122 v126 v130 v134 v138 v142 v146 v150 v154 v158 v162 v166 v170 v174 v178 v182 v186 v190 = 1#1), ∀ (hinb : ∀ a, (k0_off50 v213) a + S1x384x2816.size a ≤ S32x384x2816.size a), (Rect.unit (s := S32x384x2816) (k0_off50 v213) S1x384x2816.size hinb).WholeWords (EltTy.packing .i8)) ∧
  (∀ (k0_h1 : k0_cond1 v66 v70 v74 v78 v82 v86 v90 v94 v98 v102 v106 v110 v114 v118 v122 v126 v130 v134 v138 v142 v146 v150 v154 v158 v162 v166 v170 v174 v178 v182 v186 v190 = 1#1), ∀ a, (k0_off51 v213) a + S1x6x2816.size a ≤ S32x6x2816.size a) ∧
  (∀ (k0_h1 : k0_cond1 v66 v70 v74 v78 v82 v86 v90 v94 v98 v102 v106 v110 v114 v118 v122 v126 v130 v134 v138 v142 v146 v150 v154 v158 v162 v166 v170 v174 v178 v182 v186 v190 = 1#1), ∀ (hinb : ∀ a, (k0_off51 v213) a + S1x6x2816.size a ≤ S32x6x2816.size a), (Rect.unit (s := S32x6x2816) (k0_off51 v213) S1x6x2816.size hinb).WholeWords (EltTy.packing .bf16))
theorem k0_off48_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw40 : k0_chk40 v66 v70 v74 v78 v82 v86 v90 v94 v98 v102 v106 v110 v114 v118 v122 v126 v130 v134 v138 v142 v146 v150 v154 v158 v162 v166 v170 v174 v178 v182 v186 v190 v213), ∀ (k0_h1 : k0_cond1 v66 v70 v74 v78 v82 v86 v90 v94 v98 v102 v106 v110 v114 v118 v122 v126 v130 v134 v138 v142 v146 v150 v154 v158 v162 v166 v170 v174 v178 v182 v186 v190 = 1#1), ∀ a, (k0_off48 v213) a + S1x1408x1536.size a ≤ S32x1408x1536.size a := fun v66 v70 v74 v78 v82 v86 v90 v94 v98 v102 v106 v110 v114 v118 v122 v126 v130 v134 v138 v142 v146 v150 v154 v158 v162 v166 v170 v174 v178 v182 v186 v190 v213 k0_hw40 k0_h1 => k0_hw40.1 k0_h1
theorem k0_off48_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw40 : k0_chk40 v66 v70 v74 v78 v82 v86 v90 v94 v98 v102 v106 v110 v114 v118 v122 v126 v130 v134 v138 v142 v146 v150 v154 v158 v162 v166 v170 v174 v178 v182 v186 v190 v213), ∀ (k0_h1 : k0_cond1 v66 v70 v74 v78 v82 v86 v90 v94 v98 v102 v106 v110 v114 v118 v122 v126 v130 v134 v138 v142 v146 v150 v154 v158 v162 v166 v170 v174 v178 v182 v186 v190 = 1#1), (Rect.unit (s := S32x1408x1536) (k0_off48 v213) S1x1408x1536.size (k0_off48_inb v66 v70 v74 v78 v82 v86 v90 v94 v98 v102 v106 v110 v114 v118 v122 v126 v130 v134 v138 v142 v146 v150 v154 v158 v162 v166 v170 v174 v178 v182 v186 v190 v213 k0_hw40 k0_h1)).WholeWords (EltTy.packing .i8) := fun v66 v70 v74 v78 v82 v86 v90 v94 v98 v102 v106 v110 v114 v118 v122 v126 v130 v134 v138 v142 v146 v150 v154 v158 v162 v166 v170 v174 v178 v182 v186 v190 v213 k0_hw40 k0_h1 => k0_hw40.2.1 k0_h1 (k0_off48_inb v66 v70 v74 v78 v82 v86 v90 v94 v98 v102 v106 v110 v114 v118 v122 v126 v130 v134 v138 v142 v146 v150 v154 v158 v162 v166 v170 v174 v178 v182 v186 v190 v213 k0_hw40 k0_h1)
theorem k0_off49_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw40 : k0_chk40 v66 v70 v74 v78 v82 v86 v90 v94 v98 v102 v106 v110 v114 v118 v122 v126 v130 v134 v138 v142 v146 v150 v154 v158 v162 v166 v170 v174 v178 v182 v186 v190 v213), ∀ (k0_h1 : k0_cond1 v66 v70 v74 v78 v82 v86 v90 v94 v98 v102 v106 v110 v114 v118 v122 v126 v130 v134 v138 v142 v146 v150 v154 v158 v162 v166 v170 v174 v178 v182 v186 v190 = 1#1), ∀ a, (k0_off49 v213) a + S1x22x1536.size a ≤ S32x22x1536.size a := fun v66 v70 v74 v78 v82 v86 v90 v94 v98 v102 v106 v110 v114 v118 v122 v126 v130 v134 v138 v142 v146 v150 v154 v158 v162 v166 v170 v174 v178 v182 v186 v190 v213 k0_hw40 k0_h1 => k0_hw40.2.2.1 k0_h1
theorem k0_off49_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw40 : k0_chk40 v66 v70 v74 v78 v82 v86 v90 v94 v98 v102 v106 v110 v114 v118 v122 v126 v130 v134 v138 v142 v146 v150 v154 v158 v162 v166 v170 v174 v178 v182 v186 v190 v213), ∀ (k0_h1 : k0_cond1 v66 v70 v74 v78 v82 v86 v90 v94 v98 v102 v106 v110 v114 v118 v122 v126 v130 v134 v138 v142 v146 v150 v154 v158 v162 v166 v170 v174 v178 v182 v186 v190 = 1#1), (Rect.unit (s := S32x22x1536) (k0_off49 v213) S1x22x1536.size (k0_off49_inb v66 v70 v74 v78 v82 v86 v90 v94 v98 v102 v106 v110 v114 v118 v122 v126 v130 v134 v138 v142 v146 v150 v154 v158 v162 v166 v170 v174 v178 v182 v186 v190 v213 k0_hw40 k0_h1)).WholeWords (EltTy.packing .bf16) := fun v66 v70 v74 v78 v82 v86 v90 v94 v98 v102 v106 v110 v114 v118 v122 v126 v130 v134 v138 v142 v146 v150 v154 v158 v162 v166 v170 v174 v178 v182 v186 v190 v213 k0_hw40 k0_h1 => k0_hw40.2.2.2.1 k0_h1 (k0_off49_inb v66 v70 v74 v78 v82 v86 v90 v94 v98 v102 v106 v110 v114 v118 v122 v126 v130 v134 v138 v142 v146 v150 v154 v158 v162 v166 v170 v174 v178 v182 v186 v190 v213 k0_hw40 k0_h1)
theorem k0_off50_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw40 : k0_chk40 v66 v70 v74 v78 v82 v86 v90 v94 v98 v102 v106 v110 v114 v118 v122 v126 v130 v134 v138 v142 v146 v150 v154 v158 v162 v166 v170 v174 v178 v182 v186 v190 v213), ∀ (k0_h1 : k0_cond1 v66 v70 v74 v78 v82 v86 v90 v94 v98 v102 v106 v110 v114 v118 v122 v126 v130 v134 v138 v142 v146 v150 v154 v158 v162 v166 v170 v174 v178 v182 v186 v190 = 1#1), ∀ a, (k0_off50 v213) a + S1x384x2816.size a ≤ S32x384x2816.size a := fun v66 v70 v74 v78 v82 v86 v90 v94 v98 v102 v106 v110 v114 v118 v122 v126 v130 v134 v138 v142 v146 v150 v154 v158 v162 v166 v170 v174 v178 v182 v186 v190 v213 k0_hw40 k0_h1 => k0_hw40.2.2.2.2.1 k0_h1
theorem k0_off50_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw40 : k0_chk40 v66 v70 v74 v78 v82 v86 v90 v94 v98 v102 v106 v110 v114 v118 v122 v126 v130 v134 v138 v142 v146 v150 v154 v158 v162 v166 v170 v174 v178 v182 v186 v190 v213), ∀ (k0_h1 : k0_cond1 v66 v70 v74 v78 v82 v86 v90 v94 v98 v102 v106 v110 v114 v118 v122 v126 v130 v134 v138 v142 v146 v150 v154 v158 v162 v166 v170 v174 v178 v182 v186 v190 = 1#1), (Rect.unit (s := S32x384x2816) (k0_off50 v213) S1x384x2816.size (k0_off50_inb v66 v70 v74 v78 v82 v86 v90 v94 v98 v102 v106 v110 v114 v118 v122 v126 v130 v134 v138 v142 v146 v150 v154 v158 v162 v166 v170 v174 v178 v182 v186 v190 v213 k0_hw40 k0_h1)).WholeWords (EltTy.packing .i8) := fun v66 v70 v74 v78 v82 v86 v90 v94 v98 v102 v106 v110 v114 v118 v122 v126 v130 v134 v138 v142 v146 v150 v154 v158 v162 v166 v170 v174 v178 v182 v186 v190 v213 k0_hw40 k0_h1 => k0_hw40.2.2.2.2.2.1 k0_h1 (k0_off50_inb v66 v70 v74 v78 v82 v86 v90 v94 v98 v102 v106 v110 v114 v118 v122 v126 v130 v134 v138 v142 v146 v150 v154 v158 v162 v166 v170 v174 v178 v182 v186 v190 v213 k0_hw40 k0_h1)
theorem k0_off51_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw40 : k0_chk40 v66 v70 v74 v78 v82 v86 v90 v94 v98 v102 v106 v110 v114 v118 v122 v126 v130 v134 v138 v142 v146 v150 v154 v158 v162 v166 v170 v174 v178 v182 v186 v190 v213), ∀ (k0_h1 : k0_cond1 v66 v70 v74 v78 v82 v86 v90 v94 v98 v102 v106 v110 v114 v118 v122 v126 v130 v134 v138 v142 v146 v150 v154 v158 v162 v166 v170 v174 v178 v182 v186 v190 = 1#1), ∀ a, (k0_off51 v213) a + S1x6x2816.size a ≤ S32x6x2816.size a := fun v66 v70 v74 v78 v82 v86 v90 v94 v98 v102 v106 v110 v114 v118 v122 v126 v130 v134 v138 v142 v146 v150 v154 v158 v162 v166 v170 v174 v178 v182 v186 v190 v213 k0_hw40 k0_h1 => k0_hw40.2.2.2.2.2.2.1 k0_h1
theorem k0_off51_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw40 : k0_chk40 v66 v70 v74 v78 v82 v86 v90 v94 v98 v102 v106 v110 v114 v118 v122 v126 v130 v134 v138 v142 v146 v150 v154 v158 v162 v166 v170 v174 v178 v182 v186 v190 v213), ∀ (k0_h1 : k0_cond1 v66 v70 v74 v78 v82 v86 v90 v94 v98 v102 v106 v110 v114 v118 v122 v126 v130 v134 v138 v142 v146 v150 v154 v158 v162 v166 v170 v174 v178 v182 v186 v190 = 1#1), (Rect.unit (s := S32x6x2816) (k0_off51 v213) S1x6x2816.size (k0_off51_inb v66 v70 v74 v78 v82 v86 v90 v94 v98 v102 v106 v110 v114 v118 v122 v126 v130 v134 v138 v142 v146 v150 v154 v158 v162 v166 v170 v174 v178 v182 v186 v190 v213 k0_hw40 k0_h1)).WholeWords (EltTy.packing .bf16) := fun v66 v70 v74 v78 v82 v86 v90 v94 v98 v102 v106 v110 v114 v118 v122 v126 v130 v134 v138 v142 v146 v150 v154 v158 v162 v166 v170 v174 v178 v182 v186 v190 v213 k0_hw40 k0_h1 => k0_hw40.2.2.2.2.2.2.2 k0_h1 (k0_off51_inb v66 v70 v74 v78 v82 v86 v90 v94 v98 v102 v106 v110 v114 v118 v122 v126 v130 v134 v138 v142 v146 v150 v154 v158 v162 v166 v170 v174 v178 v182 v186 v190 v213 k0_hw40 k0_h1)

def k0_off52 (v213 : BitVec 32) : Fin 3 → Nat :=
  let c0_i32_124 : BitVec 32 := 0#32
  let c0_i32_125 : BitVec 32 := 0#32
  ![v213.toNat, 0, 0]
def k0_cond2 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) : BitVec 1 :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let c1_i32_103 : BitVec 32 := 1#32
  let v195 : BitVec 1 := Scalar.cmpi .sgt v191 c1_i32_103
  let v196 : BitVec 32 := Scalar.extui v195
  let c0_i32_104 : BitVec 32 := 0#32
  let v197 : BitVec 1 := Scalar.cmpi .ne v196 c0_i32_104
  v197

def k0_off53 (v213 : BitVec 32) : Fin 3 → Nat :=
  let c0_i32_131 : BitVec 32 := 0#32
  let c0_i32_132 : BitVec 32 := 0#32
  ![v213.toNat, 0, 0]
def k0_off54 (v213 : BitVec 32) : Fin 3 → Nat :=
  let c0_i32_138 : BitVec 32 := 0#32
  let c0_i32_139 : BitVec 32 := 0#32
  ![v213.toNat, 0, 0]
def k0_off55 (v213 : BitVec 32) : Fin 3 → Nat :=
  let c0_i32_145 : BitVec 32 := 0#32
  let c0_i32_146 : BitVec 32 := 0#32
  ![v213.toNat, 0, 0]

def k0_chk41 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) : Prop :=
  (∀ (k0_h2 : k0_cond2 v66 v70 v74 v78 v82 v86 v90 v94 v98 v102 v106 v110 v114 v118 v122 v126 v130 v134 v138 v142 v146 v150 v154 v158 v162 v166 v170 v174 v178 v182 v186 v190 = 1#1), ∀ a, (k0_off52 v213) a + S1x1408x1536.size a ≤ S32x1408x1536.size a) ∧
  (∀ (k0_h2 : k0_cond2 v66 v70 v74 v78 v82 v86 v90 v94 v98 v102 v106 v110 v114 v118 v122 v126 v130 v134 v138 v142 v146 v150 v154 v158 v162 v166 v170 v174 v178 v182 v186 v190 = 1#1), ∀ (hinb : ∀ a, (k0_off52 v213) a + S1x1408x1536.size a ≤ S32x1408x1536.size a), (Rect.unit (s := S32x1408x1536) (k0_off52 v213) S1x1408x1536.size hinb).WholeWords (EltTy.packing .i8)) ∧
  (∀ (k0_h2 : k0_cond2 v66 v70 v74 v78 v82 v86 v90 v94 v98 v102 v106 v110 v114 v118 v122 v126 v130 v134 v138 v142 v146 v150 v154 v158 v162 v166 v170 v174 v178 v182 v186 v190 = 1#1), ∀ a, (k0_off53 v213) a + S1x22x1536.size a ≤ S32x22x1536.size a) ∧
  (∀ (k0_h2 : k0_cond2 v66 v70 v74 v78 v82 v86 v90 v94 v98 v102 v106 v110 v114 v118 v122 v126 v130 v134 v138 v142 v146 v150 v154 v158 v162 v166 v170 v174 v178 v182 v186 v190 = 1#1), ∀ (hinb : ∀ a, (k0_off53 v213) a + S1x22x1536.size a ≤ S32x22x1536.size a), (Rect.unit (s := S32x22x1536) (k0_off53 v213) S1x22x1536.size hinb).WholeWords (EltTy.packing .bf16)) ∧
  (∀ (k0_h2 : k0_cond2 v66 v70 v74 v78 v82 v86 v90 v94 v98 v102 v106 v110 v114 v118 v122 v126 v130 v134 v138 v142 v146 v150 v154 v158 v162 v166 v170 v174 v178 v182 v186 v190 = 1#1), ∀ a, (k0_off54 v213) a + S1x384x2816.size a ≤ S32x384x2816.size a) ∧
  (∀ (k0_h2 : k0_cond2 v66 v70 v74 v78 v82 v86 v90 v94 v98 v102 v106 v110 v114 v118 v122 v126 v130 v134 v138 v142 v146 v150 v154 v158 v162 v166 v170 v174 v178 v182 v186 v190 = 1#1), ∀ (hinb : ∀ a, (k0_off54 v213) a + S1x384x2816.size a ≤ S32x384x2816.size a), (Rect.unit (s := S32x384x2816) (k0_off54 v213) S1x384x2816.size hinb).WholeWords (EltTy.packing .i8)) ∧
  (∀ (k0_h2 : k0_cond2 v66 v70 v74 v78 v82 v86 v90 v94 v98 v102 v106 v110 v114 v118 v122 v126 v130 v134 v138 v142 v146 v150 v154 v158 v162 v166 v170 v174 v178 v182 v186 v190 = 1#1), ∀ a, (k0_off55 v213) a + S1x6x2816.size a ≤ S32x6x2816.size a) ∧
  (∀ (k0_h2 : k0_cond2 v66 v70 v74 v78 v82 v86 v90 v94 v98 v102 v106 v110 v114 v118 v122 v126 v130 v134 v138 v142 v146 v150 v154 v158 v162 v166 v170 v174 v178 v182 v186 v190 = 1#1), ∀ (hinb : ∀ a, (k0_off55 v213) a + S1x6x2816.size a ≤ S32x6x2816.size a), (Rect.unit (s := S32x6x2816) (k0_off55 v213) S1x6x2816.size hinb).WholeWords (EltTy.packing .bf16))
theorem k0_off52_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw41 : k0_chk41 v66 v70 v74 v78 v82 v86 v90 v94 v98 v102 v106 v110 v114 v118 v122 v126 v130 v134 v138 v142 v146 v150 v154 v158 v162 v166 v170 v174 v178 v182 v186 v190 v213), ∀ (k0_h2 : k0_cond2 v66 v70 v74 v78 v82 v86 v90 v94 v98 v102 v106 v110 v114 v118 v122 v126 v130 v134 v138 v142 v146 v150 v154 v158 v162 v166 v170 v174 v178 v182 v186 v190 = 1#1), ∀ a, (k0_off52 v213) a + S1x1408x1536.size a ≤ S32x1408x1536.size a := fun v66 v70 v74 v78 v82 v86 v90 v94 v98 v102 v106 v110 v114 v118 v122 v126 v130 v134 v138 v142 v146 v150 v154 v158 v162 v166 v170 v174 v178 v182 v186 v190 v213 k0_hw41 k0_h2 => k0_hw41.1 k0_h2
theorem k0_off52_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw41 : k0_chk41 v66 v70 v74 v78 v82 v86 v90 v94 v98 v102 v106 v110 v114 v118 v122 v126 v130 v134 v138 v142 v146 v150 v154 v158 v162 v166 v170 v174 v178 v182 v186 v190 v213), ∀ (k0_h2 : k0_cond2 v66 v70 v74 v78 v82 v86 v90 v94 v98 v102 v106 v110 v114 v118 v122 v126 v130 v134 v138 v142 v146 v150 v154 v158 v162 v166 v170 v174 v178 v182 v186 v190 = 1#1), (Rect.unit (s := S32x1408x1536) (k0_off52 v213) S1x1408x1536.size (k0_off52_inb v66 v70 v74 v78 v82 v86 v90 v94 v98 v102 v106 v110 v114 v118 v122 v126 v130 v134 v138 v142 v146 v150 v154 v158 v162 v166 v170 v174 v178 v182 v186 v190 v213 k0_hw41 k0_h2)).WholeWords (EltTy.packing .i8) := fun v66 v70 v74 v78 v82 v86 v90 v94 v98 v102 v106 v110 v114 v118 v122 v126 v130 v134 v138 v142 v146 v150 v154 v158 v162 v166 v170 v174 v178 v182 v186 v190 v213 k0_hw41 k0_h2 => k0_hw41.2.1 k0_h2 (k0_off52_inb v66 v70 v74 v78 v82 v86 v90 v94 v98 v102 v106 v110 v114 v118 v122 v126 v130 v134 v138 v142 v146 v150 v154 v158 v162 v166 v170 v174 v178 v182 v186 v190 v213 k0_hw41 k0_h2)
theorem k0_off53_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw41 : k0_chk41 v66 v70 v74 v78 v82 v86 v90 v94 v98 v102 v106 v110 v114 v118 v122 v126 v130 v134 v138 v142 v146 v150 v154 v158 v162 v166 v170 v174 v178 v182 v186 v190 v213), ∀ (k0_h2 : k0_cond2 v66 v70 v74 v78 v82 v86 v90 v94 v98 v102 v106 v110 v114 v118 v122 v126 v130 v134 v138 v142 v146 v150 v154 v158 v162 v166 v170 v174 v178 v182 v186 v190 = 1#1), ∀ a, (k0_off53 v213) a + S1x22x1536.size a ≤ S32x22x1536.size a := fun v66 v70 v74 v78 v82 v86 v90 v94 v98 v102 v106 v110 v114 v118 v122 v126 v130 v134 v138 v142 v146 v150 v154 v158 v162 v166 v170 v174 v178 v182 v186 v190 v213 k0_hw41 k0_h2 => k0_hw41.2.2.1 k0_h2
theorem k0_off53_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw41 : k0_chk41 v66 v70 v74 v78 v82 v86 v90 v94 v98 v102 v106 v110 v114 v118 v122 v126 v130 v134 v138 v142 v146 v150 v154 v158 v162 v166 v170 v174 v178 v182 v186 v190 v213), ∀ (k0_h2 : k0_cond2 v66 v70 v74 v78 v82 v86 v90 v94 v98 v102 v106 v110 v114 v118 v122 v126 v130 v134 v138 v142 v146 v150 v154 v158 v162 v166 v170 v174 v178 v182 v186 v190 = 1#1), (Rect.unit (s := S32x22x1536) (k0_off53 v213) S1x22x1536.size (k0_off53_inb v66 v70 v74 v78 v82 v86 v90 v94 v98 v102 v106 v110 v114 v118 v122 v126 v130 v134 v138 v142 v146 v150 v154 v158 v162 v166 v170 v174 v178 v182 v186 v190 v213 k0_hw41 k0_h2)).WholeWords (EltTy.packing .bf16) := fun v66 v70 v74 v78 v82 v86 v90 v94 v98 v102 v106 v110 v114 v118 v122 v126 v130 v134 v138 v142 v146 v150 v154 v158 v162 v166 v170 v174 v178 v182 v186 v190 v213 k0_hw41 k0_h2 => k0_hw41.2.2.2.1 k0_h2 (k0_off53_inb v66 v70 v74 v78 v82 v86 v90 v94 v98 v102 v106 v110 v114 v118 v122 v126 v130 v134 v138 v142 v146 v150 v154 v158 v162 v166 v170 v174 v178 v182 v186 v190 v213 k0_hw41 k0_h2)
theorem k0_off54_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw41 : k0_chk41 v66 v70 v74 v78 v82 v86 v90 v94 v98 v102 v106 v110 v114 v118 v122 v126 v130 v134 v138 v142 v146 v150 v154 v158 v162 v166 v170 v174 v178 v182 v186 v190 v213), ∀ (k0_h2 : k0_cond2 v66 v70 v74 v78 v82 v86 v90 v94 v98 v102 v106 v110 v114 v118 v122 v126 v130 v134 v138 v142 v146 v150 v154 v158 v162 v166 v170 v174 v178 v182 v186 v190 = 1#1), ∀ a, (k0_off54 v213) a + S1x384x2816.size a ≤ S32x384x2816.size a := fun v66 v70 v74 v78 v82 v86 v90 v94 v98 v102 v106 v110 v114 v118 v122 v126 v130 v134 v138 v142 v146 v150 v154 v158 v162 v166 v170 v174 v178 v182 v186 v190 v213 k0_hw41 k0_h2 => k0_hw41.2.2.2.2.1 k0_h2
theorem k0_off54_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw41 : k0_chk41 v66 v70 v74 v78 v82 v86 v90 v94 v98 v102 v106 v110 v114 v118 v122 v126 v130 v134 v138 v142 v146 v150 v154 v158 v162 v166 v170 v174 v178 v182 v186 v190 v213), ∀ (k0_h2 : k0_cond2 v66 v70 v74 v78 v82 v86 v90 v94 v98 v102 v106 v110 v114 v118 v122 v126 v130 v134 v138 v142 v146 v150 v154 v158 v162 v166 v170 v174 v178 v182 v186 v190 = 1#1), (Rect.unit (s := S32x384x2816) (k0_off54 v213) S1x384x2816.size (k0_off54_inb v66 v70 v74 v78 v82 v86 v90 v94 v98 v102 v106 v110 v114 v118 v122 v126 v130 v134 v138 v142 v146 v150 v154 v158 v162 v166 v170 v174 v178 v182 v186 v190 v213 k0_hw41 k0_h2)).WholeWords (EltTy.packing .i8) := fun v66 v70 v74 v78 v82 v86 v90 v94 v98 v102 v106 v110 v114 v118 v122 v126 v130 v134 v138 v142 v146 v150 v154 v158 v162 v166 v170 v174 v178 v182 v186 v190 v213 k0_hw41 k0_h2 => k0_hw41.2.2.2.2.2.1 k0_h2 (k0_off54_inb v66 v70 v74 v78 v82 v86 v90 v94 v98 v102 v106 v110 v114 v118 v122 v126 v130 v134 v138 v142 v146 v150 v154 v158 v162 v166 v170 v174 v178 v182 v186 v190 v213 k0_hw41 k0_h2)
theorem k0_off55_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw41 : k0_chk41 v66 v70 v74 v78 v82 v86 v90 v94 v98 v102 v106 v110 v114 v118 v122 v126 v130 v134 v138 v142 v146 v150 v154 v158 v162 v166 v170 v174 v178 v182 v186 v190 v213), ∀ (k0_h2 : k0_cond2 v66 v70 v74 v78 v82 v86 v90 v94 v98 v102 v106 v110 v114 v118 v122 v126 v130 v134 v138 v142 v146 v150 v154 v158 v162 v166 v170 v174 v178 v182 v186 v190 = 1#1), ∀ a, (k0_off55 v213) a + S1x6x2816.size a ≤ S32x6x2816.size a := fun v66 v70 v74 v78 v82 v86 v90 v94 v98 v102 v106 v110 v114 v118 v122 v126 v130 v134 v138 v142 v146 v150 v154 v158 v162 v166 v170 v174 v178 v182 v186 v190 v213 k0_hw41 k0_h2 => k0_hw41.2.2.2.2.2.2.1 k0_h2
theorem k0_off55_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw41 : k0_chk41 v66 v70 v74 v78 v82 v86 v90 v94 v98 v102 v106 v110 v114 v118 v122 v126 v130 v134 v138 v142 v146 v150 v154 v158 v162 v166 v170 v174 v178 v182 v186 v190 v213), ∀ (k0_h2 : k0_cond2 v66 v70 v74 v78 v82 v86 v90 v94 v98 v102 v106 v110 v114 v118 v122 v126 v130 v134 v138 v142 v146 v150 v154 v158 v162 v166 v170 v174 v178 v182 v186 v190 = 1#1), (Rect.unit (s := S32x6x2816) (k0_off55 v213) S1x6x2816.size (k0_off55_inb v66 v70 v74 v78 v82 v86 v90 v94 v98 v102 v106 v110 v114 v118 v122 v126 v130 v134 v138 v142 v146 v150 v154 v158 v162 v166 v170 v174 v178 v182 v186 v190 v213 k0_hw41 k0_h2)).WholeWords (EltTy.packing .bf16) := fun v66 v70 v74 v78 v82 v86 v90 v94 v98 v102 v106 v110 v114 v118 v122 v126 v130 v134 v138 v142 v146 v150 v154 v158 v162 v166 v170 v174 v178 v182 v186 v190 v213 k0_hw41 k0_h2 => k0_hw41.2.2.2.2.2.2.2 k0_h2 (k0_off55_inb v66 v70 v74 v78 v82 v86 v90 v94 v98 v102 v106 v110 v114 v118 v122 v126 v130 v134 v138 v142 v146 v150 v154 v158 v162 v166 v170 v174 v178 v182 v186 v190 v213 k0_hw41 k0_h2)

def k0_off56 (v213 : BitVec 32) : Fin 3 → Nat :=
  let c0_i32_124 : BitVec 32 := 0#32
  let c0_i32_125 : BitVec 32 := 0#32
  ![v213.toNat, 0, 0]
def k0_cond3 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) : BitVec 1 :=
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let c2_i32_105 : BitVec 32 := 2#32
  let v198 : BitVec 1 := Scalar.cmpi .sgt v191 c2_i32_105
  let v199 : BitVec 32 := Scalar.extui v198
  let c0_i32_106 : BitVec 32 := 0#32
  let v200 : BitVec 1 := Scalar.cmpi .ne v199 c0_i32_106
  v200

def k0_off57 (v213 : BitVec 32) : Fin 3 → Nat :=
  let c0_i32_131 : BitVec 32 := 0#32
  let c0_i32_132 : BitVec 32 := 0#32
  ![v213.toNat, 0, 0]
def k0_off58 (v213 : BitVec 32) : Fin 3 → Nat :=
  let c0_i32_138 : BitVec 32 := 0#32
  let c0_i32_139 : BitVec 32 := 0#32
  ![v213.toNat, 0, 0]
def k0_off59 (v213 : BitVec 32) : Fin 3 → Nat :=
  let c0_i32_145 : BitVec 32 := 0#32
  let c0_i32_146 : BitVec 32 := 0#32
  ![v213.toNat, 0, 0]

def k0_chk42 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) : Prop :=
  (∀ (k0_h3 : k0_cond3 v66 v70 v74 v78 v82 v86 v90 v94 v98 v102 v106 v110 v114 v118 v122 v126 v130 v134 v138 v142 v146 v150 v154 v158 v162 v166 v170 v174 v178 v182 v186 v190 = 1#1), ∀ a, (k0_off56 v213) a + S1x1408x1536.size a ≤ S32x1408x1536.size a) ∧
  (∀ (k0_h3 : k0_cond3 v66 v70 v74 v78 v82 v86 v90 v94 v98 v102 v106 v110 v114 v118 v122 v126 v130 v134 v138 v142 v146 v150 v154 v158 v162 v166 v170 v174 v178 v182 v186 v190 = 1#1), ∀ (hinb : ∀ a, (k0_off56 v213) a + S1x1408x1536.size a ≤ S32x1408x1536.size a), (Rect.unit (s := S32x1408x1536) (k0_off56 v213) S1x1408x1536.size hinb).WholeWords (EltTy.packing .i8)) ∧
  (∀ (k0_h3 : k0_cond3 v66 v70 v74 v78 v82 v86 v90 v94 v98 v102 v106 v110 v114 v118 v122 v126 v130 v134 v138 v142 v146 v150 v154 v158 v162 v166 v170 v174 v178 v182 v186 v190 = 1#1), ∀ a, (k0_off57 v213) a + S1x22x1536.size a ≤ S32x22x1536.size a) ∧
  (∀ (k0_h3 : k0_cond3 v66 v70 v74 v78 v82 v86 v90 v94 v98 v102 v106 v110 v114 v118 v122 v126 v130 v134 v138 v142 v146 v150 v154 v158 v162 v166 v170 v174 v178 v182 v186 v190 = 1#1), ∀ (hinb : ∀ a, (k0_off57 v213) a + S1x22x1536.size a ≤ S32x22x1536.size a), (Rect.unit (s := S32x22x1536) (k0_off57 v213) S1x22x1536.size hinb).WholeWords (EltTy.packing .bf16)) ∧
  (∀ (k0_h3 : k0_cond3 v66 v70 v74 v78 v82 v86 v90 v94 v98 v102 v106 v110 v114 v118 v122 v126 v130 v134 v138 v142 v146 v150 v154 v158 v162 v166 v170 v174 v178 v182 v186 v190 = 1#1), ∀ a, (k0_off58 v213) a + S1x384x2816.size a ≤ S32x384x2816.size a) ∧
  (∀ (k0_h3 : k0_cond3 v66 v70 v74 v78 v82 v86 v90 v94 v98 v102 v106 v110 v114 v118 v122 v126 v130 v134 v138 v142 v146 v150 v154 v158 v162 v166 v170 v174 v178 v182 v186 v190 = 1#1), ∀ (hinb : ∀ a, (k0_off58 v213) a + S1x384x2816.size a ≤ S32x384x2816.size a), (Rect.unit (s := S32x384x2816) (k0_off58 v213) S1x384x2816.size hinb).WholeWords (EltTy.packing .i8)) ∧
  (∀ (k0_h3 : k0_cond3 v66 v70 v74 v78 v82 v86 v90 v94 v98 v102 v106 v110 v114 v118 v122 v126 v130 v134 v138 v142 v146 v150 v154 v158 v162 v166 v170 v174 v178 v182 v186 v190 = 1#1), ∀ a, (k0_off59 v213) a + S1x6x2816.size a ≤ S32x6x2816.size a) ∧
  (∀ (k0_h3 : k0_cond3 v66 v70 v74 v78 v82 v86 v90 v94 v98 v102 v106 v110 v114 v118 v122 v126 v130 v134 v138 v142 v146 v150 v154 v158 v162 v166 v170 v174 v178 v182 v186 v190 = 1#1), ∀ (hinb : ∀ a, (k0_off59 v213) a + S1x6x2816.size a ≤ S32x6x2816.size a), (Rect.unit (s := S32x6x2816) (k0_off59 v213) S1x6x2816.size hinb).WholeWords (EltTy.packing .bf16))
theorem k0_off56_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw42 : k0_chk42 v66 v70 v74 v78 v82 v86 v90 v94 v98 v102 v106 v110 v114 v118 v122 v126 v130 v134 v138 v142 v146 v150 v154 v158 v162 v166 v170 v174 v178 v182 v186 v190 v213), ∀ (k0_h3 : k0_cond3 v66 v70 v74 v78 v82 v86 v90 v94 v98 v102 v106 v110 v114 v118 v122 v126 v130 v134 v138 v142 v146 v150 v154 v158 v162 v166 v170 v174 v178 v182 v186 v190 = 1#1), ∀ a, (k0_off56 v213) a + S1x1408x1536.size a ≤ S32x1408x1536.size a := fun v66 v70 v74 v78 v82 v86 v90 v94 v98 v102 v106 v110 v114 v118 v122 v126 v130 v134 v138 v142 v146 v150 v154 v158 v162 v166 v170 v174 v178 v182 v186 v190 v213 k0_hw42 k0_h3 => k0_hw42.1 k0_h3
theorem k0_off56_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw42 : k0_chk42 v66 v70 v74 v78 v82 v86 v90 v94 v98 v102 v106 v110 v114 v118 v122 v126 v130 v134 v138 v142 v146 v150 v154 v158 v162 v166 v170 v174 v178 v182 v186 v190 v213), ∀ (k0_h3 : k0_cond3 v66 v70 v74 v78 v82 v86 v90 v94 v98 v102 v106 v110 v114 v118 v122 v126 v130 v134 v138 v142 v146 v150 v154 v158 v162 v166 v170 v174 v178 v182 v186 v190 = 1#1), (Rect.unit (s := S32x1408x1536) (k0_off56 v213) S1x1408x1536.size (k0_off56_inb v66 v70 v74 v78 v82 v86 v90 v94 v98 v102 v106 v110 v114 v118 v122 v126 v130 v134 v138 v142 v146 v150 v154 v158 v162 v166 v170 v174 v178 v182 v186 v190 v213 k0_hw42 k0_h3)).WholeWords (EltTy.packing .i8) := fun v66 v70 v74 v78 v82 v86 v90 v94 v98 v102 v106 v110 v114 v118 v122 v126 v130 v134 v138 v142 v146 v150 v154 v158 v162 v166 v170 v174 v178 v182 v186 v190 v213 k0_hw42 k0_h3 => k0_hw42.2.1 k0_h3 (k0_off56_inb v66 v70 v74 v78 v82 v86 v90 v94 v98 v102 v106 v110 v114 v118 v122 v126 v130 v134 v138 v142 v146 v150 v154 v158 v162 v166 v170 v174 v178 v182 v186 v190 v213 k0_hw42 k0_h3)
theorem k0_off57_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw42 : k0_chk42 v66 v70 v74 v78 v82 v86 v90 v94 v98 v102 v106 v110 v114 v118 v122 v126 v130 v134 v138 v142 v146 v150 v154 v158 v162 v166 v170 v174 v178 v182 v186 v190 v213), ∀ (k0_h3 : k0_cond3 v66 v70 v74 v78 v82 v86 v90 v94 v98 v102 v106 v110 v114 v118 v122 v126 v130 v134 v138 v142 v146 v150 v154 v158 v162 v166 v170 v174 v178 v182 v186 v190 = 1#1), ∀ a, (k0_off57 v213) a + S1x22x1536.size a ≤ S32x22x1536.size a := fun v66 v70 v74 v78 v82 v86 v90 v94 v98 v102 v106 v110 v114 v118 v122 v126 v130 v134 v138 v142 v146 v150 v154 v158 v162 v166 v170 v174 v178 v182 v186 v190 v213 k0_hw42 k0_h3 => k0_hw42.2.2.1 k0_h3
theorem k0_off57_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw42 : k0_chk42 v66 v70 v74 v78 v82 v86 v90 v94 v98 v102 v106 v110 v114 v118 v122 v126 v130 v134 v138 v142 v146 v150 v154 v158 v162 v166 v170 v174 v178 v182 v186 v190 v213), ∀ (k0_h3 : k0_cond3 v66 v70 v74 v78 v82 v86 v90 v94 v98 v102 v106 v110 v114 v118 v122 v126 v130 v134 v138 v142 v146 v150 v154 v158 v162 v166 v170 v174 v178 v182 v186 v190 = 1#1), (Rect.unit (s := S32x22x1536) (k0_off57 v213) S1x22x1536.size (k0_off57_inb v66 v70 v74 v78 v82 v86 v90 v94 v98 v102 v106 v110 v114 v118 v122 v126 v130 v134 v138 v142 v146 v150 v154 v158 v162 v166 v170 v174 v178 v182 v186 v190 v213 k0_hw42 k0_h3)).WholeWords (EltTy.packing .bf16) := fun v66 v70 v74 v78 v82 v86 v90 v94 v98 v102 v106 v110 v114 v118 v122 v126 v130 v134 v138 v142 v146 v150 v154 v158 v162 v166 v170 v174 v178 v182 v186 v190 v213 k0_hw42 k0_h3 => k0_hw42.2.2.2.1 k0_h3 (k0_off57_inb v66 v70 v74 v78 v82 v86 v90 v94 v98 v102 v106 v110 v114 v118 v122 v126 v130 v134 v138 v142 v146 v150 v154 v158 v162 v166 v170 v174 v178 v182 v186 v190 v213 k0_hw42 k0_h3)
theorem k0_off58_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw42 : k0_chk42 v66 v70 v74 v78 v82 v86 v90 v94 v98 v102 v106 v110 v114 v118 v122 v126 v130 v134 v138 v142 v146 v150 v154 v158 v162 v166 v170 v174 v178 v182 v186 v190 v213), ∀ (k0_h3 : k0_cond3 v66 v70 v74 v78 v82 v86 v90 v94 v98 v102 v106 v110 v114 v118 v122 v126 v130 v134 v138 v142 v146 v150 v154 v158 v162 v166 v170 v174 v178 v182 v186 v190 = 1#1), ∀ a, (k0_off58 v213) a + S1x384x2816.size a ≤ S32x384x2816.size a := fun v66 v70 v74 v78 v82 v86 v90 v94 v98 v102 v106 v110 v114 v118 v122 v126 v130 v134 v138 v142 v146 v150 v154 v158 v162 v166 v170 v174 v178 v182 v186 v190 v213 k0_hw42 k0_h3 => k0_hw42.2.2.2.2.1 k0_h3
theorem k0_off58_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw42 : k0_chk42 v66 v70 v74 v78 v82 v86 v90 v94 v98 v102 v106 v110 v114 v118 v122 v126 v130 v134 v138 v142 v146 v150 v154 v158 v162 v166 v170 v174 v178 v182 v186 v190 v213), ∀ (k0_h3 : k0_cond3 v66 v70 v74 v78 v82 v86 v90 v94 v98 v102 v106 v110 v114 v118 v122 v126 v130 v134 v138 v142 v146 v150 v154 v158 v162 v166 v170 v174 v178 v182 v186 v190 = 1#1), (Rect.unit (s := S32x384x2816) (k0_off58 v213) S1x384x2816.size (k0_off58_inb v66 v70 v74 v78 v82 v86 v90 v94 v98 v102 v106 v110 v114 v118 v122 v126 v130 v134 v138 v142 v146 v150 v154 v158 v162 v166 v170 v174 v178 v182 v186 v190 v213 k0_hw42 k0_h3)).WholeWords (EltTy.packing .i8) := fun v66 v70 v74 v78 v82 v86 v90 v94 v98 v102 v106 v110 v114 v118 v122 v126 v130 v134 v138 v142 v146 v150 v154 v158 v162 v166 v170 v174 v178 v182 v186 v190 v213 k0_hw42 k0_h3 => k0_hw42.2.2.2.2.2.1 k0_h3 (k0_off58_inb v66 v70 v74 v78 v82 v86 v90 v94 v98 v102 v106 v110 v114 v118 v122 v126 v130 v134 v138 v142 v146 v150 v154 v158 v162 v166 v170 v174 v178 v182 v186 v190 v213 k0_hw42 k0_h3)
theorem k0_off59_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw42 : k0_chk42 v66 v70 v74 v78 v82 v86 v90 v94 v98 v102 v106 v110 v114 v118 v122 v126 v130 v134 v138 v142 v146 v150 v154 v158 v162 v166 v170 v174 v178 v182 v186 v190 v213), ∀ (k0_h3 : k0_cond3 v66 v70 v74 v78 v82 v86 v90 v94 v98 v102 v106 v110 v114 v118 v122 v126 v130 v134 v138 v142 v146 v150 v154 v158 v162 v166 v170 v174 v178 v182 v186 v190 = 1#1), ∀ a, (k0_off59 v213) a + S1x6x2816.size a ≤ S32x6x2816.size a := fun v66 v70 v74 v78 v82 v86 v90 v94 v98 v102 v106 v110 v114 v118 v122 v126 v130 v134 v138 v142 v146 v150 v154 v158 v162 v166 v170 v174 v178 v182 v186 v190 v213 k0_hw42 k0_h3 => k0_hw42.2.2.2.2.2.2.1 k0_h3
theorem k0_off59_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (v213 : BitVec 32) (k0_hw42 : k0_chk42 v66 v70 v74 v78 v82 v86 v90 v94 v98 v102 v106 v110 v114 v118 v122 v126 v130 v134 v138 v142 v146 v150 v154 v158 v162 v166 v170 v174 v178 v182 v186 v190 v213), ∀ (k0_h3 : k0_cond3 v66 v70 v74 v78 v82 v86 v90 v94 v98 v102 v106 v110 v114 v118 v122 v126 v130 v134 v138 v142 v146 v150 v154 v158 v162 v166 v170 v174 v178 v182 v186 v190 = 1#1), (Rect.unit (s := S32x6x2816) (k0_off59 v213) S1x6x2816.size (k0_off59_inb v66 v70 v74 v78 v82 v86 v90 v94 v98 v102 v106 v110 v114 v118 v122 v126 v130 v134 v138 v142 v146 v150 v154 v158 v162 v166 v170 v174 v178 v182 v186 v190 v213 k0_hw42 k0_h3)).WholeWords (EltTy.packing .bf16) := fun v66 v70 v74 v78 v82 v86 v90 v94 v98 v102 v106 v110 v114 v118 v122 v126 v130 v134 v138 v142 v146 v150 v154 v158 v162 v166 v170 v174 v178 v182 v186 v190 v213 k0_hw42 k0_h3 => k0_hw42.2.2.2.2.2.2.2 k0_h3 (k0_off59_inb v66 v70 v74 v78 v82 v86 v90 v94 v98 v102 v106 v110 v114 v118 v122 v126 v130 v134 v138 v142 v146 v150 v154 v158 v162 v166 v170 v174 v178 v182 v186 v190 v213 k0_hw42 k0_h3)

@[reducible] def k0_t2_loop (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) : Scf.Loop 32 :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_112 : BitVec 32 := 1#32
  ⟨c0_i32_110, v209, c1_i32_112⟩

def k0_off60 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 1 → Nat :=
  let c0_i32_110 : BitVec 32 := 0#32
  let c1_i32_112 : BitVec 32 := 1#32
  let arg16 : BitVec 32 := Scf.iv c0_i32_110 c1_i32_112 k0_t2
  let v214 : Index := Scalar.indexCast arg16
  ![v214.toNat]
def k0_off61 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 2 → Nat :=
  let c0_i32_119 : BitVec 32 := 0#32
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  ![0, v213.toNat]
def k0_off62 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_120 : BitVec 32 := 0#32
  let c0_i32_121 : BitVec 32 := 0#32
  ![v213.toNat, 0, 0]
def k0_off63 (v215 : BitVec 32) : Fin 3 → Nat :=
  let c0_i32_122 : BitVec 32 := 0#32
  let c0_i32_123 : BitVec 32 := 0#32
  ![v215.toNat, 0, 0]

def k0_off64 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 2 → Nat :=
  let c1_i32_124 : BitVec 32 := 1#32
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  ![1, v213.toNat]
def k0_off65 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_125 : BitVec 32 := 0#32
  let c0_i32_126 : BitVec 32 := 0#32
  ![v213.toNat, 0, 0]
def k0_off66 (v215 : BitVec 32) : Fin 3 → Nat :=
  let c0_i32_127 : BitVec 32 := 0#32
  let c0_i32_128 : BitVec 32 := 0#32
  ![v215.toNat, 0, 0]
def k0_off67 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 2 → Nat :=
  let c2_i32_129 : BitVec 32 := 2#32
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  ![2, v213.toNat]
def k0_off68 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_130 : BitVec 32 := 0#32
  let c0_i32_131 : BitVec 32 := 0#32
  ![v213.toNat, 0, 0]
def k0_off69 (v215 : BitVec 32) : Fin 3 → Nat :=
  let c0_i32_132 : BitVec 32 := 0#32
  let c0_i32_133 : BitVec 32 := 0#32
  ![v215.toNat, 0, 0]
def k0_off70 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 2 → Nat :=
  let c3_i32_134 : BitVec 32 := 3#32
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  ![3, v213.toNat]
def k0_off71 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_135 : BitVec 32 := 0#32
  let c0_i32_136 : BitVec 32 := 0#32
  ![v213.toNat, 0, 0]
def k0_off72 (v215 : BitVec 32) : Fin 3 → Nat :=
  let c0_i32_137 : BitVec 32 := 0#32
  let c0_i32_138 : BitVec 32 := 0#32
  ![v215.toNat, 0, 0]

def k0_chk44 (v215 : BitVec 32) : Prop :=
  (∀ a, (k0_off63 v215) a + S1x1408x1536.size a ≤ S32x1408x1536.size a) ∧
  (∀ (hinb : ∀ a, (k0_off63 v215) a + S1x1408x1536.size a ≤ S32x1408x1536.size a), (Rect.unit (s := S32x1408x1536) (k0_off63 v215) S1x1408x1536.size hinb).WholeWords (EltTy.packing .i8)) ∧
  (∀ a, (k0_off66 v215) a + S1x22x1536.size a ≤ S32x22x1536.size a) ∧
  (∀ (hinb : ∀ a, (k0_off66 v215) a + S1x22x1536.size a ≤ S32x22x1536.size a), (Rect.unit (s := S32x22x1536) (k0_off66 v215) S1x22x1536.size hinb).WholeWords (EltTy.packing .bf16)) ∧
  (∀ a, (k0_off69 v215) a + S1x384x2816.size a ≤ S32x384x2816.size a) ∧
  (∀ (hinb : ∀ a, (k0_off69 v215) a + S1x384x2816.size a ≤ S32x384x2816.size a), (Rect.unit (s := S32x384x2816) (k0_off69 v215) S1x384x2816.size hinb).WholeWords (EltTy.packing .i8)) ∧
  (∀ a, (k0_off72 v215) a + S1x6x2816.size a ≤ S32x6x2816.size a) ∧
  (∀ (hinb : ∀ a, (k0_off72 v215) a + S1x6x2816.size a ≤ S32x6x2816.size a), (Rect.unit (s := S32x6x2816) (k0_off72 v215) S1x6x2816.size hinb).WholeWords (EltTy.packing .bf16))
theorem k0_off63_inb : ∀ (v215 : BitVec 32) (k0_hw44 : k0_chk44 v215), ∀ a, (k0_off63 v215) a + S1x1408x1536.size a ≤ S32x1408x1536.size a := fun v215 k0_hw44 => k0_hw44.1
theorem k0_off63_wordsi8 : ∀ (v215 : BitVec 32) (k0_hw44 : k0_chk44 v215), (Rect.unit (s := S32x1408x1536) (k0_off63 v215) S1x1408x1536.size (k0_off63_inb v215 k0_hw44)).WholeWords (EltTy.packing .i8) := fun v215 k0_hw44 => k0_hw44.2.1 (k0_off63_inb v215 k0_hw44)
theorem k0_off66_inb : ∀ (v215 : BitVec 32) (k0_hw44 : k0_chk44 v215), ∀ a, (k0_off66 v215) a + S1x22x1536.size a ≤ S32x22x1536.size a := fun v215 k0_hw44 => k0_hw44.2.2.1
theorem k0_off66_wordsbf16 : ∀ (v215 : BitVec 32) (k0_hw44 : k0_chk44 v215), (Rect.unit (s := S32x22x1536) (k0_off66 v215) S1x22x1536.size (k0_off66_inb v215 k0_hw44)).WholeWords (EltTy.packing .bf16) := fun v215 k0_hw44 => k0_hw44.2.2.2.1 (k0_off66_inb v215 k0_hw44)
theorem k0_off69_inb : ∀ (v215 : BitVec 32) (k0_hw44 : k0_chk44 v215), ∀ a, (k0_off69 v215) a + S1x384x2816.size a ≤ S32x384x2816.size a := fun v215 k0_hw44 => k0_hw44.2.2.2.2.1
theorem k0_off69_wordsi8 : ∀ (v215 : BitVec 32) (k0_hw44 : k0_chk44 v215), (Rect.unit (s := S32x384x2816) (k0_off69 v215) S1x384x2816.size (k0_off69_inb v215 k0_hw44)).WholeWords (EltTy.packing .i8) := fun v215 k0_hw44 => k0_hw44.2.2.2.2.2.1 (k0_off69_inb v215 k0_hw44)
theorem k0_off72_inb : ∀ (v215 : BitVec 32) (k0_hw44 : k0_chk44 v215), ∀ a, (k0_off72 v215) a + S1x6x2816.size a ≤ S32x6x2816.size a := fun v215 k0_hw44 => k0_hw44.2.2.2.2.2.2.1
theorem k0_off72_wordsbf16 : ∀ (v215 : BitVec 32) (k0_hw44 : k0_chk44 v215), (Rect.unit (s := S32x6x2816) (k0_off72 v215) S1x6x2816.size (k0_off72_inb v215 k0_hw44)).WholeWords (EltTy.packing .bf16) := fun v215 k0_hw44 => k0_hw44.2.2.2.2.2.2.2 (k0_off72_inb v215 k0_hw44)

def k0_off73 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_153 : BitVec 32 := 0#32
  let c0_i32_154 : BitVec 32 := 0#32
  ![v213.toNat, 0, 0]
def k0_off74 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 1 → Nat :=
  let c0_i32_110 : BitVec 32 := 0#32
  let c1_i32_112 : BitVec 32 := 1#32
  let arg16 : BitVec 32 := Scf.iv c0_i32_110 c1_i32_112 k0_t2
  let c3_i32_1949 : BitVec 32 := 3#32
  let v3613 : BitVec 32 := Scalar.addi arg16 c3_i32_1949
  let v3614 : Index := Scalar.indexCast v3613
  ![v3614.toNat]
def k0_cond4 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : BitVec 1 :=
  let c0_i32_110 : BitVec 32 := 0#32
  let c1_i32_112 : BitVec 32 := 1#32
  let arg16 : BitVec 32 := Scf.iv c0_i32_110 c1_i32_112 k0_t2
  let c3_i32_1947 : BitVec 32 := 3#32
  let v3609 : BitVec 32 := Scalar.addi arg16 c3_i32_1947
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v3610 : BitVec 1 := Scalar.cmpi .slt v3609 v191
  let v3611 : BitVec 32 := Scalar.extui v3610
  let c0_i32_1948 : BitVec 32 := 0#32
  let v3612 : BitVec 1 := Scalar.cmpi .ne v3611 c0_i32_1948
  v3612

def k0_off75 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 2 → Nat :=
  let c0_i32_1950 : BitVec 32 := 0#32
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  ![0, v213.toNat]
def k0_off76 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_1951 : BitVec 32 := 0#32
  let c0_i32_1952 : BitVec 32 := 0#32
  ![v213.toNat, 0, 0]
def k0_off77 (v3615 : BitVec 32) : Fin 3 → Nat :=
  let c0_i32_1953 : BitVec 32 := 0#32
  let c0_i32_1954 : BitVec 32 := 0#32
  ![v3615.toNat, 0, 0]

def k0_off78 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 2 → Nat :=
  let c1_i32_1955 : BitVec 32 := 1#32
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  ![1, v213.toNat]
def k0_off79 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_1956 : BitVec 32 := 0#32
  let c0_i32_1957 : BitVec 32 := 0#32
  ![v213.toNat, 0, 0]
def k0_off80 (v3615 : BitVec 32) : Fin 3 → Nat :=
  let c0_i32_1958 : BitVec 32 := 0#32
  let c0_i32_1959 : BitVec 32 := 0#32
  ![v3615.toNat, 0, 0]
def k0_off81 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 2 → Nat :=
  let c2_i32_1960 : BitVec 32 := 2#32
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  ![2, v213.toNat]
def k0_off82 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_1961 : BitVec 32 := 0#32
  let c0_i32_1962 : BitVec 32 := 0#32
  ![v213.toNat, 0, 0]
def k0_off83 (v3615 : BitVec 32) : Fin 3 → Nat :=
  let c0_i32_1963 : BitVec 32 := 0#32
  let c0_i32_1964 : BitVec 32 := 0#32
  ![v3615.toNat, 0, 0]
def k0_off84 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 2 → Nat :=
  let c3_i32_1965 : BitVec 32 := 3#32
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  ![3, v213.toNat]
def k0_off85 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c1_i32_112 : BitVec 32 := 1#32
  let arg16 : BitVec 32 := Scf.iv c0_i32_110 c1_i32_112 k0_t2
  let c3_i32_118 : BitVec 32 := 3#32
  let v213 : BitVec 32 := Scalar.remsi arg16 c3_i32_118
  let c0_i32_1966 : BitVec 32 := 0#32
  let c0_i32_1967 : BitVec 32 := 0#32
  ![v213.toNat, 0, 0]
def k0_off86 (v3615 : BitVec 32) : Fin 3 → Nat :=
  let c0_i32_1968 : BitVec 32 := 0#32
  let c0_i32_1969 : BitVec 32 := 0#32
  ![v3615.toNat, 0, 0]

def k0_chk45 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) : Prop :=
  (∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off77 v3615) a + S1x1408x1536.size a ≤ S32x1408x1536.size a) ∧
  (∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ (hinb : ∀ a, (k0_off77 v3615) a + S1x1408x1536.size a ≤ S32x1408x1536.size a), (Rect.unit (s := S32x1408x1536) (k0_off77 v3615) S1x1408x1536.size hinb).WholeWords (EltTy.packing .i8)) ∧
  (∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off80 v3615) a + S1x22x1536.size a ≤ S32x22x1536.size a) ∧
  (∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ (hinb : ∀ a, (k0_off80 v3615) a + S1x22x1536.size a ≤ S32x22x1536.size a), (Rect.unit (s := S32x22x1536) (k0_off80 v3615) S1x22x1536.size hinb).WholeWords (EltTy.packing .bf16)) ∧
  (∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off83 v3615) a + S1x384x2816.size a ≤ S32x384x2816.size a) ∧
  (∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ (hinb : ∀ a, (k0_off83 v3615) a + S1x384x2816.size a ≤ S32x384x2816.size a), (Rect.unit (s := S32x384x2816) (k0_off83 v3615) S1x384x2816.size hinb).WholeWords (EltTy.packing .i8)) ∧
  (∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off86 v3615) a + S1x6x2816.size a ≤ S32x6x2816.size a) ∧
  (∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ (hinb : ∀ a, (k0_off86 v3615) a + S1x6x2816.size a ≤ S32x6x2816.size a), (Rect.unit (s := S32x6x2816) (k0_off86 v3615) S1x6x2816.size hinb).WholeWords (EltTy.packing .bf16))
theorem k0_off77_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) (k0_hw45 : k0_chk45 v66 v70 v74 v78 v82 v86 v90 v94 v98 v102 v106 v110 v114 v118 v122 v126 v130 v134 v138 v142 v146 v150 v154 v158 v162 v166 v170 v174 v178 v182 v186 v190 k0_t2 v3615), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off77 v3615) a + S1x1408x1536.size a ≤ S32x1408x1536.size a := fun v66 v70 v74 v78 v82 v86 v90 v94 v98 v102 v106 v110 v114 v118 v122 v126 v130 v134 v138 v142 v146 v150 v154 v158 v162 v166 v170 v174 v178 v182 v186 v190 k0_t2 v3615 k0_hw45 k0_h4 => k0_hw45.1 k0_h4
theorem k0_off77_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) (k0_hw45 : k0_chk45 v66 v70 v74 v78 v82 v86 v90 v94 v98 v102 v106 v110 v114 v118 v122 v126 v130 v134 v138 v142 v146 v150 v154 v158 v162 v166 v170 v174 v178 v182 v186 v190 k0_t2 v3615), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), (Rect.unit (s := S32x1408x1536) (k0_off77 v3615) S1x1408x1536.size (k0_off77_inb v66 v70 v74 v78 v82 v86 v90 v94 v98 v102 v106 v110 v114 v118 v122 v126 v130 v134 v138 v142 v146 v150 v154 v158 v162 v166 v170 v174 v178 v182 v186 v190 k0_t2 v3615 k0_hw45 k0_h4)).WholeWords (EltTy.packing .i8) := fun v66 v70 v74 v78 v82 v86 v90 v94 v98 v102 v106 v110 v114 v118 v122 v126 v130 v134 v138 v142 v146 v150 v154 v158 v162 v166 v170 v174 v178 v182 v186 v190 k0_t2 v3615 k0_hw45 k0_h4 => k0_hw45.2.1 k0_h4 (k0_off77_inb v66 v70 v74 v78 v82 v86 v90 v94 v98 v102 v106 v110 v114 v118 v122 v126 v130 v134 v138 v142 v146 v150 v154 v158 v162 v166 v170 v174 v178 v182 v186 v190 k0_t2 v3615 k0_hw45 k0_h4)
theorem k0_off80_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) (k0_hw45 : k0_chk45 v66 v70 v74 v78 v82 v86 v90 v94 v98 v102 v106 v110 v114 v118 v122 v126 v130 v134 v138 v142 v146 v150 v154 v158 v162 v166 v170 v174 v178 v182 v186 v190 k0_t2 v3615), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off80 v3615) a + S1x22x1536.size a ≤ S32x22x1536.size a := fun v66 v70 v74 v78 v82 v86 v90 v94 v98 v102 v106 v110 v114 v118 v122 v126 v130 v134 v138 v142 v146 v150 v154 v158 v162 v166 v170 v174 v178 v182 v186 v190 k0_t2 v3615 k0_hw45 k0_h4 => k0_hw45.2.2.1 k0_h4
theorem k0_off80_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) (k0_hw45 : k0_chk45 v66 v70 v74 v78 v82 v86 v90 v94 v98 v102 v106 v110 v114 v118 v122 v126 v130 v134 v138 v142 v146 v150 v154 v158 v162 v166 v170 v174 v178 v182 v186 v190 k0_t2 v3615), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), (Rect.unit (s := S32x22x1536) (k0_off80 v3615) S1x22x1536.size (k0_off80_inb v66 v70 v74 v78 v82 v86 v90 v94 v98 v102 v106 v110 v114 v118 v122 v126 v130 v134 v138 v142 v146 v150 v154 v158 v162 v166 v170 v174 v178 v182 v186 v190 k0_t2 v3615 k0_hw45 k0_h4)).WholeWords (EltTy.packing .bf16) := fun v66 v70 v74 v78 v82 v86 v90 v94 v98 v102 v106 v110 v114 v118 v122 v126 v130 v134 v138 v142 v146 v150 v154 v158 v162 v166 v170 v174 v178 v182 v186 v190 k0_t2 v3615 k0_hw45 k0_h4 => k0_hw45.2.2.2.1 k0_h4 (k0_off80_inb v66 v70 v74 v78 v82 v86 v90 v94 v98 v102 v106 v110 v114 v118 v122 v126 v130 v134 v138 v142 v146 v150 v154 v158 v162 v166 v170 v174 v178 v182 v186 v190 k0_t2 v3615 k0_hw45 k0_h4)
theorem k0_off83_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) (k0_hw45 : k0_chk45 v66 v70 v74 v78 v82 v86 v90 v94 v98 v102 v106 v110 v114 v118 v122 v126 v130 v134 v138 v142 v146 v150 v154 v158 v162 v166 v170 v174 v178 v182 v186 v190 k0_t2 v3615), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off83 v3615) a + S1x384x2816.size a ≤ S32x384x2816.size a := fun v66 v70 v74 v78 v82 v86 v90 v94 v98 v102 v106 v110 v114 v118 v122 v126 v130 v134 v138 v142 v146 v150 v154 v158 v162 v166 v170 v174 v178 v182 v186 v190 k0_t2 v3615 k0_hw45 k0_h4 => k0_hw45.2.2.2.2.1 k0_h4
theorem k0_off83_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) (k0_hw45 : k0_chk45 v66 v70 v74 v78 v82 v86 v90 v94 v98 v102 v106 v110 v114 v118 v122 v126 v130 v134 v138 v142 v146 v150 v154 v158 v162 v166 v170 v174 v178 v182 v186 v190 k0_t2 v3615), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), (Rect.unit (s := S32x384x2816) (k0_off83 v3615) S1x384x2816.size (k0_off83_inb v66 v70 v74 v78 v82 v86 v90 v94 v98 v102 v106 v110 v114 v118 v122 v126 v130 v134 v138 v142 v146 v150 v154 v158 v162 v166 v170 v174 v178 v182 v186 v190 k0_t2 v3615 k0_hw45 k0_h4)).WholeWords (EltTy.packing .i8) := fun v66 v70 v74 v78 v82 v86 v90 v94 v98 v102 v106 v110 v114 v118 v122 v126 v130 v134 v138 v142 v146 v150 v154 v158 v162 v166 v170 v174 v178 v182 v186 v190 k0_t2 v3615 k0_hw45 k0_h4 => k0_hw45.2.2.2.2.2.1 k0_h4 (k0_off83_inb v66 v70 v74 v78 v82 v86 v90 v94 v98 v102 v106 v110 v114 v118 v122 v126 v130 v134 v138 v142 v146 v150 v154 v158 v162 v166 v170 v174 v178 v182 v186 v190 k0_t2 v3615 k0_hw45 k0_h4)
theorem k0_off86_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) (k0_hw45 : k0_chk45 v66 v70 v74 v78 v82 v86 v90 v94 v98 v102 v106 v110 v114 v118 v122 v126 v130 v134 v138 v142 v146 v150 v154 v158 v162 v166 v170 v174 v178 v182 v186 v190 k0_t2 v3615), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off86 v3615) a + S1x6x2816.size a ≤ S32x6x2816.size a := fun v66 v70 v74 v78 v82 v86 v90 v94 v98 v102 v106 v110 v114 v118 v122 v126 v130 v134 v138 v142 v146 v150 v154 v158 v162 v166 v170 v174 v178 v182 v186 v190 k0_t2 v3615 k0_hw45 k0_h4 => k0_hw45.2.2.2.2.2.2.1 k0_h4
theorem k0_off86_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t2 : Fin (k0_t2_loop v66 v70 v74 v78 v82 v86 v90 v94 v98 v102 v106 v110 v114 v118 v122 v126 v130 v134 v138 v142 v146 v150 v154 v158 v162 v166 v170 v174 v178 v182 v186 v190).trips) (v3615 : BitVec 32) (k0_hw45 : k0_chk45 v66 v70 v74 v78 v82 v86 v90 v94 v98 v102 v106 v110 v114 v118 v122 v126 v130 v134 v138 v142 v146 v150 v154 v158 v162 v166 v170 v174 v178 v182 v186 v190 k0_t2 v3615), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), (Rect.unit (s := S32x6x2816) (k0_off86 v3615) S1x6x2816.size (k0_off86_inb v66 v70 v74 v78 v82 v86 v90 v94 v98 v102 v106 v110 v114 v118 v122 v126 v130 v134 v138 v142 v146 v150 v154 v158 v162 v166 v170 v174 v178 v182 v186 v190 k0_t2 v3615 k0_hw45 k0_h4)).WholeWords (EltTy.packing .bf16) := fun v66 v70 v74 v78 v82 v86 v90 v94 v98 v102 v106 v110 v114 v118 v122 v126 v130 v134 v138 v142 v146 v150 v154 v158 v162 v166 v170 v174 v178 v182 v186 v190 k0_t2 v3615 k0_hw45 k0_h4 => k0_hw45.2.2.2.2.2.2.2 k0_h4 (k0_off86_inb v66 v70 v74 v78 v82 v86 v90 v94 v98 v102 v106 v110 v114 v118 v122 v126 v130 v134 v138 v142 v146 v150 v154 v158 v162 v166 v170 v174 v178 v182 v186 v190 k0_t2 v3615 k0_hw45 k0_h4)

@[reducible] def k0_t3_loop (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) : Scf.Loop 32 :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let v206 : BitVec 32 := Scalar.addi c0_i32_110 v205
  let c1_i32_113 : BitVec 32 := 1#32
  ⟨v209, v206, c1_i32_113⟩
def k0_off87 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 1 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let v214 : Index := Scalar.indexCast arg16
  ![v214.toNat]
def k0_off88 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 2 → Nat :=
  let c0_i32_119 : BitVec 32 := 0#32
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  ![0, v213.toNat]
def k0_off89 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_120 : BitVec 32 := 0#32
  let c0_i32_121 : BitVec 32 := 0#32
  ![v213.toNat, 0, 0]
def k0_off90 (v215 : BitVec 32) : Fin 3 → Nat :=
  let c0_i32_122 : BitVec 32 := 0#32
  let c0_i32_123 : BitVec 32 := 0#32
  ![v215.toNat, 0, 0]

def k0_off91 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 2 → Nat :=
  let c1_i32_124 : BitVec 32 := 1#32
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  ![1, v213.toNat]
def k0_off92 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_125 : BitVec 32 := 0#32
  let c0_i32_126 : BitVec 32 := 0#32
  ![v213.toNat, 0, 0]
def k0_off93 (v215 : BitVec 32) : Fin 3 → Nat :=
  let c0_i32_127 : BitVec 32 := 0#32
  let c0_i32_128 : BitVec 32 := 0#32
  ![v215.toNat, 0, 0]
def k0_off94 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 2 → Nat :=
  let c2_i32_129 : BitVec 32 := 2#32
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  ![2, v213.toNat]
def k0_off95 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_130 : BitVec 32 := 0#32
  let c0_i32_131 : BitVec 32 := 0#32
  ![v213.toNat, 0, 0]
def k0_off96 (v215 : BitVec 32) : Fin 3 → Nat :=
  let c0_i32_132 : BitVec 32 := 0#32
  let c0_i32_133 : BitVec 32 := 0#32
  ![v215.toNat, 0, 0]
def k0_off97 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 2 → Nat :=
  let c3_i32_134 : BitVec 32 := 3#32
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  ![3, v213.toNat]
def k0_off98 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_135 : BitVec 32 := 0#32
  let c0_i32_136 : BitVec 32 := 0#32
  ![v213.toNat, 0, 0]
def k0_off99 (v215 : BitVec 32) : Fin 3 → Nat :=
  let c0_i32_137 : BitVec 32 := 0#32
  let c0_i32_138 : BitVec 32 := 0#32
  ![v215.toNat, 0, 0]

def k0_chk46 (v215 : BitVec 32) : Prop :=
  (∀ a, (k0_off90 v215) a + S1x1408x1536.size a ≤ S32x1408x1536.size a) ∧
  (∀ (hinb : ∀ a, (k0_off90 v215) a + S1x1408x1536.size a ≤ S32x1408x1536.size a), (Rect.unit (s := S32x1408x1536) (k0_off90 v215) S1x1408x1536.size hinb).WholeWords (EltTy.packing .i8)) ∧
  (∀ a, (k0_off93 v215) a + S1x22x1536.size a ≤ S32x22x1536.size a) ∧
  (∀ (hinb : ∀ a, (k0_off93 v215) a + S1x22x1536.size a ≤ S32x22x1536.size a), (Rect.unit (s := S32x22x1536) (k0_off93 v215) S1x22x1536.size hinb).WholeWords (EltTy.packing .bf16)) ∧
  (∀ a, (k0_off96 v215) a + S1x384x2816.size a ≤ S32x384x2816.size a) ∧
  (∀ (hinb : ∀ a, (k0_off96 v215) a + S1x384x2816.size a ≤ S32x384x2816.size a), (Rect.unit (s := S32x384x2816) (k0_off96 v215) S1x384x2816.size hinb).WholeWords (EltTy.packing .i8)) ∧
  (∀ a, (k0_off99 v215) a + S1x6x2816.size a ≤ S32x6x2816.size a) ∧
  (∀ (hinb : ∀ a, (k0_off99 v215) a + S1x6x2816.size a ≤ S32x6x2816.size a), (Rect.unit (s := S32x6x2816) (k0_off99 v215) S1x6x2816.size hinb).WholeWords (EltTy.packing .bf16))
theorem k0_off90_inb : ∀ (v215 : BitVec 32) (k0_hw46 : k0_chk46 v215), ∀ a, (k0_off90 v215) a + S1x1408x1536.size a ≤ S32x1408x1536.size a := fun v215 k0_hw46 => k0_hw46.1
theorem k0_off90_wordsi8 : ∀ (v215 : BitVec 32) (k0_hw46 : k0_chk46 v215), (Rect.unit (s := S32x1408x1536) (k0_off90 v215) S1x1408x1536.size (k0_off90_inb v215 k0_hw46)).WholeWords (EltTy.packing .i8) := fun v215 k0_hw46 => k0_hw46.2.1 (k0_off90_inb v215 k0_hw46)
theorem k0_off93_inb : ∀ (v215 : BitVec 32) (k0_hw46 : k0_chk46 v215), ∀ a, (k0_off93 v215) a + S1x22x1536.size a ≤ S32x22x1536.size a := fun v215 k0_hw46 => k0_hw46.2.2.1
theorem k0_off93_wordsbf16 : ∀ (v215 : BitVec 32) (k0_hw46 : k0_chk46 v215), (Rect.unit (s := S32x22x1536) (k0_off93 v215) S1x22x1536.size (k0_off93_inb v215 k0_hw46)).WholeWords (EltTy.packing .bf16) := fun v215 k0_hw46 => k0_hw46.2.2.2.1 (k0_off93_inb v215 k0_hw46)
theorem k0_off96_inb : ∀ (v215 : BitVec 32) (k0_hw46 : k0_chk46 v215), ∀ a, (k0_off96 v215) a + S1x384x2816.size a ≤ S32x384x2816.size a := fun v215 k0_hw46 => k0_hw46.2.2.2.2.1
theorem k0_off96_wordsi8 : ∀ (v215 : BitVec 32) (k0_hw46 : k0_chk46 v215), (Rect.unit (s := S32x384x2816) (k0_off96 v215) S1x384x2816.size (k0_off96_inb v215 k0_hw46)).WholeWords (EltTy.packing .i8) := fun v215 k0_hw46 => k0_hw46.2.2.2.2.2.1 (k0_off96_inb v215 k0_hw46)
theorem k0_off99_inb : ∀ (v215 : BitVec 32) (k0_hw46 : k0_chk46 v215), ∀ a, (k0_off99 v215) a + S1x6x2816.size a ≤ S32x6x2816.size a := fun v215 k0_hw46 => k0_hw46.2.2.2.2.2.2.1
theorem k0_off99_wordsbf16 : ∀ (v215 : BitVec 32) (k0_hw46 : k0_chk46 v215), (Rect.unit (s := S32x6x2816) (k0_off99 v215) S1x6x2816.size (k0_off99_inb v215 k0_hw46)).WholeWords (EltTy.packing .bf16) := fun v215 k0_hw46 => k0_hw46.2.2.2.2.2.2.2 (k0_off99_inb v215 k0_hw46)

def k0_off100 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_153 : BitVec 32 := 0#32
  let c0_i32_154 : BitVec 32 := 0#32
  ![v213.toNat, 0, 0]
def k0_off101 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 1 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_1949 : BitVec 32 := 3#32
  let v3613 : BitVec 32 := Scalar.addi arg16 c3_i32_1949
  let v3614 : Index := Scalar.indexCast v3613
  ![v3614.toNat]
def k0_cond5 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : BitVec 1 :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_1947 : BitVec 32 := 3#32
  let v3609 : BitVec 32 := Scalar.addi arg16 c3_i32_1947
  let v3610 : BitVec 1 := Scalar.cmpi .slt v3609 v191
  let v3611 : BitVec 32 := Scalar.extui v3610
  let c0_i32_1948 : BitVec 32 := 0#32
  let v3612 : BitVec 1 := Scalar.cmpi .ne v3611 c0_i32_1948
  v3612

def k0_off102 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 2 → Nat :=
  let c0_i32_1950 : BitVec 32 := 0#32
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  ![0, v213.toNat]
def k0_off103 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_1951 : BitVec 32 := 0#32
  let c0_i32_1952 : BitVec 32 := 0#32
  ![v213.toNat, 0, 0]
def k0_off104 (v3615 : BitVec 32) : Fin 3 → Nat :=
  let c0_i32_1953 : BitVec 32 := 0#32
  let c0_i32_1954 : BitVec 32 := 0#32
  ![v3615.toNat, 0, 0]

def k0_off105 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 2 → Nat :=
  let c1_i32_1955 : BitVec 32 := 1#32
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  ![1, v213.toNat]
def k0_off106 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_1956 : BitVec 32 := 0#32
  let c0_i32_1957 : BitVec 32 := 0#32
  ![v213.toNat, 0, 0]
def k0_off107 (v3615 : BitVec 32) : Fin 3 → Nat :=
  let c0_i32_1958 : BitVec 32 := 0#32
  let c0_i32_1959 : BitVec 32 := 0#32
  ![v3615.toNat, 0, 0]
def k0_off108 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 2 → Nat :=
  let c2_i32_1960 : BitVec 32 := 2#32
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  ![2, v213.toNat]
def k0_off109 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_1961 : BitVec 32 := 0#32
  let c0_i32_1962 : BitVec 32 := 0#32
  ![v213.toNat, 0, 0]
def k0_off110 (v3615 : BitVec 32) : Fin 3 → Nat :=
  let c0_i32_1963 : BitVec 32 := 0#32
  let c0_i32_1964 : BitVec 32 := 0#32
  ![v3615.toNat, 0, 0]
def k0_off111 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 2 → Nat :=
  let c3_i32_1965 : BitVec 32 := 3#32
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  ![3, v213.toNat]
def k0_off112 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) : Fin 3 → Nat :=
  let c0_i32_110 : BitVec 32 := 0#32
  let c0_i32_68 : BitVec 32 := 0#32
  let v67 : BitVec 32 := Scalar.addi c0_i32_68 v66
  let v71 : BitVec 32 := Scalar.addi v67 v70
  let v75 : BitVec 32 := Scalar.addi v71 v74
  let v79 : BitVec 32 := Scalar.addi v75 v78
  let v83 : BitVec 32 := Scalar.addi v79 v82
  let v87 : BitVec 32 := Scalar.addi v83 v86
  let v91 : BitVec 32 := Scalar.addi v87 v90
  let v95 : BitVec 32 := Scalar.addi v91 v94
  let v99 : BitVec 32 := Scalar.addi v95 v98
  let v103 : BitVec 32 := Scalar.addi v99 v102
  let v107 : BitVec 32 := Scalar.addi v103 v106
  let v111 : BitVec 32 := Scalar.addi v107 v110
  let v115 : BitVec 32 := Scalar.addi v111 v114
  let v119 : BitVec 32 := Scalar.addi v115 v118
  let v123 : BitVec 32 := Scalar.addi v119 v122
  let v127 : BitVec 32 := Scalar.addi v123 v126
  let v131 : BitVec 32 := Scalar.addi v127 v130
  let v135 : BitVec 32 := Scalar.addi v131 v134
  let v139 : BitVec 32 := Scalar.addi v135 v138
  let v143 : BitVec 32 := Scalar.addi v139 v142
  let v147 : BitVec 32 := Scalar.addi v143 v146
  let v151 : BitVec 32 := Scalar.addi v147 v150
  let v155 : BitVec 32 := Scalar.addi v151 v154
  let v159 : BitVec 32 := Scalar.addi v155 v158
  let v163 : BitVec 32 := Scalar.addi v159 v162
  let v167 : BitVec 32 := Scalar.addi v163 v166
  let v171 : BitVec 32 := Scalar.addi v167 v170
  let v175 : BitVec 32 := Scalar.addi v171 v174
  let v179 : BitVec 32 := Scalar.addi v175 v178
  let v183 : BitVec 32 := Scalar.addi v179 v182
  let v187 : BitVec 32 := Scalar.addi v183 v186
  let v191 : BitVec 32 := Scalar.addi v187 v190
  let v205 : BitVec 32 := Scalar.subi v191 c0_i32_110
  let c1_i32_111 : BitVec 32 := 1#32
  let v207 : BitVec 32 := Scalar.divsi v205 c1_i32_111
  let v208 : BitVec 32 := Scalar.muli v207 c1_i32_111
  let v209 : BitVec 32 := Scalar.addi c0_i32_110 v208
  let c1_i32_113 : BitVec 32 := 1#32
  let arg16 : BitVec 32 := Scf.iv v209 c1_i32_113 k0_t3
  let c3_i32_118 : BitVec 32 := 3#32
  let v213 : BitVec 32 := Scalar.remsi arg16 c3_i32_118
  let c0_i32_1966 : BitVec 32 := 0#32
  let c0_i32_1967 : BitVec 32 := 0#32
  ![v213.toNat, 0, 0]
def k0_off113 (v3615 : BitVec 32) : Fin 3 → Nat :=
  let c0_i32_1968 : BitVec 32 := 0#32
  let c0_i32_1969 : BitVec 32 := 0#32
  ![v3615.toNat, 0, 0]

def k0_chk47 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) : Prop :=
  (∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off104 v3615) a + S1x1408x1536.size a ≤ S32x1408x1536.size a) ∧
  (∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ (hinb : ∀ a, (k0_off104 v3615) a + S1x1408x1536.size a ≤ S32x1408x1536.size a), (Rect.unit (s := S32x1408x1536) (k0_off104 v3615) S1x1408x1536.size hinb).WholeWords (EltTy.packing .i8)) ∧
  (∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off107 v3615) a + S1x22x1536.size a ≤ S32x22x1536.size a) ∧
  (∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ (hinb : ∀ a, (k0_off107 v3615) a + S1x22x1536.size a ≤ S32x22x1536.size a), (Rect.unit (s := S32x22x1536) (k0_off107 v3615) S1x22x1536.size hinb).WholeWords (EltTy.packing .bf16)) ∧
  (∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off110 v3615) a + S1x384x2816.size a ≤ S32x384x2816.size a) ∧
  (∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ (hinb : ∀ a, (k0_off110 v3615) a + S1x384x2816.size a ≤ S32x384x2816.size a), (Rect.unit (s := S32x384x2816) (k0_off110 v3615) S1x384x2816.size hinb).WholeWords (EltTy.packing .i8)) ∧
  (∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off113 v3615) a + S1x6x2816.size a ≤ S32x6x2816.size a) ∧
  (∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ (hinb : ∀ a, (k0_off113 v3615) a + S1x6x2816.size a ≤ S32x6x2816.size a), (Rect.unit (s := S32x6x2816) (k0_off113 v3615) S1x6x2816.size hinb).WholeWords (EltTy.packing .bf16))
theorem k0_off104_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) (k0_hw47 : k0_chk47 v66 v70 v74 v78 v82 v86 v90 v94 v98 v102 v106 v110 v114 v118 v122 v126 v130 v134 v138 v142 v146 v150 v154 v158 v162 v166 v170 v174 v178 v182 v186 v190 k0_t3 v3615), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off104 v3615) a + S1x1408x1536.size a ≤ S32x1408x1536.size a := fun v66 v70 v74 v78 v82 v86 v90 v94 v98 v102 v106 v110 v114 v118 v122 v126 v130 v134 v138 v142 v146 v150 v154 v158 v162 v166 v170 v174 v178 v182 v186 v190 k0_t3 v3615 k0_hw47 k0_h5 => k0_hw47.1 k0_h5
theorem k0_off104_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) (k0_hw47 : k0_chk47 v66 v70 v74 v78 v82 v86 v90 v94 v98 v102 v106 v110 v114 v118 v122 v126 v130 v134 v138 v142 v146 v150 v154 v158 v162 v166 v170 v174 v178 v182 v186 v190 k0_t3 v3615), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), (Rect.unit (s := S32x1408x1536) (k0_off104 v3615) S1x1408x1536.size (k0_off104_inb v66 v70 v74 v78 v82 v86 v90 v94 v98 v102 v106 v110 v114 v118 v122 v126 v130 v134 v138 v142 v146 v150 v154 v158 v162 v166 v170 v174 v178 v182 v186 v190 k0_t3 v3615 k0_hw47 k0_h5)).WholeWords (EltTy.packing .i8) := fun v66 v70 v74 v78 v82 v86 v90 v94 v98 v102 v106 v110 v114 v118 v122 v126 v130 v134 v138 v142 v146 v150 v154 v158 v162 v166 v170 v174 v178 v182 v186 v190 k0_t3 v3615 k0_hw47 k0_h5 => k0_hw47.2.1 k0_h5 (k0_off104_inb v66 v70 v74 v78 v82 v86 v90 v94 v98 v102 v106 v110 v114 v118 v122 v126 v130 v134 v138 v142 v146 v150 v154 v158 v162 v166 v170 v174 v178 v182 v186 v190 k0_t3 v3615 k0_hw47 k0_h5)
theorem k0_off107_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) (k0_hw47 : k0_chk47 v66 v70 v74 v78 v82 v86 v90 v94 v98 v102 v106 v110 v114 v118 v122 v126 v130 v134 v138 v142 v146 v150 v154 v158 v162 v166 v170 v174 v178 v182 v186 v190 k0_t3 v3615), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off107 v3615) a + S1x22x1536.size a ≤ S32x22x1536.size a := fun v66 v70 v74 v78 v82 v86 v90 v94 v98 v102 v106 v110 v114 v118 v122 v126 v130 v134 v138 v142 v146 v150 v154 v158 v162 v166 v170 v174 v178 v182 v186 v190 k0_t3 v3615 k0_hw47 k0_h5 => k0_hw47.2.2.1 k0_h5
theorem k0_off107_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) (k0_hw47 : k0_chk47 v66 v70 v74 v78 v82 v86 v90 v94 v98 v102 v106 v110 v114 v118 v122 v126 v130 v134 v138 v142 v146 v150 v154 v158 v162 v166 v170 v174 v178 v182 v186 v190 k0_t3 v3615), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), (Rect.unit (s := S32x22x1536) (k0_off107 v3615) S1x22x1536.size (k0_off107_inb v66 v70 v74 v78 v82 v86 v90 v94 v98 v102 v106 v110 v114 v118 v122 v126 v130 v134 v138 v142 v146 v150 v154 v158 v162 v166 v170 v174 v178 v182 v186 v190 k0_t3 v3615 k0_hw47 k0_h5)).WholeWords (EltTy.packing .bf16) := fun v66 v70 v74 v78 v82 v86 v90 v94 v98 v102 v106 v110 v114 v118 v122 v126 v130 v134 v138 v142 v146 v150 v154 v158 v162 v166 v170 v174 v178 v182 v186 v190 k0_t3 v3615 k0_hw47 k0_h5 => k0_hw47.2.2.2.1 k0_h5 (k0_off107_inb v66 v70 v74 v78 v82 v86 v90 v94 v98 v102 v106 v110 v114 v118 v122 v126 v130 v134 v138 v142 v146 v150 v154 v158 v162 v166 v170 v174 v178 v182 v186 v190 k0_t3 v3615 k0_hw47 k0_h5)
theorem k0_off110_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) (k0_hw47 : k0_chk47 v66 v70 v74 v78 v82 v86 v90 v94 v98 v102 v106 v110 v114 v118 v122 v126 v130 v134 v138 v142 v146 v150 v154 v158 v162 v166 v170 v174 v178 v182 v186 v190 k0_t3 v3615), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off110 v3615) a + S1x384x2816.size a ≤ S32x384x2816.size a := fun v66 v70 v74 v78 v82 v86 v90 v94 v98 v102 v106 v110 v114 v118 v122 v126 v130 v134 v138 v142 v146 v150 v154 v158 v162 v166 v170 v174 v178 v182 v186 v190 k0_t3 v3615 k0_hw47 k0_h5 => k0_hw47.2.2.2.2.1 k0_h5
theorem k0_off110_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) (k0_hw47 : k0_chk47 v66 v70 v74 v78 v82 v86 v90 v94 v98 v102 v106 v110 v114 v118 v122 v126 v130 v134 v138 v142 v146 v150 v154 v158 v162 v166 v170 v174 v178 v182 v186 v190 k0_t3 v3615), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), (Rect.unit (s := S32x384x2816) (k0_off110 v3615) S1x384x2816.size (k0_off110_inb v66 v70 v74 v78 v82 v86 v90 v94 v98 v102 v106 v110 v114 v118 v122 v126 v130 v134 v138 v142 v146 v150 v154 v158 v162 v166 v170 v174 v178 v182 v186 v190 k0_t3 v3615 k0_hw47 k0_h5)).WholeWords (EltTy.packing .i8) := fun v66 v70 v74 v78 v82 v86 v90 v94 v98 v102 v106 v110 v114 v118 v122 v126 v130 v134 v138 v142 v146 v150 v154 v158 v162 v166 v170 v174 v178 v182 v186 v190 k0_t3 v3615 k0_hw47 k0_h5 => k0_hw47.2.2.2.2.2.1 k0_h5 (k0_off110_inb v66 v70 v74 v78 v82 v86 v90 v94 v98 v102 v106 v110 v114 v118 v122 v126 v130 v134 v138 v142 v146 v150 v154 v158 v162 v166 v170 v174 v178 v182 v186 v190 k0_t3 v3615 k0_hw47 k0_h5)
theorem k0_off113_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) (k0_hw47 : k0_chk47 v66 v70 v74 v78 v82 v86 v90 v94 v98 v102 v106 v110 v114 v118 v122 v126 v130 v134 v138 v142 v146 v150 v154 v158 v162 v166 v170 v174 v178 v182 v186 v190 k0_t3 v3615), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off113 v3615) a + S1x6x2816.size a ≤ S32x6x2816.size a := fun v66 v70 v74 v78 v82 v86 v90 v94 v98 v102 v106 v110 v114 v118 v122 v126 v130 v134 v138 v142 v146 v150 v154 v158 v162 v166 v170 v174 v178 v182 v186 v190 k0_t3 v3615 k0_hw47 k0_h5 => k0_hw47.2.2.2.2.2.2.1 k0_h5
theorem k0_off113_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_t3 : Fin (k0_t3_loop v66 v70 v74 v78 v82 v86 v90 v94 v98 v102 v106 v110 v114 v118 v122 v126 v130 v134 v138 v142 v146 v150 v154 v158 v162 v166 v170 v174 v178 v182 v186 v190).trips) (v3615 : BitVec 32) (k0_hw47 : k0_chk47 v66 v70 v74 v78 v82 v86 v90 v94 v98 v102 v106 v110 v114 v118 v122 v126 v130 v134 v138 v142 v146 v150 v154 v158 v162 v166 v170 v174 v178 v182 v186 v190 k0_t3 v3615), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), (Rect.unit (s := S32x6x2816) (k0_off113 v3615) S1x6x2816.size (k0_off113_inb v66 v70 v74 v78 v82 v86 v90 v94 v98 v102 v106 v110 v114 v118 v122 v126 v130 v134 v138 v142 v146 v150 v154 v158 v162 v166 v170 v174 v178 v182 v186 v190 k0_t3 v3615 k0_hw47 k0_h5)).WholeWords (EltTy.packing .bf16) := fun v66 v70 v74 v78 v82 v86 v90 v94 v98 v102 v106 v110 v114 v118 v122 v126 v130 v134 v138 v142 v146 v150 v154 v158 v162 v166 v170 v174 v178 v182 v186 v190 k0_t3 v3615 k0_hw47 k0_h5 => k0_hw47.2.2.2.2.2.2.2 k0_h5 (k0_off113_inb v66 v70 v74 v78 v82 v86 v90 v94 v98 v102 v106 v110 v114 v118 v122 v126 v130 v134 v138 v142 v146 v150 v154 v158 v162 v166 v170 v174 v178 v182 v186 v190 k0_t3 v3615 k0_hw47 k0_h5)

def k0_chk43_0 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) : Prop :=
  ((k0_t2_loop v66 v70 v74 v78 v82 v86 v90 v94 v98 v102 v106 v110 v114 v118 v122 v126 v130 v134 v138 v142 v146 v150 v154 v158 v162 v166 v170 v174 v178 v182 v186 v190).OK) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off60 v66 v70 v74 v78 v82 v86 v90 v94 v98 v102 v106 v110 v114 v118 v122 v126 v130 v134 v138 v142 v146 v150 v154 v158 v162 v166 v170 v174 v178 v182 v186 v190 k0_t2) a + S1.size a ≤ S65.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off61 v66 v70 v74 v78 v82 v86 v90 v94 v98 v102 v106 v110 v114 v118 v122 v126 v130 v134 v138 v142 v146 v150 v154 v158 v162 v166 v170 v174 v178 v182 v186 v190 k0_t2) a + S1x1.size a ≤ S4x3.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off62 v66 v70 v74 v78 v82 v86 v90 v94 v98 v102 v106 v110 v114 v118 v122 v126 v130 v134 v138 v142 v146 v150 v154 v158 v162 v166 v170 v174 v178 v182 v186 v190 k0_t2) a + S1x1408x1536.size a ≤ S3x1408x1536.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (hinb : ∀ a, (k0_off62 v66 v70 v74 v78 v82 v86 v90 v94 v98 v102 v106 v110 v114 v118 v122 v126 v130 v134 v138 v142 v146 v150 v154 v158 v162 v166 v170 v174 v178 v182 v186 v190 k0_t2) a + S1x1408x1536.size a ≤ S3x1408x1536.size a), (Rect.unit (s := S3x1408x1536) (k0_off62 v66 v70 v74 v78 v82 v86 v90 v94 v98 v102 v106 v110 v114 v118 v122 v126 v130 v134 v138 v142 v146 v150 v154 v158 v162 v166 v170 v174 v178 v182 v186 v190 k0_t2) S1x1408x1536.size hinb).WholeWords (EltTy.packing .i8)) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off64 v66 v70 v74 v78 v82 v86 v90 v94 v98 v102 v106 v110 v114 v118 v122 v126 v130 v134 v138 v142 v146 v150 v154 v158 v162 v166 v170 v174 v178 v182 v186 v190 k0_t2) a + S1x1.size a ≤ S4x3.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off65 v66 v70 v74 v78 v82 v86 v90 v94 v98 v102 v106 v110 v114 v118 v122 v126 v130 v134 v138 v142 v146 v150 v154 v158 v162 v166 v170 v174 v178 v182 v186 v190 k0_t2) a + S1x22x1536.size a ≤ S3x22x1536.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (hinb : ∀ a, (k0_off65 v66 v70 v74 v78 v82 v86 v90 v94 v98 v102 v106 v110 v114 v118 v122 v126 v130 v134 v138 v142 v146 v150 v154 v158 v162 v166 v170 v174 v178 v182 v186 v190 k0_t2) a + S1x22x1536.size a ≤ S3x22x1536.size a), (Rect.unit (s := S3x22x1536) (k0_off65 v66 v70 v74 v78 v82 v86 v90 v94 v98 v102 v106 v110 v114 v118 v122 v126 v130 v134 v138 v142 v146 v150 v154 v158 v162 v166 v170 v174 v178 v182 v186 v190 k0_t2) S1x22x1536.size hinb).WholeWords (EltTy.packing .bf16)) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off67 v66 v70 v74 v78 v82 v86 v90 v94 v98 v102 v106 v110 v114 v118 v122 v126 v130 v134 v138 v142 v146 v150 v154 v158 v162 v166 v170 v174 v178 v182 v186 v190 k0_t2) a + S1x1.size a ≤ S4x3.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off68 v66 v70 v74 v78 v82 v86 v90 v94 v98 v102 v106 v110 v114 v118 v122 v126 v130 v134 v138 v142 v146 v150 v154 v158 v162 v166 v170 v174 v178 v182 v186 v190 k0_t2) a + S1x384x2816.size a ≤ S3x384x2816.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (hinb : ∀ a, (k0_off68 v66 v70 v74 v78 v82 v86 v90 v94 v98 v102 v106 v110 v114 v118 v122 v126 v130 v134 v138 v142 v146 v150 v154 v158 v162 v166 v170 v174 v178 v182 v186 v190 k0_t2) a + S1x384x2816.size a ≤ S3x384x2816.size a), (Rect.unit (s := S3x384x2816) (k0_off68 v66 v70 v74 v78 v82 v86 v90 v94 v98 v102 v106 v110 v114 v118 v122 v126 v130 v134 v138 v142 v146 v150 v154 v158 v162 v166 v170 v174 v178 v182 v186 v190 k0_t2) S1x384x2816.size hinb).WholeWords (EltTy.packing .i8)) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off70 v66 v70 v74 v78 v82 v86 v90 v94 v98 v102 v106 v110 v114 v118 v122 v126 v130 v134 v138 v142 v146 v150 v154 v158 v162 v166 v170 v174 v178 v182 v186 v190 k0_t2) a + S1x1.size a ≤ S4x3.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off71 v66 v70 v74 v78 v82 v86 v90 v94 v98 v102 v106 v110 v114 v118 v122 v126 v130 v134 v138 v142 v146 v150 v154 v158 v162 v166 v170 v174 v178 v182 v186 v190 k0_t2) a + S1x6x2816.size a ≤ S3x6x2816.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (hinb : ∀ a, (k0_off71 v66 v70 v74 v78 v82 v86 v90 v94 v98 v102 v106 v110 v114 v118 v122 v126 v130 v134 v138 v142 v146 v150 v154 v158 v162 v166 v170 v174 v178 v182 v186 v190 k0_t2) a + S1x6x2816.size a ≤ S3x6x2816.size a), (Rect.unit (s := S3x6x2816) (k0_off71 v66 v70 v74 v78 v82 v86 v90 v94 v98 v102 v106 v110 v114 v118 v122 v126 v130 v134 v138 v142 v146 v150 v154 v158 v162 v166 v170 v174 v178 v182 v186 v190 k0_t2) S1x6x2816.size hinb).WholeWords (EltTy.packing .bf16)) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ a, (k0_off73 v66 v70 v74 v78 v82 v86 v90 v94 v98 v102 v106 v110 v114 v118 v122 v126 v130 v134 v138 v142 v146 v150 v154 v158 v162 v166 v170 v174 v178 v182 v186 v190 k0_t2) a + S1x1408x1536.size a ≤ S3x1408x1536.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off74 v66 v70 v74 v78 v82 v86 v90 v94 v98 v102 v106 v110 v114 v118 v122 v126 v130 v134 v138 v142 v146 v150 v154 v158 v162 v166 v170 v174 v178 v182 v186 v190 k0_t2) a + S1.size a ≤ S65.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off75 v66 v70 v74 v78 v82 v86 v90 v94 v98 v102 v106 v110 v114 v118 v122 v126 v130 v134 v138 v142 v146 v150 v154 v158 v162 v166 v170 v174 v178 v182 v186 v190 k0_t2) a + S1x1.size a ≤ S4x3.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off76 v66 v70 v74 v78 v82 v86 v90 v94 v98 v102 v106 v110 v114 v118 v122 v126 v130 v134 v138 v142 v146 v150 v154 v158 v162 v166 v170 v174 v178 v182 v186 v190 k0_t2) a + S1x1408x1536.size a ≤ S3x1408x1536.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ (hinb : ∀ a, (k0_off76 v66 v70 v74 v78 v82 v86 v90 v94 v98 v102 v106 v110 v114 v118 v122 v126 v130 v134 v138 v142 v146 v150 v154 v158 v162 v166 v170 v174 v178 v182 v186 v190 k0_t2) a + S1x1408x1536.size a ≤ S3x1408x1536.size a), (Rect.unit (s := S3x1408x1536) (k0_off76 v66 v70 v74 v78 v82 v86 v90 v94 v98 v102 v106 v110 v114 v118 v122 v126 v130 v134 v138 v142 v146 v150 v154 v158 v162 v166 v170 v174 v178 v182 v186 v190 k0_t2) S1x1408x1536.size hinb).WholeWords (EltTy.packing .i8)) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off78 v66 v70 v74 v78 v82 v86 v90 v94 v98 v102 v106 v110 v114 v118 v122 v126 v130 v134 v138 v142 v146 v150 v154 v158 v162 v166 v170 v174 v178 v182 v186 v190 k0_t2) a + S1x1.size a ≤ S4x3.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off79 v66 v70 v74 v78 v82 v86 v90 v94 v98 v102 v106 v110 v114 v118 v122 v126 v130 v134 v138 v142 v146 v150 v154 v158 v162 v166 v170 v174 v178 v182 v186 v190 k0_t2) a + S1x22x1536.size a ≤ S3x22x1536.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ (hinb : ∀ a, (k0_off79 v66 v70 v74 v78 v82 v86 v90 v94 v98 v102 v106 v110 v114 v118 v122 v126 v130 v134 v138 v142 v146 v150 v154 v158 v162 v166 v170 v174 v178 v182 v186 v190 k0_t2) a + S1x22x1536.size a ≤ S3x22x1536.size a), (Rect.unit (s := S3x22x1536) (k0_off79 v66 v70 v74 v78 v82 v86 v90 v94 v98 v102 v106 v110 v114 v118 v122 v126 v130 v134 v138 v142 v146 v150 v154 v158 v162 v166 v170 v174 v178 v182 v186 v190 k0_t2) S1x22x1536.size hinb).WholeWords (EltTy.packing .bf16)) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off81 v66 v70 v74 v78 v82 v86 v90 v94 v98 v102 v106 v110 v114 v118 v122 v126 v130 v134 v138 v142 v146 v150 v154 v158 v162 v166 v170 v174 v178 v182 v186 v190 k0_t2) a + S1x1.size a ≤ S4x3.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off82 v66 v70 v74 v78 v82 v86 v90 v94 v98 v102 v106 v110 v114 v118 v122 v126 v130 v134 v138 v142 v146 v150 v154 v158 v162 v166 v170 v174 v178 v182 v186 v190 k0_t2) a + S1x384x2816.size a ≤ S3x384x2816.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ (hinb : ∀ a, (k0_off82 v66 v70 v74 v78 v82 v86 v90 v94 v98 v102 v106 v110 v114 v118 v122 v126 v130 v134 v138 v142 v146 v150 v154 v158 v162 v166 v170 v174 v178 v182 v186 v190 k0_t2) a + S1x384x2816.size a ≤ S3x384x2816.size a), (Rect.unit (s := S3x384x2816) (k0_off82 v66 v70 v74 v78 v82 v86 v90 v94 v98 v102 v106 v110 v114 v118 v122 v126 v130 v134 v138 v142 v146 v150 v154 v158 v162 v166 v170 v174 v178 v182 v186 v190 k0_t2) S1x384x2816.size hinb).WholeWords (EltTy.packing .i8)) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off84 v66 v70 v74 v78 v82 v86 v90 v94 v98 v102 v106 v110 v114 v118 v122 v126 v130 v134 v138 v142 v146 v150 v154 v158 v162 v166 v170 v174 v178 v182 v186 v190 k0_t2) a + S1x1.size a ≤ S4x3.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off85 v66 v70 v74 v78 v82 v86 v90 v94 v98 v102 v106 v110 v114 v118 v122 v126 v130 v134 v138 v142 v146 v150 v154 v158 v162 v166 v170 v174 v178 v182 v186 v190 k0_t2) a + S1x6x2816.size a ≤ S3x6x2816.size a) ∧
  (∀ k0_t2 : Fin (k0_t2_loop v66 v70 v74 v78 v82 v86 v90 v94 v98 v102 v106 v110 v114 v118 v122 v126 v130 v134 v138 v142 v146 v150 v154 v158 v162 v166 v170 v174 v178 v182 v186 v190).trips, ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ (hinb : ∀ a, (k0_off85 v66 v70 v74 v78 v82 v86 v90 v94 v98 v102 v106 v110 v114 v118 v122 v126 v130 v134 v138 v142 v146 v150 v154 v158 v162 v166 v170 v174 v178 v182 v186 v190 k0_t2) a + S1x6x2816.size a ≤ S3x6x2816.size a), (Rect.unit (s := S3x6x2816) (k0_off85 v66 v70 v74 v78 v82 v86 v90 v94 v98 v102 v106 v110 v114 v118 v122 v126 v130 v134 v138 v142 v146 v150 v154 v158 v162 v166 v170 v174 v178 v182 v186 v190 k0_t2) S1x6x2816.size hinb).WholeWords (EltTy.packing .bf16)) ∧
  ((k0_t3_loop v66 v70 v74 v78 v82 v86 v90 v94 v98 v102 v106 v110 v114 v118 v122 v126 v130 v134 v138 v142 v146 v150 v154 v158 v162 v166 v170 v174 v178 v182 v186 v190).OK) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off87 v66 v70 v74 v78 v82 v86 v90 v94 v98 v102 v106 v110 v114 v118 v122 v126 v130 v134 v138 v142 v146 v150 v154 v158 v162 v166 v170 v174 v178 v182 v186 v190 k0_t3) a + S1.size a ≤ S65.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off88 v66 v70 v74 v78 v82 v86 v90 v94 v98 v102 v106 v110 v114 v118 v122 v126 v130 v134 v138 v142 v146 v150 v154 v158 v162 v166 v170 v174 v178 v182 v186 v190 k0_t3) a + S1x1.size a ≤ S4x3.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off89 v66 v70 v74 v78 v82 v86 v90 v94 v98 v102 v106 v110 v114 v118 v122 v126 v130 v134 v138 v142 v146 v150 v154 v158 v162 v166 v170 v174 v178 v182 v186 v190 k0_t3) a + S1x1408x1536.size a ≤ S3x1408x1536.size a)
def k0_chk43_1 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) : Prop :=
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (hinb : ∀ a, (k0_off89 v66 v70 v74 v78 v82 v86 v90 v94 v98 v102 v106 v110 v114 v118 v122 v126 v130 v134 v138 v142 v146 v150 v154 v158 v162 v166 v170 v174 v178 v182 v186 v190 k0_t3) a + S1x1408x1536.size a ≤ S3x1408x1536.size a), (Rect.unit (s := S3x1408x1536) (k0_off89 v66 v70 v74 v78 v82 v86 v90 v94 v98 v102 v106 v110 v114 v118 v122 v126 v130 v134 v138 v142 v146 v150 v154 v158 v162 v166 v170 v174 v178 v182 v186 v190 k0_t3) S1x1408x1536.size hinb).WholeWords (EltTy.packing .i8)) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off91 v66 v70 v74 v78 v82 v86 v90 v94 v98 v102 v106 v110 v114 v118 v122 v126 v130 v134 v138 v142 v146 v150 v154 v158 v162 v166 v170 v174 v178 v182 v186 v190 k0_t3) a + S1x1.size a ≤ S4x3.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off92 v66 v70 v74 v78 v82 v86 v90 v94 v98 v102 v106 v110 v114 v118 v122 v126 v130 v134 v138 v142 v146 v150 v154 v158 v162 v166 v170 v174 v178 v182 v186 v190 k0_t3) a + S1x22x1536.size a ≤ S3x22x1536.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (hinb : ∀ a, (k0_off92 v66 v70 v74 v78 v82 v86 v90 v94 v98 v102 v106 v110 v114 v118 v122 v126 v130 v134 v138 v142 v146 v150 v154 v158 v162 v166 v170 v174 v178 v182 v186 v190 k0_t3) a + S1x22x1536.size a ≤ S3x22x1536.size a), (Rect.unit (s := S3x22x1536) (k0_off92 v66 v70 v74 v78 v82 v86 v90 v94 v98 v102 v106 v110 v114 v118 v122 v126 v130 v134 v138 v142 v146 v150 v154 v158 v162 v166 v170 v174 v178 v182 v186 v190 k0_t3) S1x22x1536.size hinb).WholeWords (EltTy.packing .bf16)) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off94 v66 v70 v74 v78 v82 v86 v90 v94 v98 v102 v106 v110 v114 v118 v122 v126 v130 v134 v138 v142 v146 v150 v154 v158 v162 v166 v170 v174 v178 v182 v186 v190 k0_t3) a + S1x1.size a ≤ S4x3.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off95 v66 v70 v74 v78 v82 v86 v90 v94 v98 v102 v106 v110 v114 v118 v122 v126 v130 v134 v138 v142 v146 v150 v154 v158 v162 v166 v170 v174 v178 v182 v186 v190 k0_t3) a + S1x384x2816.size a ≤ S3x384x2816.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (hinb : ∀ a, (k0_off95 v66 v70 v74 v78 v82 v86 v90 v94 v98 v102 v106 v110 v114 v118 v122 v126 v130 v134 v138 v142 v146 v150 v154 v158 v162 v166 v170 v174 v178 v182 v186 v190 k0_t3) a + S1x384x2816.size a ≤ S3x384x2816.size a), (Rect.unit (s := S3x384x2816) (k0_off95 v66 v70 v74 v78 v82 v86 v90 v94 v98 v102 v106 v110 v114 v118 v122 v126 v130 v134 v138 v142 v146 v150 v154 v158 v162 v166 v170 v174 v178 v182 v186 v190 k0_t3) S1x384x2816.size hinb).WholeWords (EltTy.packing .i8)) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off97 v66 v70 v74 v78 v82 v86 v90 v94 v98 v102 v106 v110 v114 v118 v122 v126 v130 v134 v138 v142 v146 v150 v154 v158 v162 v166 v170 v174 v178 v182 v186 v190 k0_t3) a + S1x1.size a ≤ S4x3.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off98 v66 v70 v74 v78 v82 v86 v90 v94 v98 v102 v106 v110 v114 v118 v122 v126 v130 v134 v138 v142 v146 v150 v154 v158 v162 v166 v170 v174 v178 v182 v186 v190 k0_t3) a + S1x6x2816.size a ≤ S3x6x2816.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (hinb : ∀ a, (k0_off98 v66 v70 v74 v78 v82 v86 v90 v94 v98 v102 v106 v110 v114 v118 v122 v126 v130 v134 v138 v142 v146 v150 v154 v158 v162 v166 v170 v174 v178 v182 v186 v190 k0_t3) a + S1x6x2816.size a ≤ S3x6x2816.size a), (Rect.unit (s := S3x6x2816) (k0_off98 v66 v70 v74 v78 v82 v86 v90 v94 v98 v102 v106 v110 v114 v118 v122 v126 v130 v134 v138 v142 v146 v150 v154 v158 v162 v166 v170 v174 v178 v182 v186 v190 k0_t3) S1x6x2816.size hinb).WholeWords (EltTy.packing .bf16)) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ a, (k0_off100 v66 v70 v74 v78 v82 v86 v90 v94 v98 v102 v106 v110 v114 v118 v122 v126 v130 v134 v138 v142 v146 v150 v154 v158 v162 v166 v170 v174 v178 v182 v186 v190 k0_t3) a + S1x1408x1536.size a ≤ S3x1408x1536.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off101 v66 v70 v74 v78 v82 v86 v90 v94 v98 v102 v106 v110 v114 v118 v122 v126 v130 v134 v138 v142 v146 v150 v154 v158 v162 v166 v170 v174 v178 v182 v186 v190 k0_t3) a + S1.size a ≤ S65.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off102 v66 v70 v74 v78 v82 v86 v90 v94 v98 v102 v106 v110 v114 v118 v122 v126 v130 v134 v138 v142 v146 v150 v154 v158 v162 v166 v170 v174 v178 v182 v186 v190 k0_t3) a + S1x1.size a ≤ S4x3.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off103 v66 v70 v74 v78 v82 v86 v90 v94 v98 v102 v106 v110 v114 v118 v122 v126 v130 v134 v138 v142 v146 v150 v154 v158 v162 v166 v170 v174 v178 v182 v186 v190 k0_t3) a + S1x1408x1536.size a ≤ S3x1408x1536.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ (hinb : ∀ a, (k0_off103 v66 v70 v74 v78 v82 v86 v90 v94 v98 v102 v106 v110 v114 v118 v122 v126 v130 v134 v138 v142 v146 v150 v154 v158 v162 v166 v170 v174 v178 v182 v186 v190 k0_t3) a + S1x1408x1536.size a ≤ S3x1408x1536.size a), (Rect.unit (s := S3x1408x1536) (k0_off103 v66 v70 v74 v78 v82 v86 v90 v94 v98 v102 v106 v110 v114 v118 v122 v126 v130 v134 v138 v142 v146 v150 v154 v158 v162 v166 v170 v174 v178 v182 v186 v190 k0_t3) S1x1408x1536.size hinb).WholeWords (EltTy.packing .i8)) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off105 v66 v70 v74 v78 v82 v86 v90 v94 v98 v102 v106 v110 v114 v118 v122 v126 v130 v134 v138 v142 v146 v150 v154 v158 v162 v166 v170 v174 v178 v182 v186 v190 k0_t3) a + S1x1.size a ≤ S4x3.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off106 v66 v70 v74 v78 v82 v86 v90 v94 v98 v102 v106 v110 v114 v118 v122 v126 v130 v134 v138 v142 v146 v150 v154 v158 v162 v166 v170 v174 v178 v182 v186 v190 k0_t3) a + S1x22x1536.size a ≤ S3x22x1536.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ (hinb : ∀ a, (k0_off106 v66 v70 v74 v78 v82 v86 v90 v94 v98 v102 v106 v110 v114 v118 v122 v126 v130 v134 v138 v142 v146 v150 v154 v158 v162 v166 v170 v174 v178 v182 v186 v190 k0_t3) a + S1x22x1536.size a ≤ S3x22x1536.size a), (Rect.unit (s := S3x22x1536) (k0_off106 v66 v70 v74 v78 v82 v86 v90 v94 v98 v102 v106 v110 v114 v118 v122 v126 v130 v134 v138 v142 v146 v150 v154 v158 v162 v166 v170 v174 v178 v182 v186 v190 k0_t3) S1x22x1536.size hinb).WholeWords (EltTy.packing .bf16)) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off108 v66 v70 v74 v78 v82 v86 v90 v94 v98 v102 v106 v110 v114 v118 v122 v126 v130 v134 v138 v142 v146 v150 v154 v158 v162 v166 v170 v174 v178 v182 v186 v190 k0_t3) a + S1x1.size a ≤ S4x3.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off109 v66 v70 v74 v78 v82 v86 v90 v94 v98 v102 v106 v110 v114 v118 v122 v126 v130 v134 v138 v142 v146 v150 v154 v158 v162 v166 v170 v174 v178 v182 v186 v190 k0_t3) a + S1x384x2816.size a ≤ S3x384x2816.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ (hinb : ∀ a, (k0_off109 v66 v70 v74 v78 v82 v86 v90 v94 v98 v102 v106 v110 v114 v118 v122 v126 v130 v134 v138 v142 v146 v150 v154 v158 v162 v166 v170 v174 v178 v182 v186 v190 k0_t3) a + S1x384x2816.size a ≤ S3x384x2816.size a), (Rect.unit (s := S3x384x2816) (k0_off109 v66 v70 v74 v78 v82 v86 v90 v94 v98 v102 v106 v110 v114 v118 v122 v126 v130 v134 v138 v142 v146 v150 v154 v158 v162 v166 v170 v174 v178 v182 v186 v190 k0_t3) S1x384x2816.size hinb).WholeWords (EltTy.packing .i8)) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off111 v66 v70 v74 v78 v82 v86 v90 v94 v98 v102 v106 v110 v114 v118 v122 v126 v130 v134 v138 v142 v146 v150 v154 v158 v162 v166 v170 v174 v178 v182 v186 v190 k0_t3) a + S1x1.size a ≤ S4x3.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off112 v66 v70 v74 v78 v82 v86 v90 v94 v98 v102 v106 v110 v114 v118 v122 v126 v130 v134 v138 v142 v146 v150 v154 v158 v162 v166 v170 v174 v178 v182 v186 v190 k0_t3) a + S1x6x2816.size a ≤ S3x6x2816.size a) ∧
  (∀ k0_t3 : Fin (k0_t3_loop v66 v70 v74 v78 v82 v86 v90 v94 v98 v102 v106 v110 v114 v118 v122 v126 v130 v134 v138 v142 v146 v150 v154 v158 v162 v166 v170 v174 v178 v182 v186 v190).trips, ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ (hinb : ∀ a, (k0_off112 v66 v70 v74 v78 v82 v86 v90 v94 v98 v102 v106 v110 v114 v118 v122 v126 v130 v134 v138 v142 v146 v150 v154 v158 v162 v166 v170 v174 v178 v182 v186 v190 k0_t3) a + S1x6x2816.size a ≤ S3x6x2816.size a), (Rect.unit (s := S3x6x2816) (k0_off112 v66 v70 v74 v78 v82 v86 v90 v94 v98 v102 v106 v110 v114 v118 v122 v126 v130 v134 v138 v142 v146 v150 v154 v158 v162 v166 v170 v174 v178 v182 v186 v190 k0_t3) S1x6x2816.size hinb).WholeWords (EltTy.packing .bf16))
def k0_chk43 (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) : Prop :=
  k0_chk43_0 v66 v70 v74 v78 v82 v86 v90 v94 v98 v102 v106 v110 v114 v118 v122 v126 v130 v134 v138 v142 v146 v150 v154 v158 v162 v166 v170 v174 v178 v182 v186 v190 ∧
  k0_chk43_1 v66 v70 v74 v78 v82 v86 v90 v94 v98 v102 v106 v110 v114 v118 v122 v126 v130 v134 v138 v142 v146 v150 v154 v158 v162 v166 v170 v174 v178 v182 v186 v190
theorem k0_t2_ok : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190), (k0_t2_loop v66 v70 v74 v78 v82 v86 v90 v94 v98 v102 v106 v110 v114 v118 v122 v126 v130 v134 v138 v142 v146 v150 v154 v158 v162 v166 v170 v174 v178 v182 v186 v190).OK := fun v66 v70 v74 v78 v82 v86 v90 v94 v98 v102 v106 v110 v114 v118 v122 v126 v130 v134 v138 v142 v146 v150 v154 v158 v162 v166 v170 v174 v178 v182 v186 v190 k0_hw43 => k0_hw43.1.1
theorem k0_off60_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off60 v66 v70 v74 v78 v82 v86 v90 v94 v98 v102 v106 v110 v114 v118 v122 v126 v130 v134 v138 v142 v146 v150 v154 v158 v162 v166 v170 v174 v178 v182 v186 v190 k0_t2) a + S1.size a ≤ S65.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.1 k0_t2
theorem k0_off61_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off61 v66 v70 v74 v78 v82 v86 v90 v94 v98 v102 v106 v110 v114 v118 v122 v126 v130 v134 v138 v142 v146 v150 v154 v158 v162 v166 v170 v174 v178 v182 v186 v190 k0_t2) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.1 k0_t2
theorem k0_off62_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off62 v66 v70 v74 v78 v82 v86 v90 v94 v98 v102 v106 v110 v114 v118 v122 v126 v130 v134 v138 v142 v146 v150 v154 v158 v162 v166 v170 v174 v178 v182 v186 v190 k0_t2) a + S1x1408x1536.size a ≤ S3x1408x1536.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.1 k0_t2
theorem k0_off62_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), (Rect.unit (s := S3x1408x1536) (k0_off62 v66 v70 v74 v78 v82 v86 v90 v94 v98 v102 v106 v110 v114 v118 v122 v126 v130 v134 v138 v142 v146 v150 v154 v158 v162 v166 v170 v174 v178 v182 v186 v190 k0_t2) S1x1408x1536.size (k0_off62_inb v66 v70 v74 v78 v82 v86 v90 v94 v98 v102 v106 v110 v114 v118 v122 v126 v130 v134 v138 v142 v146 v150 v154 v158 v162 v166 v170 v174 v178 v182 v186 v190 k0_hw43 k0_t2)).WholeWords (EltTy.packing .i8) := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.1 k0_t2 (k0_off62_inb v66 v70 v74 v78 v82 v86 v90 v94 v98 v102 v106 v110 v114 v118 v122 v126 v130 v134 v138 v142 v146 v150 v154 v158 v162 v166 v170 v174 v178 v182 v186 v190 k0_hw43 k0_t2)
theorem k0_off64_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off64 v66 v70 v74 v78 v82 v86 v90 v94 v98 v102 v106 v110 v114 v118 v122 v126 v130 v134 v138 v142 v146 v150 v154 v158 v162 v166 v170 v174 v178 v182 v186 v190 k0_t2) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.1 k0_t2
theorem k0_off65_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off65 v66 v70 v74 v78 v82 v86 v90 v94 v98 v102 v106 v110 v114 v118 v122 v126 v130 v134 v138 v142 v146 v150 v154 v158 v162 v166 v170 v174 v178 v182 v186 v190 k0_t2) a + S1x22x1536.size a ≤ S3x22x1536.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.1 k0_t2
theorem k0_off65_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), (Rect.unit (s := S3x22x1536) (k0_off65 v66 v70 v74 v78 v82 v86 v90 v94 v98 v102 v106 v110 v114 v118 v122 v126 v130 v134 v138 v142 v146 v150 v154 v158 v162 v166 v170 v174 v178 v182 v186 v190 k0_t2) S1x22x1536.size (k0_off65_inb v66 v70 v74 v78 v82 v86 v90 v94 v98 v102 v106 v110 v114 v118 v122 v126 v130 v134 v138 v142 v146 v150 v154 v158 v162 v166 v170 v174 v178 v182 v186 v190 k0_hw43 k0_t2)).WholeWords (EltTy.packing .bf16) := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.2.1 k0_t2 (k0_off65_inb v66 v70 v74 v78 v82 v86 v90 v94 v98 v102 v106 v110 v114 v118 v122 v126 v130 v134 v138 v142 v146 v150 v154 v158 v162 v166 v170 v174 v178 v182 v186 v190 k0_hw43 k0_t2)
theorem k0_off67_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off67 v66 v70 v74 v78 v82 v86 v90 v94 v98 v102 v106 v110 v114 v118 v122 v126 v130 v134 v138 v142 v146 v150 v154 v158 v162 v166 v170 v174 v178 v182 v186 v190 k0_t2) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.2.2.1 k0_t2
theorem k0_off68_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off68 v66 v70 v74 v78 v82 v86 v90 v94 v98 v102 v106 v110 v114 v118 v122 v126 v130 v134 v138 v142 v146 v150 v154 v158 v162 v166 v170 v174 v178 v182 v186 v190 k0_t2) a + S1x384x2816.size a ≤ S3x384x2816.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.2.2.2.1 k0_t2
theorem k0_off68_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), (Rect.unit (s := S3x384x2816) (k0_off68 v66 v70 v74 v78 v82 v86 v90 v94 v98 v102 v106 v110 v114 v118 v122 v126 v130 v134 v138 v142 v146 v150 v154 v158 v162 v166 v170 v174 v178 v182 v186 v190 k0_t2) S1x384x2816.size (k0_off68_inb v66 v70 v74 v78 v82 v86 v90 v94 v98 v102 v106 v110 v114 v118 v122 v126 v130 v134 v138 v142 v146 v150 v154 v158 v162 v166 v170 v174 v178 v182 v186 v190 k0_hw43 k0_t2)).WholeWords (EltTy.packing .i8) := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.2.2.2.2.1 k0_t2 (k0_off68_inb v66 v70 v74 v78 v82 v86 v90 v94 v98 v102 v106 v110 v114 v118 v122 v126 v130 v134 v138 v142 v146 v150 v154 v158 v162 v166 v170 v174 v178 v182 v186 v190 k0_hw43 k0_t2)
theorem k0_off70_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off70 v66 v70 v74 v78 v82 v86 v90 v94 v98 v102 v106 v110 v114 v118 v122 v126 v130 v134 v138 v142 v146 v150 v154 v158 v162 v166 v170 v174 v178 v182 v186 v190 k0_t2) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.2.2.2.2.2.1 k0_t2
theorem k0_off71_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off71 v66 v70 v74 v78 v82 v86 v90 v94 v98 v102 v106 v110 v114 v118 v122 v126 v130 v134 v138 v142 v146 v150 v154 v158 v162 v166 v170 v174 v178 v182 v186 v190 k0_t2) a + S1x6x2816.size a ≤ S3x6x2816.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.2.2.2.2.2.2.1 k0_t2
theorem k0_off71_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), (Rect.unit (s := S3x6x2816) (k0_off71 v66 v70 v74 v78 v82 v86 v90 v94 v98 v102 v106 v110 v114 v118 v122 v126 v130 v134 v138 v142 v146 v150 v154 v158 v162 v166 v170 v174 v178 v182 v186 v190 k0_t2) S1x6x2816.size (k0_off71_inb v66 v70 v74 v78 v82 v86 v90 v94 v98 v102 v106 v110 v114 v118 v122 v126 v130 v134 v138 v142 v146 v150 v154 v158 v162 v166 v170 v174 v178 v182 v186 v190 k0_hw43 k0_t2)).WholeWords (EltTy.packing .bf16) := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.2.2.2.2.2.2.2.1 k0_t2 (k0_off71_inb v66 v70 v74 v78 v82 v86 v90 v94 v98 v102 v106 v110 v114 v118 v122 v126 v130 v134 v138 v142 v146 v150 v154 v158 v162 v166 v170 v174 v178 v182 v186 v190 k0_hw43 k0_t2)
theorem k0_off73_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ a, (k0_off73 v66 v70 v74 v78 v82 v86 v90 v94 v98 v102 v106 v110 v114 v118 v122 v126 v130 v134 v138 v142 v146 v150 v154 v158 v162 v166 v170 v174 v178 v182 v186 v190 k0_t2) a + S1x1408x1536.size a ≤ S3x1408x1536.size a := fun v66 v70 v74 v78 v82 v86 v90 v94 v98 v102 v106 v110 v114 v118 v122 v126 v130 v134 v138 v142 v146 v150 v154 v158 v162 v166 v170 v174 v178 v182 v186 v190 k0_hw43 k0_t2 => k0_hw43.1.2.2.2.2.2.2.2.2.2.2.2.2.2.2.1 k0_t2
theorem k0_off74_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off74 v66 v70 v74 v78 v82 v86 v90 v94 v98 v102 v106 v110 v114 v118 v122 v126 v130 v134 v138 v142 v146 v150 v154 v158 v162 v166 v170 v174 v178 v182 v186 v190 k0_t2) a + S1.size a ≤ S65.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.1 k0_t2 k0_h4
theorem k0_off75_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off75 v66 v70 v74 v78 v82 v86 v90 v94 v98 v102 v106 v110 v114 v118 v122 v126 v130 v134 v138 v142 v146 v150 v154 v158 v162 v166 v170 v174 v178 v182 v186 v190 k0_t2) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.1 k0_t2 k0_h4
theorem k0_off76_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off76 v66 v70 v74 v78 v82 v86 v90 v94 v98 v102 v106 v110 v114 v118 v122 v126 v130 v134 v138 v142 v146 v150 v154 v158 v162 v166 v170 v174 v178 v182 v186 v190 k0_t2) a + S1x1408x1536.size a ≤ S3x1408x1536.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.1 k0_t2 k0_h4
theorem k0_off76_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), (Rect.unit (s := S3x1408x1536) (k0_off76 v66 v70 v74 v78 v82 v86 v90 v94 v98 v102 v106 v110 v114 v118 v122 v126 v130 v134 v138 v142 v146 v150 v154 v158 v162 v166 v170 v174 v178 v182 v186 v190 k0_t2) S1x1408x1536.size (k0_off76_inb v66 v70 v74 v78 v82 v86 v90 v94 v98 v102 v106 v110 v114 v118 v122 v126 v130 v134 v138 v142 v146 v150 v154 v158 v162 v166 v170 v174 v178 v182 v186 v190 k0_hw43 k0_t2 k0_h4)).WholeWords (EltTy.packing .i8) := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.1 k0_t2 k0_h4 (k0_off76_inb v66 v70 v74 v78 v82 v86 v90 v94 v98 v102 v106 v110 v114 v118 v122 v126 v130 v134 v138 v142 v146 v150 v154 v158 v162 v166 v170 v174 v178 v182 v186 v190 k0_hw43 k0_t2 k0_h4)
theorem k0_off78_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off78 v66 v70 v74 v78 v82 v86 v90 v94 v98 v102 v106 v110 v114 v118 v122 v126 v130 v134 v138 v142 v146 v150 v154 v158 v162 v166 v170 v174 v178 v182 v186 v190 k0_t2) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.1 k0_t2 k0_h4
theorem k0_off79_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off79 v66 v70 v74 v78 v82 v86 v90 v94 v98 v102 v106 v110 v114 v118 v122 v126 v130 v134 v138 v142 v146 v150 v154 v158 v162 v166 v170 v174 v178 v182 v186 v190 k0_t2) a + S1x22x1536.size a ≤ S3x22x1536.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.2.1 k0_t2 k0_h4
theorem k0_off79_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), (Rect.unit (s := S3x22x1536) (k0_off79 v66 v70 v74 v78 v82 v86 v90 v94 v98 v102 v106 v110 v114 v118 v122 v126 v130 v134 v138 v142 v146 v150 v154 v158 v162 v166 v170 v174 v178 v182 v186 v190 k0_t2) S1x22x1536.size (k0_off79_inb v66 v70 v74 v78 v82 v86 v90 v94 v98 v102 v106 v110 v114 v118 v122 v126 v130 v134 v138 v142 v146 v150 v154 v158 v162 v166 v170 v174 v178 v182 v186 v190 k0_hw43 k0_t2 k0_h4)).WholeWords (EltTy.packing .bf16) := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.2.2.1 k0_t2 k0_h4 (k0_off79_inb v66 v70 v74 v78 v82 v86 v90 v94 v98 v102 v106 v110 v114 v118 v122 v126 v130 v134 v138 v142 v146 v150 v154 v158 v162 v166 v170 v174 v178 v182 v186 v190 k0_hw43 k0_t2 k0_h4)
theorem k0_off81_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off81 v66 v70 v74 v78 v82 v86 v90 v94 v98 v102 v106 v110 v114 v118 v122 v126 v130 v134 v138 v142 v146 v150 v154 v158 v162 v166 v170 v174 v178 v182 v186 v190 k0_t2) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.2.2.2.1 k0_t2 k0_h4
theorem k0_off82_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off82 v66 v70 v74 v78 v82 v86 v90 v94 v98 v102 v106 v110 v114 v118 v122 v126 v130 v134 v138 v142 v146 v150 v154 v158 v162 v166 v170 v174 v178 v182 v186 v190 k0_t2) a + S1x384x2816.size a ≤ S3x384x2816.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.2.2.2.2.1 k0_t2 k0_h4
theorem k0_off82_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), (Rect.unit (s := S3x384x2816) (k0_off82 v66 v70 v74 v78 v82 v86 v90 v94 v98 v102 v106 v110 v114 v118 v122 v126 v130 v134 v138 v142 v146 v150 v154 v158 v162 v166 v170 v174 v178 v182 v186 v190 k0_t2) S1x384x2816.size (k0_off82_inb v66 v70 v74 v78 v82 v86 v90 v94 v98 v102 v106 v110 v114 v118 v122 v126 v130 v134 v138 v142 v146 v150 v154 v158 v162 v166 v170 v174 v178 v182 v186 v190 k0_hw43 k0_t2 k0_h4)).WholeWords (EltTy.packing .i8) := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.2.2.2.2.2.1 k0_t2 k0_h4 (k0_off82_inb v66 v70 v74 v78 v82 v86 v90 v94 v98 v102 v106 v110 v114 v118 v122 v126 v130 v134 v138 v142 v146 v150 v154 v158 v162 v166 v170 v174 v178 v182 v186 v190 k0_hw43 k0_t2 k0_h4)
theorem k0_off84_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off84 v66 v70 v74 v78 v82 v86 v90 v94 v98 v102 v106 v110 v114 v118 v122 v126 v130 v134 v138 v142 v146 v150 v154 v158 v162 v166 v170 v174 v178 v182 v186 v190 k0_t2) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.2.2.2.2.2.2.1 k0_t2 k0_h4
theorem k0_off85_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), ∀ a, (k0_off85 v66 v70 v74 v78 v82 v86 v90 v94 v98 v102 v106 v110 v114 v118 v122 v126 v130 v134 v138 v142 v146 v150 v154 v158 v162 v166 v170 v174 v178 v182 v186 v190 k0_t2) a + S1x6x2816.size a ≤ S3x6x2816.size a := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.2.2.2.2.2.2.2.1 k0_t2 k0_h4
theorem k0_off85_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips), ∀ (k0_h4 : k0_cond4 v66 v70 v74 v78 v82 v86 v90 v94 v98 v102 v106 v110 v114 v118 v122 v126 v130 v134 v138 v142 v146 v150 v154 v158 v162 v166 v170 v174 v178 v182 v186 v190 k0_t2 = 1#1), (Rect.unit (s := S3x6x2816) (k0_off85 v66 v70 v74 v78 v82 v86 v90 v94 v98 v102 v106 v110 v114 v118 v122 v126 v130 v134 v138 v142 v146 v150 v154 v158 v162 v166 v170 v174 v178 v182 v186 v190 k0_t2) S1x6x2816.size (k0_off85_inb v66 v70 v74 v78 v82 v86 v90 v94 v98 v102 v106 v110 v114 v118 v122 v126 v130 v134 v138 v142 v146 v150 v154 v158 v162 v166 v170 v174 v178 v182 v186 v190 k0_hw43 k0_t2 k0_h4)).WholeWords (EltTy.packing .bf16) := fun v66 v70 v74 v78 v82 v86 v90 v94 v98 v102 v106 v110 v114 v118 v122 v126 v130 v134 v138 v142 v146 v150 v154 v158 v162 v166 v170 v174 v178 v182 v186 v190 k0_hw43 k0_t2 k0_h4 => k0_hw43.1.2.2.2.2.2.2.2.2.2.2.2.2.2.2.2.2.2.2.2.2.2.2.2.2.2.2.2.1 k0_t2 k0_h4 (k0_off85_inb v66 v70 v74 v78 v82 v86 v90 v94 v98 v102 v106 v110 v114 v118 v122 v126 v130 v134 v138 v142 v146 v150 v154 v158 v162 v166 v170 v174 v178 v182 v186 v190 k0_hw43 k0_t2 k0_h4)
theorem k0_t3_ok : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190), (k0_t3_loop v66 v70 v74 v78 v82 v86 v90 v94 v98 v102 v106 v110 v114 v118 v122 v126 v130 v134 v138 v142 v146 v150 v154 v158 v162 v166 v170 v174 v178 v182 v186 v190).OK := fun v66 v70 v74 v78 v82 v86 v90 v94 v98 v102 v106 v110 v114 v118 v122 v126 v130 v134 v138 v142 v146 v150 v154 v158 v162 v166 v170 v174 v178 v182 v186 v190 k0_hw43 => k0_hw43.1.2.2.2.2.2.2.2.2.2.2.2.2.2.2.2.2.2.2.2.2.2.2.2.2.2.2.2.2.1
theorem k0_off87_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off87 v66 v70 v74 v78 v82 v86 v90 v94 v98 v102 v106 v110 v114 v118 v122 v126 v130 v134 v138 v142 v146 v150 v154 v158 v162 v166 v170 v174 v178 v182 v186 v190 k0_t3) a + S1.size a ≤ S65.size a := fun v66 v70 v74 v78 v82 v86 v90 v94 v98 v102 v106 v110 v114 v118 v122 v126 v130 v134 v138 v142 v146 v150 v154 v158 v162 v166 v170 v174 v178 v182 v186 v190 k0_hw43 k0_t3 => k0_hw43.1.2.2.2.2.2.2.2.2.2.2.2.2.2.2.2.2.2.2.2.2.2.2.2.2.2.2.2.2.2.1 k0_t3
theorem k0_off88_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off88 v66 v70 v74 v78 v82 v86 v90 v94 v98 v102 v106 v110 v114 v118 v122 v126 v130 v134 v138 v142 v146 v150 v154 v158 v162 v166 v170 v174 v178 v182 v186 v190 k0_t3) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t3 => k0_hw43.1.2.2.2.2.2.2.2.2.2.2.2.2.2.2.2.2.2.2.2.2.2.2.2.2.2.2.2.2.2.2.1 k0_t3
theorem k0_off89_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off89 v66 v70 v74 v78 v82 v86 v90 v94 v98 v102 v106 v110 v114 v118 v122 v126 v130 v134 v138 v142 v146 v150 v154 v158 v162 v166 v170 v174 v178 v182 v186 v190 k0_t3) a + S1x1408x1536.size a ≤ S3x1408x1536.size a := fun v66 v70 v74 v78 v82 v86 v90 v94 v98 v102 v106 v110 v114 v118 v122 v126 v130 v134 v138 v142 v146 v150 v154 v158 v162 v166 v170 v174 v178 v182 v186 v190 k0_hw43 k0_t3 => k0_hw43.1.2.2.2.2.2.2.2.2.2.2.2.2.2.2.2.2.2.2.2.2.2.2.2.2.2.2.2.2.2.2.2 k0_t3
theorem k0_off89_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), (Rect.unit (s := S3x1408x1536) (k0_off89 v66 v70 v74 v78 v82 v86 v90 v94 v98 v102 v106 v110 v114 v118 v122 v126 v130 v134 v138 v142 v146 v150 v154 v158 v162 v166 v170 v174 v178 v182 v186 v190 k0_t3) S1x1408x1536.size (k0_off89_inb v66 v70 v74 v78 v82 v86 v90 v94 v98 v102 v106 v110 v114 v118 v122 v126 v130 v134 v138 v142 v146 v150 v154 v158 v162 v166 v170 v174 v178 v182 v186 v190 k0_hw43 k0_t3)).WholeWords (EltTy.packing .i8) := fun v66 v70 v74 v78 v82 v86 v90 v94 v98 v102 v106 v110 v114 v118 v122 v126 v130 v134 v138 v142 v146 v150 v154 v158 v162 v166 v170 v174 v178 v182 v186 v190 k0_hw43 k0_t3 => k0_hw43.2.1 k0_t3 (k0_off89_inb v66 v70 v74 v78 v82 v86 v90 v94 v98 v102 v106 v110 v114 v118 v122 v126 v130 v134 v138 v142 v146 v150 v154 v158 v162 v166 v170 v174 v178 v182 v186 v190 k0_hw43 k0_t3)
theorem k0_off91_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off91 v66 v70 v74 v78 v82 v86 v90 v94 v98 v102 v106 v110 v114 v118 v122 v126 v130 v134 v138 v142 v146 v150 v154 v158 v162 v166 v170 v174 v178 v182 v186 v190 k0_t3) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t3 => k0_hw43.2.2.1 k0_t3
theorem k0_off92_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off92 v66 v70 v74 v78 v82 v86 v90 v94 v98 v102 v106 v110 v114 v118 v122 v126 v130 v134 v138 v142 v146 v150 v154 v158 v162 v166 v170 v174 v178 v182 v186 v190 k0_t3) a + S1x22x1536.size a ≤ S3x22x1536.size a := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.1 k0_t3
theorem k0_off92_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), (Rect.unit (s := S3x22x1536) (k0_off92 v66 v70 v74 v78 v82 v86 v90 v94 v98 v102 v106 v110 v114 v118 v122 v126 v130 v134 v138 v142 v146 v150 v154 v158 v162 v166 v170 v174 v178 v182 v186 v190 k0_t3) S1x22x1536.size (k0_off92_inb v66 v70 v74 v78 v82 v86 v90 v94 v98 v102 v106 v110 v114 v118 v122 v126 v130 v134 v138 v142 v146 v150 v154 v158 v162 v166 v170 v174 v178 v182 v186 v190 k0_hw43 k0_t3)).WholeWords (EltTy.packing .bf16) := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.2.1 k0_t3 (k0_off92_inb v66 v70 v74 v78 v82 v86 v90 v94 v98 v102 v106 v110 v114 v118 v122 v126 v130 v134 v138 v142 v146 v150 v154 v158 v162 v166 v170 v174 v178 v182 v186 v190 k0_hw43 k0_t3)
theorem k0_off94_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off94 v66 v70 v74 v78 v82 v86 v90 v94 v98 v102 v106 v110 v114 v118 v122 v126 v130 v134 v138 v142 v146 v150 v154 v158 v162 v166 v170 v174 v178 v182 v186 v190 k0_t3) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.2.2.1 k0_t3
theorem k0_off95_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off95 v66 v70 v74 v78 v82 v86 v90 v94 v98 v102 v106 v110 v114 v118 v122 v126 v130 v134 v138 v142 v146 v150 v154 v158 v162 v166 v170 v174 v178 v182 v186 v190 k0_t3) a + S1x384x2816.size a ≤ S3x384x2816.size a := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.2.2.2.1 k0_t3
theorem k0_off95_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), (Rect.unit (s := S3x384x2816) (k0_off95 v66 v70 v74 v78 v82 v86 v90 v94 v98 v102 v106 v110 v114 v118 v122 v126 v130 v134 v138 v142 v146 v150 v154 v158 v162 v166 v170 v174 v178 v182 v186 v190 k0_t3) S1x384x2816.size (k0_off95_inb v66 v70 v74 v78 v82 v86 v90 v94 v98 v102 v106 v110 v114 v118 v122 v126 v130 v134 v138 v142 v146 v150 v154 v158 v162 v166 v170 v174 v178 v182 v186 v190 k0_hw43 k0_t3)).WholeWords (EltTy.packing .i8) := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.2.2.2.2.1 k0_t3 (k0_off95_inb v66 v70 v74 v78 v82 v86 v90 v94 v98 v102 v106 v110 v114 v118 v122 v126 v130 v134 v138 v142 v146 v150 v154 v158 v162 v166 v170 v174 v178 v182 v186 v190 k0_hw43 k0_t3)
theorem k0_off97_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off97 v66 v70 v74 v78 v82 v86 v90 v94 v98 v102 v106 v110 v114 v118 v122 v126 v130 v134 v138 v142 v146 v150 v154 v158 v162 v166 v170 v174 v178 v182 v186 v190 k0_t3) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.2.2.2.2.2.1 k0_t3
theorem k0_off98_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off98 v66 v70 v74 v78 v82 v86 v90 v94 v98 v102 v106 v110 v114 v118 v122 v126 v130 v134 v138 v142 v146 v150 v154 v158 v162 v166 v170 v174 v178 v182 v186 v190 k0_t3) a + S1x6x2816.size a ≤ S3x6x2816.size a := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.2.2.2.2.2.2.1 k0_t3
theorem k0_off98_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), (Rect.unit (s := S3x6x2816) (k0_off98 v66 v70 v74 v78 v82 v86 v90 v94 v98 v102 v106 v110 v114 v118 v122 v126 v130 v134 v138 v142 v146 v150 v154 v158 v162 v166 v170 v174 v178 v182 v186 v190 k0_t3) S1x6x2816.size (k0_off98_inb v66 v70 v74 v78 v82 v86 v90 v94 v98 v102 v106 v110 v114 v118 v122 v126 v130 v134 v138 v142 v146 v150 v154 v158 v162 v166 v170 v174 v178 v182 v186 v190 k0_hw43 k0_t3)).WholeWords (EltTy.packing .bf16) := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.2.2.2.2.2.2.2.1 k0_t3 (k0_off98_inb v66 v70 v74 v78 v82 v86 v90 v94 v98 v102 v106 v110 v114 v118 v122 v126 v130 v134 v138 v142 v146 v150 v154 v158 v162 v166 v170 v174 v178 v182 v186 v190 k0_hw43 k0_t3)
theorem k0_off100_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ a, (k0_off100 v66 v70 v74 v78 v82 v86 v90 v94 v98 v102 v106 v110 v114 v118 v122 v126 v130 v134 v138 v142 v146 v150 v154 v158 v162 v166 v170 v174 v178 v182 v186 v190 k0_t3) a + S1x1408x1536.size a ≤ S3x1408x1536.size a := fun v66 v70 v74 v78 v82 v86 v90 v94 v98 v102 v106 v110 v114 v118 v122 v126 v130 v134 v138 v142 v146 v150 v154 v158 v162 v166 v170 v174 v178 v182 v186 v190 k0_hw43 k0_t3 => k0_hw43.2.2.2.2.2.2.2.2.2.2.2.1 k0_t3
theorem k0_off101_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off101 v66 v70 v74 v78 v82 v86 v90 v94 v98 v102 v106 v110 v114 v118 v122 v126 v130 v134 v138 v142 v146 v150 v154 v158 v162 v166 v170 v174 v178 v182 v186 v190 k0_t3) a + S1.size a ≤ S65.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.1 k0_t3 k0_h5
theorem k0_off102_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off102 v66 v70 v74 v78 v82 v86 v90 v94 v98 v102 v106 v110 v114 v118 v122 v126 v130 v134 v138 v142 v146 v150 v154 v158 v162 v166 v170 v174 v178 v182 v186 v190 k0_t3) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.1 k0_t3 k0_h5
theorem k0_off103_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off103 v66 v70 v74 v78 v82 v86 v90 v94 v98 v102 v106 v110 v114 v118 v122 v126 v130 v134 v138 v142 v146 v150 v154 v158 v162 v166 v170 v174 v178 v182 v186 v190 k0_t3) a + S1x1408x1536.size a ≤ S3x1408x1536.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.1 k0_t3 k0_h5
theorem k0_off103_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), (Rect.unit (s := S3x1408x1536) (k0_off103 v66 v70 v74 v78 v82 v86 v90 v94 v98 v102 v106 v110 v114 v118 v122 v126 v130 v134 v138 v142 v146 v150 v154 v158 v162 v166 v170 v174 v178 v182 v186 v190 k0_t3) S1x1408x1536.size (k0_off103_inb v66 v70 v74 v78 v82 v86 v90 v94 v98 v102 v106 v110 v114 v118 v122 v126 v130 v134 v138 v142 v146 v150 v154 v158 v162 v166 v170 v174 v178 v182 v186 v190 k0_hw43 k0_t3 k0_h5)).WholeWords (EltTy.packing .i8) := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.1 k0_t3 k0_h5 (k0_off103_inb v66 v70 v74 v78 v82 v86 v90 v94 v98 v102 v106 v110 v114 v118 v122 v126 v130 v134 v138 v142 v146 v150 v154 v158 v162 v166 v170 v174 v178 v182 v186 v190 k0_hw43 k0_t3 k0_h5)
theorem k0_off105_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off105 v66 v70 v74 v78 v82 v86 v90 v94 v98 v102 v106 v110 v114 v118 v122 v126 v130 v134 v138 v142 v146 v150 v154 v158 v162 v166 v170 v174 v178 v182 v186 v190 k0_t3) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.1 k0_t3 k0_h5
theorem k0_off106_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off106 v66 v70 v74 v78 v82 v86 v90 v94 v98 v102 v106 v110 v114 v118 v122 v126 v130 v134 v138 v142 v146 v150 v154 v158 v162 v166 v170 v174 v178 v182 v186 v190 k0_t3) a + S1x22x1536.size a ≤ S3x22x1536.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.2.1 k0_t3 k0_h5
theorem k0_off106_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), (Rect.unit (s := S3x22x1536) (k0_off106 v66 v70 v74 v78 v82 v86 v90 v94 v98 v102 v106 v110 v114 v118 v122 v126 v130 v134 v138 v142 v146 v150 v154 v158 v162 v166 v170 v174 v178 v182 v186 v190 k0_t3) S1x22x1536.size (k0_off106_inb v66 v70 v74 v78 v82 v86 v90 v94 v98 v102 v106 v110 v114 v118 v122 v126 v130 v134 v138 v142 v146 v150 v154 v158 v162 v166 v170 v174 v178 v182 v186 v190 k0_hw43 k0_t3 k0_h5)).WholeWords (EltTy.packing .bf16) := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.2.2.1 k0_t3 k0_h5 (k0_off106_inb v66 v70 v74 v78 v82 v86 v90 v94 v98 v102 v106 v110 v114 v118 v122 v126 v130 v134 v138 v142 v146 v150 v154 v158 v162 v166 v170 v174 v178 v182 v186 v190 k0_hw43 k0_t3 k0_h5)
theorem k0_off108_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off108 v66 v70 v74 v78 v82 v86 v90 v94 v98 v102 v106 v110 v114 v118 v122 v126 v130 v134 v138 v142 v146 v150 v154 v158 v162 v166 v170 v174 v178 v182 v186 v190 k0_t3) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.2.2.2.1 k0_t3 k0_h5
theorem k0_off109_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off109 v66 v70 v74 v78 v82 v86 v90 v94 v98 v102 v106 v110 v114 v118 v122 v126 v130 v134 v138 v142 v146 v150 v154 v158 v162 v166 v170 v174 v178 v182 v186 v190 k0_t3) a + S1x384x2816.size a ≤ S3x384x2816.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.2.2.2.2.1 k0_t3 k0_h5
theorem k0_off109_wordsi8 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), (Rect.unit (s := S3x384x2816) (k0_off109 v66 v70 v74 v78 v82 v86 v90 v94 v98 v102 v106 v110 v114 v118 v122 v126 v130 v134 v138 v142 v146 v150 v154 v158 v162 v166 v170 v174 v178 v182 v186 v190 k0_t3) S1x384x2816.size (k0_off109_inb v66 v70 v74 v78 v82 v86 v90 v94 v98 v102 v106 v110 v114 v118 v122 v126 v130 v134 v138 v142 v146 v150 v154 v158 v162 v166 v170 v174 v178 v182 v186 v190 k0_hw43 k0_t3 k0_h5)).WholeWords (EltTy.packing .i8) := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.2.2.2.2.2.1 k0_t3 k0_h5 (k0_off109_inb v66 v70 v74 v78 v82 v86 v90 v94 v98 v102 v106 v110 v114 v118 v122 v126 v130 v134 v138 v142 v146 v150 v154 v158 v162 v166 v170 v174 v178 v182 v186 v190 k0_hw43 k0_t3 k0_h5)
theorem k0_off111_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off111 v66 v70 v74 v78 v82 v86 v90 v94 v98 v102 v106 v110 v114 v118 v122 v126 v130 v134 v138 v142 v146 v150 v154 v158 v162 v166 v170 v174 v178 v182 v186 v190 k0_t3) a + S1x1.size a ≤ S4x3.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.2.2.2.2.2.2.1 k0_t3 k0_h5
theorem k0_off112_inb : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), ∀ a, (k0_off112 v66 v70 v74 v78 v82 v86 v90 v94 v98 v102 v106 v110 v114 v118 v122 v126 v130 v134 v138 v142 v146 v150 v154 v158 v162 v166 v170 v174 v178 v182 v186 v190 k0_t3) a + S1x6x2816.size a ≤ S3x6x2816.size a := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.2.2.2.2.2.2.2.1 k0_t3 k0_h5
theorem k0_off112_wordsbf16 : ∀ (v66 : BitVec 32) (v70 : BitVec 32) (v74 : BitVec 32) (v78 : BitVec 32) (v82 : BitVec 32) (v86 : BitVec 32) (v90 : BitVec 32) (v94 : BitVec 32) (v98 : BitVec 32) (v102 : BitVec 32) (v106 : BitVec 32) (v110 : BitVec 32) (v114 : BitVec 32) (v118 : BitVec 32) (v122 : BitVec 32) (v126 : BitVec 32) (v130 : BitVec 32) (v134 : BitVec 32) (v138 : BitVec 32) (v142 : BitVec 32) (v146 : BitVec 32) (v150 : BitVec 32) (v154 : BitVec 32) (v158 : BitVec 32) (v162 : BitVec 32) (v166 : BitVec 32) (v170 : BitVec 32) (v174 : BitVec 32) (v178 : BitVec 32) (v182 : BitVec 32) (v186 : BitVec 32) (v190 : BitVec 32) (k0_hw43 : k0_chk43 v66 v70 v74 v78 v82 v86 v90 v94 v98 v102 v106 v110 v114 v118 v122 v126 v130 v134 v138 v142 v146 v150 v154 v158 v162 v166 v170 v174 v178 v182 v186 v190) (k0_t3 : Fin (k0_t3_loop v66 v70 v74 v78 v82 v86 v90 v94 v98 v102 v106 v110 v114 v118 v122 v126 v130 v134 v138 v142 v146 v150 v154 v158 v162 v166 v170 v174 v178 v182 v186 v190).trips), ∀ (k0_h5 : k0_cond5 v66 v70 v74 v78 v82 v86 v90 v94 v98 v102 v106 v110 v114 v118 v122 v126 v130 v134 v138 v142 v146 v150 v154 v158 v162 v166 v170 v174 v178 v182 v186 v190 k0_t3 = 1#1), (Rect.unit (s := S3x6x2816) (k0_off112 v66 v70 v74 v78 v82 v86 v90 v94 v98 v102 v106 v110 v114 v118 v122 v126 v130 v134 v138 v142 v146 v150 v154 v158 v162 v166 v170 v174 v178 v182 v186 v190 k0_t3) S1x6x2816.size (k0_off112_inb v66 v70 v74 v78 v82 v86 v90 v94 v98 v102 v106 v110 v114 v118 v122 v126 v130 v134 v138 v142 v146 v150 v154 v158 v162 v166 v170 v174 v178 v182 v186 v190 k0_hw43 k0_t3 k0_h5)).WholeWords (EltTy.packing .bf16) := fun v66 v70 v74 v78 v82 v86 v90 v94 v98 v102 v106 v110 v114 v118 v122 v126 v130 v134 v138 v142 v146 v150 v154 v158 v162 v166 v170 v174 v178 v182 v186 v190 k0_hw43 k0_t3 k0_h5 => k0_hw43.2.2.2.2.2.2.2.2.2.2.2.2.2.2.2.2.2.2.2.2.2.2.2.2 k0_t3 k0_h5 (k0_off112_inb v66 v70 v74 v78 v82 v86 v90 v94 v98 v102 v106 v110 v114 v118 v122 v126 v130 v134 v138 v142 v146 v150 v154 v158 v162 v166 v170 v174 v178 v182 v186 v190 k0_hw43 k0_t3 k0_h5)

abbrev stage0_0 : Fin 1 → Memref sig .tc .smem S64x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S64x1x2816 : Shape := ⟨3, ![64, 1, 2816]⟩
abbrev S64x1x8 : Shape := ⟨3, ![64, 1, 8]⟩
abbrev S32x1408x1536 : Shape := ⟨3, ![32, 1408, 1536]⟩
abbrev S32x22x1536 : Shape := ⟨3, ![32, 22, 1536]⟩
abbrev S32x384x2816 : Shape := ⟨3, ![32, 384, 2816]⟩
abbrev S32x6x2816 : Shape := ⟨3, ![32, 6, 2816]⟩
abbrev S64x2816 : Shape := ⟨2, ![64, 2816]⟩
abbrev S64x8 : Shape := ⟨2, ![64, 8]⟩
abbrev S32x22x64x1536 : Shape := ⟨4, ![32, 22, 64, 1536]⟩
abbrev S_ : Shape := ⟨0, ![]⟩
abbrev S64x1408x2 : Shape := ⟨3, ![64, 1408, 2]⟩
abbrev S64x1408x1 : Shape := ⟨3, ![64, 1408, 1]⟩
abbrev S64x1408 : Shape := ⟨2, ![64, 1408]⟩
abbrev S32x1536x64 : Shape := ⟨3, ![32, 1536, 64]⟩
abbrev S32x64x1536 : Shape := ⟨3, ![32, 64, 1536]⟩
abbrev S32x64x768 : Shape := ⟨3, ![32, 64, 768]⟩
abbrev S32x6x64x2816 : Shape := ⟨4, ![32, 6, 64, 2816]⟩
abbrev S32x64x384x2 : Shape := ⟨4, ![32, 64, 384, 2]⟩
abbrev S32x64x384x1 : Shape := ⟨4, ![32, 64, 384, 1]⟩
abbrev S32x64x384 : Shape := ⟨3, ![32, 64, 384]⟩
abbrev S32x64x2816 : Shape := ⟨3, ![32, 64, 2816]⟩
abbrev S64x8x1 : Shape := ⟨3, ![64, 8, 1]⟩
abbrev S32 : Shape := ⟨1, ![32]⟩
abbrev S1x1x32 : Shape := ⟨3, ![1, 1, 32]⟩
abbrev S64x8x32 : Shape := ⟨3, ![64, 8, 32]⟩
abbrev S64x32 : Shape := ⟨2, ![64, 32]⟩
abbrev S32x64 : Shape := ⟨2, ![32, 64]⟩
abbrev S32x64x1 : Shape := ⟨3, ![32, 64, 1]⟩

abbrev nBuf : Space → Nat
  | .hbm => 123
  | .vmem => 0
  | .smem => 0
  | _ => 0

abbrev bufTy : (tb : Table) → Fin (tcTables nBuf tb) → BufTy
  | .hbm, ⟨0, _⟩ => ⟨S64x1x2816, .bf16⟩
  | .hbm, ⟨1, _⟩ => ⟨S64x1x8, .i32⟩
  | .hbm, ⟨2, _⟩ => ⟨S64x1x8, .f32⟩
  | .hbm, ⟨3, _⟩ => ⟨S32x1408x1536, .i8⟩
  | .hbm, ⟨4, _⟩ => ⟨S32x22x1536, .bf16⟩
  | .hbm, ⟨5, _⟩ => ⟨S32x384x2816, .i8⟩
  | .hbm, ⟨6, _⟩ => ⟨S32x6x2816, .bf16⟩
  | .hbm, ⟨7, _⟩ => ⟨S64x2816, .bf16⟩
  | .hbm, ⟨8, _⟩ => ⟨S64x8, .i32⟩
  | .hbm, ⟨9, _⟩ => ⟨S64x8, .f32⟩
  | .hbm, ⟨10, _⟩ => ⟨S32x1408x1536, .i32⟩
  | .hbm, ⟨11, _⟩ => ⟨S32x22x64x1536, .bf16⟩
  | .hbm, ⟨12, _⟩ => ⟨S32x1408x1536, .bf16⟩
  | .hbm, ⟨13, _⟩ => ⟨S_, .i32⟩
  | .hbm, ⟨14, _⟩ => ⟨S32x1408x1536, .i32⟩
  | .hbm, ⟨15, _⟩ => ⟨S32x1408x1536, .i32⟩
  | .hbm, ⟨16, _⟩ => ⟨S_, .i32⟩
  | .hbm, ⟨17, _⟩ => ⟨S32x1408x1536, .i32⟩
  | .hbm, ⟨18, _⟩ => ⟨S32x1408x1536, .i1⟩
  | .hbm, ⟨19, _⟩ => ⟨S_, .i32⟩
  | .hbm, ⟨20, _⟩ => ⟨S32x1408x1536, .i32⟩
  | .hbm, ⟨21, _⟩ => ⟨S32x1408x1536, .i32⟩
  | .hbm, ⟨22, _⟩ => ⟨S32x1408x1536, .i32⟩
  | .hbm, ⟨23, _⟩ => ⟨S32x1408x1536, .bf16⟩
  | .hbm, ⟨24, _⟩ => ⟨S32x1408x1536, .bf16⟩
  | .hbm, ⟨25, _⟩ => ⟨S_, .i32⟩
  | .hbm, ⟨26, _⟩ => ⟨S32x1408x1536, .i32⟩
  | .hbm, ⟨27, _⟩ => ⟨S32x1408x1536, .i32⟩
  | .hbm, ⟨28, _⟩ => ⟨S_, .i32⟩
  | .hbm, ⟨29, _⟩ => ⟨S32x1408x1536, .i32⟩
  | .hbm, ⟨30, _⟩ => ⟨S32x1408x1536, .i32⟩
  | .hbm, ⟨31, _⟩ => ⟨S_, .i32⟩
  | .hbm, ⟨32, _⟩ => ⟨S32x1408x1536, .i32⟩
  | .hbm, ⟨33, _⟩ => ⟨S32x1408x1536, .i1⟩
  | .hbm, ⟨34, _⟩ => ⟨S_, .i32⟩
  | .hbm, ⟨35, _⟩ => ⟨S32x1408x1536, .i32⟩
  | .hbm, ⟨36, _⟩ => ⟨S32x1408x1536, .i32⟩
  | .hbm, ⟨37, _⟩ => ⟨S32x1408x1536, .i32⟩
  | .hbm, ⟨38, _⟩ => ⟨S32x1408x1536, .bf16⟩
  | .hbm, ⟨39, _⟩ => ⟨S32x1408x1536, .bf16⟩
  | .hbm, ⟨40, _⟩ => ⟨S64x1408x2, .bf16⟩
  | .hbm, ⟨41, _⟩ => ⟨S64x1408x1, .bf16⟩
  | .hbm, ⟨42, _⟩ => ⟨S64x1408, .bf16⟩
  | .hbm, ⟨43, _⟩ => ⟨S32x1536x64, .f32⟩
  | .hbm, ⟨44, _⟩ => ⟨S32x64x1536, .f32⟩
  | .hbm, ⟨45, _⟩ => ⟨S64x1408x1, .bf16⟩
  | .hbm, ⟨46, _⟩ => ⟨S64x1408, .bf16⟩
  | .hbm, ⟨47, _⟩ => ⟨S32x1536x64, .f32⟩
  | .hbm, ⟨48, _⟩ => ⟨S32x64x1536, .f32⟩
  | .hbm, ⟨49, _⟩ => ⟨S32x64x1536, .f32⟩
  | .hbm, ⟨50, _⟩ => ⟨S32x64x768, .f32⟩
  | .hbm, ⟨51, _⟩ => ⟨S32x64x768, .f32⟩
  | .hbm, ⟨52, _⟩ => ⟨S32x64x768, .f32⟩
  | .hbm, ⟨53, _⟩ => ⟨S_, .f32⟩
  | .hbm, ⟨54, _⟩ => ⟨S32x64x768, .f32⟩
  | .hbm, ⟨55, _⟩ => ⟨S32x64x768, .f32⟩
  | .hbm, ⟨56, _⟩ => ⟨S_, .f32⟩
  | .hbm, ⟨57, _⟩ => ⟨S32x64x768, .f32⟩
  | .hbm, ⟨58, _⟩ => ⟨S32x64x768, .f32⟩
  | .hbm, ⟨59, _⟩ => ⟨S32x64x768, .f32⟩
  | .hbm, ⟨60, _⟩ => ⟨S32x64x768, .f32⟩
  | .hbm, ⟨61, _⟩ => ⟨S32x64x768, .f32⟩
  | .hbm, ⟨62, _⟩ => ⟨S32x64x768, .bf16⟩
  | .hbm, ⟨63, _⟩ => ⟨S32x384x2816, .i32⟩
  | .hbm, ⟨64, _⟩ => ⟨S32x6x64x2816, .bf16⟩
  | .hbm, ⟨65, _⟩ => ⟨S32x384x2816, .bf16⟩
  | .hbm, ⟨66, _⟩ => ⟨S_, .i32⟩
  | .hbm, ⟨67, _⟩ => ⟨S32x384x2816, .i32⟩
  | .hbm, ⟨68, _⟩ => ⟨S32x384x2816, .i32⟩
  | .hbm, ⟨69, _⟩ => ⟨S_, .i32⟩
  | .hbm, ⟨70, _⟩ => ⟨S32x384x2816, .i32⟩
  | .hbm, ⟨71, _⟩ => ⟨S32x384x2816, .i1⟩
  | .hbm, ⟨72, _⟩ => ⟨S_, .i32⟩
  | .hbm, ⟨73, _⟩ => ⟨S32x384x2816, .i32⟩
  | .hbm, ⟨74, _⟩ => ⟨S32x384x2816, .i32⟩
  | .hbm, ⟨75, _⟩ => ⟨S32x384x2816, .i32⟩
  | .hbm, ⟨76, _⟩ => ⟨S32x384x2816, .bf16⟩
  | .hbm, ⟨77, _⟩ => ⟨S32x384x2816, .bf16⟩
  | .hbm, ⟨78, _⟩ => ⟨S_, .i32⟩
  | .hbm, ⟨79, _⟩ => ⟨S32x384x2816, .i32⟩
  | .hbm, ⟨80, _⟩ => ⟨S32x384x2816, .i32⟩
  | .hbm, ⟨81, _⟩ => ⟨S_, .i32⟩
  | .hbm, ⟨82, _⟩ => ⟨S32x384x2816, .i32⟩
  | .hbm, ⟨83, _⟩ => ⟨S32x384x2816, .i32⟩
  | .hbm, ⟨84, _⟩ => ⟨S_, .i32⟩
  | .hbm, ⟨85, _⟩ => ⟨S32x384x2816, .i32⟩
  | .hbm, ⟨86, _⟩ => ⟨S32x384x2816, .i1⟩
  | .hbm, ⟨87, _⟩ => ⟨S_, .i32⟩
  | .hbm, ⟨88, _⟩ => ⟨S32x384x2816, .i32⟩
  | .hbm, ⟨89, _⟩ => ⟨S32x384x2816, .i32⟩
  | .hbm, ⟨90, _⟩ => ⟨S32x384x2816, .i32⟩
  | .hbm, ⟨91, _⟩ => ⟨S32x384x2816, .bf16⟩
  | .hbm, ⟨92, _⟩ => ⟨S32x384x2816, .bf16⟩
  | .hbm, ⟨93, _⟩ => ⟨S32x64x384x2, .bf16⟩
  | .hbm, ⟨94, _⟩ => ⟨S32x64x384x1, .bf16⟩
  | .hbm, ⟨95, _⟩ => ⟨S32x64x384, .bf16⟩
  | .hbm, ⟨96, _⟩ => ⟨S32x64x2816, .f32⟩
  | .hbm, ⟨97, _⟩ => ⟨S32x64x384x1, .bf16⟩
  | .hbm, ⟨98, _⟩ => ⟨S32x64x384, .bf16⟩
  | .hbm, ⟨99, _⟩ => ⟨S32x64x2816, .f32⟩
  | .hbm, ⟨100, _⟩ => ⟨S32x64x2816, .f32⟩
  | .hbm, ⟨101, _⟩ => ⟨S64x8x1, .i32⟩
  | .hbm, ⟨102, _⟩ => ⟨S32, .i32⟩
  | .hbm, ⟨103, _⟩ => ⟨S1x1x32, .i32⟩
  | .hbm, ⟨104, _⟩ => ⟨S64x8x32, .i32⟩
  | .hbm, ⟨105, _⟩ => ⟨S64x8x32, .i32⟩
  | .hbm, ⟨106, _⟩ => ⟨S64x8x32, .i1⟩
  | .hbm, ⟨107, _⟩ => ⟨S64x8x1, .f32⟩
  | .hbm, ⟨108, _⟩ => ⟨S_, .f32⟩
  | .hbm, ⟨109, _⟩ => ⟨S_, .f32⟩
  | .hbm, ⟨110, _⟩ => ⟨S64x8x32, .f32⟩
  | .hbm, ⟨111, _⟩ => ⟨S64x8x32, .f32⟩
  | .hbm, ⟨112, _⟩ => ⟨S64x8x32, .f32⟩
  | .hbm, ⟨113, _⟩ => ⟨S_, .f32⟩
  | .hbm, ⟨114, _⟩ => ⟨S64x32, .f32⟩
  | .hbm, ⟨115, _⟩ => ⟨S32x64, .f32⟩
  | .hbm, ⟨116, _⟩ => ⟨S32x64x1, .f32⟩
  | .hbm, ⟨117, _⟩ => ⟨S32x64x2816, .f32⟩
  | .hbm, ⟨118, _⟩ => ⟨S32x64x2816, .f32⟩
  | .hbm, ⟨119, _⟩ => ⟨S_, .f32⟩
  | .hbm, ⟨120, _⟩ => ⟨S64x2816, .f32⟩
  | .hbm, ⟨121, _⟩ => ⟨S64x1x2816, .f32⟩
  | .hbm, ⟨122, _⟩ => ⟨S64x1x2816, .bf16⟩
  | _, _ => ⟨S64x1x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v79 : Ref sig .tc := ⟨.hbm, 112, rfl⟩
abbrev main_cst_13 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]
-- ==== Proof.Base.lean ====
/-
  Triples for straight-line kernel code that always returns one value: `Ev E p a E'` says that `p` run from `E`
  returns `a` and leaves `E'`. Memory is stated memref by memref (`holds`): which tensor the memref reads as.
-/
module

public import Idealize.ShloMosaic.Lib.Tactic
public import Idealize.ShloMosaic.Lib.Transfers
public import Idealize.ShloMosaic.Lib.Scf
public import Idealize.ShloMosaic.Lib.Pipeline.Kit

@[expose] public section

noncomputable section

namespace Cert.Moe

open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Rounds Idealize.ShloMosaic.Pipeline

/-- The user algebra: the pipeline's staging cells beside the counters that transfers take their tokens from. -/
abbrev UU (sig : RefSig) (nD : Nat) (τ : Topo) : Type := UR sig nD τ × Counters

variable {nD : Nat} {τ : Topo} {sig : RefSig} {Val : EltTy → Type} {Λ : Labels}

local notation "𝕄" => MT nD τ sig Unit Val ℕ (UU sig nD τ) ℕ

/-- Where the transfers' counters live. -/
abbrev EC : UEmb Counters (MT nD τ sig Unit Val ℕ (UU sig nD τ) ℕ) := countersEmb

/-- Memref `m` is held at share `q` and reads as the tensor `T`. -/
def holds (c : Thread nD τ) {sp : Space} {s : Shape} {e : EltTy} (m : Memref sig c.2.kind sp s e) (q : PosShare TreeShare)
    (T : s.Idx → Val e) : sProp 𝕄 :=
  iprop(∃ f, ⌜m.view.read Val f = T⌝ ∗ (m.view.loc c ↦[m.view.set]{q} f))

variable (defs : Defs nD τ sig Val Λ) (𝒱 : Variants) (c : Thread nD τ) (bd : Option 𝒱.V)

/-- From `E`, the program `p` returns `a` and leaves `E'`. -/
def Ev {α : Type} (E : sProp 𝕄) (p : Prog (TpuEff nD τ sig Val Λ c.2) α) (a : α) (E' : sProp 𝕄) : Prop :=
  E ⊢ wp frame (wpE defs 𝒱 c bd) Set.univ p (fun v => iprop(⌜v = a⌝ ∗ E'))

variable {defs 𝒱 c bd}
variable {α β : Type} {E E' E'' : sProp (MT nD τ sig Unit Val ℕ (UU sig nD τ) ℕ)}
variable {s : Shape} {e : EltTy}

/-- Returning changes nothing. -/
theorem Ev.pure (a : α) : Ev defs 𝒱 c bd E (pure a) a E := by
  unfold Ev
  iintro H
  sl_step
  isplitr
  · ipureintro; rfl
  · iexact H

/-- One program after another. -/
theorem Ev.bind {p : Prog (TpuEff nD τ sig Val Λ c.2) α} {k : α → Prog (TpuEff nD τ sig Val Λ c.2) β} {a : α} {b : β}
    (h : Ev defs 𝒱 c bd E p a E') (hk : Ev defs 𝒱 c bd E' (k a) b E'') : Ev defs 𝒱 c bd E (p >>= k) b E'' := by
  unfold Ev at *
  rw [wp_bind]
  refine h.trans (wp_mono _ _ _ fun v => ?_)
  iintro ⟨%hv, H⟩
  subst hv
  iapply hk $$ H

/-- Weaken what is needed, strengthen what is left. -/
theorem Ev.conseq {E₁ E₁' : sProp 𝕄} {p : Prog (TpuEff nD τ sig Val Λ c.2) α} {a : α}
    (hp : E₁ ⊢ E) (h : Ev defs 𝒱 c bd E p a E') (hq : E' ⊢ E₁') : Ev defs 𝒱 c bd E₁ p a E₁' := by
  unfold Ev at *
  refine hp.trans (h.trans (wp_mono _ _ _ fun v => ?_))
  iintro ⟨%hv, H⟩
  isplitr
  · ipureintro; exact hv
  · iapply hq $$ H

/-- A step on the piece `A` of what is held: the rest stays. -/
theorem Ev.on {A A' : sProp 𝕄} {p : Prog (TpuEff nD τ sig Val Λ c.2) α} {a : α}
    (h : Ev defs 𝒱 c bd A p a A') (hE : E ⊢ iprop(A ∗ (A' -∗ E'))) : Ev defs 𝒱 c bd E p a E' := by
  unfold Ev at *
  refine hE.trans ?_
  iintro ⟨HA, HR⟩
  have hw := h.trans (wp_wand (Q' := fun v => iprop(⌜v = a⌝ ∗ E')) frame (wpE defs 𝒱 c bd) Set.univ)
  iapply hw $$ HA
  · iintro %v ⟨%hv, H⟩
    isplitr
    · ipureintro; exact hv
    · iapply HR $$ H

/-- An assumed side condition that holds. -/
theorem Ev.bindAssume {P : Prop} {d : Decidable P} {k : PLift P → Prog (TpuEff nD τ sig Val Λ c.2) β} {b : β} (hP : P)
    (hk : Ev defs 𝒱 c bd E (k ⟨hP⟩) b E') : Ev defs 𝒱 c bd E (Prog.lift (TpuEff.assume P d) >>= k) b E' := by
  unfold Ev at *
  refine hk.trans ?_
  exact wp_assume 𝒱 c bd _ hP

/-- A load reads the memref's tensor at the rectangle. -/
theorem ev_load {cs : CoreSpace} {m : Memref sig c.2.kind cs s e} {r : Rect s} {hl : m.view.LoadsAt r.toLoadRect}
    {q : PosShare TreeShare} {T : s.Idx → Val e} :
    Ev defs 𝒱 c bd (holds c m q T) (Prog.lift (.load m r.toLoadRect hl)) (fun x => T (r.emb x)) (holds c m q T) := by
  unfold Ev holds
  iintro ⟨%f, %hf, H⟩
  iapply (wp_load_rect 𝒱 c bd Set.univ (r := r) (m := m) (S := m.view.set) (View.set_slice_subset _ _)) $$ H
  iintro H
  sl_step
  isplitr
  · ipureintro
    subst hf
    rfl
  · iexists f
    isplitr
    · ipureintro; exact hf
    · iexact H

/-- A store replaces the memref's tensor on the rectangle. -/
theorem ev_store {cs : CoreSpace} {m : Memref sig c.2.kind cs s e} {r : Rect s} {w : r.shape.Idx → Val e}
    {hx : (m.access r).Stores Finset.univ} {hm : Finset.univ = Finset.univ ∨ ∀ a, r.stride a = 1} {T T' : s.Idx → Val e}
    (hin : ∀ x, T' (r.emb x) = w x) (hout : ∀ i, i ∉ r.set → T' i = T i) :
    Ev defs 𝒱 c bd (holds c m fullShare T) (Prog.lift (.store m r w Finset.univ hx hm)) ⟨⟩ (holds c m fullShare T') := by
  unfold Ev holds
  iintro ⟨%f, %hf, H⟩
  iapply (wp_store 𝒱 c bd Set.univ (r := r) (m := m) (w := w) (hx := hx) (hm := hm) (S := m.view.set)
    ((View.setOn_subset_set _ _).trans (View.set_slice_subset _ _))) $$ H
  iintro H
  sl_step
  isplitr
  · ipureintro; rfl
  · iexists _
    isplitr [H]
    rotate_left
    · iexact H
    · ipureintro
      funext i
      by_cases hi : i ∈ r.set
      · obtain ⟨x, rfl⟩ := r.toLoadRect.exists_idx_of_mem hi
        refine Eq.trans ?_ (hin x).symm
        exact congrFun (View.read_write_univ (v := m.access r) f w) x
      · rw [hout i hi, ← hf]
        exact View.read_congr_at (v := m.view) _ (View.write_of_not_mem (v := m.access r) f w _ (fun hc => by
          obtain ⟨y, -, hy⟩ := Finset.mem_map.mp hc
          exact hi (m.view.emb.injective hy ▸ r.toLoadRect.idx_mem y)))

/-- A word of scalar memory. -/
theorem ev_smemLoad {m : Memref sig c.2.kind .smem s e} {r : Rect s} {h1 : r.shape.numel = 1} {hp : e.packing = 1}
    {q : PosShare TreeShare} {T : s.Idx → Val e} :
    Ev defs 𝒱 c bd (holds c m q T) (smemLoad m r h1 hp) (T (r.emb (Shape.Idx.first (h1.symm ▸ Nat.one_pos)))) (holds c m q T) := by
  unfold Ev holds smemLoad
  iintro ⟨%f, %hf, H⟩
  iapply (wp_smemLoadElt 𝒱 c bd Set.univ (r := r) (m := m) (S := m.view.set) (View.set_slice_subset _ _)) $$ H
  iintro H
  sl_step
  isplitr
  · ipureintro
    subst hf
    rfl
  · iexists f
    isplitr
    · ipureintro; exact hf
    · iexact H

/-- From `E`, which stays, every load of `m` reads the tensor `T`. -/
def Rd (defs : Defs nD τ sig Val Λ) (𝒱 : Variants) (c : Thread nD τ) (bd : Option 𝒱.V) {cs : CoreSpace} (E : sProp 𝕄)
    (m : Memref sig c.2.kind cs s e) (T : s.Idx → Val e) : Prop :=
  ∀ (r : Rect s) (hl : m.view.LoadsAt r.toLoadRect),
    Ev defs 𝒱 c bd E (Prog.lift (.load m r.toLoadRect hl)) (fun x => T (r.emb x)) E

/-- What can be read from `R` can be read beside `A`. -/
theorem Rd.frame {cs : CoreSpace} {m : Memref sig c.2.kind cs s e} {T : s.Idx → Val e} (h : Rd defs 𝒱 c bd E m T)
    (A : sProp 𝕄) : Rd defs 𝒱 c bd iprop(A ∗ E) m T := fun r hl => by
  refine (h r hl).on ?_
  iintro ⟨HA, HE⟩
  isplitl [HE]
  · iexact HE
  · iintro HE
    isplitl [HA]
    · iexact HA
    · iexact HE

/-- What is held can be read. -/
theorem rd_holds {cs : CoreSpace} {m : Memref sig c.2.kind cs s e} {T : s.Idx → Val e} {q : PosShare TreeShare}
    (A : sProp 𝕄) : Rd defs 𝒱 c bd iprop(holds c m q T ∗ A) m T := fun r hl => by
  refine (ev_load (q := q) (T := T)).on ?_
  iintro ⟨HA, HE⟩
  isplitl [HA]
  · iexact HA
  · iintro HA
    isplitl [HA]
    · iexact HA
    · iexact HE

/-- A loop, by an invariant. -/
theorem ev_for {w : ℕ} {lb ub st : BitVec w} {hok : Scf.OK lb ub st}
    {body : Fin (Scf.trips lb ub st) → Unit → Prog (TpuEff nD τ sig Val Λ c.2) Unit}
    (I : ℕ → sProp 𝕄) (h : ∀ k, Ev defs 𝒱 c bd (I k.val) (body k ()) () (I (k.val + 1))) :
    Ev defs 𝒱 c bd (I 0) (Scf.for lb ub st hok () body) () (I (Scf.trips lb ub st)) := by
  unfold Ev
  refine Entails.trans ?_ (Scf.wp_for frame (wpE defs 𝒱 c bd) Set.univ lb ub st hok () body (fun k _ => I k) (fun k acc => ?_))
  · iintro H
    isplitl [H]
    · iexact H
    · iintro %a H
      isplitr
      · ipureintro; rfl
      · iexact H
  · have h1 := h k
    unfold Ev at h1
    refine h1.trans (wp_mono _ _ _ fun v => ?_)
    iintro ⟨%hv, H⟩
    iexact H

end Cert.Moe

end
-- ==== Proof.Values.lean ====
/-
  The values one expert's turn computes, each from what it reads: `l…` what a load reads, `w…` a value handed from one
  part of the program to a later one, `b…` a block of 256 columns of the new accumulator.
-/
module

public import proofs.«01_k».proof.Proof.Base
public import proofs.«01_k».proof.Proof.Gen.Kernel.Skeleton

@[expose] public section

set_option maxRecDepth 16384

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

/-- What one expert's turn reads: the expert `e`, the routing (`I`, `Wt`), the tokens `X`, the expert's packed weights and
    scales (`G`, `SG`, `D`, `SD`) and the accumulator `A`. -/
structure In (F : FTy → Type) where
  /-- the expert -/
  e : BitVec 32
  /-- the expert ids of the tokens -/
  I : S64x8.Idx → Elt F .i32
  /-- the combine weights -/
  Wt : S64x8.Idx → Elt F .f32
  /-- the tokens -/
  X : S64x2816.Idx → Elt F .bf16
  /-- the packed gate and up weights -/
  G : S1408x1536.Idx → Elt F .i8
  /-- their scales -/
  SG : S22x1536.Idx → Elt F .bf16
  /-- the packed down weights -/
  D : S384x2816.Idx → Elt F .i8
  /-- their scales -/
  SD : S6x2816.Idx → Elt F .bf16
  /-- the accumulator -/
  A : S64x2816.Idx → Elt F .f32

/-- The value `v243`. -/
def w243 (T : In F) : IVec S64x8 1 := k0_pay5 T.e T.I

/-- What is read as `v251`. -/
def l251 (T : In F) : Vec F S64x8 .f32 := fun x => T.Wt ((Rect.unit (s := S64x8) ![0, 0] S64x8.size inb_S64x8_S64x8_0_0).emb x)

/-- What is read as `v259`. -/
def l259 (T : In F) : Vec F S64x256 .bf16 := fun x => T.X ((Rect.unit (s := S64x2816) ![0, 0] S64x256.size inb_S64x2816_S64x256_0_0).emb x)

/-- What is read as `v263`. -/
def l263 (T : In F) : Vec F S128x256 .i8 := fun x => T.G ((Rect.unit (s := S1408x1536) ![0, 0] S128x256.size inb_S1408x1536_S128x256_0_0).emb x)

/-- The value `v250`. -/
def w250 (T : In F) : IVec S64x1 1 := k0_pay6 (F := F) (w243 T)

/-- The value `v256`. -/
def w256 (T : In F) : FVec F S64x1 .f32 := k0_pay7 (w243 T) (l251 T)

/-- The value `v257`. -/
def w257 (T : In F) : FVec F S64x256 .f32 := k0_pay8 (F := F)

/-- The value `v258`. -/
def w258 (T : In F) : FVec F S64x256 .f32 := k0_pay9 (F := F)

/-- The value `v260`. -/
def w260 (T : In F) : FVec F S64x256 .bf16 := k0_pay10 (l259 T)

/-- The value `v277`. -/
def w277 (T : In F) : FVec F S256x256 .bf16 := k0_pay11 (l263 T)

/-- What is read as `v280`. -/
def l280 (T : In F) : Vec F S1x256 .bf16 := fun x => T.SG ((Rect.unit (s := S22x1536) ![0, 0] S1x256.size inb_S22x1536_S1x256_0_0).emb x)

/-- What is read as `v286`. -/
def l286 (T : In F) : Vec F S1x256 .bf16 := fun x => T.SG ((Rect.unit (s := S22x1536) ![1, 0] S1x256.size inb_S22x1536_S1x256_1_0).emb x)

/-- What is read as `v295`. -/
def l295 (T : In F) : Vec F S128x256 .i8 := fun x => T.G ((Rect.unit (s := S1408x1536) ![0, 768] S128x256.size inb_S1408x1536_S128x256_0_768).emb x)

/-- What is read as `v312`. -/
def l312 (T : In F) : Vec F S1x256 .bf16 := fun x => T.SG ((Rect.unit (s := S22x1536) ![0, 768] S1x256.size inb_S22x1536_S1x256_0_768).emb x)

/-- What is read as `v318`. -/
def l318 (T : In F) : Vec F S1x256 .bf16 := fun x => T.SG ((Rect.unit (s := S22x1536) ![1, 768] S1x256.size inb_S22x1536_S1x256_1_768).emb x)

/-- The value `v292`. -/
def w292 (T : In F) : FVec F S64x256 .f32 := k0_pay12 (w257 T) (w260 T) (w277 T) (l280 T) (l286 T)

/-- The value `v309`. -/
def w309 (T : In F) : FVec F S256x256 .bf16 := k0_pay13 (l295 T)

/-- The value `v315`. -/
def w315 (T : In F) : FVec F S128x256 .bf16 := k0_pay14 (l295 T) (l312 T)

/-- The value `v318`. -/
def w318 (T : In F) : Vec F S1x256 .bf16 := (l318 T)

/-- What is read as `v325`. -/
def l325 (T : In F) : Vec F S64x256 .bf16 := fun x => T.X ((Rect.unit (s := S64x2816) ![0, 256] S64x256.size inb_S64x2816_S64x256_0_256).emb x)

/-- What is read as `v329`. -/
def l329 (T : In F) : Vec F S128x256 .i8 := fun x => T.G ((Rect.unit (s := S1408x1536) ![128, 0] S128x256.size inb_S1408x1536_S128x256_128_0).emb x)

/-- What is read as `v346`. -/
def l346 (T : In F) : Vec F S1x256 .bf16 := fun x => T.SG ((Rect.unit (s := S22x1536) ![2, 0] S1x256.size inb_S22x1536_S1x256_2_0).emb x)

/-- What is read as `v352`. -/
def l352 (T : In F) : Vec F S1x256 .bf16 := fun x => T.SG ((Rect.unit (s := S22x1536) ![3, 0] S1x256.size inb_S22x1536_S1x256_3_0).emb x)

/-- The value `v324`. -/
def w324 (T : In F) : FVec F S64x256 .f32 := k0_pay15 (w258 T) (w260 T) (w309 T) (w315 T) (w318 T)

/-- The value `v326`. -/
def w326 (T : In F) : FVec F S64x256 .bf16 := k0_pay16 (l325 T)

/-- The value `v358`. -/
def w358 (T : In F) : FVec F S64x256 .f32 := k0_pay17 (w292 T) (l325 T) (l329 T) (l346 T) (l352 T)

/-- What is read as `v361`. -/
def l361 (T : In F) : Vec F S128x256 .i8 := fun x => T.G ((Rect.unit (s := S1408x1536) ![128, 768] S128x256.size inb_S1408x1536_S128x256_128_768).emb x)

/-- What is read as `v378`. -/
def l378 (T : In F) : Vec F S1x256 .bf16 := fun x => T.SG ((Rect.unit (s := S22x1536) ![2, 768] S1x256.size inb_S22x1536_S1x256_2_768).emb x)

/-- What is read as `v384`. -/
def l384 (T : In F) : Vec F S1x256 .bf16 := fun x => T.SG ((Rect.unit (s := S22x1536) ![3, 768] S1x256.size inb_S22x1536_S1x256_3_768).emb x)

/-- What is read as `v391`. -/
def l391 (T : In F) : Vec F S64x256 .bf16 := fun x => T.X ((Rect.unit (s := S64x2816) ![0, 512] S64x256.size inb_S64x2816_S64x256_0_512).emb x)

/-- What is read as `v395`. -/
def l395 (T : In F) : Vec F S128x256 .i8 := fun x => T.G ((Rect.unit (s := S1408x1536) ![256, 0] S128x256.size inb_S1408x1536_S128x256_256_0).emb x)

/-- The value `v390`. -/
def w390 (T : In F) : FVec F S64x256 .f32 := k0_pay18 (w324 T) (w326 T) (l361 T) (l378 T) (l384 T)

/-- The value `v392`. -/
def w392 (T : In F) : FVec F S64x256 .bf16 := k0_pay19 (l391 T)

/-- The value `v395`. -/
def w395 (T : In F) : Vec F S128x256 .i8 := (l395 T)

/-- What is read as `v412`. -/
def l412 (T : In F) : Vec F S1x256 .bf16 := fun x => T.SG ((Rect.unit (s := S22x1536) ![4, 0] S1x256.size inb_S22x1536_S1x256_4_0).emb x)

/-- What is read as `v418`. -/
def l418 (T : In F) : Vec F S1x256 .bf16 := fun x => T.SG ((Rect.unit (s := S22x1536) ![5, 0] S1x256.size inb_S22x1536_S1x256_5_0).emb x)

/-- What is read as `v427`. -/
def l427 (T : In F) : Vec F S128x256 .i8 := fun x => T.G ((Rect.unit (s := S1408x1536) ![256, 768] S128x256.size inb_S1408x1536_S128x256_256_768).emb x)

/-- The value `v424`. -/
def w424 (T : In F) : FVec F S64x256 .f32 := k0_pay20 (w358 T) (w392 T) (w395 T) (l412 T) (l418 T)

/-- The value `v432`. -/
def w432 (T : In F) : IVec S128x256 32 := k0_pay22 (l427 T)

/-- The value `v434`. -/
def w434 (T : In F) : IVec S128x256 32 := k0_pay23 (l427 T)

/-- The value `c28_i32_245`. -/
def w_c28_i32_245 (T : In F) : BitVec 32 := 28#32

/-- What is read as `v444`. -/
def l444 (T : In F) : Vec F S1x256 .bf16 := fun x => T.SG ((Rect.unit (s := S22x1536) ![4, 768] S1x256.size inb_S22x1536_S1x256_4_768).emb x)

/-- What is read as `v450`. -/
def l450 (T : In F) : Vec F S1x256 .bf16 := fun x => T.SG ((Rect.unit (s := S22x1536) ![5, 768] S1x256.size inb_S22x1536_S1x256_5_768).emb x)

/-- What is read as `v457`. -/
def l457 (T : In F) : Vec F S64x256 .bf16 := fun x => T.X ((Rect.unit (s := S64x2816) ![0, 768] S64x256.size inb_S64x2816_S64x256_0_768).emb x)

/-- What is read as `v461`. -/
def l461 (T : In F) : Vec F S128x256 .i8 := fun x => T.G ((Rect.unit (s := S1408x1536) ![384, 0] S128x256.size inb_S1408x1536_S128x256_384_0).emb x)

/-- The value `v456`. -/
def w456 (T : In F) : FVec F S64x256 .f32 := k0_pay24 (w390 T) (w392 T) (w432 T) (w434 T) (w_c28_i32_245 T) (l444 T) (l450 T)

/-- The value `v458`. -/
def w458 (T : In F) : FVec F S64x256 .bf16 := k0_pay25 (l457 T)

/-- The value `v475`. -/
def w475 (T : In F) : FVec F S256x256 .bf16 := k0_pay26 (l461 T)

/-- What is read as `v478`. -/
def l478 (T : In F) : Vec F S1x256 .bf16 := fun x => T.SG ((Rect.unit (s := S22x1536) ![6, 0] S1x256.size inb_S22x1536_S1x256_6_0).emb x)

/-- What is read as `v484`. -/
def l484 (T : In F) : Vec F S1x256 .bf16 := fun x => T.SG ((Rect.unit (s := S22x1536) ![7, 0] S1x256.size inb_S22x1536_S1x256_7_0).emb x)

/-- What is read as `v493`. -/
def l493 (T : In F) : Vec F S128x256 .i8 := fun x => T.G ((Rect.unit (s := S1408x1536) ![384, 768] S128x256.size inb_S1408x1536_S128x256_384_768).emb x)

/-- What is read as `v510`. -/
def l510 (T : In F) : Vec F S1x256 .bf16 := fun x => T.SG ((Rect.unit (s := S22x1536) ![6, 768] S1x256.size inb_S22x1536_S1x256_6_768).emb x)

/-- The value `v490`. -/
def w490 (T : In F) : FVec F S64x256 .f32 := k0_pay27 (w424 T) (w458 T) (w475 T) (l478 T) (l484 T)

/-- The value `v507`. -/
def w507 (T : In F) : FVec F S256x256 .bf16 := k0_pay28 (l493 T)

/-- The value `v513`. -/
def w513 (T : In F) : FVec F S128x256 .bf16 := k0_pay29 (l493 T) (l510 T)

/-- What is read as `v516`. -/
def l516 (T : In F) : Vec F S1x256 .bf16 := fun x => T.SG ((Rect.unit (s := S22x1536) ![7, 768] S1x256.size inb_S22x1536_S1x256_7_768).emb x)

/-- What is read as `v523`. -/
def l523 (T : In F) : Vec F S64x256 .bf16 := fun x => T.X ((Rect.unit (s := S64x2816) ![0, 1024] S64x256.size inb_S64x2816_S64x256_0_1024).emb x)

/-- What is read as `v527`. -/
def l527 (T : In F) : Vec F S128x256 .i8 := fun x => T.G ((Rect.unit (s := S1408x1536) ![512, 0] S128x256.size inb_S1408x1536_S128x256_512_0).emb x)

/-- What is read as `v544`. -/
def l544 (T : In F) : Vec F S1x256 .bf16 := fun x => T.SG ((Rect.unit (s := S22x1536) ![8, 0] S1x256.size inb_S22x1536_S1x256_8_0).emb x)

/-- What is read as `v550`. -/
def l550 (T : In F) : Vec F S1x256 .bf16 := fun x => T.SG ((Rect.unit (s := S22x1536) ![9, 0] S1x256.size inb_S22x1536_S1x256_9_0).emb x)

/-- The value `v522`. -/
def w522 (T : In F) : FVec F S64x256 .f32 := k0_pay30 (w456 T) (w458 T) (w507 T) (w513 T) (l516 T)

/-- The value `v524`. -/
def w524 (T : In F) : FVec F S64x256 .bf16 := k0_pay31 (l523 T)

/-- The value `v547`. -/
def w547 (T : In F) : FVec F S128x256 .bf16 := k0_pay33 (l527 T) (l544 T)

/-- The value `v550`. -/
def w550 (T : In F) : Vec F S1x256 .bf16 := (l550 T)

/-- The value `v551`. -/
def w551 (T : In F) : FVec F S128x256 .bf16 := k0_pay34 (l527 T)

/-- What is read as `v559`. -/
def l559 (T : In F) : Vec F S128x256 .i8 := fun x => T.G ((Rect.unit (s := S1408x1536) ![512, 768] S128x256.size inb_S1408x1536_S128x256_512_768).emb x)

/-- What is read as `v576`. -/
def l576 (T : In F) : Vec F S1x256 .bf16 := fun x => T.SG ((Rect.unit (s := S22x1536) ![8, 768] S1x256.size inb_S22x1536_S1x256_8_768).emb x)

/-- What is read as `v582`. -/
def l582 (T : In F) : Vec F S1x256 .bf16 := fun x => T.SG ((Rect.unit (s := S22x1536) ![9, 768] S1x256.size inb_S22x1536_S1x256_9_768).emb x)

/-- What is read as `v589`. -/
def l589 (T : In F) : Vec F S64x256 .bf16 := fun x => T.X ((Rect.unit (s := S64x2816) ![0, 1280] S64x256.size inb_S64x2816_S64x256_0_1280).emb x)

/-- The value `v556`. -/
def w556 (T : In F) : FVec F S64x256 .f32 := k0_pay35 (w490 T) (w524 T) (w547 T) (w550 T) (w551 T)

/-- The value `v588`. -/
def w588 (T : In F) : FVec F S64x256 .f32 := k0_pay36 (w522 T) (w524 T) (l559 T) (l576 T) (l582 T)

/-- The value `v590`. -/
def w590 (T : In F) : FVec F S64x256 .bf16 := k0_pay37 (l589 T)

/-- What is read as `v593`. -/
def l593 (T : In F) : Vec F S128x256 .i8 := fun x => T.G ((Rect.unit (s := S1408x1536) ![640, 0] S128x256.size inb_S1408x1536_S128x256_640_0).emb x)

/-- What is read as `v610`. -/
def l610 (T : In F) : Vec F S1x256 .bf16 := fun x => T.SG ((Rect.unit (s := S22x1536) ![10, 0] S1x256.size inb_S22x1536_S1x256_10_0).emb x)

/-- What is read as `v616`. -/
def l616 (T : In F) : Vec F S1x256 .bf16 := fun x => T.SG ((Rect.unit (s := S22x1536) ![11, 0] S1x256.size inb_S22x1536_S1x256_11_0).emb x)

/-- What is read as `v625`. -/
def l625 (T : In F) : Vec F S128x256 .i8 := fun x => T.G ((Rect.unit (s := S1408x1536) ![640, 768] S128x256.size inb_S1408x1536_S128x256_640_768).emb x)

/-- The value `v622`. -/
def w622 (T : In F) : FVec F S64x256 .f32 := k0_pay38 (w556 T) (w590 T) (l593 T) (l610 T) (l616 T)

/-- The value `v626`. -/
def w626 (T : In F) : IVec S128x256 32 := k0_pay39 (l625 T)

/-- The value `v628`. -/
def w628 (T : In F) : IVec S128x256 32 := k0_pay40 (l625 T)

/-- The value `c28_i32_347`. -/
def w_c28_i32_347 (T : In F) : BitVec 32 := 28#32

/-- What is read as `v642`. -/
def l642 (T : In F) : Vec F S1x256 .bf16 := fun x => T.SG ((Rect.unit (s := S22x1536) ![10, 768] S1x256.size inb_S22x1536_S1x256_10_768).emb x)

/-- What is read as `v648`. -/
def l648 (T : In F) : Vec F S1x256 .bf16 := fun x => T.SG ((Rect.unit (s := S22x1536) ![11, 768] S1x256.size inb_S22x1536_S1x256_11_768).emb x)

/-- What is read as `v655`. -/
def l655 (T : In F) : Vec F S64x256 .bf16 := fun x => T.X ((Rect.unit (s := S64x2816) ![0, 1536] S64x256.size inb_S64x2816_S64x256_0_1536).emb x)

/-- What is read as `v659`. -/
def l659 (T : In F) : Vec F S128x256 .i8 := fun x => T.G ((Rect.unit (s := S1408x1536) ![768, 0] S128x256.size inb_S1408x1536_S128x256_768_0).emb x)

/-- The value `v654`. -/
def w654 (T : In F) : FVec F S64x256 .f32 := k0_pay41 (w588 T) (w590 T) (w626 T) (w628 T) (w_c28_i32_347 T) (l642 T) (l648 T)

/-- The value `v656`. -/
def w656 (T : In F) : FVec F S64x256 .bf16 := k0_pay42 (l655 T)

/-- The value `v664`. -/
def w664 (T : In F) : IVec S128x256 32 := k0_pay44 (l659 T)

/-- The value `v666`. -/
def w666 (T : In F) : IVec S128x256 32 := k0_pay45 (l659 T)

/-- The value `v667`. -/
def w667 (T : In F) : IVec S128x256 32 := k0_pay46

/-- What is read as `v676`. -/
def l676 (T : In F) : Vec F S1x256 .bf16 := fun x => T.SG ((Rect.unit (s := S22x1536) ![12, 0] S1x256.size inb_S22x1536_S1x256_12_0).emb x)

/-- What is read as `v682`. -/
def l682 (T : In F) : Vec F S1x256 .bf16 := fun x => T.SG ((Rect.unit (s := S22x1536) ![13, 0] S1x256.size inb_S22x1536_S1x256_13_0).emb x)

/-- What is read as `v691`. -/
def l691 (T : In F) : Vec F S128x256 .i8 := fun x => T.G ((Rect.unit (s := S1408x1536) ![768, 768] S128x256.size inb_S1408x1536_S128x256_768_768).emb x)

/-- The value `v688`. -/
def w688 (T : In F) : FVec F S64x256 .f32 := k0_pay47 (w622 T) (w656 T) (w664 T) (w666 T) (w667 T) (l676 T) (l682 T)

/-- The value `v705`. -/
def w705 (T : In F) : FVec F S256x256 .bf16 := k0_pay48 (l691 T)

/-- What is read as `v708`. -/
def l708 (T : In F) : Vec F S1x256 .bf16 := fun x => T.SG ((Rect.unit (s := S22x1536) ![12, 768] S1x256.size inb_S22x1536_S1x256_12_768).emb x)

/-- What is read as `v714`. -/
def l714 (T : In F) : Vec F S1x256 .bf16 := fun x => T.SG ((Rect.unit (s := S22x1536) ![13, 768] S1x256.size inb_S22x1536_S1x256_13_768).emb x)

/-- What is read as `v721`. -/
def l721 (T : In F) : Vec F S64x256 .bf16 := fun x => T.X ((Rect.unit (s := S64x2816) ![0, 1792] S64x256.size inb_S64x2816_S64x256_0_1792).emb x)

/-- What is read as `v725`. -/
def l725 (T : In F) : Vec F S128x256 .i8 := fun x => T.G ((Rect.unit (s := S1408x1536) ![896, 0] S128x256.size inb_S1408x1536_S128x256_896_0).emb x)

/-- What is read as `v742`. -/
def l742 (T : In F) : Vec F S1x256 .bf16 := fun x => T.SG ((Rect.unit (s := S22x1536) ![14, 0] S1x256.size inb_S22x1536_S1x256_14_0).emb x)

/-- The value `v720`. -/
def w720 (T : In F) : FVec F S64x256 .f32 := k0_pay49 (w654 T) (w656 T) (w705 T) (l708 T) (l714 T)

/-- The value `v722`. -/
def w722 (T : In F) : FVec F S64x256 .bf16 := k0_pay50 (l721 T)

/-- The value `v739`. -/
def w739 (T : In F) : FVec F S256x256 .bf16 := k0_pay51 (l725 T)

/-- The value `v745`. -/
def w745 (T : In F) : FVec F S128x256 .bf16 := k0_pay52 (l725 T) (l742 T)

/-- What is read as `v748`. -/
def l748 (T : In F) : Vec F S1x256 .bf16 := fun x => T.SG ((Rect.unit (s := S22x1536) ![15, 0] S1x256.size inb_S22x1536_S1x256_15_0).emb x)

/-- What is read as `v757`. -/
def l757 (T : In F) : Vec F S128x256 .i8 := fun x => T.G ((Rect.unit (s := S1408x1536) ![896, 768] S128x256.size inb_S1408x1536_S128x256_896_768).emb x)

/-- What is read as `v774`. -/
def l774 (T : In F) : Vec F S1x256 .bf16 := fun x => T.SG ((Rect.unit (s := S22x1536) ![14, 768] S1x256.size inb_S22x1536_S1x256_14_768).emb x)

/-- What is read as `v780`. -/
def l780 (T : In F) : Vec F S1x256 .bf16 := fun x => T.SG ((Rect.unit (s := S22x1536) ![15, 768] S1x256.size inb_S22x1536_S1x256_15_768).emb x)

/-- The value `v754`. -/
def w754 (T : In F) : FVec F S64x256 .f32 := k0_pay53 (w688 T) (w722 T) (w739 T) (w745 T) (l748 T)

/-- The value `v785`. -/
def w785 (T : In F) : FVec F S64x256 .f32 := k0_pay54 (w722 T) (l757 T) (l774 T) (l780 T)

/-- What is read as `v787`. -/
def l787 (T : In F) : Vec F S64x256 .bf16 := fun x => T.X ((Rect.unit (s := S64x2816) ![0, 2048] S64x256.size inb_S64x2816_S64x256_0_2048).emb x)

/-- What is read as `v791`. -/
def l791 (T : In F) : Vec F S128x256 .i8 := fun x => T.G ((Rect.unit (s := S1408x1536) ![1024, 0] S128x256.size inb_S1408x1536_S128x256_1024_0).emb x)

/-- What is read as `v808`. -/
def l808 (T : In F) : Vec F S1x256 .bf16 := fun x => T.SG ((Rect.unit (s := S22x1536) ![16, 0] S1x256.size inb_S22x1536_S1x256_16_0).emb x)

/-- What is read as `v814`. -/
def l814 (T : In F) : Vec F S1x256 .bf16 := fun x => T.SG ((Rect.unit (s := S22x1536) ![17, 0] S1x256.size inb_S22x1536_S1x256_17_0).emb x)

/-- The value `v786`. -/
def w786 (T : In F) : FVec F S64x256 .f32 := k0_pay55 (w720 T) (w785 T)

/-- The value `v788`. -/
def w788 (T : In F) : FVec F S64x256 .bf16 := k0_pay56 (l787 T)

/-- The value `v820`. -/
def w820 (T : In F) : FVec F S64x256 .f32 := k0_pay57 (w754 T) (l787 T) (l791 T) (l808 T) (l814 T)

/-- What is read as `v823`. -/
def l823 (T : In F) : Vec F S128x256 .i8 := fun x => T.G ((Rect.unit (s := S1408x1536) ![1024, 768] S128x256.size inb_S1408x1536_S128x256_1024_768).emb x)

/-- What is read as `v840`. -/
def l840 (T : In F) : Vec F S1x256 .bf16 := fun x => T.SG ((Rect.unit (s := S22x1536) ![16, 768] S1x256.size inb_S22x1536_S1x256_16_768).emb x)

/-- What is read as `v846`. -/
def l846 (T : In F) : Vec F S1x256 .bf16 := fun x => T.SG ((Rect.unit (s := S22x1536) ![17, 768] S1x256.size inb_S22x1536_S1x256_17_768).emb x)

/-- What is read as `v853`. -/
def l853 (T : In F) : Vec F S64x256 .bf16 := fun x => T.X ((Rect.unit (s := S64x2816) ![0, 2304] S64x256.size inb_S64x2816_S64x256_0_2304).emb x)

/-- What is read as `v857`. -/
def l857 (T : In F) : Vec F S128x256 .i8 := fun x => T.G ((Rect.unit (s := S1408x1536) ![1152, 0] S128x256.size inb_S1408x1536_S128x256_1152_0).emb x)

/-- The value `v852`. -/
def w852 (T : In F) : FVec F S64x256 .f32 := k0_pay58 (w786 T) (w788 T) (l823 T) (l840 T) (l846 T)

/-- The value `v854`. -/
def w854 (T : In F) : FVec F S64x256 .bf16 := k0_pay59 (l853 T)

/-- The value `v858`. -/
def w858 (T : In F) : IVec S128x256 32 := k0_pay60 (l857 T)

/-- The value `v860`. -/
def w860 (T : In F) : IVec S128x256 32 := k0_pay61 (l857 T)

/-- The value `v861`. -/
def w861 (T : In F) : IVec S128x256 32 := k0_pay62

/-- What is read as `v874`. -/
def l874 (T : In F) : Vec F S1x256 .bf16 := fun x => T.SG ((Rect.unit (s := S22x1536) ![18, 0] S1x256.size inb_S22x1536_S1x256_18_0).emb x)

/-- What is read as `v880`. -/
def l880 (T : In F) : Vec F S1x256 .bf16 := fun x => T.SG ((Rect.unit (s := S22x1536) ![19, 0] S1x256.size inb_S22x1536_S1x256_19_0).emb x)

/-- What is read as `v889`. -/
def l889 (T : In F) : Vec F S128x256 .i8 := fun x => T.G ((Rect.unit (s := S1408x1536) ![1152, 768] S128x256.size inb_S1408x1536_S128x256_1152_768).emb x)

/-- The value `v886`. -/
def w886 (T : In F) : FVec F S64x256 .f32 := k0_pay63 (w820 T) (w854 T) (w858 T) (w860 T) (w861 T) (l874 T) (l880 T)

/-- The value `v902`. -/
def w902 (T : In F) : IVec S256x256 32 := k0_pay64 (l889 T)

/-- What is read as `v906`. -/
def l906 (T : In F) : Vec F S1x256 .bf16 := fun x => T.SG ((Rect.unit (s := S22x1536) ![18, 768] S1x256.size inb_S22x1536_S1x256_18_768).emb x)

/-- What is read as `v912`. -/
def l912 (T : In F) : Vec F S1x256 .bf16 := fun x => T.SG ((Rect.unit (s := S22x1536) ![19, 768] S1x256.size inb_S22x1536_S1x256_19_768).emb x)

/-- What is read as `v919`. -/
def l919 (T : In F) : Vec F S64x256 .bf16 := fun x => T.X ((Rect.unit (s := S64x2816) ![0, 2560] S64x256.size inb_S64x2816_S64x256_0_2560).emb x)

/-- What is read as `v923`. -/
def l923 (T : In F) : Vec F S128x256 .i8 := fun x => T.G ((Rect.unit (s := S1408x1536) ![1280, 0] S128x256.size inb_S1408x1536_S128x256_1280_0).emb x)

/-- The value `v918`. -/
def w918 (T : In F) : FVec F S64x256 .f32 := k0_pay65 (w852 T) (w854 T) (w902 T) (l906 T) (l912 T)

/-- The value `v920`. -/
def w920 (T : In F) : FVec F S64x256 .bf16 := k0_pay66 (l919 T)

/-- The value `v937`. -/
def w937 (T : In F) : FVec F S256x256 .bf16 := k0_pay67 (l923 T)

/-- What is read as `v940`. -/
def l940 (T : In F) : Vec F S1x256 .bf16 := fun x => T.SG ((Rect.unit (s := S22x1536) ![20, 0] S1x256.size inb_S22x1536_S1x256_20_0).emb x)

/-- What is read as `v946`. -/
def l946 (T : In F) : Vec F S1x256 .bf16 := fun x => T.SG ((Rect.unit (s := S22x1536) ![21, 0] S1x256.size inb_S22x1536_S1x256_21_0).emb x)

/-- What is read as `v955`. -/
def l955 (T : In F) : Vec F S128x256 .i8 := fun x => T.G ((Rect.unit (s := S1408x1536) ![1280, 768] S128x256.size inb_S1408x1536_S128x256_1280_768).emb x)

/-- What is read as `v972`. -/
def l972 (T : In F) : Vec F S1x256 .bf16 := fun x => T.SG ((Rect.unit (s := S22x1536) ![20, 768] S1x256.size inb_S22x1536_S1x256_20_768).emb x)

/-- What is read as `v978`. -/
def l978 (T : In F) : Vec F S1x256 .bf16 := fun x => T.SG ((Rect.unit (s := S22x1536) ![21, 768] S1x256.size inb_S22x1536_S1x256_21_768).emb x)

/-- The value `v952`. -/
def w952 (T : In F) : FVec F S64x256 .f32 := k0_pay68 (w886 T) (w920 T) (w937 T) (l940 T) (l946 T)

/-- The value `v969`. -/
def w969 (T : In F) : FVec F S256x256 .bf16 := k0_pay69 (l955 T)

/-- The value `v975`. -/
def w975 (T : In F) : FVec F S128x256 .bf16 := k0_pay70 (l955 T) (l972 T)

/-- The value `v978`. -/
def w978 (T : In F) : Vec F S1x256 .bf16 := (l978 T)

/-- What is read as `v995`. -/
def l995 (T : In F) : Vec F S64x256 .bf16 := fun x => T.X ((Rect.unit (s := S64x2816) ![0, 0] S64x256.size inb_S64x2816_S64x256_0_0).emb x)

/-- What is read as `v999`. -/
def l999 (T : In F) : Vec F S128x256 .i8 := fun x => T.G ((Rect.unit (s := S1408x1536) ![0, 256] S128x256.size inb_S1408x1536_S128x256_0_256).emb x)

/-- What is read as `v1016`. -/
def l1016 (T : In F) : Vec F S1x256 .bf16 := fun x => T.SG ((Rect.unit (s := S22x1536) ![0, 256] S1x256.size inb_S22x1536_S1x256_0_256).emb x)

/-- The value `v992`. -/
def w992 (T : In F) : FVec F S64x256 .bf16 := k0_pay71 (w250 T) (w918 T) (w920 T) (w952 T) (w969 T) (w975 T) (w978 T)

/-- The value `v993`. -/
def w993 (T : In F) : FVec F S64x256 .f32 := k0_pay72 (F := F)

/-- The value `v994`. -/
def w994 (T : In F) : FVec F S64x256 .f32 := k0_pay73 (F := F)

/-- The value `v996`. -/
def w996 (T : In F) : FVec F S64x256 .bf16 := k0_pay74 (l995 T)

/-- The value `v1013`. -/
def w1013 (T : In F) : FVec F S256x256 .bf16 := k0_pay75 (l999 T)

/-- The value `v1019`. -/
def w1019 (T : In F) : FVec F S128x256 .bf16 := k0_pay76 (l999 T) (l1016 T)

/-- What is read as `v1022`. -/
def l1022 (T : In F) : Vec F S1x256 .bf16 := fun x => T.SG ((Rect.unit (s := S22x1536) ![1, 256] S1x256.size inb_S22x1536_S1x256_1_256).emb x)

/-- What is read as `v1031`. -/
def l1031 (T : In F) : Vec F S128x256 .i8 := fun x => T.G ((Rect.unit (s := S1408x1536) ![0, 1024] S128x256.size inb_S1408x1536_S128x256_0_1024).emb x)

/-- What is read as `v1048`. -/
def l1048 (T : In F) : Vec F S1x256 .bf16 := fun x => T.SG ((Rect.unit (s := S22x1536) ![0, 1024] S1x256.size inb_S22x1536_S1x256_0_1024).emb x)

/-- What is read as `v1054`. -/
def l1054 (T : In F) : Vec F S1x256 .bf16 := fun x => T.SG ((Rect.unit (s := S22x1536) ![1, 1024] S1x256.size inb_S22x1536_S1x256_1_1024).emb x)

/-- The value `v1028`. -/
def w1028 (T : In F) : FVec F S64x256 .f32 := k0_pay77 (w993 T) (w996 T) (w1013 T) (w1019 T) (l1022 T)

/-- The value `v1058`. -/
def w1058 (T : In F) : FVec F S256x256 .bf16 := k0_pay78 (l1031 T) (l1048 T) (l1054 T)

/-- The value `cst_570`. -/
def w_cst_570 (T : In F) : FVec F S64x256 .f32 := (constant S64x256 .f32 0x00000000#32)

/-- What is read as `v1061`. -/
def l1061 (T : In F) : Vec F S64x256 .bf16 := fun x => T.X ((Rect.unit (s := S64x2816) ![0, 256] S64x256.size inb_S64x2816_S64x256_0_256).emb x)

/-- What is read as `v1065`. -/
def l1065 (T : In F) : Vec F S128x256 .i8 := fun x => T.G ((Rect.unit (s := S1408x1536) ![128, 256] S128x256.size inb_S1408x1536_S128x256_128_256).emb x)

/-- What is read as `v1082`. -/
def l1082 (T : In F) : Vec F S1x256 .bf16 := fun x => T.SG ((Rect.unit (s := S22x1536) ![2, 256] S1x256.size inb_S22x1536_S1x256_2_256).emb x)

/-- What is read as `v1088`. -/
def l1088 (T : In F) : Vec F S1x256 .bf16 := fun x => T.SG ((Rect.unit (s := S22x1536) ![3, 256] S1x256.size inb_S22x1536_S1x256_3_256).emb x)

/-- The value `v1060`. -/
def w1060 (T : In F) : FVec F S64x256 .f32 := k0_pay79 (w994 T) (w996 T) (w1058 T) (w_cst_570 T)

/-- The value `v1062`. -/
def w1062 (T : In F) : FVec F S64x256 .bf16 := k0_pay80 (l1061 T)

/-- The value `v1094`. -/
def w1094 (T : In F) : FVec F S64x256 .f32 := k0_pay81 (w1028 T) (l1061 T) (l1065 T) (l1082 T) (l1088 T)

/-- What is read as `v1097`. -/
def l1097 (T : In F) : Vec F S128x256 .i8 := fun x => T.G ((Rect.unit (s := S1408x1536) ![128, 1024] S128x256.size inb_S1408x1536_S128x256_128_1024).emb x)

/-- What is read as `v1114`. -/
def l1114 (T : In F) : Vec F S1x256 .bf16 := fun x => T.SG ((Rect.unit (s := S22x1536) ![2, 1024] S1x256.size inb_S22x1536_S1x256_2_1024).emb x)

/-- What is read as `v1120`. -/
def l1120 (T : In F) : Vec F S1x256 .bf16 := fun x => T.SG ((Rect.unit (s := S22x1536) ![3, 1024] S1x256.size inb_S22x1536_S1x256_3_1024).emb x)

/-- What is read as `v1127`. -/
def l1127 (T : In F) : Vec F S64x256 .bf16 := fun x => T.X ((Rect.unit (s := S64x2816) ![0, 512] S64x256.size inb_S64x2816_S64x256_0_512).emb x)

/-- What is read as `v1131`. -/
def l1131 (T : In F) : Vec F S128x256 .i8 := fun x => T.G ((Rect.unit (s := S1408x1536) ![256, 256] S128x256.size inb_S1408x1536_S128x256_256_256).emb x)

/-- The value `v1126`. -/
def w1126 (T : In F) : FVec F S64x256 .f32 := k0_pay82 (w1060 T) (w1062 T) (l1097 T) (l1114 T) (l1120 T)

/-- The value `v1128`. -/
def w1128 (T : In F) : FVec F S64x256 .bf16 := k0_pay83 (l1127 T)

/-- The value `v1132`. -/
def w1132 (T : In F) : IVec S128x256 32 := k0_pay84 (l1131 T)

/-- The value `v1134`. -/
def w1134 (T : In F) : IVec S128x256 32 := k0_pay85 (l1131 T)

/-- The value `c28_i32_614`. -/
def w_c28_i32_614 (T : In F) : BitVec 32 := 28#32

/-- What is read as `v1148`. -/
def l1148 (T : In F) : Vec F S1x256 .bf16 := fun x => T.SG ((Rect.unit (s := S22x1536) ![4, 256] S1x256.size inb_S22x1536_S1x256_4_256).emb x)

/-- What is read as `v1154`. -/
def l1154 (T : In F) : Vec F S1x256 .bf16 := fun x => T.SG ((Rect.unit (s := S22x1536) ![5, 256] S1x256.size inb_S22x1536_S1x256_5_256).emb x)

/-- What is read as `v1163`. -/
def l1163 (T : In F) : Vec F S128x256 .i8 := fun x => T.G ((Rect.unit (s := S1408x1536) ![256, 1024] S128x256.size inb_S1408x1536_S128x256_256_1024).emb x)

/-- The value `v1160`. -/
def w1160 (T : In F) : FVec F S64x256 .f32 := k0_pay86 (w1094 T) (w1128 T) (w1132 T) (w1134 T) (w_c28_i32_614 T) (l1148 T) (l1154 T)

/-- The value `v1175`. -/
def w1175 (T : In F) : IVec S128x2x256 32 := k0_pay87 (l1163 T)

/-- What is read as `v1180`. -/
def l1180 (T : In F) : Vec F S1x256 .bf16 := fun x => T.SG ((Rect.unit (s := S22x1536) ![4, 1024] S1x256.size inb_S22x1536_S1x256_4_1024).emb x)

/-- What is read as `v1186`. -/
def l1186 (T : In F) : Vec F S1x256 .bf16 := fun x => T.SG ((Rect.unit (s := S22x1536) ![5, 1024] S1x256.size inb_S22x1536_S1x256_5_1024).emb x)

/-- What is read as `v1193`. -/
def l1193 (T : In F) : Vec F S64x256 .bf16 := fun x => T.X ((Rect.unit (s := S64x2816) ![0, 768] S64x256.size inb_S64x2816_S64x256_0_768).emb x)

/-- What is read as `v1197`. -/
def l1197 (T : In F) : Vec F S128x256 .i8 := fun x => T.G ((Rect.unit (s := S1408x1536) ![384, 256] S128x256.size inb_S1408x1536_S128x256_384_256).emb x)

/-- The value `v1192`. -/
def w1192 (T : In F) : FVec F S64x256 .f32 := k0_pay88 (w1126 T) (w1128 T) (w1175 T) (l1180 T) (l1186 T)

/-- The value `v1194`. -/
def w1194 (T : In F) : FVec F S64x256 .bf16 := k0_pay89 (l1193 T)

/-- The value `v1211`. -/
def w1211 (T : In F) : FVec F S256x256 .bf16 := k0_pay90 (l1197 T)

/-- What is read as `v1214`. -/
def l1214 (T : In F) : Vec F S1x256 .bf16 := fun x => T.SG ((Rect.unit (s := S22x1536) ![6, 256] S1x256.size inb_S22x1536_S1x256_6_256).emb x)

/-- What is read as `v1220`. -/
def l1220 (T : In F) : Vec F S1x256 .bf16 := fun x => T.SG ((Rect.unit (s := S22x1536) ![7, 256] S1x256.size inb_S22x1536_S1x256_7_256).emb x)

/-- What is read as `v1229`. -/
def l1229 (T : In F) : Vec F S128x256 .i8 := fun x => T.G ((Rect.unit (s := S1408x1536) ![384, 1024] S128x256.size inb_S1408x1536_S128x256_384_1024).emb x)

/-- What is read as `v1246`. -/
def l1246 (T : In F) : Vec F S1x256 .bf16 := fun x => T.SG ((Rect.unit (s := S22x1536) ![6, 1024] S1x256.size inb_S22x1536_S1x256_6_1024).emb x)

/-- The value `v1226`. -/
def w1226 (T : In F) : FVec F S64x256 .f32 := k0_pay91 (w1160 T) (w1194 T) (w1211 T) (l1214 T) (l1220 T)

/-- The value `v1243`. -/
def w1243 (T : In F) : FVec F S256x256 .bf16 := k0_pay92 (l1229 T)

/-- The value `v1249`. -/
def w1249 (T : In F) : FVec F S128x256 .bf16 := k0_pay93 (l1229 T) (l1246 T)

/-- What is read as `v1252`. -/
def l1252 (T : In F) : Vec F S1x256 .bf16 := fun x => T.SG ((Rect.unit (s := S22x1536) ![7, 1024] S1x256.size inb_S22x1536_S1x256_7_1024).emb x)

/-- What is read as `v1259`. -/
def l1259 (T : In F) : Vec F S64x256 .bf16 := fun x => T.X ((Rect.unit (s := S64x2816) ![0, 1024] S64x256.size inb_S64x2816_S64x256_0_1024).emb x)

/-- What is read as `v1263`. -/
def l1263 (T : In F) : Vec F S128x256 .i8 := fun x => T.G ((Rect.unit (s := S1408x1536) ![512, 256] S128x256.size inb_S1408x1536_S128x256_512_256).emb x)

/-- What is read as `v1280`. -/
def l1280 (T : In F) : Vec F S1x256 .bf16 := fun x => T.SG ((Rect.unit (s := S22x1536) ![8, 256] S1x256.size inb_S22x1536_S1x256_8_256).emb x)

/-- What is read as `v1286`. -/
def l1286 (T : In F) : Vec F S1x256 .bf16 := fun x => T.SG ((Rect.unit (s := S22x1536) ![9, 256] S1x256.size inb_S22x1536_S1x256_9_256).emb x)

/-- The value `v1258`. -/
def w1258 (T : In F) : FVec F S64x256 .f32 := k0_pay94 (w1192 T) (w1194 T) (w1243 T) (w1249 T) (l1252 T)

/-- The value `v1260`. -/
def w1260 (T : In F) : FVec F S64x256 .bf16 := k0_pay95 (l1259 T)

/-- The value `v1291`. -/
def w1291 (T : In F) : FVec F S64x256 .f32 := k0_pay96 (l1259 T) (l1263 T) (l1280 T) (l1286 T)

/-- What is read as `v1295`. -/
def l1295 (T : In F) : Vec F S128x256 .i8 := fun x => T.G ((Rect.unit (s := S1408x1536) ![512, 1024] S128x256.size inb_S1408x1536_S128x256_512_1024).emb x)

/-- What is read as `v1312`. -/
def l1312 (T : In F) : Vec F S1x256 .bf16 := fun x => T.SG ((Rect.unit (s := S22x1536) ![8, 1024] S1x256.size inb_S22x1536_S1x256_8_1024).emb x)

/-- What is read as `v1318`. -/
def l1318 (T : In F) : Vec F S1x256 .bf16 := fun x => T.SG ((Rect.unit (s := S22x1536) ![9, 1024] S1x256.size inb_S22x1536_S1x256_9_1024).emb x)

/-- What is read as `v1325`. -/
def l1325 (T : In F) : Vec F S64x256 .bf16 := fun x => T.X ((Rect.unit (s := S64x2816) ![0, 1280] S64x256.size inb_S64x2816_S64x256_0_1280).emb x)

/-- The value `v1292`. -/
def w1292 (T : In F) : FVec F S64x256 .f32 := k0_pay97 (w1226 T) (w1291 T)

/-- The value `v1324`. -/
def w1324 (T : In F) : FVec F S64x256 .f32 := k0_pay98 (w1258 T) (w1260 T) (l1295 T) (l1312 T) (l1318 T)

/-- The value `v1326`. -/
def w1326 (T : In F) : FVec F S64x256 .bf16 := k0_pay99 (l1325 T)

/-- What is read as `v1329`. -/
def l1329 (T : In F) : Vec F S128x256 .i8 := fun x => T.G ((Rect.unit (s := S1408x1536) ![640, 256] S128x256.size inb_S1408x1536_S128x256_640_256).emb x)

/-- What is read as `v1346`. -/
def l1346 (T : In F) : Vec F S1x256 .bf16 := fun x => T.SG ((Rect.unit (s := S22x1536) ![10, 256] S1x256.size inb_S22x1536_S1x256_10_256).emb x)

/-- What is read as `v1352`. -/
def l1352 (T : In F) : Vec F S1x256 .bf16 := fun x => T.SG ((Rect.unit (s := S22x1536) ![11, 256] S1x256.size inb_S22x1536_S1x256_11_256).emb x)

/-- What is read as `v1361`. -/
def l1361 (T : In F) : Vec F S128x256 .i8 := fun x => T.G ((Rect.unit (s := S1408x1536) ![640, 1024] S128x256.size inb_S1408x1536_S128x256_640_1024).emb x)

/-- The value `v1358`. -/
def w1358 (T : In F) : FVec F S64x256 .f32 := k0_pay100 (w1292 T) (w1326 T) (l1329 T) (l1346 T) (l1352 T)

/-- The value `v1366`. -/
def w1366 (T : In F) : IVec S128x256 32 := k0_pay102 (l1361 T)

/-- The value `v1368`. -/
def w1368 (T : In F) : IVec S128x256 32 := k0_pay103 (l1361 T)

/-- What is read as `v1378`. -/
def l1378 (T : In F) : Vec F S1x256 .bf16 := fun x => T.SG ((Rect.unit (s := S22x1536) ![10, 1024] S1x256.size inb_S22x1536_S1x256_10_1024).emb x)

/-- What is read as `v1384`. -/
def l1384 (T : In F) : Vec F S1x256 .bf16 := fun x => T.SG ((Rect.unit (s := S22x1536) ![11, 1024] S1x256.size inb_S22x1536_S1x256_11_1024).emb x)

/-- What is read as `v1391`. -/
def l1391 (T : In F) : Vec F S64x256 .bf16 := fun x => T.X ((Rect.unit (s := S64x2816) ![0, 1536] S64x256.size inb_S64x2816_S64x256_0_1536).emb x)

/-- What is read as `v1395`. -/
def l1395 (T : In F) : Vec F S128x256 .i8 := fun x => T.G ((Rect.unit (s := S1408x1536) ![768, 256] S128x256.size inb_S1408x1536_S128x256_768_256).emb x)

/-- The value `v1390`. -/
def w1390 (T : In F) : FVec F S64x256 .f32 := k0_pay104 (w1324 T) (w1326 T) (w1366 T) (w1368 T) (l1378 T) (l1384 T)

/-- The value `v1392`. -/
def w1392 (T : In F) : FVec F S64x256 .bf16 := k0_pay105 (l1391 T)

/-- The value `v1408`. -/
def w1408 (T : In F) : IVec S256x256 32 := k0_pay106 (l1395 T)

/-- What is read as `v1412`. -/
def l1412 (T : In F) : Vec F S1x256 .bf16 := fun x => T.SG ((Rect.unit (s := S22x1536) ![12, 256] S1x256.size inb_S22x1536_S1x256_12_256).emb x)

/-- What is read as `v1418`. -/
def l1418 (T : In F) : Vec F S1x256 .bf16 := fun x => T.SG ((Rect.unit (s := S22x1536) ![13, 256] S1x256.size inb_S22x1536_S1x256_13_256).emb x)

/-- What is read as `v1427`. -/
def l1427 (T : In F) : Vec F S128x256 .i8 := fun x => T.G ((Rect.unit (s := S1408x1536) ![768, 1024] S128x256.size inb_S1408x1536_S128x256_768_1024).emb x)

/-- What is read as `v1444`. -/
def l1444 (T : In F) : Vec F S1x256 .bf16 := fun x => T.SG ((Rect.unit (s := S22x1536) ![12, 1024] S1x256.size inb_S22x1536_S1x256_12_1024).emb x)

/-- The value `v1424`. -/
def w1424 (T : In F) : FVec F S64x256 .f32 := k0_pay107 (w1358 T) (w1392 T) (w1408 T) (l1412 T) (l1418 T)

/-- The value `v1441`. -/
def w1441 (T : In F) : FVec F S256x256 .bf16 := k0_pay108 (l1427 T)

/-- The value `v1447`. -/
def w1447 (T : In F) : FVec F S128x256 .bf16 := k0_pay109 (l1427 T) (l1444 T)

/-- What is read as `v1450`. -/
def l1450 (T : In F) : Vec F S1x256 .bf16 := fun x => T.SG ((Rect.unit (s := S22x1536) ![13, 1024] S1x256.size inb_S22x1536_S1x256_13_1024).emb x)

/-- What is read as `v1457`. -/
def l1457 (T : In F) : Vec F S64x256 .bf16 := fun x => T.X ((Rect.unit (s := S64x2816) ![0, 1792] S64x256.size inb_S64x2816_S64x256_0_1792).emb x)

/-- What is read as `v1461`. -/
def l1461 (T : In F) : Vec F S128x256 .i8 := fun x => T.G ((Rect.unit (s := S1408x1536) ![896, 256] S128x256.size inb_S1408x1536_S128x256_896_256).emb x)

/-- What is read as `v1478`. -/
def l1478 (T : In F) : Vec F S1x256 .bf16 := fun x => T.SG ((Rect.unit (s := S22x1536) ![14, 256] S1x256.size inb_S22x1536_S1x256_14_256).emb x)

/-- What is read as `v1484`. -/
def l1484 (T : In F) : Vec F S1x256 .bf16 := fun x => T.SG ((Rect.unit (s := S22x1536) ![15, 256] S1x256.size inb_S22x1536_S1x256_15_256).emb x)

/-- The value `v1456`. -/
def w1456 (T : In F) : FVec F S64x256 .f32 := k0_pay110 (w1390 T) (w1392 T) (w1441 T) (w1447 T) (l1450 T)

/-- The value `v1458`. -/
def w1458 (T : In F) : FVec F S64x256 .bf16 := k0_pay111 (l1457 T)

/-- The value `v1475`. -/
def w1475 (T : In F) : FVec F S256x256 .bf16 := k0_pay112 (l1461 T)

/-- The value `v1481`. -/
def w1481 (T : In F) : FVec F S128x256 .bf16 := k0_pay113 (l1461 T) (l1478 T)

/-- The value `v1484`. -/
def w1484 (T : In F) : Vec F S1x256 .bf16 := (l1484 T)

/-- What is read as `v1493`. -/
def l1493 (T : In F) : Vec F S128x256 .i8 := fun x => T.G ((Rect.unit (s := S1408x1536) ![896, 1024] S128x256.size inb_S1408x1536_S128x256_896_1024).emb x)

/-- What is read as `v1510`. -/
def l1510 (T : In F) : Vec F S1x256 .bf16 := fun x => T.SG ((Rect.unit (s := S22x1536) ![14, 1024] S1x256.size inb_S22x1536_S1x256_14_1024).emb x)

/-- What is read as `v1516`. -/
def l1516 (T : In F) : Vec F S1x256 .bf16 := fun x => T.SG ((Rect.unit (s := S22x1536) ![15, 1024] S1x256.size inb_S22x1536_S1x256_15_1024).emb x)

/-- What is read as `v1523`. -/
def l1523 (T : In F) : Vec F S64x256 .bf16 := fun x => T.X ((Rect.unit (s := S64x2816) ![0, 2048] S64x256.size inb_S64x2816_S64x256_0_2048).emb x)

/-- The value `v1490`. -/
def w1490 (T : In F) : FVec F S64x256 .f32 := k0_pay114 (w1424 T) (w1458 T) (w1475 T) (w1481 T) (w1484 T)

/-- The value `v1522`. -/
def w1522 (T : In F) : FVec F S64x256 .f32 := k0_pay115 (w1456 T) (w1458 T) (l1493 T) (l1510 T) (l1516 T)

/-- The value `v1524`. -/
def w1524 (T : In F) : FVec F S64x256 .bf16 := k0_pay116 (l1523 T)

/-- What is read as `v1527`. -/
def l1527 (T : In F) : Vec F S128x256 .i8 := fun x => T.G ((Rect.unit (s := S1408x1536) ![1024, 256] S128x256.size inb_S1408x1536_S128x256_1024_256).emb x)

/-- What is read as `v1544`. -/
def l1544 (T : In F) : Vec F S1x256 .bf16 := fun x => T.SG ((Rect.unit (s := S22x1536) ![16, 256] S1x256.size inb_S22x1536_S1x256_16_256).emb x)

/-- What is read as `v1550`. -/
def l1550 (T : In F) : Vec F S1x256 .bf16 := fun x => T.SG ((Rect.unit (s := S22x1536) ![17, 256] S1x256.size inb_S22x1536_S1x256_17_256).emb x)

/-- What is read as `v1559`. -/
def l1559 (T : In F) : Vec F S128x256 .i8 := fun x => T.G ((Rect.unit (s := S1408x1536) ![1024, 1024] S128x256.size inb_S1408x1536_S128x256_1024_1024).emb x)

/-- The value `v1556`. -/
def w1556 (T : In F) : FVec F S64x256 .f32 := k0_pay117 (w1490 T) (w1524 T) (l1527 T) (l1544 T) (l1550 T)

/-- The value `v1560`. -/
def w1560 (T : In F) : IVec S128x256 32 := k0_pay118 (l1559 T)

/-- The value `v1562`. -/
def w1562 (T : In F) : IVec S128x256 32 := k0_pay119 (l1559 T)

/-- What is read as `v1576`. -/
def l1576 (T : In F) : Vec F S1x256 .bf16 := fun x => T.SG ((Rect.unit (s := S22x1536) ![16, 1024] S1x256.size inb_S22x1536_S1x256_16_1024).emb x)

/-- What is read as `v1582`. -/
def l1582 (T : In F) : Vec F S1x256 .bf16 := fun x => T.SG ((Rect.unit (s := S22x1536) ![17, 1024] S1x256.size inb_S22x1536_S1x256_17_1024).emb x)

/-- What is read as `v1589`. -/
def l1589 (T : In F) : Vec F S64x256 .bf16 := fun x => T.X ((Rect.unit (s := S64x2816) ![0, 2304] S64x256.size inb_S64x2816_S64x256_0_2304).emb x)

/-- What is read as `v1593`. -/
def l1593 (T : In F) : Vec F S128x256 .i8 := fun x => T.G ((Rect.unit (s := S1408x1536) ![1152, 256] S128x256.size inb_S1408x1536_S128x256_1152_256).emb x)

/-- The value `v1588`. -/
def w1588 (T : In F) : FVec F S64x256 .f32 := k0_pay120 (w1522 T) (w1524 T) (w1560 T) (w1562 T) (l1576 T) (l1582 T)

/-- The value `v1590`. -/
def w1590 (T : In F) : FVec F S64x256 .bf16 := k0_pay121 (l1589 T)

/-- The value `v1598`. -/
def w1598 (T : In F) : IVec S128x256 32 := k0_pay123 (l1593 T)

/-- The value `v1600`. -/
def w1600 (T : In F) : IVec S128x256 32 := k0_pay124 (l1593 T)

/-- The value `c28_i32_868`. -/
def w_c28_i32_868 (T : In F) : BitVec 32 := 28#32

/-- What is read as `v1610`. -/
def l1610 (T : In F) : Vec F S1x256 .bf16 := fun x => T.SG ((Rect.unit (s := S22x1536) ![18, 256] S1x256.size inb_S22x1536_S1x256_18_256).emb x)

/-- What is read as `v1616`. -/
def l1616 (T : In F) : Vec F S1x256 .bf16 := fun x => T.SG ((Rect.unit (s := S22x1536) ![19, 256] S1x256.size inb_S22x1536_S1x256_19_256).emb x)

/-- What is read as `v1625`. -/
def l1625 (T : In F) : Vec F S128x256 .i8 := fun x => T.G ((Rect.unit (s := S1408x1536) ![1152, 1024] S128x256.size inb_S1408x1536_S128x256_1152_1024).emb x)

/-- The value `v1622`. -/
def w1622 (T : In F) : FVec F S64x256 .f32 := k0_pay125 (w1556 T) (w1590 T) (w1598 T) (w1600 T) (w_c28_i32_868 T) (l1610 T) (l1616 T)

/-- The value `v1639`. -/
def w1639 (T : In F) : FVec F S256x256 .bf16 := k0_pay126 (l1625 T)

/-- What is read as `v1642`. -/
def l1642 (T : In F) : Vec F S1x256 .bf16 := fun x => T.SG ((Rect.unit (s := S22x1536) ![18, 1024] S1x256.size inb_S22x1536_S1x256_18_1024).emb x)

/-- What is read as `v1648`. -/
def l1648 (T : In F) : Vec F S1x256 .bf16 := fun x => T.SG ((Rect.unit (s := S22x1536) ![19, 1024] S1x256.size inb_S22x1536_S1x256_19_1024).emb x)

/-- What is read as `v1655`. -/
def l1655 (T : In F) : Vec F S64x256 .bf16 := fun x => T.X ((Rect.unit (s := S64x2816) ![0, 2560] S64x256.size inb_S64x2816_S64x256_0_2560).emb x)

/-- What is read as `v1659`. -/
def l1659 (T : In F) : Vec F S128x256 .i8 := fun x => T.G ((Rect.unit (s := S1408x1536) ![1280, 256] S128x256.size inb_S1408x1536_S128x256_1280_256).emb x)

/-- What is read as `v1676`. -/
def l1676 (T : In F) : Vec F S1x256 .bf16 := fun x => T.SG ((Rect.unit (s := S22x1536) ![20, 256] S1x256.size inb_S22x1536_S1x256_20_256).emb x)

/-- The value `v1654`. -/
def w1654 (T : In F) : FVec F S64x256 .f32 := k0_pay127 (w1588 T) (w1590 T) (w1639 T) (l1642 T) (l1648 T)

/-- The value `v1656`. -/
def w1656 (T : In F) : FVec F S64x256 .bf16 := k0_pay128 (l1655 T)

/-- The value `v1673`. -/
def w1673 (T : In F) : FVec F S256x256 .bf16 := k0_pay129 (l1659 T)

/-- The value `v1679`. -/
def w1679 (T : In F) : FVec F S128x256 .bf16 := k0_pay130 (l1659 T) (l1676 T)

/-- What is read as `v1682`. -/
def l1682 (T : In F) : Vec F S1x256 .bf16 := fun x => T.SG ((Rect.unit (s := S22x1536) ![21, 256] S1x256.size inb_S22x1536_S1x256_21_256).emb x)

/-- What is read as `v1691`. -/
def l1691 (T : In F) : Vec F S128x256 .i8 := fun x => T.G ((Rect.unit (s := S1408x1536) ![1280, 1024] S128x256.size inb_S1408x1536_S128x256_1280_1024).emb x)

/-- What is read as `v1708`. -/
def l1708 (T : In F) : Vec F S1x256 .bf16 := fun x => T.SG ((Rect.unit (s := S22x1536) ![20, 1024] S1x256.size inb_S22x1536_S1x256_20_1024).emb x)

/-- What is read as `v1714`. -/
def l1714 (T : In F) : Vec F S1x256 .bf16 := fun x => T.SG ((Rect.unit (s := S22x1536) ![21, 1024] S1x256.size inb_S22x1536_S1x256_21_1024).emb x)

/-- The value `v1688`. -/
def w1688 (T : In F) : FVec F S64x256 .f32 := k0_pay131 (w1622 T) (w1656 T) (w1673 T) (w1679 T) (l1682 T)

/-- The value `v1718`. -/
def w1718 (T : In F) : FVec F S256x256 .bf16 := k0_pay132 (l1691 T) (l1708 T) (l1714 T)

/-- The value `cst_930`. -/
def w_cst_930 (T : In F) : FVec F S64x256 .f32 := (constant S64x256 .f32 0x00000000#32)

/-- What is read as `v1731`. -/
def l1731 (T : In F) : Vec F S64x256 .bf16 := fun x => T.X ((Rect.unit (s := S64x2816) ![0, 0] S64x256.size inb_S64x2816_S64x256_0_0).emb x)

/-- What is read as `v1735`. -/
def l1735 (T : In F) : Vec F S128x256 .i8 := fun x => T.G ((Rect.unit (s := S1408x1536) ![0, 512] S128x256.size inb_S1408x1536_S128x256_0_512).emb x)

/-- What is read as `v1752`. -/
def l1752 (T : In F) : Vec F S1x256 .bf16 := fun x => T.SG ((Rect.unit (s := S22x1536) ![0, 512] S1x256.size inb_S22x1536_S1x256_0_512).emb x)

/-- The value `v1728`. -/
def w1728 (T : In F) : FVec F S64x256 .bf16 := k0_pay133 (w250 T) (w1654 T) (w1656 T) (w1688 T) (w1718 T) (w_cst_930 T)

/-- The value `v1729`. -/
def w1729 (T : In F) : FVec F S64x256 .f32 := k0_pay134 (F := F)

/-- The value `v1730`. -/
def w1730 (T : In F) : FVec F S64x256 .f32 := k0_pay135 (F := F)

/-- The value `v1732`. -/
def w1732 (T : In F) : FVec F S64x256 .bf16 := k0_pay136 (l1731 T)

/-- The value `v1749`. -/
def w1749 (T : In F) : FVec F S256x256 .bf16 := k0_pay137 (l1735 T)

/-- The value `v1755`. -/
def w1755 (T : In F) : FVec F S128x256 .bf16 := k0_pay138 (l1735 T) (l1752 T)

/-- What is read as `v1758`. -/
def l1758 (T : In F) : Vec F S1x256 .bf16 := fun x => T.SG ((Rect.unit (s := S22x1536) ![1, 512] S1x256.size inb_S22x1536_S1x256_1_512).emb x)

/-- What is read as `v1767`. -/
def l1767 (T : In F) : Vec F S128x256 .i8 := fun x => T.G ((Rect.unit (s := S1408x1536) ![0, 1280] S128x256.size inb_S1408x1536_S128x256_0_1280).emb x)

/-- What is read as `v1784`. -/
def l1784 (T : In F) : Vec F S1x256 .bf16 := fun x => T.SG ((Rect.unit (s := S22x1536) ![0, 1280] S1x256.size inb_S22x1536_S1x256_0_1280).emb x)

/-- What is read as `v1790`. -/
def l1790 (T : In F) : Vec F S1x256 .bf16 := fun x => T.SG ((Rect.unit (s := S22x1536) ![1, 1280] S1x256.size inb_S22x1536_S1x256_1_1280).emb x)

/-- What is read as `v1797`. -/
def l1797 (T : In F) : Vec F S64x256 .bf16 := fun x => T.X ((Rect.unit (s := S64x2816) ![0, 256] S64x256.size inb_S64x2816_S64x256_0_256).emb x)

/-- The value `v1764`. -/
def w1764 (T : In F) : FVec F S64x256 .f32 := k0_pay139 (w1729 T) (w1732 T) (w1749 T) (w1755 T) (l1758 T)

/-- The value `v1796`. -/
def w1796 (T : In F) : FVec F S64x256 .f32 := k0_pay140 (w1730 T) (w1732 T) (l1767 T) (l1784 T) (l1790 T)

/-- The value `v1797`. -/
def w1797 (T : In F) : Vec F S64x256 .bf16 := (l1797 T)

/-- What is read as `v1801`. -/
def l1801 (T : In F) : Vec F S128x256 .i8 := fun x => T.G ((Rect.unit (s := S1408x1536) ![128, 512] S128x256.size inb_S1408x1536_S128x256_128_512).emb x)

/-- What is read as `v1818`. -/
def l1818 (T : In F) : Vec F S1x256 .bf16 := fun x => T.SG ((Rect.unit (s := S22x1536) ![2, 512] S1x256.size inb_S22x1536_S1x256_2_512).emb x)

/-- What is read as `v1824`. -/
def l1824 (T : In F) : Vec F S1x256 .bf16 := fun x => T.SG ((Rect.unit (s := S22x1536) ![3, 512] S1x256.size inb_S22x1536_S1x256_3_512).emb x)

/-- What is read as `v1833`. -/
def l1833 (T : In F) : Vec F S128x256 .i8 := fun x => T.G ((Rect.unit (s := S1408x1536) ![128, 1280] S128x256.size inb_S1408x1536_S128x256_128_1280).emb x)

/-- The value `v1798`. -/
def w1798 (T : In F) : FVec F S64x256 .bf16 := k0_pay141 (w1797 T)

/-- The value `v1830`. -/
def w1830 (T : In F) : FVec F S64x256 .f32 := k0_pay142 (w1764 T) (w1797 T) (l1801 T) (l1818 T) (l1824 T)

/-- The value `v1834`. -/
def w1834 (T : In F) : IVec S128x256 32 := k0_pay143 (l1833 T)

/-- The value `v1835`. -/
def w1835 (T : In F) : IVec S128x256 32 := k0_pay144

/-- What is read as `v1850`. -/
def l1850 (T : In F) : Vec F S1x256 .bf16 := fun x => T.SG ((Rect.unit (s := S22x1536) ![2, 1280] S1x256.size inb_S22x1536_S1x256_2_1280).emb x)

/-- What is read as `v1856`. -/
def l1856 (T : In F) : Vec F S1x256 .bf16 := fun x => T.SG ((Rect.unit (s := S22x1536) ![3, 1280] S1x256.size inb_S22x1536_S1x256_3_1280).emb x)

/-- What is read as `v1863`. -/
def l1863 (T : In F) : Vec F S64x256 .bf16 := fun x => T.X ((Rect.unit (s := S64x2816) ![0, 512] S64x256.size inb_S64x2816_S64x256_0_512).emb x)

/-- What is read as `v1867`. -/
def l1867 (T : In F) : Vec F S128x256 .i8 := fun x => T.G ((Rect.unit (s := S1408x1536) ![256, 512] S128x256.size inb_S1408x1536_S128x256_256_512).emb x)

/-- The value `v1862`. -/
def w1862 (T : In F) : FVec F S64x256 .f32 := k0_pay145 (w1796 T) (w1798 T) (w1834 T) (w1835 T) (l1850 T) (l1856 T)

/-- The value `v1864`. -/
def w1864 (T : In F) : FVec F S64x256 .bf16 := k0_pay146 (l1863 T)

/-- The value `v1872`. -/
def w1872 (T : In F) : IVec S128x256 32 := k0_pay148 (l1867 T)

/-- The value `v1874`. -/
def w1874 (T : In F) : IVec S128x256 32 := k0_pay149 (l1867 T)

/-- What is read as `v1884`. -/
def l1884 (T : In F) : Vec F S1x256 .bf16 := fun x => T.SG ((Rect.unit (s := S22x1536) ![4, 512] S1x256.size inb_S22x1536_S1x256_4_512).emb x)

/-- What is read as `v1890`. -/
def l1890 (T : In F) : Vec F S1x256 .bf16 := fun x => T.SG ((Rect.unit (s := S22x1536) ![5, 512] S1x256.size inb_S22x1536_S1x256_5_512).emb x)

/-- What is read as `v1899`. -/
def l1899 (T : In F) : Vec F S128x256 .i8 := fun x => T.G ((Rect.unit (s := S1408x1536) ![256, 1280] S128x256.size inb_S1408x1536_S128x256_256_1280).emb x)

/-- The value `v1896`. -/
def w1896 (T : In F) : FVec F S64x256 .f32 := k0_pay150 (w1830 T) (w1864 T) (w1872 T) (w1874 T) (l1884 T) (l1890 T)

/-- The value `v1913`. -/
def w1913 (T : In F) : FVec F S256x256 .bf16 := k0_pay151 (l1899 T)

/-- What is read as `v1916`. -/
def l1916 (T : In F) : Vec F S1x256 .bf16 := fun x => T.SG ((Rect.unit (s := S22x1536) ![4, 1280] S1x256.size inb_S22x1536_S1x256_4_1280).emb x)

/-- What is read as `v1922`. -/
def l1922 (T : In F) : Vec F S1x256 .bf16 := fun x => T.SG ((Rect.unit (s := S22x1536) ![5, 1280] S1x256.size inb_S22x1536_S1x256_5_1280).emb x)

/-- What is read as `v1929`. -/
def l1929 (T : In F) : Vec F S64x256 .bf16 := fun x => T.X ((Rect.unit (s := S64x2816) ![0, 768] S64x256.size inb_S64x2816_S64x256_0_768).emb x)

/-- What is read as `v1933`. -/
def l1933 (T : In F) : Vec F S128x256 .i8 := fun x => T.G ((Rect.unit (s := S1408x1536) ![384, 512] S128x256.size inb_S1408x1536_S128x256_384_512).emb x)

/-- What is read as `v1950`. -/
def l1950 (T : In F) : Vec F S1x256 .bf16 := fun x => T.SG ((Rect.unit (s := S22x1536) ![6, 512] S1x256.size inb_S22x1536_S1x256_6_512).emb x)

/-- The value `v1928`. -/
def w1928 (T : In F) : FVec F S64x256 .f32 := k0_pay152 (w1862 T) (w1864 T) (w1913 T) (l1916 T) (l1922 T)

/-- The value `v1930`. -/
def w1930 (T : In F) : FVec F S64x256 .bf16 := k0_pay153 (l1929 T)

/-- The value `v1947`. -/
def w1947 (T : In F) : FVec F S256x256 .bf16 := k0_pay154 (l1933 T)

/-- The value `v1953`. -/
def w1953 (T : In F) : FVec F S128x256 .bf16 := k0_pay155 (l1933 T) (l1950 T)

/-- What is read as `v1956`. -/
def l1956 (T : In F) : Vec F S1x256 .bf16 := fun x => T.SG ((Rect.unit (s := S22x1536) ![7, 512] S1x256.size inb_S22x1536_S1x256_7_512).emb x)

/-- What is read as `v1965`. -/
def l1965 (T : In F) : Vec F S128x256 .i8 := fun x => T.G ((Rect.unit (s := S1408x1536) ![384, 1280] S128x256.size inb_S1408x1536_S128x256_384_1280).emb x)

/-- What is read as `v1982`. -/
def l1982 (T : In F) : Vec F S1x256 .bf16 := fun x => T.SG ((Rect.unit (s := S22x1536) ![6, 1280] S1x256.size inb_S22x1536_S1x256_6_1280).emb x)

/-- What is read as `v1988`. -/
def l1988 (T : In F) : Vec F S1x256 .bf16 := fun x => T.SG ((Rect.unit (s := S22x1536) ![7, 1280] S1x256.size inb_S22x1536_S1x256_7_1280).emb x)

/-- The value `v1962`. -/
def w1962 (T : In F) : FVec F S64x256 .f32 := k0_pay156 (w1896 T) (w1930 T) (w1947 T) (w1953 T) (l1956 T)

/-- The value `v1992`. -/
def w1992 (T : In F) : FVec F S256x256 .bf16 := k0_pay157 (l1965 T) (l1982 T) (l1988 T)

/-- What is read as `v1995`. -/
def l1995 (T : In F) : Vec F S64x256 .bf16 := fun x => T.X ((Rect.unit (s := S64x2816) ![0, 1024] S64x256.size inb_S64x2816_S64x256_0_1024).emb x)

/-- What is read as `v1999`. -/
def l1999 (T : In F) : Vec F S128x256 .i8 := fun x => T.G ((Rect.unit (s := S1408x1536) ![512, 512] S128x256.size inb_S1408x1536_S128x256_512_512).emb x)

/-- What is read as `v2016`. -/
def l2016 (T : In F) : Vec F S1x256 .bf16 := fun x => T.SG ((Rect.unit (s := S22x1536) ![8, 512] S1x256.size inb_S22x1536_S1x256_8_512).emb x)

/-- What is read as `v2022`. -/
def l2022 (T : In F) : Vec F S1x256 .bf16 := fun x => T.SG ((Rect.unit (s := S22x1536) ![9, 512] S1x256.size inb_S22x1536_S1x256_9_512).emb x)

/-- The value `v1994`. -/
def w1994 (T : In F) : FVec F S64x256 .f32 := k0_pay158 (w1928 T) (w1930 T) (w1992 T)

/-- The value `v1996`. -/
def w1996 (T : In F) : FVec F S64x256 .bf16 := k0_pay159 (l1995 T)

/-- The value `v2028`. -/
def w2028 (T : In F) : FVec F S64x256 .f32 := k0_pay160 (w1962 T) (l1995 T) (l1999 T) (l2016 T) (l2022 T)

/-- What is read as `v2031`. -/
def l2031 (T : In F) : Vec F S128x256 .i8 := fun x => T.G ((Rect.unit (s := S1408x1536) ![512, 1280] S128x256.size inb_S1408x1536_S128x256_512_1280).emb x)

/-- What is read as `v2048`. -/
def l2048 (T : In F) : Vec F S1x256 .bf16 := fun x => T.SG ((Rect.unit (s := S22x1536) ![8, 1280] S1x256.size inb_S22x1536_S1x256_8_1280).emb x)

/-- What is read as `v2054`. -/
def l2054 (T : In F) : Vec F S1x256 .bf16 := fun x => T.SG ((Rect.unit (s := S22x1536) ![9, 1280] S1x256.size inb_S22x1536_S1x256_9_1280).emb x)

/-- What is read as `v2061`. -/
def l2061 (T : In F) : Vec F S64x256 .bf16 := fun x => T.X ((Rect.unit (s := S64x2816) ![0, 1280] S64x256.size inb_S64x2816_S64x256_0_1280).emb x)

/-- What is read as `v2065`. -/
def l2065 (T : In F) : Vec F S128x256 .i8 := fun x => T.G ((Rect.unit (s := S1408x1536) ![640, 512] S128x256.size inb_S1408x1536_S128x256_640_512).emb x)

/-- The value `v2060`. -/
def w2060 (T : In F) : FVec F S64x256 .f32 := k0_pay161 (w1994 T) (w1996 T) (l2031 T) (l2048 T) (l2054 T)

/-- The value `v2062`. -/
def w2062 (T : In F) : FVec F S64x256 .bf16 := k0_pay162 (l2061 T)

/-- The value `v2066`. -/
def w2066 (T : In F) : IVec S128x256 32 := k0_pay163 (l2065 T)

/-- The value `v2068`. -/
def w2068 (T : In F) : IVec S128x256 32 := k0_pay164 (l2065 T)

/-- What is read as `v2082`. -/
def l2082 (T : In F) : Vec F S1x256 .bf16 := fun x => T.SG ((Rect.unit (s := S22x1536) ![10, 512] S1x256.size inb_S22x1536_S1x256_10_512).emb x)

/-- What is read as `v2088`. -/
def l2088 (T : In F) : Vec F S1x256 .bf16 := fun x => T.SG ((Rect.unit (s := S22x1536) ![11, 512] S1x256.size inb_S22x1536_S1x256_11_512).emb x)

/-- What is read as `v2097`. -/
def l2097 (T : In F) : Vec F S128x256 .i8 := fun x => T.G ((Rect.unit (s := S1408x1536) ![640, 1280] S128x256.size inb_S1408x1536_S128x256_640_1280).emb x)

/-- The value `v2094`. -/
def w2094 (T : In F) : FVec F S64x256 .f32 := k0_pay165 (w2028 T) (w2062 T) (w2066 T) (w2068 T) (l2082 T) (l2088 T)

/-- The value `v2107`. -/
def w2107 (T : In F) : IVec S128x1x256 32 := k0_pay167 (l2097 T)

/-- The value `v2108`. -/
def w2108 (T : In F) : IVec S128x1x256 32 := k0_pay168 (l2097 T)

/-- What is read as `v2114`. -/
def l2114 (T : In F) : Vec F S1x256 .bf16 := fun x => T.SG ((Rect.unit (s := S22x1536) ![10, 1280] S1x256.size inb_S22x1536_S1x256_10_1280).emb x)

/-- What is read as `v2120`. -/
def l2120 (T : In F) : Vec F S1x256 .bf16 := fun x => T.SG ((Rect.unit (s := S22x1536) ![11, 1280] S1x256.size inb_S22x1536_S1x256_11_1280).emb x)

/-- What is read as `v2127`. -/
def l2127 (T : In F) : Vec F S64x256 .bf16 := fun x => T.X ((Rect.unit (s := S64x2816) ![0, 1536] S64x256.size inb_S64x2816_S64x256_0_1536).emb x)

/-- What is read as `v2131`. -/
def l2131 (T : In F) : Vec F S128x256 .i8 := fun x => T.G ((Rect.unit (s := S1408x1536) ![768, 512] S128x256.size inb_S1408x1536_S128x256_768_512).emb x)

/-- The value `v2126`. -/
def w2126 (T : In F) : FVec F S64x256 .f32 := k0_pay169 (w2060 T) (w2062 T) (w2107 T) (w2108 T) (l2114 T) (l2120 T)

/-- The value `v2128`. -/
def w2128 (T : In F) : FVec F S64x256 .bf16 := k0_pay170 (l2127 T)

/-- The value `v2145`. -/
def w2145 (T : In F) : FVec F S256x256 .bf16 := k0_pay171 (l2131 T)

/-- What is read as `v2148`. -/
def l2148 (T : In F) : Vec F S1x256 .bf16 := fun x => T.SG ((Rect.unit (s := S22x1536) ![12, 512] S1x256.size inb_S22x1536_S1x256_12_512).emb x)

/-- What is read as `v2154`. -/
def l2154 (T : In F) : Vec F S1x256 .bf16 := fun x => T.SG ((Rect.unit (s := S22x1536) ![13, 512] S1x256.size inb_S22x1536_S1x256_13_512).emb x)

/-- What is read as `v2163`. -/
def l2163 (T : In F) : Vec F S128x256 .i8 := fun x => T.G ((Rect.unit (s := S1408x1536) ![768, 1280] S128x256.size inb_S1408x1536_S128x256_768_1280).emb x)

/-- What is read as `v2180`. -/
def l2180 (T : In F) : Vec F S1x256 .bf16 := fun x => T.SG ((Rect.unit (s := S22x1536) ![12, 1280] S1x256.size inb_S22x1536_S1x256_12_1280).emb x)

/-- The value `v2160`. -/
def w2160 (T : In F) : FVec F S64x256 .f32 := k0_pay172 (w2094 T) (w2128 T) (w2145 T) (l2148 T) (l2154 T)

/-- The value `v2177`. -/
def w2177 (T : In F) : FVec F S256x256 .bf16 := k0_pay173 (l2163 T)

/-- The value `v2183`. -/
def w2183 (T : In F) : FVec F S128x256 .bf16 := k0_pay174 (l2163 T) (l2180 T)

/-- What is read as `v2186`. -/
def l2186 (T : In F) : Vec F S1x256 .bf16 := fun x => T.SG ((Rect.unit (s := S22x1536) ![13, 1280] S1x256.size inb_S22x1536_S1x256_13_1280).emb x)

/-- What is read as `v2193`. -/
def l2193 (T : In F) : Vec F S64x256 .bf16 := fun x => T.X ((Rect.unit (s := S64x2816) ![0, 1792] S64x256.size inb_S64x2816_S64x256_0_1792).emb x)

/-- What is read as `v2197`. -/
def l2197 (T : In F) : Vec F S128x256 .i8 := fun x => T.G ((Rect.unit (s := S1408x1536) ![896, 512] S128x256.size inb_S1408x1536_S128x256_896_512).emb x)

/-- What is read as `v2214`. -/
def l2214 (T : In F) : Vec F S1x256 .bf16 := fun x => T.SG ((Rect.unit (s := S22x1536) ![14, 512] S1x256.size inb_S22x1536_S1x256_14_512).emb x)

/-- What is read as `v2220`. -/
def l2220 (T : In F) : Vec F S1x256 .bf16 := fun x => T.SG ((Rect.unit (s := S22x1536) ![15, 512] S1x256.size inb_S22x1536_S1x256_15_512).emb x)

/-- The value `v2192`. -/
def w2192 (T : In F) : FVec F S64x256 .f32 := k0_pay175 (w2126 T) (w2128 T) (w2177 T) (w2183 T) (l2186 T)

/-- The value `v2194`. -/
def w2194 (T : In F) : FVec F S64x256 .bf16 := k0_pay176 (l2193 T)

/-- The value `v2224`. -/
def w2224 (T : In F) : FVec F S256x256 .bf16 := k0_pay177 (l2197 T) (l2214 T) (l2220 T)

/-- The value `cst_1204`. -/
def w_cst_1204 (T : In F) : FVec F S64x256 .f32 := (constant S64x256 .f32 0x00000000#32)

/-- What is read as `v2229`. -/
def l2229 (T : In F) : Vec F S128x256 .i8 := fun x => T.G ((Rect.unit (s := S1408x1536) ![896, 1280] S128x256.size inb_S1408x1536_S128x256_896_1280).emb x)

/-- What is read as `v2246`. -/
def l2246 (T : In F) : Vec F S1x256 .bf16 := fun x => T.SG ((Rect.unit (s := S22x1536) ![14, 1280] S1x256.size inb_S22x1536_S1x256_14_1280).emb x)

/-- What is read as `v2252`. -/
def l2252 (T : In F) : Vec F S1x256 .bf16 := fun x => T.SG ((Rect.unit (s := S22x1536) ![15, 1280] S1x256.size inb_S22x1536_S1x256_15_1280).emb x)

/-- What is read as `v2259`. -/
def l2259 (T : In F) : Vec F S64x256 .bf16 := fun x => T.X ((Rect.unit (s := S64x2816) ![0, 2048] S64x256.size inb_S64x2816_S64x256_0_2048).emb x)

/-- The value `v2226`. -/
def w2226 (T : In F) : FVec F S64x256 .f32 := k0_pay178 (w2160 T) (w2194 T) (w2224 T) (w_cst_1204 T)

/-- The value `v2258`. -/
def w2258 (T : In F) : FVec F S64x256 .f32 := k0_pay179 (w2192 T) (w2194 T) (l2229 T) (l2246 T) (l2252 T)

/-- The value `v2260`. -/
def w2260 (T : In F) : FVec F S64x256 .bf16 := k0_pay180 (l2259 T)

/-- What is read as `v2263`. -/
def l2263 (T : In F) : Vec F S128x256 .i8 := fun x => T.G ((Rect.unit (s := S1408x1536) ![1024, 512] S128x256.size inb_S1408x1536_S128x256_1024_512).emb x)

/-- What is read as `v2280`. -/
def l2280 (T : In F) : Vec F S1x256 .bf16 := fun x => T.SG ((Rect.unit (s := S22x1536) ![16, 512] S1x256.size inb_S22x1536_S1x256_16_512).emb x)

/-- What is read as `v2286`. -/
def l2286 (T : In F) : Vec F S1x256 .bf16 := fun x => T.SG ((Rect.unit (s := S22x1536) ![17, 512] S1x256.size inb_S22x1536_S1x256_17_512).emb x)

/-- What is read as `v2295`. -/
def l2295 (T : In F) : Vec F S128x256 .i8 := fun x => T.G ((Rect.unit (s := S1408x1536) ![1024, 1280] S128x256.size inb_S1408x1536_S128x256_1024_1280).emb x)

/-- The value `v2292`. -/
def w2292 (T : In F) : FVec F S64x256 .f32 := k0_pay181 (w2226 T) (w2260 T) (l2263 T) (l2280 T) (l2286 T)

/-- The value `v2296`. -/
def w2296 (T : In F) : IVec S128x256 32 := k0_pay182 (l2295 T)

/-- The value `v2300`. -/
def w2300 (T : In F) : IVec S128x256 32 := k0_pay183 (l2295 T)

/-- The value `v2301`. -/
def w2301 (T : In F) : IVec S128x256 32 := k0_pay184

/-- What is read as `v2312`. -/
def l2312 (T : In F) : Vec F S1x256 .bf16 := fun x => T.SG ((Rect.unit (s := S22x1536) ![16, 1280] S1x256.size inb_S22x1536_S1x256_16_1280).emb x)

/-- What is read as `v2318`. -/
def l2318 (T : In F) : Vec F S1x256 .bf16 := fun x => T.SG ((Rect.unit (s := S22x1536) ![17, 1280] S1x256.size inb_S22x1536_S1x256_17_1280).emb x)

/-- What is read as `v2325`. -/
def l2325 (T : In F) : Vec F S64x256 .bf16 := fun x => T.X ((Rect.unit (s := S64x2816) ![0, 2304] S64x256.size inb_S64x2816_S64x256_0_2304).emb x)

/-- What is read as `v2329`. -/
def l2329 (T : In F) : Vec F S128x256 .i8 := fun x => T.G ((Rect.unit (s := S1408x1536) ![1152, 512] S128x256.size inb_S1408x1536_S128x256_1152_512).emb x)

/-- The value `v2324`. -/
def w2324 (T : In F) : FVec F S64x256 .f32 := k0_pay185 (w2258 T) (w2260 T) (w2296 T) (w2300 T) (w2301 T) (l2312 T) (l2318 T)

/-- The value `v2326`. -/
def w2326 (T : In F) : FVec F S64x256 .bf16 := k0_pay186 (l2325 T)

/-- The value `v2341`. -/
def w2341 (T : In F) : IVec S128x2x256 32 := k0_pay187 (l2329 T)

/-- What is read as `v2346`. -/
def l2346 (T : In F) : Vec F S1x256 .bf16 := fun x => T.SG ((Rect.unit (s := S22x1536) ![18, 512] S1x256.size inb_S22x1536_S1x256_18_512).emb x)

/-- What is read as `v2352`. -/
def l2352 (T : In F) : Vec F S1x256 .bf16 := fun x => T.SG ((Rect.unit (s := S22x1536) ![19, 512] S1x256.size inb_S22x1536_S1x256_19_512).emb x)

/-- What is read as `v2361`. -/
def l2361 (T : In F) : Vec F S128x256 .i8 := fun x => T.G ((Rect.unit (s := S1408x1536) ![1152, 1280] S128x256.size inb_S1408x1536_S128x256_1152_1280).emb x)

/-- What is read as `v2378`. -/
def l2378 (T : In F) : Vec F S1x256 .bf16 := fun x => T.SG ((Rect.unit (s := S22x1536) ![18, 1280] S1x256.size inb_S22x1536_S1x256_18_1280).emb x)

/-- The value `v2358`. -/
def w2358 (T : In F) : FVec F S64x256 .f32 := k0_pay188 (w2292 T) (w2326 T) (w2341 T) (l2346 T) (l2352 T)

/-- The value `v2375`. -/
def w2375 (T : In F) : FVec F S256x256 .bf16 := k0_pay189 (l2361 T)

/-- The value `v2379`. -/
def w2379 (T : In F) : FVec F S128x256 .bf16 := k0_pay190 (l2361 T)

/-- The value `v2380`. -/
def w2380 (T : In F) : FVec F S128x256 .bf16 := k0_pay191 (l2378 T)

/-- What is read as `v2384`. -/
def l2384 (T : In F) : Vec F S1x256 .bf16 := fun x => T.SG ((Rect.unit (s := S22x1536) ![19, 1280] S1x256.size inb_S22x1536_S1x256_19_1280).emb x)

/-- What is read as `v2391`. -/
def l2391 (T : In F) : Vec F S64x256 .bf16 := fun x => T.X ((Rect.unit (s := S64x2816) ![0, 2560] S64x256.size inb_S64x2816_S64x256_0_2560).emb x)

/-- What is read as `v2395`. -/
def l2395 (T : In F) : Vec F S128x256 .i8 := fun x => T.G ((Rect.unit (s := S1408x1536) ![1280, 512] S128x256.size inb_S1408x1536_S128x256_1280_512).emb x)

/-- What is read as `v2412`. -/
def l2412 (T : In F) : Vec F S1x256 .bf16 := fun x => T.SG ((Rect.unit (s := S22x1536) ![20, 512] S1x256.size inb_S22x1536_S1x256_20_512).emb x)

/-- The value `v2390`. -/
def w2390 (T : In F) : FVec F S64x256 .f32 := k0_pay192 (w2324 T) (w2326 T) (w2375 T) (w2379 T) (w2380 T) (l2384 T)

/-- The value `v2392`. -/
def w2392 (T : In F) : FVec F S64x256 .bf16 := k0_pay193 (l2391 T)

/-- The value `v2409`. -/
def w2409 (T : In F) : FVec F S256x256 .bf16 := k0_pay194 (l2395 T)

/-- The value `v2415`. -/
def w2415 (T : In F) : FVec F S128x256 .bf16 := k0_pay195 (l2395 T) (l2412 T)

/-- What is read as `v2418`. -/
def l2418 (T : In F) : Vec F S1x256 .bf16 := fun x => T.SG ((Rect.unit (s := S22x1536) ![21, 512] S1x256.size inb_S22x1536_S1x256_21_512).emb x)

/-- What is read as `v2427`. -/
def l2427 (T : In F) : Vec F S128x256 .i8 := fun x => T.G ((Rect.unit (s := S1408x1536) ![1280, 1280] S128x256.size inb_S1408x1536_S128x256_1280_1280).emb x)

/-- What is read as `v2444`. -/
def l2444 (T : In F) : Vec F S1x256 .bf16 := fun x => T.SG ((Rect.unit (s := S22x1536) ![20, 1280] S1x256.size inb_S22x1536_S1x256_20_1280).emb x)

/-- What is read as `v2450`. -/
def l2450 (T : In F) : Vec F S1x256 .bf16 := fun x => T.SG ((Rect.unit (s := S22x1536) ![21, 1280] S1x256.size inb_S22x1536_S1x256_21_1280).emb x)

/-- The value `v2459`. -/
def w2459 (T : In F) : FVec F S64x256 .f32 := (k0_pay196 (w2358 T) (w2390 T) (w2392 T) (w2409 T) (w2415 T) (l2418 T) (l2427 T) (l2444 T) (l2450 T))

/-- What is read as `v2468`. -/
def l2468 (T : In F) : Vec F S128x256 .i8 := fun x => T.D ((Rect.unit (s := S384x2816) ![0, 0] S128x256.size inb_S384x2816_S128x256_0_0).emb x)

/-- What is read as `v2485`. -/
def l2485 (T : In F) : Vec F S1x256 .bf16 := fun x => T.SD ((Rect.unit (s := S6x2816) ![0, 0] S1x256.size inb_S6x2816_S1x256_0_0).emb x)

/-- What is read as `v2491`. -/
def l2491 (T : In F) : Vec F S1x256 .bf16 := fun x => T.SD ((Rect.unit (s := S6x2816) ![1, 0] S1x256.size inb_S6x2816_S1x256_1_0).emb x)

/-- The value `v2464`. -/
def w2464 (T : In F) : FVec F S64x256 .bf16 := k0_pay197 (w250 T) (w2459 T)

/-- The value `v2497`. -/
def w2497 (T : In F) : FVec F S64x256 .f32 := k0_pay198 (w992 T) (l2468 T) (l2485 T) (l2491 T)

/-- What is read as `v2500`. -/
def l2500 (T : In F) : Vec F S128x256 .i8 := fun x => T.D ((Rect.unit (s := S384x2816) ![128, 0] S128x256.size inb_S384x2816_S128x256_128_0).emb x)

/-- What is read as `v2517`. -/
def l2517 (T : In F) : Vec F S1x256 .bf16 := fun x => T.SD ((Rect.unit (s := S6x2816) ![2, 0] S1x256.size inb_S6x2816_S1x256_2_0).emb x)

/-- What is read as `v2523`. -/
def l2523 (T : In F) : Vec F S1x256 .bf16 := fun x => T.SD ((Rect.unit (s := S6x2816) ![3, 0] S1x256.size inb_S6x2816_S1x256_3_0).emb x)

/-- What is read as `v2532`. -/
def l2532 (T : In F) : Vec F S128x256 .i8 := fun x => T.D ((Rect.unit (s := S384x2816) ![256, 0] S128x256.size inb_S384x2816_S128x256_256_0).emb x)

/-- The value `v2529`. -/
def w2529 (T : In F) : FVec F S64x256 .f32 := k0_pay199 (w1728 T) (w2497 T) (l2500 T) (l2517 T) (l2523 T)

/-- The value `v2533`. -/
def w2533 (T : In F) : IVec S128x256 32 := k0_pay200 (l2532 T)

/-- The value `v2537`. -/
def w2537 (T : In F) : IVec S128x256 32 := k0_pay201 (l2532 T)

/-- What is read as `v2549`. -/
def l2549 (T : In F) : Vec F S1x256 .bf16 := fun x => T.SD ((Rect.unit (s := S6x2816) ![4, 0] S1x256.size inb_S6x2816_S1x256_4_0).emb x)

/-- What is read as `v2555`. -/
def l2555 (T : In F) : Vec F S1x256 .bf16 := fun x => T.SD ((Rect.unit (s := S6x2816) ![5, 0] S1x256.size inb_S6x2816_S1x256_5_0).emb x)

/-- What is read as `v2562`. -/
def l2562 (T : In F) : Vec F S64x256 .f32 := fun x => T.A ((Rect.unit (s := S64x2816) ![0, 0] S64x256.size inb_S64x2816_S64x256_0_0).emb x)

/-- What is read as `v2566`. -/
def l2566 (T : In F) : Vec F S64x256 .f32 := fun x => T.A ((Rect.unit (s := S64x2816) ![0, 0] S64x256.size inb_S64x2816_S64x256_0_0).emb x)

/-- Block 0 of the new accumulator. -/
def b0 (T : In F) : FVec F S64x256 .f32 := k0_pay202 (w256 T) (w2464 T) (w2529 T) (w2533 T) (w2537 T) (l2549 T) (l2555 T) (l2562 T)

/-- What is read as `v2572`. -/
def l2572 (T : In F) : Vec F S128x256 .i8 := fun x => T.D ((Rect.unit (s := S384x2816) ![0, 256] S128x256.size inb_S384x2816_S128x256_0_256).emb x)

/-- The value `v2569`. -/
def w2569 (T : In F) : FVec F S64x256 .f32 := k0_pay203 (F := F)

/-- The value `v2573`. -/
def w2573 (T : In F) : IVec S128x256 32 := k0_pay204 (l2572 T)

/-- The value `v2575`. -/
def w2575 (T : In F) : IVec S128x256 32 := k0_pay205 (l2572 T)

/-- What is read as `v2589`. -/
def l2589 (T : In F) : Vec F S1x256 .bf16 := fun x => T.SD ((Rect.unit (s := S6x2816) ![0, 256] S1x256.size inb_S6x2816_S1x256_0_256).emb x)

/-- What is read as `v2595`. -/
def l2595 (T : In F) : Vec F S1x256 .bf16 := fun x => T.SD ((Rect.unit (s := S6x2816) ![1, 256] S1x256.size inb_S6x2816_S1x256_1_256).emb x)

/-- What is read as `v2604`. -/
def l2604 (T : In F) : Vec F S128x256 .i8 := fun x => T.D ((Rect.unit (s := S384x2816) ![128, 256] S128x256.size inb_S384x2816_S128x256_128_256).emb x)

/-- The value `v2601`. -/
def w2601 (T : In F) : FVec F S64x256 .f32 := k0_pay206 (w992 T) (w2569 T) (w2573 T) (w2575 T) (l2589 T) (l2595 T)

/-- The value `v2614`. -/
def w2614 (T : In F) : IVec S128x1x256 32 := k0_pay208 (l2604 T)

/-- The value `v2615`. -/
def w2615 (T : In F) : IVec S128x1x256 32 := k0_pay209 (l2604 T)

/-- What is read as `v2621`. -/
def l2621 (T : In F) : Vec F S1x256 .bf16 := fun x => T.SD ((Rect.unit (s := S6x2816) ![2, 256] S1x256.size inb_S6x2816_S1x256_2_256).emb x)

/-- What is read as `v2627`. -/
def l2627 (T : In F) : Vec F S1x256 .bf16 := fun x => T.SD ((Rect.unit (s := S6x2816) ![3, 256] S1x256.size inb_S6x2816_S1x256_3_256).emb x)

/-- What is read as `v2636`. -/
def l2636 (T : In F) : Vec F S128x256 .i8 := fun x => T.D ((Rect.unit (s := S384x2816) ![256, 256] S128x256.size inb_S384x2816_S128x256_256_256).emb x)

/-- What is read as `v2653`. -/
def l2653 (T : In F) : Vec F S1x256 .bf16 := fun x => T.SD ((Rect.unit (s := S6x2816) ![4, 256] S1x256.size inb_S6x2816_S1x256_4_256).emb x)

/-- The value `v2633`. -/
def w2633 (T : In F) : FVec F S64x256 .f32 := k0_pay210 (w1728 T) (w2601 T) (w2614 T) (w2615 T) (l2621 T) (l2627 T)

/-- The value `v2650`. -/
def w2650 (T : In F) : FVec F S256x256 .bf16 := k0_pay211 (l2636 T)

/-- The value `v2653`. -/
def w2653 (T : In F) : Vec F S1x256 .bf16 := (l2653 T)

/-- The value `v2654`. -/
def w2654 (T : In F) : FVec F S128x256 .bf16 := k0_pay212 (l2636 T)

/-- What is read as `v2659`. -/
def l2659 (T : In F) : Vec F S1x256 .bf16 := fun x => T.SD ((Rect.unit (s := S6x2816) ![5, 256] S1x256.size inb_S6x2816_S1x256_5_256).emb x)

/-- What is read as `v2666`. -/
def l2666 (T : In F) : Vec F S64x256 .f32 := fun x => T.A ((Rect.unit (s := S64x2816) ![0, 256] S64x256.size inb_S64x2816_S64x256_0_256).emb x)

/-- What is read as `v2670`. -/
def l2670 (T : In F) : Vec F S64x256 .f32 := fun x => T.A ((Rect.unit (s := S64x2816) ![0, 256] S64x256.size inb_S64x2816_S64x256_0_256).emb x)

/-- Block 1 of the new accumulator. -/
def b1 (T : In F) : FVec F S64x256 .f32 := k0_pay213 (w256 T) (w2464 T) (w2633 T) (w2650 T) (w2653 T) (w2654 T) (l2659 T) (l2666 T)

/-- What is read as `v2676`. -/
def l2676 (T : In F) : Vec F S128x256 .i8 := fun x => T.D ((Rect.unit (s := S384x2816) ![0, 512] S128x256.size inb_S384x2816_S128x256_0_512).emb x)

/-- The value `v2673`. -/
def w2673 (T : In F) : FVec F S64x256 .f32 := k0_pay214 (F := F)

/-- The value `v2690`. -/
def w2690 (T : In F) : FVec F S256x256 .bf16 := k0_pay215 (l2676 T)

/-- What is read as `v2693`. -/
def l2693 (T : In F) : Vec F S1x256 .bf16 := fun x => T.SD ((Rect.unit (s := S6x2816) ![0, 512] S1x256.size inb_S6x2816_S1x256_0_512).emb x)

/-- What is read as `v2699`. -/
def l2699 (T : In F) : Vec F S1x256 .bf16 := fun x => T.SD ((Rect.unit (s := S6x2816) ![1, 512] S1x256.size inb_S6x2816_S1x256_1_512).emb x)

/-- What is read as `v2708`. -/
def l2708 (T : In F) : Vec F S128x256 .i8 := fun x => T.D ((Rect.unit (s := S384x2816) ![128, 512] S128x256.size inb_S384x2816_S128x256_128_512).emb x)

/-- What is read as `v2725`. -/
def l2725 (T : In F) : Vec F S1x256 .bf16 := fun x => T.SD ((Rect.unit (s := S6x2816) ![2, 512] S1x256.size inb_S6x2816_S1x256_2_512).emb x)

/-- The value `v2705`. -/
def w2705 (T : In F) : FVec F S64x256 .f32 := k0_pay216 (w992 T) (w2673 T) (w2690 T) (l2693 T) (l2699 T)

/-- The value `v2722`. -/
def w2722 (T : In F) : FVec F S256x256 .bf16 := k0_pay217 (l2708 T)

/-- The value `v2728`. -/
def w2728 (T : In F) : FVec F S128x256 .bf16 := k0_pay218 (l2708 T) (l2725 T)

/-- What is read as `v2731`. -/
def l2731 (T : In F) : Vec F S1x256 .bf16 := fun x => T.SD ((Rect.unit (s := S6x2816) ![3, 512] S1x256.size inb_S6x2816_S1x256_3_512).emb x)

/-- What is read as `v2740`. -/
def l2740 (T : In F) : Vec F S128x256 .i8 := fun x => T.D ((Rect.unit (s := S384x2816) ![256, 512] S128x256.size inb_S384x2816_S128x256_256_512).emb x)

/-- What is read as `v2757`. -/
def l2757 (T : In F) : Vec F S1x256 .bf16 := fun x => T.SD ((Rect.unit (s := S6x2816) ![4, 512] S1x256.size inb_S6x2816_S1x256_4_512).emb x)

/-- What is read as `v2763`. -/
def l2763 (T : In F) : Vec F S1x256 .bf16 := fun x => T.SD ((Rect.unit (s := S6x2816) ![5, 512] S1x256.size inb_S6x2816_S1x256_5_512).emb x)

/-- What is read as `v2770`. -/
def l2770 (T : In F) : Vec F S64x256 .f32 := fun x => T.A ((Rect.unit (s := S64x2816) ![0, 512] S64x256.size inb_S64x2816_S64x256_0_512).emb x)

/-- The value `v2769`. -/
def w2769 (T : In F) : FVec F S64x256 .f32 := k0_pay219 (w1728 T) (w2464 T) (w2705 T) (w2722 T) (w2728 T) (l2731 T) (l2740 T) (l2757 T) (l2763 T)

/-- The value `v2770`. -/
def w2770 (T : In F) : Vec F S64x256 .f32 := (l2770 T)

/-- What is read as `v2774`. -/
def l2774 (T : In F) : Vec F S64x256 .f32 := fun x => T.A ((Rect.unit (s := S64x2816) ![0, 512] S64x256.size inb_S64x2816_S64x256_0_512).emb x)

/-- Block 2 of the new accumulator. -/
def b2 (T : In F) : FVec F S64x256 .f32 := k0_pay220 (w256 T) (w2769 T) (w2770 T)

/-- What is read as `v2780`. -/
def l2780 (T : In F) : Vec F S128x256 .i8 := fun x => T.D ((Rect.unit (s := S384x2816) ![0, 768] S128x256.size inb_S384x2816_S128x256_0_768).emb x)

/-- What is read as `v2797`. -/
def l2797 (T : In F) : Vec F S1x256 .bf16 := fun x => T.SD ((Rect.unit (s := S6x2816) ![0, 768] S1x256.size inb_S6x2816_S1x256_0_768).emb x)

/-- What is read as `v2803`. -/
def l2803 (T : In F) : Vec F S1x256 .bf16 := fun x => T.SD ((Rect.unit (s := S6x2816) ![1, 768] S1x256.size inb_S6x2816_S1x256_1_768).emb x)

/-- The value `v2809`. -/
def w2809 (T : In F) : FVec F S64x256 .f32 := (k0_pay221 (w992 T) (l2780 T) (l2797 T) (l2803 T))

/-- What is read as `v2812`. -/
def l2812 (T : In F) : Vec F S128x256 .i8 := fun x => T.D ((Rect.unit (s := S384x2816) ![128, 768] S128x256.size inb_S384x2816_S128x256_128_768).emb x)

/-- What is read as `v2829`. -/
def l2829 (T : In F) : Vec F S1x256 .bf16 := fun x => T.SD ((Rect.unit (s := S6x2816) ![2, 768] S1x256.size inb_S6x2816_S1x256_2_768).emb x)

/-- What is read as `v2835`. -/
def l2835 (T : In F) : Vec F S1x256 .bf16 := fun x => T.SD ((Rect.unit (s := S6x2816) ![3, 768] S1x256.size inb_S6x2816_S1x256_3_768).emb x)

/-- What is read as `v2844`. -/
def l2844 (T : In F) : Vec F S128x256 .i8 := fun x => T.D ((Rect.unit (s := S384x2816) ![256, 768] S128x256.size inb_S384x2816_S128x256_256_768).emb x)

/-- The value `v2841`. -/
def w2841 (T : In F) : FVec F S64x256 .f32 := k0_pay222 (w1728 T) (w2809 T) (l2812 T) (l2829 T) (l2835 T)

/-- The value `v2845`. -/
def w2845 (T : In F) : IVec S128x256 32 := k0_pay223 (l2844 T)

/-- The value `v2847`. -/
def w2847 (T : In F) : IVec S128x256 32 := k0_pay224 (l2844 T)

/-- What is read as `v2861`. -/
def l2861 (T : In F) : Vec F S1x256 .bf16 := fun x => T.SD ((Rect.unit (s := S6x2816) ![4, 768] S1x256.size inb_S6x2816_S1x256_4_768).emb x)

/-- What is read as `v2867`. -/
def l2867 (T : In F) : Vec F S1x256 .bf16 := fun x => T.SD ((Rect.unit (s := S6x2816) ![5, 768] S1x256.size inb_S6x2816_S1x256_5_768).emb x)

/-- What is read as `v2874`. -/
def l2874 (T : In F) : Vec F S64x256 .f32 := fun x => T.A ((Rect.unit (s := S64x2816) ![0, 768] S64x256.size inb_S64x2816_S64x256_0_768).emb x)

/-- What is read as `v2878`. -/
def l2878 (T : In F) : Vec F S64x256 .f32 := fun x => T.A ((Rect.unit (s := S64x2816) ![0, 768] S64x256.size inb_S64x2816_S64x256_0_768).emb x)

/-- Block 3 of the new accumulator. -/
def b3 (T : In F) : FVec F S64x256 .f32 := k0_pay225 (w256 T) (w2464 T) (w2841 T) (w2845 T) (w2847 T) (l2861 T) (l2867 T) (l2874 T)

/-- What is read as `v2884`. -/
def l2884 (T : In F) : Vec F S128x256 .i8 := fun x => T.D ((Rect.unit (s := S384x2816) ![0, 1024] S128x256.size inb_S384x2816_S128x256_0_1024).emb x)

/-- The value `v2881`. -/
def w2881 (T : In F) : FVec F S64x256 .f32 := k0_pay226 (F := F)

/-- The value `v2885`. -/
def w2885 (T : In F) : IVec S128x256 32 := k0_pay227 (l2884 T)

/-- What is read as `v2901`. -/
def l2901 (T : In F) : Vec F S1x256 .bf16 := fun x => T.SD ((Rect.unit (s := S6x2816) ![0, 1024] S1x256.size inb_S6x2816_S1x256_0_1024).emb x)

/-- What is read as `v2907`. -/
def l2907 (T : In F) : Vec F S1x256 .bf16 := fun x => T.SD ((Rect.unit (s := S6x2816) ![1, 1024] S1x256.size inb_S6x2816_S1x256_1_1024).emb x)

/-- What is read as `v2916`. -/
def l2916 (T : In F) : Vec F S128x256 .i8 := fun x => T.D ((Rect.unit (s := S384x2816) ![128, 1024] S128x256.size inb_S384x2816_S128x256_128_1024).emb x)

/-- The value `v2913`. -/
def w2913 (T : In F) : FVec F S64x256 .f32 := k0_pay228 (w992 T) (w2881 T) (w2885 T) (l2901 T) (l2907 T)

/-- The value `v2921`. -/
def w2921 (T : In F) : IVec S128x256 32 := k0_pay230 (l2916 T)

/-- The value `v2923`. -/
def w2923 (T : In F) : IVec S128x256 32 := k0_pay231 (l2916 T)

/-- The value `v2924`. -/
def w2924 (T : In F) : IVec S128x256 32 := k0_pay232

/-- What is read as `v2933`. -/
def l2933 (T : In F) : Vec F S1x256 .bf16 := fun x => T.SD ((Rect.unit (s := S6x2816) ![2, 1024] S1x256.size inb_S6x2816_S1x256_2_1024).emb x)

/-- What is read as `v2939`. -/
def l2939 (T : In F) : Vec F S1x256 .bf16 := fun x => T.SD ((Rect.unit (s := S6x2816) ![3, 1024] S1x256.size inb_S6x2816_S1x256_3_1024).emb x)

/-- What is read as `v2948`. -/
def l2948 (T : In F) : Vec F S128x256 .i8 := fun x => T.D ((Rect.unit (s := S384x2816) ![256, 1024] S128x256.size inb_S384x2816_S128x256_256_1024).emb x)

/-- The value `v2945`. -/
def w2945 (T : In F) : FVec F S64x256 .f32 := k0_pay233 (w1728 T) (w2913 T) (w2921 T) (w2923 T) (w2924 T) (l2933 T) (l2939 T)

/-- The value `v2962`. -/
def w2962 (T : In F) : FVec F S256x256 .bf16 := k0_pay234 (l2948 T)

/-- What is read as `v2965`. -/
def l2965 (T : In F) : Vec F S1x256 .bf16 := fun x => T.SD ((Rect.unit (s := S6x2816) ![4, 1024] S1x256.size inb_S6x2816_S1x256_4_1024).emb x)

/-- What is read as `v2971`. -/
def l2971 (T : In F) : Vec F S1x256 .bf16 := fun x => T.SD ((Rect.unit (s := S6x2816) ![5, 1024] S1x256.size inb_S6x2816_S1x256_5_1024).emb x)

/-- What is read as `v2978`. -/
def l2978 (T : In F) : Vec F S64x256 .f32 := fun x => T.A ((Rect.unit (s := S64x2816) ![0, 1024] S64x256.size inb_S64x2816_S64x256_0_1024).emb x)

/-- What is read as `v2982`. -/
def l2982 (T : In F) : Vec F S64x256 .f32 := fun x => T.A ((Rect.unit (s := S64x2816) ![0, 1024] S64x256.size inb_S64x2816_S64x256_0_1024).emb x)

/-- Block 4 of the new accumulator. -/
def b4 (T : In F) : FVec F S64x256 .f32 := k0_pay235 (w256 T) (w2464 T) (w2945 T) (w2962 T) (l2965 T) (l2971 T) (l2978 T)

/-- What is read as `v2988`. -/
def l2988 (T : In F) : Vec F S128x256 .i8 := fun x => T.D ((Rect.unit (s := S384x2816) ![0, 1280] S128x256.size inb_S384x2816_S128x256_0_1280).emb x)

/-- The value `v2985`. -/
def w2985 (T : In F) : FVec F S64x256 .f32 := k0_pay236 (F := F)

/-- The value `v3002`. -/
def w3002 (T : In F) : FVec F S256x256 .bf16 := k0_pay237 (l2988 T)

/-- What is read as `v3005`. -/
def l3005 (T : In F) : Vec F S1x256 .bf16 := fun x => T.SD ((Rect.unit (s := S6x2816) ![0, 1280] S1x256.size inb_S6x2816_S1x256_0_1280).emb x)

/-- What is read as `v3011`. -/
def l3011 (T : In F) : Vec F S1x256 .bf16 := fun x => T.SD ((Rect.unit (s := S6x2816) ![1, 1280] S1x256.size inb_S6x2816_S1x256_1_1280).emb x)

/-- What is read as `v3020`. -/
def l3020 (T : In F) : Vec F S128x256 .i8 := fun x => T.D ((Rect.unit (s := S384x2816) ![128, 1280] S128x256.size inb_S384x2816_S128x256_128_1280).emb x)

/-- What is read as `v3037`. -/
def l3037 (T : In F) : Vec F S1x256 .bf16 := fun x => T.SD ((Rect.unit (s := S6x2816) ![2, 1280] S1x256.size inb_S6x2816_S1x256_2_1280).emb x)

/-- The value `v3017`. -/
def w3017 (T : In F) : FVec F S64x256 .f32 := k0_pay238 (w992 T) (w2985 T) (w3002 T) (l3005 T) (l3011 T)

/-- The value `v3034`. -/
def w3034 (T : In F) : FVec F S256x256 .bf16 := k0_pay239 (l3020 T)

/-- The value `v3040`. -/
def w3040 (T : In F) : FVec F S128x256 .bf16 := k0_pay240 (l3020 T) (l3037 T)

/-- What is read as `v3043`. -/
def l3043 (T : In F) : Vec F S1x256 .bf16 := fun x => T.SD ((Rect.unit (s := S6x2816) ![3, 1280] S1x256.size inb_S6x2816_S1x256_3_1280).emb x)

/-- What is read as `v3052`. -/
def l3052 (T : In F) : Vec F S128x256 .i8 := fun x => T.D ((Rect.unit (s := S384x2816) ![256, 1280] S128x256.size inb_S384x2816_S128x256_256_1280).emb x)

/-- What is read as `v3069`. -/
def l3069 (T : In F) : Vec F S1x256 .bf16 := fun x => T.SD ((Rect.unit (s := S6x2816) ![4, 1280] S1x256.size inb_S6x2816_S1x256_4_1280).emb x)

/-- What is read as `v3075`. -/
def l3075 (T : In F) : Vec F S1x256 .bf16 := fun x => T.SD ((Rect.unit (s := S6x2816) ![5, 1280] S1x256.size inb_S6x2816_S1x256_5_1280).emb x)

/-- The value `v3081`. -/
def w3081 (T : In F) : FVec F S64x256 .f32 := (k0_pay241 (w1728 T) (w2464 T) (w3017 T) (w3034 T) (w3040 T) (l3043 T) (l3052 T) (l3069 T) (l3075 T))

/-- What is read as `v3082`. -/
def l3082 (T : In F) : Vec F S64x256 .f32 := fun x => T.A ((Rect.unit (s := S64x2816) ![0, 1280] S64x256.size inb_S64x2816_S64x256_0_1280).emb x)

/-- What is read as `v3086`. -/
def l3086 (T : In F) : Vec F S64x256 .f32 := fun x => T.A ((Rect.unit (s := S64x2816) ![0, 1280] S64x256.size inb_S64x2816_S64x256_0_1280).emb x)

/-- Block 5 of the new accumulator. -/
def b5 (T : In F) : FVec F S64x256 .f32 := k0_pay242 (w256 T) (w3081 T) (l3082 T)

/-- What is read as `v3092`. -/
def l3092 (T : In F) : Vec F S128x256 .i8 := fun x => T.D ((Rect.unit (s := S384x2816) ![0, 1536] S128x256.size inb_S384x2816_S128x256_0_1536).emb x)

/-- What is read as `v3109`. -/
def l3109 (T : In F) : Vec F S1x256 .bf16 := fun x => T.SD ((Rect.unit (s := S6x2816) ![0, 1536] S1x256.size inb_S6x2816_S1x256_0_1536).emb x)

/-- What is read as `v3115`. -/
def l3115 (T : In F) : Vec F S1x256 .bf16 := fun x => T.SD ((Rect.unit (s := S6x2816) ![1, 1536] S1x256.size inb_S6x2816_S1x256_1_1536).emb x)

/-- The value `v3089`. -/
def w3089 (T : In F) : FVec F S64x256 .f32 := k0_pay243 (F := F)

/-- The value `v3119`. -/
def w3119 (T : In F) : FVec F S256x256 .bf16 := k0_pay244 (l3092 T) (l3109 T) (l3115 T)

/-- What is read as `v3124`. -/
def l3124 (T : In F) : Vec F S128x256 .i8 := fun x => T.D ((Rect.unit (s := S384x2816) ![128, 1536] S128x256.size inb_S384x2816_S128x256_128_1536).emb x)

/-- What is read as `v3141`. -/
def l3141 (T : In F) : Vec F S1x256 .bf16 := fun x => T.SD ((Rect.unit (s := S6x2816) ![2, 1536] S1x256.size inb_S6x2816_S1x256_2_1536).emb x)

/-- What is read as `v3147`. -/
def l3147 (T : In F) : Vec F S1x256 .bf16 := fun x => T.SD ((Rect.unit (s := S6x2816) ![3, 1536] S1x256.size inb_S6x2816_S1x256_3_1536).emb x)

/-- What is read as `v3156`. -/
def l3156 (T : In F) : Vec F S128x256 .i8 := fun x => T.D ((Rect.unit (s := S384x2816) ![256, 1536] S128x256.size inb_S384x2816_S128x256_256_1536).emb x)

/-- The value `v3153`. -/
def w3153 (T : In F) : FVec F S64x256 .f32 := k0_pay245 (w992 T) (w1728 T) (w3089 T) (w3119 T) (l3124 T) (l3141 T) (l3147 T)

/-- The value `v3157`. -/
def w3157 (T : In F) : IVec S128x256 32 := k0_pay246 (l3156 T)

/-- What is read as `v3173`. -/
def l3173 (T : In F) : Vec F S1x256 .bf16 := fun x => T.SD ((Rect.unit (s := S6x2816) ![4, 1536] S1x256.size inb_S6x2816_S1x256_4_1536).emb x)

/-- What is read as `v3179`. -/
def l3179 (T : In F) : Vec F S1x256 .bf16 := fun x => T.SD ((Rect.unit (s := S6x2816) ![5, 1536] S1x256.size inb_S6x2816_S1x256_5_1536).emb x)

/-- What is read as `v3186`. -/
def l3186 (T : In F) : Vec F S64x256 .f32 := fun x => T.A ((Rect.unit (s := S64x2816) ![0, 1536] S64x256.size inb_S64x2816_S64x256_0_1536).emb x)

/-- What is read as `v3190`. -/
def l3190 (T : In F) : Vec F S64x256 .f32 := fun x => T.A ((Rect.unit (s := S64x2816) ![0, 1536] S64x256.size inb_S64x2816_S64x256_0_1536).emb x)

/-- Block 6 of the new accumulator. -/
def b6 (T : In F) : FVec F S64x256 .f32 := k0_pay247 (w256 T) (w2464 T) (w3153 T) (w3157 T) (l3173 T) (l3179 T) (l3186 T)

/-- The value `v3193`. -/
def w3193 (T : In F) : FVec F S64x256 .f32 := (k0_pay248 (F := F))

/-- What is read as `v3196`. -/
def l3196 (T : In F) : Vec F S128x256 .i8 := fun x => T.D ((Rect.unit (s := S384x2816) ![0, 1792] S128x256.size inb_S384x2816_S128x256_0_1792).emb x)

/-- What is read as `v3213`. -/
def l3213 (T : In F) : Vec F S1x256 .bf16 := fun x => T.SD ((Rect.unit (s := S6x2816) ![0, 1792] S1x256.size inb_S6x2816_S1x256_0_1792).emb x)

/-- What is read as `v3219`. -/
def l3219 (T : In F) : Vec F S1x256 .bf16 := fun x => T.SD ((Rect.unit (s := S6x2816) ![1, 1792] S1x256.size inb_S6x2816_S1x256_1_1792).emb x)

/-- What is read as `v3228`. -/
def l3228 (T : In F) : Vec F S128x256 .i8 := fun x => T.D ((Rect.unit (s := S384x2816) ![128, 1792] S128x256.size inb_S384x2816_S128x256_128_1792).emb x)

/-- The value `v3225`. -/
def w3225 (T : In F) : FVec F S64x256 .f32 := k0_pay249 (w992 T) (w3193 T) (l3196 T) (l3213 T) (l3219 T)

/-- The value `v3229`. -/
def w3229 (T : In F) : IVec S128x256 32 := k0_pay250 (l3228 T)

/-- The value `v3233`. -/
def w3233 (T : In F) : IVec S128x256 32 := k0_pay251 (l3228 T)

/-- The value `v3234`. -/
def w3234 (T : In F) : IVec S128x256 32 := k0_pay252

/-- What is read as `v3245`. -/
def l3245 (T : In F) : Vec F S1x256 .bf16 := fun x => T.SD ((Rect.unit (s := S6x2816) ![2, 1792] S1x256.size inb_S6x2816_S1x256_2_1792).emb x)

/-- What is read as `v3251`. -/
def l3251 (T : In F) : Vec F S1x256 .bf16 := fun x => T.SD ((Rect.unit (s := S6x2816) ![3, 1792] S1x256.size inb_S6x2816_S1x256_3_1792).emb x)

/-- What is read as `v3260`. -/
def l3260 (T : In F) : Vec F S128x256 .i8 := fun x => T.D ((Rect.unit (s := S384x2816) ![256, 1792] S128x256.size inb_S384x2816_S128x256_256_1792).emb x)

/-- The value `v3257`. -/
def w3257 (T : In F) : FVec F S64x256 .f32 := k0_pay253 (w1728 T) (w3225 T) (w3229 T) (w3233 T) (w3234 T) (l3245 T) (l3251 T)

/-- The value `v3274`. -/
def w3274 (T : In F) : FVec F S256x256 .bf16 := k0_pay254 (l3260 T)

/-- What is read as `v3277`. -/
def l3277 (T : In F) : Vec F S1x256 .bf16 := fun x => T.SD ((Rect.unit (s := S6x2816) ![4, 1792] S1x256.size inb_S6x2816_S1x256_4_1792).emb x)

/-- What is read as `v3283`. -/
def l3283 (T : In F) : Vec F S1x256 .bf16 := fun x => T.SD ((Rect.unit (s := S6x2816) ![5, 1792] S1x256.size inb_S6x2816_S1x256_5_1792).emb x)

/-- What is read as `v3290`. -/
def l3290 (T : In F) : Vec F S64x256 .f32 := fun x => T.A ((Rect.unit (s := S64x2816) ![0, 1792] S64x256.size inb_S64x2816_S64x256_0_1792).emb x)

/-- What is read as `v3294`. -/
def l3294 (T : In F) : Vec F S64x256 .f32 := fun x => T.A ((Rect.unit (s := S64x2816) ![0, 1792] S64x256.size inb_S64x2816_S64x256_0_1792).emb x)

/-- Block 7 of the new accumulator. -/
def b7 (T : In F) : FVec F S64x256 .f32 := k0_pay255 (w256 T) (w2464 T) (w3257 T) (w3274 T) (l3277 T) (l3283 T) (l3290 T)

/-- What is read as `v3300`. -/
def l3300 (T : In F) : Vec F S128x256 .i8 := fun x => T.D ((Rect.unit (s := S384x2816) ![0, 2048] S128x256.size inb_S384x2816_S128x256_0_2048).emb x)

/-- The value `v3297`. -/
def w3297 (T : In F) : FVec F S64x256 .f32 := k0_pay256 (F := F)

/-- The value `v3313`. -/
def w3313 (T : In F) : IVec S256x256 32 := k0_pay257 (l3300 T)

/-- What is read as `v3317`. -/
def l3317 (T : In F) : Vec F S1x256 .bf16 := fun x => T.SD ((Rect.unit (s := S6x2816) ![0, 2048] S1x256.size inb_S6x2816_S1x256_0_2048).emb x)

/-- What is read as `v3323`. -/
def l3323 (T : In F) : Vec F S1x256 .bf16 := fun x => T.SD ((Rect.unit (s := S6x2816) ![1, 2048] S1x256.size inb_S6x2816_S1x256_1_2048).emb x)

/-- What is read as `v3332`. -/
def l3332 (T : In F) : Vec F S128x256 .i8 := fun x => T.D ((Rect.unit (s := S384x2816) ![128, 2048] S128x256.size inb_S384x2816_S128x256_128_2048).emb x)

/-- What is read as `v3349`. -/
def l3349 (T : In F) : Vec F S1x256 .bf16 := fun x => T.SD ((Rect.unit (s := S6x2816) ![2, 2048] S1x256.size inb_S6x2816_S1x256_2_2048).emb x)

/-- The value `v3329`. -/
def w3329 (T : In F) : FVec F S64x256 .f32 := k0_pay258 (w992 T) (w3297 T) (w3313 T) (l3317 T) (l3323 T)

/-- The value `v3346`. -/
def w3346 (T : In F) : FVec F S256x256 .bf16 := k0_pay259 (l3332 T)

/-- The value `v3352`. -/
def w3352 (T : In F) : FVec F S128x256 .bf16 := k0_pay260 (l3332 T) (l3349 T)

/-- What is read as `v3355`. -/
def l3355 (T : In F) : Vec F S1x256 .bf16 := fun x => T.SD ((Rect.unit (s := S6x2816) ![3, 2048] S1x256.size inb_S6x2816_S1x256_3_2048).emb x)

/-- What is read as `v3364`. -/
def l3364 (T : In F) : Vec F S128x256 .i8 := fun x => T.D ((Rect.unit (s := S384x2816) ![256, 2048] S128x256.size inb_S384x2816_S128x256_256_2048).emb x)

/-- What is read as `v3381`. -/
def l3381 (T : In F) : Vec F S1x256 .bf16 := fun x => T.SD ((Rect.unit (s := S6x2816) ![4, 2048] S1x256.size inb_S6x2816_S1x256_4_2048).emb x)

/-- What is read as `v3387`. -/
def l3387 (T : In F) : Vec F S1x256 .bf16 := fun x => T.SD ((Rect.unit (s := S6x2816) ![5, 2048] S1x256.size inb_S6x2816_S1x256_5_2048).emb x)

/-- The value `v3361`. -/
def w3361 (T : In F) : FVec F S64x256 .f32 := k0_pay261 (w1728 T) (w3329 T) (w3346 T) (w3352 T) (l3355 T)

/-- The value `v3391`. -/
def w3391 (T : In F) : FVec F S256x256 .bf16 := k0_pay262 (l3364 T) (l3381 T) (l3387 T)

/-- What is read as `v3394`. -/
def l3394 (T : In F) : Vec F S64x256 .f32 := fun x => T.A ((Rect.unit (s := S64x2816) ![0, 2048] S64x256.size inb_S64x2816_S64x256_0_2048).emb x)

/-- What is read as `v3398`. -/
def l3398 (T : In F) : Vec F S64x256 .f32 := fun x => T.A ((Rect.unit (s := S64x2816) ![0, 2048] S64x256.size inb_S64x2816_S64x256_0_2048).emb x)

/-- Block 8 of the new accumulator. -/
def b8 (T : In F) : FVec F S64x256 .f32 := k0_pay263 (w256 T) (w2464 T) (w3361 T) (w3391 T) (l3394 T)

/-- What is read as `v3404`. -/
def l3404 (T : In F) : Vec F S128x256 .i8 := fun x => T.D ((Rect.unit (s := S384x2816) ![0, 2304] S128x256.size inb_S384x2816_S128x256_0_2304).emb x)

/-- What is read as `v3421`. -/
def l3421 (T : In F) : Vec F S1x256 .bf16 := fun x => T.SD ((Rect.unit (s := S6x2816) ![0, 2304] S1x256.size inb_S6x2816_S1x256_0_2304).emb x)

/-- What is read as `v3427`. -/
def l3427 (T : In F) : Vec F S1x256 .bf16 := fun x => T.SD ((Rect.unit (s := S6x2816) ![1, 2304] S1x256.size inb_S6x2816_S1x256_1_2304).emb x)

/-- The value `v3401`. -/
def w3401 (T : In F) : FVec F S64x256 .f32 := k0_pay264 (F := F)

/-- The value `v3424`. -/
def w3424 (T : In F) : FVec F S128x256 .bf16 := k0_pay266 (l3404 T) (l3421 T)

/-- The value `v3427`. -/
def w3427 (T : In F) : Vec F S1x256 .bf16 := (l3427 T)

/-- The value `v3428`. -/
def w3428 (T : In F) : FVec F S128x256 .bf16 := k0_pay267 (l3404 T)

/-- What is read as `v3436`. -/
def l3436 (T : In F) : Vec F S128x256 .i8 := fun x => T.D ((Rect.unit (s := S384x2816) ![128, 2304] S128x256.size inb_S384x2816_S128x256_128_2304).emb x)

/-- What is read as `v3453`. -/
def l3453 (T : In F) : Vec F S1x256 .bf16 := fun x => T.SD ((Rect.unit (s := S6x2816) ![2, 2304] S1x256.size inb_S6x2816_S1x256_2_2304).emb x)

/-- What is read as `v3459`. -/
def l3459 (T : In F) : Vec F S1x256 .bf16 := fun x => T.SD ((Rect.unit (s := S6x2816) ![3, 2304] S1x256.size inb_S6x2816_S1x256_3_2304).emb x)

/-- The value `v3465`. -/
def w3465 (T : In F) : FVec F S64x256 .f32 := (k0_pay268 (w992 T) (w1728 T) (w3401 T) (w3424 T) (w3427 T) (w3428 T) (l3436 T) (l3453 T) (l3459 T))

/-- What is read as `v3468`. -/
def l3468 (T : In F) : Vec F S128x256 .i8 := fun x => T.D ((Rect.unit (s := S384x2816) ![256, 2304] S128x256.size inb_S384x2816_S128x256_256_2304).emb x)

/-- What is read as `v3485`. -/
def l3485 (T : In F) : Vec F S1x256 .bf16 := fun x => T.SD ((Rect.unit (s := S6x2816) ![4, 2304] S1x256.size inb_S6x2816_S1x256_4_2304).emb x)

/-- What is read as `v3491`. -/
def l3491 (T : In F) : Vec F S1x256 .bf16 := fun x => T.SD ((Rect.unit (s := S6x2816) ![5, 2304] S1x256.size inb_S6x2816_S1x256_5_2304).emb x)

/-- What is read as `v3498`. -/
def l3498 (T : In F) : Vec F S64x256 .f32 := fun x => T.A ((Rect.unit (s := S64x2816) ![0, 2304] S64x256.size inb_S64x2816_S64x256_0_2304).emb x)

/-- What is read as `v3502`. -/
def l3502 (T : In F) : Vec F S64x256 .f32 := fun x => T.A ((Rect.unit (s := S64x2816) ![0, 2304] S64x256.size inb_S64x2816_S64x256_0_2304).emb x)

/-- Block 9 of the new accumulator. -/
def b9 (T : In F) : FVec F S64x256 .f32 := k0_pay269 (w256 T) (w2464 T) (w3465 T) (l3468 T) (l3485 T) (l3491 T) (l3498 T)

/-- The value `v3505`. -/
def w3505 (T : In F) : FVec F S64x256 .f32 := (k0_pay270 (F := F))

/-- What is read as `v3508`. -/
def l3508 (T : In F) : Vec F S128x256 .i8 := fun x => T.D ((Rect.unit (s := S384x2816) ![0, 2560] S128x256.size inb_S384x2816_S128x256_0_2560).emb x)

/-- What is read as `v3525`. -/
def l3525 (T : In F) : Vec F S1x256 .bf16 := fun x => T.SD ((Rect.unit (s := S6x2816) ![0, 2560] S1x256.size inb_S6x2816_S1x256_0_2560).emb x)

/-- What is read as `v3531`. -/
def l3531 (T : In F) : Vec F S1x256 .bf16 := fun x => T.SD ((Rect.unit (s := S6x2816) ![1, 2560] S1x256.size inb_S6x2816_S1x256_1_2560).emb x)

/-- What is read as `v3540`. -/
def l3540 (T : In F) : Vec F S128x256 .i8 := fun x => T.D ((Rect.unit (s := S384x2816) ![128, 2560] S128x256.size inb_S384x2816_S128x256_128_2560).emb x)

/-- The value `v3537`. -/
def w3537 (T : In F) : FVec F S64x256 .f32 := k0_pay271 (w992 T) (w3505 T) (l3508 T) (l3525 T) (l3531 T)

/-- The value `v3541`. -/
def w3541 (T : In F) : IVec S128x256 32 := k0_pay272 (l3540 T)

/-- The value `v3543`. -/
def w3543 (T : In F) : IVec S128x256 32 := k0_pay273 (l3540 T)

/-- The value `v3544`. -/
def w3544 (T : In F) : IVec S128x256 32 := k0_pay274

/-- What is read as `v3557`. -/
def l3557 (T : In F) : Vec F S1x256 .bf16 := fun x => T.SD ((Rect.unit (s := S6x2816) ![2, 2560] S1x256.size inb_S6x2816_S1x256_2_2560).emb x)

/-- What is read as `v3563`. -/
def l3563 (T : In F) : Vec F S1x256 .bf16 := fun x => T.SD ((Rect.unit (s := S6x2816) ![3, 2560] S1x256.size inb_S6x2816_S1x256_3_2560).emb x)

/-- What is read as `v3572`. -/
def l3572 (T : In F) : Vec F S128x256 .i8 := fun x => T.D ((Rect.unit (s := S384x2816) ![256, 2560] S128x256.size inb_S384x2816_S128x256_256_2560).emb x)

/-- The value `v3569`. -/
def w3569 (T : In F) : FVec F S64x256 .f32 := k0_pay275 (w1728 T) (w3537 T) (w3541 T) (w3543 T) (w3544 T) (l3557 T) (l3563 T)

/-- The value `v3585`. -/
def w3585 (T : In F) : IVec S256x256 32 := k0_pay276 (l3572 T)

/-- What is read as `v3589`. -/
def l3589 (T : In F) : Vec F S1x256 .bf16 := fun x => T.SD ((Rect.unit (s := S6x2816) ![4, 2560] S1x256.size inb_S6x2816_S1x256_4_2560).emb x)

/-- What is read as `v3595`. -/
def l3595 (T : In F) : Vec F S1x256 .bf16 := fun x => T.SD ((Rect.unit (s := S6x2816) ![5, 2560] S1x256.size inb_S6x2816_S1x256_5_2560).emb x)

/-- What is read as `v3602`. -/
def l3602 (T : In F) : Vec F S64x256 .f32 := fun x => T.A ((Rect.unit (s := S64x2816) ![0, 2560] S64x256.size inb_S64x2816_S64x256_0_2560).emb x)

/-- The value `v3605`. -/
def w3605 (T : In F) : FVec F S64x256 .f32 := (k0_pay277 (w256 T) (w2464 T) (w3569 T) (w3585 T) (l3589 T) (l3595 T) (l3602 T))

/-- Block 10 of the new accumulator. -/
def b10 (T : In F) : FVec F S64x256 .f32 := k0_pay2 (w3605 T)

/-- The blocks of the new accumulator. -/
def blk (T : In F) : ℕ → FVec F S64x256 .f32
  | 0 => b0 T
  | 1 => b1 T
  | 2 => b2 T
  | 3 => b3 T
  | 4 => b4 T
  | 5 => b5 T
  | 6 => b6 T
  | 7 => b7 T
  | 8 => b8 T
  | 9 => b9 T
  | _ => b10 T

/-- The accumulator once its first `n` blocks are new. -/
def accT (T : In F) (n : ℕ) : S64x2816.Idx → Elt F .f32 := fun i =>
  if (i 1).val < 256 * n then
    blk T ((i 1).val / 256) (fun a => match a with
      | 0 => ⟨(i 0).val, (i 0).isLt⟩
      | 1 => ⟨(i 1).val % 256, Nat.mod_lt _ (by decide)⟩)
  else T.A i

end Cert.Kernel.Moe

end
-- ==== Proof.Turn0.lean ====
/-
  What one expert's turn reads and how the accumulator changes.
-/
module

public import proofs.«01_k».proof.Proof.Base
public import proofs.«01_k».proof.Proof.Gen.Kernel.Skeleton
public import proofs.«01_k».proof.Proof.Values

@[expose] public section

set_option maxRecDepth 16384

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {v66 v70 v74 v78 v82 v86 v90 v94 v98 v102 v106 v110 v114 v118 v122 v126 v130 v134 v138 v142 v146 v150 v154 v158 v162 v166 v170 v174 v178 v182 v186 v190 : Elt F .i32} {k0_hw43 : k0_chk43 v66 v70 v74 v78 v82 v86 v90 v94 v98 v102 v106 v110 v114 v118 v122 v126 v130 v134 v138 v142 v146 v150 v154 v158 v162 v166 v170 v174 v178 v182 v186 v190} {k0_t2 : Fin (k0_t2_loop v66 v70 v74 v78 v82 v86 v90 v94 v98 v102 v106 v110 v114 v118 v122 v126 v130 v134 v138 v142 v146 v150 v154 v158 v162 v166 v170 v174 v178 v182 v186 v190).trips}
variable {T : In F} {R : sProp (MT nD τ sig Unit (Elt F) ℕ (UU sig nD τ) ℕ)}

/-- From `R`, which stays, every load of the turn's operands reads the tensor it stands for. -/
structure Lds (c : Dev nD) (arg0 : Memref sig .tc .smem S64x8 .i32) (harg0 : arg0.IsWhole) (arg1 : Memref sig .tc .vmem S64x8 .i32) (harg1 : arg1.IsWhole) (arg2 : Memref sig .tc .vmem S64x8 .f32) (harg2 : arg2.IsWhole) (arg3 : Memref sig .tc .vmem S64x2816 .bf16) (harg3 : arg3.IsWhole) (arg4 : Memref sig .tc .hbm S32x1408x1536 .i8) (harg4 : arg4.IsWhole) (arg5 : Memref sig .tc .hbm S32x22x1536 .bf16) (harg5 : arg5.IsWhole) (arg6 : Memref sig .tc .hbm S32x384x2816 .i8) (harg6 : arg6.IsWhole) (arg7 : Memref sig .tc .hbm S32x6x2816 .bf16) (harg7 : arg7.IsWhole) (arg8 : Memref sig .tc .vmem S64x2816 .bf16) (harg8 : arg8.IsWhole) (arg9 : Memref sig .tc .vmem S3x1408x1536 .i8) (harg9 : arg9.IsWhole) (arg10 : Memref sig .tc .vmem S3x22x1536 .bf16) (harg10 : arg10.IsWhole) (arg11 : Memref sig .tc .vmem S3x384x2816 .i8) (harg11 : arg11.IsWhole) (arg12 : Memref sig .tc .vmem S3x6x2816 .bf16) (harg12 : arg12.IsWhole) (arg13 : Memref sig .tc .vmem S64x2816 .f32) (harg13 : arg13.IsWhole) (arg14 : Memref sig .tc .smem S65 .i32) (harg14 : arg14.IsWhole) (arg15 : DmaSems sig S4x3) (v66 v70 v74 v78 v82 v86 v90 v94 v98 v102 v106 v110 v114 v118 v122 v126 v130 v134 v138 v142 v146 v150 v154 v158 v162 v166 v170 v174 v178 v182 v186 v190 : Elt F .i32) (k0_hw43 : k0_chk43 v66 v70 v74 v78 v82 v86 v90 v94 v98 v102 v106 v110 v114 v118 v122 v126 v130 v134 v138 v142 v146 v150 v154 v158 v162 v166 v170 v174 v178 v182 v186 v190) (k0_t2 : Fin (k0_t2_loop v66 v70 v74 v78 v82 v86 v90 v94 v98 v102 v106 v110 v114 v118 v122 v126 v130 v134 v138 v142 v146 v150 v154 v158 v162 v166 v170 v174 v178 v182 v186 v190).trips)
    (T : In F) (R : sProp 𝕄) : Prop where
  /-- the routing -/
  I : Rd (defs₀ (F := F)) Variants.none c none R arg1 T.I
  /-- the combine weights -/
  Wt : Rd (defs₀ (F := F)) Variants.none c none R arg2 T.Wt
  /-- the tokens -/
  X : Rd (defs₀ (F := F)) Variants.none c none R arg3 T.X
  /-- the gate and up weights -/
  G : Rd (defs₀ (F := F)) Variants.none c none R ((arg9.slice (Rect.unit (s := S3x1408x1536) (k0_off73 v66 v70 v74 v78 v82 v86 v90 v94 v98 v102 v106 v110 v114 v118 v122 v126 v130 v134 v138 v142 v146 v150 v154 v158 v162 v166 v170 v174 v178 v182 v186 v190 k0_t2) S1x1408x1536.size (k0_off73_inb v66 v70 v74 v78 v82 v86 v90 v94 v98 v102 v106 v110 v114 v118 v122 v126 v130 v134 v138 v142 v146 v150 v154 v158 v162 v166 v170 v174 v178 v182 v186 v190 k0_hw43 k0_t2)) (fun _ => rfl)).squeeze S1408x1536 squeezes_S1x1408x1536_S1408x1536) T.G
  /-- their scales -/
  SG : Rd (defs₀ (F := F)) Variants.none c none R ((arg10.slice (Rect.unit (s := S3x22x1536) (k0_off65 v66 v70 v74 v78 v82 v86 v90 v94 v98 v102 v106 v110 v114 v118 v122 v126 v130 v134 v138 v142 v146 v150 v154 v158 v162 v166 v170 v174 v178 v182 v186 v190 k0_t2) S1x22x1536.size (k0_off65_inb v66 v70 v74 v78 v82 v86 v90 v94 v98 v102 v106 v110 v114 v118 v122 v126 v130 v134 v138 v142 v146 v150 v154 v158 v162 v166 v170 v174 v178 v182 v186 v190 k0_hw43 k0_t2)) (fun _ => rfl)).squeeze S22x1536 squeezes_S1x22x1536_S22x1536) T.SG
  /-- the down weights -/
  D : Rd (defs₀ (F := F)) Variants.none c none R ((arg11.slice (Rect.unit (s := S3x384x2816) (k0_off68 v66 v70 v74 v78 v82 v86 v90 v94 v98 v102 v106 v110 v114 v118 v122 v126 v130 v134 v138 v142 v146 v150 v154 v158 v162 v166 v170 v174 v178 v182 v186 v190 k0_t2) S1x384x2816.size (k0_off68_inb v66 v70 v74 v78 v82 v86 v90 v94 v98 v102 v106 v110 v114 v118 v122 v126 v130 v134 v138 v142 v146 v150 v154 v158 v162 v166 v170 v174 v178 v182 v186 v190 k0_hw43 k0_t2)) (fun _ => rfl)).squeeze S384x2816 squeezes_S1x384x2816_S384x2816) T.D
  /-- their scales -/
  SD : Rd (defs₀ (F := F)) Variants.none c none R ((arg12.slice (Rect.unit (s := S3x6x2816) (k0_off71 v66 v70 v74 v78 v82 v86 v90 v94 v98 v102 v106 v110 v114 v118 v122 v126 v130 v134 v138 v142 v146 v150 v154 v158 v162 v166 v170 v174 v178 v182 v186 v190 k0_t2) S1x6x2816.size (k0_off71_inb v66 v70 v74 v78 v82 v86 v90 v94 v98 v102 v106 v110 v114 v118 v122 v126 v130 v134 v138 v142 v146 v150 v154 v158 v162 v166 v170 v174 v178 v182 v186 v190 k0_hw43 k0_t2)) (fun _ => rfl)).squeeze S6x2816 squeezes_S1x6x2816_S6x2816) T.SD

/-- The accumulator with its first `n` blocks new, beside the rest. -/
def Env (c : Dev nD) (arg13 : Memref sig .tc .vmem S64x2816 .f32) (T : In F) (n : ℕ) (R : sProp 𝕄) : sProp 𝕄 :=
  iprop(holds c arg13 fullShare (accT T n) ∗ R)

/-- A block not yet new reads as the old accumulator. -/
theorem acc_load {off : Fin 2 → ℕ} {inb} {hl} (n : ℕ) (h1 : off 1 = 256 * n) :
    Ev (defs₀ (F := F)) Variants.none c none (Env c arg13 T n R)
      (Prog.lift (.load arg13 (Rect.unit (s := S64x2816) off S64x256.size inb).toLoadRect hl))
      (fun x => T.A ((Rect.unit (s := S64x2816) off S64x256.size inb).emb x)) (Env c arg13 T n R) := by
  have h := rd_holds (defs := defs₀ (F := F)) (𝒱 := Variants.none) (bd := none) (c := (c : Thread nD τ)) (m := arg13) (T := accT T n) (q := fullShare) R
    (Rect.unit (s := S64x2816) off S64x256.size inb) hl
  refine Eq.subst (motive := fun v => Ev (defs₀ (F := F)) Variants.none c none (Env c arg13 T n R) _ v (Env c arg13 T n R)) ?_ h
  funext x
  refine if_neg ?_
  have e : (((Rect.unit (s := S64x2816) off S64x256.size inb).emb x) 1 : ℕ) = off 1 + 1 * (x 1 : ℕ) := rfl
  show ¬ (((Rect.unit (s := S64x2816) off S64x256.size inb).emb x) 1 : ℕ) < 256 * n
  rw [e, h1]; omega

/-- Storing the next block makes it new. -/
theorem acc_store {off : Fin 2 → ℕ} {inb} {hx hm} {w : FVec F S64x256 .f32} (n : ℕ) (h1 : off = ![0, 256 * n]) (hw : blk T n = w) :
    Ev (defs₀ (F := F)) Variants.none c none (Env c arg13 T n R)
      (Prog.lift (.store arg13 (Rect.unit (s := S64x2816) off S64x256.size inb) w Finset.univ hx hm)) ⟨⟩ (Env c arg13 T (n + 1) R) := by
  subst h1
  refine (ev_store (T := accT T n) (T' := accT T (n + 1)) ?_ ?_).on ?_
  · intro x
    have e0 : (((Rect.unit (s := S64x2816) ![0, 256 * n] S64x256.size inb).emb x) 0 : ℕ) = 0 + 1 * (x 0 : ℕ) := rfl
    have e1 : (((Rect.unit (s := S64x2816) ![0, 256 * n] S64x256.size inb).emb x) 1 : ℕ) = 256 * n + 1 * (x 1 : ℕ) := rfl
    have hx1 : (x 1 : ℕ) < 256 := (x 1).isLt
    have hd : (((Rect.unit (s := S64x2816) ![0, 256 * n] S64x256.size inb).emb x) 1 : ℕ) / 256 = n := by rw [e1]; omega
    unfold accT
    rw [if_pos (by rw [e1]; omega), hd, hw]
    refine congrArg w (funext fun a => ?_)
    match a with
    | 0 => exact Fin.ext (by show (((Rect.unit (s := S64x2816) ![0, 256 * n] S64x256.size inb).emb x) 0 : ℕ) = x 0; rw [e0]; omega)
    | 1 => exact Fin.ext (by show (((Rect.unit (s := S64x2816) ![0, 256 * n] S64x256.size inb).emb x) 1 : ℕ) % 256 = x 1; rw [e1]; omega)
  · intro i hi
    have h0 : (i 0 : ℕ) < 64 := (i 0).isLt
    rw [Rect.mem_set_unit] at hi
    unfold accT
    by_cases hlt : (i 1 : ℕ) < 256 * n
    · rw [if_pos hlt, if_pos (by omega)]
    · rw [if_neg hlt, if_neg]
      intro hlt2
      refine hi fun a => ?_
      match a with
      | 0 => exact ⟨Nat.zero_le _, by show (i 0 : ℕ) < 0 + 64; omega⟩
      | 1 => exact ⟨by show 256 * n ≤ (i 1 : ℕ); omega, by show (i 1 : ℕ) < 256 * n + 256; omega⟩
  · unfold Env
    iintro ⟨HA, HR⟩
    isplitl [HA]
    · iexact HA
    · iintro HA
      isplitl [HA]
      · iexact HA
      · iexact HR

end Cert.Kernel.Moe

end
-- ==== Proof.Turn1.lean ====
/-
  One expert's turn, part by part: what each part of the loop body returns and leaves.
-/
module

public import proofs.«01_k».proof.Proof.Base
public import proofs.«01_k».proof.Proof.Gen.Kernel.Skeleton
public import proofs.«01_k».proof.Proof.Turn0

@[expose] public section

set_option maxRecDepth 16384

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {v66 v70 v74 v78 v82 v86 v90 v94 v98 v102 v106 v110 v114 v118 v122 v126 v130 v134 v138 v142 v146 v150 v154 v158 v162 v166 v170 v174 v178 v182 v186 v190 : Elt F .i32} {k0_hw43 : k0_chk43 v66 v70 v74 v78 v82 v86 v90 v94 v98 v102 v106 v110 v114 v118 v122 v126 v130 v134 v138 v142 v146 v150 v154 v158 v162 v166 v170 v174 v178 v182 v186 v190} {k0_t2 : Fin (k0_t2_loop v66 v70 v74 v78 v82 v86 v90 v94 v98 v102 v106 v110 v114 v118 v122 v126 v130 v134 v138 v142 v146 v150 v154 v158 v162 v166 v170 v174 v178 v182 v186 v190).trips}
variable {T : In F} {R : sProp (MT nD τ sig Unit (Elt F) ℕ (UU sig nD τ) ℕ)}

/-- Part 3 of a turn. -/
theorem k0_part3_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w243 T)) ⟨(w250 T), (w256 T), (w257 T), (w258 T), (w260 T), (w277 T)⟩ R := by
  rw [k0_part3_eq_skeleton]
  unfold k0_part3_skel
  dsimp only
  refine Ev.bind (h.Wt _ _) ?_
  refine Ev.bind (h.X _ _) ?_
  refine Ev.bind (h.G _ _) ?_
  exact Ev.pure _

/-- Part 4 of a turn. -/
theorem k0_part4_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w257 T) (w260 T) (w277 T)) ⟨(w292 T), (w309 T), (w315 T), (w318 T)⟩ R := by
  rw [k0_part4_eq_skeleton]
  unfold k0_part4_skel
  dsimp only
  refine Ev.bind (h.SG _ _) ?_
  refine Ev.bind (h.SG _ _) ?_
  refine Ev.bind (h.G _ _) ?_
  refine Ev.bind (h.SG _ _) ?_
  refine Ev.bind (h.SG _ _) ?_
  exact Ev.pure _

/-- Part 5 of a turn. -/
theorem k0_part5_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w258 T) (w260 T) (w292 T) (w309 T) (w315 T) (w318 T)) ⟨(w324 T), (w326 T), (w358 T)⟩ R := by
  rw [k0_part5_eq_skeleton]
  unfold k0_part5_skel
  dsimp only
  refine Ev.bind (h.X _ _) ?_
  refine Ev.bind (h.G _ _) ?_
  refine Ev.bind (h.SG _ _) ?_
  refine Ev.bind (h.SG _ _) ?_
  exact Ev.pure _

/-- Part 6 of a turn. -/
theorem k0_part6_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w324 T) (w326 T)) ⟨(w390 T), (w392 T), (w395 T)⟩ R := by
  rw [k0_part6_eq_skeleton]
  unfold k0_part6_skel
  dsimp only
  refine Ev.bind (h.G _ _) ?_
  refine Ev.bind (h.SG _ _) ?_
  refine Ev.bind (h.SG _ _) ?_
  refine Ev.bind (h.X _ _) ?_
  refine Ev.bind (h.G _ _) ?_
  exact Ev.pure _

/-- Part 7 of a turn. -/
theorem k0_part7_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w358 T) (w392 T) (w395 T)) ⟨(w424 T), (w432 T), (w434 T), (w_c28_i32_245 T)⟩ R := by
  rw [k0_part7_eq_skeleton]
  unfold k0_part7_skel
  dsimp only
  refine Ev.bind (h.SG _ _) ?_
  refine Ev.bind (h.SG _ _) ?_
  refine Ev.bind (h.G _ _) ?_
  exact Ev.pure _

/-- Part 8 of a turn. -/
theorem k0_part8_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w390 T) (w392 T) (w432 T) (w434 T) (w_c28_i32_245 T)) ⟨(w456 T), (w458 T), (w475 T)⟩ R := by
  rw [k0_part8_eq_skeleton]
  unfold k0_part8_skel
  dsimp only
  refine Ev.bind (h.SG _ _) ?_
  refine Ev.bind (h.SG _ _) ?_
  refine Ev.bind (h.X _ _) ?_
  refine Ev.bind (h.G _ _) ?_
  exact Ev.pure _

/-- Part 9 of a turn. -/
theorem k0_part9_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w424 T) (w458 T) (w475 T)) ⟨(w490 T), (w507 T), (w513 T)⟩ R := by
  rw [k0_part9_eq_skeleton]
  unfold k0_part9_skel
  dsimp only
  refine Ev.bind (h.SG _ _) ?_
  refine Ev.bind (h.SG _ _) ?_
  refine Ev.bind (h.G _ _) ?_
  refine Ev.bind (h.SG _ _) ?_
  exact Ev.pure _

/-- Part 10 of a turn. -/
theorem k0_part10_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w456 T) (w458 T) (w507 T) (w513 T)) ⟨(w522 T), (w524 T), (w547 T), (w550 T), (w551 T)⟩ R := by
  rw [k0_part10_eq_skeleton]
  unfold k0_part10_skel
  dsimp only
  refine Ev.bind (h.SG _ _) ?_
  refine Ev.bind (h.X _ _) ?_
  refine Ev.bind (h.G _ _) ?_
  refine Ev.bind (h.SG _ _) ?_
  refine Ev.bind (h.SG _ _) ?_
  exact Ev.pure _

/-- Part 11 of a turn. -/
theorem k0_part11_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w490 T) (w522 T) (w524 T) (w547 T) (w550 T) (w551 T)) ⟨(w556 T), (w588 T), (w590 T)⟩ R := by
  rw [k0_part11_eq_skeleton]
  unfold k0_part11_skel
  dsimp only
  refine Ev.bind (h.G _ _) ?_
  refine Ev.bind (h.SG _ _) ?_
  refine Ev.bind (h.SG _ _) ?_
  refine Ev.bind (h.X _ _) ?_
  exact Ev.pure _

/-- Part 12 of a turn. -/
theorem k0_part12_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w556 T) (w590 T)) ⟨(w622 T), (w626 T), (w628 T), (w_c28_i32_347 T)⟩ R := by
  rw [k0_part12_eq_skeleton]
  unfold k0_part12_skel
  dsimp only
  refine Ev.bind (h.G _ _) ?_
  refine Ev.bind (h.SG _ _) ?_
  refine Ev.bind (h.SG _ _) ?_
  refine Ev.bind (h.G _ _) ?_
  exact Ev.pure _

/-- Part 13 of a turn. -/
theorem k0_part13_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w588 T) (w590 T) (w626 T) (w628 T) (w_c28_i32_347 T)) ⟨(w654 T), (w656 T), (w664 T), (w666 T), (w667 T)⟩ R := by
  rw [k0_part13_eq_skeleton]
  unfold k0_part13_skel
  dsimp only
  refine Ev.bind (h.SG _ _) ?_
  refine Ev.bind (h.SG _ _) ?_
  refine Ev.bind (h.X _ _) ?_
  refine Ev.bind (h.G _ _) ?_
  exact Ev.pure _

/-- Part 14 of a turn. -/
theorem k0_part14_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w622 T) (w656 T) (w664 T) (w666 T) (w667 T)) ⟨(w688 T), (w705 T)⟩ R := by
  rw [k0_part14_eq_skeleton]
  unfold k0_part14_skel
  dsimp only
  refine Ev.bind (h.SG _ _) ?_
  refine Ev.bind (h.SG _ _) ?_
  refine Ev.bind (h.G _ _) ?_
  exact Ev.pure _

/-- Part 15 of a turn. -/
theorem k0_part15_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w654 T) (w656 T) (w705 T)) ⟨(w720 T), (w722 T), (w739 T), (w745 T)⟩ R := by
  rw [k0_part15_eq_skeleton]
  unfold k0_part15_skel
  dsimp only
  refine Ev.bind (h.SG _ _) ?_
  refine Ev.bind (h.SG _ _) ?_
  refine Ev.bind (h.X _ _) ?_
  refine Ev.bind (h.G _ _) ?_
  refine Ev.bind (h.SG _ _) ?_
  exact Ev.pure _

/-- Part 16 of a turn. -/
theorem k0_part16_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w688 T) (w722 T) (w739 T) (w745 T)) ⟨(w754 T), (w785 T)⟩ R := by
  rw [k0_part16_eq_skeleton]
  unfold k0_part16_skel
  dsimp only
  refine Ev.bind (h.SG _ _) ?_
  refine Ev.bind (h.G _ _) ?_
  refine Ev.bind (h.SG _ _) ?_
  refine Ev.bind (h.SG _ _) ?_
  exact Ev.pure _

/-- Part 17 of a turn. -/
theorem k0_part17_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w720 T) (w754 T) (w785 T)) ⟨(w786 T), (w788 T), (w820 T)⟩ R := by
  rw [k0_part17_eq_skeleton]
  unfold k0_part17_skel
  dsimp only
  refine Ev.bind (h.X _ _) ?_
  refine Ev.bind (h.G _ _) ?_
  refine Ev.bind (h.SG _ _) ?_
  refine Ev.bind (h.SG _ _) ?_
  exact Ev.pure _

/-- Part 18 of a turn. -/
theorem k0_part18_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w786 T) (w788 T)) ⟨(w852 T), (w854 T), (w858 T), (w860 T), (w861 T)⟩ R := by
  rw [k0_part18_eq_skeleton]
  unfold k0_part18_skel
  dsimp only
  refine Ev.bind (h.G _ _) ?_
  refine Ev.bind (h.SG _ _) ?_
  refine Ev.bind (h.SG _ _) ?_
  refine Ev.bind (h.X _ _) ?_
  refine Ev.bind (h.G _ _) ?_
  exact Ev.pure _

/-- Part 19 of a turn. -/
theorem k0_part19_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w820 T) (w854 T) (w858 T) (w860 T) (w861 T)) ⟨(w886 T), (w902 T)⟩ R := by
  rw [k0_part19_eq_skeleton]
  unfold k0_part19_skel
  dsimp only
  refine Ev.bind (h.SG _ _) ?_
  refine Ev.bind (h.SG _ _) ?_
  refine Ev.bind (h.G _ _) ?_
  exact Ev.pure _

/-- Part 20 of a turn. -/
theorem k0_part20_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w852 T) (w854 T) (w902 T)) ⟨(w918 T), (w920 T), (w937 T)⟩ R := by
  rw [k0_part20_eq_skeleton]
  unfold k0_part20_skel
  dsimp only
  refine Ev.bind (h.SG _ _) ?_
  refine Ev.bind (h.SG _ _) ?_
  refine Ev.bind (h.X _ _) ?_
  refine Ev.bind (h.G _ _) ?_
  exact Ev.pure _

/-- Part 21 of a turn. -/
theorem k0_part21_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w886 T) (w920 T) (w937 T)) ⟨(w952 T), (w969 T), (w975 T), (w978 T)⟩ R := by
  rw [k0_part21_eq_skeleton]
  unfold k0_part21_skel
  dsimp only
  refine Ev.bind (h.SG _ _) ?_
  refine Ev.bind (h.SG _ _) ?_
  refine Ev.bind (h.G _ _) ?_
  refine Ev.bind (h.SG _ _) ?_
  refine Ev.bind (h.SG _ _) ?_
  exact Ev.pure _

/-- Part 22 of a turn. -/
theorem k0_part22_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w250 T) (w918 T) (w920 T) (w952 T) (w969 T) (w975 T) (w978 T)) ⟨(w992 T), (w993 T), (w994 T), (w996 T), (w1013 T), (w1019 T)⟩ R := by
  rw [k0_part22_eq_skeleton]
  unfold k0_part22_skel
  dsimp only
  refine Ev.bind (h.X _ _) ?_
  refine Ev.bind (h.G _ _) ?_
  refine Ev.bind (h.SG _ _) ?_
  exact Ev.pure _

/-- Part 23 of a turn. -/
theorem k0_part23_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w993 T) (w996 T) (w1013 T) (w1019 T)) ⟨(w1028 T), (w1058 T), (w_cst_570 T)⟩ R := by
  rw [k0_part23_eq_skeleton]
  unfold k0_part23_skel
  dsimp only
  refine Ev.bind (h.SG _ _) ?_
  refine Ev.bind (h.G _ _) ?_
  refine Ev.bind (h.SG _ _) ?_
  refine Ev.bind (h.SG _ _) ?_
  exact Ev.pure _

/-- Part 24 of a turn. -/
theorem k0_part24_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w994 T) (w996 T) (w1028 T) (w1058 T) (w_cst_570 T)) ⟨(w1060 T), (w1062 T), (w1094 T)⟩ R := by
  rw [k0_part24_eq_skeleton]
  unfold k0_part24_skel
  dsimp only
  refine Ev.bind (h.X _ _) ?_
  refine Ev.bind (h.G _ _) ?_
  refine Ev.bind (h.SG _ _) ?_
  refine Ev.bind (h.SG _ _) ?_
  exact Ev.pure _

/-- Part 25 of a turn. -/
theorem k0_part25_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1060 T) (w1062 T)) ⟨(w1126 T), (w1128 T), (w1132 T), (w1134 T), (w_c28_i32_614 T)⟩ R := by
  rw [k0_part25_eq_skeleton]
  unfold k0_part25_skel
  dsimp only
  refine Ev.bind (h.G _ _) ?_
  refine Ev.bind (h.SG _ _) ?_
  refine Ev.bind (h.SG _ _) ?_
  refine Ev.bind (h.X _ _) ?_
  refine Ev.bind (h.G _ _) ?_
  exact Ev.pure _

/-- Part 26 of a turn. -/
theorem k0_part26_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1094 T) (w1128 T) (w1132 T) (w1134 T) (w_c28_i32_614 T)) ⟨(w1160 T), (w1175 T)⟩ R := by
  rw [k0_part26_eq_skeleton]
  unfold k0_part26_skel
  dsimp only
  refine Ev.bind (h.SG _ _) ?_
  refine Ev.bind (h.SG _ _) ?_
  refine Ev.bind (h.G _ _) ?_
  exact Ev.pure _

/-- Part 27 of a turn. -/
theorem k0_part27_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1126 T) (w1128 T) (w1175 T)) ⟨(w1192 T), (w1194 T), (w1211 T)⟩ R := by
  rw [k0_part27_eq_skeleton]
  unfold k0_part27_skel
  dsimp only
  refine Ev.bind (h.SG _ _) ?_
  refine Ev.bind (h.SG _ _) ?_
  refine Ev.bind (h.X _ _) ?_
  refine Ev.bind (h.G _ _) ?_
  exact Ev.pure _

/-- Part 28 of a turn. -/
theorem k0_part28_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1160 T) (w1194 T) (w1211 T)) ⟨(w1226 T), (w1243 T), (w1249 T)⟩ R := by
  rw [k0_part28_eq_skeleton]
  unfold k0_part28_skel
  dsimp only
  refine Ev.bind (h.SG _ _) ?_
  refine Ev.bind (h.SG _ _) ?_
  refine Ev.bind (h.G _ _) ?_
  refine Ev.bind (h.SG _ _) ?_
  exact Ev.pure _

/-- Part 29 of a turn. -/
theorem k0_part29_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1192 T) (w1194 T) (w1243 T) (w1249 T)) ⟨(w1258 T), (w1260 T), (w1291 T)⟩ R := by
  rw [k0_part29_eq_skeleton]
  unfold k0_part29_skel
  dsimp only
  refine Ev.bind (h.SG _ _) ?_
  refine Ev.bind (h.X _ _) ?_
  refine Ev.bind (h.G _ _) ?_
  refine Ev.bind (h.SG _ _) ?_
  refine Ev.bind (h.SG _ _) ?_
  exact Ev.pure _

/-- Part 30 of a turn. -/
theorem k0_part30_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1226 T) (w1258 T) (w1260 T) (w1291 T)) ⟨(w1292 T), (w1324 T), (w1326 T)⟩ R := by
  rw [k0_part30_eq_skeleton]
  unfold k0_part30_skel
  dsimp only
  refine Ev.bind (h.G _ _) ?_
  refine Ev.bind (h.SG _ _) ?_
  refine Ev.bind (h.SG _ _) ?_
  refine Ev.bind (h.X _ _) ?_
  exact Ev.pure _

/-- Part 31 of a turn. -/
theorem k0_part31_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1292 T) (w1326 T)) ⟨(w1358 T), (w1366 T), (w1368 T)⟩ R := by
  rw [k0_part31_eq_skeleton]
  unfold k0_part31_skel
  dsimp only
  refine Ev.bind (h.G _ _) ?_
  refine Ev.bind (h.SG _ _) ?_
  refine Ev.bind (h.SG _ _) ?_
  refine Ev.bind (h.G _ _) ?_
  exact Ev.pure _

/-- Part 32 of a turn. -/
theorem k0_part32_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1324 T) (w1326 T) (w1366 T) (w1368 T)) ⟨(w1390 T), (w1392 T), (w1408 T)⟩ R := by
  rw [k0_part32_eq_skeleton]
  unfold k0_part32_skel
  dsimp only
  refine Ev.bind (h.SG _ _) ?_
  refine Ev.bind (h.SG _ _) ?_
  refine Ev.bind (h.X _ _) ?_
  refine Ev.bind (h.G _ _) ?_
  exact Ev.pure _

end Cert.Kernel.Moe

end
-- ==== Proof.Turn2.lean ====
/-
  One expert's turn, part by part: what each part of the loop body returns and leaves.
-/
module

public import proofs.«01_k».proof.Proof.Base
public import proofs.«01_k».proof.Proof.Gen.Kernel.Skeleton
public import proofs.«01_k».proof.Proof.Turn0

@[expose] public section

set_option maxRecDepth 16384

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {v66 v70 v74 v78 v82 v86 v90 v94 v98 v102 v106 v110 v114 v118 v122 v126 v130 v134 v138 v142 v146 v150 v154 v158 v162 v166 v170 v174 v178 v182 v186 v190 : Elt F .i32} {k0_hw43 : k0_chk43 v66 v70 v74 v78 v82 v86 v90 v94 v98 v102 v106 v110 v114 v118 v122 v126 v130 v134 v138 v142 v146 v150 v154 v158 v162 v166 v170 v174 v178 v182 v186 v190} {k0_t2 : Fin (k0_t2_loop v66 v70 v74 v78 v82 v86 v90 v94 v98 v102 v106 v110 v114 v118 v122 v126 v130 v134 v138 v142 v146 v150 v154 v158 v162 v166 v170 v174 v178 v182 v186 v190).trips}
variable {T : In F} {R : sProp (MT nD τ sig Unit (Elt F) ℕ (UU sig nD τ) ℕ)}

/-- Part 33 of a turn. -/
theorem k0_part33_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1358 T) (w1392 T) (w1408 T)) ⟨(w1424 T), (w1441 T), (w1447 T)⟩ R := by
  rw [k0_part33_eq_skeleton]
  unfold k0_part33_skel
  dsimp only
  refine Ev.bind (h.SG _ _) ?_
  refine Ev.bind (h.SG _ _) ?_
  refine Ev.bind (h.G _ _) ?_
  refine Ev.bind (h.SG _ _) ?_
  exact Ev.pure _

/-- Part 34 of a turn. -/
theorem k0_part34_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1390 T) (w1392 T) (w1441 T) (w1447 T)) ⟨(w1456 T), (w1458 T), (w1475 T), (w1481 T), (w1484 T)⟩ R := by
  rw [k0_part34_eq_skeleton]
  unfold k0_part34_skel
  dsimp only
  refine Ev.bind (h.SG _ _) ?_
  refine Ev.bind (h.X _ _) ?_
  refine Ev.bind (h.G _ _) ?_
  refine Ev.bind (h.SG _ _) ?_
  refine Ev.bind (h.SG _ _) ?_
  exact Ev.pure _

/-- Part 35 of a turn. -/
theorem k0_part35_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1424 T) (w1456 T) (w1458 T) (w1475 T) (w1481 T) (w1484 T)) ⟨(w1490 T), (w1522 T), (w1524 T)⟩ R := by
  rw [k0_part35_eq_skeleton]
  unfold k0_part35_skel
  dsimp only
  refine Ev.bind (h.G _ _) ?_
  refine Ev.bind (h.SG _ _) ?_
  refine Ev.bind (h.SG _ _) ?_
  refine Ev.bind (h.X _ _) ?_
  exact Ev.pure _

/-- Part 36 of a turn. -/
theorem k0_part36_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1490 T) (w1524 T)) ⟨(w1556 T), (w1560 T), (w1562 T)⟩ R := by
  rw [k0_part36_eq_skeleton]
  unfold k0_part36_skel
  dsimp only
  refine Ev.bind (h.G _ _) ?_
  refine Ev.bind (h.SG _ _) ?_
  refine Ev.bind (h.SG _ _) ?_
  refine Ev.bind (h.G _ _) ?_
  exact Ev.pure _

/-- Part 37 of a turn. -/
theorem k0_part37_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1522 T) (w1524 T) (w1560 T) (w1562 T)) ⟨(w1588 T), (w1590 T), (w1598 T), (w1600 T), (w_c28_i32_868 T)⟩ R := by
  rw [k0_part37_eq_skeleton]
  unfold k0_part37_skel
  dsimp only
  refine Ev.bind (h.SG _ _) ?_
  refine Ev.bind (h.SG _ _) ?_
  refine Ev.bind (h.X _ _) ?_
  refine Ev.bind (h.G _ _) ?_
  exact Ev.pure _

/-- Part 38 of a turn. -/
theorem k0_part38_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1556 T) (w1590 T) (w1598 T) (w1600 T) (w_c28_i32_868 T)) ⟨(w1622 T), (w1639 T)⟩ R := by
  rw [k0_part38_eq_skeleton]
  unfold k0_part38_skel
  dsimp only
  refine Ev.bind (h.SG _ _) ?_
  refine Ev.bind (h.SG _ _) ?_
  refine Ev.bind (h.G _ _) ?_
  exact Ev.pure _

/-- Part 39 of a turn. -/
theorem k0_part39_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1588 T) (w1590 T) (w1639 T)) ⟨(w1654 T), (w1656 T), (w1673 T), (w1679 T)⟩ R := by
  rw [k0_part39_eq_skeleton]
  unfold k0_part39_skel
  dsimp only
  refine Ev.bind (h.SG _ _) ?_
  refine Ev.bind (h.SG _ _) ?_
  refine Ev.bind (h.X _ _) ?_
  refine Ev.bind (h.G _ _) ?_
  refine Ev.bind (h.SG _ _) ?_
  exact Ev.pure _

/-- Part 40 of a turn. -/
theorem k0_part40_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1622 T) (w1656 T) (w1673 T) (w1679 T)) ⟨(w1688 T), (w1718 T), (w_cst_930 T)⟩ R := by
  rw [k0_part40_eq_skeleton]
  unfold k0_part40_skel
  dsimp only
  refine Ev.bind (h.SG _ _) ?_
  refine Ev.bind (h.G _ _) ?_
  refine Ev.bind (h.SG _ _) ?_
  refine Ev.bind (h.SG _ _) ?_
  exact Ev.pure _

/-- Part 41 of a turn. -/
theorem k0_part41_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w250 T) (w1654 T) (w1656 T) (w1688 T) (w1718 T) (w_cst_930 T)) ⟨(w1728 T), (w1729 T), (w1730 T), (w1732 T), (w1749 T), (w1755 T)⟩ R := by
  rw [k0_part41_eq_skeleton]
  unfold k0_part41_skel
  dsimp only
  refine Ev.bind (h.X _ _) ?_
  refine Ev.bind (h.G _ _) ?_
  refine Ev.bind (h.SG _ _) ?_
  exact Ev.pure _

/-- Part 42 of a turn. -/
theorem k0_part42_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1729 T) (w1730 T) (w1732 T) (w1749 T) (w1755 T)) ⟨(w1764 T), (w1796 T), (w1797 T)⟩ R := by
  rw [k0_part42_eq_skeleton]
  unfold k0_part42_skel
  dsimp only
  refine Ev.bind (h.SG _ _) ?_
  refine Ev.bind (h.G _ _) ?_
  refine Ev.bind (h.SG _ _) ?_
  refine Ev.bind (h.SG _ _) ?_
  refine Ev.bind (h.X _ _) ?_
  exact Ev.pure _

/-- Part 43 of a turn. -/
theorem k0_part43_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1764 T) (w1797 T)) ⟨(w1798 T), (w1830 T), (w1834 T), (w1835 T)⟩ R := by
  rw [k0_part43_eq_skeleton]
  unfold k0_part43_skel
  dsimp only
  refine Ev.bind (h.G _ _) ?_
  refine Ev.bind (h.SG _ _) ?_
  refine Ev.bind (h.SG _ _) ?_
  refine Ev.bind (h.G _ _) ?_
  exact Ev.pure _

/-- Part 44 of a turn. -/
theorem k0_part44_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1796 T) (w1798 T) (w1834 T) (w1835 T)) ⟨(w1862 T), (w1864 T), (w1872 T), (w1874 T)⟩ R := by
  rw [k0_part44_eq_skeleton]
  unfold k0_part44_skel
  dsimp only
  refine Ev.bind (h.SG _ _) ?_
  refine Ev.bind (h.SG _ _) ?_
  refine Ev.bind (h.X _ _) ?_
  refine Ev.bind (h.G _ _) ?_
  exact Ev.pure _

/-- Part 45 of a turn. -/
theorem k0_part45_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1830 T) (w1864 T) (w1872 T) (w1874 T)) ⟨(w1896 T), (w1913 T)⟩ R := by
  rw [k0_part45_eq_skeleton]
  unfold k0_part45_skel
  dsimp only
  refine Ev.bind (h.SG _ _) ?_
  refine Ev.bind (h.SG _ _) ?_
  refine Ev.bind (h.G _ _) ?_
  exact Ev.pure _

/-- Part 46 of a turn. -/
theorem k0_part46_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1862 T) (w1864 T) (w1913 T)) ⟨(w1928 T), (w1930 T), (w1947 T), (w1953 T)⟩ R := by
  rw [k0_part46_eq_skeleton]
  unfold k0_part46_skel
  dsimp only
  refine Ev.bind (h.SG _ _) ?_
  refine Ev.bind (h.SG _ _) ?_
  refine Ev.bind (h.X _ _) ?_
  refine Ev.bind (h.G _ _) ?_
  refine Ev.bind (h.SG _ _) ?_
  exact Ev.pure _

/-- Part 47 of a turn. -/
theorem k0_part47_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1896 T) (w1930 T) (w1947 T) (w1953 T)) ⟨(w1962 T), (w1992 T)⟩ R := by
  rw [k0_part47_eq_skeleton]
  unfold k0_part47_skel
  dsimp only
  refine Ev.bind (h.SG _ _) ?_
  refine Ev.bind (h.G _ _) ?_
  refine Ev.bind (h.SG _ _) ?_
  refine Ev.bind (h.SG _ _) ?_
  exact Ev.pure _

/-- Part 48 of a turn. -/
theorem k0_part48_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1928 T) (w1930 T) (w1962 T) (w1992 T)) ⟨(w1994 T), (w1996 T), (w2028 T)⟩ R := by
  rw [k0_part48_eq_skeleton]
  unfold k0_part48_skel
  dsimp only
  refine Ev.bind (h.X _ _) ?_
  refine Ev.bind (h.G _ _) ?_
  refine Ev.bind (h.SG _ _) ?_
  refine Ev.bind (h.SG _ _) ?_
  exact Ev.pure _

/-- Part 49 of a turn. -/
theorem k0_part49_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1994 T) (w1996 T)) ⟨(w2060 T), (w2062 T), (w2066 T), (w2068 T)⟩ R := by
  rw [k0_part49_eq_skeleton]
  unfold k0_part49_skel
  dsimp only
  refine Ev.bind (h.G _ _) ?_
  refine Ev.bind (h.SG _ _) ?_
  refine Ev.bind (h.SG _ _) ?_
  refine Ev.bind (h.X _ _) ?_
  refine Ev.bind (h.G _ _) ?_
  exact Ev.pure _

/-- Part 50 of a turn. -/
theorem k0_part50_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2028 T) (w2062 T) (w2066 T) (w2068 T)) ⟨(w2094 T), (w2107 T), (w2108 T)⟩ R := by
  rw [k0_part50_eq_skeleton]
  unfold k0_part50_skel
  dsimp only
  refine Ev.bind (h.SG _ _) ?_
  refine Ev.bind (h.SG _ _) ?_
  refine Ev.bind (h.G _ _) ?_
  exact Ev.pure _

/-- Part 51 of a turn. -/
theorem k0_part51_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2060 T) (w2062 T) (w2107 T) (w2108 T)) ⟨(w2126 T), (w2128 T), (w2145 T)⟩ R := by
  rw [k0_part51_eq_skeleton]
  unfold k0_part51_skel
  dsimp only
  refine Ev.bind (h.SG _ _) ?_
  refine Ev.bind (h.SG _ _) ?_
  refine Ev.bind (h.X _ _) ?_
  refine Ev.bind (h.G _ _) ?_
  exact Ev.pure _

/-- Part 52 of a turn. -/
theorem k0_part52_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2094 T) (w2128 T) (w2145 T)) ⟨(w2160 T), (w2177 T), (w2183 T)⟩ R := by
  rw [k0_part52_eq_skeleton]
  unfold k0_part52_skel
  dsimp only
  refine Ev.bind (h.SG _ _) ?_
  refine Ev.bind (h.SG _ _) ?_
  refine Ev.bind (h.G _ _) ?_
  refine Ev.bind (h.SG _ _) ?_
  exact Ev.pure _

/-- Part 53 of a turn. -/
theorem k0_part53_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2126 T) (w2128 T) (w2177 T) (w2183 T)) ⟨(w2192 T), (w2194 T), (w2224 T), (w_cst_1204 T)⟩ R := by
  rw [k0_part53_eq_skeleton]
  unfold k0_part53_skel
  dsimp only
  refine Ev.bind (h.SG _ _) ?_
  refine Ev.bind (h.X _ _) ?_
  refine Ev.bind (h.G _ _) ?_
  refine Ev.bind (h.SG _ _) ?_
  refine Ev.bind (h.SG _ _) ?_
  exact Ev.pure _

/-- Part 54 of a turn. -/
theorem k0_part54_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2160 T) (w2192 T) (w2194 T) (w2224 T) (w_cst_1204 T)) ⟨(w2226 T), (w2258 T), (w2260 T)⟩ R := by
  rw [k0_part54_eq_skeleton]
  unfold k0_part54_skel
  dsimp only
  refine Ev.bind (h.G _ _) ?_
  refine Ev.bind (h.SG _ _) ?_
  refine Ev.bind (h.SG _ _) ?_
  refine Ev.bind (h.X _ _) ?_
  exact Ev.pure _

/-- Part 55 of a turn. -/
theorem k0_part55_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2226 T) (w2260 T)) ⟨(w2292 T), (w2296 T), (w2300 T), (w2301 T)⟩ R := by
  rw [k0_part55_eq_skeleton]
  unfold k0_part55_skel
  dsimp only
  refine Ev.bind (h.G _ _) ?_
  refine Ev.bind (h.SG _ _) ?_
  refine Ev.bind (h.SG _ _) ?_
  refine Ev.bind (h.G _ _) ?_
  exact Ev.pure _

/-- Part 56 of a turn. -/
theorem k0_part56_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part56 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2258 T) (w2260 T) (w2296 T) (w2300 T) (w2301 T)) ⟨(w2324 T), (w2326 T), (w2341 T)⟩ R := by
  rw [k0_part56_eq_skeleton]
  unfold k0_part56_skel
  dsimp only
  refine Ev.bind (h.SG _ _) ?_
  refine Ev.bind (h.SG _ _) ?_
  refine Ev.bind (h.X _ _) ?_
  refine Ev.bind (h.G _ _) ?_
  exact Ev.pure _

/-- Part 57 of a turn. -/
theorem k0_part57_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part57 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2292 T) (w2326 T) (w2341 T)) ⟨(w2358 T), (w2375 T), (w2379 T), (w2380 T)⟩ R := by
  rw [k0_part57_eq_skeleton]
  unfold k0_part57_skel
  dsimp only
  refine Ev.bind (h.SG _ _) ?_
  refine Ev.bind (h.SG _ _) ?_
  refine Ev.bind (h.G _ _) ?_
  refine Ev.bind (h.SG _ _) ?_
  exact Ev.pure _

/-- Part 58 of a turn. -/
theorem k0_part58_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part58 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2324 T) (w2326 T) (w2375 T) (w2379 T) (w2380 T)) ⟨(w2390 T), (w2392 T), (w2409 T), (w2415 T)⟩ R := by
  rw [k0_part58_eq_skeleton]
  unfold k0_part58_skel
  dsimp only
  refine Ev.bind (h.SG _ _) ?_
  refine Ev.bind (h.X _ _) ?_
  refine Ev.bind (h.G _ _) ?_
  refine Ev.bind (h.SG _ _) ?_
  exact Ev.pure _

/-- Part 59 of a turn. -/
theorem k0_part59_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part59 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w2358 T) (w2390 T) (w2392 T) (w2409 T) (w2415 T)) (w2459 T) R := by
  rw [k0_part59_eq_skeleton]
  unfold k0_part59_skel
  dsimp only
  refine Ev.bind (h.SG _ _) ?_
  refine Ev.bind (h.G _ _) ?_
  refine Ev.bind (h.SG _ _) ?_
  refine Ev.bind (h.SG _ _) ?_
  exact Ev.pure _

/-- Part 60 of a turn. -/
theorem k0_part60_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part60 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w250 T) (w992 T) (w2459 T)) ⟨(w2464 T), (w2497 T)⟩ R := by
  rw [k0_part60_eq_skeleton]
  unfold k0_part60_skel
  dsimp only
  refine Ev.bind (h.D _ _) ?_
  refine Ev.bind (h.SD _ _) ?_
  refine Ev.bind (h.SD _ _) ?_
  exact Ev.pure _

/-- Part 61 of a turn. -/
theorem k0_part61_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none R (k0_part61 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w2497 T)) ⟨(w2529 T), (w2533 T), (w2537 T)⟩ R := by
  rw [k0_part61_eq_skeleton]
  unfold k0_part61_skel
  dsimp only
  refine Ev.bind (h.D _ _) ?_
  refine Ev.bind (h.SD _ _) ?_
  refine Ev.bind (h.SD _ _) ?_
  refine Ev.bind (h.D _ _) ?_
  exact Ev.pure _

end Cert.Kernel.Moe

end
-- ==== Proof.Turn3.lean ====
/-
  One expert's turn, part by part: what each part of the loop body returns and leaves.
-/
module

public import proofs.«01_k».proof.Proof.Base
public import proofs.«01_k».proof.Proof.Gen.Kernel.Skeleton
public import proofs.«01_k».proof.Proof.Turn0

@[expose] public section

set_option maxRecDepth 16384

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {v66 v70 v74 v78 v82 v86 v90 v94 v98 v102 v106 v110 v114 v118 v122 v126 v130 v134 v138 v142 v146 v150 v154 v158 v162 v166 v170 v174 v178 v182 v186 v190 : Elt F .i32} {k0_hw43 : k0_chk43 v66 v70 v74 v78 v82 v86 v90 v94 v98 v102 v106 v110 v114 v118 v122 v126 v130 v134 v138 v142 v146 v150 v154 v158 v162 v166 v170 v174 v178 v182 v186 v190} {k0_t2 : Fin (k0_t2_loop v66 v70 v74 v78 v82 v86 v90 v94 v98 v102 v106 v110 v114 v118 v122 v126 v130 v134 v138 v142 v146 v150 v154 v158 v162 v166 v170 v174 v178 v182 v186 v190).trips}
variable {T : In F} {R : sProp (MT nD τ sig Unit (Elt F) ℕ (UU sig nD τ) ℕ)}

/-- Part 62 of a turn. -/
theorem k0_part62_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 0 R) (k0_part62 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w2464 T) (w2529 T) (w2533 T) (w2537 T)) ⟨(w2569 T), (w2573 T), (w2575 T)⟩ (Env c arg13 T 1 R) := by
  rw [k0_part62_eq_skeleton]
  unfold k0_part62_skel
  dsimp only
  refine Ev.bind ((h.SD.frame _) _ _) ?_
  refine Ev.bind ((h.SD.frame _) _ _) ?_
  refine Ev.bind (acc_load 0 rfl) ?_
  refine Ev.bind (acc_load 0 rfl) ?_
  refine Ev.bind (acc_store 0 rfl rfl) ?_
  refine Ev.bind ((h.D.frame _) _ _) ?_
  exact Ev.pure _

/-- Part 63 of a turn. -/
theorem k0_part63_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 1 R) (k0_part63 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w2569 T) (w2573 T) (w2575 T)) ⟨(w2601 T), (w2614 T), (w2615 T)⟩ (Env c arg13 T 1 R) := by
  rw [k0_part63_eq_skeleton]
  unfold k0_part63_skel
  dsimp only
  refine Ev.bind ((h.SD.frame _) _ _) ?_
  refine Ev.bind ((h.SD.frame _) _ _) ?_
  refine Ev.bind ((h.D.frame _) _ _) ?_
  exact Ev.pure _

/-- Part 64 of a turn. -/
theorem k0_part64_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 1 R) (k0_part64 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w2601 T) (w2614 T) (w2615 T)) ⟨(w2633 T), (w2650 T), (w2653 T), (w2654 T)⟩ (Env c arg13 T 1 R) := by
  rw [k0_part64_eq_skeleton]
  unfold k0_part64_skel
  dsimp only
  refine Ev.bind ((h.SD.frame _) _ _) ?_
  refine Ev.bind ((h.SD.frame _) _ _) ?_
  refine Ev.bind ((h.D.frame _) _ _) ?_
  refine Ev.bind ((h.SD.frame _) _ _) ?_
  exact Ev.pure _

/-- Part 65 of a turn. -/
theorem k0_part65_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 1 R) (k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w2464 T) (w2633 T) (w2650 T) (w2653 T) (w2654 T)) ⟨(w2673 T), (w2690 T)⟩ (Env c arg13 T 2 R) := by
  rw [k0_part65_eq_skeleton]
  unfold k0_part65_skel
  dsimp only
  refine Ev.bind ((h.SD.frame _) _ _) ?_
  refine Ev.bind (acc_load 1 rfl) ?_
  refine Ev.bind (acc_load 1 rfl) ?_
  refine Ev.bind (acc_store 1 rfl rfl) ?_
  refine Ev.bind ((h.D.frame _) _ _) ?_
  exact Ev.pure _

/-- Part 66 of a turn. -/
theorem k0_part66_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 2 R) (k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w2673 T) (w2690 T)) ⟨(w2705 T), (w2722 T), (w2728 T)⟩ (Env c arg13 T 2 R) := by
  rw [k0_part66_eq_skeleton]
  unfold k0_part66_skel
  dsimp only
  refine Ev.bind ((h.SD.frame _) _ _) ?_
  refine Ev.bind ((h.SD.frame _) _ _) ?_
  refine Ev.bind ((h.D.frame _) _ _) ?_
  refine Ev.bind ((h.SD.frame _) _ _) ?_
  exact Ev.pure _

/-- Part 67 of a turn. -/
theorem k0_part67_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 2 R) (k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w2464 T) (w2705 T) (w2722 T) (w2728 T)) ⟨(w2769 T), (w2770 T)⟩ (Env c arg13 T 2 R) := by
  rw [k0_part67_eq_skeleton]
  unfold k0_part67_skel
  dsimp only
  refine Ev.bind ((h.SD.frame _) _ _) ?_
  refine Ev.bind ((h.D.frame _) _ _) ?_
  refine Ev.bind ((h.SD.frame _) _ _) ?_
  refine Ev.bind ((h.SD.frame _) _ _) ?_
  refine Ev.bind (acc_load 2 rfl) ?_
  exact Ev.pure _

/-- Part 68 of a turn. -/
theorem k0_part68_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 2 R) (k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w992 T) (w2769 T) (w2770 T)) (w2809 T) (Env c arg13 T 3 R) := by
  rw [k0_part68_eq_skeleton]
  unfold k0_part68_skel
  dsimp only
  refine Ev.bind (acc_load 2 rfl) ?_
  refine Ev.bind (acc_store 2 rfl rfl) ?_
  refine Ev.bind ((h.D.frame _) _ _) ?_
  refine Ev.bind ((h.SD.frame _) _ _) ?_
  refine Ev.bind ((h.SD.frame _) _ _) ?_
  exact Ev.pure _

/-- Part 69 of a turn. -/
theorem k0_part69_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 3 R) (k0_part69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w2809 T)) ⟨(w2841 T), (w2845 T), (w2847 T)⟩ (Env c arg13 T 3 R) := by
  rw [k0_part69_eq_skeleton]
  unfold k0_part69_skel
  dsimp only
  refine Ev.bind ((h.D.frame _) _ _) ?_
  refine Ev.bind ((h.SD.frame _) _ _) ?_
  refine Ev.bind ((h.SD.frame _) _ _) ?_
  refine Ev.bind ((h.D.frame _) _ _) ?_
  exact Ev.pure _

/-- Part 70 of a turn. -/
theorem k0_part70_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 3 R) (k0_part70 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w2464 T) (w2841 T) (w2845 T) (w2847 T)) ⟨(w2881 T), (w2885 T)⟩ (Env c arg13 T 4 R) := by
  rw [k0_part70_eq_skeleton]
  unfold k0_part70_skel
  dsimp only
  refine Ev.bind ((h.SD.frame _) _ _) ?_
  refine Ev.bind ((h.SD.frame _) _ _) ?_
  refine Ev.bind (acc_load 3 rfl) ?_
  refine Ev.bind (acc_load 3 rfl) ?_
  refine Ev.bind (acc_store 3 rfl rfl) ?_
  refine Ev.bind ((h.D.frame _) _ _) ?_
  exact Ev.pure _

/-- Part 71 of a turn. -/
theorem k0_part71_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 4 R) (k0_part71 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w2881 T) (w2885 T)) ⟨(w2913 T), (w2921 T), (w2923 T), (w2924 T)⟩ (Env c arg13 T 4 R) := by
  rw [k0_part71_eq_skeleton]
  unfold k0_part71_skel
  dsimp only
  refine Ev.bind ((h.SD.frame _) _ _) ?_
  refine Ev.bind ((h.SD.frame _) _ _) ?_
  refine Ev.bind ((h.D.frame _) _ _) ?_
  exact Ev.pure _

/-- Part 72 of a turn. -/
theorem k0_part72_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 4 R) (k0_part72 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w2913 T) (w2921 T) (w2923 T) (w2924 T)) ⟨(w2945 T), (w2962 T)⟩ (Env c arg13 T 4 R) := by
  rw [k0_part72_eq_skeleton]
  unfold k0_part72_skel
  dsimp only
  refine Ev.bind ((h.SD.frame _) _ _) ?_
  refine Ev.bind ((h.SD.frame _) _ _) ?_
  refine Ev.bind ((h.D.frame _) _ _) ?_
  exact Ev.pure _

/-- Part 73 of a turn. -/
theorem k0_part73_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 4 R) (k0_part73 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w2464 T) (w2945 T) (w2962 T)) ⟨(w2985 T), (w3002 T)⟩ (Env c arg13 T 5 R) := by
  rw [k0_part73_eq_skeleton]
  unfold k0_part73_skel
  dsimp only
  refine Ev.bind ((h.SD.frame _) _ _) ?_
  refine Ev.bind ((h.SD.frame _) _ _) ?_
  refine Ev.bind (acc_load 4 rfl) ?_
  refine Ev.bind (acc_load 4 rfl) ?_
  refine Ev.bind (acc_store 4 rfl rfl) ?_
  refine Ev.bind ((h.D.frame _) _ _) ?_
  exact Ev.pure _

/-- Part 74 of a turn. -/
theorem k0_part74_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 5 R) (k0_part74 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w2985 T) (w3002 T)) ⟨(w3017 T), (w3034 T), (w3040 T)⟩ (Env c arg13 T 5 R) := by
  rw [k0_part74_eq_skeleton]
  unfold k0_part74_skel
  dsimp only
  refine Ev.bind ((h.SD.frame _) _ _) ?_
  refine Ev.bind ((h.SD.frame _) _ _) ?_
  refine Ev.bind ((h.D.frame _) _ _) ?_
  refine Ev.bind ((h.SD.frame _) _ _) ?_
  exact Ev.pure _

/-- Part 75 of a turn. -/
theorem k0_part75_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 5 R) (k0_part75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w2464 T) (w3017 T) (w3034 T) (w3040 T)) (w3081 T) (Env c arg13 T 5 R) := by
  rw [k0_part75_eq_skeleton]
  unfold k0_part75_skel
  dsimp only
  refine Ev.bind ((h.SD.frame _) _ _) ?_
  refine Ev.bind ((h.D.frame _) _ _) ?_
  refine Ev.bind ((h.SD.frame _) _ _) ?_
  refine Ev.bind ((h.SD.frame _) _ _) ?_
  exact Ev.pure _

/-- Part 76 of a turn. -/
theorem k0_part76_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 5 R) (k0_part76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w3081 T)) ⟨(w3089 T), (w3119 T)⟩ (Env c arg13 T 6 R) := by
  rw [k0_part76_eq_skeleton]
  unfold k0_part76_skel
  dsimp only
  refine Ev.bind (acc_load 5 rfl) ?_
  refine Ev.bind (acc_load 5 rfl) ?_
  refine Ev.bind (acc_store 5 rfl rfl) ?_
  refine Ev.bind ((h.D.frame _) _ _) ?_
  refine Ev.bind ((h.SD.frame _) _ _) ?_
  refine Ev.bind ((h.SD.frame _) _ _) ?_
  exact Ev.pure _

/-- Part 77 of a turn. -/
theorem k0_part77_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 6 R) (k0_part77 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w1728 T) (w3089 T) (w3119 T)) ⟨(w3153 T), (w3157 T)⟩ (Env c arg13 T 6 R) := by
  rw [k0_part77_eq_skeleton]
  unfold k0_part77_skel
  dsimp only
  refine Ev.bind ((h.D.frame _) _ _) ?_
  refine Ev.bind ((h.SD.frame _) _ _) ?_
  refine Ev.bind ((h.SD.frame _) _ _) ?_
  refine Ev.bind ((h.D.frame _) _ _) ?_
  exact Ev.pure _

/-- Part 78 of a turn. -/
theorem k0_part78_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 6 R) (k0_part78 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w2464 T) (w3153 T) (w3157 T)) (w3193 T) (Env c arg13 T 7 R) := by
  rw [k0_part78_eq_skeleton]
  unfold k0_part78_skel
  dsimp only
  refine Ev.bind ((h.SD.frame _) _ _) ?_
  refine Ev.bind ((h.SD.frame _) _ _) ?_
  refine Ev.bind (acc_load 6 rfl) ?_
  refine Ev.bind (acc_load 6 rfl) ?_
  refine Ev.bind (acc_store 6 rfl rfl) ?_
  exact Ev.pure _

/-- Part 79 of a turn. -/
theorem k0_part79_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 7 R) (k0_part79 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w3193 T)) ⟨(w3225 T), (w3229 T), (w3233 T), (w3234 T)⟩ (Env c arg13 T 7 R) := by
  rw [k0_part79_eq_skeleton]
  unfold k0_part79_skel
  dsimp only
  refine Ev.bind ((h.D.frame _) _ _) ?_
  refine Ev.bind ((h.SD.frame _) _ _) ?_
  refine Ev.bind ((h.SD.frame _) _ _) ?_
  refine Ev.bind ((h.D.frame _) _ _) ?_
  exact Ev.pure _

/-- Part 80 of a turn. -/
theorem k0_part80_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 7 R) (k0_part80 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w3225 T) (w3229 T) (w3233 T) (w3234 T)) ⟨(w3257 T), (w3274 T)⟩ (Env c arg13 T 7 R) := by
  rw [k0_part80_eq_skeleton]
  unfold k0_part80_skel
  dsimp only
  refine Ev.bind ((h.SD.frame _) _ _) ?_
  refine Ev.bind ((h.SD.frame _) _ _) ?_
  refine Ev.bind ((h.D.frame _) _ _) ?_
  exact Ev.pure _

/-- Part 81 of a turn. -/
theorem k0_part81_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 7 R) (k0_part81 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w2464 T) (w3257 T) (w3274 T)) ⟨(w3297 T), (w3313 T)⟩ (Env c arg13 T 8 R) := by
  rw [k0_part81_eq_skeleton]
  unfold k0_part81_skel
  dsimp only
  refine Ev.bind ((h.SD.frame _) _ _) ?_
  refine Ev.bind ((h.SD.frame _) _ _) ?_
  refine Ev.bind (acc_load 7 rfl) ?_
  refine Ev.bind (acc_load 7 rfl) ?_
  refine Ev.bind (acc_store 7 rfl rfl) ?_
  refine Ev.bind ((h.D.frame _) _ _) ?_
  exact Ev.pure _

/-- Part 82 of a turn. -/
theorem k0_part82_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 8 R) (k0_part82 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w3297 T) (w3313 T)) ⟨(w3329 T), (w3346 T), (w3352 T)⟩ (Env c arg13 T 8 R) := by
  rw [k0_part82_eq_skeleton]
  unfold k0_part82_skel
  dsimp only
  refine Ev.bind ((h.SD.frame _) _ _) ?_
  refine Ev.bind ((h.SD.frame _) _ _) ?_
  refine Ev.bind ((h.D.frame _) _ _) ?_
  refine Ev.bind ((h.SD.frame _) _ _) ?_
  exact Ev.pure _

/-- Part 83 of a turn. -/
theorem k0_part83_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 8 R) (k0_part83 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w3329 T) (w3346 T) (w3352 T)) ⟨(w3361 T), (w3391 T)⟩ (Env c arg13 T 8 R) := by
  rw [k0_part83_eq_skeleton]
  unfold k0_part83_skel
  dsimp only
  refine Ev.bind ((h.SD.frame _) _ _) ?_
  refine Ev.bind ((h.D.frame _) _ _) ?_
  refine Ev.bind ((h.SD.frame _) _ _) ?_
  refine Ev.bind ((h.SD.frame _) _ _) ?_
  exact Ev.pure _

/-- Part 84 of a turn. -/
theorem k0_part84_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 8 R) (k0_part84 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w2464 T) (w3361 T) (w3391 T)) ⟨(w3401 T), (w3424 T), (w3427 T), (w3428 T)⟩ (Env c arg13 T 9 R) := by
  rw [k0_part84_eq_skeleton]
  unfold k0_part84_skel
  dsimp only
  refine Ev.bind (acc_load 8 rfl) ?_
  refine Ev.bind (acc_load 8 rfl) ?_
  refine Ev.bind (acc_store 8 rfl rfl) ?_
  refine Ev.bind ((h.D.frame _) _ _) ?_
  refine Ev.bind ((h.SD.frame _) _ _) ?_
  refine Ev.bind ((h.SD.frame _) _ _) ?_
  exact Ev.pure _

/-- Part 85 of a turn. -/
theorem k0_part85_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 9 R) (k0_part85 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w1728 T) (w3401 T) (w3424 T) (w3427 T) (w3428 T)) (w3465 T) (Env c arg13 T 9 R) := by
  rw [k0_part85_eq_skeleton]
  unfold k0_part85_skel
  dsimp only
  refine Ev.bind ((h.D.frame _) _ _) ?_
  refine Ev.bind ((h.SD.frame _) _ _) ?_
  refine Ev.bind ((h.SD.frame _) _ _) ?_
  exact Ev.pure _

/-- Part 86 of a turn. -/
theorem k0_part86_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 9 R) (k0_part86 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w2464 T) (w3465 T)) (w3505 T) (Env c arg13 T 10 R) := by
  rw [k0_part86_eq_skeleton]
  unfold k0_part86_skel
  dsimp only
  refine Ev.bind ((h.D.frame _) _ _) ?_
  refine Ev.bind ((h.SD.frame _) _ _) ?_
  refine Ev.bind ((h.SD.frame _) _ _) ?_
  refine Ev.bind (acc_load 9 rfl) ?_
  refine Ev.bind (acc_load 9 rfl) ?_
  refine Ev.bind (acc_store 9 rfl rfl) ?_
  exact Ev.pure _

/-- Part 87 of a turn. -/
theorem k0_part87_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 10 R) (k0_part87 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w992 T) (w3505 T)) ⟨(w3537 T), (w3541 T), (w3543 T), (w3544 T)⟩ (Env c arg13 T 10 R) := by
  rw [k0_part87_eq_skeleton]
  unfold k0_part87_skel
  dsimp only
  refine Ev.bind ((h.D.frame _) _ _) ?_
  refine Ev.bind ((h.SD.frame _) _ _) ?_
  refine Ev.bind ((h.SD.frame _) _ _) ?_
  refine Ev.bind ((h.D.frame _) _ _) ?_
  exact Ev.pure _

/-- Part 88 of a turn. -/
theorem k0_part88_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 10 R) (k0_part88 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w1728 T) (w3537 T) (w3541 T) (w3543 T) (w3544 T)) ⟨(w3569 T), (w3585 T)⟩ (Env c arg13 T 10 R) := by
  rw [k0_part88_eq_skeleton]
  unfold k0_part88_skel
  dsimp only
  refine Ev.bind ((h.SD.frame _) _ _) ?_
  refine Ev.bind ((h.SD.frame _) _ _) ?_
  refine Ev.bind ((h.D.frame _) _ _) ?_
  exact Ev.pure _

end Cert.Kernel.Moe

end
-- ==== Proof.Turn4.lean ====
/-
  One expert's turn, its parts put together.
-/
module

public import proofs.«01_k».proof.Proof.Base
public import proofs.«01_k».proof.Proof.Gen.Kernel.Skeleton
public import proofs.«01_k».proof.Proof.Turn1
public import proofs.«01_k».proof.Proof.Turn2
public import proofs.«01_k».proof.Proof.Turn3

@[expose] public section

set_option maxRecDepth 16384
set_option pp.deepTerms false
set_option pp.maxSteps 600

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {v66 v70 v74 v78 v82 v86 v90 v94 v98 v102 v106 v110 v114 v118 v122 v126 v130 v134 v138 v142 v146 v150 v154 v158 v162 v166 v170 v174 v178 v182 v186 v190 : Elt F .i32} {k0_hw43 : k0_chk43 v66 v70 v74 v78 v82 v86 v90 v94 v98 v102 v106 v110 v114 v118 v122 v126 v130 v134 v138 v142 v146 v150 v154 v158 v162 v166 v170 v174 v178 v182 v186 v190} {k0_t2 : Fin (k0_t2_loop v66 v70 v74 v78 v82 v86 v90 v94 v98 v102 v106 v110 v114 v118 v122 v126 v130 v134 v138 v142 v146 v150 v154 v158 v162 v166 v170 v174 v178 v182 v186 v190).trips}
variable {T : In F} {R R0 : sProp (MT nD τ sig Unit (Elt F) ℕ (UU sig nD τ) ℕ)}

/-- The reads hold beside anything else. -/
theorem Lds.frame (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) (A : sProp 𝕄) : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T iprop(A ∗ R) :=
  ⟨h.I.frame A, h.Wt.frame A, h.X.frame A, h.G.frame A, h.SG.frame A, h.D.frame A, h.SD.frame A⟩

/-- The first half of the turn, given what its first part does. -/
theorem k0_part89_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R)
    (h2 : Ev (defs₀ (F := F)) Variants.none c none R0 (k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 0#32 1#32 k0_t2) ⟨Scf.iv 0#32 1#32 k0_t2, w243 T⟩ R) :
    Ev (defs₀ (F := F)) Variants.none c none R0 (k0_part89 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 0#32 1#32 k0_t2)
      ⟨Scf.iv 0#32 1#32 k0_t2, w256 T, w992 T, w1728 T, w2464 T, w2529 T, w2533 T, w2537 T⟩ R := by
  rw [k0_part89_eq_skeleton]
  unfold k0_part89_skel
  refine Ev.bind h2 ?_
  refine Ev.bind (k0_part3_ev h) ?_
  refine Ev.bind (k0_part4_ev h) ?_
  refine Ev.bind (k0_part5_ev h) ?_
  refine Ev.bind (k0_part6_ev h) ?_
  refine Ev.bind (k0_part7_ev h) ?_
  refine Ev.bind (k0_part8_ev h) ?_
  refine Ev.bind (k0_part9_ev h) ?_
  refine Ev.bind (k0_part10_ev h) ?_
  refine Ev.bind (k0_part11_ev h) ?_
  refine Ev.bind (k0_part12_ev h) ?_
  refine Ev.bind (k0_part13_ev h) ?_
  refine Ev.bind (k0_part14_ev h) ?_
  refine Ev.bind (k0_part15_ev h) ?_
  refine Ev.bind (k0_part16_ev h) ?_
  refine Ev.bind (k0_part17_ev h) ?_
  refine Ev.bind (k0_part18_ev h) ?_
  refine Ev.bind (k0_part19_ev h) ?_
  refine Ev.bind (k0_part20_ev h) ?_
  refine Ev.bind (k0_part21_ev h) ?_
  refine Ev.bind (k0_part22_ev h) ?_
  refine Ev.bind (k0_part23_ev h) ?_
  refine Ev.bind (k0_part24_ev h) ?_
  refine Ev.bind (k0_part25_ev h) ?_
  refine Ev.bind (k0_part26_ev h) ?_
  refine Ev.bind (k0_part27_ev h) ?_
  refine Ev.bind (k0_part28_ev h) ?_
  refine Ev.bind (k0_part29_ev h) ?_
  refine Ev.bind (k0_part30_ev h) ?_
  refine Ev.bind (k0_part31_ev h) ?_
  refine Ev.bind (k0_part32_ev h) ?_
  refine Ev.bind (k0_part33_ev h) ?_
  refine Ev.bind (k0_part34_ev h) ?_
  refine Ev.bind (k0_part35_ev h) ?_
  refine Ev.bind (k0_part36_ev h) ?_
  refine Ev.bind (k0_part37_ev h) ?_
  refine Ev.bind (k0_part38_ev h) ?_
  refine Ev.bind (k0_part39_ev h) ?_
  refine Ev.bind (k0_part40_ev h) ?_
  refine Ev.bind (k0_part41_ev h) ?_
  refine Ev.bind (k0_part42_ev h) ?_
  refine Ev.bind (k0_part43_ev h) ?_
  refine Ev.bind (k0_part44_ev h) ?_
  refine Ev.bind (k0_part45_ev h) ?_
  refine Ev.bind (k0_part46_ev h) ?_
  refine Ev.bind (k0_part47_ev h) ?_
  refine Ev.bind (k0_part48_ev h) ?_
  refine Ev.bind (k0_part49_ev h) ?_
  refine Ev.bind (k0_part50_ev h) ?_
  refine Ev.bind (k0_part51_ev h) ?_
  refine Ev.bind (k0_part52_ev h) ?_
  refine Ev.bind (k0_part53_ev h) ?_
  refine Ev.bind (k0_part54_ev h) ?_
  refine Ev.bind (k0_part55_ev h) ?_
  refine Ev.bind (k0_part56_ev h) ?_
  refine Ev.bind (k0_part57_ev h) ?_
  refine Ev.bind (k0_part58_ev h) ?_
  refine Ev.bind (k0_part59_ev h) ?_
  refine Ev.bind (k0_part60_ev h) ?_
  refine Ev.bind (k0_part61_ev h) ?_
  exact Ev.pure _

/-- The second half. -/
theorem k0_part90_ev (h : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 T R) :
    Ev (defs₀ (F := F)) Variants.none c none (Env c arg13 T 0 R) (k0_part90 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (w256 T) (w992 T) (w1728 T) (w2464 T) (w2529 T) (w2533 T) (w2537 T)) (w3605 T)
      (Env c arg13 T 10 R) := by
  rw [k0_part90_eq_skeleton]
  unfold k0_part90_skel
  refine Ev.bind (k0_part62_ev h) ?_
  refine Ev.bind (k0_part63_ev h) ?_
  refine Ev.bind (k0_part64_ev h) ?_
  refine Ev.bind (k0_part65_ev h) ?_
  refine Ev.bind (k0_part66_ev h) ?_
  refine Ev.bind (k0_part67_ev h) ?_
  refine Ev.bind (k0_part68_ev h) ?_
  refine Ev.bind (k0_part69_ev h) ?_
  refine Ev.bind (k0_part70_ev h) ?_
  refine Ev.bind (k0_part71_ev h) ?_
  refine Ev.bind (k0_part72_ev h) ?_
  refine Ev.bind (k0_part73_ev h) ?_
  refine Ev.bind (k0_part74_ev h) ?_
  refine Ev.bind (k0_part75_ev h) ?_
  refine Ev.bind (k0_part76_ev h) ?_
  refine Ev.bind (k0_part77_ev h) ?_
  refine Ev.bind (k0_part78_ev h) ?_
  refine Ev.bind (k0_part79_ev h) ?_
  refine Ev.bind (k0_part80_ev h) ?_
  refine Ev.bind (k0_part81_ev h) ?_
  refine Ev.bind (k0_part82_ev h) ?_
  refine Ev.bind (k0_part83_ev h) ?_
  refine Ev.bind (k0_part84_ev h) ?_
  refine Ev.bind (k0_part85_ev h) ?_
  refine Ev.bind (k0_part86_ev h) ?_
  refine Ev.bind (k0_part87_ev h) ?_
  refine Ev.bind (k0_part88_ev h) ?_
  refine Ev.bind ((h.frame _).SD _ _) ?_
  refine Ev.bind ((h.frame _).SD _ _) ?_
  refine Ev.bind (acc_load 10 rfl) ?_
  exact Ev.pure _

end Cert.Kernel.Moe

end
-- ==== Proof.Copy.lean ====
/-
  Copies of one block of a large array into a buffer, each on a semaphore of its own: started from the idle state
  (`Idle`), in flight (`Fly`), waited for (`Here`).
-/
module

public import proofs.«01_k».proof.Proof.Base

@[expose] public section

noncomputable section

namespace Cert.Moe

open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Rounds Idealize.ShloMosaic.Pipeline

variable {nD : Nat} {τ : Topo} {sig : RefSig} {Val : EltTy → Type} {Λ : Labels}

local notation "𝕄" => MT nD τ sig Unit Val ℕ (UU sig nD τ) ℕ

variable {defs : Defs nD τ sig Val Λ} {𝒱 : Variants} {c : Thread nD τ} {bd : Option 𝒱.V}
variable {sp sp' : Space} {s s' : Shape} {e : EltTy}

/-- The tensor `T` at the rectangle `r`, reshaped to `s'`. -/
def sub (T : s.Idx → Val e) (r : Rect s) (h : r.shape.Squeezes s') : s'.Idx → Val e :=
  fun j => T (r.emb (Shape.reshapeEquiv h.numel_eq j))

/-- What a reference holds, as ownership of its elements. -/
theorem holds_elim (c : Thread nD τ) (m : Memref sig c.2.kind sp s e) {q : PosShare TreeShare} {T : s.Idx → Val e} :
    (holds c m q T : sProp 𝕄) ⊢ iprop(∃ f, ⌜m.view.read Val f = T⌝ ∗ (m.view.loc c ↦[m.view.set]{q} f)) := .rfl

/-- A block of what is held, and how to put it back. -/
theorem holds_take {m : Memref sig c.2.kind sp s e} {q : PosShare TreeShare} {T : s.Idx → Val e} (r : Rect s)
    (hr : ∀ a, r.stride a = 1) (h : r.shape.Squeezes s') :
    (holds c m q T : sProp 𝕄) ⊢ iprop(holds c ((m.slice r hr).squeeze s' h) q (sub T r h)
      ∗ (holds c ((m.slice r hr).squeeze s' h) q (sub T r h) -∗ holds c m q T)) := by
  have hs : ((m.slice r hr).squeeze s' h).view.set ⊆ m.view.set := by
    show ((m.view.slice r).reshape s' h.numel_eq).set ⊆ m.view.set
    rw [View.set_reshape]
    exact View.set_slice_subset _ _
  unfold holds
  iintro ⟨%f, %hf, H⟩
  ihave ⟨H1, H2⟩ := (pointsTo_split_subset (ℓ := m.view.loc c) hs).1 $$ H
  isplitl [H1]
  · iexists f
    isplitr
    · ipureintro
      subst hf
      rfl
    · iexact H1
  · iintro ⟨%g, %hg, H1⟩
    iexists f
    isplitr
    · ipureintro; exact hf
    · iapply (pointsTo_split_subset (ℓ := m.view.loc c) hs).2
      isplitl [H1]
      · have hfg : ∀ i ∈ ((m.slice r hr).squeeze s' h).view.set, g i = f i := by
          intro i hi
          obtain ⟨x, -, rfl⟩ := Finset.mem_map.mp hi
          have h1 := congrFun hg x
          have h2 : ((m.slice r hr).squeeze s' h).view.read Val f x = sub T r h x := by subst hf; rfl
          have h3 := h1.trans h2.symm
          rw [View.read_apply, View.read_apply] at h3
          exact (cast_bijective _).1 h3
        rw [pointsTo_congr (ℓ := m.view.loc c) hfg]
        exact .rfl
      · iexact H2

/-- The waits this core has recorded. -/
def Owes (c : Thread nD τ) : sProp 𝕄 := iprop(∃ W, owes c 0 W)

/-- The buffer `dst`, its semaphore and a share of the array `src`, with no copy under way. -/
def Idle (c : Thread nD τ) (sem : DmaSem sig) (dst : Memref sig c.2.kind sp' s' e) (src : Memref sig c.2.kind sp s e)
    (q : PosShare TreeShare) (T : s.Idx → Val e) : sProp 𝕄 :=
  iprop((∃ T', holds c dst fullShare T') ∗ semVal (c, .dma sem) 0 ∗ holds c src q T)

/-- The same with the buffer holding `T'`. -/
def Here (c : Thread nD τ) (sem : DmaSem sig) (dst : Memref sig c.2.kind sp' s' e) (src : Memref sig c.2.kind sp s e)
    (q : PosShare TreeShare) (T : s.Idx → Val e) (T' : s'.Idx → Val e) : sProp 𝕄 :=
  iprop(holds c dst fullShare T' ∗ semVal (c, .dma sem) 0 ∗ holds c src q T)

/-- The same with a copy of `T'` under way. -/
def Fly (c : Thread nD τ) (sem : DmaSem sig) (dst : Memref sig c.2.kind sp' s' e) (src : Memref sig c.2.kind sp s e)
    (q : PosShare TreeShare) (T : s.Idx → Val e) (T' : s'.Idx → Val e) : sProp 𝕄 :=
  iprop(∃ D : sProp 𝕄, Flight EC c (.dma sem) () dst.view.dmaCredit D ∗ (D -∗ (holds c dst fullShare T' ∗ holds c src q T)))

/-- A copy that has arrived is one that is not in flight. -/
theorem Here.idle {sem : DmaSem sig} {dst : Memref sig c.2.kind sp' s' e} {src : Memref sig c.2.kind sp s e}
    {q : PosShare TreeShare} {T : s.Idx → Val e} {T' : s'.Idx → Val e} :
    (Here c sem dst src q T T' : sProp 𝕄) ⊢ Idle c sem dst src q T := by
  unfold Here Idle
  iintro ⟨H1, H2, H3⟩
  isplitl [H1]
  · iexists T'; iexact H1
  · isplitl [H2]
    · iexact H2
    · iexact H3

/-- Start a copy. -/
theorem ev_start {sem : DmaSem sig} {dst : Memref sig c.2.kind sp' s' e} {src : Memref sig c.2.kind sp s e}
    {q : PosShare TreeShare} {T : s.Idx → Val e} {r : Rect s} {hr : ∀ a, r.stride a = 1} {h : r.shape.Squeezes s'}
    {hsrc hdst hsem} (h0 : 0 < s'.numel) :
    Ev defs 𝒱 c bd (Idle c sem dst src q T)
      (Prog.lift (.enqueueDma ((src.slice r hr).squeeze s' h) (.here dst) (.dma sem) hsrc hdst hsem)) ⟨⟩
      (Fly c sem dst src q T (sub T r h)) := by
  unfold Ev Idle
  iintro ⟨⟨%T', Hd⟩, Hv, Hs⟩
  ihave ⟨Hs, Hb⟩ := (holds_take r hr h) $$ Hs
  ihave ⟨%fd, %hfd, Hd⟩ := (holds_elim c dst) $$ Hd
  ihave ⟨%fs, %hfs, Hs⟩ := (holds_elim c ((src.slice r hr).squeeze s' h)) $$ Hs
  iapply (wp_dmaLocal (src := (src.slice r hr).squeeze s' h) (via := .same) (dst := dst) (EC := EC) (𝒱 := 𝒱) (c := c) (bd := bd)
    () dst.view.dmaCredit rfl (View.dmaCredit_pos _ h0) (Finset.Subset.refl _)) $$ [Hd Hv Hs]
  · isplitl [Hs]
    · iexact Hs
    · isplitl [Hd]
      · iexact Hd
      · iexact Hv
  iintro HF
  sl_step
  isplitr
  · ipureintro; rfl
  · unfold Fly
    iexists _
    isplitl [HF]
    · iexact HF
    · iintro ⟨Hd, Hs⟩
      isplitl [Hd]
      · unfold holds
        iexists _
        isplitr [Hd]
        rotate_left
        · iexact Hd
        · ipureintro
          rw [← hfs]
          exact View.read_write_univ _ _
      · iapply Hb
        unfold holds
        iexists fs
        isplitr
        · ipureintro; exact hfs
        · iexact Hs

/-- Wait for a copy. -/
theorem ev_wait {sem : DmaSem sig} {dst : Memref sig c.2.kind sp' s' e} {src : Memref sig c.2.kind sp s e}
    {q : PosShare TreeShare} {T : s.Idx → Val e} {T' : s'.Idx → Val e} {spw : Space} {srcw : Memref sig c.2.kind spw s' e} {hsrc hdst} :
    Ev defs 𝒱 c bd iprop(Fly c sem dst src q T T' ∗ Owes c)
      (Prog.lift (.waitDma2 sem srcw dst hsrc hdst)) ⟨⟩
      iprop(Here c sem dst src q T T' ∗ Owes c) := by
  unfold Ev Fly Owes Here
  iintro ⟨⟨%D, HF, HD⟩, %W, HO⟩
  iapply (wp_waitLocal (EC := EC) (𝒱 := 𝒱) (c := c) (bd := bd) (srcw := srcw) (dstw := dst) () rfl (D := D) (W := W)) $$ [HF HO]
  · isplitl [HF]
    · iexact HF
    · iexact HO
  iintro ⟨Hd, Hv, HO⟩
  sl_step
  isplitr
  · ipureintro; rfl
  · isplitr [HO]
    · ihave ⟨H1, H2⟩ := HD $$ Hd
      isplitl [H1]
      · iexact H1
      · isplitl [Hv]
        · iexact Hv
        · iexact H2
    · iexists _
      iexact HO

end Cert.Moe

end
-- ==== Proof.Offs.lean ====
/-
  The offsets, bounds and conditions of the kernel's main part, given that the number of active experts is `n ≤ 32`.
-/
module

public import proofs.«01_k».proof.Proof.Gen.Kernel.Skeleton

@[expose] public section

set_option maxRecDepth 16384
set_option pp.deepTerms false
set_option pp.maxSteps 300

noncomputable section

namespace Cert.Kernel.Moe

open Cert.Kernel Cert.Kernel.Gen
open Idealize.ShloMosaic

variable {F : FTy → Type} [FloatOps F]

/-- The sum of the 32 flags. -/
def tot (v66 v70 v74 v78 v82 v86 v90 v94 v98 v102 v106 v110 v114 v118 v122 v126 v130 v134 v138 v142 v146 v150 v154 v158 v162 v166 v170 v174 v178 v182 v186 v190 : BitVec 32) : BitVec 32 :=
  Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi 0#32 v66) v70) v74) v78) v82) v86) v90) v94) v98) v102) v106) v110) v114) v118) v122) v126) v130) v134) v138) v142) v146) v150) v154) v158) v162) v166) v170) v174) v178) v182) v186) v190

/-- The sum of the 32 flags is the number `n`, at most 32. -/
structure Tot (v66 v70 v74 v78 v82 v86 v90 v94 v98 v102 v106 v110 v114 v118 v122 v126 v130 v134 v138 v142 v146 v150 v154 v158 v162 v166 v170 v174 v178 v182 v186 v190 : BitVec 32) (n : ℕ) : Prop where
  /-- the sum -/
  eq : tot v66 v70 v74 v78 v82 v86 v90 v94 v98 v102 v106 v110 v114 v118 v122 v126 v130 v134 v138 v142 v146 v150 v154 v158 v162 v166 v170 v174 v178 v182 v186 v190 = BitVec.ofNat 32 n
  /-- its bound -/
  le : n ≤ 32

variable {v66 v70 v74 v78 v82 v86 v90 v94 v98 v102 v106 v110 v114 v118 v122 v126 v130 v134 v138 v142 v146 v150 v154 v158 v162 v166 v170 v174 v178 v182 v186 v190 : BitVec 32} {n : ℕ}

/-- The loops' bounds, for a count of at most 32. -/
theorem loop_arith : ∀ n : Fin 33, Scalar.addi 0#32 (Scalar.muli (Scalar.divsi (Scalar.subi (BitVec.ofNat 32 n.val) 0#32) 1#32) 1#32)
    = BitVec.ofNat 32 n.val ∧ Scalar.addi 0#32 (Scalar.subi (BitVec.ofNat 32 n.val) 0#32) = BitVec.ofNat 32 n.val := by decide

/-- The loop's trips are the count, and its remainder has none. -/
theorem trips_arith : ∀ n : Fin 33, Scf.trips 0#32 (BitVec.ofNat 32 n.val) 1#32 = n.val ∧ Scf.OK 0#32 (BitVec.ofNat 32 n.val) 1#32
    ∧ Scf.trips (BitVec.ofNat 32 n.val) (BitVec.ofNat 32 n.val) 1#32 = 0 ∧ Scf.OK (BitVec.ofNat 32 n.val) (BitVec.ofNat 32 n.val) 1#32 := by decide

/-- The main loop runs from 0 to `n`. -/
theorem t2_eq (h : Tot v66 v70 v74 v78 v82 v86 v90 v94 v98 v102 v106 v110 v114 v118 v122 v126 v130 v134 v138 v142 v146 v150 v154 v158 v162 v166 v170 v174 v178 v182 v186 v190 n) : k0_t2_loop v66 v70 v74 v78 v82 v86 v90 v94 v98 v102 v106 v110 v114 v118 v122 v126 v130 v134 v138 v142 v146 v150 v154 v158 v162 v166 v170 v174 v178 v182 v186 v190 = ⟨0#32, BitVec.ofNat 32 n, 1#32⟩ := by
  have e : k0_t2_loop v66 v70 v74 v78 v82 v86 v90 v94 v98 v102 v106 v110 v114 v118 v122 v126 v130 v134 v138 v142 v146 v150 v154 v158 v162 v166 v170 v174 v178 v182 v186 v190
    = ⟨0#32, Scalar.addi 0#32 (Scalar.muli (Scalar.divsi (Scalar.subi (tot v66 v70 v74 v78 v82 v86 v90 v94 v98 v102 v106 v110 v114 v118 v122 v126 v130 v134 v138 v142 v146 v150 v154 v158 v162 v166 v170 v174 v178 v182 v186 v190) 0#32) 1#32) 1#32), 1#32⟩ := by simp only [k0_t2_loop, tot]
  rw [e, h.eq, (loop_arith ⟨n, Nat.lt_succ_of_le h.le⟩).1]

/-- The remainder loop runs from the count to the count. -/
theorem t3_eq (h : Tot v66 v70 v74 v78 v82 v86 v90 v94 v98 v102 v106 v110 v114 v118 v122 v126 v130 v134 v138 v142 v146 v150 v154 v158 v162 v166 v170 v174 v178 v182 v186 v190 n) : k0_t3_loop v66 v70 v74 v78 v82 v86 v90 v94 v98 v102 v106 v110 v114 v118 v122 v126 v130 v134 v138 v142 v146 v150 v154 v158 v162 v166 v170 v174 v178 v182 v186 v190 = ⟨BitVec.ofNat 32 n, BitVec.ofNat 32 n, 1#32⟩ := by
  have e : k0_t3_loop v66 v70 v74 v78 v82 v86 v90 v94 v98 v102 v106 v110 v114 v118 v122 v126 v130 v134 v138 v142 v146 v150 v154 v158 v162 v166 v170 v174 v178 v182 v186 v190
    = ⟨Scalar.addi 0#32 (Scalar.muli (Scalar.divsi (Scalar.subi (tot v66 v70 v74 v78 v82 v86 v90 v94 v98 v102 v106 v110 v114 v118 v122 v126 v130 v134 v138 v142 v146 v150 v154 v158 v162 v166 v170 v174 v178 v182 v186 v190) 0#32) 1#32) 1#32),
       Scalar.addi 0#32 (Scalar.subi (tot v66 v70 v74 v78 v82 v86 v90 v94 v98 v102 v106 v110 v114 v118 v122 v126 v130 v134 v138 v142 v146 v150 v154 v158 v162 v166 v170 v174 v178 v182 v186 v190) 0#32), 1#32⟩ := by simp only [k0_t3_loop, tot]
  rw [e, h.eq, (loop_arith ⟨n, Nat.lt_succ_of_le h.le⟩).1, (loop_arith ⟨n, Nat.lt_succ_of_le h.le⟩).2]

/-- It makes `n` trips. -/
theorem t2_trips (h : Tot v66 v70 v74 v78 v82 v86 v90 v94 v98 v102 v106 v110 v114 v118 v122 v126 v130 v134 v138 v142 v146 v150 v154 v158 v162 v166 v170 v174 v178 v182 v186 v190 n) : (k0_t2_loop v66 v70 v74 v78 v82 v86 v90 v94 v98 v102 v106 v110 v114 v118 v122 v126 v130 v134 v138 v142 v146 v150 v154 v158 v162 v166 v170 v174 v178 v182 v186 v190).trips = n := by
  rw [t2_eq h]; exact (trips_arith ⟨n, Nat.lt_succ_of_le h.le⟩).1

/-- The remainder loop makes none. -/
theorem t3_trips (h : Tot v66 v70 v74 v78 v82 v86 v90 v94 v98 v102 v106 v110 v114 v118 v122 v126 v130 v134 v138 v142 v146 v150 v154 v158 v162 v166 v170 v174 v178 v182 v186 v190 n) : (k0_t3_loop v66 v70 v74 v78 v82 v86 v90 v94 v98 v102 v106 v110 v114 v118 v122 v126 v130 v134 v138 v142 v146 v150 v154 v158 v162 v166 v170 v174 v178 v182 v186 v190).trips = 0 := by
  rw [t3_eq h]; exact (trips_arith ⟨n, Nat.lt_succ_of_le h.le⟩).2.2.1

/-- The loop over the experts is well formed. -/
theorem t2_ok (h : Tot v66 v70 v74 v78 v82 v86 v90 v94 v98 v102 v106 v110 v114 v118 v122 v126 v130 v134 v138 v142 v146 v150 v154 v158 v162 v166 v170 v174 v178 v182 v186 v190 n) : (k0_t2_loop v66 v70 v74 v78 v82 v86 v90 v94 v98 v102 v106 v110 v114 v118 v122 v126 v130 v134 v138 v142 v146 v150 v154 v158 v162 v166 v170 v174 v178 v182 v186 v190).OK := by
  rw [t2_eq h]; exact (trips_arith ⟨n, Nat.lt_succ_of_le h.le⟩).2.1

/-- The remainder loop is well formed. -/
theorem t3_ok (h : Tot v66 v70 v74 v78 v82 v86 v90 v94 v98 v102 v106 v110 v114 v118 v122 v126 v130 v134 v138 v142 v146 v150 v154 v158 v162 v166 v170 v174 v178 v182 v186 v190 n) : (k0_t3_loop v66 v70 v74 v78 v82 v86 v90 v94 v98 v102 v106 v110 v114 v118 v122 v126 v130 v134 v138 v142 v146 v150 v154 v158 v162 v166 v170 v174 v178 v182 v186 v190).OK := by
  rw [t3_eq h]; exact (trips_arith ⟨n, Nat.lt_succ_of_le h.le⟩).2.2.2

/-- A turn is below the count. -/
theorem t2_lt (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : t.val < n := by
  exact t.isLt.trans_eq (t2_trips h)

/-- A turn is below 32. -/
theorem t2_lt32 (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : t.val < 32 := Nat.lt_of_lt_of_le (t2_lt h t) h.le

/-- The remainder loop has no turn. -/
theorem t3_no (h : Tot v66 v70 v74 v78 v82 v86 v90 v94 v98 v102 v106 v110 v114 v118 v122 v126 v130 v134 v138 v142 v146 v150 v154 v158 v162 v166 v170 v174 v178 v182 v186 v190 n) (t : Fin (k0_t3_loop v66 v70 v74 v78 v82 v86 v90 v94 v98 v102 v106 v110 v114 v118 v122 v126 v130 v134 v138 v142 v146 v150 v154 v158 v162 v166 v170 v174 v178 v182 v186 v190).trips) : False := by
  exact Nat.not_lt_zero _ (t.isLt.trans_eq (t3_trips h))

/-- A turn's slot and its place in the list. -/
theorem iv_arith : ∀ t : Fin 32, (Scalar.remsi (Scf.iv 0#32 1#32 t.val) 3#32).toNat = t.val % 3
    ∧ (Scalar.indexCast (Scf.iv 0#32 1#32 t.val)).toNat = t.val
    ∧ (Scalar.indexCast (Scalar.addi (Scf.iv 0#32 1#32 t.val) 3#32)).toNat = t.val + 3 := by decide

/-- A truth value as a word. -/
abbrev cx (b : BitVec 1) : BitVec 32 := Scalar.extui b

/-- When a turn starts the copies of the turn three later. -/
theorem cond4_arith : ∀ (t : Fin 32) (n : Fin 33), (Scalar.cmpi .ne (cx (Scalar.cmpi .slt (Scalar.addi (Scf.iv 0#32 1#32 t.val) 3#32) (BitVec.ofNat 32 n.val))) 0#32 = 1#1)
    ↔ t.val + 3 < n.val := by decide +kernel

/-- When a slot is filled before the loop. -/
theorem condk_arith : ∀ (k : Fin 3) (n : Fin 33), (Scalar.cmpi .ne (cx (Scalar.cmpi .sgt (BitVec.ofNat 32 n.val) (BitVec.ofNat 32 k.val))) 0#32 = 1#1)
    ↔ k.val < n.val := by decide +kernel

/-- The refill is made while a third expert on remains. -/
theorem cond4_iff (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_cond4 v66 v70 v74 v78 v82 v86 v90 v94 v98 v102 v106 v110 v114 v118 v122 v126 v130 v134 v138 v142 v146 v150 v154 v158 v162 v166 v170 v174 v178 v182 v186 v190 t = 1#1 ↔ t.val + 3 < n := by
  have e : k0_cond4 v66 v70 v74 v78 v82 v86 v90 v94 v98 v102 v106 v110 v114 v118 v122 v126 v130 v134 v138 v142 v146 v150 v154 v158 v162 v166 v170 v174 v178 v182 v186 v190 t = Scalar.cmpi .ne (cx (Scalar.cmpi .slt (Scalar.addi (Scf.iv 0#32 1#32 t.val) 3#32) (tot v66 v70 v74 v78 v82 v86 v90 v94 v98 v102 v106 v110 v114 v118 v122 v126 v130 v134 v138 v142 v146 v150 v154 v158 v162 v166 v170 v174 v178 v182 v186 v190))) 0#32 := by simp only [k0_cond4, cx, tot]
  rw [e, h.eq]; exact cond4_arith ⟨t.val, t2_lt32 h t⟩ ⟨n, Nat.lt_succ_of_le h.le⟩

/-- When condition 1 holds, by the number of experts named. -/
theorem cond1_iff (h : Tot v66 v70 v74 v78 v82 v86 v90 v94 v98 v102 v106 v110 v114 v118 v122 v126 v130 v134 v138 v142 v146 v150 v154 v158 v162 v166 v170 v174 v178 v182 v186 v190 n) : k0_cond1 v66 v70 v74 v78 v82 v86 v90 v94 v98 v102 v106 v110 v114 v118 v122 v126 v130 v134 v138 v142 v146 v150 v154 v158 v162 v166 v170 v174 v178 v182 v186 v190 = 1#1 ↔ 0 < n := by
  have e : k0_cond1 v66 v70 v74 v78 v82 v86 v90 v94 v98 v102 v106 v110 v114 v118 v122 v126 v130 v134 v138 v142 v146 v150 v154 v158 v162 v166 v170 v174 v178 v182 v186 v190 = Scalar.cmpi .ne (cx (Scalar.cmpi .sgt (tot v66 v70 v74 v78 v82 v86 v90 v94 v98 v102 v106 v110 v114 v118 v122 v126 v130 v134 v138 v142 v146 v150 v154 v158 v162 v166 v170 v174 v178 v182 v186 v190) 0#32)) 0#32 := by simp only [k0_cond1, cx, tot]
  rw [e, h.eq]; exact condk_arith 0 ⟨n, Nat.lt_succ_of_le h.le⟩

/-- When condition 2 holds, by the number of experts named. -/
theorem cond2_iff (h : Tot v66 v70 v74 v78 v82 v86 v90 v94 v98 v102 v106 v110 v114 v118 v122 v126 v130 v134 v138 v142 v146 v150 v154 v158 v162 v166 v170 v174 v178 v182 v186 v190 n) : k0_cond2 v66 v70 v74 v78 v82 v86 v90 v94 v98 v102 v106 v110 v114 v118 v122 v126 v130 v134 v138 v142 v146 v150 v154 v158 v162 v166 v170 v174 v178 v182 v186 v190 = 1#1 ↔ 1 < n := by
  have e : k0_cond2 v66 v70 v74 v78 v82 v86 v90 v94 v98 v102 v106 v110 v114 v118 v122 v126 v130 v134 v138 v142 v146 v150 v154 v158 v162 v166 v170 v174 v178 v182 v186 v190 = Scalar.cmpi .ne (cx (Scalar.cmpi .sgt (tot v66 v70 v74 v78 v82 v86 v90 v94 v98 v102 v106 v110 v114 v118 v122 v126 v130 v134 v138 v142 v146 v150 v154 v158 v162 v166 v170 v174 v178 v182 v186 v190) 1#32)) 0#32 := by simp only [k0_cond2, cx, tot]
  rw [e, h.eq]; exact condk_arith 1 ⟨n, Nat.lt_succ_of_le h.le⟩

/-- When condition 3 holds, by the number of experts named. -/
theorem cond3_iff (h : Tot v66 v70 v74 v78 v82 v86 v90 v94 v98 v102 v106 v110 v114 v118 v122 v126 v130 v134 v138 v142 v146 v150 v154 v158 v162 v166 v170 v174 v178 v182 v186 v190 n) : k0_cond3 v66 v70 v74 v78 v82 v86 v90 v94 v98 v102 v106 v110 v114 v118 v122 v126 v130 v134 v138 v142 v146 v150 v154 v158 v162 v166 v170 v174 v178 v182 v186 v190 = 1#1 ↔ 2 < n := by
  have e : k0_cond3 v66 v70 v74 v78 v82 v86 v90 v94 v98 v102 v106 v110 v114 v118 v122 v126 v130 v134 v138 v142 v146 v150 v154 v158 v162 v166 v170 v174 v178 v182 v186 v190 = Scalar.cmpi .ne (cx (Scalar.cmpi .sgt (tot v66 v70 v74 v78 v82 v86 v90 v94 v98 v102 v106 v110 v114 v118 v122 v126 v130 v134 v138 v142 v146 v150 v154 v158 v162 v166 v170 v174 v178 v182 v186 v190) 2#32)) 0#32 := by simp only [k0_cond3, cx, tot]
  rw [e, h.eq]; exact condk_arith 2 ⟨n, Nat.lt_succ_of_le h.le⟩

/-- A slot lies within scratch 9. -/
theorem inb9 : ∀ s : Fin 3, ∀ a, (![s.val, 0, 0] : Fin 3 → ℕ) a + S1x1408x1536.size a ≤ S3x1408x1536.size a := by decide

/-- An expert lies within the array copied to scratch 9. -/
theorem inbs9 : ∀ s : Fin 32, ∀ a, (![s.val, 0, 0] : Fin 3 → ℕ) a + S1x1408x1536.size a ≤ S32x1408x1536.size a := by decide

/-- A slot of scratch 9 is made of whole words. -/
theorem ww9 : ∀ s : Fin 3, (Rect.unit (s := S3x1408x1536) ![s.val, 0, 0] S1x1408x1536.size (inb9 s)).WholeWords (EltTy.packing .i8) := by decide

/-- An expert of the array copied to scratch 9 is made of whole words. -/
theorem wws9 : ∀ s : Fin 32, (Rect.unit (s := S32x1408x1536) ![s.val, 0, 0] S1x1408x1536.size (inbs9 s)).WholeWords (EltTy.packing .i8) := by decide

/-- A slot lies within scratch 10. -/
theorem inb10 : ∀ s : Fin 3, ∀ a, (![s.val, 0, 0] : Fin 3 → ℕ) a + S1x22x1536.size a ≤ S3x22x1536.size a := by decide

/-- An expert lies within the array copied to scratch 10. -/
theorem inbs10 : ∀ s : Fin 32, ∀ a, (![s.val, 0, 0] : Fin 3 → ℕ) a + S1x22x1536.size a ≤ S32x22x1536.size a := by decide

/-- A slot of scratch 10 is made of whole words. -/
theorem ww10 : ∀ s : Fin 3, (Rect.unit (s := S3x22x1536) ![s.val, 0, 0] S1x22x1536.size (inb10 s)).WholeWords (EltTy.packing .bf16) := by decide

/-- An expert of the array copied to scratch 10 is made of whole words. -/
theorem wws10 : ∀ s : Fin 32, (Rect.unit (s := S32x22x1536) ![s.val, 0, 0] S1x22x1536.size (inbs10 s)).WholeWords (EltTy.packing .bf16) := by decide

/-- A slot lies within scratch 11. -/
theorem inb11 : ∀ s : Fin 3, ∀ a, (![s.val, 0, 0] : Fin 3 → ℕ) a + S1x384x2816.size a ≤ S3x384x2816.size a := by decide

/-- An expert lies within the array copied to scratch 11. -/
theorem inbs11 : ∀ s : Fin 32, ∀ a, (![s.val, 0, 0] : Fin 3 → ℕ) a + S1x384x2816.size a ≤ S32x384x2816.size a := by decide

/-- A slot of scratch 11 is made of whole words. -/
theorem ww11 : ∀ s : Fin 3, (Rect.unit (s := S3x384x2816) ![s.val, 0, 0] S1x384x2816.size (inb11 s)).WholeWords (EltTy.packing .i8) := by decide

/-- An expert of the array copied to scratch 11 is made of whole words. -/
theorem wws11 : ∀ s : Fin 32, (Rect.unit (s := S32x384x2816) ![s.val, 0, 0] S1x384x2816.size (inbs11 s)).WholeWords (EltTy.packing .i8) := by decide

/-- A slot lies within scratch 12. -/
theorem inb12 : ∀ s : Fin 3, ∀ a, (![s.val, 0, 0] : Fin 3 → ℕ) a + S1x6x2816.size a ≤ S3x6x2816.size a := by decide

/-- An expert lies within the array copied to scratch 12. -/
theorem inbs12 : ∀ s : Fin 32, ∀ a, (![s.val, 0, 0] : Fin 3 → ℕ) a + S1x6x2816.size a ≤ S32x6x2816.size a := by decide

/-- A slot of scratch 12 is made of whole words. -/
theorem ww12 : ∀ s : Fin 3, (Rect.unit (s := S3x6x2816) ![s.val, 0, 0] S1x6x2816.size (inb12 s)).WholeWords (EltTy.packing .bf16) := by decide

/-- An expert of the array copied to scratch 12 is made of whole words. -/
theorem wws12 : ∀ s : Fin 32, (Rect.unit (s := S32x6x2816) ![s.val, 0, 0] S1x6x2816.size (inbs12 s)).WholeWords (EltTy.packing .bf16) := by decide

/-- A semaphore's place lies within their array. -/
theorem inbq : ∀ (i : Fin 4) (s : Fin 3), ∀ a, (![i.val, s.val] : Fin 2 → ℕ) a + S1x1.size a ≤ S4x3.size a := by decide

/-- A word's place lies within scalar memory. -/
theorem inbl {k : ℕ} (h : k < 65) : ∀ a, (![k] : Fin 1 → ℕ) a + S1.size a ≤ S65.size a := by
  intro a; obtain rfl : a = 0 := Subsingleton.elim _ _; show k + 1 ≤ 65; omega

/-- Offset 61 by its place. -/
theorem off61_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off61 v66 v70 v74 v78 v82 v86 v90 v94 v98 v102 v106 v110 v114 v118 v122 v126 v130 v134 v138 v142 v146 v150 v154 v158 v162 v166 v170 v174 v178 v182 v186 v190 t = ![0, t.val % 3] := by
  show ![0, (Scalar.remsi (Scf.iv 0#32 1#32 t.val) 3#32).toNat] = _
  rw [(iv_arith ⟨t.val, t2_lt32 h t⟩).1]

/-- Offset 64 by its place. -/
theorem off64_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off64 v66 v70 v74 v78 v82 v86 v90 v94 v98 v102 v106 v110 v114 v118 v122 v126 v130 v134 v138 v142 v146 v150 v154 v158 v162 v166 v170 v174 v178 v182 v186 v190 t = ![1, t.val % 3] := by
  show ![1, (Scalar.remsi (Scf.iv 0#32 1#32 t.val) 3#32).toNat] = _
  rw [(iv_arith ⟨t.val, t2_lt32 h t⟩).1]

/-- Offset 67 by its place. -/
theorem off67_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off67 v66 v70 v74 v78 v82 v86 v90 v94 v98 v102 v106 v110 v114 v118 v122 v126 v130 v134 v138 v142 v146 v150 v154 v158 v162 v166 v170 v174 v178 v182 v186 v190 t = ![2, t.val % 3] := by
  show ![2, (Scalar.remsi (Scf.iv 0#32 1#32 t.val) 3#32).toNat] = _
  rw [(iv_arith ⟨t.val, t2_lt32 h t⟩).1]

/-- Offset 70 by its place. -/
theorem off70_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off70 v66 v70 v74 v78 v82 v86 v90 v94 v98 v102 v106 v110 v114 v118 v122 v126 v130 v134 v138 v142 v146 v150 v154 v158 v162 v166 v170 v174 v178 v182 v186 v190 t = ![3, t.val % 3] := by
  show ![3, (Scalar.remsi (Scf.iv 0#32 1#32 t.val) 3#32).toNat] = _
  rw [(iv_arith ⟨t.val, t2_lt32 h t⟩).1]

/-- Offset 75 by its place. -/
theorem off75_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off75 v66 v70 v74 v78 v82 v86 v90 v94 v98 v102 v106 v110 v114 v118 v122 v126 v130 v134 v138 v142 v146 v150 v154 v158 v162 v166 v170 v174 v178 v182 v186 v190 t = ![0, t.val % 3] := by
  show ![0, (Scalar.remsi (Scf.iv 0#32 1#32 t.val) 3#32).toNat] = _
  rw [(iv_arith ⟨t.val, t2_lt32 h t⟩).1]

/-- Offset 78 by its place. -/
theorem off78_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off78 v66 v70 v74 v78 v82 v86 v90 v94 v98 v102 v106 v110 v114 v118 v122 v126 v130 v134 v138 v142 v146 v150 v154 v158 v162 v166 v170 v174 v178 v182 v186 v190 t = ![1, t.val % 3] := by
  show ![1, (Scalar.remsi (Scf.iv 0#32 1#32 t.val) 3#32).toNat] = _
  rw [(iv_arith ⟨t.val, t2_lt32 h t⟩).1]

/-- Offset 81 by its place. -/
theorem off81_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off81 v66 v70 v74 v78 v82 v86 v90 v94 v98 v102 v106 v110 v114 v118 v122 v126 v130 v134 v138 v142 v146 v150 v154 v158 v162 v166 v170 v174 v178 v182 v186 v190 t = ![2, t.val % 3] := by
  show ![2, (Scalar.remsi (Scf.iv 0#32 1#32 t.val) 3#32).toNat] = _
  rw [(iv_arith ⟨t.val, t2_lt32 h t⟩).1]

/-- Offset 84 by its place. -/
theorem off84_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off84 v66 v70 v74 v78 v82 v86 v90 v94 v98 v102 v106 v110 v114 v118 v122 v126 v130 v134 v138 v142 v146 v150 v154 v158 v162 v166 v170 v174 v178 v182 v186 v190 t = ![3, t.val % 3] := by
  show ![3, (Scalar.remsi (Scf.iv 0#32 1#32 t.val) 3#32).toNat] = _
  rw [(iv_arith ⟨t.val, t2_lt32 h t⟩).1]

/-- Offset 62 by its place. -/
theorem off62_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off62 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 65 by its place. -/
theorem off65_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off65 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 68 by its place. -/
theorem off68_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off68 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 71 by its place. -/
theorem off71_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off71 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 73 by its place. -/
theorem off73_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off73 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 76 by its place. -/
theorem off76_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off76 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 79 by its place. -/
theorem off79_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off79 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 82 by its place. -/
theorem off82_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off82 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 85 by its place. -/
theorem off85_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off85 v66 v70 v74 v78 v82 v86 v90 v94 v98 v102 v106 v110 v114 v118 v122 v126 v130 v134 v138 v142 v146 v150 v154 v158 v162 v166 v170 v174 v178 v182 v186 v190 t = ![t.val % 3, 0, 0] := by
  show ![(Scalar.remsi (Scf.iv 0#32 1#32 t.val) 3#32).toNat, 0, 0] = _
  rw [(iv_arith ⟨t.val, t2_lt32 h t⟩).1]

/-- Offset 60 by its place. -/
theorem off60_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off60 v66 v70 v74 v78 v82 v86 v90 v94 v98 v102 v106 v110 v114 v118 v122 v126 v130 v134 v138 v142 v146 v150 v154 v158 v162 v166 v170 v174 v178 v182 v186 v190 t = ![t.val] := by
  show ![(Scalar.indexCast (Scf.iv 0#32 1#32 t.val)).toNat] = _
  rw [(iv_arith ⟨t.val, t2_lt32 h t⟩).2.1]

/-- Offset 74 by its place. -/
theorem off74_eq (h : Tot v66 v70 v74 v78 v82 v86 v90 v94 v98 v102 v106 v110 v114 v118 v122 v126 v130 v134 v138 v142 v146 v150 v154 v158 v162 v166 v170 v174 v178 v182 v186 v190 n) (t : Fin (k0_t2_loop v66 v70 v74 v78 v82 v86 v90 v94 v98 v102 v106 v110 v114 v118 v122 v126 v130 v134 v138 v142 v146 v150 v154 v158 v162 v166 v170 v174 v178 v182 v186 v190).trips) : k0_off74 v66 v70 v74 v78 v82 v86 v90 v94 v98 v102 v106 v110 v114 v118 v122 v126 v130 v134 v138 v142 v146 v150 v154 v158 v162 v166 v170 v174 v178 v182 v186 v190 t = ![t.val + 3] := by
  show ![(Scalar.indexCast (Scalar.addi (Scf.iv 0#32 1#32 t.val) 3#32)).toNat] = _
  rw [(iv_arith ⟨t.val, t2_lt32 h t⟩).2.2]

/-- The slot of the turn `t`. -/
def slotOf (t : ℕ) : Fin 3 := ⟨t % 3, Nat.mod_lt _ (by decide)⟩

/-- Bounds check 43_0 passes. -/
theorem chk43_0 (h : Tot v66 v70 v74 v78 v82 v86 v90 v94 v98 v102 v106 v110 v114 v118 v122 v126 v130 v134 v138 v142 v146 v150 v154 v158 v162 v166 v170 v174 v178 v182 v186 v190 n) : k0_chk43_0 v66 v70 v74 v78 v82 v86 v90 v94 v98 v102 v106 v110 v114 v118 v122 v126 v130 v134 v138 v142 v146 v150 v154 v158 v162 v166 v170 v174 v178 v182 v186 v190 := by
  unfold k0_chk43_0
  refine ⟨?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_⟩
  · exact t2_ok h
  · exact fun t => by
      rw [off60_eq h t]; exact inbl (by have := t2_lt32 h t; omega)
  · exact fun t => by
      rw [off61_eq h t]; exact inbq 0 (slotOf t)
  · exact fun t => by
      rw [off62_eq h t]; exact inb9 (slotOf t)
  · exact fun t hinb => by
      revert hinb; rw [off62_eq h t]; exact fun _ => ww9 (slotOf t)
  · exact fun t => by
      rw [off64_eq h t]; exact inbq 1 (slotOf t)
  · exact fun t => by
      rw [off65_eq h t]; exact inb10 (slotOf t)
  · exact fun t hinb => by
      revert hinb; rw [off65_eq h t]; exact fun _ => ww10 (slotOf t)
  · exact fun t => by
      rw [off67_eq h t]; exact inbq 2 (slotOf t)
  · exact fun t => by
      rw [off68_eq h t]; exact inb11 (slotOf t)
  · exact fun t hinb => by
      revert hinb; rw [off68_eq h t]; exact fun _ => ww11 (slotOf t)
  · exact fun t => by
      rw [off70_eq h t]; exact inbq 3 (slotOf t)
  · exact fun t => by
      rw [off71_eq h t]; exact inb12 (slotOf t)
  · exact fun t hinb => by
      revert hinb; rw [off71_eq h t]; exact fun _ => ww12 (slotOf t)
  · exact fun t => by
      rw [off73_eq h t]; exact inb9 (slotOf t)
  · exact fun t h4 => by
      rw [off74_eq h t]; exact inbl (by have := t2_lt32 h t; omega)
  · exact fun t h4 => by
      rw [off75_eq h t]; exact inbq 0 (slotOf t)
  · exact fun t h4 => by
      rw [off76_eq h t]; exact inb9 (slotOf t)
  · exact fun t h4 hinb => by
      revert hinb; rw [off76_eq h t]; exact fun _ => ww9 (slotOf t)
  · exact fun t h4 => by
      rw [off78_eq h t]; exact inbq 1 (slotOf t)
  · exact fun t h4 => by
      rw [off79_eq h t]; exact inb10 (slotOf t)
  · exact fun t h4 hinb => by
      revert hinb; rw [off79_eq h t]; exact fun _ => ww10 (slotOf t)
  · exact fun t h4 => by
      rw [off81_eq h t]; exact inbq 2 (slotOf t)
  · exact fun t h4 => by
      rw [off82_eq h t]; exact inb11 (slotOf t)
  · exact fun t h4 hinb => by
      revert hinb; rw [off82_eq h t]; exact fun _ => ww11 (slotOf t)
  · exact fun t h4 => by
      rw [off84_eq h t]; exact inbq 3 (slotOf t)
  · exact fun t h4 => by
      rw [off85_eq h t]; exact inb12 (slotOf t)
  · exact fun t h4 hinb => by
      revert hinb; rw [off85_eq h t]; exact fun _ => ww12 (slotOf t)
  · exact t3_ok h
  · exact fun t => (t3_no h t).elim
  · exact fun t => (t3_no h t).elim
  · exact fun t => (t3_no h t).elim

/-- Bounds check 43_1 passes. -/
theorem chk43_1 (h : Tot v66 v70 v74 v78 v82 v86 v90 v94 v98 v102 v106 v110 v114 v118 v122 v126 v130 v134 v138 v142 v146 v150 v154 v158 v162 v166 v170 v174 v178 v182 v186 v190 n) : k0_chk43_1 v66 v70 v74 v78 v82 v86 v90 v94 v98 v102 v106 v110 v114 v118 v122 v126 v130 v134 v138 v142 v146 v150 v154 v158 v162 v166 v170 v174 v178 v182 v186 v190 := by
  unfold k0_chk43_1
  refine ⟨?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_,
   ?_⟩
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim
  · exact fun t => (t3_no h t).elim

/-- Every access of the main part is in bounds. -/
theorem chk43 (h : Tot v66 v70 v74 v78 v82 v86 v90 v94 v98 v102 v106 v110 v114 v118 v122 v126 v130 v134 v138 v142 v146 v150 v154 v158 v162 v166 v170 v174 v178 v182 v186 v190 n) : k0_chk43 v66 v70 v74 v78 v82 v86 v90 v94 v98 v102 v106 v110 v114 v118 v122 v126 v130 v134 v138 v142 v146 v150 v154 v158 v162 v166 v170 v174 v178 v182 v186 v190 := by
  unfold k0_chk43
  exact ⟨chk43_0 h, chk43_1 h⟩

/-- Bounds check 40 passes. -/
theorem chk40 {v : BitVec 32} (hv : v.toNat < 32) : k0_chk40 v66 v70 v74 v78 v82 v86 v90 v94 v98 v102 v106 v110 v114 v118 v122 v126 v130 v134 v138 v142 v146 v150 v154 v158 v162 v166 v170 v174 v178 v182 v186 v190 v := by
  unfold k0_chk40
  refine ⟨?_, ?_, ?_, ?_, ?_, ?_, ?_, ?_⟩
  · exact fun _ => inbs9 ⟨v.toNat, hv⟩
  · exact fun _ _ => wws9 ⟨v.toNat, hv⟩
  · exact fun _ => inbs10 ⟨v.toNat, hv⟩
  · exact fun _ _ => wws10 ⟨v.toNat, hv⟩
  · exact fun _ => inbs11 ⟨v.toNat, hv⟩
  · exact fun _ _ => wws11 ⟨v.toNat, hv⟩
  · exact fun _ => inbs12 ⟨v.toNat, hv⟩
  · exact fun _ _ => wws12 ⟨v.toNat, hv⟩

/-- Bounds check 41 passes. -/
theorem chk41 {v : BitVec 32} (hv : v.toNat < 32) : k0_chk41 v66 v70 v74 v78 v82 v86 v90 v94 v98 v102 v106 v110 v114 v118 v122 v126 v130 v134 v138 v142 v146 v150 v154 v158 v162 v166 v170 v174 v178 v182 v186 v190 v := by
  unfold k0_chk41
  refine ⟨?_, ?_, ?_, ?_, ?_, ?_, ?_, ?_⟩
  · exact fun _ => inbs9 ⟨v.toNat, hv⟩
  · exact fun _ _ => wws9 ⟨v.toNat, hv⟩
  · exact fun _ => inbs10 ⟨v.toNat, hv⟩
  · exact fun _ _ => wws10 ⟨v.toNat, hv⟩
  · exact fun _ => inbs11 ⟨v.toNat, hv⟩
  · exact fun _ _ => wws11 ⟨v.toNat, hv⟩
  · exact fun _ => inbs12 ⟨v.toNat, hv⟩
  · exact fun _ _ => wws12 ⟨v.toNat, hv⟩

/-- Bounds check 42 passes. -/
theorem chk42 {v : BitVec 32} (hv : v.toNat < 32) : k0_chk42 v66 v70 v74 v78 v82 v86 v90 v94 v98 v102 v106 v110 v114 v118 v122 v126 v130 v134 v138 v142 v146 v150 v154 v158 v162 v166 v170 v174 v178 v182 v186 v190 v := by
  unfold k0_chk42
  refine ⟨?_, ?_, ?_, ?_, ?_, ?_, ?_, ?_⟩
  · exact fun _ => inbs9 ⟨v.toNat, hv⟩
  · exact fun _ _ => wws9 ⟨v.toNat, hv⟩
  · exact fun _ => inbs10 ⟨v.toNat, hv⟩
  · exact fun _ _ => wws10 ⟨v.toNat, hv⟩
  · exact fun _ => inbs11 ⟨v.toNat, hv⟩
  · exact fun _ _ => wws11 ⟨v.toNat, hv⟩
  · exact fun _ => inbs12 ⟨v.toNat, hv⟩
  · exact fun _ _ => wws12 ⟨v.toNat, hv⟩

/-- Bounds check 44 passes. -/
theorem chk44 {v : BitVec 32} (hv : v.toNat < 32) : k0_chk44 v := by
  unfold k0_chk44
  refine ⟨?_, ?_, ?_, ?_, ?_, ?_, ?_, ?_⟩
  · exact inbs9 ⟨v.toNat, hv⟩
  · exact fun _ => wws9 ⟨v.toNat, hv⟩
  · exact inbs10 ⟨v.toNat, hv⟩
  · exact fun _ => wws10 ⟨v.toNat, hv⟩
  · exact inbs11 ⟨v.toNat, hv⟩
  · exact fun _ => wws11 ⟨v.toNat, hv⟩
  · exact inbs12 ⟨v.toNat, hv⟩
  · exact fun _ => wws12 ⟨v.toNat, hv⟩

/-- Bounds check 45 passes. -/
theorem chk45 {v : BitVec 32} (hv : v.toNat < 32) (t : Fin (k0_t2_loop v66 v70 v74 v78 v82 v86 v90 v94 v98 v102 v106 v110 v114 v118 v122 v126 v130 v134 v138 v142 v146 v150 v154 v158 v162 v166 v170 v174 v178 v182 v186 v190).trips) : k0_chk45 v66 v70 v74 v78 v82 v86 v90 v94 v98 v102 v106 v110 v114 v118 v122 v126 v130 v134 v138 v142 v146 v150 v154 v158 v162 v166 v170 v174 v178 v182 v186 v190 t v := by
  unfold k0_chk45
  refine ⟨?_, ?_, ?_, ?_, ?_, ?_, ?_, ?_⟩
  · exact fun _ => inbs9 ⟨v.toNat, hv⟩
  · exact fun _ _ => wws9 ⟨v.toNat, hv⟩
  · exact fun _ => inbs10 ⟨v.toNat, hv⟩
  · exact fun _ _ => wws10 ⟨v.toNat, hv⟩
  · exact fun _ => inbs11 ⟨v.toNat, hv⟩
  · exact fun _ _ => wws11 ⟨v.toNat, hv⟩
  · exact fun _ => inbs12 ⟨v.toNat, hv⟩
  · exact fun _ _ => wws12 ⟨v.toNat, hv⟩

end Cert.Kernel.Moe

end
-- ==== Proof.Ring.lean ====
/-
  The three-slot ring of weight blocks: four copies per slot, each on a semaphore of its own.
-/
module

public import proofs.«01_k».proof.Proof.Copy
public import proofs.«01_k».proof.Proof.Offs

@[expose] public section

set_option maxRecDepth 16384

noncomputable section

namespace Cert.Kernel.Moe

open Cert.Kernel Cert.Kernel.Gen Cert.Moe
open Idealize.ShloMosaic Idealize.ShloMosaic.TcCoe Idealize.ShloMosaic.Transfers
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}

/-- The kernel's weight arrays, the ring's buffers and semaphores, and the list in scalar memory. -/
structure Mem where
  m4 : Memref sig .tc .hbm S32x1408x1536 .i8
  m5 : Memref sig .tc .hbm S32x22x1536 .bf16
  m6 : Memref sig .tc .hbm S32x384x2816 .i8
  m7 : Memref sig .tc .hbm S32x6x2816 .bf16
  m9 : Memref sig .tc .vmem S3x1408x1536 .i8
  m10 : Memref sig .tc .vmem S3x22x1536 .bf16
  m11 : Memref sig .tc .vmem S3x384x2816 .i8
  m12 : Memref sig .tc .vmem S3x6x2816 .bf16
  m14 : Memref sig .tc .smem S65 .i32
  m15 : DmaSems sig S4x3

/-- The weight arrays: gate and up weights and their scales, down weights and their scales. -/
structure Src (F : FTy → Type) where
  G : S32x1408x1536.Idx → Elt F .i8
  SG : S32x22x1536.Idx → Elt F .bf16
  D : S32x384x2816.Idx → Elt F .i8
  SD : S32x6x2816.Idx → Elt F .bf16

/-- The semaphore of copy `i` into slot `s`. -/
def semAt (m : DmaSems sig S4x3) (i : Fin 4) (s : Fin 3) : DmaSem sig :=
  ((m.slice (Rect.unit (s := S4x3) ![i.val, s.val] S1x1.size (inbq i s))).squeeze S_ squeezes_S1x1_S_).sem

/-- The share of a weight array that slot `s`'s copy holds. -/
def qs (s : Fin 3) : PosShare TreeShare := shareTok fullShare 3 s

/-- Slot `s` of the ring's buffer 0. -/
def slot9 (m : Memref sig .tc .vmem S3x1408x1536 .i8) (s : Fin 3) : Memref sig .tc .vmem S1408x1536 .i8 :=
  (m.slice (Rect.unit (s := S3x1408x1536) ![s.val, 0, 0] S1x1408x1536.size (inb9 s)) (fun _ => rfl)).squeeze S1408x1536 squeezes_S1x1408x1536_S1408x1536

/-- Block `e` of the weight array 0. -/
def pick9 (T : S32x1408x1536.Idx → Elt F .i8) (e : Fin 32) : S1408x1536.Idx → Elt F .i8 :=
  sub T (Rect.unit (s := S32x1408x1536) ![e.val, 0, 0] S1x1408x1536.size (inbs9 e)) squeezes_S1x1408x1536_S1408x1536

/-- A slot of scratch 9 is not empty. -/
theorem numel9 : 0 < S1408x1536.numel := by decide

/-- The slot of scratch 9 as the body spells it. -/
theorem slot9_eq {m : Memref sig .tc .vmem S3x1408x1536 .i8} {s : Fin 3} {o : Fin 3 → ℕ} (ho : o = ![s.val, 0, 0]) {h} {hr} :
    (m.slice (Rect.unit (s := S3x1408x1536) o S1x1408x1536.size h) hr).squeeze S1408x1536 squeezes_S1x1408x1536_S1408x1536 = slot9 m s := by
  subst ho; rfl

/-- Starting copy 0. -/
theorem start9 {m : Memref sig .tc .vmem S3x1408x1536 .i8} {mb : Memref sig .tc .hbm S32x1408x1536 .i8} {m15 : DmaSems sig S4x3}
    {T : S32x1408x1536.Idx → Elt F .i8} {s : Fin 3} {x : Fin 32} {q : PosShare TreeShare}
    {oq : Fin 2 → ℕ} {od os : Fin 3 → ℕ} (hq : oq = ![0, s.val]) (hd : od = ![s.val, 0, 0]) (hs : os = ![x.val, 0, 0])
    {h1 h2 h3 h4 h5} {g1 g2 g3} :
    Ev (defs₀ (F := F)) Variants.none c none (Idle c (semAt m15 0 s) (slot9 m s) mb q T)
      (Prog.lift (.enqueueDma ((mb.slice (Rect.unit (s := S32x1408x1536) os S1x1408x1536.size h1) h2).squeeze S1408x1536 squeezes_S1x1408x1536_S1408x1536)
        (.here ((m.slice (Rect.unit (s := S3x1408x1536) od S1x1408x1536.size h3) h4).squeeze S1408x1536 squeezes_S1x1408x1536_S1408x1536))
        (.dma ((m15.slice (Rect.unit (s := S4x3) oq S1x1.size h5)).squeeze S_ squeezes_S1x1_S_).sem) g1 g2 g3)) ⟨⟩
      (Fly c (semAt m15 0 s) (slot9 m s) mb q T (pick9 T x)) := by
  subst hq hd hs
  exact ev_start numel9

/-- Waiting for copy 0. -/
theorem wait9 {m : Memref sig .tc .vmem S3x1408x1536 .i8} {mb : Memref sig .tc .hbm S32x1408x1536 .i8} {m15 : DmaSems sig S4x3}
    {T : S32x1408x1536.Idx → Elt F .i8} {T' : S1408x1536.Idx → Elt F .i8} {s : Fin 3} {q : PosShare TreeShare}
    {oq : Fin 2 → ℕ} {od : Fin 3 → ℕ} (hq : oq = ![0, s.val]) (hd : od = ![s.val, 0, 0])
    {h3 h4 h5} {spw : Space} {srcw : Memref sig .tc spw S1408x1536 .i8} {g1 g2} :
    Ev (defs₀ (F := F)) Variants.none c none iprop(Fly c (semAt m15 0 s) (slot9 m s) mb q T T' ∗ Owes c)
      (Prog.lift (.waitDma2 ((m15.slice (Rect.unit (s := S4x3) oq S1x1.size h5)).squeeze S_ squeezes_S1x1_S_).sem srcw
        ((m.slice (Rect.unit (s := S3x1408x1536) od S1x1408x1536.size h3) h4).squeeze S1408x1536 squeezes_S1x1408x1536_S1408x1536) g1 g2)) ⟨⟩
      iprop(Here c (semAt m15 0 s) (slot9 m s) mb q T T' ∗ Owes c) := by
  subst hq hd
  exact ev_wait

/-- Slot `s` of the ring's buffer 1. -/
def slot10 (m : Memref sig .tc .vmem S3x22x1536 .bf16) (s : Fin 3) : Memref sig .tc .vmem S22x1536 .bf16 :=
  (m.slice (Rect.unit (s := S3x22x1536) ![s.val, 0, 0] S1x22x1536.size (inb10 s)) (fun _ => rfl)).squeeze S22x1536 squeezes_S1x22x1536_S22x1536

/-- Block `e` of the weight array 1. -/
def pick10 (T : S32x22x1536.Idx → Elt F .bf16) (e : Fin 32) : S22x1536.Idx → Elt F .bf16 :=
  sub T (Rect.unit (s := S32x22x1536) ![e.val, 0, 0] S1x22x1536.size (inbs10 e)) squeezes_S1x22x1536_S22x1536

/-- A slot of scratch 10 is not empty. -/
theorem numel10 : 0 < S22x1536.numel := by decide

/-- The slot of scratch 10 as the body spells it. -/
theorem slot10_eq {m : Memref sig .tc .vmem S3x22x1536 .bf16} {s : Fin 3} {o : Fin 3 → ℕ} (ho : o = ![s.val, 0, 0]) {h} {hr} :
    (m.slice (Rect.unit (s := S3x22x1536) o S1x22x1536.size h) hr).squeeze S22x1536 squeezes_S1x22x1536_S22x1536 = slot10 m s := by
  subst ho; rfl

/-- Starting copy 1. -/
theorem start10 {m : Memref sig .tc .vmem S3x22x1536 .bf16} {mb : Memref sig .tc .hbm S32x22x1536 .bf16} {m15 : DmaSems sig S4x3}
    {T : S32x22x1536.Idx → Elt F .bf16} {s : Fin 3} {x : Fin 32} {q : PosShare TreeShare}
    {oq : Fin 2 → ℕ} {od os : Fin 3 → ℕ} (hq : oq = ![1, s.val]) (hd : od = ![s.val, 0, 0]) (hs : os = ![x.val, 0, 0])
    {h1 h2 h3 h4 h5} {g1 g2 g3} :
    Ev (defs₀ (F := F)) Variants.none c none (Idle c (semAt m15 1 s) (slot10 m s) mb q T)
      (Prog.lift (.enqueueDma ((mb.slice (Rect.unit (s := S32x22x1536) os S1x22x1536.size h1) h2).squeeze S22x1536 squeezes_S1x22x1536_S22x1536)
        (.here ((m.slice (Rect.unit (s := S3x22x1536) od S1x22x1536.size h3) h4).squeeze S22x1536 squeezes_S1x22x1536_S22x1536))
        (.dma ((m15.slice (Rect.unit (s := S4x3) oq S1x1.size h5)).squeeze S_ squeezes_S1x1_S_).sem) g1 g2 g3)) ⟨⟩
      (Fly c (semAt m15 1 s) (slot10 m s) mb q T (pick10 T x)) := by
  subst hq hd hs
  exact ev_start numel10

/-- Waiting for copy 1. -/
theorem wait10 {m : Memref sig .tc .vmem S3x22x1536 .bf16} {mb : Memref sig .tc .hbm S32x22x1536 .bf16} {m15 : DmaSems sig S4x3}
    {T : S32x22x1536.Idx → Elt F .bf16} {T' : S22x1536.Idx → Elt F .bf16} {s : Fin 3} {q : PosShare TreeShare}
    {oq : Fin 2 → ℕ} {od : Fin 3 → ℕ} (hq : oq = ![1, s.val]) (hd : od = ![s.val, 0, 0])
    {h3 h4 h5} {spw : Space} {srcw : Memref sig .tc spw S22x1536 .bf16} {g1 g2} :
    Ev (defs₀ (F := F)) Variants.none c none iprop(Fly c (semAt m15 1 s) (slot10 m s) mb q T T' ∗ Owes c)
      (Prog.lift (.waitDma2 ((m15.slice (Rect.unit (s := S4x3) oq S1x1.size h5)).squeeze S_ squeezes_S1x1_S_).sem srcw
        ((m.slice (Rect.unit (s := S3x22x1536) od S1x22x1536.size h3) h4).squeeze S22x1536 squeezes_S1x22x1536_S22x1536) g1 g2)) ⟨⟩
      iprop(Here c (semAt m15 1 s) (slot10 m s) mb q T T' ∗ Owes c) := by
  subst hq hd
  exact ev_wait

/-- Slot `s` of the ring's buffer 2. -/
def slot11 (m : Memref sig .tc .vmem S3x384x2816 .i8) (s : Fin 3) : Memref sig .tc .vmem S384x2816 .i8 :=
  (m.slice (Rect.unit (s := S3x384x2816) ![s.val, 0, 0] S1x384x2816.size (inb11 s)) (fun _ => rfl)).squeeze S384x2816 squeezes_S1x384x2816_S384x2816

/-- Block `e` of the weight array 2. -/
def pick11 (T : S32x384x2816.Idx → Elt F .i8) (e : Fin 32) : S384x2816.Idx → Elt F .i8 :=
  sub T (Rect.unit (s := S32x384x2816) ![e.val, 0, 0] S1x384x2816.size (inbs11 e)) squeezes_S1x384x2816_S384x2816

/-- A slot of scratch 11 is not empty. -/
theorem numel11 : 0 < S384x2816.numel := by decide

/-- The slot of scratch 11 as the body spells it. -/
theorem slot11_eq {m : Memref sig .tc .vmem S3x384x2816 .i8} {s : Fin 3} {o : Fin 3 → ℕ} (ho : o = ![s.val, 0, 0]) {h} {hr} :
    (m.slice (Rect.unit (s := S3x384x2816) o S1x384x2816.size h) hr).squeeze S384x2816 squeezes_S1x384x2816_S384x2816 = slot11 m s := by
  subst ho; rfl

/-- Starting copy 2. -/
theorem start11 {m : Memref sig .tc .vmem S3x384x2816 .i8} {mb : Memref sig .tc .hbm S32x384x2816 .i8} {m15 : DmaSems sig S4x3}
    {T : S32x384x2816.Idx → Elt F .i8} {s : Fin 3} {x : Fin 32} {q : PosShare TreeShare}
    {oq : Fin 2 → ℕ} {od os : Fin 3 → ℕ} (hq : oq = ![2, s.val]) (hd : od = ![s.val, 0, 0]) (hs : os = ![x.val, 0, 0])
    {h1 h2 h3 h4 h5} {g1 g2 g3} :
    Ev (defs₀ (F := F)) Variants.none c none (Idle c (semAt m15 2 s) (slot11 m s) mb q T)
      (Prog.lift (.enqueueDma ((mb.slice (Rect.unit (s := S32x384x2816) os S1x384x2816.size h1) h2).squeeze S384x2816 squeezes_S1x384x2816_S384x2816)
        (.here ((m.slice (Rect.unit (s := S3x384x2816) od S1x384x2816.size h3) h4).squeeze S384x2816 squeezes_S1x384x2816_S384x2816))
        (.dma ((m15.slice (Rect.unit (s := S4x3) oq S1x1.size h5)).squeeze S_ squeezes_S1x1_S_).sem) g1 g2 g3)) ⟨⟩
      (Fly c (semAt m15 2 s) (slot11 m s) mb q T (pick11 T x)) := by
  subst hq hd hs
  exact ev_start numel11

/-- Waiting for copy 2. -/
theorem wait11 {m : Memref sig .tc .vmem S3x384x2816 .i8} {mb : Memref sig .tc .hbm S32x384x2816 .i8} {m15 : DmaSems sig S4x3}
    {T : S32x384x2816.Idx → Elt F .i8} {T' : S384x2816.Idx → Elt F .i8} {s : Fin 3} {q : PosShare TreeShare}
    {oq : Fin 2 → ℕ} {od : Fin 3 → ℕ} (hq : oq = ![2, s.val]) (hd : od = ![s.val, 0, 0])
    {h3 h4 h5} {spw : Space} {srcw : Memref sig .tc spw S384x2816 .i8} {g1 g2} :
    Ev (defs₀ (F := F)) Variants.none c none iprop(Fly c (semAt m15 2 s) (slot11 m s) mb q T T' ∗ Owes c)
      (Prog.lift (.waitDma2 ((m15.slice (Rect.unit (s := S4x3) oq S1x1.size h5)).squeeze S_ squeezes_S1x1_S_).sem srcw
        ((m.slice (Rect.unit (s := S3x384x2816) od S1x384x2816.size h3) h4).squeeze S384x2816 squeezes_S1x384x2816_S384x2816) g1 g2)) ⟨⟩
      iprop(Here c (semAt m15 2 s) (slot11 m s) mb q T T' ∗ Owes c) := by
  subst hq hd
  exact ev_wait

/-- Slot `s` of the ring's buffer 3. -/
def slot12 (m : Memref sig .tc .vmem S3x6x2816 .bf16) (s : Fin 3) : Memref sig .tc .vmem S6x2816 .bf16 :=
  (m.slice (Rect.unit (s := S3x6x2816) ![s.val, 0, 0] S1x6x2816.size (inb12 s)) (fun _ => rfl)).squeeze S6x2816 squeezes_S1x6x2816_S6x2816

/-- Block `e` of the weight array 3. -/
def pick12 (T : S32x6x2816.Idx → Elt F .bf16) (e : Fin 32) : S6x2816.Idx → Elt F .bf16 :=
  sub T (Rect.unit (s := S32x6x2816) ![e.val, 0, 0] S1x6x2816.size (inbs12 e)) squeezes_S1x6x2816_S6x2816

/-- A slot of scratch 12 is not empty. -/
theorem numel12 : 0 < S6x2816.numel := by decide

/-- The slot of scratch 12 as the body spells it. -/
theorem slot12_eq {m : Memref sig .tc .vmem S3x6x2816 .bf16} {s : Fin 3} {o : Fin 3 → ℕ} (ho : o = ![s.val, 0, 0]) {h} {hr} :
    (m.slice (Rect.unit (s := S3x6x2816) o S1x6x2816.size h) hr).squeeze S6x2816 squeezes_S1x6x2816_S6x2816 = slot12 m s := by
  subst ho; rfl

/-- Starting copy 3. -/
theorem start12 {m : Memref sig .tc .vmem S3x6x2816 .bf16} {mb : Memref sig .tc .hbm S32x6x2816 .bf16} {m15 : DmaSems sig S4x3}
    {T : S32x6x2816.Idx → Elt F .bf16} {s : Fin 3} {x : Fin 32} {q : PosShare TreeShare}
    {oq : Fin 2 → ℕ} {od os : Fin 3 → ℕ} (hq : oq = ![3, s.val]) (hd : od = ![s.val, 0, 0]) (hs : os = ![x.val, 0, 0])
    {h1 h2 h3 h4 h5} {g1 g2 g3} :
    Ev (defs₀ (F := F)) Variants.none c none (Idle c (semAt m15 3 s) (slot12 m s) mb q T)
      (Prog.lift (.enqueueDma ((mb.slice (Rect.unit (s := S32x6x2816) os S1x6x2816.size h1) h2).squeeze S6x2816 squeezes_S1x6x2816_S6x2816)
        (.here ((m.slice (Rect.unit (s := S3x6x2816) od S1x6x2816.size h3) h4).squeeze S6x2816 squeezes_S1x6x2816_S6x2816))
        (.dma ((m15.slice (Rect.unit (s := S4x3) oq S1x1.size h5)).squeeze S_ squeezes_S1x1_S_).sem) g1 g2 g3)) ⟨⟩
      (Fly c (semAt m15 3 s) (slot12 m s) mb q T (pick12 T x)) := by
  subst hq hd hs
  exact ev_start numel12

/-- Waiting for copy 3. -/
theorem wait12 {m : Memref sig .tc .vmem S3x6x2816 .bf16} {mb : Memref sig .tc .hbm S32x6x2816 .bf16} {m15 : DmaSems sig S4x3}
    {T : S32x6x2816.Idx → Elt F .bf16} {T' : S6x2816.Idx → Elt F .bf16} {s : Fin 3} {q : PosShare TreeShare}
    {oq : Fin 2 → ℕ} {od : Fin 3 → ℕ} (hq : oq = ![3, s.val]) (hd : od = ![s.val, 0, 0])
    {h3 h4 h5} {spw : Space} {srcw : Memref sig .tc spw S6x2816 .bf16} {g1 g2} :
    Ev (defs₀ (F := F)) Variants.none c none iprop(Fly c (semAt m15 3 s) (slot12 m s) mb q T T' ∗ Owes c)
      (Prog.lift (.waitDma2 ((m15.slice (Rect.unit (s := S4x3) oq S1x1.size h5)).squeeze S_ squeezes_S1x1_S_).sem srcw
        ((m.slice (Rect.unit (s := S3x6x2816) od S1x6x2816.size h3) h4).squeeze S6x2816 squeezes_S1x6x2816_S6x2816) g1 g2)) ⟨⟩
      iprop(Here c (semAt m15 3 s) (slot12 m s) mb q T T' ∗ Owes c) := by
  subst hq hd
  exact ev_wait

/-- Slot `s` with no copy under way. -/
def IdleAll (c : Dev nD) (M : Mem) (W : Src F) (s : Fin 3) : sProp 𝕄 :=
  iprop(Idle c (semAt M.m15 0 s) (slot9 M.m9 s) M.m4 (qs s) W.G ∗ Idle c (semAt M.m15 1 s) (slot10 M.m10 s) M.m5 (qs s) W.SG ∗ Idle c (semAt M.m15 2 s) (slot11 M.m11 s) M.m6 (qs s) W.D ∗ Idle c (semAt M.m15 3 s) (slot12 M.m12 s) M.m7 (qs s) W.SD)

/-- Slot `s` with the copies of block `x` under way. -/
def FlyAll (c : Dev nD) (M : Mem) (W : Src F) (s : Fin 3) (x : Fin 32) : sProp 𝕄 :=
  iprop(Fly c (semAt M.m15 0 s) (slot9 M.m9 s) M.m4 (qs s) W.G (pick9 W.G x) ∗ Fly c (semAt M.m15 1 s) (slot10 M.m10 s) M.m5 (qs s) W.SG (pick10 W.SG x) ∗ Fly c (semAt M.m15 2 s) (slot11 M.m11 s) M.m6 (qs s) W.D (pick11 W.D x) ∗ Fly c (semAt M.m15 3 s) (slot12 M.m12 s) M.m7 (qs s) W.SD (pick12 W.SD x))

/-- Slot `s` holding block `x`. -/
def HereAll (c : Dev nD) (M : Mem) (W : Src F) (s : Fin 3) (x : Fin 32) : sProp 𝕄 :=
  iprop(Here c (semAt M.m15 0 s) (slot9 M.m9 s) M.m4 (qs s) W.G (pick9 W.G x) ∗ Here c (semAt M.m15 1 s) (slot10 M.m10 s) M.m5 (qs s) W.SG (pick10 W.SG x) ∗ Here c (semAt M.m15 2 s) (slot11 M.m11 s) M.m6 (qs s) W.D (pick11 W.D x) ∗ Here c (semAt M.m15 3 s) (slot12 M.m12 s) M.m7 (qs s) W.SD (pick12 W.SD x))

/-- A slot whose copies have arrived is idle. -/
theorem HereAll.idle {M : Mem} {W : Src F} {s : Fin 3} {x : Fin 32} : HereAll c M W s x ⊢ (IdleAll c M W s : sProp 𝕄) := by
  unfold HereAll IdleAll
  iintro ⟨H1, H2, H3, H4⟩
  isplitl [H1]
  · iapply Here.idle $$ H1
  · isplitl [H2]
    · iapply Here.idle $$ H2
    · isplitl [H3]
      · iapply Here.idle $$ H3
      · iapply Here.idle $$ H4

/-- The list in scalar memory. -/
def Sm (c : Dev nD) (m : Memref sig .tc .smem S65 .i32) (L : ℕ → BitVec 32) : sProp 𝕄 :=
  holds c m fullShare (fun i : S65.Idx => (L (i 0).val : Elt F .i32))

/-- Reading word `k` of the list. -/
theorem sm_load {m : Memref sig .tc .smem S65 .i32} {L : ℕ → BitVec 32} {k : ℕ} {o : Fin 1 → ℕ} (ho : o = ![k]) {h1 h2 h3} :
    Ev (defs₀ (F := F)) Variants.none c none (Sm c m L) (smemLoad m (Rect.unit (s := S65) o S1.size h1) h2 h3) (L k) (Sm c m L) := by
  subst ho
  have h := ev_smemLoad (defs := defs₀ (F := F)) (𝒱 := Variants.none) (c := (c : Thread nD τ)) (bd := none) (m := m)
    (r := Rect.unit (s := S65) ![k] S1.size h1) (h1 := h2) (hp := h3) (q := fullShare)
    (T := (fun i : S65.Idx => (L (i 0).val : Elt F .i32)))
  exact h

/-- Writing word `k` of the list. -/
theorem sm_store {m : Memref sig .tc .smem S65 .i32} {L : ℕ → BitVec 32} {k : ℕ} {v : BitVec 32} {o : Fin 1 → ℕ} (ho : o = ![k]) {h1 h2 h3} :
    Ev (defs₀ (F := F)) Variants.none c none (Sm c m L)
      (Prog.lift (.store m (Rect.unit (s := S65) o S1.size h1) (fun _ => v) Finset.univ h2 h3)) ⟨⟩ (Sm c m (Function.update L k v)) := by
  subst ho
  refine ev_store ?_ ?_
  · intro x
    have hx : ((Rect.unit (s := S65) ![k] S1.size h1).emb x 0).val = k := by
      have h0 : (x 0).val = 0 := by have := (x 0).isLt; change (x 0).val < 1 at this; omega
      show k + 1 * (x 0).val = k
      omega
    show Function.update L k v _ = v
    rw [hx, Function.update_self]
  · intro i hi
    have hik : (i 0).val ≠ k := by
      intro h
      apply hi
      rw [Rect.mem_set_unit]
      intro a
      obtain rfl : a = 0 := Subsingleton.elim _ _
      show k ≤ (i 0).val ∧ (i 0).val < k + 1
      omega
    show Function.update L k v _ = L _
    rw [Function.update_of_ne hik]

end Cert.Kernel.Moe

end
-- ==== Proof.Turn5.lean ====
/-
  One expert's turn: wait for its weights, compute, and start the copies of the expert three turns on.
-/
module

public import proofs.«01_k».proof.Proof.Base
public import proofs.«01_k».proof.Proof.Gen.Kernel.Skeleton
public import proofs.«01_k».proof.Proof.Turn4
public import proofs.«01_k».proof.Proof.Ring

@[expose] public section

set_option maxRecDepth 16384
set_option pp.deepTerms false
set_option pp.maxSteps 80

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {v66 v70 v74 v78 v82 v86 v90 v94 v98 v102 v106 v110 v114 v118 v122 v126 v130 v134 v138 v142 v146 v150 v154 v158 v162 v166 v170 v174 v178 v182 v186 v190 : Elt F .i32} {k0_hw43 : k0_chk43 v66 v70 v74 v78 v82 v86 v90 v94 v98 v102 v106 v110 v114 v118 v122 v126 v130 v134 v138 v142 v146 v150 v154 v158 v162 v166 v170 v174 v178 v182 v186 v190} {k0_t2 : Fin (k0_t2_loop v66 v70 v74 v78 v82 v86 v90 v94 v98 v102 v106 v110 v114 v118 v122 v126 v130 v134 v138 v142 v146 v150 v154 v158 v162 v166 v170 v174 v178 v182 v186 v190).trips}
variable {W : Src F} {L : ℕ → BitVec 32} {I : S64x8.Idx → Elt F .i32} {Wt : S64x8.Idx → Elt F .f32}
variable {X : S64x2816.Idx → Elt F .bf16} {A : S64x2816.Idx → Elt F .f32} {n : ℕ} {x y : Fin 32} {s : Fin 3}

/-- Reading `m` needs only the piece of `R` that holds it. -/
theorem rd_of {cs : CoreSpace} {s : Shape} {e : EltTy} {m : Memref sig .tc cs s e} {q : PosShare TreeShare} {T : s.Idx → Elt F e} {R : sProp 𝕄}
    (h : R ⊢ iprop(holds c m q T ∗ (holds c m q T -∗ R))) : Rd (defs₀ (F := F)) Variants.none c none R m T :=
  fun r hl => (ev_load (q := q)).on h

/-- A step beside `A`. -/
theorem ev_frame {α : Type} {E E' : sProp 𝕄} (A : sProp 𝕄) {p : Prog (TpuEff nD τ sig (Elt F) Λ₀ .tc) α} {a : α}
    (h : Ev (defs₀ (F := F)) Variants.none c none E p a E') :
    Ev (defs₀ (F := F)) Variants.none c none iprop(A ∗ E) p a iprop(A ∗ E') := by
  refine h.on ?_
  iintro ⟨H1, H2⟩
  isplitl [H2]
  · iexact H2
  · iintro H2
    isplitl [H1]
    · iexact H1
    · iexact H2

/-- What a turn reads beside the weights: the list, the routing and the tokens. -/
def Ins (c : Dev nD) (m14 : Memref sig .tc .smem S65 .i32) (m1 : Memref sig .tc .vmem S64x8 .i32) (m2 : Memref sig .tc .vmem S64x8 .f32)
    (m3 : Memref sig .tc .vmem S64x2816 .bf16) (L : ℕ → BitVec 32) (I : S64x8.Idx → Elt F .i32) (Wt : S64x8.Idx → Elt F .f32)
    (X : S64x2816.Idx → Elt F .bf16) : sProp 𝕄 :=
  iprop(Sm c m14 L ∗ holds c m1 fullShare I ∗ holds c m2 fullShare Wt ∗ holds c m3 fullShare X)

/-- What a turn of the expert `x` reads. -/
def inp (W : Src F) (I : S64x8.Idx → Elt F .i32) (Wt : S64x8.Idx → Elt F .f32) (X : S64x2816.Idx → Elt F .bf16)
    (e : BitVec 32) (x : Fin 32) (A : S64x2816.Idx → Elt F .f32) : In F :=
  ⟨e, I, Wt, X, pick9 W.G x, pick10 W.SG x, pick11 W.D x, pick12 W.SD x, A⟩

/-- Reading the whole of the ids gives the ids. -/
theorem whole_emb (h) : (fun x => I ((Rect.unit (s := S64x8) ![0, 0] S64x8.size h).emb x)) = I := by
  funext x
  congr 1
  funext a
  match a with
  | 0 => exact Fin.ext (show 0 + 1 * (x 0).val = (x 0).val by omega)
  | 1 => exact Fin.ext (show 0 + 1 * (x 1).val = (x 1).val by omega)

/-- A finished run gives its value. -/
theorem pure_eq {α : Type} {E : sProp 𝕄} {a b : α} (h : a = b) :
    Ev (defs₀ (F := F)) Variants.none c none E (pure a : Prog (TpuEff nD τ sig (Elt F) Λ₀ .tc) α) b E := by
  subst h; exact Ev.pure _

/-- An expert's place in an array of experts. -/
theorem vec3 {v : BitVec 32} (h : v.toNat = x.val) : (![v.toNat, 0, 0] : Fin 3 → ℕ) = ![x.val, 0, 0] := by rw [h]

/-- The turn's start: read the expert off the list and wait for its four blocks. -/
theorem k0_part2_ev (hT : Tot v66 v70 v74 v78 v82 v86 v90 v94 v98 v102 v106 v110 v114 v118 v122 v126 v130 v134 v138 v142 v146 v150 v154 v158 v162 v166 v170 v174 v178 v182 v186 v190 n) (hx : (L k0_t2).toNat = x.val) :
    Ev (defs₀ (F := F)) Variants.none c none iprop(FlyAll c ⟨arg4, arg5, arg6, arg7, arg9, arg10, arg11, arg12, arg14, arg15⟩ W (slotOf k0_t2) x ∗ Owes c ∗ Ins c arg14 arg1 arg2 arg3 L I Wt X) (k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 0#32 1#32 k0_t2) ⟨Scf.iv 0#32 1#32 k0_t2, w243 (inp W I Wt X (L k0_t2) x A)⟩ iprop(HereAll c ⟨arg4, arg5, arg6, arg7, arg9, arg10, arg11, arg12, arg14, arg15⟩ W (slotOf k0_t2) x ∗ Owes c ∗ Ins c arg14 arg1 arg2 arg3 L I Wt X) := by
  rw [k0_part2_eq_skeleton]
  unfold k0_part2_skel
  dsimp only
  refine Ev.bind (E' := iprop(FlyAll c ⟨arg4, arg5, arg6, arg7, arg9, arg10, arg11, arg12, arg14, arg15⟩ W (slotOf k0_t2) x ∗ Owes c ∗ Ins c arg14 arg1 arg2 arg3 L I Wt X)) ((sm_load (L := L) (k := k0_t2) (off60_eq hT k0_t2)).on ?_) ?_
  · unfold Ins
    iintro ⟨H1, H2, H3, H4⟩
    isplitl [H3]
    · iexact H3
    · iintro H3
      isplitl [H1]
      · iexact H1
      · isplitl [H2]
        · iexact H2
        · isplitl [H3]
          · iexact H3
          · iexact H4
  refine Ev.bindAssume (chk44 (by rw [hx]; exact x.isLt)) ?_
  refine Ev.conseq (E := iprop(Fly (c : Thread nD τ) (semAt arg15 0 (slotOf k0_t2)) (slot9 arg9 (slotOf k0_t2)) arg4 (qs (slotOf k0_t2)) W.G (pick9 W.G x) ∗ Fly (c : Thread nD τ) (semAt arg15 1 (slotOf k0_t2)) (slot10 arg10 (slotOf k0_t2)) arg5 (qs (slotOf k0_t2)) W.SG (pick10 W.SG x) ∗ Fly (c : Thread nD τ) (semAt arg15 2 (slotOf k0_t2)) (slot11 arg11 (slotOf k0_t2)) arg6 (qs (slotOf k0_t2)) W.D (pick11 W.D x) ∗ Fly (c : Thread nD τ) (semAt arg15 3 (slotOf k0_t2)) (slot12 arg12 (slotOf k0_t2)) arg7 (qs (slotOf k0_t2)) W.SD (pick12 W.SD x) ∗ Owes c ∗ Ins c arg14 arg1 arg2 arg3 L I Wt X)) (E' := iprop(Here (c : Thread nD τ) (semAt arg15 0 (slotOf k0_t2)) (slot9 arg9 (slotOf k0_t2)) arg4 (qs (slotOf k0_t2)) W.G (pick9 W.G x) ∗ Here (c : Thread nD τ) (semAt arg15 1 (slotOf k0_t2)) (slot10 arg10 (slotOf k0_t2)) arg5 (qs (slotOf k0_t2)) W.SG (pick10 W.SG x) ∗ Here (c : Thread nD τ) (semAt arg15 2 (slotOf k0_t2)) (slot11 arg11 (slotOf k0_t2)) arg6 (qs (slotOf k0_t2)) W.D (pick11 W.D x) ∗ Here (c : Thread nD τ) (semAt arg15 3 (slotOf k0_t2)) (slot12 arg12 (slotOf k0_t2)) arg7 (qs (slotOf k0_t2)) W.SD (pick12 W.SD x) ∗ Owes c ∗ Ins c arg14 arg1 arg2 arg3 L I Wt X)) ?_ ?_ ?_
  rotate_left 2
  · unfold HereAll
    iintro ⟨H1, H2, H3, H4, HO, HI⟩
    isplitl [H1 H2 H3 H4]
    · isplitl [H1]
      · iexact H1
      · isplitl [H2]
        · iexact H2
        · isplitl [H3]
          · iexact H3
          · iexact H4
    · isplitl [HO]
      · iexact HO
      · iexact HI
  · unfold FlyAll
    iintro ⟨⟨H1, H2, H3, H4⟩, HO, HI⟩
    isplitl [H1]
    · iexact H1
    · isplitl [H2]
      · iexact H2
      · isplitl [H3]
        · iexact H3
        · isplitl [H4]
          · iexact H4
          · isplitl [HO]
            · iexact HO
            · iexact HI
  refine Ev.bind (E' := iprop(Here (c : Thread nD τ) (semAt arg15 0 (slotOf k0_t2)) (slot9 arg9 (slotOf k0_t2)) arg4 (qs (slotOf k0_t2)) W.G (pick9 W.G x) ∗ Fly (c : Thread nD τ) (semAt arg15 1 (slotOf k0_t2)) (slot10 arg10 (slotOf k0_t2)) arg5 (qs (slotOf k0_t2)) W.SG (pick10 W.SG x) ∗ Fly (c : Thread nD τ) (semAt arg15 2 (slotOf k0_t2)) (slot11 arg11 (slotOf k0_t2)) arg6 (qs (slotOf k0_t2)) W.D (pick11 W.D x) ∗ Fly (c : Thread nD τ) (semAt arg15 3 (slotOf k0_t2)) (slot12 arg12 (slotOf k0_t2)) arg7 (qs (slotOf k0_t2)) W.SD (pick12 W.SD x) ∗ Owes c ∗ Ins c arg14 arg1 arg2 arg3 L I Wt X)) ((wait9 (s := slotOf k0_t2) (mb := arg4) (T := W.G) (T' := pick9 W.G x) (q := qs (slotOf k0_t2)) (off61_eq hT k0_t2) (off62_eq hT k0_t2)).on ?_) ?_
  · iintro ⟨H1, H2, H3, H4, HO, HI⟩
    isplitl [H1 HO]
    · isplitl [H1]
      · iexact H1
      · iexact HO
    · iintro ⟨H1, HO⟩
      isplitl [H1]
      · iexact H1
      · isplitl [H2]
        · iexact H2
        · isplitl [H3]
          · iexact H3
          · isplitl [H4]
            · iexact H4
            · isplitl [HO]
              · iexact HO
              · iexact HI
  refine Ev.bind (E' := iprop(Here (c : Thread nD τ) (semAt arg15 0 (slotOf k0_t2)) (slot9 arg9 (slotOf k0_t2)) arg4 (qs (slotOf k0_t2)) W.G (pick9 W.G x) ∗ Here (c : Thread nD τ) (semAt arg15 1 (slotOf k0_t2)) (slot10 arg10 (slotOf k0_t2)) arg5 (qs (slotOf k0_t2)) W.SG (pick10 W.SG x) ∗ Fly (c : Thread nD τ) (semAt arg15 2 (slotOf k0_t2)) (slot11 arg11 (slotOf k0_t2)) arg6 (qs (slotOf k0_t2)) W.D (pick11 W.D x) ∗ Fly (c : Thread nD τ) (semAt arg15 3 (slotOf k0_t2)) (slot12 arg12 (slotOf k0_t2)) arg7 (qs (slotOf k0_t2)) W.SD (pick12 W.SD x) ∗ Owes c ∗ Ins c arg14 arg1 arg2 arg3 L I Wt X)) ((wait10 (s := slotOf k0_t2) (mb := arg5) (T := W.SG) (T' := pick10 W.SG x) (q := qs (slotOf k0_t2)) (off64_eq hT k0_t2) (off65_eq hT k0_t2)).on ?_) ?_
  · iintro ⟨H1, H2, H3, H4, HO, HI⟩
    isplitl [H2 HO]
    · isplitl [H2]
      · iexact H2
      · iexact HO
    · iintro ⟨H2, HO⟩
      isplitl [H1]
      · iexact H1
      · isplitl [H2]
        · iexact H2
        · isplitl [H3]
          · iexact H3
          · isplitl [H4]
            · iexact H4
            · isplitl [HO]
              · iexact HO
              · iexact HI
  refine Ev.bind (E' := iprop(Here (c : Thread nD τ) (semAt arg15 0 (slotOf k0_t2)) (slot9 arg9 (slotOf k0_t2)) arg4 (qs (slotOf k0_t2)) W.G (pick9 W.G x) ∗ Here (c : Thread nD τ) (semAt arg15 1 (slotOf k0_t2)) (slot10 arg10 (slotOf k0_t2)) arg5 (qs (slotOf k0_t2)) W.SG (pick10 W.SG x) ∗ Here (c : Thread nD τ) (semAt arg15 2 (slotOf k0_t2)) (slot11 arg11 (slotOf k0_t2)) arg6 (qs (slotOf k0_t2)) W.D (pick11 W.D x) ∗ Fly (c : Thread nD τ) (semAt arg15 3 (slotOf k0_t2)) (slot12 arg12 (slotOf k0_t2)) arg7 (qs (slotOf k0_t2)) W.SD (pick12 W.SD x) ∗ Owes c ∗ Ins c arg14 arg1 arg2 arg3 L I Wt X)) ((wait11 (s := slotOf k0_t2) (mb := arg6) (T := W.D) (T' := pick11 W.D x) (q := qs (slotOf k0_t2)) (off67_eq hT k0_t2) (off68_eq hT k0_t2)).on ?_) ?_
  · iintro ⟨H1, H2, H3, H4, HO, HI⟩
    isplitl [H3 HO]
    · isplitl [H3]
      · iexact H3
      · iexact HO
    · iintro ⟨H3, HO⟩
      isplitl [H1]
      · iexact H1
      · isplitl [H2]
        · iexact H2
        · isplitl [H3]
          · iexact H3
          · isplitl [H4]
            · iexact H4
            · isplitl [HO]
              · iexact HO
              · iexact HI
  refine Ev.bind (E' := iprop(Here (c : Thread nD τ) (semAt arg15 0 (slotOf k0_t2)) (slot9 arg9 (slotOf k0_t2)) arg4 (qs (slotOf k0_t2)) W.G (pick9 W.G x) ∗ Here (c : Thread nD τ) (semAt arg15 1 (slotOf k0_t2)) (slot10 arg10 (slotOf k0_t2)) arg5 (qs (slotOf k0_t2)) W.SG (pick10 W.SG x) ∗ Here (c : Thread nD τ) (semAt arg15 2 (slotOf k0_t2)) (slot11 arg11 (slotOf k0_t2)) arg6 (qs (slotOf k0_t2)) W.D (pick11 W.D x) ∗ Here (c : Thread nD τ) (semAt arg15 3 (slotOf k0_t2)) (slot12 arg12 (slotOf k0_t2)) arg7 (qs (slotOf k0_t2)) W.SD (pick12 W.SD x) ∗ Owes c ∗ Ins c arg14 arg1 arg2 arg3 L I Wt X)) ((wait12 (s := slotOf k0_t2) (mb := arg7) (T := W.SD) (T' := pick12 W.SD x) (q := qs (slotOf k0_t2)) (off70_eq hT k0_t2) (off71_eq hT k0_t2)).on ?_) ?_
  · iintro ⟨H1, H2, H3, H4, HO, HI⟩
    isplitl [H4 HO]
    · isplitl [H4]
      · iexact H4
      · iexact HO
    · iintro ⟨H4, HO⟩
      isplitl [H1]
      · iexact H1
      · isplitl [H2]
        · iexact H2
        · isplitl [H3]
          · iexact H3
          · isplitl [H4]
            · iexact H4
            · isplitl [HO]
              · iexact HO
              · iexact HI
  refine Ev.bind (rd_of (q := fullShare) (T := I) ?_ _ _) (pure_eq (by rw [whole_emb]; rfl))
  unfold Ins
  iintro ⟨H1, H2, H3, H4, HO, HI, HJ, HK⟩
  isplitl [HJ]
  · iexact HJ
  · iintro HJ
    isplitl [H1]
    · iexact H1
    · isplitl [H2]
      · iexact H2
      · isplitl [H3]
        · iexact H3
        · isplitl [H4]
          · iexact H4
          · isplitl [HO]
            · iexact HO
            · isplitl [HI]
              · iexact HI
              · isplitl [HJ]
                · iexact HJ
                · iexact HK

/-- Every load of the turn reads what `inp` says. -/
theorem lds (hT : Tot v66 v70 v74 v78 v82 v86 v90 v94 v98 v102 v106 v110 v114 v118 v122 v126 v130 v134 v138 v142 v146 v150 v154 v158 v162 v166 v170 v174 v178 v182 v186 v190 n) : Lds c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 (inp W I Wt X (L k0_t2) x A) iprop(HereAll c ⟨arg4, arg5, arg6, arg7, arg9, arg10, arg11, arg12, arg14, arg15⟩ W (slotOf k0_t2) x ∗ Owes c ∗ Ins c arg14 arg1 arg2 arg3 L I Wt X) := by
  refine ⟨?_, ?_, ?_, ?_, ?_, ?_, ?_⟩
  · refine rd_of (q := fullShare) ?_
    unfold Ins
    iintro ⟨H1, HO, HI, HJ, HK, HL⟩
    isplitl [HJ]
    · iexact HJ
    · iintro HJ
      isplitl [H1]
      · iexact H1
      · isplitl [HO]
        · iexact HO
        · isplitl [HI]
          · iexact HI
          · isplitl [HJ]
            · iexact HJ
            · isplitl [HK]
              · iexact HK
              · iexact HL
  · refine rd_of (q := fullShare) ?_
    unfold Ins
    iintro ⟨H1, HO, HI, HJ, HK, HL⟩
    isplitl [HK]
    · iexact HK
    · iintro HK
      isplitl [H1]
      · iexact H1
      · isplitl [HO]
        · iexact HO
        · isplitl [HI]
          · iexact HI
          · isplitl [HJ]
            · iexact HJ
            · isplitl [HK]
              · iexact HK
              · iexact HL
  · refine rd_of (q := fullShare) ?_
    unfold Ins
    iintro ⟨H1, HO, HI, HJ, HK, HL⟩
    isplitl [HL]
    · iexact HL
    · iintro HL
      isplitl [H1]
      · iexact H1
      · isplitl [HO]
        · iexact HO
        · isplitl [HI]
          · iexact HI
          · isplitl [HJ]
            · iexact HJ
            · isplitl [HK]
              · iexact HK
              · iexact HL
  · rw [slot9_eq (s := slotOf k0_t2) (off73_eq hT k0_t2)]
    refine rd_of (q := fullShare) ?_
    unfold HereAll Here
    iintro ⟨⟨⟨H1, G1, K1⟩, ⟨H2, G2, K2⟩, ⟨H3, G3, K3⟩, ⟨H4, G4, K4⟩⟩, HO, HI⟩
    isplitl [H1]
    · iexact H1
    · iintro H1
      isplitr [HO HI]
      · isplitl [H1 G1 K1]
        · isplitl [H1]
          · iexact H1
          · isplitl [G1]
            · iexact G1
            · iexact K1
        · isplitl [H2 G2 K2]
          · isplitl [H2]
            · iexact H2
            · isplitl [G2]
              · iexact G2
              · iexact K2
          · isplitl [H3 G3 K3]
            · isplitl [H3]
              · iexact H3
              · isplitl [G3]
                · iexact G3
                · iexact K3
            · isplitl [H4]
              · iexact H4
              · isplitl [G4]
                · iexact G4
                · iexact K4
      · isplitl [HO]
        · iexact HO
        · iexact HI
  · rw [slot10_eq (s := slotOf k0_t2) (off65_eq hT k0_t2)]
    refine rd_of (q := fullShare) ?_
    unfold HereAll Here
    iintro ⟨⟨⟨H1, G1, K1⟩, ⟨H2, G2, K2⟩, ⟨H3, G3, K3⟩, ⟨H4, G4, K4⟩⟩, HO, HI⟩
    isplitl [H2]
    · iexact H2
    · iintro H2
      isplitr [HO HI]
      · isplitl [H1 G1 K1]
        · isplitl [H1]
          · iexact H1
          · isplitl [G1]
            · iexact G1
            · iexact K1
        · isplitl [H2 G2 K2]
          · isplitl [H2]
            · iexact H2
            · isplitl [G2]
              · iexact G2
              · iexact K2
          · isplitl [H3 G3 K3]
            · isplitl [H3]
              · iexact H3
              · isplitl [G3]
                · iexact G3
                · iexact K3
            · isplitl [H4]
              · iexact H4
              · isplitl [G4]
                · iexact G4
                · iexact K4
      · isplitl [HO]
        · iexact HO
        · iexact HI
  · rw [slot11_eq (s := slotOf k0_t2) (off68_eq hT k0_t2)]
    refine rd_of (q := fullShare) ?_
    unfold HereAll Here
    iintro ⟨⟨⟨H1, G1, K1⟩, ⟨H2, G2, K2⟩, ⟨H3, G3, K3⟩, ⟨H4, G4, K4⟩⟩, HO, HI⟩
    isplitl [H3]
    · iexact H3
    · iintro H3
      isplitr [HO HI]
      · isplitl [H1 G1 K1]
        · isplitl [H1]
          · iexact H1
          · isplitl [G1]
            · iexact G1
            · iexact K1
        · isplitl [H2 G2 K2]
          · isplitl [H2]
            · iexact H2
            · isplitl [G2]
              · iexact G2
              · iexact K2
          · isplitl [H3 G3 K3]
            · isplitl [H3]
              · iexact H3
              · isplitl [G3]
                · iexact G3
                · iexact K3
            · isplitl [H4]
              · iexact H4
              · isplitl [G4]
                · iexact G4
                · iexact K4
      · isplitl [HO]
        · iexact HO
        · iexact HI
  · rw [slot12_eq (s := slotOf k0_t2) (off71_eq hT k0_t2)]
    refine rd_of (q := fullShare) ?_
    unfold HereAll Here
    iintro ⟨⟨⟨H1, G1, K1⟩, ⟨H2, G2, K2⟩, ⟨H3, G3, K3⟩, ⟨H4, G4, K4⟩⟩, HO, HI⟩
    isplitl [H4]
    · iexact H4
    · iintro H4
      isplitr [HO HI]
      · isplitl [H1 G1 K1]
        · isplitl [H1]
          · iexact H1
          · isplitl [G1]
            · iexact G1
            · iexact K1
        · isplitl [H2 G2 K2]
          · isplitl [H2]
            · iexact H2
            · isplitl [G2]
              · iexact G2
              · iexact K2
          · isplitl [H3 G3 K3]
            · isplitl [H3]
              · iexact H3
              · isplitl [G3]
                · iexact G3
                · iexact K3
            · isplitl [H4]
              · iexact H4
              · isplitl [G4]
                · iexact G4
                · iexact K4
      · isplitl [HO]
        · iexact HO
        · iexact HI

/-- One turn: the accumulator gains the expert `x`, and the slot is refilled while a third expert on remains. -/
theorem turn_ev (hT : Tot v66 v70 v74 v78 v82 v86 v90 v94 v98 v102 v106 v110 v114 v118 v122 v126 v130 v134 v138 v142 v146 v150 v154 v158 v162 v166 v170 v174 v178 v182 v186 v190 n) (hx : (L k0_t2).toNat = x.val) (hy : k0_t2.val + 3 < n → (L (k0_t2.val + 3)).toNat = y.val) :
    Ev (defs₀ (F := F)) Variants.none c none iprop(holds c arg13 fullShare A ∗ FlyAll c ⟨arg4, arg5, arg6, arg7, arg9, arg10, arg11, arg12, arg14, arg15⟩ W (slotOf k0_t2) x ∗ Owes c ∗ Ins c arg14 arg1 arg2 arg3 L I Wt X) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v66 v70 v74 v78 v82 v86 v90 v94 v98 v102 v106 v110 v114 v118 v122 v126 v130 v134 v138 v142 v146 v150 v154 v158 v162 v166 v170 v174 v178 v182 v186 v190 k0_hw43 k0_t2 ⟨⟩) ⟨⟩ iprop(holds c arg13 fullShare (accT (inp W I Wt X (L k0_t2) x A) 11) ∗ (if k0_t2.val + 3 < n then FlyAll c ⟨arg4, arg5, arg6, arg7, arg9, arg10, arg11, arg12, arg14, arg15⟩ W (slotOf k0_t2) y else IdleAll c ⟨arg4, arg5, arg6, arg7, arg9, arg10, arg11, arg12, arg14, arg15⟩ W (slotOf k0_t2)) ∗ Owes c ∗ Ins c arg14 arg1 arg2 arg3 L I Wt X) := by
  have hl := lds (F := F) (c := c) (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (arg0 := arg0) (arg8 := arg8) (k0_hw43 := k0_hw43) (W := W) (L := L) (I := I) (Wt := Wt) (X := X) (A := A) (x := x) (arg1 := arg1) (arg2 := arg2) (arg3 := arg3) (arg4 := arg4) (arg5 := arg5) (arg6 := arg6) (arg7 := arg7) (arg9 := arg9) (arg10 := arg10) (arg11 := arg11) (arg12 := arg12) (arg13 := arg13) (arg14 := arg14) (arg15 := arg15) (k0_t2 := k0_t2) hT
  have h0 : (accT (inp W I Wt X (L k0_t2) x A) 0) = A := by
    funext i; exact if_neg (by omega)
  unfold k0_t2_body
  refine Ev.bind (k0_part89_ev (hl.frame (holds c arg13 fullShare A)) (ev_frame _ (k0_part2_ev (A := A) hT hx))) ?_
  refine Ev.conseq (E := Env c arg13 (inp W I Wt X (L k0_t2) x A) 0 iprop(HereAll c ⟨arg4, arg5, arg6, arg7, arg9, arg10, arg11, arg12, arg14, arg15⟩ W (slotOf k0_t2) x ∗ Owes c ∗ Ins c arg14 arg1 arg2 arg3 L I Wt X)) (E' := iprop(holds c arg13 fullShare (accT (inp W I Wt X (L k0_t2) x A) 11) ∗ (if k0_t2.val + 3 < n then FlyAll c ⟨arg4, arg5, arg6, arg7, arg9, arg10, arg11, arg12, arg14, arg15⟩ W (slotOf k0_t2) y else IdleAll c ⟨arg4, arg5, arg6, arg7, arg9, arg10, arg11, arg12, arg14, arg15⟩ W (slotOf k0_t2)) ∗ Owes c ∗ Ins c arg14 arg1 arg2 arg3 L I Wt X)) ?_ ?_ .rfl
  · unfold Env
    rw [h0]
  refine Ev.bind (k0_part90_ev hl) ?_
  refine Ev.bind (acc_load 10 rfl) ?_
  refine Ev.bind (acc_store 10 rfl rfl) ?_
  by_cases h4 : k0_t2.val + 3 < n
  · have hc := (cond4_iff hT k0_t2).2 h4
    rw [dif_pos hc, if_pos h4]
    dsimp only
    refine Ev.bind (E' := Env c arg13 (inp W I Wt X (L k0_t2) x A) 11 iprop(HereAll c ⟨arg4, arg5, arg6, arg7, arg9, arg10, arg11, arg12, arg14, arg15⟩ W (slotOf k0_t2) x ∗ Owes c ∗ Ins c arg14 arg1 arg2 arg3 L I Wt X)) ((sm_load (L := L) (k := k0_t2.val + 3) (off74_eq hT k0_t2)).on ?_) ?_
    · unfold Env Ins
      iintro ⟨H0, H1, H2, H3, H4⟩
      isplitl [H3]
      · iexact H3
      · iintro H3
        isplitl [H0]
        · iexact H0
        · isplitl [H1]
          · iexact H1
          · isplitl [H2]
            · iexact H2
            · isplitl [H3]
              · iexact H3
              · iexact H4
    refine Ev.bindAssume (chk45 (by rw [hy h4]; exact y.isLt) k0_t2) ?_
    refine Ev.conseq (E := iprop(Idle (c : Thread nD τ) (semAt arg15 0 (slotOf k0_t2)) (slot9 arg9 (slotOf k0_t2)) arg4 (qs (slotOf k0_t2)) W.G ∗ Idle (c : Thread nD τ) (semAt arg15 1 (slotOf k0_t2)) (slot10 arg10 (slotOf k0_t2)) arg5 (qs (slotOf k0_t2)) W.SG ∗ Idle (c : Thread nD τ) (semAt arg15 2 (slotOf k0_t2)) (slot11 arg11 (slotOf k0_t2)) arg6 (qs (slotOf k0_t2)) W.D ∗ Idle (c : Thread nD τ) (semAt arg15 3 (slotOf k0_t2)) (slot12 arg12 (slotOf k0_t2)) arg7 (qs (slotOf k0_t2)) W.SD ∗ (holds c arg13 fullShare (accT (inp W I Wt X (L k0_t2) x A) 11) ∗ Owes c) ∗ Ins c arg14 arg1 arg2 arg3 L I Wt X)) (E' := iprop(Fly (c : Thread nD τ) (semAt arg15 0 (slotOf k0_t2)) (slot9 arg9 (slotOf k0_t2)) arg4 (qs (slotOf k0_t2)) W.G (pick9 W.G y) ∗ Fly (c : Thread nD τ) (semAt arg15 1 (slotOf k0_t2)) (slot10 arg10 (slotOf k0_t2)) arg5 (qs (slotOf k0_t2)) W.SG (pick10 W.SG y) ∗ Fly (c : Thread nD τ) (semAt arg15 2 (slotOf k0_t2)) (slot11 arg11 (slotOf k0_t2)) arg6 (qs (slotOf k0_t2)) W.D (pick11 W.D y) ∗ Fly (c : Thread nD τ) (semAt arg15 3 (slotOf k0_t2)) (slot12 arg12 (slotOf k0_t2)) arg7 (qs (slotOf k0_t2)) W.SD (pick12 W.SD y) ∗ (holds c arg13 fullShare (accT (inp W I Wt X (L k0_t2) x A) 11) ∗ Owes c) ∗ Ins c arg14 arg1 arg2 arg3 L I Wt X)) ?_ ?_ ?_
    rotate_left 2
    · unfold FlyAll
      iintro ⟨H1, H2, H3, H4, ⟨HA, HO⟩, HI⟩
      isplitl [HA]
      · iexact HA
      · isplitl [H1 H2 H3 H4]
        · isplitl [H1]
          · iexact H1
          · isplitl [H2]
            · iexact H2
            · isplitl [H3]
              · iexact H3
              · iexact H4
        · isplitl [HO]
          · iexact HO
          · iexact HI
    · unfold Env HereAll
      iintro ⟨HA, ⟨H1, H2, H3, H4⟩, HO, HI⟩
      isplitl [H1]
      · iapply Here.idle $$ H1
      · isplitl [H2]
        · iapply Here.idle $$ H2
        · isplitl [H3]
          · iapply Here.idle $$ H3
          · isplitl [H4]
            · iapply Here.idle $$ H4
            · isplitl [HA HO]
              · isplitl [HA]
                · iexact HA
                · iexact HO
              · iexact HI
    refine Ev.bind (E' := iprop(Fly (c : Thread nD τ) (semAt arg15 0 (slotOf k0_t2)) (slot9 arg9 (slotOf k0_t2)) arg4 (qs (slotOf k0_t2)) W.G (pick9 W.G y) ∗ Idle (c : Thread nD τ) (semAt arg15 1 (slotOf k0_t2)) (slot10 arg10 (slotOf k0_t2)) arg5 (qs (slotOf k0_t2)) W.SG ∗ Idle (c : Thread nD τ) (semAt arg15 2 (slotOf k0_t2)) (slot11 arg11 (slotOf k0_t2)) arg6 (qs (slotOf k0_t2)) W.D ∗ Idle (c : Thread nD τ) (semAt arg15 3 (slotOf k0_t2)) (slot12 arg12 (slotOf k0_t2)) arg7 (qs (slotOf k0_t2)) W.SD ∗ (holds c arg13 fullShare (accT (inp W I Wt X (L k0_t2) x A) 11) ∗ Owes c) ∗ Ins c arg14 arg1 arg2 arg3 L I Wt X)) ((start9 (s := slotOf k0_t2) (T := W.G) (q := qs (slotOf k0_t2)) (x := y) (off75_eq hT k0_t2) (off76_eq hT k0_t2) (vec3 (hy h4))).on ?_) ?_
    · iintro ⟨H1, H2, H3, H4, HO, HI⟩
      isplitl [H1]
      · iexact H1
      · iintro H1
        isplitl [H1]
        · iexact H1
        · isplitl [H2]
          · iexact H2
          · isplitl [H3]
            · iexact H3
            · isplitl [H4]
              · iexact H4
              · isplitl [HO]
                · iexact HO
                · iexact HI
    refine Ev.bind (E' := iprop(Fly (c : Thread nD τ) (semAt arg15 0 (slotOf k0_t2)) (slot9 arg9 (slotOf k0_t2)) arg4 (qs (slotOf k0_t2)) W.G (pick9 W.G y) ∗ Fly (c : Thread nD τ) (semAt arg15 1 (slotOf k0_t2)) (slot10 arg10 (slotOf k0_t2)) arg5 (qs (slotOf k0_t2)) W.SG (pick10 W.SG y) ∗ Idle (c : Thread nD τ) (semAt arg15 2 (slotOf k0_t2)) (slot11 arg11 (slotOf k0_t2)) arg6 (qs (slotOf k0_t2)) W.D ∗ Idle (c : Thread nD τ) (semAt arg15 3 (slotOf k0_t2)) (slot12 arg12 (slotOf k0_t2)) arg7 (qs (slotOf k0_t2)) W.SD ∗ (holds c arg13 fullShare (accT (inp W I Wt X (L k0_t2) x A) 11) ∗ Owes c) ∗ Ins c arg14 arg1 arg2 arg3 L I Wt X)) ((start10 (s := slotOf k0_t2) (T := W.SG) (q := qs (slotOf k0_t2)) (x := y) (off78_eq hT k0_t2) (off79_eq hT k0_t2) (vec3 (hy h4))).on ?_) ?_
    · iintro ⟨H1, H2, H3, H4, HO, HI⟩
      isplitl [H2]
      · iexact H2
      · iintro H2
        isplitl [H1]
        · iexact H1
        · isplitl [H2]
          · iexact H2
          · isplitl [H3]
            · iexact H3
            · isplitl [H4]
              · iexact H4
              · isplitl [HO]
                · iexact HO
                · iexact HI
    refine Ev.bind (E' := iprop(Fly (c : Thread nD τ) (semAt arg15 0 (slotOf k0_t2)) (slot9 arg9 (slotOf k0_t2)) arg4 (qs (slotOf k0_t2)) W.G (pick9 W.G y) ∗ Fly (c : Thread nD τ) (semAt arg15 1 (slotOf k0_t2)) (slot10 arg10 (slotOf k0_t2)) arg5 (qs (slotOf k0_t2)) W.SG (pick10 W.SG y) ∗ Fly (c : Thread nD τ) (semAt arg15 2 (slotOf k0_t2)) (slot11 arg11 (slotOf k0_t2)) arg6 (qs (slotOf k0_t2)) W.D (pick11 W.D y) ∗ Idle (c : Thread nD τ) (semAt arg15 3 (slotOf k0_t2)) (slot12 arg12 (slotOf k0_t2)) arg7 (qs (slotOf k0_t2)) W.SD ∗ (holds c arg13 fullShare (accT (inp W I Wt X (L k0_t2) x A) 11) ∗ Owes c) ∗ Ins c arg14 arg1 arg2 arg3 L I Wt X)) ((start11 (s := slotOf k0_t2) (T := W.D) (q := qs (slotOf k0_t2)) (x := y) (off81_eq hT k0_t2) (off82_eq hT k0_t2) (vec3 (hy h4))).on ?_) ?_
    · iintro ⟨H1, H2, H3, H4, HO, HI⟩
      isplitl [H3]
      · iexact H3
      · iintro H3
        isplitl [H1]
        · iexact H1
        · isplitl [H2]
          · iexact H2
          · isplitl [H3]
            · iexact H3
            · isplitl [H4]
              · iexact H4
              · isplitl [HO]
                · iexact HO
                · iexact HI
    refine Ev.bind (E' := iprop(Fly (c : Thread nD τ) (semAt arg15 0 (slotOf k0_t2)) (slot9 arg9 (slotOf k0_t2)) arg4 (qs (slotOf k0_t2)) W.G (pick9 W.G y) ∗ Fly (c : Thread nD τ) (semAt arg15 1 (slotOf k0_t2)) (slot10 arg10 (slotOf k0_t2)) arg5 (qs (slotOf k0_t2)) W.SG (pick10 W.SG y) ∗ Fly (c : Thread nD τ) (semAt arg15 2 (slotOf k0_t2)) (slot11 arg11 (slotOf k0_t2)) arg6 (qs (slotOf k0_t2)) W.D (pick11 W.D y) ∗ Fly (c : Thread nD τ) (semAt arg15 3 (slotOf k0_t2)) (slot12 arg12 (slotOf k0_t2)) arg7 (qs (slotOf k0_t2)) W.SD (pick12 W.SD y) ∗ (holds c arg13 fullShare (accT (inp W I Wt X (L k0_t2) x A) 11) ∗ Owes c) ∗ Ins c arg14 arg1 arg2 arg3 L I Wt X)) ((start12 (s := slotOf k0_t2) (T := W.SD) (q := qs (slotOf k0_t2)) (x := y) (off84_eq hT k0_t2) (off85_eq hT k0_t2) (vec3 (hy h4))).on ?_) ?_
    · iintro ⟨H1, H2, H3, H4, HO, HI⟩
      isplitl [H4]
      · iexact H4
      · iintro H4
        isplitl [H1]
        · iexact H1
        · isplitl [H2]
          · iexact H2
          · isplitl [H3]
            · iexact H3
            · isplitl [H4]
              · iexact H4
              · isplitl [HO]
                · iexact HO
                · iexact HI
    first | exact Ev.pure _ | exact Ev.bind (Ev.pure _) (Ev.pure _)
  · have hc := fun h => h4 ((cond4_iff hT k0_t2).1 h)
    rw [dif_neg hc, if_neg h4]
    refine Ev.conseq (E' := iprop(holds c arg13 fullShare (accT (inp W I Wt X (L k0_t2) x A) 11) ∗ IdleAll c ⟨arg4, arg5, arg6, arg7, arg9, arg10, arg11, arg12, arg14, arg15⟩ W (slotOf k0_t2) ∗ Owes c ∗ Ins c arg14 arg1 arg2 arg3 L I Wt X)) ?_ (Ev.pure _) .rfl
    unfold Env
    iintro ⟨HA, H1, HO, HI⟩
    isplitl [HA]
    · iexact HA
    · isplitl [H1]
      · iapply HereAll.idle $$ H1
      · isplitl [HO]
        · iexact HO
        · iexact HI

end Cert.Kernel.Moe

end
-- ==== Proof.Active.lean ====
/-
  The list of active experts, in the words of scalar memory: words 32 to 63 are marks, one per expert, and the words
  from 0 on are the experts marked, in order.
-/
module

public import proofs.«01_k».proof.Proof.Base

@[expose] public section

namespace Cert.Moe

open Idealize.ShloMosaic

/-- The words after the first `k` are set to zero. -/
def zr (L : ℕ → BitVec 32) : ℕ → ℕ → BitVec 32
  | 0 => L
  | k + 1 => Function.update (zr L k) k 0#32

/-- The words after the first `n` ids have been marked. -/
def mk (id : ℕ → BitVec 32) (L : ℕ → BitVec 32) : ℕ → ℕ → BitVec 32
  | 0 => L
  | n + 1 => Function.update (mk id L n) (32 + (id n).toNat) 1#32

/-- How many of the first `n` experts are marked. -/
def cnt (M : ℕ → BitVec 32) : ℕ → ℕ
  | 0 => 0
  | n + 1 => cnt M n + (M (32 + n)).toNat

/-- The same as a word. -/
def sumf (M : ℕ → BitVec 32) : ℕ → BitVec 32
  | 0 => 0#32
  | n + 1 => Scalar.addi (sumf M n) (M (32 + n))

/-- The words after the first `n` experts have been put on the list. -/
def LL (M : ℕ → BitVec 32) : ℕ → ℕ → BitVec 32
  | 0 => M
  | n + 1 => Function.update (LL M n) (cnt M n) (BitVec.ofNat 32 n)

/-- Each mark is 0 or 1. -/
def Marks (M : ℕ → BitVec 32) : Prop := ∀ k < 32, M (32 + k) = 0#32 ∨ M (32 + k) = 1#32

/-- The count of the first `n` marks is at most `n`. -/
theorem cnt_le {M : ℕ → BitVec 32} (h : Marks M) : ∀ n, n ≤ 32 → cnt M n ≤ n
  | 0, _ => Nat.le_refl _
  | n + 1, hn => by
    have ih := cnt_le h n (by omega)
    show cnt M n + (M (32 + n)).toNat ≤ n + 1
    rcases h n (by omega) with e | e <;> rw [e]
    · show cnt M n + 0 ≤ n + 1
      omega
    · show cnt M n + 1 ≤ n + 1
      omega

/-- The running sum of the marks is their count. -/
theorem sumf_eq {M : ℕ → BitVec 32} : ∀ n, sumf M n = BitVec.ofNat 32 (cnt M n)
  | 0 => rfl
  | n + 1 => by
    show sumf M n + M (32 + n) = BitVec.ofNat 32 (cnt M n + (M (32 + n)).toNat)
    rw [sumf_eq n, BitVec.ofNat_add, BitVec.ofNat_toNat, BitVec.setWidth_eq]

/-- The list's writes leave the marks as they are. -/
theorem LL_mark {M : ℕ → BitVec 32} (h : Marks M) (k : ℕ) : ∀ n, n ≤ 32 → LL M n (32 + k) = M (32 + k)
  | 0, _ => rfl
  | n + 1, hn => by
    have h1 := cnt_le h n (by omega)
    show Function.update (LL M n) (cnt M n) (BitVec.ofNat 32 n) (32 + k) = _
    rw [Function.update_of_ne (by omega), LL_mark h k n (by omega)]

/-- A small count as an index. -/
theorem index_arith : ∀ n : Fin 33, (Scalar.indexCast (BitVec.ofNat 32 n.val)).toNat = n.val := by decide

/-- The place the list is written at is the count so far. -/
theorem index_eq {M : ℕ → BitVec 32} (h : Marks M) {n : ℕ} (hn : n ≤ 32) : (Scalar.indexCast (sumf M n)).toNat = cnt M n := by
  rw [sumf_eq]
  exact index_arith ⟨cnt M n, by have := cnt_le h n hn; omega⟩

/-- The place of an expert's mark. -/
theorem mark_arith : ∀ e : Fin 32, (Scalar.indexCast (Scalar.addi 32#32 (BitVec.ofNat 32 e.val))).toNat = 32 + e.val := by decide

/-- The place of the mark of the expert a word names. -/
theorem mark_eq {v : BitVec 32} (h : v.toNat < 32) : (Scalar.indexCast (Scalar.addi 32#32 v)).toNat = 32 + v.toNat := by
  have := mark_arith ⟨v.toNat, h⟩
  rwa [BitVec.ofNat_toNat, BitVec.setWidth_eq] at this

/-- The first `n` words are zero once zeroed. -/
theorem zr_eq (L : ℕ → BitVec 32) : ∀ n k, k < n → zr L n k = 0#32
  | 0, _, h => absurd h (Nat.not_lt_zero _)
  | n + 1, k, h => by
    show Function.update (zr L n) n 0#32 k = _
    by_cases e : k = n
    · rw [e, Function.update_self]
    · rw [Function.update_of_ne e, zr_eq L n k (by omega)]

open scoped Classical in
/-- Marking sets exactly the words of the ids. -/
theorem mk_eq (id L : ℕ → BitVec 32) (k : ℕ) : ∀ n, mk id L n (32 + k) = if ∃ i < n, (id i).toNat = k then 1#32 else L (32 + k)
  | 0 => by
    rw [if_neg (by rintro ⟨i, hi, -⟩; exact absurd hi (Nat.not_lt_zero _))]
    rfl
  | n + 1 => by
    show Function.update (mk id L n) (32 + (id n).toNat) 1#32 (32 + k) = _
    by_cases e : (id n).toNat = k
    · rw [e, Function.update_self, if_pos ⟨n, Nat.lt_succ_self _, e⟩]
    · rw [Function.update_of_ne (by omega), mk_eq id L k n]
      by_cases h : ∃ i < n, (id i).toNat = k
      · obtain ⟨i, hi, hk⟩ := h
        rw [if_pos ⟨i, hi, hk⟩, if_pos ⟨i, by omega, hk⟩]
      · rw [if_neg h, if_neg]
        rintro ⟨i, hi, hk⟩
        rcases Nat.lt_succ_iff_lt_or_eq.mp hi with hi | rfl
        · exact h ⟨i, hi, hk⟩
        · exact e hk

/-- The words once all ids are marked. -/
def marked (id L : ℕ → BitVec 32) : ℕ → BitVec 32 := mk id (zr L 64) 512

open scoped Classical in
/-- A mark is 1 exactly when some id names the expert. -/
theorem marked_eq (id L : ℕ → BitVec 32) {k : ℕ} (hk : k < 32) : marked id L (32 + k) = if ∃ i < 512, (id i).toNat = k then 1#32 else 0#32 := by
  unfold marked
  rw [mk_eq, zr_eq L 64 (32 + k) (by omega)]
  congr

/-- After the marking every mark is zero or one. -/
theorem marked_marks (id L : ℕ → BitVec 32) : Marks (marked id L) := fun k hk => by
  rw [marked_eq id L hk]
  split
  · exact .inr rfl
  · exact .inl rfl

/-- The list holds the experts marked, in order. -/
theorem list_eq {M : ℕ → BitVec 32} (h : Marks M) : ∀ n, n ≤ 32 →
    (List.range (cnt M n)).map (LL M n) = ((List.range n).filter (fun e => decide (M (32 + e) = 1#32))).map (BitVec.ofNat 32)
  | 0, _ => rfl
  | n + 1, hn => by
    have ih := list_eq h n (by omega)
    have hun : (List.range (cnt M n)).map (LL M (n + 1)) = (List.range (cnt M n)).map (LL M n) := by
      refine List.map_congr_left fun p hp => ?_
      have := List.mem_range.mp hp
      show Function.update (LL M n) (cnt M n) (BitVec.ofNat 32 n) p = _
      rw [Function.update_of_ne (by omega)]
    rw [List.range_succ, List.filter_append, List.map_append, ← ih]
    rcases h n (by omega) with e | e
    · have hc : cnt M (n + 1) = cnt M n := by
        show cnt M n + (M (32 + n)).toNat = _
        rw [e]; rfl
      rw [hc, hun]
      have : [n].filter (fun e => decide (M (32 + e) = 1#32)) = [] := by
        rw [List.filter_cons_of_neg (by rw [e]; decide)]
        rfl
      rw [this, List.map_nil, List.append_nil]
    · have hc : cnt M (n + 1) = cnt M n + 1 := by
        show cnt M n + (M (32 + n)).toNat = _
        rw [e]; rfl
      rw [hc, List.range_succ, List.map_append, hun]
      have : [n].filter (fun e => decide (M (32 + e) = 1#32)) = [n] := by
        rw [List.filter_cons_of_pos (by rw [e]; decide)]
        rfl
      rw [this]
      congr 1
      show [Function.update (LL M n) (cnt M n) (BitVec.ofNat 32 n) (cnt M n)] = [BitVec.ofNat 32 n]
      rw [Function.update_self]

/-- The expert in place `p` of the list. -/
def act (M : ℕ → BitVec 32) (p : ℕ) : Fin 32 := ⟨(LL M 32 p).toNat % 32, Nat.mod_lt _ (by decide)⟩

/-- An entry of the list is the expert of that turn. -/
theorem act_eq {M : ℕ → BitVec 32} (h : Marks M) {p : ℕ} (hp : p < cnt M 32) : (LL M 32 p).toNat = (act M p).val := by
  have h1 : LL M 32 p ∈ (List.range (cnt M 32)).map (LL M 32) := List.mem_map.mpr ⟨p, List.mem_range.mpr hp, rfl⟩
  rw [list_eq h 32 (Nat.le_refl _)] at h1
  obtain ⟨e, he, h2⟩ := List.mem_map.mp h1
  have h3 := List.mem_range.mp (List.mem_filter.mp he).1
  have h4 : (LL M 32 p).toNat = e := by
    rw [← h2, BitVec.toNat_ofNat]
    exact Nat.mod_eq_of_lt (by omega)
  show _ = (LL M 32 p).toNat % 32
  rw [h4]
  omega

end Cert.Moe
-- ==== Proof.Pre0.lean ====
/-
  The list of active experts: how the kernel builds it in scalar memory.
-/
module

public import proofs.«01_k».proof.Proof.Base
public import proofs.«01_k».proof.Proof.Gen.Kernel.Skeleton
public import proofs.«01_k».proof.Proof.Ring
public import proofs.«01_k».proof.Proof.Active

@[expose] public section

set_option maxRecDepth 16384
set_option pp.deepTerms false
set_option pp.maxSteps 80

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {L M id : ℕ → BitVec 32}

/-- The ids in scalar memory: entry `(a, b)` is `id (8a + b)`. -/
def Ids (c : Dev nD) (m : Memref sig .tc .smem S64x8 .i32) (id : ℕ → BitVec 32) : sProp 𝕄 :=
  holds c m fullShare (fun i : S64x8.Idx => (id (8 * (i 0).val + (i 1).val) : Elt F .i32))

/-- Reading an id from scalar memory gives the id. -/
theorem ids_load {m : Memref sig .tc .smem S64x8 .i32} {a b : ℕ} {o : Fin 2 → ℕ} (ho : o = ![a, b]) {h1 h2 h3} :
    Ev (defs₀ (F := F)) Variants.none c none (Ids c m id) (smemLoad m (Rect.unit (s := S64x8) o S1x1.size h1) h2 h3) (id (8 * a + b)) (Ids c m id) := by
  subst ho
  have h := ev_smemLoad (defs := defs₀ (F := F)) (𝒱 := Variants.none) (c := (c : Thread nD τ)) (bd := none) (m := m)
    (r := Rect.unit (s := S64x8) ![a, b] S1x1.size h1) (h1 := h2) (hp := h3) (q := fullShare)
    (T := (fun i : S64x8.Idx => (id (8 * (i 0).val + (i 1).val) : Elt F .i32)))
  exact h

/-- A step beside `A`. -/
theorem ev_frameR {α : Type} {E E' : sProp 𝕄} (A : sProp 𝕄) {p : Prog (TpuEff nD τ sig (Elt F) Λ₀ .tc) α} {a : α}
    (h : Ev (defs₀ (F := F)) Variants.none c none E p a E') :
    Ev (defs₀ (F := F)) Variants.none c none iprop(E ∗ A) p a iprop(E' ∗ A) := by
  refine h.on ?_
  iintro ⟨H1, H2⟩
  isplitl [H1]
  · iexact H1
  · iintro H1
    isplitl [H1]
    · iexact H1
    · iexact H2

/-- A run keeps what it does not touch. -/
theorem ev_frameL {α : Type} {E E' : sProp 𝕄} (A : sProp 𝕄) {p : Prog (TpuEff nD τ sig (Elt F) Λ₀ .tc) α} {a : α}
    (h : Ev (defs₀ (F := F)) Variants.none c none E p a E') :
    Ev (defs₀ (F := F)) Variants.none c none iprop(A ∗ E) p a iprop(A ∗ E') := by
  refine h.on ?_
  iintro ⟨H1, H2⟩
  isplitl [H2]
  · iexact H2
  · iintro H2
    isplitl [H1]
    · iexact H1
    · iexact H2

/-- Reading the mark of expert `k`. -/
theorem flag_load (h : Marks M) {m : Memref sig .tc .smem S65 .i32} {n k : ℕ} (hn : n ≤ 32) {o : Fin 1 → ℕ} (ho : o = ![32 + k]) {h1 h2 h3} :
    Ev (defs₀ (F := F)) Variants.none c none (Sm c m (LL M n)) (smemLoad m (Rect.unit (s := S65) o S1.size h1) h2 h3) (M (32 + k)) (Sm c m (LL M n)) := by
  have h4 := sm_load (F := F) (c := c) (m := m) (L := LL M n) (k := 32 + k) ho (h1 := h1) (h2 := h2) (h3 := h3)
  rw [LL_mark h k n hn] at h4
  exact h4

/-- Putting expert `n` on the list. -/
theorem list_store {m : Memref sig .tc .smem S65 .i32} {n : ℕ} {v : BitVec 32} (hv : v = BitVec.ofNat 32 n)
    {o : Fin 1 → ℕ} (ho : o = ![cnt M n]) {h1 h2 h3} :
    Ev (defs₀ (F := F)) Variants.none c none (Sm c m (LL M n))
      (Prog.lift (.store m (Rect.unit (s := S65) o S1.size h1) (fun _ => v) Finset.univ h2 h3)) ⟨⟩ (Sm c m (LL M (n + 1))) := by
  subst hv
  exact sm_store ho

/-- Part 180 of the body runs and leaves what is stated. -/
theorem k0_part180_ev : Ev (defs₀ (F := F)) Variants.none c none (Sm c arg14 (zr L 0)) (k0_part180 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 : Prog (TpuEff nD τ sig (Elt F) Λ₀ .tc) _) ⟨⟩ (Sm c arg14 (zr L 15)) := by
  rw [k0_part180_eq_skeleton]
  unfold k0_part180_skel
  refine Ev.bind (sm_load (k := 0) rfl) ?_
  refine Ev.bind (E' := Sm c arg14 (zr L 1)) (sm_store (k := 0) rfl) ?_
  refine Ev.bind (sm_load (k := 1) rfl) ?_
  refine Ev.bind (E' := Sm c arg14 (zr L 2)) (sm_store (k := 1) rfl) ?_
  refine Ev.bind (sm_load (k := 2) rfl) ?_
  refine Ev.bind (E' := Sm c arg14 (zr L 3)) (sm_store (k := 2) rfl) ?_
  refine Ev.bind (sm_load (k := 3) rfl) ?_
  refine Ev.bind (E' := Sm c arg14 (zr L 4)) (sm_store (k := 3) rfl) ?_
  refine Ev.bind (sm_load (k := 4) rfl) ?_
  refine Ev.bind (E' := Sm c arg14 (zr L 5)) (sm_store (k := 4) rfl) ?_
  refine Ev.bind (sm_load (k := 5) rfl) ?_
  refine Ev.bind (E' := Sm c arg14 (zr L 6)) (sm_store (k := 5) rfl) ?_
  refine Ev.bind (sm_load (k := 6) rfl) ?_
  refine Ev.bind (E' := Sm c arg14 (zr L 7)) (sm_store (k := 6) rfl) ?_
  refine Ev.bind (sm_load (k := 7) rfl) ?_
  refine Ev.bind (E' := Sm c arg14 (zr L 8)) (sm_store (k := 7) rfl) ?_
  refine Ev.bind (sm_load (k := 8) rfl) ?_
  refine Ev.bind (E' := Sm c arg14 (zr L 9)) (sm_store (k := 8) rfl) ?_
  refine Ev.bind (sm_load (k := 9) rfl) ?_
  refine Ev.bind (E' := Sm c arg14 (zr L 10)) (sm_store (k := 9) rfl) ?_
  refine Ev.bind (sm_load (k := 10) rfl) ?_
  refine Ev.bind (E' := Sm c arg14 (zr L 11)) (sm_store (k := 10) rfl) ?_
  refine Ev.bind (sm_load (k := 11) rfl) ?_
  refine Ev.bind (E' := Sm c arg14 (zr L 12)) (sm_store (k := 11) rfl) ?_
  refine Ev.bind (sm_load (k := 12) rfl) ?_
  refine Ev.bind (E' := Sm c arg14 (zr L 13)) (sm_store (k := 12) rfl) ?_
  refine Ev.bind (sm_load (k := 13) rfl) ?_
  refine Ev.bind (E' := Sm c arg14 (zr L 14)) (sm_store (k := 13) rfl) ?_
  refine Ev.bind (sm_load (k := 14) rfl) ?_
  refine Ev.bind (E' := Sm c arg14 (zr L 15)) (sm_store (k := 14) rfl) ?_
  exact Ev.pure _

/-- Part 181 of the body runs and leaves what is stated. -/
theorem k0_part181_ev : Ev (defs₀ (F := F)) Variants.none c none (Sm c arg14 (zr L 15)) (k0_part181 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 : Prog (TpuEff nD τ sig (Elt F) Λ₀ .tc) _) ⟨⟩ (Sm c arg14 (zr L 30)) := by
  rw [k0_part181_eq_skeleton]
  unfold k0_part181_skel
  refine Ev.bind (sm_load (k := 15) rfl) ?_
  refine Ev.bind (E' := Sm c arg14 (zr L 16)) (sm_store (k := 15) rfl) ?_
  refine Ev.bind (sm_load (k := 16) rfl) ?_
  refine Ev.bind (E' := Sm c arg14 (zr L 17)) (sm_store (k := 16) rfl) ?_
  refine Ev.bind (sm_load (k := 17) rfl) ?_
  refine Ev.bind (E' := Sm c arg14 (zr L 18)) (sm_store (k := 17) rfl) ?_
  refine Ev.bind (sm_load (k := 18) rfl) ?_
  refine Ev.bind (E' := Sm c arg14 (zr L 19)) (sm_store (k := 18) rfl) ?_
  refine Ev.bind (sm_load (k := 19) rfl) ?_
  refine Ev.bind (E' := Sm c arg14 (zr L 20)) (sm_store (k := 19) rfl) ?_
  refine Ev.bind (sm_load (k := 20) rfl) ?_
  refine Ev.bind (E' := Sm c arg14 (zr L 21)) (sm_store (k := 20) rfl) ?_
  refine Ev.bind (sm_load (k := 21) rfl) ?_
  refine Ev.bind (E' := Sm c arg14 (zr L 22)) (sm_store (k := 21) rfl) ?_
  refine Ev.bind (sm_load (k := 22) rfl) ?_
  refine Ev.bind (E' := Sm c arg14 (zr L 23)) (sm_store (k := 22) rfl) ?_
  refine Ev.bind (sm_load (k := 23) rfl) ?_
  refine Ev.bind (E' := Sm c arg14 (zr L 24)) (sm_store (k := 23) rfl) ?_
  refine Ev.bind (sm_load (k := 24) rfl) ?_
  refine Ev.bind (E' := Sm c arg14 (zr L 25)) (sm_store (k := 24) rfl) ?_
  refine Ev.bind (sm_load (k := 25) rfl) ?_
  refine Ev.bind (E' := Sm c arg14 (zr L 26)) (sm_store (k := 25) rfl) ?_
  refine Ev.bind (sm_load (k := 26) rfl) ?_
  refine Ev.bind (E' := Sm c arg14 (zr L 27)) (sm_store (k := 26) rfl) ?_
  refine Ev.bind (sm_load (k := 27) rfl) ?_
  refine Ev.bind (E' := Sm c arg14 (zr L 28)) (sm_store (k := 27) rfl) ?_
  refine Ev.bind (sm_load (k := 28) rfl) ?_
  refine Ev.bind (E' := Sm c arg14 (zr L 29)) (sm_store (k := 28) rfl) ?_
  refine Ev.bind (sm_load (k := 29) rfl) ?_
  refine Ev.bind (E' := Sm c arg14 (zr L 30)) (sm_store (k := 29) rfl) ?_
  exact Ev.pure _

/-- Part 182 of the body runs and leaves what is stated. -/
theorem k0_part182_ev : Ev (defs₀ (F := F)) Variants.none c none (Sm c arg14 (zr L 30)) (k0_part182 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 : Prog (TpuEff nD τ sig (Elt F) Λ₀ .tc) _) ⟨⟩ (Sm c arg14 (zr L 45)) := by
  rw [k0_part182_eq_skeleton]
  unfold k0_part182_skel
  refine Ev.bind (sm_load (k := 30) rfl) ?_
  refine Ev.bind (E' := Sm c arg14 (zr L 31)) (sm_store (k := 30) rfl) ?_
  refine Ev.bind (sm_load (k := 31) rfl) ?_
  refine Ev.bind (E' := Sm c arg14 (zr L 32)) (sm_store (k := 31) rfl) ?_
  refine Ev.bind (sm_load (k := 32) rfl) ?_
  refine Ev.bind (E' := Sm c arg14 (zr L 33)) (sm_store (k := 32) rfl) ?_
  refine Ev.bind (sm_load (k := 33) rfl) ?_
  refine Ev.bind (E' := Sm c arg14 (zr L 34)) (sm_store (k := 33) rfl) ?_
  refine Ev.bind (sm_load (k := 34) rfl) ?_
  refine Ev.bind (E' := Sm c arg14 (zr L 35)) (sm_store (k := 34) rfl) ?_
  refine Ev.bind (sm_load (k := 35) rfl) ?_
  refine Ev.bind (E' := Sm c arg14 (zr L 36)) (sm_store (k := 35) rfl) ?_
  refine Ev.bind (sm_load (k := 36) rfl) ?_
  refine Ev.bind (E' := Sm c arg14 (zr L 37)) (sm_store (k := 36) rfl) ?_
  refine Ev.bind (sm_load (k := 37) rfl) ?_
  refine Ev.bind (E' := Sm c arg14 (zr L 38)) (sm_store (k := 37) rfl) ?_
  refine Ev.bind (sm_load (k := 38) rfl) ?_
  refine Ev.bind (E' := Sm c arg14 (zr L 39)) (sm_store (k := 38) rfl) ?_
  refine Ev.bind (sm_load (k := 39) rfl) ?_
  refine Ev.bind (E' := Sm c arg14 (zr L 40)) (sm_store (k := 39) rfl) ?_
  refine Ev.bind (sm_load (k := 40) rfl) ?_
  refine Ev.bind (E' := Sm c arg14 (zr L 41)) (sm_store (k := 40) rfl) ?_
  refine Ev.bind (sm_load (k := 41) rfl) ?_
  refine Ev.bind (E' := Sm c arg14 (zr L 42)) (sm_store (k := 41) rfl) ?_
  refine Ev.bind (sm_load (k := 42) rfl) ?_
  refine Ev.bind (E' := Sm c arg14 (zr L 43)) (sm_store (k := 42) rfl) ?_
  refine Ev.bind (sm_load (k := 43) rfl) ?_
  refine Ev.bind (E' := Sm c arg14 (zr L 44)) (sm_store (k := 43) rfl) ?_
  refine Ev.bind (sm_load (k := 44) rfl) ?_
  refine Ev.bind (E' := Sm c arg14 (zr L 45)) (sm_store (k := 44) rfl) ?_
  exact Ev.pure _

/-- Part 183 of the body runs and leaves what is stated. -/
theorem k0_part183_ev : Ev (defs₀ (F := F)) Variants.none c none (Sm c arg14 (zr L 45)) (k0_part183 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 : Prog (TpuEff nD τ sig (Elt F) Λ₀ .tc) _) ⟨⟩ (Sm c arg14 (zr L 60)) := by
  rw [k0_part183_eq_skeleton]
  unfold k0_part183_skel
  refine Ev.bind (sm_load (k := 45) rfl) ?_
  refine Ev.bind (E' := Sm c arg14 (zr L 46)) (sm_store (k := 45) rfl) ?_
  refine Ev.bind (sm_load (k := 46) rfl) ?_
  refine Ev.bind (E' := Sm c arg14 (zr L 47)) (sm_store (k := 46) rfl) ?_
  refine Ev.bind (sm_load (k := 47) rfl) ?_
  refine Ev.bind (E' := Sm c arg14 (zr L 48)) (sm_store (k := 47) rfl) ?_
  refine Ev.bind (sm_load (k := 48) rfl) ?_
  refine Ev.bind (E' := Sm c arg14 (zr L 49)) (sm_store (k := 48) rfl) ?_
  refine Ev.bind (sm_load (k := 49) rfl) ?_
  refine Ev.bind (E' := Sm c arg14 (zr L 50)) (sm_store (k := 49) rfl) ?_
  refine Ev.bind (sm_load (k := 50) rfl) ?_
  refine Ev.bind (E' := Sm c arg14 (zr L 51)) (sm_store (k := 50) rfl) ?_
  refine Ev.bind (sm_load (k := 51) rfl) ?_
  refine Ev.bind (E' := Sm c arg14 (zr L 52)) (sm_store (k := 51) rfl) ?_
  refine Ev.bind (sm_load (k := 52) rfl) ?_
  refine Ev.bind (E' := Sm c arg14 (zr L 53)) (sm_store (k := 52) rfl) ?_
  refine Ev.bind (sm_load (k := 53) rfl) ?_
  refine Ev.bind (E' := Sm c arg14 (zr L 54)) (sm_store (k := 53) rfl) ?_
  refine Ev.bind (sm_load (k := 54) rfl) ?_
  refine Ev.bind (E' := Sm c arg14 (zr L 55)) (sm_store (k := 54) rfl) ?_
  refine Ev.bind (sm_load (k := 55) rfl) ?_
  refine Ev.bind (E' := Sm c arg14 (zr L 56)) (sm_store (k := 55) rfl) ?_
  refine Ev.bind (sm_load (k := 56) rfl) ?_
  refine Ev.bind (E' := Sm c arg14 (zr L 57)) (sm_store (k := 56) rfl) ?_
  refine Ev.bind (sm_load (k := 57) rfl) ?_
  refine Ev.bind (E' := Sm c arg14 (zr L 58)) (sm_store (k := 57) rfl) ?_
  refine Ev.bind (sm_load (k := 58) rfl) ?_
  refine Ev.bind (E' := Sm c arg14 (zr L 59)) (sm_store (k := 58) rfl) ?_
  refine Ev.bind (sm_load (k := 59) rfl) ?_
  refine Ev.bind (E' := Sm c arg14 (zr L 60)) (sm_store (k := 59) rfl) ?_
  exact Ev.pure _

/-- The row a turn of the marking loop reads. -/
theorem t1_arith : ∀ t : Fin 64, (Scalar.indexCast (Scf.iv 0#32 1#32 t.val)).toNat = t.val := by decide

/-- The marking loop runs over 64 tokens. -/
theorem t1_trips : k0_t1_loop.trips = 64 := by decide

/-- Offset 1 by its place. -/
theorem off1_eq (t : Fin k0_t1_loop.trips) : k0_off1 t = ![t.val, 0] := by
  show ![(Scalar.indexCast (Scf.iv 0#32 1#32 t.val)).toNat, 0] = _
  rw [t1_arith ⟨t.val, t.isLt.trans_eq t1_trips⟩]

/-- Offset 2 by its place. -/
theorem off2_eq {v : BitVec 32} (h : v.toNat < 32) : k0_off2 v = ![32 + v.toNat] := by
  show ![(Scalar.indexCast (Scalar.addi 32#32 v)).toNat] = _
  rw [mark_eq h]

/-- Bounds check 1 passes. -/
theorem chk1 {v : BitVec 32} (h : v.toNat < 32) : k0_chk1 v := by
  unfold k0_chk1
  rw [off2_eq h]
  exact inbl (by omega)

/-- Offset 3 by its place. -/
theorem off3_eq (t : Fin k0_t1_loop.trips) : k0_off3 t = ![t.val, 1] := by
  show ![(Scalar.indexCast (Scf.iv 0#32 1#32 t.val)).toNat, 1] = _
  rw [t1_arith ⟨t.val, t.isLt.trans_eq t1_trips⟩]

/-- Offset 4 by its place. -/
theorem off4_eq {v : BitVec 32} (h : v.toNat < 32) : k0_off4 v = ![32 + v.toNat] := by
  show ![(Scalar.indexCast (Scalar.addi 32#32 v)).toNat] = _
  rw [mark_eq h]

/-- Bounds check 2 passes. -/
theorem chk2 {v : BitVec 32} (h : v.toNat < 32) : k0_chk2 v := by
  unfold k0_chk2
  rw [off4_eq h]
  exact inbl (by omega)

/-- Offset 5 by its place. -/
theorem off5_eq (t : Fin k0_t1_loop.trips) : k0_off5 t = ![t.val, 2] := by
  show ![(Scalar.indexCast (Scf.iv 0#32 1#32 t.val)).toNat, 2] = _
  rw [t1_arith ⟨t.val, t.isLt.trans_eq t1_trips⟩]

/-- Offset 6 by its place. -/
theorem off6_eq {v : BitVec 32} (h : v.toNat < 32) : k0_off6 v = ![32 + v.toNat] := by
  show ![(Scalar.indexCast (Scalar.addi 32#32 v)).toNat] = _
  rw [mark_eq h]

/-- Bounds check 3 passes. -/
theorem chk3 {v : BitVec 32} (h : v.toNat < 32) : k0_chk3 v := by
  unfold k0_chk3
  rw [off6_eq h]
  exact inbl (by omega)

/-- Offset 7 by its place. -/
theorem off7_eq (t : Fin k0_t1_loop.trips) : k0_off7 t = ![t.val, 3] := by
  show ![(Scalar.indexCast (Scf.iv 0#32 1#32 t.val)).toNat, 3] = _
  rw [t1_arith ⟨t.val, t.isLt.trans_eq t1_trips⟩]

/-- Offset 8 by its place. -/
theorem off8_eq {v : BitVec 32} (h : v.toNat < 32) : k0_off8 v = ![32 + v.toNat] := by
  show ![(Scalar.indexCast (Scalar.addi 32#32 v)).toNat] = _
  rw [mark_eq h]

/-- Bounds check 4 passes. -/
theorem chk4 {v : BitVec 32} (h : v.toNat < 32) : k0_chk4 v := by
  unfold k0_chk4
  rw [off8_eq h]
  exact inbl (by omega)

/-- Offset 9 by its place. -/
theorem off9_eq (t : Fin k0_t1_loop.trips) : k0_off9 t = ![t.val, 4] := by
  show ![(Scalar.indexCast (Scf.iv 0#32 1#32 t.val)).toNat, 4] = _
  rw [t1_arith ⟨t.val, t.isLt.trans_eq t1_trips⟩]

/-- Offset 10 by its place. -/
theorem off10_eq {v : BitVec 32} (h : v.toNat < 32) : k0_off10 v = ![32 + v.toNat] := by
  show ![(Scalar.indexCast (Scalar.addi 32#32 v)).toNat] = _
  rw [mark_eq h]

/-- Bounds check 5 passes. -/
theorem chk5 {v : BitVec 32} (h : v.toNat < 32) : k0_chk5 v := by
  unfold k0_chk5
  rw [off10_eq h]
  exact inbl (by omega)

/-- Offset 11 by its place. -/
theorem off11_eq (t : Fin k0_t1_loop.trips) : k0_off11 t = ![t.val, 5] := by
  show ![(Scalar.indexCast (Scf.iv 0#32 1#32 t.val)).toNat, 5] = _
  rw [t1_arith ⟨t.val, t.isLt.trans_eq t1_trips⟩]

/-- Offset 12 by its place. -/
theorem off12_eq {v : BitVec 32} (h : v.toNat < 32) : k0_off12 v = ![32 + v.toNat] := by
  show ![(Scalar.indexCast (Scalar.addi 32#32 v)).toNat] = _
  rw [mark_eq h]

/-- Bounds check 6 passes. -/
theorem chk6 {v : BitVec 32} (h : v.toNat < 32) : k0_chk6 v := by
  unfold k0_chk6
  rw [off12_eq h]
  exact inbl (by omega)

/-- Offset 13 by its place. -/
theorem off13_eq (t : Fin k0_t1_loop.trips) : k0_off13 t = ![t.val, 6] := by
  show ![(Scalar.indexCast (Scf.iv 0#32 1#32 t.val)).toNat, 6] = _
  rw [t1_arith ⟨t.val, t.isLt.trans_eq t1_trips⟩]

/-- Offset 14 by its place. -/
theorem off14_eq {v : BitVec 32} (h : v.toNat < 32) : k0_off14 v = ![32 + v.toNat] := by
  show ![(Scalar.indexCast (Scalar.addi 32#32 v)).toNat] = _
  rw [mark_eq h]

/-- Bounds check 7 passes. -/
theorem chk7 {v : BitVec 32} (h : v.toNat < 32) : k0_chk7 v := by
  unfold k0_chk7
  rw [off14_eq h]
  exact inbl (by omega)

/-- Offset 15 by its place. -/
theorem off15_eq (t : Fin k0_t1_loop.trips) : k0_off15 t = ![t.val, 7] := by
  show ![(Scalar.indexCast (Scf.iv 0#32 1#32 t.val)).toNat, 7] = _
  rw [t1_arith ⟨t.val, t.isLt.trans_eq t1_trips⟩]

/-- Offset 16 by its place. -/
theorem off16_eq {v : BitVec 32} (h : v.toNat < 32) : k0_off16 v = ![32 + v.toNat] := by
  show ![(Scalar.indexCast (Scalar.addi 32#32 v)).toNat] = _
  rw [mark_eq h]

/-- Bounds check 8 passes. -/
theorem chk8 {v : BitVec 32} (h : v.toNat < 32) : k0_chk8 v := by
  unfold k0_chk8
  rw [off16_eq h]
  exact inbl (by omega)

/-- Part 1 of the body runs and leaves what is stated. -/
theorem k0_part1_ev (hid : ∀ n, (id n).toNat < 32) (k0_t1 : Fin k0_t1_loop.trips) :
    Ev (defs₀ (F := F)) Variants.none c none iprop(Ids c arg0 id ∗ Sm c arg14 (mk id L (8 * k0_t1.val))) (k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 0#32 1#32 k0_t1 : Prog (TpuEff nD τ sig (Elt F) Λ₀ .tc) _)
      ⟨Scf.iv 0#32 1#32 k0_t1, id (8 * k0_t1.val + 5), chk6 (hid _), 1#32⟩ iprop(Ids c arg0 id ∗ Sm c arg14 (mk id L (8 * k0_t1.val + 5))) := by
  rw [k0_part1_eq_skeleton]
  unfold k0_part1_skel
  dsimp only
  refine Ev.bind (ev_frameR _ (ids_load (off1_eq k0_t1))) ?_
  refine Ev.bindAssume (chk1 (hid _)) ?_
  refine Ev.bind (ev_frameL _ (sm_load (off2_eq (hid _)))) ?_
  refine Ev.bind (E' := iprop(Ids c arg0 id ∗ Sm c arg14 (mk id L (8 * k0_t1.val + 1)))) (ev_frameL _ (sm_store (off2_eq (hid _)))) ?_
  refine Ev.bind (ev_frameR _ (ids_load (off3_eq k0_t1))) ?_
  refine Ev.bindAssume (chk2 (hid _)) ?_
  refine Ev.bind (ev_frameL _ (sm_load (off4_eq (hid _)))) ?_
  refine Ev.bind (E' := iprop(Ids c arg0 id ∗ Sm c arg14 (mk id L (8 * k0_t1.val + 2)))) (ev_frameL _ (sm_store (off4_eq (hid _)))) ?_
  refine Ev.bind (ev_frameR _ (ids_load (off5_eq k0_t1))) ?_
  refine Ev.bindAssume (chk3 (hid _)) ?_
  refine Ev.bind (ev_frameL _ (sm_load (off6_eq (hid _)))) ?_
  refine Ev.bind (E' := iprop(Ids c arg0 id ∗ Sm c arg14 (mk id L (8 * k0_t1.val + 3)))) (ev_frameL _ (sm_store (off6_eq (hid _)))) ?_
  refine Ev.bind (ev_frameR _ (ids_load (off7_eq k0_t1))) ?_
  refine Ev.bindAssume (chk4 (hid _)) ?_
  refine Ev.bind (ev_frameL _ (sm_load (off8_eq (hid _)))) ?_
  refine Ev.bind (E' := iprop(Ids c arg0 id ∗ Sm c arg14 (mk id L (8 * k0_t1.val + 4)))) (ev_frameL _ (sm_store (off8_eq (hid _)))) ?_
  refine Ev.bind (ev_frameR _ (ids_load (off9_eq k0_t1))) ?_
  refine Ev.bindAssume (chk5 (hid _)) ?_
  refine Ev.bind (ev_frameL _ (sm_load (off10_eq (hid _)))) ?_
  refine Ev.bind (E' := iprop(Ids c arg0 id ∗ Sm c arg14 (mk id L (8 * k0_t1.val + 5)))) (ev_frameL _ (sm_store (off10_eq (hid _)))) ?_
  refine Ev.bind (ev_frameR _ (ids_load (off11_eq k0_t1))) ?_
  refine Ev.bindAssume (chk6 (hid _)) ?_
  refine Ev.bind (ev_frameL _ (sm_load (off12_eq (hid _)))) ?_
  exact Ev.pure _

/-- One token's ids are marked. -/
theorem k0_t1_ev (hid : ∀ n, (id n).toNat < 32) (k0_t1 : Fin k0_t1_loop.trips) :
    Ev (defs₀ (F := F)) Variants.none c none iprop(Ids c arg0 id ∗ Sm c arg14 (mk id L (8 * k0_t1.val))) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 k0_t1 ⟨⟩ : Prog (TpuEff nD τ sig (Elt F) Λ₀ .tc) _) ⟨⟩ iprop(Ids c arg0 id ∗ Sm c arg14 (mk id L (8 * (k0_t1.val + 1)))) := by
  unfold k0_t1_body
  refine Ev.bind (k0_part1_ev hid k0_t1) ?_
  dsimp only
  refine Ev.bind (E' := iprop(Ids c arg0 id ∗ Sm c arg14 (mk id L (8 * k0_t1.val + 6)))) (ev_frameL _ (sm_store (off12_eq (hid _)))) ?_
  refine Ev.bind (ev_frameR _ (ids_load (off13_eq k0_t1))) ?_
  refine Ev.bindAssume (chk7 (hid _)) ?_
  refine Ev.bind (ev_frameL _ (sm_load (off14_eq (hid _)))) ?_
  refine Ev.bind (E' := iprop(Ids c arg0 id ∗ Sm c arg14 (mk id L (8 * k0_t1.val + 7)))) (ev_frameL _ (sm_store (off14_eq (hid _)))) ?_
  refine Ev.bind (ev_frameR _ (ids_load (off15_eq k0_t1))) ?_
  refine Ev.bindAssume (chk8 (hid _)) ?_
  refine Ev.bind (ev_frameL _ (sm_load (off16_eq (hid _)))) ?_
  refine Ev.bind (E' := iprop(Ids c arg0 id ∗ Sm c arg14 (mk id L (8 * k0_t1.val + 8)))) (ev_frameL _ (sm_store (off16_eq (hid _)))) ?_
  exact Ev.pure _

/-- Offset 17 by its place. -/
theorem off17_eq (h : Marks M) : k0_off17 (M 32) = ![cnt M 1] := by
  have e : k0_off17 (M 32) = ![(Scalar.indexCast (sumf M 1)).toNat] := by
    simp only [k0_off17, sumf, Nat.reduceAdd]
  rw [e, index_eq h (by decide)]

/-- Bounds check 9 passes. -/
theorem chk9 (h : Marks M) : k0_chk9 (M 32) := by
  unfold k0_chk9
  rw [off17_eq h]
  exact inbl (by have := cnt_le h 1 (by decide); omega)

/-- Offset 18 by its place. -/
theorem off18_eq (h : Marks M) : k0_off18 (M 32) (M 33) = ![cnt M 2] := by
  have e : k0_off18 (M 32) (M 33) = ![(Scalar.indexCast (sumf M 2)).toNat] := by
    simp only [k0_off18, sumf, Nat.reduceAdd]
  rw [e, index_eq h (by decide)]

/-- Bounds check 10 passes. -/
theorem chk10 (h : Marks M) : k0_chk10 (M 32) (M 33) := by
  unfold k0_chk10
  rw [off18_eq h]
  exact inbl (by have := cnt_le h 2 (by decide); omega)

/-- Offset 19 by its place. -/
theorem off19_eq (h : Marks M) : k0_off19 (M 32) (M 33) (M 34) = ![cnt M 3] := by
  have e : k0_off19 (M 32) (M 33) (M 34) = ![(Scalar.indexCast (sumf M 3)).toNat] := by
    simp only [k0_off19, sumf, Nat.reduceAdd]
  rw [e, index_eq h (by decide)]

/-- Bounds check 11 passes. -/
theorem chk11 (h : Marks M) : k0_chk11 (M 32) (M 33) (M 34) := by
  unfold k0_chk11
  rw [off19_eq h]
  exact inbl (by have := cnt_le h 3 (by decide); omega)

/-- Offset 20 by its place. -/
theorem off20_eq (h : Marks M) : k0_off20 (M 32) (M 33) (M 34) (M 35) = ![cnt M 4] := by
  have e : k0_off20 (M 32) (M 33) (M 34) (M 35) = ![(Scalar.indexCast (sumf M 4)).toNat] := by
    simp only [k0_off20, sumf, Nat.reduceAdd]
  rw [e, index_eq h (by decide)]

/-- Bounds check 12 passes. -/
theorem chk12 (h : Marks M) : k0_chk12 (M 32) (M 33) (M 34) (M 35) := by
  unfold k0_chk12
  rw [off20_eq h]
  exact inbl (by have := cnt_le h 4 (by decide); omega)

/-- Offset 21 by its place. -/
theorem off21_eq (h : Marks M) : k0_off21 (M 32) (M 33) (M 34) (M 35) (M 36) = ![cnt M 5] := by
  have e : k0_off21 (M 32) (M 33) (M 34) (M 35) (M 36) = ![(Scalar.indexCast (sumf M 5)).toNat] := by
    simp only [k0_off21, sumf, Nat.reduceAdd]
  rw [e, index_eq h (by decide)]

/-- Bounds check 13 passes. -/
theorem chk13 (h : Marks M) : k0_chk13 (M 32) (M 33) (M 34) (M 35) (M 36) := by
  unfold k0_chk13
  rw [off21_eq h]
  exact inbl (by have := cnt_le h 5 (by decide); omega)

/-- Offset 22 by its place. -/
theorem off22_eq (h : Marks M) : k0_off22 (M 32) (M 33) (M 34) (M 35) (M 36) (M 37) = ![cnt M 6] := by
  have e : k0_off22 (M 32) (M 33) (M 34) (M 35) (M 36) (M 37) = ![(Scalar.indexCast (sumf M 6)).toNat] := by
    simp only [k0_off22, sumf, Nat.reduceAdd]
  rw [e, index_eq h (by decide)]

/-- Bounds check 14 passes. -/
theorem chk14 (h : Marks M) : k0_chk14 (M 32) (M 33) (M 34) (M 35) (M 36) (M 37) := by
  unfold k0_chk14
  rw [off22_eq h]
  exact inbl (by have := cnt_le h 6 (by decide); omega)

/-- Offset 23 by its place. -/
theorem off23_eq (h : Marks M) : k0_off23 (M 32) (M 33) (M 34) (M 35) (M 36) (M 37) (M 38) = ![cnt M 7] := by
  have e : k0_off23 (M 32) (M 33) (M 34) (M 35) (M 36) (M 37) (M 38) = ![(Scalar.indexCast (sumf M 7)).toNat] := by
    simp only [k0_off23, sumf, Nat.reduceAdd]
  rw [e, index_eq h (by decide)]

/-- Bounds check 15 passes. -/
theorem chk15 (h : Marks M) : k0_chk15 (M 32) (M 33) (M 34) (M 35) (M 36) (M 37) (M 38) := by
  unfold k0_chk15
  rw [off23_eq h]
  exact inbl (by have := cnt_le h 7 (by decide); omega)

/-- Offset 24 by its place. -/
theorem off24_eq (h : Marks M) : k0_off24 (M 32) (M 33) (M 34) (M 35) (M 36) (M 37) (M 38) (M 39) = ![cnt M 8] := by
  have e : k0_off24 (M 32) (M 33) (M 34) (M 35) (M 36) (M 37) (M 38) (M 39) = ![(Scalar.indexCast (sumf M 8)).toNat] := by
    simp only [k0_off24, sumf, Nat.reduceAdd]
  rw [e, index_eq h (by decide)]

/-- Bounds check 16 passes. -/
theorem chk16 (h : Marks M) : k0_chk16 (M 32) (M 33) (M 34) (M 35) (M 36) (M 37) (M 38) (M 39) := by
  unfold k0_chk16
  rw [off24_eq h]
  exact inbl (by have := cnt_le h 8 (by decide); omega)

/-- Offset 25 by its place. -/
theorem off25_eq (h : Marks M) : k0_off25 (M 32) (M 33) (M 34) (M 35) (M 36) (M 37) (M 38) (M 39) (M 40) = ![cnt M 9] := by
  have e : k0_off25 (M 32) (M 33) (M 34) (M 35) (M 36) (M 37) (M 38) (M 39) (M 40) = ![(Scalar.indexCast (sumf M 9)).toNat] := by
    simp only [k0_off25, sumf, Nat.reduceAdd]
  rw [e, index_eq h (by decide)]

/-- Bounds check 17 passes. -/
theorem chk17 (h : Marks M) : k0_chk17 (M 32) (M 33) (M 34) (M 35) (M 36) (M 37) (M 38) (M 39) (M 40) := by
  unfold k0_chk17
  rw [off25_eq h]
  exact inbl (by have := cnt_le h 9 (by decide); omega)

/-- Offset 26 by its place. -/
theorem off26_eq (h : Marks M) : k0_off26 (M 32) (M 33) (M 34) (M 35) (M 36) (M 37) (M 38) (M 39) (M 40) (M 41) = ![cnt M 10] := by
  have e : k0_off26 (M 32) (M 33) (M 34) (M 35) (M 36) (M 37) (M 38) (M 39) (M 40) (M 41) = ![(Scalar.indexCast (sumf M 10)).toNat] := by
    simp only [k0_off26, sumf, Nat.reduceAdd]
  rw [e, index_eq h (by decide)]

/-- Bounds check 18 passes. -/
theorem chk18 (h : Marks M) : k0_chk18 (M 32) (M 33) (M 34) (M 35) (M 36) (M 37) (M 38) (M 39) (M 40) (M 41) := by
  unfold k0_chk18
  rw [off26_eq h]
  exact inbl (by have := cnt_le h 10 (by decide); omega)

/-- Offset 27 by its place. -/
theorem off27_eq (h : Marks M) : k0_off27 (M 32) (M 33) (M 34) (M 35) (M 36) (M 37) (M 38) (M 39) (M 40) (M 41) (M 42) = ![cnt M 11] := by
  have e : k0_off27 (M 32) (M 33) (M 34) (M 35) (M 36) (M 37) (M 38) (M 39) (M 40) (M 41) (M 42) = ![(Scalar.indexCast (sumf M 11)).toNat] := by
    simp only [k0_off27, sumf, Nat.reduceAdd]
  rw [e, index_eq h (by decide)]

/-- Bounds check 19 passes. -/
theorem chk19 (h : Marks M) : k0_chk19 (M 32) (M 33) (M 34) (M 35) (M 36) (M 37) (M 38) (M 39) (M 40) (M 41) (M 42) := by
  unfold k0_chk19
  rw [off27_eq h]
  exact inbl (by have := cnt_le h 11 (by decide); omega)

/-- Offset 28 by its place. -/
theorem off28_eq (h : Marks M) : k0_off28 (M 32) (M 33) (M 34) (M 35) (M 36) (M 37) (M 38) (M 39) (M 40) (M 41) (M 42) (M 43) = ![cnt M 12] := by
  have e : k0_off28 (M 32) (M 33) (M 34) (M 35) (M 36) (M 37) (M 38) (M 39) (M 40) (M 41) (M 42) (M 43) = ![(Scalar.indexCast (sumf M 12)).toNat] := by
    simp only [k0_off28, sumf, Nat.reduceAdd]
  rw [e, index_eq h (by decide)]

/-- Bounds check 20 passes. -/
theorem chk20 (h : Marks M) : k0_chk20 (M 32) (M 33) (M 34) (M 35) (M 36) (M 37) (M 38) (M 39) (M 40) (M 41) (M 42) (M 43) := by
  unfold k0_chk20
  rw [off28_eq h]
  exact inbl (by have := cnt_le h 12 (by decide); omega)

/-- Offset 29 by its place. -/
theorem off29_eq (h : Marks M) : k0_off29 (M 32) (M 33) (M 34) (M 35) (M 36) (M 37) (M 38) (M 39) (M 40) (M 41) (M 42) (M 43) (M 44) = ![cnt M 13] := by
  have e : k0_off29 (M 32) (M 33) (M 34) (M 35) (M 36) (M 37) (M 38) (M 39) (M 40) (M 41) (M 42) (M 43) (M 44) = ![(Scalar.indexCast (sumf M 13)).toNat] := by
    simp only [k0_off29, sumf, Nat.reduceAdd]
  rw [e, index_eq h (by decide)]

/-- Bounds check 21 passes. -/
theorem chk21 (h : Marks M) : k0_chk21 (M 32) (M 33) (M 34) (M 35) (M 36) (M 37) (M 38) (M 39) (M 40) (M 41) (M 42) (M 43) (M 44) := by
  unfold k0_chk21
  rw [off29_eq h]
  exact inbl (by have := cnt_le h 13 (by decide); omega)

/-- Offset 30 by its place. -/
theorem off30_eq (h : Marks M) : k0_off30 (M 32) (M 33) (M 34) (M 35) (M 36) (M 37) (M 38) (M 39) (M 40) (M 41) (M 42) (M 43) (M 44) (M 45) = ![cnt M 14] := by
  have e : k0_off30 (M 32) (M 33) (M 34) (M 35) (M 36) (M 37) (M 38) (M 39) (M 40) (M 41) (M 42) (M 43) (M 44) (M 45) = ![(Scalar.indexCast (sumf M 14)).toNat] := by
    simp only [k0_off30, sumf, Nat.reduceAdd]
  rw [e, index_eq h (by decide)]

/-- Bounds check 22 passes. -/
theorem chk22 (h : Marks M) : k0_chk22 (M 32) (M 33) (M 34) (M 35) (M 36) (M 37) (M 38) (M 39) (M 40) (M 41) (M 42) (M 43) (M 44) (M 45) := by
  unfold k0_chk22
  rw [off30_eq h]
  exact inbl (by have := cnt_le h 14 (by decide); omega)

/-- Offset 31 by its place. -/
theorem off31_eq (h : Marks M) : k0_off31 (M 32) (M 33) (M 34) (M 35) (M 36) (M 37) (M 38) (M 39) (M 40) (M 41) (M 42) (M 43) (M 44) (M 45) (M 46) = ![cnt M 15] := by
  have e : k0_off31 (M 32) (M 33) (M 34) (M 35) (M 36) (M 37) (M 38) (M 39) (M 40) (M 41) (M 42) (M 43) (M 44) (M 45) (M 46) = ![(Scalar.indexCast (sumf M 15)).toNat] := by
    simp only [k0_off31, sumf, Nat.reduceAdd]
  rw [e, index_eq h (by decide)]

/-- Bounds check 23 passes. -/
theorem chk23 (h : Marks M) : k0_chk23 (M 32) (M 33) (M 34) (M 35) (M 36) (M 37) (M 38) (M 39) (M 40) (M 41) (M 42) (M 43) (M 44) (M 45) (M 46) := by
  unfold k0_chk23
  rw [off31_eq h]
  exact inbl (by have := cnt_le h 15 (by decide); omega)

/-- Offset 32 by its place. -/
theorem off32_eq (h : Marks M) : k0_off32 (M 32) (M 33) (M 34) (M 35) (M 36) (M 37) (M 38) (M 39) (M 40) (M 41) (M 42) (M 43) (M 44) (M 45) (M 46) (M 47) = ![cnt M 16] := by
  have e : k0_off32 (M 32) (M 33) (M 34) (M 35) (M 36) (M 37) (M 38) (M 39) (M 40) (M 41) (M 42) (M 43) (M 44) (M 45) (M 46) (M 47) = ![(Scalar.indexCast (sumf M 16)).toNat] := by
    simp only [k0_off32, sumf, Nat.reduceAdd]
  rw [e, index_eq h (by decide)]

/-- Bounds check 24 passes. -/
theorem chk24 (h : Marks M) : k0_chk24 (M 32) (M 33) (M 34) (M 35) (M 36) (M 37) (M 38) (M 39) (M 40) (M 41) (M 42) (M 43) (M 44) (M 45) (M 46) (M 47) := by
  unfold k0_chk24
  rw [off32_eq h]
  exact inbl (by have := cnt_le h 16 (by decide); omega)

/-- Offset 33 by its place. -/
theorem off33_eq (h : Marks M) : k0_off33 (M 32) (M 33) (M 34) (M 35) (M 36) (M 37) (M 38) (M 39) (M 40) (M 41) (M 42) (M 43) (M 44) (M 45) (M 46) (M 47) (M 48) = ![cnt M 17] := by
  have e : k0_off33 (M 32) (M 33) (M 34) (M 35) (M 36) (M 37) (M 38) (M 39) (M 40) (M 41) (M 42) (M 43) (M 44) (M 45) (M 46) (M 47) (M 48) = ![(Scalar.indexCast (sumf M 17)).toNat] := by
    simp only [k0_off33, sumf, Nat.reduceAdd]
  rw [e, index_eq h (by decide)]

/-- Bounds check 25 passes. -/
theorem chk25 (h : Marks M) : k0_chk25 (M 32) (M 33) (M 34) (M 35) (M 36) (M 37) (M 38) (M 39) (M 40) (M 41) (M 42) (M 43) (M 44) (M 45) (M 46) (M 47) (M 48) := by
  unfold k0_chk25
  rw [off33_eq h]
  exact inbl (by have := cnt_le h 17 (by decide); omega)

/-- Offset 34 by its place. -/
theorem off34_eq (h : Marks M) : k0_off34 (M 32) (M 33) (M 34) (M 35) (M 36) (M 37) (M 38) (M 39) (M 40) (M 41) (M 42) (M 43) (M 44) (M 45) (M 46) (M 47) (M 48) (M 49) = ![cnt M 18] := by
  have e : k0_off34 (M 32) (M 33) (M 34) (M 35) (M 36) (M 37) (M 38) (M 39) (M 40) (M 41) (M 42) (M 43) (M 44) (M 45) (M 46) (M 47) (M 48) (M 49) = ![(Scalar.indexCast (sumf M 18)).toNat] := by
    simp only [k0_off34, sumf, Nat.reduceAdd]
  rw [e, index_eq h (by decide)]

/-- Bounds check 26 passes. -/
theorem chk26 (h : Marks M) : k0_chk26 (M 32) (M 33) (M 34) (M 35) (M 36) (M 37) (M 38) (M 39) (M 40) (M 41) (M 42) (M 43) (M 44) (M 45) (M 46) (M 47) (M 48) (M 49) := by
  unfold k0_chk26
  rw [off34_eq h]
  exact inbl (by have := cnt_le h 18 (by decide); omega)

/-- Offset 35 by its place. -/
theorem off35_eq (h : Marks M) : k0_off35 (M 32) (M 33) (M 34) (M 35) (M 36) (M 37) (M 38) (M 39) (M 40) (M 41) (M 42) (M 43) (M 44) (M 45) (M 46) (M 47) (M 48) (M 49) (M 50) = ![cnt M 19] := by
  have e : k0_off35 (M 32) (M 33) (M 34) (M 35) (M 36) (M 37) (M 38) (M 39) (M 40) (M 41) (M 42) (M 43) (M 44) (M 45) (M 46) (M 47) (M 48) (M 49) (M 50) = ![(Scalar.indexCast (sumf M 19)).toNat] := by
    simp only [k0_off35, sumf, Nat.reduceAdd]
  rw [e, index_eq h (by decide)]

/-- Bounds check 27 passes. -/
theorem chk27 (h : Marks M) : k0_chk27 (M 32) (M 33) (M 34) (M 35) (M 36) (M 37) (M 38) (M 39) (M 40) (M 41) (M 42) (M 43) (M 44) (M 45) (M 46) (M 47) (M 48) (M 49) (M 50) := by
  unfold k0_chk27
  rw [off35_eq h]
  exact inbl (by have := cnt_le h 19 (by decide); omega)

/-- Offset 36 by its place. -/
theorem off36_eq (h : Marks M) : k0_off36 (M 32) (M 33) (M 34) (M 35) (M 36) (M 37) (M 38) (M 39) (M 40) (M 41) (M 42) (M 43) (M 44) (M 45) (M 46) (M 47) (M 48) (M 49) (M 50) (M 51) = ![cnt M 20] := by
  have e : k0_off36 (M 32) (M 33) (M 34) (M 35) (M 36) (M 37) (M 38) (M 39) (M 40) (M 41) (M 42) (M 43) (M 44) (M 45) (M 46) (M 47) (M 48) (M 49) (M 50) (M 51) = ![(Scalar.indexCast (sumf M 20)).toNat] := by
    simp only [k0_off36, sumf, Nat.reduceAdd]
  rw [e, index_eq h (by decide)]

/-- Bounds check 28 passes. -/
theorem chk28 (h : Marks M) : k0_chk28 (M 32) (M 33) (M 34) (M 35) (M 36) (M 37) (M 38) (M 39) (M 40) (M 41) (M 42) (M 43) (M 44) (M 45) (M 46) (M 47) (M 48) (M 49) (M 50) (M 51) := by
  unfold k0_chk28
  rw [off36_eq h]
  exact inbl (by have := cnt_le h 20 (by decide); omega)

/-- Offset 37 by its place. -/
theorem off37_eq (h : Marks M) : k0_off37 (M 32) (M 33) (M 34) (M 35) (M 36) (M 37) (M 38) (M 39) (M 40) (M 41) (M 42) (M 43) (M 44) (M 45) (M 46) (M 47) (M 48) (M 49) (M 50) (M 51) (M 52) = ![cnt M 21] := by
  have e : k0_off37 (M 32) (M 33) (M 34) (M 35) (M 36) (M 37) (M 38) (M 39) (M 40) (M 41) (M 42) (M 43) (M 44) (M 45) (M 46) (M 47) (M 48) (M 49) (M 50) (M 51) (M 52) = ![(Scalar.indexCast (sumf M 21)).toNat] := by
    simp only [k0_off37, sumf, Nat.reduceAdd]
  rw [e, index_eq h (by decide)]

/-- Bounds check 29 passes. -/
theorem chk29 (h : Marks M) : k0_chk29 (M 32) (M 33) (M 34) (M 35) (M 36) (M 37) (M 38) (M 39) (M 40) (M 41) (M 42) (M 43) (M 44) (M 45) (M 46) (M 47) (M 48) (M 49) (M 50) (M 51) (M 52) := by
  unfold k0_chk29
  rw [off37_eq h]
  exact inbl (by have := cnt_le h 21 (by decide); omega)

/-- Offset 38 by its place. -/
theorem off38_eq (h : Marks M) : k0_off38 (M 32) (M 33) (M 34) (M 35) (M 36) (M 37) (M 38) (M 39) (M 40) (M 41) (M 42) (M 43) (M 44) (M 45) (M 46) (M 47) (M 48) (M 49) (M 50) (M 51) (M 52) (M 53) = ![cnt M 22] := by
  have e : k0_off38 (M 32) (M 33) (M 34) (M 35) (M 36) (M 37) (M 38) (M 39) (M 40) (M 41) (M 42) (M 43) (M 44) (M 45) (M 46) (M 47) (M 48) (M 49) (M 50) (M 51) (M 52) (M 53) = ![(Scalar.indexCast (sumf M 22)).toNat] := by
    simp only [k0_off38, sumf, Nat.reduceAdd]
  rw [e, index_eq h (by decide)]

/-- Bounds check 30 passes. -/
theorem chk30 (h : Marks M) : k0_chk30 (M 32) (M 33) (M 34) (M 35) (M 36) (M 37) (M 38) (M 39) (M 40) (M 41) (M 42) (M 43) (M 44) (M 45) (M 46) (M 47) (M 48) (M 49) (M 50) (M 51) (M 52) (M 53) := by
  unfold k0_chk30
  rw [off38_eq h]
  exact inbl (by have := cnt_le h 22 (by decide); omega)

/-- Offset 39 by its place. -/
theorem off39_eq (h : Marks M) : k0_off39 (M 32) (M 33) (M 34) (M 35) (M 36) (M 37) (M 38) (M 39) (M 40) (M 41) (M 42) (M 43) (M 44) (M 45) (M 46) (M 47) (M 48) (M 49) (M 50) (M 51) (M 52) (M 53) (M 54) = ![cnt M 23] := by
  have e : k0_off39 (M 32) (M 33) (M 34) (M 35) (M 36) (M 37) (M 38) (M 39) (M 40) (M 41) (M 42) (M 43) (M 44) (M 45) (M 46) (M 47) (M 48) (M 49) (M 50) (M 51) (M 52) (M 53) (M 54) = ![(Scalar.indexCast (sumf M 23)).toNat] := by
    simp only [k0_off39, sumf, Nat.reduceAdd]
  rw [e, index_eq h (by decide)]

/-- Bounds check 31 passes. -/
theorem chk31 (h : Marks M) : k0_chk31 (M 32) (M 33) (M 34) (M 35) (M 36) (M 37) (M 38) (M 39) (M 40) (M 41) (M 42) (M 43) (M 44) (M 45) (M 46) (M 47) (M 48) (M 49) (M 50) (M 51) (M 52) (M 53) (M 54) := by
  unfold k0_chk31
  rw [off39_eq h]
  exact inbl (by have := cnt_le h 23 (by decide); omega)

/-- Offset 40 by its place. -/
theorem off40_eq (h : Marks M) : k0_off40 (M 32) (M 33) (M 34) (M 35) (M 36) (M 37) (M 38) (M 39) (M 40) (M 41) (M 42) (M 43) (M 44) (M 45) (M 46) (M 47) (M 48) (M 49) (M 50) (M 51) (M 52) (M 53) (M 54) (M 55) = ![cnt M 24] := by
  have e : k0_off40 (M 32) (M 33) (M 34) (M 35) (M 36) (M 37) (M 38) (M 39) (M 40) (M 41) (M 42) (M 43) (M 44) (M 45) (M 46) (M 47) (M 48) (M 49) (M 50) (M 51) (M 52) (M 53) (M 54) (M 55) = ![(Scalar.indexCast (sumf M 24)).toNat] := by
    simp only [k0_off40, sumf, Nat.reduceAdd]
  rw [e, index_eq h (by decide)]

/-- Bounds check 32 passes. -/
theorem chk32 (h : Marks M) : k0_chk32 (M 32) (M 33) (M 34) (M 35) (M 36) (M 37) (M 38) (M 39) (M 40) (M 41) (M 42) (M 43) (M 44) (M 45) (M 46) (M 47) (M 48) (M 49) (M 50) (M 51) (M 52) (M 53) (M 54) (M 55) := by
  unfold k0_chk32
  rw [off40_eq h]
  exact inbl (by have := cnt_le h 24 (by decide); omega)

/-- Offset 41 by its place. -/
theorem off41_eq (h : Marks M) : k0_off41 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) = ![cnt M 25] := by
  have e : k0_off41 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) = ![(Scalar.indexCast (sumf M 25)).toNat] := by
    simp only [k0_off41, sumf, Nat.reduceAdd]
  rw [e, index_eq h (by decide)]

/-- Bounds check 33 passes. -/
theorem chk33 (h : Marks M) : k0_chk33 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) := by
  unfold k0_chk33
  rw [off41_eq h]
  exact inbl (by have := cnt_le h 25 (by decide); omega)

/-- Offset 42 by its place. -/
theorem off42_eq (h : Marks M) : k0_off42 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) = ![cnt M 26] := by
  have e : k0_off42 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) = ![(Scalar.indexCast (sumf M 26)).toNat] := by
    simp only [k0_off42, sumf, Nat.reduceAdd]
  rw [e, index_eq h (by decide)]

/-- Bounds check 34 passes. -/
theorem chk34 (h : Marks M) : k0_chk34 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) := by
  unfold k0_chk34
  rw [off42_eq h]
  exact inbl (by have := cnt_le h 26 (by decide); omega)

/-- Offset 43 by its place. -/
theorem off43_eq (h : Marks M) : k0_off43 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) = ![cnt M 27] := by
  have e : k0_off43 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) = ![(Scalar.indexCast (sumf M 27)).toNat] := by
    simp only [k0_off43, sumf, Nat.reduceAdd]
  rw [e, index_eq h (by decide)]

/-- Bounds check 35 passes. -/
theorem chk35 (h : Marks M) : k0_chk35 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) := by
  unfold k0_chk35
  rw [off43_eq h]
  exact inbl (by have := cnt_le h 27 (by decide); omega)

/-- Offset 44 by its place. -/
theorem off44_eq (h : Marks M) : k0_off44 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) = ![cnt M 28] := by
  have e : k0_off44 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) = ![(Scalar.indexCast (sumf M 28)).toNat] := by
    simp only [k0_off44, sumf, Nat.reduceAdd]
  rw [e, index_eq h (by decide)]

/-- Bounds check 36 passes. -/
theorem chk36 (h : Marks M) : k0_chk36 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) := by
  unfold k0_chk36
  rw [off44_eq h]
  exact inbl (by have := cnt_le h 28 (by decide); omega)

/-- Offset 45 by its place. -/
theorem off45_eq (h : Marks M) : k0_off45 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) = ![cnt M 29] := by
  have e : k0_off45 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) = ![(Scalar.indexCast (sumf M 29)).toNat] := by
    simp only [k0_off45, sumf, Nat.reduceAdd]
  rw [e, index_eq h (by decide)]

/-- Bounds check 37 passes. -/
theorem chk37 (h : Marks M) : k0_chk37 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) := by
  unfold k0_chk37
  rw [off45_eq h]
  exact inbl (by have := cnt_le h 29 (by decide); omega)

/-- Offset 46 by its place. -/
theorem off46_eq (h : Marks M) : k0_off46 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) = ![cnt M 30] := by
  have e : k0_off46 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) = ![(Scalar.indexCast (sumf M 30)).toNat] := by
    simp only [k0_off46, sumf, Nat.reduceAdd]
  rw [e, index_eq h (by decide)]

/-- Bounds check 38 passes. -/
theorem chk38 (h : Marks M) : k0_chk38 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) := by
  unfold k0_chk38
  rw [off46_eq h]
  exact inbl (by have := cnt_le h 30 (by decide); omega)

/-- Offset 47 by its place. -/
theorem off47_eq (h : Marks M) : k0_off47 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) = ![cnt M 31] := by
  have e : k0_off47 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) = ![(Scalar.indexCast (sumf M 31)).toNat] := by
    simp only [k0_off47, sumf, Nat.reduceAdd]
  rw [e, index_eq h (by decide)]

/-- Bounds check 39 passes. -/
theorem chk39 (h : Marks M) : k0_chk39 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) := by
  unfold k0_chk39
  rw [off47_eq h]
  exact inbl (by have := cnt_le h 31 (by decide); omega)

end Cert.Kernel.Moe

end
-- ==== Proof.Pre1.lean ====
/-
  Building the list of active experts and starting the first copies.
-/
module

public import proofs.«01_k».proof.Proof.Base
public import proofs.«01_k».proof.Proof.Gen.Kernel.Skeleton
public import proofs.«01_k».proof.Proof.Turn5
public import proofs.«01_k».proof.Proof.Pre0

@[expose] public section

set_option maxRecDepth 16384
set_option pp.deepTerms false
set_option pp.maxSteps 80

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {W : Src F} {L M id : ℕ → BitVec 32}

/-- A step taken only under a condition, and what follows it either way. -/
theorem ev_dite {α : Type} {p : Prop} [Decidable p] {E E1 E' : sProp 𝕄} {a : α} {J : Prog (TpuEff nD τ sig (Elt F) Λ₀ .tc) α}
    {A : p → Prog (TpuEff nD τ sig (Elt F) Λ₀ .tc) α}
    (hJ : Ev (defs₀ (F := F)) Variants.none c none E1 J a E')
    (hT : Ev (defs₀ (F := F)) Variants.none c none E1 J a E' → ∀ h, Ev (defs₀ (F := F)) Variants.none c none E (A h) a E')
    (hF : ¬p → E ⊢ E1) :
    Ev (defs₀ (F := F)) Variants.none c none E (if h : p then A h else J) a E' := by
  by_cases h : p
  · rw [dif_pos h]
    exact hT hJ h
  · rw [dif_neg h]
    exact hJ.conseq (hF h) .rfl

/-- The four copies of the block `x` into slot `s`, then what follows. -/
theorem starts {α : Type} {M : Mem} {s : Fin 3} {x : Fin 32} {Q E' : sProp 𝕄} {v : α} {J : Prog (TpuEff nD τ sig (Elt F) Λ₀ .tc) α}
    {oq0 : Fin 2 → ℕ} {od0 os0 : Fin 3 → ℕ} (hq0 : oq0 = ![0, s.val]) (hd0 : od0 = ![s.val, 0, 0]) (hs0 : os0 = ![x.val, 0, 0])
    {h01 h02 h03 h04 h05 g01 g02 g03}
    {oq1 : Fin 2 → ℕ} {od1 os1 : Fin 3 → ℕ} (hq1 : oq1 = ![1, s.val]) (hd1 : od1 = ![s.val, 0, 0]) (hs1 : os1 = ![x.val, 0, 0])
    {h11 h12 h13 h14 h15 g11 g12 g13}
    {oq2 : Fin 2 → ℕ} {od2 os2 : Fin 3 → ℕ} (hq2 : oq2 = ![2, s.val]) (hd2 : od2 = ![s.val, 0, 0]) (hs2 : os2 = ![x.val, 0, 0])
    {h21 h22 h23 h24 h25 g21 g22 g23}
    {oq3 : Fin 2 → ℕ} {od3 os3 : Fin 3 → ℕ} (hq3 : oq3 = ![3, s.val]) (hd3 : od3 = ![s.val, 0, 0]) (hs3 : os3 = ![x.val, 0, 0])
    {h31 h32 h33 h34 h35 g31 g32 g33}
    (hJ : Ev (defs₀ (F := F)) Variants.none c none iprop(FlyAll c M W s x ∗ Q) J v E') :
    Ev (defs₀ (F := F)) Variants.none c none iprop(IdleAll c M W s ∗ Q)
      (Prog.lift (.enqueueDma ((M.m4.slice (Rect.unit (s := S32x1408x1536) os0 S1x1408x1536.size h01) h02).squeeze S1408x1536 squeezes_S1x1408x1536_S1408x1536)
        (.here ((M.m9.slice (Rect.unit (s := S3x1408x1536) od0 S1x1408x1536.size h03) h04).squeeze S1408x1536 squeezes_S1x1408x1536_S1408x1536))
        (.dma ((M.m15.slice (Rect.unit (s := S4x3) oq0 S1x1.size h05)).squeeze S_ squeezes_S1x1_S_).sem) g01 g02 g03) >>= fun _ =>
      (Prog.lift (.enqueueDma ((M.m5.slice (Rect.unit (s := S32x22x1536) os1 S1x22x1536.size h11) h12).squeeze S22x1536 squeezes_S1x22x1536_S22x1536)
        (.here ((M.m10.slice (Rect.unit (s := S3x22x1536) od1 S1x22x1536.size h13) h14).squeeze S22x1536 squeezes_S1x22x1536_S22x1536))
        (.dma ((M.m15.slice (Rect.unit (s := S4x3) oq1 S1x1.size h15)).squeeze S_ squeezes_S1x1_S_).sem) g11 g12 g13) >>= fun _ =>
      (Prog.lift (.enqueueDma ((M.m6.slice (Rect.unit (s := S32x384x2816) os2 S1x384x2816.size h21) h22).squeeze S384x2816 squeezes_S1x384x2816_S384x2816)
        (.here ((M.m11.slice (Rect.unit (s := S3x384x2816) od2 S1x384x2816.size h23) h24).squeeze S384x2816 squeezes_S1x384x2816_S384x2816))
        (.dma ((M.m15.slice (Rect.unit (s := S4x3) oq2 S1x1.size h25)).squeeze S_ squeezes_S1x1_S_).sem) g21 g22 g23) >>= fun _ =>
      (Prog.lift (.enqueueDma ((M.m7.slice (Rect.unit (s := S32x6x2816) os3 S1x6x2816.size h31) h32).squeeze S6x2816 squeezes_S1x6x2816_S6x2816)
        (.here ((M.m12.slice (Rect.unit (s := S3x6x2816) od3 S1x6x2816.size h33) h34).squeeze S6x2816 squeezes_S1x6x2816_S6x2816))
        (.dma ((M.m15.slice (Rect.unit (s := S4x3) oq3 S1x1.size h35)).squeeze S_ squeezes_S1x1_S_).sem) g31 g32 g33) >>= fun _ =>
      J)))) v E' := by
  refine Ev.conseq (E := iprop(Idle (c : Thread nD τ) (semAt M.m15 0 s) (slot9 M.m9 s) M.m4 (qs s) W.G ∗ Idle (c : Thread nD τ) (semAt M.m15 1 s) (slot10 M.m10 s) M.m5 (qs s) W.SG ∗ Idle (c : Thread nD τ) (semAt M.m15 2 s) (slot11 M.m11 s) M.m6 (qs s) W.D ∗ Idle (c : Thread nD τ) (semAt M.m15 3 s) (slot12 M.m12 s) M.m7 (qs s) W.SD ∗ Q)) (E' := E') ?_ ?_ .rfl
  · unfold IdleAll
    iintro ⟨⟨H1, H2, H3, H4⟩, HQ⟩
    isplitl [H1]
    · iexact H1
    · isplitl [H2]
      · iexact H2
      · isplitl [H3]
        · iexact H3
        · isplitl [H4]
          · iexact H4
          · iexact HQ
  refine Ev.bind (E' := iprop(Fly (c : Thread nD τ) (semAt M.m15 0 s) (slot9 M.m9 s) M.m4 (qs s) W.G (pick9 W.G x) ∗ Idle (c : Thread nD τ) (semAt M.m15 1 s) (slot10 M.m10 s) M.m5 (qs s) W.SG ∗ Idle (c : Thread nD τ) (semAt M.m15 2 s) (slot11 M.m11 s) M.m6 (qs s) W.D ∗ Idle (c : Thread nD τ) (semAt M.m15 3 s) (slot12 M.m12 s) M.m7 (qs s) W.SD ∗ Q)) ((start9 (T := W.G) (q := qs s) hq0 hd0 hs0).on ?_) ?_
  · iintro ⟨H1, H2, H3, H4, HQ⟩
    isplitl [H1]
    · iexact H1
    · iintro H1
      isplitl [H1]
      · iexact H1
      · isplitl [H2]
        · iexact H2
        · isplitl [H3]
          · iexact H3
          · isplitl [H4]
            · iexact H4
            · iexact HQ
  refine Ev.bind (E' := iprop(Fly (c : Thread nD τ) (semAt M.m15 0 s) (slot9 M.m9 s) M.m4 (qs s) W.G (pick9 W.G x) ∗ Fly (c : Thread nD τ) (semAt M.m15 1 s) (slot10 M.m10 s) M.m5 (qs s) W.SG (pick10 W.SG x) ∗ Idle (c : Thread nD τ) (semAt M.m15 2 s) (slot11 M.m11 s) M.m6 (qs s) W.D ∗ Idle (c : Thread nD τ) (semAt M.m15 3 s) (slot12 M.m12 s) M.m7 (qs s) W.SD ∗ Q)) ((start10 (T := W.SG) (q := qs s) hq1 hd1 hs1).on ?_) ?_
  · iintro ⟨H1, H2, H3, H4, HQ⟩
    isplitl [H2]
    · iexact H2
    · iintro H2
      isplitl [H1]
      · iexact H1
      · isplitl [H2]
        · iexact H2
        · isplitl [H3]
          · iexact H3
          · isplitl [H4]
            · iexact H4
            · iexact HQ
  refine Ev.bind (E' := iprop(Fly (c : Thread nD τ) (semAt M.m15 0 s) (slot9 M.m9 s) M.m4 (qs s) W.G (pick9 W.G x) ∗ Fly (c : Thread nD τ) (semAt M.m15 1 s) (slot10 M.m10 s) M.m5 (qs s) W.SG (pick10 W.SG x) ∗ Fly (c : Thread nD τ) (semAt M.m15 2 s) (slot11 M.m11 s) M.m6 (qs s) W.D (pick11 W.D x) ∗ Idle (c : Thread nD τ) (semAt M.m15 3 s) (slot12 M.m12 s) M.m7 (qs s) W.SD ∗ Q)) ((start11 (T := W.D) (q := qs s) hq2 hd2 hs2).on ?_) ?_
  · iintro ⟨H1, H2, H3, H4, HQ⟩
    isplitl [H3]
    · iexact H3
    · iintro H3
      isplitl [H1]
      · iexact H1
      · isplitl [H2]
        · iexact H2
        · isplitl [H3]
          · iexact H3
          · isplitl [H4]
            · iexact H4
            · iexact HQ
  refine Ev.bind (E' := iprop(Fly (c : Thread nD τ) (semAt M.m15 0 s) (slot9 M.m9 s) M.m4 (qs s) W.G (pick9 W.G x) ∗ Fly (c : Thread nD τ) (semAt M.m15 1 s) (slot10 M.m10 s) M.m5 (qs s) W.SG (pick10 W.SG x) ∗ Fly (c : Thread nD τ) (semAt M.m15 2 s) (slot11 M.m11 s) M.m6 (qs s) W.D (pick11 W.D x) ∗ Fly (c : Thread nD τ) (semAt M.m15 3 s) (slot12 M.m12 s) M.m7 (qs s) W.SD (pick12 W.SD x) ∗ Q)) ((start12 (T := W.SD) (q := qs s) hq3 hd3 hs3).on ?_) ?_
  · iintro ⟨H1, H2, H3, H4, HQ⟩
    isplitl [H4]
    · iexact H4
    · iintro H4
      isplitl [H1]
      · iexact H1
      · isplitl [H2]
        · iexact H2
        · isplitl [H3]
          · iexact H3
          · isplitl [H4]
            · iexact H4
            · iexact HQ
  refine Ev.conseq ?_ hJ .rfl
  unfold FlyAll
  iintro ⟨H1, H2, H3, H4, HQ⟩
  isplitr [HQ]
  · isplitl [H1]
    · iexact H1
    · isplitl [H2]
      · iexact H2
      · isplitl [H3]
        · iexact H3
        · iexact H4
  · iexact HQ

/-- The ring's place for the turn `p`: the copies of its expert under way, if there is one. -/
def St (c : Dev nD) (M : Mem) (W : Src F) (x : ℕ → Fin 32) (n p : ℕ) : sProp 𝕄 :=
  if p < n then FlyAll c M W (slotOf p) (x p) else IdleAll c M W (slotOf p)

/-- Part 184 of the body runs and leaves what is stated. -/
theorem k0_part184_ev (hid : ∀ n, (id n).toNat < 32) (hM : M = marked id L) :
    Ev (defs₀ (F := F)) Variants.none c none iprop(Ids c arg0 id ∗ Sm c arg14 (zr L 60)) (k0_part184 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 : Prog (TpuEff nD τ sig (Elt F) Λ₀ .tc) _) ⟨M 32, M 33, M 34, M 35, sumf M 4⟩ iprop(Ids c arg0 id ∗ Sm c arg14 (LL M 5)) := by
  have hM : Marks M ∧ M = marked id L := ⟨hM ▸ marked_marks id L, hM⟩
  obtain ⟨hM, hMd⟩ := hM
  rw [k0_part184_eq_skeleton]
  unfold k0_part184_skel
  dsimp only
  refine Ev.bind (ev_frameL _ (sm_load (k := 60) rfl)) ?_
  refine Ev.bind (E' := iprop(Ids c arg0 id ∗ Sm c arg14 (zr L 61))) (ev_frameL _ (sm_store (k := 60) rfl)) ?_
  refine Ev.bind (ev_frameL _ (sm_load (k := 61) rfl)) ?_
  refine Ev.bind (E' := iprop(Ids c arg0 id ∗ Sm c arg14 (zr L 62))) (ev_frameL _ (sm_store (k := 61) rfl)) ?_
  refine Ev.bind (ev_frameL _ (sm_load (k := 62) rfl)) ?_
  refine Ev.bind (E' := iprop(Ids c arg0 id ∗ Sm c arg14 (zr L 63))) (ev_frameL _ (sm_store (k := 62) rfl)) ?_
  refine Ev.bind (ev_frameL _ (sm_load (k := 63) rfl)) ?_
  refine Ev.bind (E' := iprop(Ids c arg0 id ∗ Sm c arg14 (zr L 64))) (ev_frameL _ (sm_store (k := 63) rfl)) ?_
  refine Ev.bind (a := ()) (E' := iprop(Ids c arg0 id ∗ Sm c arg14 (LL M 0))) ?_ ?_
  · have h := ev_for (defs := defs₀ (F := F)) (𝒱 := Variants.none) (c := (c : Thread nD τ)) (bd := none) (hok := k0_t1_ok)
      (body := k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15)
      (fun k => iprop(Ids c arg0 id ∗ Sm c arg14 (mk id (zr L 64) (8 * k)))) (fun k => k0_t1_ev hid k)
    have e : Scf.trips k0_t1_loop.lb k0_t1_loop.ub k0_t1_loop.st = 64 := t1_trips
    rw [e] at h
    subst hMd
    exact h
  refine Ev.bind (ev_frameL _ (sm_load (k := cnt M 0) rfl)) ?_
  refine Ev.bind (E' := iprop(Ids c arg0 id ∗ Sm c arg14 (LL M 1))) (ev_frameL _ (list_store rfl rfl)) ?_
  refine Ev.bind (ev_frameL _ (flag_load hM (n := 1) (k := 0) (by decide) rfl)) ?_
  refine Ev.bindAssume (chk9 hM) ?_
  refine Ev.bind (ev_frameL _ (sm_load (k := cnt M 1) (off17_eq hM))) ?_
  refine Ev.bind (E' := iprop(Ids c arg0 id ∗ Sm c arg14 (LL M 2))) (ev_frameL _ (list_store rfl (off17_eq hM))) ?_
  refine Ev.bind (ev_frameL _ (flag_load hM (n := 2) (k := 1) (by decide) rfl)) ?_
  refine Ev.bindAssume (chk10 hM) ?_
  refine Ev.bind (ev_frameL _ (sm_load (k := cnt M 2) (off18_eq hM))) ?_
  refine Ev.bind (E' := iprop(Ids c arg0 id ∗ Sm c arg14 (LL M 3))) (ev_frameL _ (list_store rfl (off18_eq hM))) ?_
  refine Ev.bind (ev_frameL _ (flag_load hM (n := 3) (k := 2) (by decide) rfl)) ?_
  refine Ev.bindAssume (chk11 hM) ?_
  refine Ev.bind (ev_frameL _ (sm_load (k := cnt M 3) (off19_eq hM))) ?_
  refine Ev.bind (E' := iprop(Ids c arg0 id ∗ Sm c arg14 (LL M 4))) (ev_frameL _ (list_store rfl (off19_eq hM))) ?_
  refine Ev.bind (ev_frameL _ (flag_load hM (n := 4) (k := 3) (by decide) rfl)) ?_
  refine Ev.bindAssume (chk12 hM) ?_
  refine Ev.bind (ev_frameL _ (sm_load (k := cnt M 4) (off20_eq hM))) ?_
  refine Ev.bind (E' := iprop(Ids c arg0 id ∗ Sm c arg14 (LL M 5))) (ev_frameL _ (list_store rfl (off20_eq hM))) ?_
  exact pure_eq rfl

/-- Part 185 of the body runs and leaves what is stated. -/
theorem k0_part185_ev (hM : Marks M) :
    Ev (defs₀ (F := F)) Variants.none c none iprop(Ids c arg0 id ∗ Sm c arg14 (LL M 5)) (k0_part185 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 (M 32) (M 33) (M 34) (M 35) (sumf M 4) : Prog (TpuEff nD τ sig (Elt F) Λ₀ .tc) _) ⟨M 36, M 37, M 38, M 39, M 40, M 41, M 42, M 43, chk20 hM, sumf M 12, 12#32⟩ iprop(Ids c arg0 id ∗ Sm c arg14 (LL M 12)) := by
  rw [k0_part185_eq_skeleton]
  unfold k0_part185_skel
  dsimp only
  refine Ev.bind (ev_frameL _ (flag_load hM (n := 5) (k := 4) (by decide) rfl)) ?_
  refine Ev.bindAssume (chk13 hM) ?_
  refine Ev.bind (ev_frameL _ (sm_load (k := cnt M 5) (off21_eq hM))) ?_
  refine Ev.bind (E' := iprop(Ids c arg0 id ∗ Sm c arg14 (LL M 6))) (ev_frameL _ (list_store rfl (off21_eq hM))) ?_
  refine Ev.bind (ev_frameL _ (flag_load hM (n := 6) (k := 5) (by decide) rfl)) ?_
  refine Ev.bindAssume (chk14 hM) ?_
  refine Ev.bind (ev_frameL _ (sm_load (k := cnt M 6) (off22_eq hM))) ?_
  refine Ev.bind (E' := iprop(Ids c arg0 id ∗ Sm c arg14 (LL M 7))) (ev_frameL _ (list_store rfl (off22_eq hM))) ?_
  refine Ev.bind (ev_frameL _ (flag_load hM (n := 7) (k := 6) (by decide) rfl)) ?_
  refine Ev.bindAssume (chk15 hM) ?_
  refine Ev.bind (ev_frameL _ (sm_load (k := cnt M 7) (off23_eq hM))) ?_
  refine Ev.bind (E' := iprop(Ids c arg0 id ∗ Sm c arg14 (LL M 8))) (ev_frameL _ (list_store rfl (off23_eq hM))) ?_
  refine Ev.bind (ev_frameL _ (flag_load hM (n := 8) (k := 7) (by decide) rfl)) ?_
  refine Ev.bindAssume (chk16 hM) ?_
  refine Ev.bind (ev_frameL _ (sm_load (k := cnt M 8) (off24_eq hM))) ?_
  refine Ev.bind (E' := iprop(Ids c arg0 id ∗ Sm c arg14 (LL M 9))) (ev_frameL _ (list_store rfl (off24_eq hM))) ?_
  refine Ev.bind (ev_frameL _ (flag_load hM (n := 9) (k := 8) (by decide) rfl)) ?_
  refine Ev.bindAssume (chk17 hM) ?_
  refine Ev.bind (ev_frameL _ (sm_load (k := cnt M 9) (off25_eq hM))) ?_
  refine Ev.bind (E' := iprop(Ids c arg0 id ∗ Sm c arg14 (LL M 10))) (ev_frameL _ (list_store rfl (off25_eq hM))) ?_
  refine Ev.bind (ev_frameL _ (flag_load hM (n := 10) (k := 9) (by decide) rfl)) ?_
  refine Ev.bindAssume (chk18 hM) ?_
  refine Ev.bind (ev_frameL _ (sm_load (k := cnt M 10) (off26_eq hM))) ?_
  refine Ev.bind (E' := iprop(Ids c arg0 id ∗ Sm c arg14 (LL M 11))) (ev_frameL _ (list_store rfl (off26_eq hM))) ?_
  refine Ev.bind (ev_frameL _ (flag_load hM (n := 11) (k := 10) (by decide) rfl)) ?_
  refine Ev.bindAssume (chk19 hM) ?_
  refine Ev.bind (ev_frameL _ (sm_load (k := cnt M 11) (off27_eq hM))) ?_
  refine Ev.bind (E' := iprop(Ids c arg0 id ∗ Sm c arg14 (LL M 12))) (ev_frameL _ (list_store rfl (off27_eq hM))) ?_
  refine Ev.bind (ev_frameL _ (flag_load hM (n := 12) (k := 11) (by decide) rfl)) ?_
  refine Ev.bindAssume (chk20 hM) ?_
  exact pure_eq rfl

/-- Part 186 of the body runs and leaves what is stated. -/
theorem k0_part186_ev (hM : Marks M) :
    Ev (defs₀ (F := F)) Variants.none c none iprop(Ids c arg0 id ∗ Sm c arg14 (LL M 12)) (k0_part186 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 (M 32) (M 33) (M 34) (M 35) (M 36) (M 37) (M 38) (M 39) (M 40) (M 41) (M 42) (M 43) (chk20 hM) (sumf M 12) 12#32 : Prog (TpuEff nD τ sig (Elt F) Λ₀ .tc) _) ⟨M 44, M 45, M 46, M 47, M 48, M 49, M 50, sumf M 19⟩ iprop(Ids c arg0 id ∗ Sm c arg14 (LL M 20)) := by
  rw [k0_part186_eq_skeleton]
  unfold k0_part186_skel
  dsimp only
  refine Ev.bind (ev_frameL _ (sm_load (k := cnt M 12) (off28_eq hM))) ?_
  refine Ev.bind (E' := iprop(Ids c arg0 id ∗ Sm c arg14 (LL M 13))) (ev_frameL _ (list_store rfl (off28_eq hM))) ?_
  refine Ev.bind (ev_frameL _ (flag_load hM (n := 13) (k := 12) (by decide) rfl)) ?_
  refine Ev.bindAssume (chk21 hM) ?_
  refine Ev.bind (ev_frameL _ (sm_load (k := cnt M 13) (off29_eq hM))) ?_
  refine Ev.bind (E' := iprop(Ids c arg0 id ∗ Sm c arg14 (LL M 14))) (ev_frameL _ (list_store rfl (off29_eq hM))) ?_
  refine Ev.bind (ev_frameL _ (flag_load hM (n := 14) (k := 13) (by decide) rfl)) ?_
  refine Ev.bindAssume (chk22 hM) ?_
  refine Ev.bind (ev_frameL _ (sm_load (k := cnt M 14) (off30_eq hM))) ?_
  refine Ev.bind (E' := iprop(Ids c arg0 id ∗ Sm c arg14 (LL M 15))) (ev_frameL _ (list_store rfl (off30_eq hM))) ?_
  refine Ev.bind (ev_frameL _ (flag_load hM (n := 15) (k := 14) (by decide) rfl)) ?_
  refine Ev.bindAssume (chk23 hM) ?_
  refine Ev.bind (ev_frameL _ (sm_load (k := cnt M 15) (off31_eq hM))) ?_
  refine Ev.bind (E' := iprop(Ids c arg0 id ∗ Sm c arg14 (LL M 16))) (ev_frameL _ (list_store rfl (off31_eq hM))) ?_
  refine Ev.bind (ev_frameL _ (flag_load hM (n := 16) (k := 15) (by decide) rfl)) ?_
  refine Ev.bindAssume (chk24 hM) ?_
  refine Ev.bind (ev_frameL _ (sm_load (k := cnt M 16) (off32_eq hM))) ?_
  refine Ev.bind (E' := iprop(Ids c arg0 id ∗ Sm c arg14 (LL M 17))) (ev_frameL _ (list_store rfl (off32_eq hM))) ?_
  refine Ev.bind (ev_frameL _ (flag_load hM (n := 17) (k := 16) (by decide) rfl)) ?_
  refine Ev.bindAssume (chk25 hM) ?_
  refine Ev.bind (ev_frameL _ (sm_load (k := cnt M 17) (off33_eq hM))) ?_
  refine Ev.bind (E' := iprop(Ids c arg0 id ∗ Sm c arg14 (LL M 18))) (ev_frameL _ (list_store rfl (off33_eq hM))) ?_
  refine Ev.bind (ev_frameL _ (flag_load hM (n := 18) (k := 17) (by decide) rfl)) ?_
  refine Ev.bindAssume (chk26 hM) ?_
  refine Ev.bind (ev_frameL _ (sm_load (k := cnt M 18) (off34_eq hM))) ?_
  refine Ev.bind (E' := iprop(Ids c arg0 id ∗ Sm c arg14 (LL M 19))) (ev_frameL _ (list_store rfl (off34_eq hM))) ?_
  refine Ev.bind (ev_frameL _ (flag_load hM (n := 19) (k := 18) (by decide) rfl)) ?_
  refine Ev.bindAssume (chk27 hM) ?_
  refine Ev.bind (ev_frameL _ (sm_load (k := cnt M 19) (off35_eq hM))) ?_
  refine Ev.bind (E' := iprop(Ids c arg0 id ∗ Sm c arg14 (LL M 20))) (ev_frameL _ (list_store rfl (off35_eq hM))) ?_
  exact pure_eq rfl

/-- Part 187 of the body runs and leaves what is stated. -/
theorem k0_part187_ev (hM : Marks M) :
    Ev (defs₀ (F := F)) Variants.none c none iprop(Ids c arg0 id ∗ Sm c arg14 (LL M 20)) (k0_part187 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 (M 32) (M 33) (M 34) (M 35) (M 36) (M 37) (M 38) (M 39) (M 40) (M 41) (M 42) (M 43) (M 44) (M 45) (M 46) (M 47) (M 48) (M 49) (M 50) (sumf M 19) : Prog (TpuEff nD τ sig (Elt F) Λ₀ .tc) _) ⟨M 51, M 52, M 53, M 54, M 55, M 56, M 57, M 58, chk35 hM, sumf M 27, 27#32⟩ iprop(Ids c arg0 id ∗ Sm c arg14 (LL M 27)) := by
  rw [k0_part187_eq_skeleton]
  unfold k0_part187_skel
  dsimp only
  refine Ev.bind (ev_frameL _ (flag_load hM (n := 20) (k := 19) (by decide) rfl)) ?_
  refine Ev.bindAssume (chk28 hM) ?_
  refine Ev.bind (ev_frameL _ (sm_load (k := cnt M 20) (off36_eq hM))) ?_
  refine Ev.bind (E' := iprop(Ids c arg0 id ∗ Sm c arg14 (LL M 21))) (ev_frameL _ (list_store rfl (off36_eq hM))) ?_
  refine Ev.bind (ev_frameL _ (flag_load hM (n := 21) (k := 20) (by decide) rfl)) ?_
  refine Ev.bindAssume (chk29 hM) ?_
  refine Ev.bind (ev_frameL _ (sm_load (k := cnt M 21) (off37_eq hM))) ?_
  refine Ev.bind (E' := iprop(Ids c arg0 id ∗ Sm c arg14 (LL M 22))) (ev_frameL _ (list_store rfl (off37_eq hM))) ?_
  refine Ev.bind (ev_frameL _ (flag_load hM (n := 22) (k := 21) (by decide) rfl)) ?_
  refine Ev.bindAssume (chk30 hM) ?_
  refine Ev.bind (ev_frameL _ (sm_load (k := cnt M 22) (off38_eq hM))) ?_
  refine Ev.bind (E' := iprop(Ids c arg0 id ∗ Sm c arg14 (LL M 23))) (ev_frameL _ (list_store rfl (off38_eq hM))) ?_
  refine Ev.bind (ev_frameL _ (flag_load hM (n := 23) (k := 22) (by decide) rfl)) ?_
  refine Ev.bindAssume (chk31 hM) ?_
  refine Ev.bind (ev_frameL _ (sm_load (k := cnt M 23) (off39_eq hM))) ?_
  refine Ev.bind (E' := iprop(Ids c arg0 id ∗ Sm c arg14 (LL M 24))) (ev_frameL _ (list_store rfl (off39_eq hM))) ?_
  refine Ev.bind (ev_frameL _ (flag_load hM (n := 24) (k := 23) (by decide) rfl)) ?_
  refine Ev.bindAssume (chk32 hM) ?_
  refine Ev.bind (ev_frameL _ (sm_load (k := cnt M 24) (off40_eq hM))) ?_
  refine Ev.bind (E' := iprop(Ids c arg0 id ∗ Sm c arg14 (LL M 25))) (ev_frameL _ (list_store rfl (off40_eq hM))) ?_
  refine Ev.bind (ev_frameL _ (flag_load hM (n := 25) (k := 24) (by decide) rfl)) ?_
  refine Ev.bindAssume (chk33 hM) ?_
  refine Ev.bind (ev_frameL _ (sm_load (k := cnt M 25) (off41_eq hM))) ?_
  refine Ev.bind (E' := iprop(Ids c arg0 id ∗ Sm c arg14 (LL M 26))) (ev_frameL _ (list_store rfl (off41_eq hM))) ?_
  refine Ev.bind (ev_frameL _ (flag_load hM (n := 26) (k := 25) (by decide) rfl)) ?_
  refine Ev.bindAssume (chk34 hM) ?_
  refine Ev.bind (ev_frameL _ (sm_load (k := cnt M 26) (off42_eq hM))) ?_
  refine Ev.bind (E' := iprop(Ids c arg0 id ∗ Sm c arg14 (LL M 27))) (ev_frameL _ (list_store rfl (off42_eq hM))) ?_
  refine Ev.bind (ev_frameL _ (flag_load hM (n := 27) (k := 26) (by decide) rfl)) ?_
  refine Ev.bindAssume (chk35 hM) ?_
  exact pure_eq rfl

/-- The sum of the marks is the number of experts named. -/
theorem tot_eq (hM : Marks M) : Tot (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63) (cnt M 32) := by
  refine ⟨?_, cnt_le hM 32 (Nat.le_refl _)⟩
  rw [← sumf_eq]
  simp only [tot, sumf, Nat.reduceAdd]

/-- Part 188 of the body runs and leaves what is stated. -/
theorem k0_part188_ev (hM : Marks M) :
    Ev (defs₀ (F := F)) Variants.none c none iprop(IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 27))
      (k0_part188 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (chk35 hM) (sumf M 27) 27#32 : Prog (TpuEff nD τ sig (Elt F) Λ₀ .tc) _) ⟨M 59, M 60, M 61, M 62, M 63, chk43 (tot_eq hM), sumf M 32, k0_pay551⟩
      iprop(St c ⟨arg4, arg5, arg6, arg7, arg9, arg10, arg11, arg12, arg14, arg15⟩ W (act M) (cnt M 32) 0 ∗ St c ⟨arg4, arg5, arg6, arg7, arg9, arg10, arg11, arg12, arg14, arg15⟩ W (act M) (cnt M 32) 1 ∗ St c ⟨arg4, arg5, arg6, arg7, arg9, arg10, arg11, arg12, arg14, arg15⟩ W (act M) (cnt M 32) 2 ∗ Ids c arg0 id ∗ Sm c arg14 (LL M 32)) := by
  rw [k0_part188_eq_skeleton]
  unfold k0_part188_skel
  have hT := tot_eq hM
  refine Ev.bind (ev_frameL _ (ev_frameL _ (ev_frameL _ (ev_frameL _ (sm_load (k := cnt M 27) (off43_eq hM)))))) ?_
  refine Ev.bind (E' := iprop(IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 28))) (ev_frameL _ (ev_frameL _ (ev_frameL _ (ev_frameL _ (list_store rfl (off43_eq hM)))))) ?_
  refine Ev.bind (ev_frameL _ (ev_frameL _ (ev_frameL _ (ev_frameL _ (flag_load hM (n := 28) (k := 27) (by decide) rfl))))) ?_
  refine Ev.bindAssume (chk36 hM) ?_
  refine Ev.bind (ev_frameL _ (ev_frameL _ (ev_frameL _ (ev_frameL _ (sm_load (k := cnt M 28) (off44_eq hM)))))) ?_
  refine Ev.bind (E' := iprop(IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 29))) (ev_frameL _ (ev_frameL _ (ev_frameL _ (ev_frameL _ (list_store rfl (off44_eq hM)))))) ?_
  refine Ev.bind (ev_frameL _ (ev_frameL _ (ev_frameL _ (ev_frameL _ (flag_load hM (n := 29) (k := 28) (by decide) rfl))))) ?_
  refine Ev.bindAssume (chk37 hM) ?_
  refine Ev.bind (ev_frameL _ (ev_frameL _ (ev_frameL _ (ev_frameL _ (sm_load (k := cnt M 29) (off45_eq hM)))))) ?_
  refine Ev.bind (E' := iprop(IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 30))) (ev_frameL _ (ev_frameL _ (ev_frameL _ (ev_frameL _ (list_store rfl (off45_eq hM)))))) ?_
  refine Ev.bind (ev_frameL _ (ev_frameL _ (ev_frameL _ (ev_frameL _ (flag_load hM (n := 30) (k := 29) (by decide) rfl))))) ?_
  refine Ev.bindAssume (chk38 hM) ?_
  refine Ev.bind (ev_frameL _ (ev_frameL _ (ev_frameL _ (ev_frameL _ (sm_load (k := cnt M 30) (off46_eq hM)))))) ?_
  refine Ev.bind (E' := iprop(IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 31))) (ev_frameL _ (ev_frameL _ (ev_frameL _ (ev_frameL _ (list_store rfl (off46_eq hM)))))) ?_
  refine Ev.bind (ev_frameL _ (ev_frameL _ (ev_frameL _ (ev_frameL _ (flag_load hM (n := 31) (k := 30) (by decide) rfl))))) ?_
  refine Ev.bindAssume (chk39 hM) ?_
  refine Ev.bind (ev_frameL _ (ev_frameL _ (ev_frameL _ (ev_frameL _ (sm_load (k := cnt M 31) (off47_eq hM)))))) ?_
  refine Ev.bind (E' := iprop(IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 32))) (ev_frameL _ (ev_frameL _ (ev_frameL _ (ev_frameL _ (list_store rfl (off47_eq hM)))))) ?_
  refine Ev.bind (ev_frameL _ (ev_frameL _ (ev_frameL _ (ev_frameL _ (flag_load hM (n := 32) (k := 31) (by decide) rfl))))) ?_
  refine Ev.bindAssume (chk43 hT) ?_
  refine ev_dite (E1 := iprop(St c ⟨arg4, arg5, arg6, arg7, arg9, arg10, arg11, arg12, arg14, arg15⟩ W (act M) (cnt M 32) 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 32))) (ev_dite (E1 := iprop(St c ⟨arg4, arg5, arg6, arg7, arg9, arg10, arg11, arg12, arg14, arg15⟩ W (act M) (cnt M 32) 0 ∗ St c ⟨arg4, arg5, arg6, arg7, arg9, arg10, arg11, arg12, arg14, arg15⟩ W (act M) (cnt M 32) 1 ∗ IdleAll c ⟨arg4, arg5, arg6, arg7, arg9, arg10, arg11, arg12, arg14, arg15⟩ W 2 ∗ Ids c arg0 id ∗ Sm c arg14 (LL M 32))) (ev_dite (E1 := iprop(St c ⟨arg4, arg5, arg6, arg7, arg9, arg10, arg11, arg12, arg14, arg15⟩ W (act M) (cnt M 32) 0 ∗ St c ⟨arg4, arg5, arg6, arg7, arg9, arg10, arg11, arg12, arg14, arg15⟩ W (act M) (cnt M 32) 1 ∗ St c ⟨arg4, arg5, arg6, arg7, arg9, arg10, arg11, arg12, arg14, arg15⟩ W (act M) (cnt M 32) 2 ∗ Ids c arg0 id ∗ Sm c arg14 (LL M 32))) (pure_eq rfl) ?_ ?_) ?_ ?_) ?_ ?_
  · intro hJ h
    have h := (cond3_iff hT).1 h
    refine Ev.bind (ev_frameL _ (ev_frameL _ (ev_frameL _ (ev_frameL _ (sm_load (k := 2) rfl))))) ?_
    refine Ev.bindAssume (chk42 (by rw [(act_eq hM h)]; exact Fin.isLt _)) ?_
    refine Ev.conseq (E := iprop(IdleAll c ⟨arg4, arg5, arg6, arg7, arg9, arg10, arg11, arg12, arg14, arg15⟩ W 2 ∗ St c ⟨arg4, arg5, arg6, arg7, arg9, arg10, arg11, arg12, arg14, arg15⟩ W (act M) (cnt M 32) 0 ∗ St c ⟨arg4, arg5, arg6, arg7, arg9, arg10, arg11, arg12, arg14, arg15⟩ W (act M) (cnt M 32) 1 ∗ Ids c arg0 id ∗ Sm c arg14 (LL M 32))) (E' := iprop(St c ⟨arg4, arg5, arg6, arg7, arg9, arg10, arg11, arg12, arg14, arg15⟩ W (act M) (cnt M 32) 0 ∗ St c ⟨arg4, arg5, arg6, arg7, arg9, arg10, arg11, arg12, arg14, arg15⟩ W (act M) (cnt M 32) 1 ∗ St c ⟨arg4, arg5, arg6, arg7, arg9, arg10, arg11, arg12, arg14, arg15⟩ W (act M) (cnt M 32) 2 ∗ Ids c arg0 id ∗ Sm c arg14 (LL M 32))) ?_ (starts (M := ⟨arg4, arg5, arg6, arg7, arg9, arg10, arg11, arg12, arg14, arg15⟩) (W := W) (s := 2) (x := act M 2) rfl rfl (vec3 (act_eq hM h)) rfl rfl (vec3 (act_eq hM h)) rfl rfl (vec3 (act_eq hM h)) rfl rfl (vec3 (act_eq hM h)) (Ev.conseq ?_ hJ .rfl)) .rfl
    · iintro ⟨H0, H1, H2, HI, HS⟩
      isplitl [H2]
      · iexact H2
      · isplitl [H0]
        · iexact H0
        · isplitl [H1]
          · iexact H1
          · isplitl [HI]
            · iexact HI
            · iexact HS
    · iintro ⟨H2, H0, H1, HI, HS⟩
      isplitl [H0]
      · iexact H0
      · isplitl [H1]
        · iexact H1
        · isplitl [H2]
          · unfold St
            rw [if_pos h]
            iexact H2
          · isplitl [HI]
            · iexact HI
            · iexact HS
  · intro hc
    have h : ¬ _ := fun h => hc ((cond3_iff hT).2 h)
    have e : St c ⟨arg4, arg5, arg6, arg7, arg9, arg10, arg11, arg12, arg14, arg15⟩ W (act M) (cnt M 32) 2 = IdleAll c ⟨arg4, arg5, arg6, arg7, arg9, arg10, arg11, arg12, arg14, arg15⟩ W 2 := if_neg h
    rw [e]
  · intro hJ h
    have h := (cond2_iff hT).1 h
    refine Ev.bind (ev_frameL _ (ev_frameL _ (ev_frameL _ (ev_frameL _ (sm_load (k := 1) rfl))))) ?_
    refine Ev.bindAssume (chk41 (by rw [(act_eq hM h)]; exact Fin.isLt _)) ?_
    refine Ev.conseq (E := iprop(IdleAll c ⟨arg4, arg5, arg6, arg7, arg9, arg10, arg11, arg12, arg14, arg15⟩ W 1 ∗ St c ⟨arg4, arg5, arg6, arg7, arg9, arg10, arg11, arg12, arg14, arg15⟩ W (act M) (cnt M 32) 0 ∗ IdleAll c ⟨arg4, arg5, arg6, arg7, arg9, arg10, arg11, arg12, arg14, arg15⟩ W 2 ∗ Ids c arg0 id ∗ Sm c arg14 (LL M 32))) (E' := iprop(St c ⟨arg4, arg5, arg6, arg7, arg9, arg10, arg11, arg12, arg14, arg15⟩ W (act M) (cnt M 32) 0 ∗ St c ⟨arg4, arg5, arg6, arg7, arg9, arg10, arg11, arg12, arg14, arg15⟩ W (act M) (cnt M 32) 1 ∗ St c ⟨arg4, arg5, arg6, arg7, arg9, arg10, arg11, arg12, arg14, arg15⟩ W (act M) (cnt M 32) 2 ∗ Ids c arg0 id ∗ Sm c arg14 (LL M 32))) ?_ (starts (M := ⟨arg4, arg5, arg6, arg7, arg9, arg10, arg11, arg12, arg14, arg15⟩) (W := W) (s := 1) (x := act M 1) rfl rfl (vec3 (act_eq hM h)) rfl rfl (vec3 (act_eq hM h)) rfl rfl (vec3 (act_eq hM h)) rfl rfl (vec3 (act_eq hM h)) (Ev.conseq ?_ hJ .rfl)) .rfl
    · iintro ⟨H0, H1, H2, HI, HS⟩
      isplitl [H1]
      · iexact H1
      · isplitl [H0]
        · iexact H0
        · isplitl [H2]
          · iexact H2
          · isplitl [HI]
            · iexact HI
            · iexact HS
    · iintro ⟨H1, H0, H2, HI, HS⟩
      isplitl [H0]
      · iexact H0
      · isplitl [H1]
        · unfold St
          rw [if_pos h]
          iexact H1
        · isplitl [H2]
          · iexact H2
          · isplitl [HI]
            · iexact HI
            · iexact HS
  · intro hc
    have h : ¬ _ := fun h => hc ((cond2_iff hT).2 h)
    have e : St c ⟨arg4, arg5, arg6, arg7, arg9, arg10, arg11, arg12, arg14, arg15⟩ W (act M) (cnt M 32) 1 = IdleAll c ⟨arg4, arg5, arg6, arg7, arg9, arg10, arg11, arg12, arg14, arg15⟩ W 1 := if_neg h
    rw [e]
  · intro hJ h
    have h := (cond1_iff hT).1 h
    refine Ev.bind (ev_frameL _ (ev_frameL _ (ev_frameL _ (ev_frameL _ (sm_load (k := 0) rfl))))) ?_
    refine Ev.bindAssume (chk40 (by rw [(act_eq hM h)]; exact Fin.isLt _)) ?_
    refine Ev.conseq (E := iprop(IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 32))) (E' := iprop(St c ⟨arg4, arg5, arg6, arg7, arg9, arg10, arg11, arg12, arg14, arg15⟩ W (act M) (cnt M 32) 0 ∗ St c ⟨arg4, arg5, arg6, arg7, arg9, arg10, arg11, arg12, arg14, arg15⟩ W (act M) (cnt M 32) 1 ∗ St c ⟨arg4, arg5, arg6, arg7, arg9, arg10, arg11, arg12, arg14, arg15⟩ W (act M) (cnt M 32) 2 ∗ Ids c arg0 id ∗ Sm c arg14 (LL M 32))) ?_ (starts (M := ⟨arg4, arg5, arg6, arg7, arg9, arg10, arg11, arg12, arg14, arg15⟩) (W := W) (s := 0) (x := act M 0) rfl rfl (vec3 (act_eq hM h)) rfl rfl (vec3 (act_eq hM h)) rfl rfl (vec3 (act_eq hM h)) rfl rfl (vec3 (act_eq hM h)) (Ev.conseq ?_ hJ .rfl)) .rfl
    · iintro ⟨H0, H1, H2, HI, HS⟩
      isplitl [H0]
      · iexact H0
      · isplitl [H1]
        · iexact H1
        · isplitl [H2]
          · iexact H2
          · isplitl [HI]
            · iexact HI
            · iexact HS
    · iintro ⟨H0, H1, H2, HI, HS⟩
      isplitl [H0]
      · unfold St
        rw [if_pos h]
        iexact H0
      · isplitl [H1]
        · iexact H1
        · isplitl [H2]
          · iexact H2
          · isplitl [HI]
            · iexact HI
            · iexact HS
  · intro hc
    have h : ¬ _ := fun h => hc ((cond1_iff hT).2 h)
    have e : St c ⟨arg4, arg5, arg6, arg7, arg9, arg10, arg11, arg12, arg14, arg15⟩ W (act M) (cnt M 32) 0 = IdleAll c ⟨arg4, arg5, arg6, arg7, arg9, arg10, arg11, arg12, arg14, arg15⟩ W 0 := if_neg h
    rw [e]

end Cert.Kernel.Moe

end
-- ==== Proof.Body.lean ====
/-
  The whole kernel body.
-/
module

public import proofs.«01_k».proof.Proof.Base
public import proofs.«01_k».proof.Proof.Gen.Kernel.Skeleton
public import proofs.«01_k».proof.Proof.Pre1

@[expose] public section

set_option maxRecDepth 16384
set_option pp.deepTerms false
set_option pp.maxSteps 80

noncomputable section

namespace Cert.Kernel.Moe

open Cert.Kernel Cert.Kernel.Gen Cert.Moe
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU sig nD τ) ℕ

variable {c : Dev nD}
variable {arg0 : Memref sig .tc .smem S64x8 .i32} {harg0 : arg0.IsWhole} {arg1 : Memref sig .tc .vmem S64x8 .i32} {harg1 : arg1.IsWhole} {arg2 : Memref sig .tc .vmem S64x8 .f32} {harg2 : arg2.IsWhole} {arg3 : Memref sig .tc .vmem S64x2816 .bf16} {harg3 : arg3.IsWhole} {arg4 : Memref sig .tc .hbm S32x1408x1536 .i8} {harg4 : arg4.IsWhole} {arg5 : Memref sig .tc .hbm S32x22x1536 .bf16} {harg5 : arg5.IsWhole} {arg6 : Memref sig .tc .hbm S32x384x2816 .i8} {harg6 : arg6.IsWhole} {arg7 : Memref sig .tc .hbm S32x6x2816 .bf16} {harg7 : arg7.IsWhole} {arg8 : Memref sig .tc .vmem S64x2816 .bf16} {harg8 : arg8.IsWhole} {arg9 : Memref sig .tc .vmem S3x1408x1536 .i8} {harg9 : arg9.IsWhole} {arg10 : Memref sig .tc .vmem S3x22x1536 .bf16} {harg10 : arg10.IsWhole} {arg11 : Memref sig .tc .vmem S3x384x2816 .i8} {harg11 : arg11.IsWhole} {arg12 : Memref sig .tc .vmem S3x6x2816 .bf16} {harg12 : arg12.IsWhole} {arg13 : Memref sig .tc .vmem S64x2816 .f32} {harg13 : arg13.IsWhole} {arg14 : Memref sig .tc .smem S65 .i32} {harg14 : arg14.IsWhole} {arg15 : DmaSems sig S4x3}
variable {W : Src F} {L M id : ℕ → BitVec 32} {I : S64x8.Idx → Elt F .i32} {Wt : S64x8.Idx → Elt F .f32}
variable {X : S64x2816.Idx → Elt F .bf16} {n : ℕ}

/-- The rectangle of a whole array leaves every index where it is. -/
theorem emb_whole (h) (x : S64x2816.Idx) : (Rect.unit (s := S64x2816) ![0, 0] S64x2816.size h).emb x = x := by
  funext a
  match a with
  | 0 => exact Fin.ext (show 0 + 1 * (x 0).val = (x 0).val by omega)
  | 1 => exact Fin.ext (show 0 + 1 * (x 1).val = (x 1).val by omega)

/-- Reading a whole array. -/
theorem load_whole {e : EltTy} {m : Memref sig .tc .vmem S64x2816 e} {T : S64x2816.Idx → Elt F e} {h hl} :
    Ev (defs₀ (F := F)) Variants.none c none (holds (c : Thread nD τ) m fullShare T)
      (Prog.lift (.load m (Rect.unit (s := S64x2816) ![0, 0] S64x2816.size h).toLoadRect hl)) T (holds (c : Thread nD τ) m fullShare T) := by
  have e : (fun x => T ((Rect.unit (s := S64x2816) ![0, 0] S64x2816.size h).emb x)) = T := funext fun x => congrArg T (emb_whole h x)
  have h' := ev_load (defs := defs₀ (F := F)) (𝒱 := Variants.none) (c := (c : Thread nD τ)) (bd := none) (m := m)
    (r := Rect.unit (s := S64x2816) ![0, 0] S64x2816.size h) (hl := hl) (q := fullShare) (T := T)
  rw [e] at h'
  exact h'

/-- Writing a whole array. -/
theorem store_whole {e : EltTy} {m : Memref sig .tc .vmem S64x2816 e} {T T' : S64x2816.Idx → Elt F e} {h hx hm} :
    Ev (defs₀ (F := F)) Variants.none c none (holds (c : Thread nD τ) m fullShare T)
      (Prog.lift (.store m (Rect.unit (s := S64x2816) ![0, 0] S64x2816.size h) T' Finset.univ hx hm)) ⟨⟩ (holds (c : Thread nD τ) m fullShare T') := by
  refine ev_store (fun x => congrArg T' (emb_whole h x)) (fun i hi => absurd (Rect.mem_set_unit.2 fun a => ?_) hi)
  match a with
  | 0 => exact ⟨Nat.zero_le _, (Nat.zero_add 64).symm ▸ (i 0).isLt⟩
  | 1 => exact ⟨Nat.zero_le _, (Nat.zero_add 2816).symm ▸ (i 1).isLt⟩

/-- The accumulator after the first `k` turns. -/
noncomputable def accs (W : Src F) (I : S64x8.Idx → Elt F .i32) (Wt : S64x8.Idx → Elt F .f32) (X : S64x2816.Idx → Elt F .bf16)
    (M : ℕ → BitVec 32) : ℕ → S64x2816.Idx → Elt F .f32
  | 0 => k0_pay1 k0_pay551
  | k + 1 => accT (inp W I Wt X (LL M 32 k) (act M k) (accs W I Wt X M k)) 11

/-- Three turns later the slot is the same. -/
theorem slotOf_add (k : ℕ) : slotOf (k + 3) = slotOf k := Fin.ext (Nat.add_mod_right k 3)

/-- Three idle slots in a row are all the slots. -/
theorem idle3 {m : Mem} : ∀ n : ℕ, iprop(IdleAll c m W (slotOf n) ∗ IdleAll c m W (slotOf (n + 1)) ∗ IdleAll c m W (slotOf (n + 2)))
    ⊢ iprop(IdleAll c m W 0 ∗ IdleAll c m W 1 ∗ IdleAll c m W 2)
  | 0 => .rfl
  | 1 => by
    show iprop(IdleAll c m W 1 ∗ IdleAll c m W 2 ∗ IdleAll c m W 0) ⊢ _
    iintro ⟨H1, H2, H0⟩
    isplitl [H0]
    · iexact H0
    · isplitl [H1]
      · iexact H1
      · iexact H2
  | 2 => by
    show iprop(IdleAll c m W 2 ∗ IdleAll c m W 0 ∗ IdleAll c m W 1) ⊢ _
    iintro ⟨H2, H0, H1⟩
    isplitl [H0]
    · iexact H0
    · isplitl [H1]
      · iexact H1
      · iexact H2
  | n + 3 => by
    have h := idle3 (m := m) n
    rw [← slotOf_add n, ← slotOf_add (n + 1), ← slotOf_add (n + 2)] at h
    exact h

/-- What holds before turn `k`. -/
def loopI (c : Dev nD) (arg13 : Memref sig .tc .vmem S64x2816 .f32) (arg1 : Memref sig .tc .vmem S64x8 .i32) (arg2 : Memref sig .tc .vmem S64x8 .f32)
    (arg3 : Memref sig .tc .vmem S64x2816 .bf16) (m : Mem) (W : Src F) (I : S64x8.Idx → Elt F .i32) (Wt : S64x8.Idx → Elt F .f32)
    (X : S64x2816.Idx → Elt F .bf16) (M : ℕ → BitVec 32) (n k : ℕ) : sProp 𝕄 :=
  iprop(holds (c : Thread nD τ) arg13 fullShare (accs W I Wt X M k) ∗ St c m W (act M) n k ∗ St c m W (act M) n (k + 1) ∗ St c m W (act M) n (k + 2)
    ∗ Owes (c : Thread nD τ) ∗ Ins c m.m14 arg1 arg2 arg3 (LL M 32) I Wt X)

/-- One turn of the main loop. -/
theorem step_ev (hM : Marks M) (k0_hw43) (k0_t2 : Fin (k0_t2_loop (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63)).trips) :
    Ev (defs₀ (F := F)) Variants.none c none (loopI c arg13 arg1 arg2 arg3 ⟨arg4, arg5, arg6, arg7, arg9, arg10, arg11, arg12, arg14, arg15⟩ W I Wt X M (cnt M 32) k0_t2.val) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63) k0_hw43 k0_t2 ⟨⟩ : Prog (TpuEff nD τ sig (Elt F) Λ₀ .tc) Unit) () (loopI c arg13 arg1 arg2 arg3 ⟨arg4, arg5, arg6, arg7, arg9, arg10, arg11, arg12, arg14, arg15⟩ W I Wt X M (cnt M 32) (k0_t2.val + 1)) := by
  have hT := tot_eq hM
  have hk := t2_lt hT k0_t2
  have h := turn_ev (F := F) (c := c) (arg0 := arg0) (arg8 := arg8) (arg9 := arg9) (arg10 := arg10) (arg11 := arg11) (arg12 := arg12)
    (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14)
    (arg4 := arg4) (arg5 := arg5) (arg6 := arg6) (arg7 := arg7) (arg15 := arg15) (k0_hw43 := k0_hw43)
    (W := W) (I := I) (Wt := Wt) (X := X) (A := accs W I Wt X M k0_t2.val) (x := act M k0_t2.val) (y := act M (k0_t2.val + 3)) hT (act_eq hM hk) (fun h => act_eq hM h)
  refine h.on ?_
  have e0 : St c ⟨arg4, arg5, arg6, arg7, arg9, arg10, arg11, arg12, arg14, arg15⟩ W (act M) (cnt M 32) k0_t2.val = FlyAll c ⟨arg4, arg5, arg6, arg7, arg9, arg10, arg11, arg12, arg14, arg15⟩ W (slotOf k0_t2.val) (act M k0_t2.val) := if_pos hk
  have e3 : St c ⟨arg4, arg5, arg6, arg7, arg9, arg10, arg11, arg12, arg14, arg15⟩ W (act M) (cnt M 32) (k0_t2.val + 3) = (if k0_t2.val + 3 < cnt M 32 then FlyAll c ⟨arg4, arg5, arg6, arg7, arg9, arg10, arg11, arg12, arg14, arg15⟩ W (slotOf k0_t2.val) (act M (k0_t2.val + 3)) else IdleAll c ⟨arg4, arg5, arg6, arg7, arg9, arg10, arg11, arg12, arg14, arg15⟩ W (slotOf k0_t2.val)) := by
    unfold St
    rw [slotOf_add]
  unfold loopI
  rw [e0, ← e3]
  iintro ⟨HA, H0, H1, H2, HO, HI⟩
  isplitl [HA H0 HO HI]
  · isplitl [HA]
    · iexact HA
    · isplitl [H0]
      · iexact H0
      · isplitl [HO]
        · iexact HO
        · iexact HI
  · iintro ⟨HA, H3, HO, HI⟩
    isplitl [HA]
    · iexact HA
    · isplitl [H1]
      · iexact H1
      · isplitl [H2]
        · iexact H2
        · isplitl [H3]
          · iexact H3
          · isplitl [HO]
            · iexact HO
            · iexact HI

/-- Beside what the preparation uses. -/
def beside (c : Dev nD) (arg13 : Memref sig .tc .vmem S64x2816 .f32) (arg8 : Memref sig .tc .vmem S64x2816 .bf16) (arg1 : Memref sig .tc .vmem S64x8 .i32) (arg2 : Memref sig .tc .vmem S64x8 .f32)
    (arg3 : Memref sig .tc .vmem S64x2816 .bf16) (I : S64x8.Idx → Elt F .i32) (Wt : S64x8.Idx → Elt F .f32) (X : S64x2816.Idx → Elt F .bf16)
    (A : S64x2816.Idx → Elt F .f32) (O : S64x2816.Idx → Elt F .bf16) : sProp 𝕄 :=
  iprop(holds (c : Thread nD τ) arg13 fullShare A ∗ holds (c : Thread nD τ) arg8 fullShare O ∗ Owes (c : Thread nD τ) ∗ holds (c : Thread nD τ) arg1 fullShare I ∗ holds (c : Thread nD τ) arg2 fullShare Wt ∗ holds (c : Thread nD τ) arg3 fullShare X)

/-- The kernel leaves in its output the accumulator after every active expert's turn, rounded, and all else as it was. -/
theorem body_ev {A : S64x2816.Idx → Elt F .f32} {O : S64x2816.Idx → Elt F .bf16} (hid : ∀ n, (id n).toNat < 32) (hM : M = marked id L) :
    Ev (defs₀ (F := F)) Variants.none c none iprop(beside c arg13 arg8 arg1 arg2 arg3 I Wt X A O ∗ IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 L)
      (cc0_moe_int4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 : Prog (TpuEff nD τ sig (Elt F) Λ₀ .tc) PUnit) ⟨⟩
      iprop(beside c arg13 arg8 arg1 arg2 arg3 I Wt X (accs W I Wt X M (cnt M 32)) (k0_pay4 (accs W I Wt X M (cnt M 32))) ∗ IdleAll c ⟨arg4, arg5, arg6, arg7, arg9, arg10, arg11, arg12, arg14, arg15⟩ W 0 ∗ IdleAll c ⟨arg4, arg5, arg6, arg7, arg9, arg10, arg11, arg12, arg14, arg15⟩ W 1 ∗ IdleAll c ⟨arg4, arg5, arg6, arg7, arg9, arg10, arg11, arg12, arg14, arg15⟩ W 2 ∗ Ids c arg0 id ∗ Sm c arg14 (LL M 32)) := by
  have hm : Marks M := hM ▸ marked_marks id L
  have hT := tot_eq hm
  rw [cc0_moe_int4_eq_skeleton]
  unfold cc0_moe_int4_skel
  refine Ev.bind (ev_frameL _ (ev_frameL _ (ev_frameL _ (ev_frameL _ (ev_frameL _ (k0_part180_ev (L := L))))))) ?_
  refine Ev.bind (ev_frameL _ (ev_frameL _ (ev_frameL _ (ev_frameL _ (ev_frameL _ (k0_part181_ev (L := L))))))) ?_
  refine Ev.bind (ev_frameL _ (ev_frameL _ (ev_frameL _ (ev_frameL _ (ev_frameL _ (k0_part182_ev (L := L))))))) ?_
  refine Ev.bind (ev_frameL _ (ev_frameL _ (ev_frameL _ (ev_frameL _ (ev_frameL _ (k0_part183_ev (L := L))))))) ?_
  refine Ev.bind (ev_frameL _ (ev_frameL _ (ev_frameL _ (ev_frameL _ (k0_part184_ev (M := M) hid hM))))) ?_
  refine Ev.bind (ev_frameL _ (ev_frameL _ (ev_frameL _ (ev_frameL _ (k0_part185_ev hm))))) ?_
  refine Ev.bind (ev_frameL _ (ev_frameL _ (ev_frameL _ (ev_frameL _ (k0_part186_ev hm))))) ?_
  refine Ev.bind (ev_frameL _ (ev_frameL _ (ev_frameL _ (ev_frameL _ (k0_part187_ev hm))))) ?_
  refine Ev.bind (ev_frameL _ (k0_part188_ev (W := W) hm)) ?_
  refine Ev.conseq (E := iprop(holds (c : Thread nD τ) arg13 fullShare A ∗ holds (c : Thread nD τ) arg8 fullShare O ∗ Ids c arg0 id ∗ St c ⟨arg4, arg5, arg6, arg7, arg9, arg10, arg11, arg12, arg14, arg15⟩ W (act M) (cnt M 32) 0 ∗ St c ⟨arg4, arg5, arg6, arg7, arg9, arg10, arg11, arg12, arg14, arg15⟩ W (act M) (cnt M 32) 1 ∗ St c ⟨arg4, arg5, arg6, arg7, arg9, arg10, arg11, arg12, arg14, arg15⟩ W (act M) (cnt M 32) 2 ∗ Owes (c : Thread nD τ) ∗ Ins c arg14 arg1 arg2 arg3 (LL M 32) I Wt X))
    (E' := iprop(holds (c : Thread nD τ) arg8 fullShare (k0_pay4 (accs W I Wt X M (cnt M 32))) ∗ Ids c arg0 id ∗ (loopI c arg13 arg1 arg2 arg3 ⟨arg4, arg5, arg6, arg7, arg9, arg10, arg11, arg12, arg14, arg15⟩ W I Wt X M (cnt M 32) (cnt M 32)))) ?_ ?_ ?_
  · unfold beside Ins
    iintro ⟨⟨HA, HB, HO, H1, H2, H3⟩, S0, S1, S2, HI, HS⟩
    isplitl [HA]
    · iexact HA
    · isplitl [HB]
      · iexact HB
      · isplitl [HI]
        · iexact HI
        · isplitl [S0]
          · iexact S0
          · isplitl [S1]
            · iexact S1
            · isplitl [S2]
              · iexact S2
              · isplitl [HO]
                · iexact HO
                · isplitl [HS]
                  · iexact HS
                  · isplitl [H1]
                    · iexact H1
                    · isplitl [H2]
                      · iexact H2
                      · iexact H3
  rotate_left
  · have e : ∀ p, cnt M 32 ≤ p → St c ⟨arg4, arg5, arg6, arg7, arg9, arg10, arg11, arg12, arg14, arg15⟩ W (act M) (cnt M 32) p = IdleAll c ⟨arg4, arg5, arg6, arg7, arg9, arg10, arg11, arg12, arg14, arg15⟩ W (slotOf p) := fun p hp => if_neg (Nat.not_lt.2 hp)
    unfold loopI
    rw [e _ (Nat.le_refl _), e _ (Nat.le_add_right _ 1), e _ (Nat.le_add_right _ 2)]
    unfold beside Ins
    iintro ⟨HB, HI, HA, S0, S1, S2, HO, HS, H1, H2, H3⟩
    ihave S := idle3 (cnt M 32) $$ [S0 S1 S2]
    · isplitl [S0]
      · iexact S0
      · isplitl [S1]
        · iexact S1
        · iexact S2
    icases S with ⟨S0, S1, S2⟩
    isplitl [HA HB HO H1 H2 H3]
    · isplitl [HA]
      · iexact HA
      · isplitl [HB]
        · iexact HB
        · isplitl [HO]
          · iexact HO
          · isplitl [H1]
            · iexact H1
            · isplitl [H2]
              · iexact H2
              · iexact H3
    · isplitl [S0]
      · iexact S0
      · isplitl [S1]
        · iexact S1
        · isplitl [S2]
          · iexact S2
          · isplitl [HI]
            · iexact HI
            · iexact HS
  refine Ev.bind (ev_frameR _ load_whole) ?_
  refine Ev.bind (ev_frameR _ store_whole) ?_
  refine Ev.bind (a := ()) (E' := iprop(holds (c : Thread nD τ) arg8 fullShare O ∗ Ids c arg0 id ∗ (loopI c arg13 arg1 arg2 arg3 ⟨arg4, arg5, arg6, arg7, arg9, arg10, arg11, arg12, arg14, arg15⟩ W I Wt X M (cnt M 32) (cnt M 32)))) ?_ ?_
  · have h := ev_for (defs := defs₀ (F := F)) (𝒱 := Variants.none) (c := (c : Thread nD τ)) (bd := none) (hok := k0_t2_ok (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63) (chk43 hT))
      (body := k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63) (chk43 hT))
      (fun k => iprop(holds (c : Thread nD τ) arg8 fullShare O ∗ Ids c arg0 id ∗ (loopI c arg13 arg1 arg2 arg3 ⟨arg4, arg5, arg6, arg7, arg9, arg10, arg11, arg12, arg14, arg15⟩ W I Wt X M (cnt M 32) k))) (fun k => ev_frameL _ (ev_frameL _ (step_ev hm (chk43 hT) k)))
    have e : Scf.trips (k0_t2_loop (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63)).lb (k0_t2_loop (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63)).ub (k0_t2_loop (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63)).st = cnt M 32 := t2_trips hT
    rw [e] at h
    refine h.conseq ?_ .rfl
    unfold loopI
    iintro ⟨HA, HB, HI, HR⟩
    isplitl [HB]
    · iexact HB
    · isplitl [HI]
      · iexact HI
      · isplitl [HA]
        · iexact HA
        · iexact HR
  refine Ev.bind (a := ()) (E' := iprop(holds (c : Thread nD τ) arg8 fullShare O ∗ Ids c arg0 id ∗ (loopI c arg13 arg1 arg2 arg3 ⟨arg4, arg5, arg6, arg7, arg9, arg10, arg11, arg12, arg14, arg15⟩ W I Wt X M (cnt M 32) (cnt M 32)))) ?_ ?_
  · exact ev_for (defs := defs₀ (F := F)) (𝒱 := Variants.none) (c := (c : Thread nD τ)) (bd := none) (hok := k0_t3_ok (M 32) (M 33) (M 34) (M 35) (M 36) (M 37) (M 38) (M 39) (M 40) (M 41) (M 42) (M 43) (M 44) (M 45) (M 46) (M 47) (M 48) (M 49) (M 50) (M 51) (M 52) (M 53) (M 54) (M 55) (M 56) (M 57) (M 58) (M 59) (M 60) (M 61) (M 62) (M 63) (chk43 hT))
      (fun _ => iprop(holds (c : Thread nD τ) arg8 fullShare O ∗ Ids c arg0 id ∗ (loopI c arg13 arg1 arg2 arg3 ⟨arg4, arg5, arg6, arg7, arg9, arg10, arg11, arg12, arg14, arg15⟩ W I Wt X M (cnt M 32) (cnt M 32)))) (fun k => (t3_no hT k).elim)
  refine Ev.bind (E' := iprop(holds (c : Thread nD τ) arg8 fullShare O ∗ Ids c arg0 id ∗ (loopI c arg13 arg1 arg2 arg3 ⟨arg4, arg5, arg6, arg7, arg9, arg10, arg11, arg12, arg14, arg15⟩ W I Wt X M (cnt M 32) (cnt M 32)))) (ev_frameL _ (ev_frameL _ (ev_frameR _ load_whole))) ?_
  refine Ev.bind (ev_frameR _ load_whole) ?_
  refine Ev.bind (ev_frameR _ store_whole) ?_
  exact Ev.pure _

end Cert.Kernel.Moe

end
-- ==== Proof.Total.lean ====
/-
  The kernel's result as one fold: the accumulator taken through the turns of the experts some id names, in order.
-/
module

public import proofs.«01_k».proof.Proof.Body

@[expose] public section

set_option maxRecDepth 16384

noncomputable section

namespace Cert.Kernel.Moe

open Cert.Kernel Cert.Kernel.Gen Cert.Moe
open Idealize.ShloMosaic Idealize.ShloMosaic.TcCoe

variable {F : FTy → Type} [FloatOps F]

/-- The expert a word names. -/
def expertOf (e : BitVec 32) : Fin 32 := ⟨e.toNat % 32, Nat.mod_lt _ (by decide)⟩

open scoped Classical in
/-- The experts some id names, in order. -/
noncomputable def experts (id : ℕ → BitVec 32) : List ℕ := (List.range 32).filter (fun e => decide (∃ i < 512, (id i).toNat = e))

/-- The accumulator after the turn of the expert the word `e` names. -/
noncomputable def turnOf (W : Src F) (I : S64x8.Idx → Elt F .i32) (Wt : S64x8.Idx → Elt F .f32) (X : S64x2816.Idx → Elt F .bf16)
    (A : S64x2816.Idx → Elt F .f32) (e : BitVec 32) : S64x2816.Idx → Elt F .f32 := accT (inp W I Wt X e (expertOf e) A) 11

/-- The accumulator after the turns of all experts some id names. -/
noncomputable def total (W : Src F) (I : S64x8.Idx → Elt F .i32) (Wt : S64x8.Idx → Elt F .f32) (X : S64x2816.Idx → Elt F .bf16)
    (id : ℕ → BitVec 32) : S64x2816.Idx → Elt F .f32 := ((experts id).map (BitVec.ofNat 32)).foldl (turnOf W I Wt X) (k0_pay1 k0_pay551)

/-- The accumulator after `k` turns is a fold over the list's first `k` entries. -/
theorem accs_fold (W : Src F) (I : S64x8.Idx → Elt F .i32) (Wt : S64x8.Idx → Elt F .f32) (X : S64x2816.Idx → Elt F .bf16)
    (M : ℕ → BitVec 32) : ∀ k, accs W I Wt X M k = ((List.range k).map (LL M 32)).foldl (turnOf W I Wt X) (k0_pay1 k0_pay551)
  | 0 => rfl
  | k + 1 => by
    rw [List.range_succ, List.map_append, List.foldl_append, ← accs_fold W I Wt X M k]
    rfl

/-- What the list in scalar memory held before does not matter. -/
theorem accs_total (W : Src F) (I : S64x8.Idx → Elt F .i32) (Wt : S64x8.Idx → Elt F .f32) (X : S64x2816.Idx → Elt F .bf16)
    (id L : ℕ → BitVec 32) : accs W I Wt X (marked id L) (cnt (marked id L) 32) = total W I Wt X id := by
  rw [accs_fold, list_eq (marked_marks id L) 32 (Nat.le_refl _)]
  unfold total experts
  congr 2
  refine List.filter_congr fun e he => ?_
  rw [marked_eq id L (List.mem_range.mp he)]
  by_cases h : ∃ i < 512, (id i).toNat = e
  · simp [h]
  · simp [h]

end Cert.Kernel.Moe

end
-- ==== Proof.Split.lean ====
/-
  Parts of an array: three blocks of a buffer free of contents, and three read shares of an array, each with the way back.
-/
module

public import proofs.«01_k».proof.Proof.Copy
public import Idealize.ShloMosaic.Lib.Ring

@[expose] public section

noncomputable section

namespace Cert.Moe

open Idealize.ShloMosaic Idealize.ShloMosaic.Transfers
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Rounds Idealize.ShloMosaic.Pipeline

variable {nD : Nat} {τ : Topo} {sig : RefSig} {Val : EltTy → Type} {c : Thread nD τ}
variable {sp sp' : Space} {s s' s'' : Shape} {e : EltTy}

local notation "𝕄" => MT nD τ sig Unit Val ℕ (UU sig nD τ) ℕ

/-- A memref held at some tensor is its elements held at some contents. -/
theorem some_holds (m : Memref sig c.2.kind sp s e) (q : PosShare TreeShare) :
    (iprop(∃ T, holds c m q T) : sProp 𝕄) ⊣⊢ iprop(∃ f, (m.view.loc c ↦[m.view.set]{q} f)) := by
  unfold holds
  constructor
  · iintro ⟨%T, %f, -, H⟩
    iexists f
    iexact H
  · iintro ⟨%f, H⟩
    iexists (m.view.read Val f)
    iexists f
    isplitr
    · ipureintro; rfl
    · iexact H

/-- Three parts and a rest, each part in two forms, with the way back. -/
theorem three {A B P0 P1 P2 Q0 Q1 Q2 R : sProp (MT nD τ sig Unit Val ℕ (UU sig nD τ) ℕ)} (hS : A ⊢ iprop((Q0 ∗ Q1 ∗ Q2) ∗ R))
    (hJ : iprop((Q0 ∗ Q1 ∗ Q2) ∗ R) ⊢ B) (c0 : P0 ⊣⊢ Q0) (c1 : P1 ⊣⊢ Q1) (c2 : P2 ⊣⊢ Q2) :
    A ⊢ iprop(P0 ∗ P1 ∗ P2 ∗ (P0 -∗ P1 -∗ P2 -∗ B)) := by
  refine hS.trans ?_
  iintro ⟨⟨H0, H1, H2⟩, HR⟩
  isplitl [H0]
  · iapply c0.2
    iexact H0
  isplitl [H1]
  · iapply c1.2
    iexact H1
  isplitl [H2]
  · iapply c2.2
    iexact H2
  iintro H0 H1 H2
  iapply hJ
  isplitr [HR]
  · isplitl [H0]
    · iapply c0.1
      iexact H0
    isplitl [H1]
    · iapply c1.1
      iexact H1
    · iapply c2.1
      iexact H2
  · iexact HR

/-- A block of a memref. -/
abbrev block (m : Memref sig c.2.kind sp s e) (r : Rect s) (hr : ∀ a, r.stride a = 1) (h : r.shape.Squeezes s') : Memref sig c.2.kind sp s' e :=
  (m.slice r hr).squeeze s' h

/-- A whole buffer at some contents gives three disjoint blocks of it, and takes them back at whatever they then hold. -/
theorem split3 (m : Memref sig c.2.kind sp s e) (r : Fin 3 → Rect s) (hr : ∀ k a, (r k).stride a = 1)
    (h : ∀ k, (r k).shape.Squeezes s') (hd : ∀ k k', k ≠ k' → Disjoint (r k).set (r k').set) :
    (iprop(∃ f, (m.view.loc c ↦{fullShare} f)) : sProp 𝕄)
      ⊢ iprop((∃ T, holds c (block m (r 0) (hr 0) (h 0)) fullShare T) ∗ (∃ T, holds c (block m (r 1) (hr 1) (h 1)) fullShare T)
        ∗ (∃ T, holds c (block m (r 2) (hr 2) (h 2)) fullShare T)
        ∗ ((∃ T, holds c (block m (r 0) (hr 0) (h 0)) fullShare T) -∗ (∃ T, holds c (block m (r 1) (hr 1) (h 1)) fullShare T)
          -∗ (∃ T, holds c (block m (r 2) (hr 2) (h 2)) fullShare T) -∗ ∃ f, (m.view.loc c ↦{fullShare} f))) := by
  have hs : ∀ k, (block m (r k) (hr k) (h k)).view.set = (r k).set.map m.view.emb := fun k => by
    show ((m.view.slice (r k)).reshape s' (h k).numel_eq).set = _
    rw [View.set_reshape, View.set_slice]
  have hd' : ∀ k k' : Fin 3, k ≠ k' → Disjoint ((r k).set.map m.view.emb) ((r k').set.map m.view.emb) := fun k k' hk =>
    (Finset.disjoint_map _).2 (hd k k' hk)
  have hS := Ring.slots3_split_spare (Val := Val) (ℓ := m.view.loc c) (q := fullShare) (Ix := Unit) (Name := ℕ) (U := UU sig nD τ) (Lvl := ℕ)
    (fun k => (r k).set.map m.view.emb) hd' _ _ _ (fun _ => rfl) (fun _ => rfl) (fun _ => rfl)
  have hJ := Ring.slots3_join_spare (Val := Val) (ℓ := m.view.loc c) (q := fullShare) (Ix := Unit) (Name := ℕ) (U := UU sig nD τ) (Lvl := ℕ)
    (fun k => (r k).set.map m.view.emb) hd' _ _ _ (fun _ => rfl) (fun _ => rfl) (fun _ => rfl)
  have e : ∀ k, (iprop(∃ T, holds c (block m (r k) (hr k) (h k)) fullShare T) : sProp 𝕄) ⊣⊢ iprop(∃ f, (m.view.loc c ↦[(r k).set.map m.view.emb]{fullShare} f)) := fun k => by
    have := some_holds (Val := Val) (c := c) (block m (r k) (hr k) (h k)) fullShare
    rw [hs k] at this
    exact this
  exact three hS hJ (e 0) (e 1) (e 2)

/-- What is held at `T` is, for any contents `f` that read as `T`, the elements at `f`. -/
theorem holds_at (m : Memref sig c.2.kind sp s e) (q : PosShare TreeShare) (f : Buf Val (m.view.loc c)) :
    (holds c m q (m.view.read Val f) : sProp 𝕄) ⊣⊢ iprop((m.view.loc c ↦[m.view.set]{q} f)) := by
  unfold holds
  constructor
  · iintro ⟨%g, %hg, H⟩
    have hfg : ∀ i ∈ m.view.set, g i = f i := by
      intro i hi
      obtain ⟨x, -, rfl⟩ := Finset.mem_map.mp hi
      have h3 := congrFun hg x
      rw [View.read_apply, View.read_apply] at h3
      exact (cast_bijective _).1 h3
    ihave H2 := (show (iprop((m.view.loc c ↦[m.view.set]{q} g)) : sProp 𝕄) ⊢ iprop((m.view.loc c ↦[m.view.set]{q} f)) by rw [pointsTo_congr (ℓ := m.view.loc c) hfg]) $$ H
    iexact H2
  · iintro H
    iexists f
    isplitr
    · ipureintro; rfl
    · iexact H

/-- An array held whole gives three read shares of it, and takes them back. -/
theorem share3 (m : Memref sig c.2.kind sp s e) (hm : m.view.set = Finset.univ) (f : Buf Val (m.view.loc c)) :
    (iprop((m.view.loc c ↦{fullShare} f)) : sProp 𝕄)
      ⊢ iprop(holds c m (shareTok fullShare 3 0) (m.view.read Val f) ∗ holds c m (shareTok fullShare 3 1) (m.view.read Val f)
        ∗ holds c m (shareTok fullShare 3 2) (m.view.read Val f)
        ∗ (holds c m (shareTok fullShare 3 0) (m.view.read Val f) -∗ holds c m (shareTok fullShare 3 1) (m.view.read Val f)
          -∗ holds c m (shareTok fullShare 3 2) (m.view.read Val f) -∗ (m.view.loc c ↦{fullShare} f))) := by
  have hS := pointsTo_toks_split (Val := Val) (Ix := Unit) (Name := ℕ) (U := UU sig nD τ) (Lvl := ℕ) (ℓ := m.view.loc c) (S := m.view.set) (f := f) fullShare 3
  have hJ := pointsTo_toks_join (Val := Val) (Ix := Unit) (Name := ℕ) (U := UU sig nD τ) (Lvl := ℕ) (ℓ := m.view.loc c) (S := m.view.set) (f := f) fullShare 3
  rw [Ring.bigSep_fin3] at hS hJ
  rw [← hm]
  exact three (hS.trans BI.sep_comm) (Entails.trans BI.sep_comm hJ) (holds_at _ _ _) (holds_at _ _ _) (holds_at _ _ _)

/-- A whole memref held at what `f` reads as is its elements at `f`. -/
theorem holds_whole (m : Memref sig c.2.kind sp s e) (hm : m.view.set = Finset.univ) (q : PosShare TreeShare) (f : Buf Val (m.view.loc c)) :
    (holds c m q (m.view.read Val f) : sProp 𝕄) ⊣⊢ iprop((m.view.loc c ↦{q} f)) := by
  have h := holds_at (c := c) m q f
  rw [hm] at h
  exact h

/-- What one array's copies into the three slots of a buffer need: the buffer, the array, three semaphores at zero. -/
def Parts (c : Thread nD τ) (m : Memref sig c.2.kind sp s e) (mb : Memref sig c.2.kind sp' s'' e) (sem : Fin 3 → DmaSem sig)
    (f : Buf Val (mb.view.loc c)) : sProp 𝕄 :=
  iprop((∃ g, (m.view.loc c ↦{fullShare} g)) ∗ (mb.view.loc c ↦{fullShare} f) ∗ semVal (c, .dma (sem 0)) 0 ∗ semVal (c, .dma (sem 1)) 0
    ∗ semVal (c, .dma (sem 2)) 0)

/-- One array's copies into the three slots of a buffer, none under way: from those parts, and back. -/
theorem idle_split (m : Memref sig c.2.kind sp s e) (r : Fin 3 → Rect s) (hr : ∀ k a, (r k).stride a = 1)
    (h : ∀ k, (r k).shape.Squeezes s') (hd : ∀ k k', k ≠ k' → Disjoint (r k).set (r k').set)
    (mb : Memref sig c.2.kind sp' s'' e) (hm : mb.view.set = Finset.univ) (sem : Fin 3 → DmaSem sig) (f : Buf Val (mb.view.loc c)) :
    (Parts c m mb sem f : sProp 𝕄)
      ⊢ iprop(Idle c (sem 0) (block m (r 0) (hr 0) (h 0)) mb (shareTok fullShare 3 0) (mb.view.read Val f)
        ∗ Idle c (sem 1) (block m (r 1) (hr 1) (h 1)) mb (shareTok fullShare 3 1) (mb.view.read Val f)
        ∗ Idle c (sem 2) (block m (r 2) (hr 2) (h 2)) mb (shareTok fullShare 3 2) (mb.view.read Val f)
        ∗ (Idle c (sem 0) (block m (r 0) (hr 0) (h 0)) mb (shareTok fullShare 3 0) (mb.view.read Val f)
          -∗ Idle c (sem 1) (block m (r 1) (hr 1) (h 1)) mb (shareTok fullShare 3 1) (mb.view.read Val f)
          -∗ Idle c (sem 2) (block m (r 2) (hr 2) (h 2)) mb (shareTok fullShare 3 2) (mb.view.read Val f)
          -∗ Parts c m mb sem f)) := by
  unfold Parts Idle
  iintro ⟨HB, HM, S0, S1, S2⟩
  ihave ⟨B0, B1, B2, HB⟩ := (split3 m r hr h hd) $$ HB
  ihave ⟨M0, M1, M2, HM⟩ := (share3 mb hm f) $$ HM
  isplitl [B0 S0 M0]
  · isplitl [B0]
    · iexact B0
    isplitl [S0]
    · iexact S0
    · iexact M0
  isplitl [B1 S1 M1]
  · isplitl [B1]
    · iexact B1
    isplitl [S1]
    · iexact S1
    · iexact M1
  isplitl [B2 S2 M2]
  · isplitl [B2]
    · iexact B2
    isplitl [S2]
    · iexact S2
    · iexact M2
  iintro ⟨B0, S0, M0⟩ ⟨B1, S1, M1⟩ ⟨B2, S2, M2⟩
  isplitl [HB B0 B1 B2]
  · iapply HB $$ B0 B1 B2
  isplitl [HM M0 M1 M2]
  · iapply HM $$ M0 M1 M2
  isplitl [S0]
  · iexact S0
  isplitl [S1]
  · iexact S1
  · iexact S2

end Cert.Moe

end
-- ==== Proof.Run.lean ====
/-
  The kernel's run: from what the launch gives, through the body, to what it leaves.
-/
module

public import proofs.«01_k».proof.Proof.Total
public import proofs.«01_k».proof.Proof.Split
public import proofs.«01_k».proof.Proof.Gen.Kernel.Frame

@[expose] public section

set_option maxRecDepth 16384
set_option pp.deepTerms false
set_option pp.maxSteps 200

noncomputable section

namespace Cert.Kernel.Moe

open Cert.Kernel Cert.Kernel.Gen Cert.Moe
open Idealize.ShloMosaic Idealize.ShloMosaic.TcCoe Idealize.ShloMosaic.Transfers
open Idealize.SL Idealize.SL.RA
open Idealize.SL.BI (sProp)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU sig nD τ) ℕ

/-! ## The parts of the launch's buffers -/

/-- Two boxes apart along one axis are disjoint. -/
theorem apart {s : Shape} (a : Fin s.rank) {o o' z z' : Fin s.rank → ℕ} {h h'} (hd : o a + z a ≤ o' a ∨ o' a + z' a ≤ o a) :
    Disjoint (Rect.unit (s := s) o z h).set (Rect.unit (s := s) o' z' h').set := by
  refine Finset.disjoint_left.2 fun i hi hi' => ?_
  have h1 := Rect.mem_set_unit.1 hi a
  have h2 := Rect.mem_set_unit.1 hi' a
  omega

/-- Two different slots lie apart. -/
theorem fin3_ne {k k' : Fin 3} (h : k ≠ k') : k.val + 1 ≤ k'.val ∨ k'.val + 1 ≤ k.val := by
  have := fun e => h (Fin.ext e)
  omega

/-- The kernel's memory operands. -/
abbrev mems : Mem := ⟨Memref.whole main_arg3, Memref.whole main_arg4, Memref.whole main_arg5, Memref.whole main_arg6,
  Memref.whole cc0_scratch0, Memref.whole cc0_scratch1, Memref.whole cc0_scratch2, Memref.whole cc0_scratch3, Memref.whole cc0_scratch5, cc0_scratch6⟩

/-- The buffers, arrays and semaphores of all four copies. -/
def AllParts (c : Dev nD) (W : Src F) : sProp 𝕄 :=
  iprop(Parts (c : Thread nD τ) (Memref.whole cc0_scratch0) (Memref.whole main_arg3) (semAt cc0_scratch6 0) W.G
    ∗ Parts (c : Thread nD τ) (Memref.whole cc0_scratch1) (Memref.whole main_arg4) (semAt cc0_scratch6 1) W.SG
    ∗ Parts (c : Thread nD τ) (Memref.whole cc0_scratch2) (Memref.whole main_arg5) (semAt cc0_scratch6 2) W.D
    ∗ Parts (c : Thread nD τ) (Memref.whole cc0_scratch3) (Memref.whole main_arg6) (semAt cc0_scratch6 3) W.SD)

/-- The scratch and its semaphores are three idle slots. -/
theorem rings (c : Dev nD) (W : Src F) : AllParts c W
    ⊢ iprop(IdleAll c mems W 0 ∗ IdleAll c mems W 1 ∗ IdleAll c mems W 2
      ∗ (IdleAll c mems W 0 -∗ IdleAll c mems W 1 -∗ IdleAll c mems W 2 -∗ AllParts c W)) := by
  have h9 : Parts (c : Thread nD τ) (Memref.whole cc0_scratch0) (Memref.whole main_arg3) (semAt cc0_scratch6 0) W.G ⊢ (iprop(Idle (c : Thread nD τ) (semAt mems.m15 0 0) (slot9 mems.m9 0) mems.m4 (qs 0) W.G ∗ Idle (c : Thread nD τ) (semAt mems.m15 0 1) (slot9 mems.m9 1) mems.m4 (qs 1) W.G ∗ Idle (c : Thread nD τ) (semAt mems.m15 0 2) (slot9 mems.m9 2) mems.m4 (qs 2) W.G
      ∗ (Idle (c : Thread nD τ) (semAt mems.m15 0 0) (slot9 mems.m9 0) mems.m4 (qs 0) W.G -∗ Idle (c : Thread nD τ) (semAt mems.m15 0 1) (slot9 mems.m9 1) mems.m4 (qs 1) W.G -∗ Idle (c : Thread nD τ) (semAt mems.m15 0 2) (slot9 mems.m9 2) mems.m4 (qs 2) W.G -∗ Parts (c : Thread nD τ) (Memref.whole cc0_scratch0) (Memref.whole main_arg3) (semAt cc0_scratch6 0) W.G)) : sProp 𝕄) := idle_split (Val := Elt F) (c := (c : Thread nD τ)) (Memref.whole cc0_scratch0)
    (fun k : Fin 3 => Rect.unit (s := S3x1408x1536) ![k.val, 0, 0] S1x1408x1536.size (inb9 k)) (fun _ _ => rfl) (fun _ => squeezes_S1x1408x1536_S1408x1536)
    (fun k k' hk => apart (s := S3x1408x1536) 0 (fin3_ne hk)) (Memref.whole main_arg3) (Memref.isWhole_whole _).set_eq_univ (semAt cc0_scratch6 0) W.G
  have h10 : Parts (c : Thread nD τ) (Memref.whole cc0_scratch1) (Memref.whole main_arg4) (semAt cc0_scratch6 1) W.SG ⊢ (iprop(Idle (c : Thread nD τ) (semAt mems.m15 1 0) (slot10 mems.m10 0) mems.m5 (qs 0) W.SG ∗ Idle (c : Thread nD τ) (semAt mems.m15 1 1) (slot10 mems.m10 1) mems.m5 (qs 1) W.SG ∗ Idle (c : Thread nD τ) (semAt mems.m15 1 2) (slot10 mems.m10 2) mems.m5 (qs 2) W.SG
      ∗ (Idle (c : Thread nD τ) (semAt mems.m15 1 0) (slot10 mems.m10 0) mems.m5 (qs 0) W.SG -∗ Idle (c : Thread nD τ) (semAt mems.m15 1 1) (slot10 mems.m10 1) mems.m5 (qs 1) W.SG -∗ Idle (c : Thread nD τ) (semAt mems.m15 1 2) (slot10 mems.m10 2) mems.m5 (qs 2) W.SG -∗ Parts (c : Thread nD τ) (Memref.whole cc0_scratch1) (Memref.whole main_arg4) (semAt cc0_scratch6 1) W.SG)) : sProp 𝕄) := idle_split (Val := Elt F) (c := (c : Thread nD τ)) (Memref.whole cc0_scratch1)
    (fun k : Fin 3 => Rect.unit (s := S3x22x1536) ![k.val, 0, 0] S1x22x1536.size (inb10 k)) (fun _ _ => rfl) (fun _ => squeezes_S1x22x1536_S22x1536)
    (fun k k' hk => apart (s := S3x22x1536) 0 (fin3_ne hk)) (Memref.whole main_arg4) (Memref.isWhole_whole _).set_eq_univ (semAt cc0_scratch6 1) W.SG
  have h11 : Parts (c : Thread nD τ) (Memref.whole cc0_scratch2) (Memref.whole main_arg5) (semAt cc0_scratch6 2) W.D ⊢ (iprop(Idle (c : Thread nD τ) (semAt mems.m15 2 0) (slot11 mems.m11 0) mems.m6 (qs 0) W.D ∗ Idle (c : Thread nD τ) (semAt mems.m15 2 1) (slot11 mems.m11 1) mems.m6 (qs 1) W.D ∗ Idle (c : Thread nD τ) (semAt mems.m15 2 2) (slot11 mems.m11 2) mems.m6 (qs 2) W.D
      ∗ (Idle (c : Thread nD τ) (semAt mems.m15 2 0) (slot11 mems.m11 0) mems.m6 (qs 0) W.D -∗ Idle (c : Thread nD τ) (semAt mems.m15 2 1) (slot11 mems.m11 1) mems.m6 (qs 1) W.D -∗ Idle (c : Thread nD τ) (semAt mems.m15 2 2) (slot11 mems.m11 2) mems.m6 (qs 2) W.D -∗ Parts (c : Thread nD τ) (Memref.whole cc0_scratch2) (Memref.whole main_arg5) (semAt cc0_scratch6 2) W.D)) : sProp 𝕄) := idle_split (Val := Elt F) (c := (c : Thread nD τ)) (Memref.whole cc0_scratch2)
    (fun k : Fin 3 => Rect.unit (s := S3x384x2816) ![k.val, 0, 0] S1x384x2816.size (inb11 k)) (fun _ _ => rfl) (fun _ => squeezes_S1x384x2816_S384x2816)
    (fun k k' hk => apart (s := S3x384x2816) 0 (fin3_ne hk)) (Memref.whole main_arg5) (Memref.isWhole_whole _).set_eq_univ (semAt cc0_scratch6 2) W.D
  have h12 : Parts (c : Thread nD τ) (Memref.whole cc0_scratch3) (Memref.whole main_arg6) (semAt cc0_scratch6 3) W.SD ⊢ (iprop(Idle (c : Thread nD τ) (semAt mems.m15 3 0) (slot12 mems.m12 0) mems.m7 (qs 0) W.SD ∗ Idle (c : Thread nD τ) (semAt mems.m15 3 1) (slot12 mems.m12 1) mems.m7 (qs 1) W.SD ∗ Idle (c : Thread nD τ) (semAt mems.m15 3 2) (slot12 mems.m12 2) mems.m7 (qs 2) W.SD
      ∗ (Idle (c : Thread nD τ) (semAt mems.m15 3 0) (slot12 mems.m12 0) mems.m7 (qs 0) W.SD -∗ Idle (c : Thread nD τ) (semAt mems.m15 3 1) (slot12 mems.m12 1) mems.m7 (qs 1) W.SD -∗ Idle (c : Thread nD τ) (semAt mems.m15 3 2) (slot12 mems.m12 2) mems.m7 (qs 2) W.SD -∗ Parts (c : Thread nD τ) (Memref.whole cc0_scratch3) (Memref.whole main_arg6) (semAt cc0_scratch6 3) W.SD)) : sProp 𝕄) := idle_split (Val := Elt F) (c := (c : Thread nD τ)) (Memref.whole cc0_scratch3)
    (fun k : Fin 3 => Rect.unit (s := S3x6x2816) ![k.val, 0, 0] S1x6x2816.size (inb12 k)) (fun _ _ => rfl) (fun _ => squeezes_S1x6x2816_S6x2816)
    (fun k k' hk => apart (s := S3x6x2816) 0 (fin3_ne hk)) (Memref.whole main_arg6) (Memref.isWhole_whole _).set_eq_univ (semAt cc0_scratch6 3) W.SD
  unfold AllParts IdleAll
  iintro ⟨A, B, C, D⟩
  ihave ⟨A0, A1, A2, A⟩ := h9 $$ A
  ihave ⟨B0, B1, B2, B⟩ := h10 $$ B
  ihave ⟨C0, C1, C2, C⟩ := h11 $$ C
  ihave ⟨D0, D1, D2, D⟩ := h12 $$ D
  isplitl [A0 B0 C0 D0]
  · isplitl [A0]
    · iexact A0
    isplitl [B0]
    · iexact B0
    isplitl [C0]
    · iexact C0
    · iexact D0
  isplitl [A1 B1 C1 D1]
  · isplitl [A1]
    · iexact A1
    isplitl [B1]
    · iexact B1
    isplitl [C1]
    · iexact C1
    · iexact D1
  isplitl [A2 B2 C2 D2]
  · isplitl [A2]
    · iexact A2
    isplitl [B2]
    · iexact B2
    isplitl [C2]
    · iexact C2
    · iexact D2
  iintro ⟨A0, B0, C0, D0⟩ ⟨A1, B1, C1, D1⟩ ⟨A2, B2, C2, D2⟩
  isplitl [A A0 A1 A2]
  · iapply A $$ A0 A1 A2
  isplitl [B B0 B1 B2]
  · iapply B $$ B0 B1 B2
  isplitl [C C0 C1 C2]
  · iapply C $$ C0 C1 C2
  · iapply D $$ D0 D1 D2

/-! ## The kernel's own semaphores -/

/-- The twelve copies' semaphores. -/
abbrev osem : Fin 4 × Fin 3 → SemLoc sig := fun p => .dma (semAt cc0_scratch6 p.1 p.2)

/-- The semaphores are the kernel's own. -/
theorem ownSemFacts : Pipeline.OwnSemFacts spec0 osem := by decide

/-- The kernel's semaphores, one by one, each at zero. -/
theorem ownSems0_eq (c : Dev nD) : (Pipeline.ownSems0 (Ix := Unit) (Name := ℕ) (U := UU sig nD τ) (Lvl := ℕ) (Val := Elt F) (τ := τ) osem c : sProp 𝕄)
    = iprop(semVal ((c.tc : Thread nD τ), osem (0, 0)) 0 ∗ semVal ((c.tc : Thread nD τ), osem (0, 1)) 0 ∗ semVal ((c.tc : Thread nD τ), osem (0, 2)) 0 ∗ semVal ((c.tc : Thread nD τ), osem (1, 0)) 0 ∗ semVal ((c.tc : Thread nD τ), osem (1, 1)) 0 ∗ semVal ((c.tc : Thread nD τ), osem (1, 2)) 0 ∗ semVal ((c.tc : Thread nD τ), osem (2, 0)) 0 ∗ semVal ((c.tc : Thread nD τ), osem (2, 1)) 0 ∗ semVal ((c.tc : Thread nD τ), osem (2, 2)) 0 ∗ semVal ((c.tc : Thread nD τ), osem (3, 0)) 0 ∗ semVal ((c.tc : Thread nD τ), osem (3, 1)) 0 ∗ semVal ((c.tc : Thread nD τ), osem (3, 2)) 0) :=
  Pipeline.ownSems0_eq_of_list c osem [(0, 0), (0, 1), (0, 2), (1, 0), (1, 1), (1, 2), (2, 0), (2, 1), (2, 2), (3, 0), (3, 1), (3, 2)] (by decide) (by decide)

/-! ## The proof data -/

variable (m : (ℓ : Loc nD τ sig) → Buf (Elt F) ℓ) (ρ : Dev nD → PrngReg)

/-- The index of a token's slot. -/
def at2 (a : Fin 64) (b : Fin 8) : S64x8.Idx := fun k => match k with
  | 0 => a
  | 1 => b

/-- The ids as launched, row by row. -/
def idsOf (T : S64x8.Idx → Elt F .i32) (n : ℕ) : BitVec 32 := T (at2 ⟨n / 8 % 64, Nat.mod_lt _ (by decide)⟩ ⟨n % 8, Nat.mod_lt _ (by decide)⟩)

/-- The ids read back by their position. -/
theorem idsOf_at (T : S64x8.Idx → Elt F .i32) : (fun i : S64x8.Idx => (idsOf T (8 * (i 0).val + (i 1).val) : Elt F .i32)) = T := by
  funext i
  unfold idsOf
  congr 1
  funext k
  have h0 : (i 0).val < 64 := (i 0).isLt
  have h1 : (i 1).val < 8 := (i 1).isLt
  match k with
  | 0 => exact Fin.ext (show (8 * (i 0).val + (i 1).val) / 8 % 64 = (i 0).val by omega)
  | 1 => exact Fin.ext (show (8 * (i 0).val + (i 1).val) % 8 = (i 1).val by omega)

/-- The weight arrays as launched. -/
def srcs (c : Dev nD) : Src F := ⟨V m c main_arg3, V m c main_arg4, V m c main_arg5, V m c main_arg6⟩

/-- The kernel's result. -/
def result (c : Dev nD) : S64x2816.Idx → Elt F .bf16 :=
  k0_pay4 (total (srcs m c) (iblk m c 1 t0_0) (iblk m c 2 t0_0) (iblk m c 3 t0_0) (idsOf (iblk m c 0 t0_0)))

/-- The arrays the kernel copies from. -/
abbrev HH : Finset (Ref sig .tc) := {main_arg3, main_arg4, main_arg5, main_arg6}

/-- What the kernel keeps beside its operands. -/
abbrev Φc (c : Dev nD) : sProp 𝕄 := Pipeline.ΦD osem spec0 HH (V m) c

/-- What the kernel's operands hold before and after. -/
def dats (_ : Fin 1) (c : Dev nD) : Dat τ (Elt F) Unit ℕ (UU sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m c
  Φ _ := Φc m c
  q w := Pipeline.shareOf spec0 w
  owed _ := 0

/-- Before the body, operand 0 holds its block. -/
theorem before_0 (c : Dev nD) (d) : (dats m 0 c).before 0 t0_0 d = iblk m c 0 t0_0 :=
  ((dats m 0 c).before_in_eq_fetched 0 rfl (fun _ => rfl) (fun _ _ _ => rfl) (fun t => by unfold Dat.blockOf; rfl) t0_0 d).trans
    (by unfold Dat.fetched Dat.blockOf; rfl)

/-- Before the body, operand 1 holds its block. -/
theorem before_1 (c : Dev nD) (d) : (dats m 0 c).before 1 t0_0 d = iblk m c 1 t0_0 :=
  ((dats m 0 c).before_in_eq_fetched 1 rfl (fun _ => rfl) (fun _ _ _ => rfl) (fun t => by unfold Dat.blockOf; rfl) t0_0 d).trans
    (by unfold Dat.fetched Dat.blockOf; rfl)

/-- Before the body, operand 2 holds its block. -/
theorem before_2 (c : Dev nD) (d) : (dats m 0 c).before 2 t0_0 d = iblk m c 2 t0_0 :=
  ((dats m 0 c).before_in_eq_fetched 2 rfl (fun _ => rfl) (fun _ _ _ => rfl) (fun t => by unfold Dat.blockOf; rfl) t0_0 d).trans
    (by unfold Dat.fetched Dat.blockOf; rfl)

/-- Before the body, operand 3 holds its block. -/
theorem before_3 (c : Dev nD) (d) : (dats m 0 c).before 3 t0_0 d = iblk m c 3 t0_0 :=
  ((dats m 0 c).before_in_eq_fetched 3 rfl (fun _ => rfl) (fun _ _ _ => rfl) (fun t => by unfold Dat.blockOf; rfl) t0_0 d).trans
    (by unfold Dat.fetched Dat.blockOf; rfl)

/-- A triple as a rule of the proof mode. -/
theorem use_ev {A A' Q : sProp 𝕄} {c : Dev nD} {p : Prog (TpuEff nD τ sig (Elt F) Λ₀ .tc) PUnit} (h : Ev (defs₀ (F := F)) Variants.none (c : Thread nD τ) none A p ⟨⟩ A') :
    iprop(A ∗ (A' -∗ Q)) ⊢ wp frame (wpE (defs₀ (F := F)) Variants.none (c : Thread nD τ) none) Set.univ p (fun _ => Q) := by
  have h1 := Ev.on (E' := Q) h Entails.rfl
  unfold Ev at h1
  refine h1.trans (wp_mono _ _ _ fun v => ?_)
  iintro ⟨-, H⟩
  iexact H

/-- The arrays the kernel copies from, one by one. -/
theorem HH_eq (Φ : Ref sig .tc → sProp 𝕄) : BI.bigSep HH Φ = iprop(Φ main_arg3 ∗ Φ main_arg4 ∗ Φ main_arg5 ∗ Φ main_arg6) :=
  BI.bigSep_eq_bigSepL_of_eq [main_arg3, main_arg4, main_arg5, main_arg6] (by decide) (by decide) Φ

/-- The index of a word. -/
def at1 (a : Fin 65) : S65.Idx := fun k => match k with
  | 0 => a

/-- The words of the list's buffer. -/
def wordsOf (T : S65.Idx → Elt F .i32) (n : ℕ) : BitVec 32 := T (at1 ⟨n % 65, Nat.mod_lt _ (by decide)⟩)

/-- The words read back by their position. -/
theorem wordsOf_at (T : S65.Idx → Elt F .i32) : (fun i : S65.Idx => (wordsOf T (i 0).val : Elt F .i32)) = T := by
  funext i
  unfold wordsOf
  congr 1
  funext k
  have h0 : (i 0).val < 65 := (i 0).isLt
  match k with
  | 0 => exact Fin.ext (show (i 0).val % 65 = (i 0).val by omega)

/-- Scalar memory as the list's words. -/
theorem sm_of (c : Dev nD) (f : S65.Idx → Elt F .i32) :
    (iprop(((c : Thread nD τ).loc cc0_scratch5) ↦{fullShare} f) : sProp 𝕄) ⊢ Sm c (Memref.whole cc0_scratch5) (wordsOf f) := by
  unfold Sm
  rw [wordsOf_at]
  exact (holds_whole (Val := Elt F) (c := (c : Thread nD τ)) (Memref.whole cc0_scratch5) (Memref.isWhole_whole _).set_eq_univ fullShare f).2

/-- The list's words as scalar memory. -/
theorem of_sm (c : Dev nD) (L : ℕ → BitVec 32) :
    (Sm c (Memref.whole cc0_scratch5) L : sProp 𝕄) ⊢ iprop(∃ f, ((c : Thread nD τ).loc cc0_scratch5) ↦{fullShare} f) := by
  refine (holds_whole (Val := Elt F) (c := (c : Thread nD τ)) (Memref.whole cc0_scratch5) (Memref.isWhole_whole _).set_eq_univ fullShare (fun i : S65.Idx => (L (i 0).val : Elt F .i32))).1.trans ?_
  iintro H
  iexists _
  iexact H

/-- The accumulator's scratch as what it holds. -/
theorem acc_of (c : Dev nD) (f : S64x2816.Idx → Elt F .f32) :
    (iprop(((c : Thread nD τ).loc cc0_scratch4) ↦{fullShare} f) : sProp 𝕄) ⊣⊢ holds (c : Thread nD τ) (Memref.whole cc0_scratch4) fullShare f :=
  have h := holds_whole (c := (c : Thread nD τ)) (Memref.whole cc0_scratch4) (Memref.isWhole_whole _).set_eq_univ fullShare f
  ⟨h.2, h.1⟩

variable (hid : ∀ c i, ((iblk m c 0 t0_0 : S64x8.Idx → BitVec 32) i).toNat < 32)

include hid in
set_option maxHeartbeats 1000000 in
/-- The body, at the region's one point. -/
theorem body_obligation (c : Dev nD) : BodyObligation (dats m 0 c) (defs₀ (F := F)) Variants.none () Set.univ := fun t => by
  obtain rfl := fin_N0 t
  rw [bigSep_W0, bigSep_W0]
  rw [show (dats m 0 c).Φ t0_0.castSucc = Φc m c from rfl, show (dats m 0 c).Φ t0_0.succ = Φc m c from rfl]
  unfold Φc Dat.owesAt Pipeline.owesWithin; rw [Pipeline.ΦD_eq, scopedRest0_eq, ownSems0_eq, HH_eq]
  rw [show (dats m 0 c).owed t0_0.castSucc = 0 from rfl, show (dats m 0 c).owed t0_0.succ = 0 from rfl]
  iintro ⟨⟨⟨A, B, C, D, ⟨%a, E⟩, ⟨%g, G⟩⟩, HP, ⟨S00, S01, S02, S10, S11, S12, S20, S21, S22, S30, S31, S32⟩, ⟨M3, M4, M5, M6⟩⟩, ⟨%W, %hW, HO⟩, ⟨%d0, H0⟩, ⟨%d1, H1⟩, ⟨%d2, H2⟩, ⟨%d3, H3⟩, ⟨%d4, H4⟩⟩
  ihave H0 := (show (owns (c : Thread nD τ) ((cfg0.win 0).stage (cfg0.slots t0_0 0)) fullShare ((dats m 0 c).before 0 t0_0 d0) : sProp 𝕄)
    ⊢ Ids c ((cfg0.win 0).stage (cfg0.slots t0_0 0)) (idsOf (iblk m c 0 t0_0)) by rw [before_0]; unfold Ids; rw [idsOf_at]; exact Entails.rfl) $$ H0
  ihave H1 := (show (owns (c : Thread nD τ) ((cfg0.win 1).stage (cfg0.slots t0_0 1)) fullShare ((dats m 0 c).before 1 t0_0 d1) : sProp 𝕄)
    ⊢ holds (c : Thread nD τ) ((cfg0.win 1).stage (cfg0.slots t0_0 1)) fullShare (iblk m c 1 t0_0) by rw [before_1]; exact Entails.rfl) $$ H1
  ihave H2 := (show (owns (c : Thread nD τ) ((cfg0.win 2).stage (cfg0.slots t0_0 2)) fullShare ((dats m 0 c).before 2 t0_0 d2) : sProp 𝕄)
    ⊢ holds (c : Thread nD τ) ((cfg0.win 2).stage (cfg0.slots t0_0 2)) fullShare (iblk m c 2 t0_0) by rw [before_2]; exact Entails.rfl) $$ H2
  ihave H3 := (show (owns (c : Thread nD τ) ((cfg0.win 3).stage (cfg0.slots t0_0 3)) fullShare ((dats m 0 c).before 3 t0_0 d3) : sProp 𝕄)
    ⊢ holds (c : Thread nD τ) ((cfg0.win 3).stage (cfg0.slots t0_0 3)) fullShare (iblk m c 3 t0_0) by rw [before_3]; exact Entails.rfl) $$ H3
  ihave H4 := (show (owns (c : Thread nD τ) ((cfg0.win 4).stage (cfg0.slots t0_0 4)) fullShare ((dats m 0 c).before 4 t0_0 d4) : sProp 𝕄)
    ⊢ holds (c : Thread nD τ) ((cfg0.win 4).stage (cfg0.slots t0_0 4)) fullShare ((dats m 0 c).before 4 t0_0 d4) from Entails.rfl) $$ H4
  ihave E := (acc_of c a).1 $$ E
  ihave G := (sm_of c g) $$ G
  ihave R := (show _ ⊢ AllParts c (srcs m c) from Entails.rfl) $$ [A B C D S00 S01 S02 S10 S11 S12 S20 S21 S22 S30 S31 S32 M3 M4 M5 M6]
  · unfold AllParts Parts
    isplitl [A M3 S00 S01 S02]
    · isplitl [A]
      · iexact A
      isplitl [M3]
      · iexact M3
      isplitl [S00]
      · iexact S00
      isplitl [S01]
      · iexact S01
      · iexact S02
    isplitl [B M4 S10 S11 S12]
    · isplitl [B]
      · iexact B
      isplitl [M4]
      · iexact M4
      isplitl [S10]
      · iexact S10
      isplitl [S11]
      · iexact S11
      · iexact S12
    isplitl [C M5 S20 S21 S22]
    · isplitl [C]
      · iexact C
      isplitl [M5]
      · iexact M5
      isplitl [S20]
      · iexact S20
      isplitl [S21]
      · iexact S21
      · iexact S22
    · isplitl [D]
      · iexact D
      isplitl [M6]
      · iexact M6
      isplitl [S30]
      · iexact S30
      isplitl [S31]
      · iexact S31
      · iexact S32
  ihave ⟨R0, R1, R2, R⟩ := (rings c (srcs m c)) $$ R
  iapply (use_ev (c := c) (body_ev (c := c) (L := wordsOf g) (id := idsOf (iblk m c 0 t0_0)) (W := srcs m c) (I := iblk m c 1 t0_0) (Wt := iblk m c 2 t0_0) (X := iblk m c 3 t0_0)
    (A := a) (O := (dats m 0 c).before 4 t0_0 d4)
    (arg13 := Memref.whole cc0_scratch4) (arg8 := (cfg0.win 4).stage (cfg0.slots t0_0 4)) (arg1 := (cfg0.win 1).stage (cfg0.slots t0_0 1)) (arg2 := (cfg0.win 2).stage (cfg0.slots t0_0 2))
    (arg3 := (cfg0.win 3).stage (cfg0.slots t0_0 3)) (arg0 := (cfg0.win 0).stage (cfg0.slots t0_0 0))
    (arg4 := Memref.whole main_arg3) (arg5 := Memref.whole main_arg4) (arg6 := Memref.whole main_arg5) (arg7 := Memref.whole main_arg6)
    (arg9 := Memref.whole cc0_scratch0) (arg10 := Memref.whole cc0_scratch1) (arg11 := Memref.whole cc0_scratch2) (arg12 := Memref.whole cc0_scratch3)
    (arg14 := Memref.whole cc0_scratch5) (arg15 := cc0_scratch6)
    (fun n => hid c _) rfl))
  isplitr [R HP]
  · unfold beside
    isplitl [E H4 HO H1 H2 H3]
    · isplitl [E]
      · iexact E
      isplitl [H4]
      · iexact H4
      isplitl [HO]
      · unfold Cert.Moe.Owes
        iexists W
        iexact HO
      isplitl [H1]
      · iexact H1
      isplitl [H2]
      · iexact H2
      · iexact H3
    isplitl [R0]
    · iexact R0
    isplitl [R1]
    · iexact R1
    isplitl [R2]
    · iexact R2
    isplitl [H0]
    · iexact H0
    · iexact G
  · unfold beside
    iintro ⟨⟨E, H4, HO, H1, H2, H3⟩, R0, R1, R2, H0, G⟩
    ihave R := R $$ R0 R1 R2
    unfold AllParts Parts
    icases R with ⟨⟨A, M3, S00, S01, S02⟩, ⟨B, M4, S10, S11, S12⟩, ⟨C, M5, S20, S21, S22⟩, ⟨D, M6, S30, S31, S32⟩⟩
    isplitl [A B C D E G HP S00 S01 S02 S10 S11 S12 S20 S21 S22 S30 S31 S32 M3 M4 M5 M6]
    · isplitl [A B C D E G]
      · isplitl [A]
        · iexact A
        isplitl [B]
        · iexact B
        isplitl [C]
        · iexact C
        isplitl [D]
        · iexact D
        isplitl [E]
        · iexists _
          iapply (acc_of c _).2
          iexact E
        · iapply (of_sm c _)
          iexact G
      isplitl [HP]
      · iexact HP
      isplitl [S00 S01 S02 S10 S11 S12 S20 S21 S22 S30 S31 S32]
      · isplitl [S00]
        · iexact S00
        isplitl [S01]
        · iexact S01
        isplitl [S02]
        · iexact S02
        isplitl [S10]
        · iexact S10
        isplitl [S11]
        · iexact S11
        isplitl [S12]
        · iexact S12
        isplitl [S20]
        · iexact S20
        isplitl [S21]
        · iexact S21
        isplitl [S22]
        · iexact S22
        isplitl [S30]
        · iexact S30
        isplitl [S31]
        · iexact S31
        · iexact S32
      isplitl [M3]
      · iexact M3
      isplitl [M4]
      · iexact M4
      isplitl [M5]
      · iexact M5
      · iexact M6
    isplitl [HO]
    · unfold Cert.Moe.Owes
      icases HO with ⟨%W', HO⟩
      iexists W'
      isplitr
      · ipureintro; exact fun _ _ => Or.inl trivial
      · iexact HO
    isplitl [H0]
    · iapply (show (Ids c ((cfg0.win 0).stage (cfg0.slots t0_0 0)) (idsOf (iblk m c 0 t0_0)) : sProp 𝕄)
        ⊢ owns (c : Thread nD τ) ((cfg0.win 0).stage (cfg0.slots t0_0 0)) fullShare ((dats m 0 c).after 0 t0_0) by unfold Ids; rw [idsOf_at]; exact Entails.rfl)
      iexact H0
    isplitl [H1]
    · iapply (show (holds (c : Thread nD τ) ((cfg0.win 1).stage (cfg0.slots t0_0 1)) fullShare (iblk m c 1 t0_0) : sProp 𝕄)
        ⊢ owns (c : Thread nD τ) ((cfg0.win 1).stage (cfg0.slots t0_0 1)) fullShare ((dats m 0 c).after 1 t0_0) from Entails.rfl)
      iexact H1
    isplitl [H2]
    · iapply (show (holds (c : Thread nD τ) ((cfg0.win 2).stage (cfg0.slots t0_0 2)) fullShare (iblk m c 2 t0_0) : sProp 𝕄)
        ⊢ owns (c : Thread nD τ) ((cfg0.win 2).stage (cfg0.slots t0_0 2)) fullShare ((dats m 0 c).after 2 t0_0) from Entails.rfl)
      iexact H2
    isplitl [H3]
    · iapply (show (holds (c : Thread nD τ) ((cfg0.win 3).stage (cfg0.slots t0_0 3)) fullShare (iblk m c 3 t0_0) : sProp 𝕄)
        ⊢ owns (c : Thread nD τ) ((cfg0.win 3).stage (cfg0.slots t0_0 3)) fullShare ((dats m 0 c).after 3 t0_0) from Entails.rfl)
      iexact H3
    · iapply (show (holds (c : Thread nD τ) ((cfg0.win 4).stage (cfg0.slots t0_0 4)) fullShare
          (k0_pay4 (accs (srcs m c) (iblk m c 1 t0_0) (iblk m c 2 t0_0) (iblk m c 3 t0_0) (marked (idsOf (iblk m c 0 t0_0)) (wordsOf g)) (cnt (marked (idsOf (iblk m c 0 t0_0)) (wordsOf g)) 32))) : sProp 𝕄)
        ⊢ owns (c : Thread nD τ) ((cfg0.win 4).stage (cfg0.slots t0_0 4)) fullShare ((dats m 0 c).after 4 t0_0) by
          rw [accs_total]; exact Entails.rfl)
      iexact H4

/-! ## The launch -/

/-- The lines after the region touch none of the arrays the kernel copies from. -/
theorem sub_but : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  subst hops
  refine Pipeline.sub_tailRefsBut Pipeline.Prefetch.none spec0 HH op ((List.forall_iff_forall_mem.mp hostOps1_sub) op hop) (fun k => k.elim0) ?_
  simp only [hostOps1, List.mem_cons, List.mem_nil_iff, or_false] at hop
  subst hop
  intro b hb h
  rw [StableHlo.reshape_bufs, Finset.mem_insert, Finset.mem_singleton] at h
  rcases h with h | h
  · obtain rfl := Proc.devRef_injective (τ := τ) _ h
    exact absurd hb (by decide)
  · obtain rfl := Proc.devRef_injective (τ := τ) _ h
    exact absurd hb (by decide)

/-- The arrays the kernel copies from are no operand's block. -/
theorem HH_sub : HH ⊆ Pipeline.restRefsP sig Pipeline.Prefetch.none spec0 := by decide

include hid in
/-- The program runs to the end, its arrays as the operands' data say and every semaphore at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = (fun _ => 0)) :=
  Pipeline.θ_run_frameP_dma_around_shared (fun q => (cfgs q).toPCfg (Val := Elt F)) (fun q => (cfgs q).toPCfg_adm) (dats m) 0 launch₀0.toP osem defs₀ Variants.none
    ownSemFacts HH HH_sub m ρ main (fun c => (body_obligation m hid c).loose) (fun c w _ => rfl) (fun _ _ => rfl) (V0 m) [hostOps1]
    sub_but sfx_fresh sfx_keeps
    (Pipeline.hmain_around cfgs 0 defs₀ Variants.none m main [hostOps0] [hostOps1] (by simp only [List.Forall]; exact hostOps0_sub)
      (by simp only [List.Forall]; exact hostOps0_fresh) main_chain)
    (fun _ _ => rfl) (fun _ k => k.elim0)
    (fun c => (show _ ⊢ Φc m c from by iintro ⟨H, -⟩; iexact H)) (fun c => Entails.rfl) _ (fun r h => h)

/-- The line after the region changes only its own result. -/
theorem tail_keeps (c : Dev nD) (b : Ref sig .tc) (hb : b ≠ main_v4) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

include hid in
/-- The kernel's program runs, leaves its arguments as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨fun c => ⟨((h.1 c).2 main_arg0 (Pipeline.mem_restRefs_of main_arg0 (by decide) (by decide))).trans ((tail_keeps m c main_arg0 (by decide) (by decide)).trans (V_main_arg0 m c)),
      ((h.1 c).2 main_arg1 (Pipeline.mem_restRefs_of main_arg1 (by decide) (by decide))).trans ((tail_keeps m c main_arg1 (by decide) (by decide)).trans (V_main_arg1 m c)),
      ((h.1 c).2 main_arg2 (Pipeline.mem_restRefs_of main_arg2 (by decide) (by decide))).trans ((tail_keeps m c main_arg2 (by decide) (by decide)).trans (V_main_arg2 m c)),
      ((h.1 c).2 main_arg3 (Pipeline.mem_restRefs_of main_arg3 (by decide) (by decide))).trans ((tail_keeps m c main_arg3 (by decide) (by decide)).trans (V_main_arg3 m c)),
      ((h.1 c).2 main_arg4 (Pipeline.mem_restRefs_of main_arg4 (by decide) (by decide))).trans ((tail_keeps m c main_arg4 (by decide) (by decide)).trans (V_main_arg4 m c)),
      ((h.1 c).2 main_arg5 (Pipeline.mem_restRefs_of main_arg5 (by decide) (by decide))).trans ((tail_keeps m c main_arg5 (by decide) (by decide)).trans (V_main_arg5 m c)),
      ((h.1 c).2 main_arg6 (Pipeline.mem_restRefs_of main_arg6 (by decide) (by decide))).trans ((tail_keeps m c main_arg6 (by decide) (by decide)).trans (V_main_arg6 m c))⟩, h.2⟩) (run_main m ρ hid)

end Cert.Kernel.Moe

end
-- ==== Proof.Decode.lean ====
/-
  The precondition read off at one id: every id names one of the 32 experts.
-/
module

public import proofs.«01_k».proof.Proof.Run
public import proofs.«01_k».proof.Proof.Gen.Pre_ids_in_range
public import Idealize.ShloMosaic.Lib.Claim

@[expose] public section

set_option maxRecDepth 16384

noncomputable section

namespace Cert.Kernel.Moe

open Cert.Kernel Cert.Kernel.Gen Cert.Moe
open Idealize.ShloMosaic Idealize.ShloMosaic.TcCoe

variable {F : FTy → Type} [FloatOps F]

/-- An array of ids the predicate holds of has every id below 32. -/
theorem id_lt {a0 a1 a2 a3 a4 a5 a6}
    (h : Cert.Pre_ids_in_range.fn (F := F) a0 a1 a2 a3 a4 a5 a6 = fun _ => 1#1) (y) : (a1 y).toNat < 32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Pre_ids_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- The ids as the kernel finds them are the argument's, one row per token. -/
theorem V_ids (m : (ℓ : Loc nD τ sig) → Buf (Elt F) ℓ) (c : Dev nD) :
    V m c main_v0 = shapeCast S64x8 (m ((c : Thread nD τ).loc main_arg1)) shapeCasts_S64x1x8_S64x8 := by
  entry_read
  rfl

/-- The slots' weights as the kernel finds them. -/
theorem V_weights (m : (ℓ : Loc nD τ sig) → Buf (Elt F) ℓ) (c : Dev nD) :
    V m c main_v1 = shapeCast S64x8 (m ((c : Thread nD τ).loc main_arg2)) shapeCasts_S64x1x8_S64x8 := by
  entry_read
  rfl

/-- The tokens' rows as the kernel finds them. -/
theorem V_rows (m : (ℓ : Loc nD τ sig) → Buf (Elt F) ℓ) (c : Dev nD) :
    V m c main_v2 = shapeCast S64x2816 (m ((c : Thread nD τ).loc main_arg0)) shapeCasts_S64x1x2816_S64x2816 := by
  entry_read
  rfl

/-- Under the precondition every id the kernel reads is below 32. -/
theorem ids_lt (m : (ℓ : Loc nD τ sig) → Buf (Elt F) ℓ)
    (h : ∀ c : Dev nD, ∀ y, (m ((c.tc : Thread nD τ).loc main_arg1) y : BitVec 32).toNat < 32) (c : Dev nD) (i : S64x8.Idx) :
    ((iblk m c 0 t0_0 : S64x8.Idx → BitVec 32) i).toNat < 32 := by
  have hV : ∀ j : S64x8.Idx, ((V m c main_v0 : S64x8.Idx → BitVec 32) j).toNat < 32 := fun j => by
    rw [V_ids]
    exact h c _
  unfold iblk
  rw [View.read_apply, cast_eq]
  exact hV _

end Cert.Kernel.Moe

end
-- ==== Proof.Same.lean ====
/-
  The idealized kernel is the same program as the printed one, spelt in another namespace (no operation of it is
  rewritten): what is proved of the one's run at any reading of the floats is a fact of the other's.
-/
module

public import proofs.«01_k».proof.Proof.Gen.Kernel
public import proofs.«01_k».proof.Proof.Gen.KernelIdeal

@[expose] public section

set_option maxRecDepth 16384
set_option pp.deepTerms false
set_option pp.maxSteps 200

noncomputable section

namespace Cert.Moe

open Idealize.ShloMosaic Idealize.ShloMosaic.TcCoe Idealize.SL.Sem

variable {F : FTy → Type} [FloatOps F]

set_option maxHeartbeats 4000000 in
/-- The two body tables are the same. -/
theorem bodies_same : (Cert.KernelIdeal.defs₀ (F := F) : Defs Cert.Kernel.nD Cert.Kernel.τ Cert.Kernel.sig (Elt F) Cert.Kernel.Λ₀)
    = Cert.Kernel.defs₀ (F := F) := by
  refine congrArg Defs.onTc (funext fun l => ?_)
  match l with
  | 0 =>
    refine funext fun a => ?_
    exact rfl

/-- So are the tables with the pipelines'. -/
theorem defs_same : (Cert.KernelIdeal.defs (F := F) : Defs Cert.Kernel.nD Cert.Kernel.τ Cert.Kernel.sig (Elt F)
      (Pipeline.Sig Cert.Kernel.Λ₀ (Fin 1) fun p => (Cert.Kernel.pcfgs (F := F) p).Adm))
    = Cert.Kernel.defs (F := F) :=
  congrArg (Pipeline.defs (Cert.Kernel.pcfgs (F := F))) bodies_same

/-- So are the entry programs. -/
theorem main_same : (Cert.KernelIdeal.main (F := F) : Dev Cert.Kernel.nD → Prog (TpuEff Cert.Kernel.nD Cert.Kernel.τ Cert.Kernel.sig (Elt F)
      (Pipeline.Sig Cert.Kernel.Λ₀ (Fin 1) fun p => (Cert.Kernel.pcfgs (F := F) p).Adm) .tc) PUnit)
    = Cert.Kernel.main (F := F) := rfl

/-- A fact of the printed kernel's runs is a fact of the idealized kernel's. -/
theorem run_same {s Q} (h : θ_run (Cert.Kernel.defs (F := F)) (onTc (τ := Cert.Kernel.τ) (Cert.Kernel.main (F := F))) s Q) :
    θ_run (Cert.KernelIdeal.defs (F := F)) (onTc (τ := Cert.KernelIdeal.τ) (Cert.KernelIdeal.main (F := F))) s Q := by
  rw [← defs_same] at h
  exact h

end Cert.Moe

end
-- ==== Proof.Cols.lean ====
/-
  One expert's turn by columns: every column block of the gated values and of the new accumulator is a chain of block
  products, each of 256 rows of the expert's weights.
-/
module

public import proofs.«01_k».proof.Proof.Values

@[expose] public section

set_option maxRecDepth 16384
set_option pp.deepTerms false
set_option pp.maxSteps 300

noncomputable section

namespace Cert.Kernel.Moe

open Cert.Kernel Cert.Kernel.Gen Cert.Moe
open Idealize.ShloMosaic Idealize.ShloMosaic.TcCoe

variable {F : FTy → Type} [FloatOps F]

/-- 128 rows of packed bytes as 256 rows of signed nibbles: the low one of a byte, then its high one. -/
def codes (p : Vec F S128x256 .i8) : FVec F S256x256 .bf16 :=
  sitofp .bf16 (shapeCast S256x256 (concatenate S128x2x256 1
    [⟨S128x1x256, shapeCast S128x1x256 (shrsi (shli (extui 32 p natLt_8_32) (broadcast S128x256 28#32)) (broadcast S128x256 28#32)) shapeCasts_S128x256_S128x1x256⟩,
     ⟨S128x1x256, shapeCast S128x1x256 (shrsi (shli (extui 32 p natLt_8_32) (broadcast S128x256 24#32)) (broadcast S128x256 28#32)) shapeCasts_S128x256_S128x1x256⟩]
    concatenates_S128x1x256_S128x1x256_S128x2x256_d1) shapeCasts_S128x2x256_S256x256)

/-- The 256 rows the bytes hold: the first 128 by one row of scales, the others by the next. -/
def rowsOf (p : Vec F S128x256 .i8) (s s' : Vec F S1x256 .bf16) : FVec F S256x256 .bf16 :=
  concatenate S256x256 0
    [⟨S128x256, mulf (extractStridedSlice S128x256 ![0, 0] (codes p) slices_S256x256_o0_0_S128x256) (broadcastTo S128x256 s broadcasts_S1x256_S128x256)⟩,
     ⟨S128x256, mulf (extractStridedSlice S128x256 ![128, 0] (codes p) slices_S256x256_o128_0_S128x256) (broadcastTo S128x256 s' broadcasts_S1x256_S128x256)⟩]
    concatenates_S128x256_S128x256_S256x256_d0

/-- One more block product. -/
def step (z : FVec F S64x256 .f32) (x : FVec F S64x256 .bf16) (p : Vec F S128x256 .i8) (s s' : Vec F S1x256 .bf16) : FVec F S64x256 .f32 :=
  addf z (matmul dot_S64x256_S256x256_S64x256_1_0_0_1_n_n none x (rowsOf p s s') (constant S64x256 .f32 0x00000000#32))

/-- Where a chain starts. -/
def zero : FVec F S64x256 .f32 := broadcast S64x256 (Scalar.ofBits .f32 0x00000000#32)

/-- A column block lies within the tokens' rows. -/
theorem xs_in : ∀ k : Fin 11, ∀ a, (![0, 256 * k.val] : Fin 2 → Nat) a + S64x256.size a ≤ S64x2816.size a := by decide
/-- A block lies within the gate and up bytes. -/
theorem gs_in : ∀ (k : Fin 11) (c : Fin 6), ∀ a, (![128 * k.val, 256 * c.val] : Fin 2 → Nat) a + S128x256.size a ≤ S1408x1536.size a := by decide
/-- A row of scales lies within the gate and up scales. -/
theorem sg_in : ∀ (k : Fin 22) (c : Fin 6), ∀ a, (![k.val, 256 * c.val] : Fin 2 → Nat) a + S1x256.size a ≤ S22x1536.size a := by decide
/-- A block lies within the down bytes. -/
theorem ds_in : ∀ (k : Fin 3) (c : Fin 11), ∀ a, (![128 * k.val, 256 * c.val] : Fin 2 → Nat) a + S128x256.size a ≤ S384x2816.size a := by decide
/-- A row of scales lies within the down scales. -/
theorem sd_in : ∀ (k : Fin 6) (c : Fin 11), ∀ a, (![k.val, 256 * c.val] : Fin 2 → Nat) a + S1x256.size a ≤ S6x2816.size a := by decide

/-- Columns 256 k to 256 k + 255 of the tokens. -/
def xs (T : In F) (k : Fin 11) : Vec F S64x256 .bf16 := fun x => T.X ((Rect.unit (s := S64x2816) ![0, 256 * k.val] S64x256.size (xs_in k)).emb x)
/-- A block of the packed gate and up weights. -/
def gs (T : In F) (k : Fin 11) (c : Fin 6) : Vec F S128x256 .i8 := fun x => T.G ((Rect.unit (s := S1408x1536) ![128 * k.val, 256 * c.val] S128x256.size (gs_in k c)).emb x)
/-- A row of their scales. -/
def sg (T : In F) (k : Fin 22) (c : Fin 6) : Vec F S1x256 .bf16 := fun x => T.SG ((Rect.unit (s := S22x1536) ![k.val, 256 * c.val] S1x256.size (sg_in k c)).emb x)
/-- A block of the packed down weights. -/
def ds (T : In F) (k : Fin 3) (c : Fin 11) : Vec F S128x256 .i8 := fun x => T.D ((Rect.unit (s := S384x2816) ![128 * k.val, 256 * c.val] S128x256.size (ds_in k c)).emb x)
/-- A row of their scales. -/
def sd (T : In F) (k : Fin 6) (c : Fin 11) : Vec F S1x256 .bf16 := fun x => T.SD ((Rect.unit (s := S6x2816) ![k.val, 256 * c.val] S1x256.size (sd_in k c)).emb x)
/-- Columns of the accumulator. -/
def ac (T : In F) (c : Fin 11) : Vec F S64x256 .f32 := fun x => T.A ((Rect.unit (s := S64x2816) ![0, 256 * c.val] S64x256.size (xs_in c)).emb x)

/-- One more block of tokens' columns in a column block of the first product. -/
def upStep (T : In F) (c : Fin 6) (z : FVec F S64x256 .f32) (k : Fin 11) : FVec F S64x256 .f32 :=
  step z (shapeCast S64x256 (xs T k) shapeCasts_S64x256_S64x256) (gs T k c) (sg T ⟨2 * k.val, by omega⟩ c) (sg T ⟨2 * k.val + 1, by omega⟩ c)

/-- A column block of the first product. -/
def up (T : In F) (c : Fin 6) : FVec F S64x256 .f32 :=
  upStep T c (upStep T c (upStep T c (upStep T c (upStep T c (upStep T c (upStep T c (upStep T c (upStep T c (upStep T c (upStep T c zero 0) 1) 2) 3) 4) 5) 6) 7) 8) 9) 10

/-- A column block of the gated values, zero for a token that does not name the expert. -/
def gated (g u : FVec F S64x256 .f32) (r : IVec S64x1 1) : FVec F S64x256 .bf16 :=
  truncf .bf16 (select (broadcastTo S64x256 (shapeCast S64x1 r shapeCasts_S64x1_S64x1) broadcasts_S64x1_S64x256)
    (mulf (mulf g (logistic g)) u) (broadcast S64x256 (Scalar.ofBits .f32 0x00000000#32))) bitsLt_bf16_f32

/-- One more block of gated columns in a column block of the second product. -/
def downStep (T : In F) (c : Fin 11) (z : FVec F S64x256 .f32) (h : FVec F S64x256 .bf16) (k : Fin 3) : FVec F S64x256 .f32 :=
  step z h (ds T k c) (sd T ⟨2 * k.val, by omega⟩ c) (sd T ⟨2 * k.val + 1, by omega⟩ c)

/-- A column block of the second product. -/
def down (T : In F) (h0 h1 h2 : FVec F S64x256 .bf16) (c : Fin 11) : FVec F S64x256 .f32 :=
  downStep T c (downStep T c (downStep T c zero h0 0) h1 1) h2 2

/-- A column block of the new accumulator. -/
def newBlk (T : In F) (w : FVec F S64x1 .f32) (y : FVec F S64x256 .f32) (c : Fin 11) : FVec F S64x256 .f32 :=
  shapeCast S64x256 (addf (ac T c) (mulf y (broadcastTo S64x256 w broadcasts_S64x1_S64x256))) shapeCasts_S64x256_S64x256

/-- Column block 0 of the gated values. -/
theorem gated0_eq (T : In F) : w992 T = gated (up T 0) (up T 3) (w250 T) := rfl

/-- Column block 1 of the gated values. -/
theorem gated1_eq (T : In F) : w1728 T = gated (up T 1) (up T 4) (w250 T) := rfl

/-- Column block 2 of the gated values. -/
theorem gated2_eq (T : In F) : w2464 T = gated (up T 2) (up T 5) (w250 T) := rfl

/-- Column block 0 of the new accumulator. -/
theorem new0_eq (T : In F) : b0 T = newBlk T (w256 T) (down T (w992 T) (w1728 T) (w2464 T) 0) 0 := rfl

/-- Column block 1 of the new accumulator. -/
theorem new1_eq (T : In F) : b1 T = newBlk T (w256 T) (down T (w992 T) (w1728 T) (w2464 T) 1) 1 := rfl

/-- Column block 2 of the new accumulator. -/
theorem new2_eq (T : In F) : b2 T = newBlk T (w256 T) (down T (w992 T) (w1728 T) (w2464 T) 2) 2 := rfl

/-- Column block 3 of the new accumulator. -/
theorem new3_eq (T : In F) : b3 T = newBlk T (w256 T) (down T (w992 T) (w1728 T) (w2464 T) 3) 3 := rfl

/-- Column block 4 of the new accumulator. -/
theorem new4_eq (T : In F) : b4 T = newBlk T (w256 T) (down T (w992 T) (w1728 T) (w2464 T) 4) 4 := rfl

/-- Column block 5 of the new accumulator. -/
theorem new5_eq (T : In F) : b5 T = newBlk T (w256 T) (down T (w992 T) (w1728 T) (w2464 T) 5) 5 := rfl

/-- Column block 6 of the new accumulator. -/
theorem new6_eq (T : In F) : b6 T = newBlk T (w256 T) (down T (w992 T) (w1728 T) (w2464 T) 6) 6 := rfl

/-- Column block 7 of the new accumulator. -/
theorem new7_eq (T : In F) : b7 T = newBlk T (w256 T) (down T (w992 T) (w1728 T) (w2464 T) 7) 7 := rfl

/-- Column block 8 of the new accumulator. -/
theorem new8_eq (T : In F) : b8 T = newBlk T (w256 T) (down T (w992 T) (w1728 T) (w2464 T) 8) 8 := rfl

/-- Column block 9 of the new accumulator. -/
theorem new9_eq (T : In F) : b9 T = newBlk T (w256 T) (down T (w992 T) (w1728 T) (w2464 T) 9) 9 := rfl

/-- Column block 10 of the new accumulator. -/
theorem new10_eq (T : In F) : b10 T = newBlk T (w256 T) (down T (w992 T) (w1728 T) (w2464 T) 10) 10 := rfl

end Cert.Kernel.Moe

end
-- ==== Proof.Math.lean ====
/-
  What the layer computes, over the reals extended by the infinities: the sums both programs are shown to be.
-/
module

public import Idealize.ShloMosaic.Lib.Pointwise

@[expose] public section

set_option maxRecDepth 16384

noncomputable section

namespace Cert.Moe

open Idealize.ShloMosaic

/-- A sum over a range is the sum of the sums over its blocks of `b`. -/
theorem sum_cut (a b n : ℕ) (h : a * b = n) (f : Fin n → EReal) :
    ∑ r, f r = ∑ i : Fin a, ∑ j : Fin b, f ⟨b * i.val + j.val, by
      subst h; calc b * i.val + j.val < b * i.val + b := by omega
        _ = b * (i.val + 1) := by ring
        _ ≤ b * a := Nat.mul_le_mul_left b i.isLt
        _ = a * b := Nat.mul_comm b a⟩ := by
  subst h
  rw [← finProdFinEquiv.sum_comp, Fintype.sum_prod_type]
  refine Finset.sum_congr rfl fun i _ => Finset.sum_congr rfl fun j _ => ?_
  congr 1
  apply Fin.ext
  show j.val + b * i.val = b * i.val + j.val
  omega

/-- The low nibble of a byte, sign-extended. -/
def lo (b : BitVec 8) : BitVec 32 :=
  IntOp.shrsi ArithUnit.vector (IntOp.shli ArithUnit.vector (BitVec.setWidth 32 b) 28#32) 28#32

/-- The high nibble of a byte, sign-extended. -/
def hi (b : BitVec 8) : BitVec 32 :=
  IntOp.shrsi ArithUnit.vector (IntOp.shli ArithUnit.vector (BitVec.setWidth 32 b) 24#32) 28#32

/-- The nibble a row of the matrix takes of its byte. -/
def nib (b : BitVec 8) (r : ℕ) : EReal := FloatOps.sitofp (F := Ideal) .bf16 (if r % 2 < 1 then lo b else hi b)

/-- A weight of the gate and up matrix of an expert. -/
def wgu (G : Fin 1408 → Fin 1536 → BitVec 8) (SG : Fin 22 → Fin 1536 → EReal) (r : Fin 2816) (n : Fin 1536) : EReal :=
  nib (G ⟨r.val / 2, by omega⟩ n) r.val * SG ⟨r.val / 128, by omega⟩ n

/-- A weight of the down matrix of an expert. -/
def wdn (D : Fin 384 → Fin 2816 → BitVec 8) (SD : Fin 6 → Fin 2816 → EReal) (r : Fin 768) (n : Fin 2816) : EReal :=
  nib (D ⟨r.val / 2, by omega⟩ n) r.val * SD ⟨r.val / 128, by omega⟩ n

/-- A token's gate and up values. -/
def gu (X : Fin 2816 → EReal) (G : Fin 1408 → Fin 1536 → BitVec 8) (SG : Fin 22 → Fin 1536 → EReal) (n : Fin 1536) : EReal :=
  ∑ r : Fin 2816, X r * wgu G SG r n

/-- A token's gated values. -/
def hid (X : Fin 2816 → EReal) (G : Fin 1408 → Fin 1536 → BitVec 8) (SG : Fin 22 → Fin 1536 → EReal) (n : Fin 768) : EReal :=
  gu X G SG ⟨n.val, by omega⟩ * Ideal.logistic (gu X G SG ⟨n.val, by omega⟩) * gu X G SG ⟨768 + n.val, by omega⟩

/-- An expert's output for a token. -/
def out (h : Fin 768 → EReal) (D : Fin 384 → Fin 2816 → BitVec 8) (SD : Fin 6 → Fin 2816 → EReal) (n : Fin 2816) : EReal :=
  ∑ r : Fin 768, h r * wdn D SD r n

/-- What a token gives an expert: the weights of those of its slots that name it. -/
def share (I : Fin 8 → BitVec 32) (W : Fin 8 → EReal) (e : BitVec 32) : EReal :=
  ∑ j : Fin 8, Scalar.select (IntOp.cmpi .eq (I j) e) (W j) 0

/-- An element of the layer: over the experts, an expert's output times the token's share. -/
def layer (X : Fin 2816 → EReal) (I : Fin 8 → BitVec 32) (W : Fin 8 → EReal)
    (G : Fin 32 → Fin 1408 → Fin 1536 → BitVec 8) (SG : Fin 32 → Fin 22 → Fin 1536 → EReal)
    (D : Fin 32 → Fin 384 → Fin 2816 → BitVec 8) (SD : Fin 32 → Fin 6 → Fin 2816 → EReal) (n : Fin 2816) : EReal :=
  ∑ e : Fin 32, out (hid X (G e) (SG e)) (D e) (SD e) n * share I W (BitVec.ofNat 32 e.val)

/-- The low nibble by a mask and a comparison. -/
theorem lo_eq : ∀ b : BitVec 8, Scalar.select (IntOp.cmpi .sge (IntOp.andi (BitVec.setWidth 32 b) 15#32) 8#32)
    (IntOp.subi (IntOp.andi (BitVec.setWidth 32 b) 15#32) 16#32) (IntOp.andi (BitVec.setWidth 32 b) 15#32) = lo b := by
  decide +kernel

/-- The high nibble by a shift, a mask and a comparison. -/
theorem hi_eq : ∀ b : BitVec 8, Scalar.select (IntOp.cmpi .sge (IntOp.andi (IntOp.shrsi ArithUnit.host (BitVec.setWidth 32 b) 4#32) 15#32) 8#32)
    (IntOp.subi (IntOp.andi (IntOp.shrsi ArithUnit.host (BitVec.setWidth 32 b) 4#32) 15#32) 16#32)
    (IntOp.andi (IntOp.shrsi ArithUnit.host (BitVec.setWidth 32 b) 4#32) 15#32) = hi b := by
  decide +kernel

/-- A sum over the rows is the sum over the even ones plus the sum over the odd ones. -/
theorem sum_pairs (n m : ℕ) (h : n * 2 = m) (f : Fin m → EReal) :
    ∑ r, f r = ∑ q : Fin n, f ⟨2 * q.val, by omega⟩ + ∑ q : Fin n, f ⟨2 * q.val + 1, by omega⟩ := by
  rw [sum_cut n 2 m h, ← Finset.sum_add_distrib]
  exact Finset.sum_congr rfl fun q _ => Fin.sum_univ_two _

/-- The nibble of an even row. -/
theorem nib_even (b : BitVec 8) (q : ℕ) : nib b (2 * q) = FloatOps.sitofp (F := Ideal) .bf16 (lo b) := by
  rw [nib, if_pos (by omega)]

/-- The nibble of an odd row. -/
theorem nib_odd (b : BitVec 8) (q : ℕ) : nib b (2 * q + 1) = FloatOps.sitofp (F := Ideal) .bf16 (hi b) := by
  rw [nib, if_neg (by omega)]

/-- A token's gate and up values by the packed rows. -/
theorem gu_pairs (X : Fin 2816 → EReal) (G : Fin 1408 → Fin 1536 → BitVec 8) (SG : Fin 22 → Fin 1536 → EReal) (n : Fin 1536) :
    gu X G SG n
      = ∑ q : Fin 1408, X ⟨2 * q.val, by omega⟩ * (FloatOps.sitofp (F := Ideal) .bf16 (lo (G q n)) * SG ⟨q.val / 64, by omega⟩ n)
        + ∑ q : Fin 1408, X ⟨2 * q.val + 1, by omega⟩ * (FloatOps.sitofp (F := Ideal) .bf16 (hi (G q n)) * SG ⟨q.val / 64, by omega⟩ n) := by
  rw [gu, sum_pairs 1408 2816 rfl]
  refine congrArg₂ (· + ·) (Finset.sum_congr rfl fun q _ => ?_) (Finset.sum_congr rfl fun q _ => ?_)
  · rw [wgu, nib_even]
    have h1 : (⟨2 * q.val / 2, by omega⟩ : Fin 1408) = q := Fin.ext (by show 2 * q.val / 2 = q.val; omega)
    have h2 : (⟨2 * q.val / 128, by omega⟩ : Fin 22) = ⟨q.val / 64, by omega⟩ := Fin.ext (by show 2 * q.val / 128 = q.val / 64; omega)
    simp only [h1, h2]
  · rw [wgu, nib_odd]
    have h1 : (⟨(2 * q.val + 1) / 2, by omega⟩ : Fin 1408) = q := Fin.ext (by show (2 * q.val + 1) / 2 = q.val; omega)
    have h2 : (⟨(2 * q.val + 1) / 128, by omega⟩ : Fin 22) = ⟨q.val / 64, by omega⟩ := Fin.ext (by show (2 * q.val + 1) / 128 = q.val / 64; omega)
    simp only [h1, h2]

/-- An expert's output by the packed rows. -/
theorem out_pairs (h : Fin 768 → EReal) (D : Fin 384 → Fin 2816 → BitVec 8) (SD : Fin 6 → Fin 2816 → EReal) (n : Fin 2816) :
    out h D SD n
      = ∑ q : Fin 384, h ⟨2 * q.val, by omega⟩ * (FloatOps.sitofp (F := Ideal) .bf16 (lo (D q n)) * SD ⟨q.val / 64, by omega⟩ n)
        + ∑ q : Fin 384, h ⟨2 * q.val + 1, by omega⟩ * (FloatOps.sitofp (F := Ideal) .bf16 (hi (D q n)) * SD ⟨q.val / 64, by omega⟩ n) := by
  rw [out, sum_pairs 384 768 rfl]
  refine congrArg₂ (· + ·) (Finset.sum_congr rfl fun q _ => ?_) (Finset.sum_congr rfl fun q _ => ?_)
  · rw [wdn, nib_even]
    have h1 : (⟨2 * q.val / 2, by omega⟩ : Fin 384) = q := Fin.ext (by show 2 * q.val / 2 = q.val; omega)
    have h2 : (⟨2 * q.val / 128, by omega⟩ : Fin 6) = ⟨q.val / 64, by omega⟩ := Fin.ext (by show 2 * q.val / 128 = q.val / 64; omega)
    simp only [h1, h2]
  · rw [wdn, nib_odd]
    have h1 : (⟨(2 * q.val + 1) / 2, by omega⟩ : Fin 384) = q := Fin.ext (by show (2 * q.val + 1) / 2 = q.val; omega)
    have h2 : (⟨(2 * q.val + 1) / 128, by omega⟩ : Fin 6) = ⟨q.val / 64, by omega⟩ := Fin.ext (by show (2 * q.val + 1) / 128 = q.val / 64; omega)
    simp only [h1, h2]

end Cert.Moe

end
-- ==== Proof.Value.lean ====
/-
  The kernel's turns over the reals: what one expert's turn adds to every element of the accumulator.
-/
module

public import proofs.«01_k».proof.Proof.Cols
public import proofs.«01_k».proof.Proof.Total
public import proofs.«01_k».proof.Proof.Math

@[expose] public section

set_option maxRecDepth 16384

noncomputable section

namespace Cert.Kernel.Moe

open Cert.Kernel Cert.Kernel.Gen Cert.Moe
open Idealize.ShloMosaic Idealize.ShloMosaic.TcCoe

/-- An element of a block of a matrix. -/
theorem emb2 {A B a b o p : ℕ} (h : ∀ x, (![o, p] : Fin 2 → ℕ) x + (![a, b] : Fin 2 → ℕ) x ≤ (⟨2, ![A, B]⟩ : Shape).size x)
    (i : Fin a) (j : Fin b) (h0 : o + i.val < A) (h1 : p + j.val < B) :
    (Rect.unit (s := ⟨2, ![A, B]⟩) ![o, p] ![a, b] h).emb (ix2 i j) = ix2 ⟨o + i.val, h0⟩ ⟨p + j.val, h1⟩ := by
  funext x
  match x with
  | 0 => exact Fin.ext (show o + 1 * i.val = o + i.val by omega)
  | 1 => exact Fin.ext (show p + 1 * j.val = p + j.val by omega)

/-- A dequantised row of a block. -/
theorem rowsOf_apply (p : Vec Ideal S128x256 .i8) (s s' : Vec Ideal S1x256 .bf16) (r n : Fin 256) :
    rowsOf p s s' (ix2 r n) = nib (p (ix2 ⟨r.val / 2, by omega⟩ n)) r.val * (if r.val < 128 then s (ix2 0 n) else s' (ix2 0 n)) := by
  have c : ∀ r : Fin 256, codes p (ix2 r n) = nib (p (ix2 ⟨r.val / 2, by omega⟩ n)) r.val := fun r => by
    pointwise [codes]
    rfl
  pointwise [rowsOf]
  by_cases h : r.val < 128
  · rw [dif_pos h, if_pos h, c]
  · have e : (⟨128 + (r.val - 128), by omega⟩ : Fin 256) = r := Fin.ext (by show 128 + (r.val - 128) = r.val; omega)
    rw [dif_neg h, if_neg h, e, c]

/-- One more block product at an element. -/
theorem step_apply (z : FVec Ideal S64x256 .f32) (x : FVec Ideal S64x256 .bf16) (p : Vec Ideal S128x256 .i8) (s s' : Vec Ideal S1x256 .bf16)
    (t : Fin 64) (n : Fin 256) : step z x p s s' (ix2 t n) = z (ix2 t n) + ∑ r : Fin 256, x (ix2 t r) * rowsOf p s s' (ix2 r n) := by
  pointwise [step]

/-- A chain starts at zero. -/
theorem zero_apply (t : Fin 64) (n : Fin 256) : (zero (F := Ideal)) (ix2 t n) = (0 : EReal) := by
  pointwise [zero]

variable (T : In Ideal)

/-- The expert's gate and up bytes, by row and column. -/
abbrev gB : Fin 1408 → Fin 1536 → BitVec 8 := fun q n => T.G (ix2 q n)
/-- Their scales. -/
abbrev gS : Fin 22 → Fin 1536 → EReal := fun s n => T.SG (ix2 s n)
/-- The expert's down bytes. -/
abbrev dB : Fin 384 → Fin 2816 → BitVec 8 := fun q n => T.D (ix2 q n)
/-- Their scales. -/
abbrev dS : Fin 6 → Fin 2816 → EReal := fun s n => T.SD (ix2 s n)

/-- A block's rows are the matrix's. -/
theorem guRows_apply (k : Fin 11) (c : Fin 6) (r n : Fin 256) :
    rowsOf (gs T k c) (sg T ⟨2 * k.val, by omega⟩ c) (sg T ⟨2 * k.val + 1, by omega⟩ c) (ix2 r n)
      = wgu (gB T) (gS T) ⟨256 * k.val + r.val, by omega⟩ ⟨256 * c.val + n.val, by omega⟩ := by
  rw [rowsOf_apply, wgu]
  have e1 : gs T k c (ix2 ⟨r.val / 2, by omega⟩ n) = gB T ⟨(256 * k.val + r.val) / 2, by omega⟩ ⟨256 * c.val + n.val, by omega⟩ := by
    show T.G _ = T.G _
    rw [emb2 _ _ _ (by show 128 * k.val + r.val / 2 < 1408; omega) (by omega)]
    congr 2
    exact Fin.ext (by show 128 * k.val + r.val / 2 = (256 * k.val + r.val) / 2; omega)
  have e2 : ∀ j : Fin 22, sg T j c (ix2 0 n) = gS T j ⟨256 * c.val + n.val, by omega⟩ := fun j => by
    show T.SG _ = T.SG _
    rw [emb2 _ _ _ (by show j.val + 0 < 22; omega) (by omega)]
    rfl
  have e3 : nib (gB T ⟨(256 * k.val + r.val) / 2, by omega⟩ ⟨256 * c.val + n.val, by omega⟩) r.val
      = nib (gB T ⟨(256 * k.val + r.val) / 2, by omega⟩ ⟨256 * c.val + n.val, by omega⟩) (256 * k.val + r.val) := by
    unfold nib
    rw [show (256 * k.val + r.val) % 2 = r.val % 2 by omega]
  rw [e1, e2, e2, e3]
  congr 1
  by_cases h : r.val < 128
  · rw [if_pos h]
    congr 1
    exact Fin.ext (by show 2 * k.val = (256 * k.val + r.val) / 128; omega)
  · rw [if_neg h]
    congr 1
    exact Fin.ext (by show 2 * k.val + 1 = (256 * k.val + r.val) / 128; omega)

/-- A block's rows are the matrix's. -/
theorem dnRows_apply (k : Fin 3) (c : Fin 11) (r n : Fin 256) :
    rowsOf (ds T k c) (sd T ⟨2 * k.val, by omega⟩ c) (sd T ⟨2 * k.val + 1, by omega⟩ c) (ix2 r n)
      = wdn (dB T) (dS T) ⟨256 * k.val + r.val, by omega⟩ ⟨256 * c.val + n.val, by omega⟩ := by
  rw [rowsOf_apply, wdn]
  have e1 : ds T k c (ix2 ⟨r.val / 2, by omega⟩ n) = dB T ⟨(256 * k.val + r.val) / 2, by omega⟩ ⟨256 * c.val + n.val, by omega⟩ := by
    show T.D _ = T.D _
    rw [emb2 _ _ _ (by show 128 * k.val + r.val / 2 < 384; omega) (by omega)]
    congr 2
    exact Fin.ext (by show 128 * k.val + r.val / 2 = (256 * k.val + r.val) / 2; omega)
  have e2 : ∀ j : Fin 6, sd T j c (ix2 0 n) = dS T j ⟨256 * c.val + n.val, by omega⟩ := fun j => by
    show T.SD _ = T.SD _
    rw [emb2 _ _ _ (by show j.val + 0 < 6; omega) (by omega)]
    rfl
  have e3 : nib (dB T ⟨(256 * k.val + r.val) / 2, by omega⟩ ⟨256 * c.val + n.val, by omega⟩) r.val
      = nib (dB T ⟨(256 * k.val + r.val) / 2, by omega⟩ ⟨256 * c.val + n.val, by omega⟩) (256 * k.val + r.val) := by
    unfold nib
    rw [show (256 * k.val + r.val) % 2 = r.val % 2 by omega]
  rw [e1, e2, e2, e3]
  congr 1
  by_cases h : r.val < 128
  · rw [if_pos h]
    congr 1
    exact Fin.ext (by show 2 * k.val = (256 * k.val + r.val) / 128; omega)
  · rw [if_neg h]
    congr 1
    exact Fin.ext (by show 2 * k.val + 1 = (256 * k.val + r.val) / 128; omega)

/-- A sum of eleven as the chain adds it. -/
theorem sum11 (f : Fin 11 → EReal) : ∑ k, f k = 0 + f 0 + f 1 + f 2 + f 3 + f 4 + f 5 + f 6 + f 7 + f 8 + f 9 + f 10 := by
  simp only [Fin.sum_univ_castSucc, Fin.sum_univ_zero]
  rfl

/-- A sum of three as the chain adds it. -/
theorem sum3 (f : Fin 3 → EReal) : ∑ k, f k = 0 + f 0 + f 1 + f 2 := by
  simp only [Fin.sum_univ_castSucc, Fin.sum_univ_zero]
  rfl

/-- One more block of a column block of the first product, at an element. -/
theorem upStep_apply (c : Fin 6) (z : FVec Ideal S64x256 .f32) (k : Fin 11) (t : Fin 64) (n : Fin 256) :
    upStep T c z k (ix2 t n) = z (ix2 t n) + ∑ r : Fin 256, T.X (ix2 t ⟨256 * k.val + r.val, by omega⟩)
      * wgu (gB T) (gS T) ⟨256 * k.val + r.val, by omega⟩ ⟨256 * c.val + n.val, by omega⟩ := by
  rw [upStep, step_apply]
  congr 1
  refine Finset.sum_congr rfl fun r _ => ?_
  rw [guRows_apply]
  congr 1
  have e : shapeCast S64x256 (xs T k) shapeCasts_S64x256_S64x256 (ix2 t r) = xs T k (ix2 t r) := by pointwise
  rw [e]
  show T.X _ = T.X _
  rw [emb2 _ _ _ (by omega) (by omega)]
  congr 2
  exact Fin.ext (Nat.zero_add _)

/-- A column block of the first product is the matrix's. -/
theorem up_apply (c : Fin 6) (t : Fin 64) (n : Fin 256) :
    up T c (ix2 t n) = gu (fun r => T.X (ix2 t r)) (gB T) (gS T) ⟨256 * c.val + n.val, by omega⟩ := by
  rw [gu, sum_cut 11 256 2816 rfl, sum11]
  unfold up
  simp only [upStep_apply]
  rw [zero_apply]

/-- The gated values, zero for a token that does not name the expert. -/
def kept (t : Fin 64) (r : Fin 768) : EReal := Scalar.select (w250 T (ix2 t 0)) (hid (fun r => T.X (ix2 t r)) (gB T) (gS T) r) 0

/-- A column block of the gated values is the token's. -/
theorem gated_apply (c d : Fin 6) (j : Fin 3) (hc : c.val = j.val) (hd : d.val = 3 + j.val) (t : Fin 64) (n : Fin 256) :
    gated (up T c) (up T d) (w250 T) (ix2 t n) = kept T t ⟨256 * j.val + n.val, by omega⟩ := by
  pointwise [gated]
  rw [up_apply, up_apply, kept, hid]
  have e1 : (⟨256 * c.val + n.val, by omega⟩ : Fin 1536) = ⟨256 * j.val + n.val, by omega⟩ := Fin.ext (by show 256 * c.val + n.val = 256 * j.val + n.val; omega)
  have e2 : (⟨256 * d.val + n.val, by omega⟩ : Fin 1536) = ⟨768 + (256 * j.val + n.val), by omega⟩ :=
    Fin.ext (by show 256 * d.val + n.val = 768 + (256 * j.val + n.val); omega)
  rw [e1, e2]

/-- One more block of a column block of the second product, at an element. -/
theorem downStep_apply (c : Fin 11) (z : FVec Ideal S64x256 .f32) (h : FVec Ideal S64x256 .bf16) (k : Fin 3) (t : Fin 64)
    (hh : ∀ r : Fin 256, h (ix2 t r) = kept T t ⟨256 * k.val + r.val, by omega⟩) (n : Fin 256) :
    downStep T c z h k (ix2 t n) = z (ix2 t n) + ∑ r : Fin 256, kept T t ⟨256 * k.val + r.val, by omega⟩
      * wdn (dB T) (dS T) ⟨256 * k.val + r.val, by omega⟩ ⟨256 * c.val + n.val, by omega⟩ := by
  rw [downStep, step_apply]
  congr 1
  refine Finset.sum_congr rfl fun r _ => ?_
  rw [dnRows_apply, hh]

/-- A column block of the second product is the matrix's. -/
theorem down_apply (c : Fin 11) (t : Fin 64) (n : Fin 256) :
    down T (w992 T) (w1728 T) (w2464 T) c (ix2 t n) = out (kept T t) (dB T) (dS T) ⟨256 * c.val + n.val, by omega⟩ := by
  rw [out, sum_cut 3 256 768 rfl, sum3]
  unfold down
  rw [downStep_apply T c _ _ 2 t (fun r => by rw [gated2_eq]; exact gated_apply T 2 5 2 rfl rfl t r),
    downStep_apply T c _ _ 1 t (fun r => by rw [gated1_eq]; exact gated_apply T 1 4 1 rfl rfl t r),
    downStep_apply T c _ _ 0 t (fun r => by rw [gated0_eq]; exact gated_apply T 0 3 0 rfl rfl t r), zero_apply]

/-- The token's share for the expert. -/
theorem w256_apply (t : Fin 64) : w256 T (ix2 t 0) = share (fun j => T.I (ix2 t j)) (fun j => T.Wt (ix2 t j)) T.e := by
  have e : ∀ j : Fin 8, l251 T (ix2 t j) = T.Wt (ix2 t j) := fun j => by
    show T.Wt _ = T.Wt _
    rw [emb2 _ _ _ (by omega) (by omega)]
    congr 2
    · exact Fin.ext (Nat.zero_add _)
    · exact Fin.ext (Nat.zero_add _)
  pointwise [w256, k0_pay7, w243, k0_pay5]
  simp only [e]
  rfl

/-- The blocks of the new accumulator. -/
theorem blk_apply (c : Fin 11) (t : Fin 64) (n : Fin 256) :
    blk T c.val (ix2 t n) = T.A (ix2 t ⟨256 * c.val + n.val, by omega⟩)
      + out (kept T t) (dB T) (dS T) ⟨256 * c.val + n.val, by omega⟩ * share (fun j => T.I (ix2 t j)) (fun j => T.Wt (ix2 t j)) T.e := by
  have e : blk T c.val = newBlk T (w256 T) (down T (w992 T) (w1728 T) (w2464 T) c) c := by
    fin_cases c
    exacts [new0_eq T, new1_eq T, new2_eq T, new3_eq T, new4_eq T, new5_eq T, new6_eq T, new7_eq T, new8_eq T, new9_eq T, new10_eq T]
  rw [e]
  have e2 : newBlk T (w256 T) (down T (w992 T) (w1728 T) (w2464 T) c) c (ix2 t n)
      = ac T c (ix2 t n) + down T (w992 T) (w1728 T) (w2464 T) c (ix2 t n) * w256 T (ix2 t 0) := by
    pointwise [newBlk]
  rw [e2, down_apply, w256_apply]
  congr 1
  show T.A _ = T.A _
  rw [emb2 _ _ _ (by omega) (by omega)]
  congr 2
  exact Fin.ext (Nat.zero_add _)

end Cert.Kernel.Moe

end
-- ==== Proof.Layer.lean ====
/-
  The kernel's result over the reals: the layer's sum over all experts.
-/
module

public import proofs.«01_k».proof.Proof.Value
public import proofs.«01_k».proof.Proof.Decode
public import proofs.«01_k».proof.Proof.Run
public import Idealize.ShloMosaic.Lib.Pipeline.ValueKit

@[expose] public section

set_option maxRecDepth 16384

noncomputable section

namespace Cert.Kernel.Moe

open Cert.Kernel Cert.Kernel.Gen Cert.Moe
open Idealize.ShloMosaic Idealize.ShloMosaic.TcCoe

/-- A token none of whose slots names the expert gives it nothing. -/
theorem share_eq_zero (I : Fin 8 → BitVec 32) (W : Fin 8 → EReal) (e : BitVec 32) (h : ∀ j, I j ≠ e) : share I W e = 0 := by
  refine Finset.sum_eq_zero fun j _ => ?_
  have c : IntOp.cmpi .eq (I j) e = 0#1 := by
    show BitVec.ofBool (I j == e) = 0#1
    rw [beq_eq_false_iff_ne.mpr (h j)]
    rfl
  rw [c]
  rfl

/-- A token the kernel takes for not routed to the expert has no slot that names it. -/
theorem not_routed (T : In Ideal) (t : Fin 64) (h : w250 T (ix2 t 0) ≠ 1#1) (j : Fin 8) : T.I (ix2 t j) ≠ T.e := by
  intro hj
  apply h
  pointwise [w250, k0_pay6, w243, k0_pay5]
  have nn : ∀ x : Fin 8, (0 : EReal) ≤ Scalar.select (IntOp.cmpi CmpIPredicate.eq (T.I (ix2 t x)) T.e) 1 0 := fun x => by
    unfold Scalar.select
    split
    · exact zero_le_one
    · exact le_refl _
  have p : (0 : EReal) < ∑ x : Fin 8, Scalar.select (IntOp.cmpi CmpIPredicate.eq (T.I (ix2 t x)) T.e) (1 : EReal) 0 := by
    refine lt_of_lt_of_le zero_lt_one (le_trans (le_of_eq ?_) (Finset.single_le_sum (fun x _ => nn x) (Finset.mem_univ j)))
    have c : IntOp.cmpi .eq (T.I (ix2 t j)) T.e = 1#1 := by
      show BitVec.ofBool (T.I (ix2 t j) == T.e) = 1#1
      rw [hj, beq_self_eq_true]
      rfl
    rw [c]
    rfl
  rw [decide_eq_true p]
  rfl

/-- The values of a token that is not routed to the expert do not matter. -/
theorem kept_share (T : In Ideal) (t : Fin 64) (n : Fin 2816) :
    out (kept T t) (dB T) (dS T) n * share (fun j => T.I (ix2 t j)) (fun j => T.Wt (ix2 t j)) T.e
      = out (hid (fun r => T.X (ix2 t r)) (gB T) (gS T)) (dB T) (dS T) n * share (fun j => T.I (ix2 t j)) (fun j => T.Wt (ix2 t j)) T.e := by
  by_cases h : w250 T (ix2 t 0) = 1#1
  · have e : kept T t = hid (fun r => T.X (ix2 t r)) (gB T) (gS T) := by
      funext r
      unfold kept
      rw [h]
      rfl
    rw [e]
  · rw [share_eq_zero _ _ _ (not_routed T t h), mul_zero, mul_zero]

/-- A turn at an element. -/
theorem accT_apply (T : In Ideal) (t : Fin 64) (n : Fin 2816) :
    accT T 11 (ix2 t n) = T.A (ix2 t n)
      + out (hid (fun r => T.X (ix2 t r)) (gB T) (gS T)) (dB T) (dS T) n * share (fun j => T.I (ix2 t j)) (fun j => T.Wt (ix2 t j)) T.e := by
  have hn : n.val < 256 * 11 := by omega
  have e : accT T 11 (ix2 t n) = blk T (⟨n.val / 256, by omega⟩ : Fin 11).val (ix2 t ⟨n.val % 256, Nat.mod_lt _ (by decide)⟩) := by
    refine (if_pos hn).trans ?_
    congr 1
    funext a
    match a with
    | 0 => rfl
    | 1 => rfl
  have en : (⟨256 * (n.val / 256) + n.val % 256, by omega⟩ : Fin 2816) = n := Fin.ext (Nat.div_add_mod _ _)
  rw [e, blk_apply, en, kept_share]

/-- The expert's slab of an array. -/
theorem pick9_apply (T : S32x1408x1536.Idx → Elt Ideal .i8) (e : Fin 32) (q : Fin 1408) (n : Fin 1536) : pick9 T e (ix2 q n) = T (ix3 e q n) := by
  have h : ∀ h : S1408x1536.numel = S1x1408x1536.numel, Shape.reshapeEquiv h (ix2 q n : S1408x1536.Idx) = (ix3 0 q n : S1x1408x1536.Idx) := fun h => by pointwise
  refine congrArg T ?_
  refine (congrArg (Rect.unit (s := S32x1408x1536) ![e.val, 0, 0] S1x1408x1536.size (inbs9 e)).emb (h _)).trans ?_
  funext a
  match a with
  | 0 => exact Fin.ext (show e.val + 1 * 0 = e.val by omega)
  | 1 => exact Fin.ext (show 0 + 1 * q.val = q.val by omega)
  | 2 => exact Fin.ext (show 0 + 1 * n.val = n.val by omega)

/-- The expert's slab of an array. -/
theorem pick10_apply (T : S32x22x1536.Idx → Elt Ideal .bf16) (e : Fin 32) (q : Fin 22) (n : Fin 1536) : pick10 T e (ix2 q n) = T (ix3 e q n) := by
  have h : ∀ h : S22x1536.numel = S1x22x1536.numel, Shape.reshapeEquiv h (ix2 q n : S22x1536.Idx) = (ix3 0 q n : S1x22x1536.Idx) := fun h => by pointwise
  refine congrArg T ?_
  refine (congrArg (Rect.unit (s := S32x22x1536) ![e.val, 0, 0] S1x22x1536.size (inbs10 e)).emb (h _)).trans ?_
  funext a
  match a with
  | 0 => exact Fin.ext (show e.val + 1 * 0 = e.val by omega)
  | 1 => exact Fin.ext (show 0 + 1 * q.val = q.val by omega)
  | 2 => exact Fin.ext (show 0 + 1 * n.val = n.val by omega)

/-- The expert's slab of an array. -/
theorem pick11_apply (T : S32x384x2816.Idx → Elt Ideal .i8) (e : Fin 32) (q : Fin 384) (n : Fin 2816) : pick11 T e (ix2 q n) = T (ix3 e q n) := by
  have h : ∀ h : S384x2816.numel = S1x384x2816.numel, Shape.reshapeEquiv h (ix2 q n : S384x2816.Idx) = (ix3 0 q n : S1x384x2816.Idx) := fun h => by pointwise
  refine congrArg T ?_
  refine (congrArg (Rect.unit (s := S32x384x2816) ![e.val, 0, 0] S1x384x2816.size (inbs11 e)).emb (h _)).trans ?_
  funext a
  match a with
  | 0 => exact Fin.ext (show e.val + 1 * 0 = e.val by omega)
  | 1 => exact Fin.ext (show 0 + 1 * q.val = q.val by omega)
  | 2 => exact Fin.ext (show 0 + 1 * n.val = n.val by omega)

/-- The expert's slab of an array. -/
theorem pick12_apply (T : S32x6x2816.Idx → Elt Ideal .bf16) (e : Fin 32) (q : Fin 6) (n : Fin 2816) : pick12 T e (ix2 q n) = T (ix3 e q n) := by
  have h : ∀ h : S6x2816.numel = S1x6x2816.numel, Shape.reshapeEquiv h (ix2 q n : S6x2816.Idx) = (ix3 0 q n : S1x6x2816.Idx) := fun h => by pointwise
  refine congrArg T ?_
  refine (congrArg (Rect.unit (s := S32x6x2816) ![e.val, 0, 0] S1x6x2816.size (inbs12 e)).emb (h _)).trans ?_
  funext a
  match a with
  | 0 => exact Fin.ext (show e.val + 1 * 0 = e.val by omega)
  | 1 => exact Fin.ext (show 0 + 1 * q.val = q.val by omega)
  | 2 => exact Fin.ext (show 0 + 1 * n.val = n.val by omega)

/-- What an expert adds to an element. -/
def term (W : Src Ideal) (I : S64x8.Idx → BitVec 32) (Wt : S64x8.Idx → EReal) (X : S64x2816.Idx → EReal) (t : Fin 64) (n : Fin 2816)
    (e : Fin 32) : EReal :=
  out (hid (fun r => X (ix2 t r)) (fun q k => W.G (ix3 e q k)) (fun s k => W.SG (ix3 e s k))) (fun q k => W.D (ix3 e q k))
    (fun s k => W.SD (ix3 e s k)) n * share (fun j => I (ix2 t j)) (fun j => Wt (ix2 t j)) (BitVec.ofNat 32 e.val)

/-- A turn adds its expert's term. -/
theorem turnOf_apply (W : Src Ideal) (I : S64x8.Idx → BitVec 32) (Wt : S64x8.Idx → EReal) (X : S64x2816.Idx → EReal) (A : S64x2816.Idx → EReal)
    (t : Fin 64) (n : Fin 2816) (e : Fin 32) :
    turnOf W I Wt X A (BitVec.ofNat 32 e.val) (ix2 t n) = A (ix2 t n) + term W I Wt X t n e := by
  have x : expertOf (BitVec.ofNat 32 e.val) = e := Fin.ext (by
    show (BitVec.ofNat 32 e.val).toNat % 32 = e.val
    rw [BitVec.toNat_ofNat]
    omega)
  have h1 : gB (inp W I Wt X (BitVec.ofNat 32 e.val) e A) = fun q k => W.G (ix3 e q k) := funext fun q => funext fun k => pick9_apply _ _ _ _
  have h2 : gS (inp W I Wt X (BitVec.ofNat 32 e.val) e A) = fun q k => W.SG (ix3 e q k) := funext fun q => funext fun k => pick10_apply _ _ _ _
  have h3 : dB (inp W I Wt X (BitVec.ofNat 32 e.val) e A) = fun q k => W.D (ix3 e q k) := funext fun q => funext fun k => pick11_apply _ _ _ _
  have h4 : dS (inp W I Wt X (BitVec.ofNat 32 e.val) e A) = fun q k => W.SD (ix3 e q k) := funext fun q => funext fun k => pick12_apply _ _ _ _
  unfold turnOf
  rw [x, accT_apply, h1, h2, h3, h4]
  rfl

/-- The turns of a list of experts add their terms. -/
theorem turns_apply (W : Src Ideal) (I : S64x8.Idx → BitVec 32) (Wt : S64x8.Idx → EReal) (X : S64x2816.Idx → EReal) (t : Fin 64) (n : Fin 2816) :
    ∀ (l : List (Fin 32)) (A : S64x2816.Idx → EReal),
      (l.map fun e => BitVec.ofNat 32 e.val).foldl (turnOf (F := Ideal) W I Wt X) A (ix2 t n) = A (ix2 t n) + (l.map (term W I Wt X t n)).sum
  | [], A => (add_zero _).symm
  | e :: l, A => by
    rw [List.map_cons, List.foldl_cons, turns_apply W I Wt X t n l, turnOf_apply, List.map_cons, List.sum_cons, add_assoc]

/-- What holds is decided so. -/
theorem yes (p : Prop) (d : Decidable p) (h : p) : @decide p d = true := @decide_eq_true p d h

open scoped Classical in
/-- All turns: the sum of all experts' terms. -/
theorem total_apply (W : Src Ideal) (I : S64x8.Idx → BitVec 32) (Wt : S64x8.Idx → EReal) (X : S64x2816.Idx → EReal) (t : Fin 64) (n : Fin 2816) :
    total (F := Ideal) W I Wt X (idsOf (F := Ideal) I) (ix2 t n) = ∑ e : Fin 32, term W I Wt X t n e := by
  have l : experts (idsOf (F := Ideal) I) = ((List.finRange 32).filter fun e => decide (∃ i < 512, (idsOf (F := Ideal) I i).toNat = e.val)).map Fin.val := by
    unfold experts
    rw [← List.map_coe_finRange_eq_range, List.filter_map]
    rfl
  have z : (k0_pay1 (k0_pay551 (F := Ideal))) (ix2 t n) = (0 : EReal) := by pointwise [k0_pay1, k0_pay551]
  unfold total
  rw [l, List.map_map]
  refine (turns_apply W I Wt X t n _ _).trans ?_
  rw [z, zero_add, ← List.sum_toFinset _ ((List.nodup_finRange 32).filter _), List.toFinset_filter, List.toFinset_finRange]
  refine Finset.sum_subset (Finset.filter_subset _ _) fun e _ he => ?_
  have no : ∀ j, I (ix2 t j) ≠ BitVec.ofNat 32 e.val := fun j hj => by
    refine he (Finset.mem_filter.mpr ⟨Finset.mem_univ e, ?_⟩)
    refine yes _ _ ⟨8 * t.val + j.val, by omega, ?_⟩
    have i : idsOf (F := Ideal) I (8 * t.val + j.val) = I (ix2 t j) := congrFun (idsOf_at (F := Ideal) I) (ix2 t j)
    rw [i, hj, BitVec.toNat_ofNat]
    omega
  unfold term
  rw [share_eq_zero _ _ _ no, mul_zero]

section
variable (m : (ℓ : Loc nD τ sig) → Buf (Elt Ideal) ℓ) (c : Dev nD)

/-- What the first operand's block holds: the ids. -/
theorem blk0_eq : (iblk m c 0 t0_0 : S64x8.Idx → BitVec 32) = V m c main_v0 := by
  funext i
  unfold iblk
  rw [View.read_apply, cast_eq]
  congr 1
  funext a
  match a with
  | 0 => exact Fin.ext (show 0 + 1 * (i 0).val = (i 0).val by omega)
  | 1 => exact Fin.ext (show 0 + 1 * (i 1).val = (i 1).val by omega)

/-- What the second operand's block holds: the ids. -/
theorem blk1_eq : (iblk m c 1 t0_0 : S64x8.Idx → BitVec 32) = V m c main_v0 := by
  funext i
  unfold iblk
  rw [View.read_apply, cast_eq]
  congr 1
  funext a
  match a with
  | 0 => exact Fin.ext (show 0 + 1 * (i 0).val = (i 0).val by omega)
  | 1 => exact Fin.ext (show 0 + 1 * (i 1).val = (i 1).val by omega)

/-- What the third operand's block holds: the slots' weights. -/
theorem blk2_eq : (iblk m c 2 t0_0 : S64x8.Idx → EReal) = V m c main_v1 := by
  funext i
  unfold iblk
  rw [View.read_apply, cast_eq]
  congr 1
  funext a
  match a with
  | 0 => exact Fin.ext (show 0 + 1 * (i 0).val = (i 0).val by omega)
  | 1 => exact Fin.ext (show 0 + 1 * (i 1).val = (i 1).val by omega)

/-- What the fourth operand's block holds: the tokens' rows. -/
theorem blk3_eq : (iblk m c 3 t0_0 : S64x2816.Idx → EReal) = V m c main_v2 := by
  funext i
  unfold iblk
  rw [View.read_apply, cast_eq]
  congr 1
  funext a
  match a with
  | 0 => exact Fin.ext (show 0 + 1 * (i 0).val = (i 0).val by omega)
  | 1 => exact Fin.ext (show 0 + 1 * (i 1).val = (i 1).val by omega)

/-- The kernel's result at a token and a column: the layer of the arguments. -/
theorem result_apply (t : Fin 64) (n : Fin 2816) :
    (result (F := Ideal) m c (ix2 t n) : EReal)
      = layer (fun r => m ((c.tc : Thread nD τ).loc main_arg0) (ix3 t 0 r)) (fun j => m ((c.tc : Thread nD τ).loc main_arg1) (ix3 t 0 j))
          (fun j => m ((c.tc : Thread nD τ).loc main_arg2) (ix3 t 0 j))
          (fun e q k => m ((c.tc : Thread nD τ).loc main_arg3) (ix3 e q k)) (fun e s k => m ((c.tc : Thread nD τ).loc main_arg4) (ix3 e s k))
          (fun e q k => m ((c.tc : Thread nD τ).loc main_arg5) (ix3 e q k)) (fun e s k => m ((c.tc : Thread nD τ).loc main_arg6) (ix3 e s k)) n := by
  have c0 : ∀ r : Fin 2816, (V m c main_v2 : S64x2816.Idx → EReal) (ix2 t r) = m ((c.tc : Thread nD τ).loc main_arg0) (ix3 t 0 r) := fun r => by
    rw [V_rows]
    pointwise
  have c1 : ∀ j : Fin 8, (V m c main_v0 : S64x8.Idx → BitVec 32) (ix2 t j) = m ((c.tc : Thread nD τ).loc main_arg1) (ix3 t 0 j) := fun j => by
    rw [V_ids]
    pointwise
  have c2 : ∀ j : Fin 8, (V m c main_v1 : S64x8.Idx → EReal) (ix2 t j) = m ((c.tc : Thread nD τ).loc main_arg2) (ix3 t 0 j) := fun j => by
    rw [V_weights]
    pointwise
  have p : ∀ z : S64x2816.Idx → EReal, (k0_pay4 (F := Ideal) z (ix2 t n) : EReal) = z (ix2 t n) := fun z => by pointwise [k0_pay4]
  unfold result
  refine (p _).trans ?_
  rw [blk0_eq, blk1_eq, blk2_eq, blk3_eq]
  refine (total_apply _ _ _ _ t n).trans ?_
  rw [layer]
  refine Finset.sum_congr rfl fun e _ => ?_
  unfold term srcs
  simp only [c0, c1, c2]
  rw [V_main_arg3, V_main_arg4, V_main_arg5, V_main_arg6]

/-- The array the kernel writes ends as its result. -/
theorem array_eq : (dats m 0 c).arrAt 4 (cfgs 0).N = result m c := by
  refine (dats m 0 c).arrAt_eq_of_after_last 4 t0_0 (by decide +kernel) _ fun j => ?_
  blk_simp
  rfl

/-- Operands that share an array are read only. -/
theorem shared : Pipeline.SharedIn (cfgs 0).spec := by decide

/-- The program's result array. -/
theorem v4_eq : Pipeline.afterTail₀ cfgs (dats m) 0 (V0 m) [hostOps1] c main_v4 = shapeCast S64x1x2816 (result m c) shapeCasts_S64x2816_S64x1x2816 := by
  have e : Pipeline.withArrays (cfgs 0).spec c (V0 m c) (fun w => (dats m 0 c).arrAt w (cfgs 0).N) (Proc.tc.devRef main_v3) = result m c :=
    (Pipeline.withArrays_arr_shared (cfgs 0).spec c (V0 m c) (fun w => (dats m 0 c).arrAt w (cfgs 0).N)
      ((dats m 0 c).arrAt_sharedIn shared (V0 m c) (fun _ => rfl) _) 4).trans (array_eq m c)
  unfold Pipeline.afterTail₀
  simp only [hostOps1, List.flatten_cons, List.flatten_nil, List.append_nil]
  after_results_simp
  rw [e]
  rfl

/-- The program's result at a token and a column. -/
theorem v4_apply (t : Fin 64) (n : Fin 2816) :
    (shapeCast S64x1x2816 (result (F := Ideal) m c) shapeCasts_S64x2816_S64x1x2816 (ix3 t 0 n) : EReal) = result m c (ix2 t n) := by
  pointwise

/-- The program runs to its result and leaves its arguments. -/
theorem run_value (ρ : Dev nD → PrngReg) (hid : ∀ c i, ((iblk m c 0 t0_0 : S64x8.Idx → BitVec 32) i).toNat < 32) :
    θ_run defs (onTc (τ := τ) (main (F := Ideal))) ⟨m, fun _ => 0, ρ⟩ (fun r => ∀ c : Dev nD,
      r.2.mem ((c.tc : Thread nD τ).loc main_v4) = shapeCast S64x1x2816 (result m c) shapeCasts_S64x2816_S64x1x2816
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h.1 c).2 main_v4 (Pipeline.mem_restRefs_of main_v4 (by decide) (by decide))).trans (v4_eq m c),
      ((h.1 c).2 main_arg0 (Pipeline.mem_restRefs_of main_arg0 (by decide) (by decide))).trans ((tail_keeps m c main_arg0 (by decide) (by decide)).trans (V_main_arg0 m c)),
      ((h.1 c).2 main_arg1 (Pipeline.mem_restRefs_of main_arg1 (by decide) (by decide))).trans ((tail_keeps m c main_arg1 (by decide) (by decide)).trans (V_main_arg1 m c)),
      ((h.1 c).2 main_arg2 (Pipeline.mem_restRefs_of main_arg2 (by decide) (by decide))).trans ((tail_keeps m c main_arg2 (by decide) (by decide)).trans (V_main_arg2 m c)),
      ((h.1 c).2 main_arg3 (Pipeline.mem_restRefs_of main_arg3 (by decide) (by decide))).trans ((tail_keeps m c main_arg3 (by decide) (by decide)).trans (V_main_arg3 m c)),
      ((h.1 c).2 main_arg4 (Pipeline.mem_restRefs_of main_arg4 (by decide) (by decide))).trans ((tail_keeps m c main_arg4 (by decide) (by decide)).trans (V_main_arg4 m c)),
      ((h.1 c).2 main_arg5 (Pipeline.mem_restRefs_of main_arg5 (by decide) (by decide))).trans ((tail_keeps m c main_arg5 (by decide) (by decide)).trans (V_main_arg5 m c)),
      ((h.1 c).2 main_arg6 (Pipeline.mem_restRefs_of main_arg6 (by decide) (by decide))).trans ((tail_keeps m c main_arg6 (by decide) (by decide)).trans (V_main_arg6 m c))⟩) (run_main m ρ hid)

end

end Cert.Kernel.Moe

end
-- ==== Proof.Reference.lean ====
/-
  The reference's result, element by element: the layer's sum.
-/
module

public import proofs.«01_k».proof.Proof.Gen.ReferenceIdeal.Run
public import proofs.«01_k».proof.Proof.Math

@[expose] public section

set_option maxRecDepth 16384

noncomputable section

namespace Cert.ReferenceIdeal.Moe

open Cert.ReferenceIdeal Cert.ReferenceIdeal.Gen Cert.Moe
open Idealize.ShloMosaic Idealize.ShloMosaic.TcCoe

/-- The rows of every gate and up matrix that the low nibbles hold. -/
def guLow (P : IVec S32x1408x1536 8) (S : FVec Ideal S32x22x1536 .bf16) : FVec Ideal S32x1408x1536 .bf16 :=
  mulf (sitofp .bf16 (select (cmpi .sge (andi (extui 32 P natLt_8_32) (broadcastInDim S32x1408x1536 ![] bcast_S_S32x1408x1536 (constantI S_ 32 15#32))) (broadcastInDim S32x1408x1536 ![] bcast_S_S32x1408x1536 (constantI S_ 32 8#32))) (subi (andi (extui 32 P natLt_8_32) (broadcastInDim S32x1408x1536 ![] bcast_S_S32x1408x1536 (constantI S_ 32 15#32))) (broadcastInDim S32x1408x1536 ![] bcast_S_S32x1408x1536 (constantI S_ 32 16#32))) (andi (extui 32 P natLt_8_32) (broadcastInDim S32x1408x1536 ![] bcast_S_S32x1408x1536 (constantI S_ 32 15#32))))) (shapeCast _ (broadcastInDim S32x22x64x1536 ![0, 1, 3] bcast_S32x22x1536_S32x22x64x1536_0_1_3 S) shapeCasts_S32x22x64x1536_S32x1408x1536)

/-- The rows the high nibbles hold. -/
def guHigh (P : IVec S32x1408x1536 8) (S : FVec Ideal S32x22x1536 .bf16) : FVec Ideal S32x1408x1536 .bf16 :=
  mulf (sitofp .bf16 (select (cmpi .sge (andi (Host.shrsi (extui 32 P natLt_8_32) (broadcastInDim S32x1408x1536 ![] bcast_S_S32x1408x1536 (constantI S_ 32 4#32))) (broadcastInDim S32x1408x1536 ![] bcast_S_S32x1408x1536 (constantI S_ 32 15#32))) (broadcastInDim S32x1408x1536 ![] bcast_S_S32x1408x1536 (constantI S_ 32 8#32))) (subi (andi (Host.shrsi (extui 32 P natLt_8_32) (broadcastInDim S32x1408x1536 ![] bcast_S_S32x1408x1536 (constantI S_ 32 4#32))) (broadcastInDim S32x1408x1536 ![] bcast_S_S32x1408x1536 (constantI S_ 32 15#32))) (broadcastInDim S32x1408x1536 ![] bcast_S_S32x1408x1536 (constantI S_ 32 16#32))) (andi (Host.shrsi (extui 32 P natLt_8_32) (broadcastInDim S32x1408x1536 ![] bcast_S_S32x1408x1536 (constantI S_ 32 4#32))) (broadcastInDim S32x1408x1536 ![] bcast_S_S32x1408x1536 (constantI S_ 32 15#32))))) (shapeCast _ (broadcastInDim S32x22x64x1536 ![0, 1, 3] bcast_S32x22x1536_S32x22x64x1536_0_1_3 S) shapeCasts_S32x22x64x1536_S32x1408x1536)

/-- The rows of every down matrix that the low nibbles hold. -/
def dnLow (P : IVec S32x384x2816 8) (S : FVec Ideal S32x6x2816 .bf16) : FVec Ideal S32x384x2816 .bf16 :=
  mulf (sitofp .bf16 (select (cmpi .sge (andi (extui 32 P natLt_8_32) (broadcastInDim S32x384x2816 ![] bcast_S_S32x384x2816 (constantI S_ 32 15#32))) (broadcastInDim S32x384x2816 ![] bcast_S_S32x384x2816 (constantI S_ 32 8#32))) (subi (andi (extui 32 P natLt_8_32) (broadcastInDim S32x384x2816 ![] bcast_S_S32x384x2816 (constantI S_ 32 15#32))) (broadcastInDim S32x384x2816 ![] bcast_S_S32x384x2816 (constantI S_ 32 16#32))) (andi (extui 32 P natLt_8_32) (broadcastInDim S32x384x2816 ![] bcast_S_S32x384x2816 (constantI S_ 32 15#32))))) (shapeCast _ (broadcastInDim S32x6x64x2816 ![0, 1, 3] bcast_S32x6x2816_S32x6x64x2816_0_1_3 S) shapeCasts_S32x6x64x2816_S32x384x2816)

/-- The rows the high nibbles hold. -/
def dnHigh (P : IVec S32x384x2816 8) (S : FVec Ideal S32x6x2816 .bf16) : FVec Ideal S32x384x2816 .bf16 :=
  mulf (sitofp .bf16 (select (cmpi .sge (andi (Host.shrsi (extui 32 P natLt_8_32) (broadcastInDim S32x384x2816 ![] bcast_S_S32x384x2816 (constantI S_ 32 4#32))) (broadcastInDim S32x384x2816 ![] bcast_S_S32x384x2816 (constantI S_ 32 15#32))) (broadcastInDim S32x384x2816 ![] bcast_S_S32x384x2816 (constantI S_ 32 8#32))) (subi (andi (Host.shrsi (extui 32 P natLt_8_32) (broadcastInDim S32x384x2816 ![] bcast_S_S32x384x2816 (constantI S_ 32 4#32))) (broadcastInDim S32x384x2816 ![] bcast_S_S32x384x2816 (constantI S_ 32 15#32))) (broadcastInDim S32x384x2816 ![] bcast_S_S32x384x2816 (constantI S_ 32 16#32))) (andi (Host.shrsi (extui 32 P natLt_8_32) (broadcastInDim S32x384x2816 ![] bcast_S_S32x384x2816 (constantI S_ 32 4#32))) (broadcastInDim S32x384x2816 ![] bcast_S_S32x384x2816 (constantI S_ 32 15#32))))) (shapeCast _ (broadcastInDim S32x6x64x2816 ![0, 1, 3] bcast_S32x6x2816_S32x6x64x2816_0_1_3 S) shapeCasts_S32x6x64x2816_S32x384x2816)

/-- Every expert's gate and up values of every token. -/
def gus (X : FVec Ideal S64x1x2816 .bf16) (P : IVec S32x1408x1536 8) (S : FVec Ideal S32x22x1536 .bf16) : FVec Ideal S32x64x1536 .f32 :=
  addf (transpose S32x64x1536 [0, 2, 1] (Host.dotGeneral dot_S32x1408x1536_S64x1408_S32x1536x64_1_1_02_0_n_n none (guLow P S) (shapeCast _ (extractStridedSlice S64x1408x1 ![0, 0, 0] (shapeCast _ (shapeCast _ X shapeCasts_S64x1x2816_S64x2816) shapeCasts_S64x2816_S64x1408x2) slices_S64x1408x2_S64x1408x1_0_0_0) shapeCasts_S64x1408x1_S64x1408)) transposes_S32x1536x64_S32x64x1536_0_2_1) (transpose S32x64x1536 [0, 2, 1] (Host.dotGeneral dot_S32x1408x1536_S64x1408_S32x1536x64_1_1_02_0_n_n none (guHigh P S) (shapeCast _ (extractStridedSlice S64x1408x1 ![0, 0, 1] (shapeCast _ (shapeCast _ X shapeCasts_S64x1x2816_S64x2816) shapeCasts_S64x2816_S64x1408x2) slices_S64x1408x2_S64x1408x1_0_0_1) shapeCasts_S64x1408x1_S64x1408)) transposes_S32x1536x64_S32x64x1536_0_2_1)

/-- The gated values. -/
def hids (g : FVec Ideal S32x64x1536 .f32) : FVec Ideal S32x64x768 .bf16 :=
  truncf .bf16 (mulf (mulf (extractStridedSlice S32x64x768 ![0, 0, 0] g slices_S32x64x1536_S32x64x768_0_0_0) (Host.divf (broadcastInDim S32x64x768 ![] bcast_S_S32x64x768 (constant S_ .f32 0x3F800000#32)) (addf (broadcastInDim S32x64x768 ![] bcast_S_S32x64x768 (constant S_ .f32 0x3F800000#32)) (Host.exp (Host.negf (extractStridedSlice S32x64x768 ![0, 0, 0] g slices_S32x64x1536_S32x64x768_0_0_0)))))) (extractStridedSlice S32x64x768 ![0, 0, 768] g slices_S32x64x1536_S32x64x768_0_0_768)) bitsLt_bf16_f32

/-- What every token gives every expert. -/
def gates (I : IVec S64x1x8 32) (W : FVec Ideal S64x1x8 .f32) : FVec Ideal S64x32 .f32 :=
  Host.reduceAdd (select (cmpi .eq (broadcastInDim S64x8x32 ![0, 1, 2] bcast_S64x8x1_S64x8x32_0_1_2 (broadcastInDim S64x8x1 ![0, 1] bcast_S64x8_S64x8x1_0_1 (shapeCast _ I shapeCasts_S64x1x8_S64x8))) (broadcastInDim S64x8x32 ![0, 1, 2] bcast_S1x1x32_S64x8x32_0_1_2 (broadcastInDim S1x1x32 ![2] bcast_S32_S1x1x32_2 (iotaInDim S32 32 0)))) (broadcastInDim S64x8x32 ![0, 1, 2] bcast_S64x8x1_S64x8x32_0_1_2 (broadcastInDim S64x8x1 ![0, 1] bcast_S64x8_S64x8x1_0_1 (shapeCast _ W shapeCasts_S64x1x8_S64x8))) (broadcastInDim S64x8x32 ![] bcast_S_S64x8x32 (id (constant S_ .f32 0x00000000#32)))) (constant S_ .f32 0x00000000#32) reducesTo_S64x8x32_S64x32_d1 h_S_

/-- Every expert's output for every token. -/
def outs (h : FVec Ideal S32x64x768 .bf16) (P : IVec S32x384x2816 8) (S : FVec Ideal S32x6x2816 .bf16) : FVec Ideal S32x64x2816 .f32 :=
  addf (Host.dotGeneral dot_S32x64x384_S32x384x2816_S32x64x2816_2_1_1_2_0_0 none (shapeCast _ (extractStridedSlice S32x64x384x1 ![0, 0, 0, 0] (shapeCast S32x64x384x2 h shapeCasts_S32x64x768_S32x64x384x2) slices_S32x64x384x2_S32x64x384x1_0_0_0_0) shapeCasts_S32x64x384x1_S32x64x384) (dnLow P S)) (Host.dotGeneral dot_S32x64x384_S32x384x2816_S32x64x2816_2_1_1_2_0_0 none (shapeCast _ (extractStridedSlice S32x64x384x1 ![0, 0, 0, 1] (shapeCast S32x64x384x2 h shapeCasts_S32x64x768_S32x64x384x2) slices_S32x64x384x2_S32x64x384x1_0_0_0_1) shapeCasts_S32x64x384x1_S32x64x384) (dnHigh P S))

/-- The layer of the outputs. -/
def sums (y : FVec Ideal S32x64x2816 .f32) (g : FVec Ideal S64x32 .f32) : FVec Ideal S64x1x2816 .bf16 :=
  truncf .bf16 (shapeCast _ (Host.reduceAdd (mulf y (broadcastInDim S32x64x2816 ![0, 1, 2] bcast_S32x64x1_S32x64x2816_0_1_2 (broadcastInDim S32x64x1 ![0, 1] bcast_S32x64_S32x64x1_0_1 (transpose S32x64 [1, 0] g transposes_S64x32_S32x64_1_0)))) (constant S_ .f32 0x00000000#32) reducesTo_S32x64x2816_S64x2816_d0 h_S_) shapeCasts_S64x2816_S64x1x2816) bitsLt_bf16_f32

/-- The program's result, stage by stage. -/
theorem result_eq (m : (ℓ : Loc nD τ sig) → Buf (Elt Ideal) ℓ) (c : Dev nD) :
    Value.res_main_v87 (F := Ideal) m c
      = sums (outs (hids (gus (m ((c.tc : Thread nD τ).loc main_arg0)) (m ((c.tc : Thread nD τ).loc main_arg3)) (m ((c.tc : Thread nD τ).loc main_arg4)))) (m ((c.tc : Thread nD τ).loc main_arg5)) (m ((c.tc : Thread nD τ).loc main_arg6)))
          (gates (m ((c.tc : Thread nD τ).loc main_arg1)) (m ((c.tc : Thread nD τ).loc main_arg2))) := rfl

/-- A row the low nibbles hold. -/
theorem guLow_apply (P : IVec S32x1408x1536 8) (S : FVec Ideal S32x22x1536 .bf16) (e : Fin 32) (q : Fin 1408) (n : Fin 1536) :
    guLow P S (ix3 e q n) = FloatOps.sitofp (F := Ideal) .bf16 (lo (P (ix3 e q n))) * S (ix3 e ⟨q.val / 64, by omega⟩ n) := by
  pointwise [guLow]
  rw [lo_eq]

/-- A row the high nibbles hold. -/
theorem guHigh_apply (P : IVec S32x1408x1536 8) (S : FVec Ideal S32x22x1536 .bf16) (e : Fin 32) (q : Fin 1408) (n : Fin 1536) :
    guHigh P S (ix3 e q n) = FloatOps.sitofp (F := Ideal) .bf16 (hi (P (ix3 e q n))) * S (ix3 e ⟨q.val / 64, by omega⟩ n) := by
  pointwise [guHigh]
  rw [hi_eq]

/-- A row the low nibbles hold. -/
theorem dnLow_apply (P : IVec S32x384x2816 8) (S : FVec Ideal S32x6x2816 .bf16) (e : Fin 32) (q : Fin 384) (n : Fin 2816) :
    dnLow P S (ix3 e q n) = FloatOps.sitofp (F := Ideal) .bf16 (lo (P (ix3 e q n))) * S (ix3 e ⟨q.val / 64, by omega⟩ n) := by
  pointwise [dnLow]
  rw [lo_eq]

/-- A row the high nibbles hold. -/
theorem dnHigh_apply (P : IVec S32x384x2816 8) (S : FVec Ideal S32x6x2816 .bf16) (e : Fin 32) (q : Fin 384) (n : Fin 2816) :
    dnHigh P S (ix3 e q n) = FloatOps.sitofp (F := Ideal) .bf16 (hi (P (ix3 e q n))) * S (ix3 e ⟨q.val / 64, by omega⟩ n) := by
  pointwise [dnHigh]
  rw [hi_eq]

/-- A token's gate and up values. -/
theorem gus_apply (X : FVec Ideal S64x1x2816 .bf16) (P : IVec S32x1408x1536 8) (S : FVec Ideal S32x22x1536 .bf16) (e : Fin 32) (t : Fin 64) (n : Fin 1536) :
    gus X P S (ix3 e t n) = gu (fun r => X (ix3 t 0 r)) (fun q k => P (ix3 e q k)) (fun s k => S (ix3 e s k)) n := by
  rw [gu_pairs]
  pointwise [gus]
  simp only [guLow_apply, guHigh_apply, Nat.mul_comm _ 2]
  exact congrArg₂ (· + ·) (Finset.sum_congr rfl fun q _ => mul_comm _ _) (Finset.sum_congr rfl fun q _ => mul_comm _ _)

/-- A token's gated values. -/
theorem hids_apply (X : FVec Ideal S64x1x2816 .bf16) (P : IVec S32x1408x1536 8) (S : FVec Ideal S32x22x1536 .bf16) (e : Fin 32) (t : Fin 64) (n : Fin 768) :
    hids (gus X P S) (ix3 e t n) = hid (fun r => X (ix3 t 0 r)) (fun q k => P (ix3 e q k)) (fun s k => S (ix3 e s k)) n := by
  pointwise [hids]
  rw [gus_apply, gus_apply]
  rfl

/-- A token's share for an expert. -/
theorem gates_apply (I : IVec S64x1x8 32) (W : FVec Ideal S64x1x8 .f32) (e : Fin 32) (t : Fin 64) :
    gates I W (ix2 t e) = share (fun j => I (ix3 t 0 j)) (fun j => W (ix3 t 0 j)) (BitVec.ofNat 32 e.val) := by
  have z : id (constant (F := Ideal) S_ .f32 0x00000000#32) ix0 = (0 : EReal) := Ideal.ofBits_zero_f32
  pointwise [gates]
  rw [z]
  rfl

/-- An expert's output for a token. -/
theorem outs_apply (h : FVec Ideal S32x64x768 .bf16) (P : IVec S32x384x2816 8) (S : FVec Ideal S32x6x2816 .bf16) (e : Fin 32) (t : Fin 64) (n : Fin 2816) :
    outs h P S (ix3 e t n) = out (fun r => h (ix3 e t r)) (fun q k => P (ix3 e q k)) (fun s k => S (ix3 e s k)) n := by
  rw [out_pairs]
  pointwise [outs]
  simp only [dnLow_apply, dnHigh_apply, Nat.mul_comm _ 2]

/-- The sum over the experts. -/
theorem sums_apply (y : FVec Ideal S32x64x2816 .f32) (g : FVec Ideal S64x32 .f32) (t : Fin 64) (n : Fin 2816) :
    sums y g (ix3 t 0 n) = ∑ e : Fin 32, y (ix3 e t n) * g (ix2 t e) := by
  pointwise [sums]

/-- The reference's result at a token and a column: the layer of the arguments. -/
theorem result_apply (m : (ℓ : Loc nD τ sig) → Buf (Elt Ideal) ℓ) (c : Dev nD) (t : Fin 64) (n : Fin 2816) :
    (Value.res_main_v87 (F := Ideal) m c (ix3 t 0 n) : EReal)
      = layer (fun r => m ((c.tc : Thread nD τ).loc main_arg0) (ix3 t 0 r)) (fun j => m ((c.tc : Thread nD τ).loc main_arg1) (ix3 t 0 j))
          (fun j => m ((c.tc : Thread nD τ).loc main_arg2) (ix3 t 0 j))
          (fun e q k => m ((c.tc : Thread nD τ).loc main_arg3) (ix3 e q k)) (fun e s k => m ((c.tc : Thread nD τ).loc main_arg4) (ix3 e s k))
          (fun e q k => m ((c.tc : Thread nD τ).loc main_arg5) (ix3 e q k)) (fun e s k => m ((c.tc : Thread nD τ).loc main_arg6) (ix3 e s k)) n := by
  refine (congrFun (result_eq m c) (ix3 t 0 n)).trans ((sums_apply _ _ t n).trans ?_)
  rw [layer]
  refine Finset.sum_congr rfl fun e _ => ?_
  rw [outs_apply, gates_apply]
  congr 2
  funext r
  exact hids_apply _ _ _ e t r

end Cert.ReferenceIdeal.Moe

end
-- ==== Proof.lean ====
module

public import proofs.«01_k».proof.Defs
public import proofs.«01_k».proof.Proof.Decode
public import proofs.«01_k».proof.Proof.Same
public import proofs.«01_k».proof.Proof.Layer
public import proofs.«01_k».proof.Proof.Reference
public import proofs.«01_k».proof.Proof.Gen.ReferenceIdeal.Run
public import proofs.«01_k».proof.Proof.Gen.Pre_ids_in_range
public import Idealize.ShloMosaic.Adequacy
public import Idealize.ShloMosaic.Init

@[expose] public section

noncomputable section

namespace Cert.Proof

open Idealize.ShloMosaic Idealize.ShloMosaic.TcCoe Idealize.SL.Sem

/-- The printed kernel runs, leaves its arguments and ends with every semaphore at zero. -/
theorem frame_kernel : Cert.quiescent_Kernel := fun m g h =>
  Cert.Kernel.Moe.run_frame m g (Cert.Kernel.Moe.ids_lt m fun c y => Cert.Kernel.Moe.id_lt (h c) y)

/-- So does the idealized kernel. -/
theorem frame_ideal : Cert.quiescent_KernelIdeal := fun m g h =>
  Cert.Moe.run_same (Cert.Kernel.Moe.run_frame (F := Ideal) m g
    (Cert.Kernel.Moe.ids_lt m fun c y => Cert.Kernel.Moe.id_lt (h c) y))

/-- So does the reference, which has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every index of a result names a token and a column. -/
theorem idx_eq (i : (⟨3, ![64, 1, 2816]⟩ : Shape).Idx) : ∃ (t : Fin 64) (n : Fin 2816), i = ix3 t 0 n :=
  ⟨i 0, i 2, (eq_ix3 i).trans (congrArg (fun z => ix3 (i 0) z (i 2)) (Subsingleton.elim (α := Fin 1) _ _))⟩

/-- From the same arguments the two programs' results are one array over the reals: both are the layer of the arguments. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v87 (F := Ideal) m' c
      = shapeCast Cert.Kernel.S64x1x2816 (Cert.Kernel.Moe.result (F := Ideal) m c) Cert.Kernel.Gen.shapeCasts_S64x2816_S64x1x2816 := by
  obtain ⟨h0, h1, h2, h3, h4, h5, h6⟩ := h
  funext i
  obtain ⟨t, n, rfl⟩ := idx_eq i
  refine (Cert.ReferenceIdeal.Moe.result_apply m' c t n).trans ?_
  rw [h0, h1, h2, h3, h4, h5, h6]
  exact ((Cert.Kernel.Moe.v4_apply m c t n).trans (Cert.Kernel.Moe.result_apply m c t n)).symm

/-- Over the reals the kernel computes what the reference computes. -/
theorem value : Cert.algebraic_KernelIdeal_ReferenceIdeal := fun m g m' g' h hm =>
  ⟨fun c => shapeCast Cert.Kernel.S64x1x2816 (Cert.Kernel.Moe.result (F := Ideal) m c) Cert.Kernel.Gen.shapeCasts_S64x2816_S64x1x2816,
    Cert.Moe.run_same (Cert.Kernel.Moe.run_value m g (Cert.Kernel.Moe.ids_lt m fun c y => Cert.Kernel.Moe.id_lt (h c) y)),
    (θ_run Cert.ReferenceIdeal.defs _ _).mono (fun _ hr c => ⟨(hr c).1.trans (results_eq m m' c (hm c)), (hr c).2⟩)
      (Cert.ReferenceIdeal.Value.run (F := Ideal) m' g')⟩

/-- The whole claim. -/
theorem claim : Cert.Claim :=
  ⟨Cert.Kernel.Gen.facts, Cert.KernelIdeal.Gen.facts, Cert.ReferenceIdeal.Gen.facts, Cert.Pre_ids_in_range.Gen.facts,
    frame_kernel, frame_ideal, frame_reference,
    fun m g _ => frame_reference m g trivial, trivial, value⟩

end Cert.Proof

end
